-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_FwdGu (m : (ℓ : Loc Cert.FwdGu.nD Cert.FwdGu.τ Cert.FwdGu.sig) → Buf (Elt Bits) ℓ) : Prop :=
  True

def Pre_FwdGuIdeal (m : (ℓ : Loc Cert.FwdGuIdeal.nD Cert.FwdGuIdeal.τ Cert.FwdGuIdeal.sig) → Buf (Elt Ideal) ℓ) : Prop :=
  True

def Pre_FwdGuRefIdeal (m : (ℓ : Loc Cert.FwdGuRefIdeal.nD Cert.FwdGuRefIdeal.τ Cert.FwdGuRefIdeal.sig) → Buf (Elt Ideal) ℓ) : Prop :=
  True

def Pre_FwdGlu (m : (ℓ : Loc Cert.FwdGlu.nD Cert.FwdGlu.τ Cert.FwdGlu.sig) → Buf (Elt Bits) ℓ) : Prop :=
  True

def Pre_FwdGluIdeal (m : (ℓ : Loc Cert.FwdGluIdeal.nD Cert.FwdGluIdeal.τ Cert.FwdGluIdeal.sig) → Buf (Elt Ideal) ℓ) : Prop :=
  True

def Pre_FwdGluRefIdeal (m : (ℓ : Loc Cert.FwdGluRefIdeal.nD Cert.FwdGluRefIdeal.τ Cert.FwdGluRefIdeal.sig) → Buf (Elt Ideal) ℓ) : Prop :=
  True

def Pre_FwdOut (m : (ℓ : Loc Cert.FwdOut.nD Cert.FwdOut.τ Cert.FwdOut.sig) → Buf (Elt Bits) ℓ) : Prop :=
  True

def Pre_FwdOutIdeal (m : (ℓ : Loc Cert.FwdOutIdeal.nD Cert.FwdOutIdeal.τ Cert.FwdOutIdeal.sig) → Buf (Elt Ideal) ℓ) : Prop :=
  True

def Pre_FwdOutRefIdeal (m : (ℓ : Loc Cert.FwdOutRefIdeal.nD Cert.FwdOutRefIdeal.τ Cert.FwdOutRefIdeal.sig) → Buf (Elt Ideal) ℓ) : Prop :=
  True

def Pre_FwdDown (m : (ℓ : Loc Cert.FwdDown.nD Cert.FwdDown.τ Cert.FwdDown.sig) → Buf (Elt Bits) ℓ) : Prop :=
  True

def Pre_FwdDownIdeal (m : (ℓ : Loc Cert.FwdDownIdeal.nD Cert.FwdDownIdeal.τ Cert.FwdDownIdeal.sig) → Buf (Elt Ideal) ℓ) : Prop :=
  True

def Pre_FwdDownRefIdeal (m : (ℓ : Loc Cert.FwdDownRefIdeal.nD Cert.FwdDownRefIdeal.τ Cert.FwdDownRefIdeal.sig) → Buf (Elt Ideal) ℓ) : Prop :=
  True

def Pre_BwdInX (m : (ℓ : Loc Cert.BwdInX.nD Cert.BwdInX.τ Cert.BwdInX.sig) → Buf (Elt Bits) ℓ) : Prop :=
  True

def Pre_BwdInXIdeal (m : (ℓ : Loc Cert.BwdInXIdeal.nD Cert.BwdInXIdeal.τ Cert.BwdInXIdeal.sig) → Buf (Elt Ideal) ℓ) : Prop :=
  True

def Pre_BwdInXRefIdeal (m : (ℓ : Loc Cert.BwdInXRefIdeal.nD Cert.BwdInXRefIdeal.τ Cert.BwdInXRefIdeal.sig) → Buf (Elt Ideal) ℓ) : Prop :=
  True

def Pre_BwdGuX (m : (ℓ : Loc Cert.BwdGuX.nD Cert.BwdGuX.τ Cert.BwdGuX.sig) → Buf (Elt Bits) ℓ) : Prop :=
  True

def Pre_BwdGuXIdeal (m : (ℓ : Loc Cert.BwdGuXIdeal.nD Cert.BwdGuXIdeal.τ Cert.BwdGuXIdeal.sig) → Buf (Elt Ideal) ℓ) : Prop :=
  True

def Pre_BwdGuXRefIdeal (m : (ℓ : Loc Cert.BwdGuXRefIdeal.nD Cert.BwdGuXRefIdeal.τ Cert.BwdGuXRefIdeal.sig) → Buf (Elt Ideal) ℓ) : Prop :=
  True

def Pre_BwdGluX (m : (ℓ : Loc Cert.BwdGluX.nD Cert.BwdGluX.τ Cert.BwdGluX.sig) → Buf (Elt Bits) ℓ) : Prop :=
  True

def Pre_BwdGluXIdeal (m : (ℓ : Loc Cert.BwdGluXIdeal.nD Cert.BwdGluXIdeal.τ Cert.BwdGluXIdeal.sig) → Buf (Elt Ideal) ℓ) : Prop :=
  True

def Pre_BwdGluXRefIdeal (m : (ℓ : Loc Cert.BwdGluXRefIdeal.nD Cert.BwdGluXRefIdeal.τ Cert.BwdGluXRefIdeal.sig) → Buf (Elt Ideal) ℓ) : Prop :=
  True

def Pre_BwdOutX (m : (ℓ : Loc Cert.BwdOutX.nD Cert.BwdOutX.τ Cert.BwdOutX.sig) → Buf (Elt Bits) ℓ) : Prop :=
  True

def Pre_BwdOutXIdeal (m : (ℓ : Loc Cert.BwdOutXIdeal.nD Cert.BwdOutXIdeal.τ Cert.BwdOutXIdeal.sig) → Buf (Elt Ideal) ℓ) : Prop :=
  True

def Pre_BwdOutXRefIdeal (m : (ℓ : Loc Cert.BwdOutXRefIdeal.nD Cert.BwdOutXRefIdeal.τ Cert.BwdOutXRefIdeal.sig) → Buf (Elt Ideal) ℓ) : Prop :=
  True

def Pre_BwdDownX (m : (ℓ : Loc Cert.BwdDownX.nD Cert.BwdDownX.τ Cert.BwdDownX.sig) → Buf (Elt Bits) ℓ) : Prop :=
  True

def Pre_BwdDownXIdeal (m : (ℓ : Loc Cert.BwdDownXIdeal.nD Cert.BwdDownXIdeal.τ Cert.BwdDownXIdeal.sig) → Buf (Elt Ideal) ℓ) : Prop :=
  True

def Pre_BwdDownXRefIdeal (m : (ℓ : Loc Cert.BwdDownXRefIdeal.nD Cert.BwdDownXRefIdeal.τ Cert.BwdDownXRefIdeal.sig) → Buf (Elt Ideal) ℓ) : Prop :=
  True

def Pre_BwdInW (m : (ℓ : Loc Cert.BwdInW.nD Cert.BwdInW.τ Cert.BwdInW.sig) → Buf (Elt Bits) ℓ) : Prop :=
  True

def Pre_BwdInWIdeal (m : (ℓ : Loc Cert.BwdInWIdeal.nD Cert.BwdInWIdeal.τ Cert.BwdInWIdeal.sig) → Buf (Elt Ideal) ℓ) : Prop :=
  True

def Pre_BwdInWRefIdeal (m : (ℓ : Loc Cert.BwdInWRefIdeal.nD Cert.BwdInWRefIdeal.τ Cert.BwdInWRefIdeal.sig) → Buf (Elt Ideal) ℓ) : Prop :=
  True

def Pre_BwdGuW (m : (ℓ : Loc Cert.BwdGuW.nD Cert.BwdGuW.τ Cert.BwdGuW.sig) → Buf (Elt Bits) ℓ) : Prop :=
  True

def Pre_BwdGuWIdeal (m : (ℓ : Loc Cert.BwdGuWIdeal.nD Cert.BwdGuWIdeal.τ Cert.BwdGuWIdeal.sig) → Buf (Elt Ideal) ℓ) : Prop :=
  True

def Pre_BwdGuWRefIdeal (m : (ℓ : Loc Cert.BwdGuWRefIdeal.nD Cert.BwdGuWRefIdeal.τ Cert.BwdGuWRefIdeal.sig) → Buf (Elt Ideal) ℓ) : Prop :=
  True

def Pre_BwdOutW (m : (ℓ : Loc Cert.BwdOutW.nD Cert.BwdOutW.τ Cert.BwdOutW.sig) → Buf (Elt Bits) ℓ) : Prop :=
  True

def Pre_BwdOutWIdeal (m : (ℓ : Loc Cert.BwdOutWIdeal.nD Cert.BwdOutWIdeal.τ Cert.BwdOutWIdeal.sig) → Buf (Elt Ideal) ℓ) : Prop :=
  True

def Pre_BwdOutWRefIdeal (m : (ℓ : Loc Cert.BwdOutWRefIdeal.nD Cert.BwdOutWRefIdeal.τ Cert.BwdOutWRefIdeal.sig) → Buf (Elt Ideal) ℓ) : Prop :=
  True

def Pre_BwdDownW (m : (ℓ : Loc Cert.BwdDownW.nD Cert.BwdDownW.τ Cert.BwdDownW.sig) → Buf (Elt Bits) ℓ) : Prop :=
  True

def Pre_BwdDownWIdeal (m : (ℓ : Loc Cert.BwdDownWIdeal.nD Cert.BwdDownWIdeal.τ Cert.BwdDownWIdeal.sig) → Buf (Elt Ideal) ℓ) : Prop :=
  True

def Pre_BwdDownWRefIdeal (m : (ℓ : Loc Cert.BwdDownWRefIdeal.nD Cert.BwdDownWRefIdeal.τ Cert.BwdDownWRefIdeal.sig) → Buf (Elt Ideal) ℓ) : Prop :=
  True

def Pre_BwdRms (m : (ℓ : Loc Cert.BwdRms.nD Cert.BwdRms.τ Cert.BwdRms.sig) → Buf (Elt Bits) ℓ) : Prop :=
  True

def Pre_BwdRmsIdeal (m : (ℓ : Loc Cert.BwdRmsIdeal.nD Cert.BwdRmsIdeal.τ Cert.BwdRmsIdeal.sig) → Buf (Elt Ideal) ℓ) : Prop :=
  True

def Pre_BwdRmsRefIdeal (m : (ℓ : Loc Cert.BwdRmsRefIdeal.nD Cert.BwdRmsRefIdeal.τ Cert.BwdRmsRefIdeal.sig) → Buf (Elt Ideal) ℓ) : Prop :=
  True

def Pre_BwdGlu (m : (ℓ : Loc Cert.BwdGlu.nD Cert.BwdGlu.τ Cert.BwdGlu.sig) → Buf (Elt Bits) ℓ) : Prop :=
  True

def Pre_BwdGluIdeal (m : (ℓ : Loc Cert.BwdGluIdeal.nD Cert.BwdGluIdeal.τ Cert.BwdGluIdeal.sig) → Buf (Elt Ideal) ℓ) : Prop :=
  True

def Pre_BwdGluRefIdeal (m : (ℓ : Loc Cert.BwdGluRefIdeal.nD Cert.BwdGluRefIdeal.τ Cert.BwdGluRefIdeal.sig) → Buf (Elt Ideal) ℓ) : Prop :=
  True

def Pre_BwdMerge (m : (ℓ : Loc Cert.BwdMerge.nD Cert.BwdMerge.τ Cert.BwdMerge.sig) → Buf (Elt Bits) ℓ) : Prop :=
  True

def Pre_BwdMergeIdeal (m : (ℓ : Loc Cert.BwdMergeIdeal.nD Cert.BwdMergeIdeal.τ Cert.BwdMergeIdeal.sig) → Buf (Elt Ideal) ℓ) : Prop :=
  True

def Pre_BwdMergeRefIdeal (m : (ℓ : Loc Cert.BwdMergeRefIdeal.nD Cert.BwdMergeRefIdeal.τ Cert.BwdMergeRefIdeal.sig) → Buf (Elt Ideal) ℓ) : Prop :=
  True

def Pre_BwdPost (m : (ℓ : Loc Cert.BwdPost.nD Cert.BwdPost.τ Cert.BwdPost.sig) → Buf (Elt Bits) ℓ) : Prop :=
  True

def Pre_BwdPostIdeal (m : (ℓ : Loc Cert.BwdPostIdeal.nD Cert.BwdPostIdeal.τ Cert.BwdPostIdeal.sig) → Buf (Elt Ideal) ℓ) : Prop :=
  True

def Pre_BwdPostRefIdeal (m : (ℓ : Loc Cert.BwdPostRefIdeal.nD Cert.BwdPostRefIdeal.τ Cert.BwdPostRefIdeal.sig) → Buf (Elt Ideal) ℓ) : Prop :=
  True

def Pre_BwdRot (m : (ℓ : Loc Cert.BwdRot.nD Cert.BwdRot.τ Cert.BwdRot.sig) → Buf (Elt Bits) ℓ) : Prop :=
  True

def Pre_BwdRotIdeal (m : (ℓ : Loc Cert.BwdRotIdeal.nD Cert.BwdRotIdeal.τ Cert.BwdRotIdeal.sig) → Buf (Elt Ideal) ℓ) : Prop :=
  True

def Pre_BwdRotRefIdeal (m : (ℓ : Loc Cert.BwdRotRefIdeal.nD Cert.BwdRotRefIdeal.τ Cert.BwdRotRefIdeal.sig) → Buf (Elt Ideal) ℓ) : Prop :=
  True

def Pre_LossStage (m : (ℓ : Loc Cert.LossStage.nD Cert.LossStage.τ Cert.LossStage.sig) → Buf (Elt Bits) ℓ) : Prop :=
  True

def Pre_LossStageIdeal (m : (ℓ : Loc Cert.LossStageIdeal.nD Cert.LossStageIdeal.τ Cert.LossStageIdeal.sig) → Buf (Elt Ideal) ℓ) : Prop :=
  True

def Pre_LossStageRefIdeal (m : (ℓ : Loc Cert.LossStageRefIdeal.nD Cert.LossStageRefIdeal.τ Cert.LossStageRefIdeal.sig) → Buf (Elt Ideal) ℓ) : Prop :=
  True

def Pre_FwdRms (m : (ℓ : Loc Cert.FwdRms.nD Cert.FwdRms.τ Cert.FwdRms.sig) → Buf (Elt Bits) ℓ) : Prop :=
  True

def Pre_FwdRmsIdeal (m : (ℓ : Loc Cert.FwdRmsIdeal.nD Cert.FwdRmsIdeal.τ Cert.FwdRmsIdeal.sig) → Buf (Elt Ideal) ℓ) : Prop :=
  True

def Pre_FwdRmsRefIdeal (m : (ℓ : Loc Cert.FwdRmsRefIdeal.nD Cert.FwdRmsRefIdeal.τ Cert.FwdRmsRefIdeal.sig) → Buf (Elt Ideal) ℓ) : Prop :=
  True

def Pre_FwdSwish (m : (ℓ : Loc Cert.FwdSwish.nD Cert.FwdSwish.τ Cert.FwdSwish.sig) → Buf (Elt Bits) ℓ) : Prop :=
  True

def Pre_FwdSwishIdeal (m : (ℓ : Loc Cert.FwdSwishIdeal.nD Cert.FwdSwishIdeal.τ Cert.FwdSwishIdeal.sig) → Buf (Elt Ideal) ℓ) : Prop :=
  True

def Pre_FwdSwishRefIdeal (m : (ℓ : Loc Cert.FwdSwishRefIdeal.nD Cert.FwdSwishRefIdeal.τ Cert.FwdSwishRefIdeal.sig) → Buf (Elt Ideal) ℓ) : Prop :=
  True

def Pre_FwdMerge (m : (ℓ : Loc Cert.FwdMerge.nD Cert.FwdMerge.τ Cert.FwdMerge.sig) → Buf (Elt Bits) ℓ) : Prop :=
  True

def Pre_FwdMergeIdeal (m : (ℓ : Loc Cert.FwdMergeIdeal.nD Cert.FwdMergeIdeal.τ Cert.FwdMergeIdeal.sig) → Buf (Elt Ideal) ℓ) : Prop :=
  True

def Pre_FwdMergeRefIdeal (m : (ℓ : Loc Cert.FwdMergeRefIdeal.nD Cert.FwdMergeRefIdeal.τ Cert.FwdMergeRefIdeal.sig) → Buf (Elt Ideal) ℓ) : Prop :=
  True

def Pre_FwdPost (m : (ℓ : Loc Cert.FwdPost.nD Cert.FwdPost.τ Cert.FwdPost.sig) → Buf (Elt Bits) ℓ) : Prop :=
  True

def Pre_FwdPostIdeal (m : (ℓ : Loc Cert.FwdPostIdeal.nD Cert.FwdPostIdeal.τ Cert.FwdPostIdeal.sig) → Buf (Elt Ideal) ℓ) : Prop :=
  True

def Pre_FwdPostRefIdeal (m : (ℓ : Loc Cert.FwdPostRefIdeal.nD Cert.FwdPostRefIdeal.τ Cert.FwdPostRefIdeal.sig) → Buf (Elt Ideal) ℓ) : Prop :=
  True

def Pre_FwdRot (m : (ℓ : Loc Cert.FwdRot.nD Cert.FwdRot.τ Cert.FwdRot.sig) → Buf (Elt Bits) ℓ) : Prop :=
  True

def Pre_FwdRotIdeal (m : (ℓ : Loc Cert.FwdRotIdeal.nD Cert.FwdRotIdeal.τ Cert.FwdRotIdeal.sig) → Buf (Elt Ideal) ℓ) : Prop :=
  True

def Pre_FwdRotRefIdeal (m : (ℓ : Loc Cert.FwdRotRefIdeal.nD Cert.FwdRotRefIdeal.τ Cert.FwdRotRefIdeal.sig) → Buf (Elt Ideal) ℓ) : Prop :=
  True

def Pre_FwdRet (m : (ℓ : Loc Cert.FwdRet.nD Cert.FwdRet.τ Cert.FwdRet.sig) → Buf (Elt Bits) ℓ) : Prop :=
  True

def Pre_FwdRetIdeal (m : (ℓ : Loc Cert.FwdRetIdeal.nD Cert.FwdRetIdeal.τ Cert.FwdRetIdeal.sig) → Buf (Elt Ideal) ℓ) : Prop :=
  True

def Pre_FwdRetRefIdeal (m : (ℓ : Loc Cert.FwdRetRefIdeal.nD Cert.FwdRetRefIdeal.τ Cert.FwdRetRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamTiny (m : (ℓ : Loc Cert.AdamTiny.nD Cert.AdamTiny.τ Cert.AdamTiny.sig) → Buf (Elt Bits) ℓ) : Prop :=
  True

def Pre_AdamTinyIdeal (m : (ℓ : Loc Cert.AdamTinyIdeal.nD Cert.AdamTinyIdeal.τ Cert.AdamTinyIdeal.sig) → Buf (Elt Ideal) ℓ) : Prop :=
  True

def Pre_AdamTinyRefIdeal (m : (ℓ : Loc Cert.AdamTinyRefIdeal.nD Cert.AdamTinyRefIdeal.τ Cert.AdamTinyRefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_LossTotal (m : (ℓ : Loc Cert.LossTotal.nD Cert.LossTotal.τ Cert.LossTotal.sig) → Buf (Elt Bits) ℓ) : Prop :=
  True

def Pre_LossTotalIdeal (m : (ℓ : Loc Cert.LossTotalIdeal.nD Cert.LossTotalIdeal.τ Cert.LossTotalIdeal.sig) → Buf (Elt Ideal) ℓ) : Prop :=
  True

def Pre_LossTotalRefIdeal (m : (ℓ : Loc Cert.LossTotalRefIdeal.nD Cert.LossTotalRefIdeal.τ Cert.LossTotalRefIdeal.sig) → Buf (Elt Ideal) ℓ) : Prop :=
  True

def Pre_FwdScan (m : (ℓ : Loc Cert.FwdScan.nD Cert.FwdScan.τ Cert.FwdScan.sig) → Buf (Elt Bits) ℓ) : Prop :=
  True

def Pre_FwdScanIdeal (m : (ℓ : Loc Cert.FwdScanIdeal.nD Cert.FwdScanIdeal.τ Cert.FwdScanIdeal.sig) → Buf (Elt Ideal) ℓ) : Prop :=
  True

def Pre_BwdScan (m : (ℓ : Loc Cert.BwdScan.nD Cert.BwdScan.τ Cert.BwdScan.sig) → Buf (Elt Bits) ℓ) : Prop :=
  True

def Pre_BwdScanIdeal (m : (ℓ : Loc Cert.BwdScanIdeal.nD Cert.BwdScanIdeal.τ Cert.BwdScanIdeal.sig) → Buf (Elt Ideal) ℓ) : Prop :=
  True

def Pre_RedIn [hPre_device_in : Cert.Pre_device_in.Facts] (m : (ℓ : Loc Cert.RedIn.nD Cert.RedIn.τ Cert.RedIn.sig) → Buf (Elt Bits) ℓ) : Prop :=
  ∀ c : Dev Cert.RedIn.nD,
    (Cert.Pre_device_in.fn (F := Bits) (m ((c.tc : Thread Cert.RedIn.nD Cert.RedIn.τ).loc Cert.RedIn.main_arg0)) (m ((c.tc : Thread Cert.RedIn.nD Cert.RedIn.τ).loc Cert.RedIn.main_arg1)) (m ((c.tc : Thread Cert.RedIn.nD Cert.RedIn.τ).loc Cert.RedIn.main_arg2)) (m ((c.tc : Thread Cert.RedIn.nD Cert.RedIn.τ).loc Cert.RedIn.main_arg3)) (m ((c.tc : Thread Cert.RedIn.nD Cert.RedIn.τ).loc Cert.RedIn.main_arg4))) = (fun _ => 1#1)

def Pre_RedInIdeal [hPre_device_in : Cert.Pre_device_in.Facts] (m : (ℓ : Loc Cert.RedInIdeal.nD Cert.RedInIdeal.τ Cert.RedInIdeal.sig) → Buf (Elt Ideal) ℓ) : Prop :=
  ∀ c : Dev Cert.RedInIdeal.nD,
    (Cert.Pre_device_in.fn (F := Ideal) (m ((c.tc : Thread Cert.RedInIdeal.nD Cert.RedInIdeal.τ).loc Cert.RedInIdeal.main_arg0)) (m ((c.tc : Thread Cert.RedInIdeal.nD Cert.RedInIdeal.τ).loc Cert.RedInIdeal.main_arg1)) (m ((c.tc : Thread Cert.RedInIdeal.nD Cert.RedInIdeal.τ).loc Cert.RedInIdeal.main_arg2)) (m ((c.tc : Thread Cert.RedInIdeal.nD Cert.RedInIdeal.τ).loc Cert.RedInIdeal.main_arg3)) (m ((c.tc : Thread Cert.RedInIdeal.nD Cert.RedInIdeal.τ).loc Cert.RedInIdeal.main_arg4))) = (fun _ => 1#1)

def Pre_RedInRefIdeal (m : (ℓ : Loc Cert.RedInRefIdeal.nD Cert.RedInRefIdeal.τ Cert.RedInRefIdeal.sig) → Buf (Elt Ideal) ℓ) : Prop :=
  True

def Pre_RedInRefIdeal_device_in [hPre_device_in : Cert.Pre_device_in.Facts] (m : (ℓ : Loc Cert.RedInRefIdeal.nD Cert.RedInRefIdeal.τ Cert.RedInRefIdeal.sig) → Buf (Elt Ideal) ℓ) : Prop :=
  ∀ c : Dev Cert.RedInRefIdeal.nD,
    (Cert.Pre_device_in.fn (F := Ideal) (m ((c.tc : Thread Cert.RedInRefIdeal.nD Cert.RedInRefIdeal.τ).loc Cert.RedInRefIdeal.main_arg0)) (m ((c.tc : Thread Cert.RedInRefIdeal.nD Cert.RedInRefIdeal.τ).loc Cert.RedInRefIdeal.main_arg1)) (m ((c.tc : Thread Cert.RedInRefIdeal.nD Cert.RedInRefIdeal.τ).loc Cert.RedInRefIdeal.main_arg2)) (m ((c.tc : Thread Cert.RedInRefIdeal.nD Cert.RedInRefIdeal.τ).loc Cert.RedInRefIdeal.main_arg3)) (m ((c.tc : Thread Cert.RedInRefIdeal.nD Cert.RedInRefIdeal.τ).loc Cert.RedInRefIdeal.main_arg4))) = (fun _ => 1#1)

def Pre_RedGlu [hPre_device_glu : Cert.Pre_device_glu.Facts] (m : (ℓ : Loc Cert.RedGlu.nD Cert.RedGlu.τ Cert.RedGlu.sig) → Buf (Elt Bits) ℓ) : Prop :=
  ∀ c : Dev Cert.RedGlu.nD,
    (Cert.Pre_device_glu.fn (F := Bits) (m ((c.tc : Thread Cert.RedGlu.nD Cert.RedGlu.τ).loc Cert.RedGlu.main_arg0)) (m ((c.tc : Thread Cert.RedGlu.nD Cert.RedGlu.τ).loc Cert.RedGlu.main_arg1)) (m ((c.tc : Thread Cert.RedGlu.nD Cert.RedGlu.τ).loc Cert.RedGlu.main_arg2)) (m ((c.tc : Thread Cert.RedGlu.nD Cert.RedGlu.τ).loc Cert.RedGlu.main_arg3)) (m ((c.tc : Thread Cert.RedGlu.nD Cert.RedGlu.τ).loc Cert.RedGlu.main_arg4))) = (fun _ => 1#1)

def Pre_RedGluIdeal [hPre_device_glu : Cert.Pre_device_glu.Facts] (m : (ℓ : Loc Cert.RedGluIdeal.nD Cert.RedGluIdeal.τ Cert.RedGluIdeal.sig) → Buf (Elt Ideal) ℓ) : Prop :=
  ∀ c : Dev Cert.RedGluIdeal.nD,
    (Cert.Pre_device_glu.fn (F := Ideal) (m ((c.tc : Thread Cert.RedGluIdeal.nD Cert.RedGluIdeal.τ).loc Cert.RedGluIdeal.main_arg0)) (m ((c.tc : Thread Cert.RedGluIdeal.nD Cert.RedGluIdeal.τ).loc Cert.RedGluIdeal.main_arg1)) (m ((c.tc : Thread Cert.RedGluIdeal.nD Cert.RedGluIdeal.τ).loc Cert.RedGluIdeal.main_arg2)) (m ((c.tc : Thread Cert.RedGluIdeal.nD Cert.RedGluIdeal.τ).loc Cert.RedGluIdeal.main_arg3)) (m ((c.tc : Thread Cert.RedGluIdeal.nD Cert.RedGluIdeal.τ).loc Cert.RedGluIdeal.main_arg4))) = (fun _ => 1#1)

def Pre_RedGluRefIdeal (m : (ℓ : Loc Cert.RedGluRefIdeal.nD Cert.RedGluRefIdeal.τ Cert.RedGluRefIdeal.sig) → Buf (Elt Ideal) ℓ) : Prop :=
  True

def Pre_RedGluRefIdeal_device_glu [hPre_device_glu : Cert.Pre_device_glu.Facts] (m : (ℓ : Loc Cert.RedGluRefIdeal.nD Cert.RedGluRefIdeal.τ Cert.RedGluRefIdeal.sig) → Buf (Elt Ideal) ℓ) : Prop :=
  ∀ c : Dev Cert.RedGluRefIdeal.nD,
    (Cert.Pre_device_glu.fn (F := Ideal) (m ((c.tc : Thread Cert.RedGluRefIdeal.nD Cert.RedGluRefIdeal.τ).loc Cert.RedGluRefIdeal.main_arg0)) (m ((c.tc : Thread Cert.RedGluRefIdeal.nD Cert.RedGluRefIdeal.τ).loc Cert.RedGluRefIdeal.main_arg1)) (m ((c.tc : Thread Cert.RedGluRefIdeal.nD Cert.RedGluRefIdeal.τ).loc Cert.RedGluRefIdeal.main_arg2)) (m ((c.tc : Thread Cert.RedGluRefIdeal.nD Cert.RedGluRefIdeal.τ).loc Cert.RedGluRefIdeal.main_arg3)) (m ((c.tc : Thread Cert.RedGluRefIdeal.nD Cert.RedGluRefIdeal.τ).loc Cert.RedGluRefIdeal.main_arg4))) = (fun _ => 1#1)

def Pre_RedOut [hPre_device_glu : Cert.Pre_device_glu.Facts] (m : (ℓ : Loc Cert.RedOut.nD Cert.RedOut.τ Cert.RedOut.sig) → Buf (Elt Bits) ℓ) : Prop :=
  ∀ c : Dev Cert.RedOut.nD,
    (Cert.Pre_device_glu.fn (F := Bits) (m ((c.tc : Thread Cert.RedOut.nD Cert.RedOut.τ).loc Cert.RedOut.main_arg0)) (m ((c.tc : Thread Cert.RedOut.nD Cert.RedOut.τ).loc Cert.RedOut.main_arg1)) (m ((c.tc : Thread Cert.RedOut.nD Cert.RedOut.τ).loc Cert.RedOut.main_arg2)) (m ((c.tc : Thread Cert.RedOut.nD Cert.RedOut.τ).loc Cert.RedOut.main_arg3)) (m ((c.tc : Thread Cert.RedOut.nD Cert.RedOut.τ).loc Cert.RedOut.main_arg4))) = (fun _ => 1#1)

def Pre_RedOutIdeal [hPre_device_glu : Cert.Pre_device_glu.Facts] (m : (ℓ : Loc Cert.RedOutIdeal.nD Cert.RedOutIdeal.τ Cert.RedOutIdeal.sig) → Buf (Elt Ideal) ℓ) : Prop :=
  ∀ c : Dev Cert.RedOutIdeal.nD,
    (Cert.Pre_device_glu.fn (F := Ideal) (m ((c.tc : Thread Cert.RedOutIdeal.nD Cert.RedOutIdeal.τ).loc Cert.RedOutIdeal.main_arg0)) (m ((c.tc : Thread Cert.RedOutIdeal.nD Cert.RedOutIdeal.τ).loc Cert.RedOutIdeal.main_arg1)) (m ((c.tc : Thread Cert.RedOutIdeal.nD Cert.RedOutIdeal.τ).loc Cert.RedOutIdeal.main_arg2)) (m ((c.tc : Thread Cert.RedOutIdeal.nD Cert.RedOutIdeal.τ).loc Cert.RedOutIdeal.main_arg3)) (m ((c.tc : Thread Cert.RedOutIdeal.nD Cert.RedOutIdeal.τ).loc Cert.RedOutIdeal.main_arg4))) = (fun _ => 1#1)

def Pre_RedOutRefIdeal (m : (ℓ : Loc Cert.RedOutRefIdeal.nD Cert.RedOutRefIdeal.τ Cert.RedOutRefIdeal.sig) → Buf (Elt Ideal) ℓ) : Prop :=
  True

def Pre_RedOutRefIdeal_device_glu [hPre_device_glu : Cert.Pre_device_glu.Facts] (m : (ℓ : Loc Cert.RedOutRefIdeal.nD Cert.RedOutRefIdeal.τ Cert.RedOutRefIdeal.sig) → Buf (Elt Ideal) ℓ) : Prop :=
  ∀ c : Dev Cert.RedOutRefIdeal.nD,
    (Cert.Pre_device_glu.fn (F := Ideal) (m ((c.tc : Thread Cert.RedOutRefIdeal.nD Cert.RedOutRefIdeal.τ).loc Cert.RedOutRefIdeal.main_arg0)) (m ((c.tc : Thread Cert.RedOutRefIdeal.nD Cert.RedOutRefIdeal.τ).loc Cert.RedOutRefIdeal.main_arg1)) (m ((c.tc : Thread Cert.RedOutRefIdeal.nD Cert.RedOutRefIdeal.τ).loc Cert.RedOutRefIdeal.main_arg2)) (m ((c.tc : Thread Cert.RedOutRefIdeal.nD Cert.RedOutRefIdeal.τ).loc Cert.RedOutRefIdeal.main_arg3)) (m ((c.tc : Thread Cert.RedOutRefIdeal.nD Cert.RedOutRefIdeal.τ).loc Cert.RedOutRefIdeal.main_arg4))) = (fun _ => 1#1)

def Pre_RedGate [hPre_device_ffn : Cert.Pre_device_ffn.Facts] (m : (ℓ : Loc Cert.RedGate.nD Cert.RedGate.τ Cert.RedGate.sig) → Buf (Elt Bits) ℓ) : Prop :=
  ∀ c : Dev Cert.RedGate.nD,
    (Cert.Pre_device_ffn.fn (F := Bits) (m ((c.tc : Thread Cert.RedGate.nD Cert.RedGate.τ).loc Cert.RedGate.main_arg0)) (m ((c.tc : Thread Cert.RedGate.nD Cert.RedGate.τ).loc Cert.RedGate.main_arg1)) (m ((c.tc : Thread Cert.RedGate.nD Cert.RedGate.τ).loc Cert.RedGate.main_arg2)) (m ((c.tc : Thread Cert.RedGate.nD Cert.RedGate.τ).loc Cert.RedGate.main_arg3)) (m ((c.tc : Thread Cert.RedGate.nD Cert.RedGate.τ).loc Cert.RedGate.main_arg4))) = (fun _ => 1#1)

def Pre_RedGateIdeal [hPre_device_ffn : Cert.Pre_device_ffn.Facts] (m : (ℓ : Loc Cert.RedGateIdeal.nD Cert.RedGateIdeal.τ Cert.RedGateIdeal.sig) → Buf (Elt Ideal) ℓ) : Prop :=
  ∀ c : Dev Cert.RedGateIdeal.nD,
    (Cert.Pre_device_ffn.fn (F := Ideal) (m ((c.tc : Thread Cert.RedGateIdeal.nD Cert.RedGateIdeal.τ).loc Cert.RedGateIdeal.main_arg0)) (m ((c.tc : Thread Cert.RedGateIdeal.nD Cert.RedGateIdeal.τ).loc Cert.RedGateIdeal.main_arg1)) (m ((c.tc : Thread Cert.RedGateIdeal.nD Cert.RedGateIdeal.τ).loc Cert.RedGateIdeal.main_arg2)) (m ((c.tc : Thread Cert.RedGateIdeal.nD Cert.RedGateIdeal.τ).loc Cert.RedGateIdeal.main_arg3)) (m ((c.tc : Thread Cert.RedGateIdeal.nD Cert.RedGateIdeal.τ).loc Cert.RedGateIdeal.main_arg4))) = (fun _ => 1#1)

def Pre_RedGateRefIdeal (m : (ℓ : Loc Cert.RedGateRefIdeal.nD Cert.RedGateRefIdeal.τ Cert.RedGateRefIdeal.sig) → Buf (Elt Ideal) ℓ) : Prop :=
  True

def Pre_RedGateRefIdeal_device_ffn [hPre_device_ffn : Cert.Pre_device_ffn.Facts] (m : (ℓ : Loc Cert.RedGateRefIdeal.nD Cert.RedGateRefIdeal.τ Cert.RedGateRefIdeal.sig) → Buf (Elt Ideal) ℓ) : Prop :=
  ∀ c : Dev Cert.RedGateRefIdeal.nD,
    (Cert.Pre_device_ffn.fn (F := Ideal) (m ((c.tc : Thread Cert.RedGateRefIdeal.nD Cert.RedGateRefIdeal.τ).loc Cert.RedGateRefIdeal.main_arg0)) (m ((c.tc : Thread Cert.RedGateRefIdeal.nD Cert.RedGateRefIdeal.τ).loc Cert.RedGateRefIdeal.main_arg1)) (m ((c.tc : Thread Cert.RedGateRefIdeal.nD Cert.RedGateRefIdeal.τ).loc Cert.RedGateRefIdeal.main_arg2)) (m ((c.tc : Thread Cert.RedGateRefIdeal.nD Cert.RedGateRefIdeal.τ).loc Cert.RedGateRefIdeal.main_arg3)) (m ((c.tc : Thread Cert.RedGateRefIdeal.nD Cert.RedGateRefIdeal.τ).loc Cert.RedGateRefIdeal.main_arg4))) = (fun _ => 1#1)

def Pre_RedUp [hPre_device_ffn : Cert.Pre_device_ffn.Facts] (m : (ℓ : Loc Cert.RedUp.nD Cert.RedUp.τ Cert.RedUp.sig) → Buf (Elt Bits) ℓ) : Prop :=
  ∀ c : Dev Cert.RedUp.nD,
    (Cert.Pre_device_ffn.fn (F := Bits) (m ((c.tc : Thread Cert.RedUp.nD Cert.RedUp.τ).loc Cert.RedUp.main_arg0)) (m ((c.tc : Thread Cert.RedUp.nD Cert.RedUp.τ).loc Cert.RedUp.main_arg1)) (m ((c.tc : Thread Cert.RedUp.nD Cert.RedUp.τ).loc Cert.RedUp.main_arg2)) (m ((c.tc : Thread Cert.RedUp.nD Cert.RedUp.τ).loc Cert.RedUp.main_arg3)) (m ((c.tc : Thread Cert.RedUp.nD Cert.RedUp.τ).loc Cert.RedUp.main_arg4))) = (fun _ => 1#1)

def Pre_RedUpIdeal [hPre_device_ffn : Cert.Pre_device_ffn.Facts] (m : (ℓ : Loc Cert.RedUpIdeal.nD Cert.RedUpIdeal.τ Cert.RedUpIdeal.sig) → Buf (Elt Ideal) ℓ) : Prop :=
  ∀ c : Dev Cert.RedUpIdeal.nD,
    (Cert.Pre_device_ffn.fn (F := Ideal) (m ((c.tc : Thread Cert.RedUpIdeal.nD Cert.RedUpIdeal.τ).loc Cert.RedUpIdeal.main_arg0)) (m ((c.tc : Thread Cert.RedUpIdeal.nD Cert.RedUpIdeal.τ).loc Cert.RedUpIdeal.main_arg1)) (m ((c.tc : Thread Cert.RedUpIdeal.nD Cert.RedUpIdeal.τ).loc Cert.RedUpIdeal.main_arg2)) (m ((c.tc : Thread Cert.RedUpIdeal.nD Cert.RedUpIdeal.τ).loc Cert.RedUpIdeal.main_arg3)) (m ((c.tc : Thread Cert.RedUpIdeal.nD Cert.RedUpIdeal.τ).loc Cert.RedUpIdeal.main_arg4))) = (fun _ => 1#1)

def Pre_RedUpRefIdeal (m : (ℓ : Loc Cert.RedUpRefIdeal.nD Cert.RedUpRefIdeal.τ Cert.RedUpRefIdeal.sig) → Buf (Elt Ideal) ℓ) : Prop :=
  True

def Pre_RedUpRefIdeal_device_ffn [hPre_device_ffn : Cert.Pre_device_ffn.Facts] (m : (ℓ : Loc Cert.RedUpRefIdeal.nD Cert.RedUpRefIdeal.τ Cert.RedUpRefIdeal.sig) → Buf (Elt Ideal) ℓ) : Prop :=
  ∀ c : Dev Cert.RedUpRefIdeal.nD,
    (Cert.Pre_device_ffn.fn (F := Ideal) (m ((c.tc : Thread Cert.RedUpRefIdeal.nD Cert.RedUpRefIdeal.τ).loc Cert.RedUpRefIdeal.main_arg0)) (m ((c.tc : Thread Cert.RedUpRefIdeal.nD Cert.RedUpRefIdeal.τ).loc Cert.RedUpRefIdeal.main_arg1)) (m ((c.tc : Thread Cert.RedUpRefIdeal.nD Cert.RedUpRefIdeal.τ).loc Cert.RedUpRefIdeal.main_arg2)) (m ((c.tc : Thread Cert.RedUpRefIdeal.nD Cert.RedUpRefIdeal.τ).loc Cert.RedUpRefIdeal.main_arg3)) (m ((c.tc : Thread Cert.RedUpRefIdeal.nD Cert.RedUpRefIdeal.τ).loc Cert.RedUpRefIdeal.main_arg4))) = (fun _ => 1#1)

def Pre_RedDown [hPre_device_down : Cert.Pre_device_down.Facts] (m : (ℓ : Loc Cert.RedDown.nD Cert.RedDown.τ Cert.RedDown.sig) → Buf (Elt Bits) ℓ) : Prop :=
  ∀ c : Dev Cert.RedDown.nD,
    (Cert.Pre_device_down.fn (F := Bits) (m ((c.tc : Thread Cert.RedDown.nD Cert.RedDown.τ).loc Cert.RedDown.main_arg0)) (m ((c.tc : Thread Cert.RedDown.nD Cert.RedDown.τ).loc Cert.RedDown.main_arg1)) (m ((c.tc : Thread Cert.RedDown.nD Cert.RedDown.τ).loc Cert.RedDown.main_arg2)) (m ((c.tc : Thread Cert.RedDown.nD Cert.RedDown.τ).loc Cert.RedDown.main_arg3)) (m ((c.tc : Thread Cert.RedDown.nD Cert.RedDown.τ).loc Cert.RedDown.main_arg4))) = (fun _ => 1#1)

def Pre_RedDownIdeal [hPre_device_down : Cert.Pre_device_down.Facts] (m : (ℓ : Loc Cert.RedDownIdeal.nD Cert.RedDownIdeal.τ Cert.RedDownIdeal.sig) → Buf (Elt Ideal) ℓ) : Prop :=
  ∀ c : Dev Cert.RedDownIdeal.nD,
    (Cert.Pre_device_down.fn (F := Ideal) (m ((c.tc : Thread Cert.RedDownIdeal.nD Cert.RedDownIdeal.τ).loc Cert.RedDownIdeal.main_arg0)) (m ((c.tc : Thread Cert.RedDownIdeal.nD Cert.RedDownIdeal.τ).loc Cert.RedDownIdeal.main_arg1)) (m ((c.tc : Thread Cert.RedDownIdeal.nD Cert.RedDownIdeal.τ).loc Cert.RedDownIdeal.main_arg2)) (m ((c.tc : Thread Cert.RedDownIdeal.nD Cert.RedDownIdeal.τ).loc Cert.RedDownIdeal.main_arg3)) (m ((c.tc : Thread Cert.RedDownIdeal.nD Cert.RedDownIdeal.τ).loc Cert.RedDownIdeal.main_arg4))) = (fun _ => 1#1)

def Pre_RedDownRefIdeal (m : (ℓ : Loc Cert.RedDownRefIdeal.nD Cert.RedDownRefIdeal.τ Cert.RedDownRefIdeal.sig) → Buf (Elt Ideal) ℓ) : Prop :=
  True

def Pre_RedDownRefIdeal_device_down [hPre_device_down : Cert.Pre_device_down.Facts] (m : (ℓ : Loc Cert.RedDownRefIdeal.nD Cert.RedDownRefIdeal.τ Cert.RedDownRefIdeal.sig) → Buf (Elt Ideal) ℓ) : Prop :=
  ∀ c : Dev Cert.RedDownRefIdeal.nD,
    (Cert.Pre_device_down.fn (F := Ideal) (m ((c.tc : Thread Cert.RedDownRefIdeal.nD Cert.RedDownRefIdeal.τ).loc Cert.RedDownRefIdeal.main_arg0)) (m ((c.tc : Thread Cert.RedDownRefIdeal.nD Cert.RedDownRefIdeal.τ).loc Cert.RedDownRefIdeal.main_arg1)) (m ((c.tc : Thread Cert.RedDownRefIdeal.nD Cert.RedDownRefIdeal.τ).loc Cert.RedDownRefIdeal.main_arg2)) (m ((c.tc : Thread Cert.RedDownRefIdeal.nD Cert.RedDownRefIdeal.τ).loc Cert.RedDownRefIdeal.main_arg3)) (m ((c.tc : Thread Cert.RedDownRefIdeal.nD Cert.RedDownRefIdeal.τ).loc Cert.RedDownRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1))
      ∧ r.2.sem = fun _ => 0)

def quiescent_FwdGu [hFwdGu : Cert.FwdGu.Facts] : Prop :=
  ∀ (m : (ℓ : Loc Cert.FwdGu.nD Cert.FwdGu.τ Cert.FwdGu.sig) → Buf (Elt Bits) ℓ) (g : Dev Cert.FwdGu.nD → PrngReg), Pre_FwdGu m →
    θ_run (Cert.FwdGu.defs (F := Bits)) (onTc (τ := Cert.FwdGu.τ) (Cert.FwdGu.main (F := Bits))) ⟨m, fun _ => 0, g⟩ (fun r => (∀ c : Dev Cert.FwdGu.nD,
      r.2.mem ((c.tc : Thread Cert.FwdGu.nD Cert.FwdGu.τ).loc Cert.FwdGu.main_arg0) = m ((c.tc : Thread Cert.FwdGu.nD Cert.FwdGu.τ).loc Cert.FwdGu.main_arg0)
      ∧ r.2.mem ((c.tc : Thread Cert.FwdGu.nD Cert.FwdGu.τ).loc Cert.FwdGu.main_arg1) = m ((c.tc : Thread Cert.FwdGu.nD Cert.FwdGu.τ).loc Cert.FwdGu.main_arg1))
      ∧ r.2.sem = fun _ => 0)

def quiescent_FwdGuIdeal [hFwdGuIdeal : Cert.FwdGuIdeal.Facts] : Prop :=
  ∀ (m : (ℓ : Loc Cert.FwdGuIdeal.nD Cert.FwdGuIdeal.τ Cert.FwdGuIdeal.sig) → Buf (Elt Ideal) ℓ) (g : Dev Cert.FwdGuIdeal.nD → PrngReg), Pre_FwdGuIdeal m →
    θ_run (Cert.FwdGuIdeal.defs (F := Ideal)) (onTc (τ := Cert.FwdGuIdeal.τ) (Cert.FwdGuIdeal.main (F := Ideal))) ⟨m, fun _ => 0, g⟩ (fun r => (∀ c : Dev Cert.FwdGuIdeal.nD,
      r.2.mem ((c.tc : Thread Cert.FwdGuIdeal.nD Cert.FwdGuIdeal.τ).loc Cert.FwdGuIdeal.main_arg0) = m ((c.tc : Thread Cert.FwdGuIdeal.nD Cert.FwdGuIdeal.τ).loc Cert.FwdGuIdeal.main_arg0)
      ∧ r.2.mem ((c.tc : Thread Cert.FwdGuIdeal.nD Cert.FwdGuIdeal.τ).loc Cert.FwdGuIdeal.main_arg1) = m ((c.tc : Thread Cert.FwdGuIdeal.nD Cert.FwdGuIdeal.τ).loc Cert.FwdGuIdeal.main_arg1))
      ∧ r.2.sem = fun _ => 0)

def quiescent_FwdGuRefIdeal [hFwdGuRefIdeal : Cert.FwdGuRefIdeal.Facts] : Prop :=
  ∀ (m : (ℓ : Loc Cert.FwdGuRefIdeal.nD Cert.FwdGuRefIdeal.τ Cert.FwdGuRefIdeal.sig) → Buf (Elt Ideal) ℓ) (g : Dev Cert.FwdGuRefIdeal.nD → PrngReg), Pre_FwdGuRefIdeal m →
    θ_run (Cert.FwdGuRefIdeal.defs (F := Ideal)) (onTc (τ := Cert.FwdGuRefIdeal.τ) (Cert.FwdGuRefIdeal.main (F := Ideal))) ⟨m, fun _ => 0, g⟩ (fun r => (∀ c : Dev Cert.FwdGuRefIdeal.nD,
      r.2.mem ((c.tc : Thread Cert.FwdGuRefIdeal.nD Cert.FwdGuRefIdeal.τ).loc Cert.FwdGuRefIdeal.main_arg0) = m ((c.tc : Thread Cert.FwdGuRefIdeal.nD Cert.FwdGuRefIdeal.τ).loc Cert.FwdGuRefIdeal.main_arg0)
      ∧ r.2.mem ((c.tc : Thread Cert.FwdGuRefIdeal.nD Cert.FwdGuRefIdeal.τ).loc Cert.FwdGuRefIdeal.main_arg1) = m ((c.tc : Thread Cert.FwdGuRefIdeal.nD Cert.FwdGuRefIdeal.τ).loc Cert.FwdGuRefIdeal.main_arg1))
      ∧ r.2.sem = fun _ => 0)

def quiescent_FwdGlu [hFwdGlu : Cert.FwdGlu.Facts] : Prop :=
  ∀ (m : (ℓ : Loc Cert.FwdGlu.nD Cert.FwdGlu.τ Cert.FwdGlu.sig) → Buf (Elt Bits) ℓ) (g : Dev Cert.FwdGlu.nD → PrngReg), Pre_FwdGlu m →
    θ_run (Cert.FwdGlu.defs (F := Bits)) (onTc (τ := Cert.FwdGlu.τ) (Cert.FwdGlu.main (F := Bits))) ⟨m, fun _ => 0, g⟩ (fun r => (∀ c : Dev Cert.FwdGlu.nD,
      r.2.mem ((c.tc : Thread Cert.FwdGlu.nD Cert.FwdGlu.τ).loc Cert.FwdGlu.main_arg0) = m ((c.tc : Thread Cert.FwdGlu.nD Cert.FwdGlu.τ).loc Cert.FwdGlu.main_arg0)
      ∧ r.2.mem ((c.tc : Thread Cert.FwdGlu.nD Cert.FwdGlu.τ).loc Cert.FwdGlu.main_arg1) = m ((c.tc : Thread Cert.FwdGlu.nD Cert.FwdGlu.τ).loc Cert.FwdGlu.main_arg1))
      ∧ r.2.sem = fun _ => 0)

def quiescent_FwdGluIdeal [hFwdGluIdeal : Cert.FwdGluIdeal.Facts] : Prop :=
  ∀ (m : (ℓ : Loc Cert.FwdGluIdeal.nD Cert.FwdGluIdeal.τ Cert.FwdGluIdeal.sig) → Buf (Elt Ideal) ℓ) (g : Dev Cert.FwdGluIdeal.nD → PrngReg), Pre_FwdGluIdeal m →
    θ_run (Cert.FwdGluIdeal.defs (F := Ideal)) (onTc (τ := Cert.FwdGluIdeal.τ) (Cert.FwdGluIdeal.main (F := Ideal))) ⟨m, fun _ => 0, g⟩ (fun r => (∀ c : Dev Cert.FwdGluIdeal.nD,
      r.2.mem ((c.tc : Thread Cert.FwdGluIdeal.nD Cert.FwdGluIdeal.τ).loc Cert.FwdGluIdeal.main_arg0) = m ((c.tc : Thread Cert.FwdGluIdeal.nD Cert.FwdGluIdeal.τ).loc Cert.FwdGluIdeal.main_arg0)
      ∧ r.2.mem ((c.tc : Thread Cert.FwdGluIdeal.nD Cert.FwdGluIdeal.τ).loc Cert.FwdGluIdeal.main_arg1) = m ((c.tc : Thread Cert.FwdGluIdeal.nD Cert.FwdGluIdeal.τ).loc Cert.FwdGluIdeal.main_arg1))
      ∧ r.2.sem = fun _ => 0)

def quiescent_FwdGluRefIdeal [hFwdGluRefIdeal : Cert.FwdGluRefIdeal.Facts] : Prop :=
  ∀ (m : (ℓ : Loc Cert.FwdGluRefIdeal.nD Cert.FwdGluRefIdeal.τ Cert.FwdGluRefIdeal.sig) → Buf (Elt Ideal) ℓ) (g : Dev Cert.FwdGluRefIdeal.nD → PrngReg), Pre_FwdGluRefIdeal m →
    θ_run (Cert.FwdGluRefIdeal.defs (F := Ideal)) (onTc (τ := Cert.FwdGluRefIdeal.τ) (Cert.FwdGluRefIdeal.main (F := Ideal))) ⟨m, fun _ => 0, g⟩ (fun r => (∀ c : Dev Cert.FwdGluRefIdeal.nD,
      r.2.mem ((c.tc : Thread Cert.FwdGluRefIdeal.nD Cert.FwdGluRefIdeal.τ).loc Cert.FwdGluRefIdeal.main_arg0) = m ((c.tc : Thread Cert.FwdGluRefIdeal.nD Cert.FwdGluRefIdeal.τ).loc Cert.FwdGluRefIdeal.main_arg0)
      ∧ r.2.mem ((c.tc : Thread Cert.FwdGluRefIdeal.nD Cert.FwdGluRefIdeal.τ).loc Cert.FwdGluRefIdeal.main_arg1) = m ((c.tc : Thread Cert.FwdGluRefIdeal.nD Cert.FwdGluRefIdeal.τ).loc Cert.FwdGluRefIdeal.main_arg1))
      ∧ r.2.sem = fun _ => 0)

def quiescent_FwdOut [hFwdOut : Cert.FwdOut.Facts] : Prop :=
  ∀ (m : (ℓ : Loc Cert.FwdOut.nD Cert.FwdOut.τ Cert.FwdOut.sig) → Buf (Elt Bits) ℓ) (g : Dev Cert.FwdOut.nD → PrngReg), Pre_FwdOut m →
    θ_run (Cert.FwdOut.defs (F := Bits)) (onTc (τ := Cert.FwdOut.τ) (Cert.FwdOut.main (F := Bits))) ⟨m, fun _ => 0, g⟩ (fun r => (∀ c : Dev Cert.FwdOut.nD,
      r.2.mem ((c.tc : Thread Cert.FwdOut.nD Cert.FwdOut.τ).loc Cert.FwdOut.main_arg0) = m ((c.tc : Thread Cert.FwdOut.nD Cert.FwdOut.τ).loc Cert.FwdOut.main_arg0)
      ∧ r.2.mem ((c.tc : Thread Cert.FwdOut.nD Cert.FwdOut.τ).loc Cert.FwdOut.main_arg1) = m ((c.tc : Thread Cert.FwdOut.nD Cert.FwdOut.τ).loc Cert.FwdOut.main_arg1)
      ∧ r.2.mem ((c.tc : Thread Cert.FwdOut.nD Cert.FwdOut.τ).loc Cert.FwdOut.main_arg2) = m ((c.tc : Thread Cert.FwdOut.nD Cert.FwdOut.τ).loc Cert.FwdOut.main_arg2))
      ∧ r.2.sem = fun _ => 0)

def quiescent_FwdOutIdeal [hFwdOutIdeal : Cert.FwdOutIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg), Pre_FwdOutIdeal m →
    θ_run (Cert.FwdOutIdeal.defs (F := Ideal)) (onTc (τ := Cert.FwdOutIdeal.τ) (Cert.FwdOutIdeal.main (F := Ideal))) ⟨m, fun _ => 0, g⟩ (fun r => (∀ c : Dev Cert.FwdOutIdeal.nD,
      r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
      ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
      ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2))
      ∧ r.2.sem = fun _ => 0)

def quiescent_FwdOutRefIdeal [hFwdOutRefIdeal : Cert.FwdOutRefIdeal.Facts] : Prop :=
  ∀ (m : (ℓ : Loc Cert.FwdOutRefIdeal.nD Cert.FwdOutRefIdeal.τ Cert.FwdOutRefIdeal.sig) → Buf (Elt Ideal) ℓ) (g : Dev Cert.FwdOutRefIdeal.nD → PrngReg), Pre_FwdOutRefIdeal m →
    θ_run (Cert.FwdOutRefIdeal.defs (F := Ideal)) (onTc (τ := Cert.FwdOutRefIdeal.τ) (Cert.FwdOutRefIdeal.main (F := Ideal))) ⟨m, fun _ => 0, g⟩ (fun r => (∀ c : Dev Cert.FwdOutRefIdeal.nD,
      r.2.mem ((c.tc : Thread Cert.FwdOutRefIdeal.nD Cert.FwdOutRefIdeal.τ).loc Cert.FwdOutRefIdeal.main_arg0) = m ((c.tc : Thread Cert.FwdOutRefIdeal.nD Cert.FwdOutRefIdeal.τ).loc Cert.FwdOutRefIdeal.main_arg0)
      ∧ r.2.mem ((c.tc : Thread Cert.FwdOutRefIdeal.nD Cert.FwdOutRefIdeal.τ).loc Cert.FwdOutRefIdeal.main_arg1) = m ((c.tc : Thread Cert.FwdOutRefIdeal.nD Cert.FwdOutRefIdeal.τ).loc Cert.FwdOutRefIdeal.main_arg1)
      ∧ r.2.mem ((c.tc : Thread Cert.FwdOutRefIdeal.nD Cert.FwdOutRefIdeal.τ).loc Cert.FwdOutRefIdeal.main_arg2) = m ((c.tc : Thread Cert.FwdOutRefIdeal.nD Cert.FwdOutRefIdeal.τ).loc Cert.FwdOutRefIdeal.main_arg2))
      ∧ r.2.sem = fun _ => 0)

def quiescent_FwdDown [hFwdDown : Cert.FwdDown.Facts] : Prop :=
  ∀ (m : (ℓ : Loc Cert.FwdDown.nD Cert.FwdDown.τ Cert.FwdDown.sig) → Buf (Elt Bits) ℓ) (g : Dev Cert.FwdDown.nD → PrngReg), Pre_FwdDown m →
    θ_run (Cert.FwdDown.defs (F := Bits)) (onTc (τ := Cert.FwdDown.τ) (Cert.FwdDown.main (F := Bits))) ⟨m, fun _ => 0, g⟩ (fun r => (∀ c : Dev Cert.FwdDown.nD,
      r.2.mem ((c.tc : Thread Cert.FwdDown.nD Cert.FwdDown.τ).loc Cert.FwdDown.main_arg0) = m ((c.tc : Thread Cert.FwdDown.nD Cert.FwdDown.τ).loc Cert.FwdDown.main_arg0)
      ∧ r.2.mem ((c.tc : Thread Cert.FwdDown.nD Cert.FwdDown.τ).loc Cert.FwdDown.main_arg1) = m ((c.tc : Thread Cert.FwdDown.nD Cert.FwdDown.τ).loc Cert.FwdDown.main_arg1)
      ∧ r.2.mem ((c.tc : Thread Cert.FwdDown.nD Cert.FwdDown.τ).loc Cert.FwdDown.main_arg2) = m ((c.tc : Thread Cert.FwdDown.nD Cert.FwdDown.τ).loc Cert.FwdDown.main_arg2))
      ∧ r.2.sem = fun _ => 0)

def quiescent_FwdDownIdeal [hFwdDownIdeal : Cert.FwdDownIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg), Pre_FwdDownIdeal m →
    θ_run (Cert.FwdDownIdeal.defs (F := Ideal)) (onTc (τ := Cert.FwdDownIdeal.τ) (Cert.FwdDownIdeal.main (F := Ideal))) ⟨m, fun _ => 0, g⟩ (fun r => (∀ c : Dev Cert.FwdDownIdeal.nD,
      r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
      ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
      ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2))
      ∧ r.2.sem = fun _ => 0)

def quiescent_FwdDownRefIdeal [hFwdDownRefIdeal : Cert.FwdDownRefIdeal.Facts] : Prop :=
  ∀ (m : (ℓ : Loc Cert.FwdDownRefIdeal.nD Cert.FwdDownRefIdeal.τ Cert.FwdDownRefIdeal.sig) → Buf (Elt Ideal) ℓ) (g : Dev Cert.FwdDownRefIdeal.nD → PrngReg), Pre_FwdDownRefIdeal m →
    θ_run (Cert.FwdDownRefIdeal.defs (F := Ideal)) (onTc (τ := Cert.FwdDownRefIdeal.τ) (Cert.FwdDownRefIdeal.main (F := Ideal))) ⟨m, fun _ => 0, g⟩ (fun r => (∀ c : Dev Cert.FwdDownRefIdeal.nD,
      r.2.mem ((c.tc : Thread Cert.FwdDownRefIdeal.nD Cert.FwdDownRefIdeal.τ).loc Cert.FwdDownRefIdeal.main_arg0) = m ((c.tc : Thread Cert.FwdDownRefIdeal.nD Cert.FwdDownRefIdeal.τ).loc Cert.FwdDownRefIdeal.main_arg0)
      ∧ r.2.mem ((c.tc : Thread Cert.FwdDownRefIdeal.nD Cert.FwdDownRefIdeal.τ).loc Cert.FwdDownRefIdeal.main_arg1) = m ((c.tc : Thread Cert.FwdDownRefIdeal.nD Cert.FwdDownRefIdeal.τ).loc Cert.FwdDownRefIdeal.main_arg1)
      ∧ r.2.mem ((c.tc : Thread Cert.FwdDownRefIdeal.nD Cert.FwdDownRefIdeal.τ).loc Cert.FwdDownRefIdeal.main_arg2) = m ((c.tc : Thread Cert.FwdDownRefIdeal.nD Cert.FwdDownRefIdeal.τ).loc Cert.FwdDownRefIdeal.main_arg2))
      ∧ r.2.sem = fun _ => 0)

def quiescent_BwdInX [hBwdInX : Cert.BwdInX.Facts] : Prop :=
  ∀ (m : (ℓ : Loc Cert.BwdInX.nD Cert.BwdInX.τ Cert.BwdInX.sig) → Buf (Elt Bits) ℓ) (g : Dev Cert.BwdInX.nD → PrngReg), Pre_BwdInX m →
    θ_run (Cert.BwdInX.defs (F := Bits)) (onTc (τ := Cert.BwdInX.τ) (Cert.BwdInX.main (F := Bits))) ⟨m, fun _ => 0, g⟩ (fun r => (∀ c : Dev Cert.BwdInX.nD,
      r.2.mem ((c.tc : Thread Cert.BwdInX.nD Cert.BwdInX.τ).loc Cert.BwdInX.main_arg0) = m ((c.tc : Thread Cert.BwdInX.nD Cert.BwdInX.τ).loc Cert.BwdInX.main_arg0)
      ∧ r.2.mem ((c.tc : Thread Cert.BwdInX.nD Cert.BwdInX.τ).loc Cert.BwdInX.main_arg1) = m ((c.tc : Thread Cert.BwdInX.nD Cert.BwdInX.τ).loc Cert.BwdInX.main_arg1))
      ∧ r.2.sem = fun _ => 0)

def quiescent_BwdInXIdeal [hBwdInXIdeal : Cert.BwdInXIdeal.Facts] : Prop :=
  ∀ (m : (ℓ : Loc Cert.BwdInXIdeal.nD Cert.BwdInXIdeal.τ Cert.BwdInXIdeal.sig) → Buf (Elt Ideal) ℓ) (g : Dev Cert.BwdInXIdeal.nD → PrngReg), Pre_BwdInXIdeal m →
    θ_run (Cert.BwdInXIdeal.defs (F := Ideal)) (onTc (τ := Cert.BwdInXIdeal.τ) (Cert.BwdInXIdeal.main (F := Ideal))) ⟨m, fun _ => 0, g⟩ (fun r => (∀ c : Dev Cert.BwdInXIdeal.nD,
      r.2.mem ((c.tc : Thread Cert.BwdInXIdeal.nD Cert.BwdInXIdeal.τ).loc Cert.BwdInXIdeal.main_arg0) = m ((c.tc : Thread Cert.BwdInXIdeal.nD Cert.BwdInXIdeal.τ).loc Cert.BwdInXIdeal.main_arg0)
      ∧ r.2.mem ((c.tc : Thread Cert.BwdInXIdeal.nD Cert.BwdInXIdeal.τ).loc Cert.BwdInXIdeal.main_arg1) = m ((c.tc : Thread Cert.BwdInXIdeal.nD Cert.BwdInXIdeal.τ).loc Cert.BwdInXIdeal.main_arg1))
      ∧ r.2.sem = fun _ => 0)

def quiescent_BwdInXRefIdeal [hBwdInXRefIdeal : Cert.BwdInXRefIdeal.Facts] : Prop :=
  ∀ (m : (ℓ : Loc Cert.BwdInXRefIdeal.nD Cert.BwdInXRefIdeal.τ Cert.BwdInXRefIdeal.sig) → Buf (Elt Ideal) ℓ) (g : Dev Cert.BwdInXRefIdeal.nD → PrngReg), Pre_BwdInXRefIdeal m →
    θ_run (Cert.BwdInXRefIdeal.defs (F := Ideal)) (onTc (τ := Cert.BwdInXRefIdeal.τ) (Cert.BwdInXRefIdeal.main (F := Ideal))) ⟨m, fun _ => 0, g⟩ (fun r => (∀ c : Dev Cert.BwdInXRefIdeal.nD,
      r.2.mem ((c.tc : Thread Cert.BwdInXRefIdeal.nD Cert.BwdInXRefIdeal.τ).loc Cert.BwdInXRefIdeal.main_arg0) = m ((c.tc : Thread Cert.BwdInXRefIdeal.nD Cert.BwdInXRefIdeal.τ).loc Cert.BwdInXRefIdeal.main_arg0)
      ∧ r.2.mem ((c.tc : Thread Cert.BwdInXRefIdeal.nD Cert.BwdInXRefIdeal.τ).loc Cert.BwdInXRefIdeal.main_arg1) = m ((c.tc : Thread Cert.BwdInXRefIdeal.nD Cert.BwdInXRefIdeal.τ).loc Cert.BwdInXRefIdeal.main_arg1))
      ∧ r.2.sem = fun _ => 0)

def quiescent_BwdGuX [hBwdGuX : Cert.BwdGuX.Facts] : Prop :=
  ∀ (m : (ℓ : Loc Cert.BwdGuX.nD Cert.BwdGuX.τ Cert.BwdGuX.sig) → Buf (Elt Bits) ℓ) (g : Dev Cert.BwdGuX.nD → PrngReg), Pre_BwdGuX m →
    θ_run (Cert.BwdGuX.defs (F := Bits)) (onTc (τ := Cert.BwdGuX.τ) (Cert.BwdGuX.main (F := Bits))) ⟨m, fun _ => 0, g⟩ (fun r => (∀ c : Dev Cert.BwdGuX.nD,
      r.2.mem ((c.tc : Thread Cert.BwdGuX.nD Cert.BwdGuX.τ).loc Cert.BwdGuX.main_arg0) = m ((c.tc : Thread Cert.BwdGuX.nD Cert.BwdGuX.τ).loc Cert.BwdGuX.main_arg0)
      ∧ r.2.mem ((c.tc : Thread Cert.BwdGuX.nD Cert.BwdGuX.τ).loc Cert.BwdGuX.main_arg1) = m ((c.tc : Thread Cert.BwdGuX.nD Cert.BwdGuX.τ).loc Cert.BwdGuX.main_arg1))
      ∧ r.2.sem = fun _ => 0)

def quiescent_BwdGuXIdeal [hBwdGuXIdeal : Cert.BwdGuXIdeal.Facts] : Prop :=
  ∀ (m : (ℓ : Loc Cert.BwdGuXIdeal.nD Cert.BwdGuXIdeal.τ Cert.BwdGuXIdeal.sig) → Buf (Elt Ideal) ℓ) (g : Dev Cert.BwdGuXIdeal.nD → PrngReg), Pre_BwdGuXIdeal m →
    θ_run (Cert.BwdGuXIdeal.defs (F := Ideal)) (onTc (τ := Cert.BwdGuXIdeal.τ) (Cert.BwdGuXIdeal.main (F := Ideal))) ⟨m, fun _ => 0, g⟩ (fun r => (∀ c : Dev Cert.BwdGuXIdeal.nD,
      r.2.mem ((c.tc : Thread Cert.BwdGuXIdeal.nD Cert.BwdGuXIdeal.τ).loc Cert.BwdGuXIdeal.main_arg0) = m ((c.tc : Thread Cert.BwdGuXIdeal.nD Cert.BwdGuXIdeal.τ).loc Cert.BwdGuXIdeal.main_arg0)
      ∧ r.2.mem ((c.tc : Thread Cert.BwdGuXIdeal.nD Cert.BwdGuXIdeal.τ).loc Cert.BwdGuXIdeal.main_arg1) = m ((c.tc : Thread Cert.BwdGuXIdeal.nD Cert.BwdGuXIdeal.τ).loc Cert.BwdGuXIdeal.main_arg1))
      ∧ r.2.sem = fun _ => 0)

def quiescent_BwdGuXRefIdeal [hBwdGuXRefIdeal : Cert.BwdGuXRefIdeal.Facts] : Prop :=
  ∀ (m : (ℓ : Loc Cert.BwdGuXRefIdeal.nD Cert.BwdGuXRefIdeal.τ Cert.BwdGuXRefIdeal.sig) → Buf (Elt Ideal) ℓ) (g : Dev Cert.BwdGuXRefIdeal.nD → PrngReg), Pre_BwdGuXRefIdeal m →
    θ_run (Cert.BwdGuXRefIdeal.defs (F := Ideal)) (onTc (τ := Cert.BwdGuXRefIdeal.τ) (Cert.BwdGuXRefIdeal.main (F := Ideal))) ⟨m, fun _ => 0, g⟩ (fun r => (∀ c : Dev Cert.BwdGuXRefIdeal.nD,
      r.2.mem ((c.tc : Thread Cert.BwdGuXRefIdeal.nD Cert.BwdGuXRefIdeal.τ).loc Cert.BwdGuXRefIdeal.main_arg0) = m ((c.tc : Thread Cert.BwdGuXRefIdeal.nD Cert.BwdGuXRefIdeal.τ).loc Cert.BwdGuXRefIdeal.main_arg0)
      ∧ r.2.mem ((c.tc : Thread Cert.BwdGuXRefIdeal.nD Cert.BwdGuXRefIdeal.τ).loc Cert.BwdGuXRefIdeal.main_arg1) = m ((c.tc : Thread Cert.BwdGuXRefIdeal.nD Cert.BwdGuXRefIdeal.τ).loc Cert.BwdGuXRefIdeal.main_arg1))
      ∧ r.2.sem = fun _ => 0)

def quiescent_BwdGluX [hBwdGluX : Cert.BwdGluX.Facts] : Prop :=
  ∀ (m : (ℓ : Loc Cert.BwdGluX.nD Cert.BwdGluX.τ Cert.BwdGluX.sig) → Buf (Elt Bits) ℓ) (g : Dev Cert.BwdGluX.nD → PrngReg), Pre_BwdGluX m →
    θ_run (Cert.BwdGluX.defs (F := Bits)) (onTc (τ := Cert.BwdGluX.τ) (Cert.BwdGluX.main (F := Bits))) ⟨m, fun _ => 0, g⟩ (fun r => (∀ c : Dev Cert.BwdGluX.nD,
      r.2.mem ((c.tc : Thread Cert.BwdGluX.nD Cert.BwdGluX.τ).loc Cert.BwdGluX.main_arg0) = m ((c.tc : Thread Cert.BwdGluX.nD Cert.BwdGluX.τ).loc Cert.BwdGluX.main_arg0)
      ∧ r.2.mem ((c.tc : Thread Cert.BwdGluX.nD Cert.BwdGluX.τ).loc Cert.BwdGluX.main_arg1) = m ((c.tc : Thread Cert.BwdGluX.nD Cert.BwdGluX.τ).loc Cert.BwdGluX.main_arg1)
      ∧ r.2.mem ((c.tc : Thread Cert.BwdGluX.nD Cert.BwdGluX.τ).loc Cert.BwdGluX.main_arg2) = m ((c.tc : Thread Cert.BwdGluX.nD Cert.BwdGluX.τ).loc Cert.BwdGluX.main_arg2))
      ∧ r.2.sem = fun _ => 0)

def quiescent_BwdGluXIdeal [hBwdGluXIdeal : Cert.BwdGluXIdeal.Facts] : Prop :=
  ∀ (m : (ℓ : Loc Cert.BwdGluXIdeal.nD Cert.BwdGluXIdeal.τ Cert.BwdGluXIdeal.sig) → Buf (Elt Ideal) ℓ) (g : Dev Cert.BwdGluXIdeal.nD → PrngReg), Pre_BwdGluXIdeal m →
    θ_run (Cert.BwdGluXIdeal.defs (F := Ideal)) (onTc (τ := Cert.BwdGluXIdeal.τ) (Cert.BwdGluXIdeal.main (F := Ideal))) ⟨m, fun _ => 0, g⟩ (fun r => (∀ c : Dev Cert.BwdGluXIdeal.nD,
      r.2.mem ((c.tc : Thread Cert.BwdGluXIdeal.nD Cert.BwdGluXIdeal.τ).loc Cert.BwdGluXIdeal.main_arg0) = m ((c.tc : Thread Cert.BwdGluXIdeal.nD Cert.BwdGluXIdeal.τ).loc Cert.BwdGluXIdeal.main_arg0)
      ∧ r.2.mem ((c.tc : Thread Cert.BwdGluXIdeal.nD Cert.BwdGluXIdeal.τ).loc Cert.BwdGluXIdeal.main_arg1) = m ((c.tc : Thread Cert.BwdGluXIdeal.nD Cert.BwdGluXIdeal.τ).loc Cert.BwdGluXIdeal.main_arg1)
      ∧ r.2.mem ((c.tc : Thread Cert.BwdGluXIdeal.nD Cert.BwdGluXIdeal.τ).loc Cert.BwdGluXIdeal.main_arg2) = m ((c.tc : Thread Cert.BwdGluXIdeal.nD Cert.BwdGluXIdeal.τ).loc Cert.BwdGluXIdeal.main_arg2))
      ∧ r.2.sem = fun _ => 0)

def quiescent_BwdGluXRefIdeal [hBwdGluXRefIdeal : Cert.BwdGluXRefIdeal.Facts] : Prop :=
  ∀ (m : (ℓ : Loc Cert.BwdGluXRefIdeal.nD Cert.BwdGluXRefIdeal.τ Cert.BwdGluXRefIdeal.sig) → Buf (Elt Ideal) ℓ) (g : Dev Cert.BwdGluXRefIdeal.nD → PrngReg), Pre_BwdGluXRefIdeal m →
    θ_run (Cert.BwdGluXRefIdeal.defs (F := Ideal)) (onTc (τ := Cert.BwdGluXRefIdeal.τ) (Cert.BwdGluXRefIdeal.main (F := Ideal))) ⟨m, fun _ => 0, g⟩ (fun r => (∀ c : Dev Cert.BwdGluXRefIdeal.nD,
      r.2.mem ((c.tc : Thread Cert.BwdGluXRefIdeal.nD Cert.BwdGluXRefIdeal.τ).loc Cert.BwdGluXRefIdeal.main_arg0) = m ((c.tc : Thread Cert.BwdGluXRefIdeal.nD Cert.BwdGluXRefIdeal.τ).loc Cert.BwdGluXRefIdeal.main_arg0)
      ∧ r.2.mem ((c.tc : Thread Cert.BwdGluXRefIdeal.nD Cert.BwdGluXRefIdeal.τ).loc Cert.BwdGluXRefIdeal.main_arg1) = m ((c.tc : Thread Cert.BwdGluXRefIdeal.nD Cert.BwdGluXRefIdeal.τ).loc Cert.BwdGluXRefIdeal.main_arg1)
      ∧ r.2.mem ((c.tc : Thread Cert.BwdGluXRefIdeal.nD Cert.BwdGluXRefIdeal.τ).loc Cert.BwdGluXRefIdeal.main_arg2) = m ((c.tc : Thread Cert.BwdGluXRefIdeal.nD Cert.BwdGluXRefIdeal.τ).loc Cert.BwdGluXRefIdeal.main_arg2))
      ∧ r.2.sem = fun _ => 0)

def quiescent_BwdOutX [hBwdOutX : Cert.BwdOutX.Facts] : Prop :=
  ∀ (m : (ℓ : Loc Cert.BwdOutX.nD Cert.BwdOutX.τ Cert.BwdOutX.sig) → Buf (Elt Bits) ℓ) (g : Dev Cert.BwdOutX.nD → PrngReg), Pre_BwdOutX m →
    θ_run (Cert.BwdOutX.defs (F := Bits)) (onTc (τ := Cert.BwdOutX.τ) (Cert.BwdOutX.main (F := Bits))) ⟨m, fun _ => 0, g⟩ (fun r => (∀ c : Dev Cert.BwdOutX.nD,
      r.2.mem ((c.tc : Thread Cert.BwdOutX.nD Cert.BwdOutX.τ).loc Cert.BwdOutX.main_arg0) = m ((c.tc : Thread Cert.BwdOutX.nD Cert.BwdOutX.τ).loc Cert.BwdOutX.main_arg0)
      ∧ r.2.mem ((c.tc : Thread Cert.BwdOutX.nD Cert.BwdOutX.τ).loc Cert.BwdOutX.main_arg1) = m ((c.tc : Thread Cert.BwdOutX.nD Cert.BwdOutX.τ).loc Cert.BwdOutX.main_arg1))
      ∧ r.2.sem = fun _ => 0)

def quiescent_BwdOutXIdeal [hBwdOutXIdeal : Cert.BwdOutXIdeal.Facts] : Prop :=
  ∀ (m : (ℓ : Loc Cert.BwdOutXIdeal.nD Cert.BwdOutXIdeal.τ Cert.BwdOutXIdeal.sig) → Buf (Elt Ideal) ℓ) (g : Dev Cert.BwdOutXIdeal.nD → PrngReg), Pre_BwdOutXIdeal m →
    θ_run (Cert.BwdOutXIdeal.defs (F := Ideal)) (onTc (τ := Cert.BwdOutXIdeal.τ) (Cert.BwdOutXIdeal.main (F := Ideal))) ⟨m, fun _ => 0, g⟩ (fun r => (∀ c : Dev Cert.BwdOutXIdeal.nD,
      r.2.mem ((c.tc : Thread Cert.BwdOutXIdeal.nD Cert.BwdOutXIdeal.τ).loc Cert.BwdOutXIdeal.main_arg0) = m ((c.tc : Thread Cert.BwdOutXIdeal.nD Cert.BwdOutXIdeal.τ).loc Cert.BwdOutXIdeal.main_arg0)
      ∧ r.2.mem ((c.tc : Thread Cert.BwdOutXIdeal.nD Cert.BwdOutXIdeal.τ).loc Cert.BwdOutXIdeal.main_arg1) = m ((c.tc : Thread Cert.BwdOutXIdeal.nD Cert.BwdOutXIdeal.τ).loc Cert.BwdOutXIdeal.main_arg1))
      ∧ r.2.sem = fun _ => 0)

def quiescent_BwdOutXRefIdeal [hBwdOutXRefIdeal : Cert.BwdOutXRefIdeal.Facts] : Prop :=
  ∀ (m : (ℓ : Loc Cert.BwdOutXRefIdeal.nD Cert.BwdOutXRefIdeal.τ Cert.BwdOutXRefIdeal.sig) → Buf (Elt Ideal) ℓ) (g : Dev Cert.BwdOutXRefIdeal.nD → PrngReg), Pre_BwdOutXRefIdeal m →
    θ_run (Cert.BwdOutXRefIdeal.defs (F := Ideal)) (onTc (τ := Cert.BwdOutXRefIdeal.τ) (Cert.BwdOutXRefIdeal.main (F := Ideal))) ⟨m, fun _ => 0, g⟩ (fun r => (∀ c : Dev Cert.BwdOutXRefIdeal.nD,
      r.2.mem ((c.tc : Thread Cert.BwdOutXRefIdeal.nD Cert.BwdOutXRefIdeal.τ).loc Cert.BwdOutXRefIdeal.main_arg0) = m ((c.tc : Thread Cert.BwdOutXRefIdeal.nD Cert.BwdOutXRefIdeal.τ).loc Cert.BwdOutXRefIdeal.main_arg0)
      ∧ r.2.mem ((c.tc : Thread Cert.BwdOutXRefIdeal.nD Cert.BwdOutXRefIdeal.τ).loc Cert.BwdOutXRefIdeal.main_arg1) = m ((c.tc : Thread Cert.BwdOutXRefIdeal.nD Cert.BwdOutXRefIdeal.τ).loc Cert.BwdOutXRefIdeal.main_arg1))
      ∧ r.2.sem = fun _ => 0)

def quiescent_BwdDownX [hBwdDownX : Cert.BwdDownX.Facts] : Prop :=
  ∀ (m : (ℓ : Loc Cert.BwdDownX.nD Cert.BwdDownX.τ Cert.BwdDownX.sig) → Buf (Elt Bits) ℓ) (g : Dev Cert.BwdDownX.nD → PrngReg), Pre_BwdDownX m →
    θ_run (Cert.BwdDownX.defs (F := Bits)) (onTc (τ := Cert.BwdDownX.τ) (Cert.BwdDownX.main (F := Bits))) ⟨m, fun _ => 0, g⟩ (fun r => (∀ c : Dev Cert.BwdDownX.nD,
      r.2.mem ((c.tc : Thread Cert.BwdDownX.nD Cert.BwdDownX.τ).loc Cert.BwdDownX.main_arg0) = m ((c.tc : Thread Cert.BwdDownX.nD Cert.BwdDownX.τ).loc Cert.BwdDownX.main_arg0)
      ∧ r.2.mem ((c.tc : Thread Cert.BwdDownX.nD Cert.BwdDownX.τ).loc Cert.BwdDownX.main_arg1) = m ((c.tc : Thread Cert.BwdDownX.nD Cert.BwdDownX.τ).loc Cert.BwdDownX.main_arg1))
      ∧ r.2.sem = fun _ => 0)

def quiescent_BwdDownXIdeal [hBwdDownXIdeal : Cert.BwdDownXIdeal.Facts] : Prop :=
  ∀ (m : (ℓ : Loc Cert.BwdDownXIdeal.nD Cert.BwdDownXIdeal.τ Cert.BwdDownXIdeal.sig) → Buf (Elt Ideal) ℓ) (g : Dev Cert.BwdDownXIdeal.nD → PrngReg), Pre_BwdDownXIdeal m →
    θ_run (Cert.BwdDownXIdeal.defs (F := Ideal)) (onTc (τ := Cert.BwdDownXIdeal.τ) (Cert.BwdDownXIdeal.main (F := Ideal))) ⟨m, fun _ => 0, g⟩ (fun r => (∀ c : Dev Cert.BwdDownXIdeal.nD,
      r.2.mem ((c.tc : Thread Cert.BwdDownXIdeal.nD Cert.BwdDownXIdeal.τ).loc Cert.BwdDownXIdeal.main_arg0) = m ((c.tc : Thread Cert.BwdDownXIdeal.nD Cert.BwdDownXIdeal.τ).loc Cert.BwdDownXIdeal.main_arg0)
      ∧ r.2.mem ((c.tc : Thread Cert.BwdDownXIdeal.nD Cert.BwdDownXIdeal.τ).loc Cert.BwdDownXIdeal.main_arg1) = m ((c.tc : Thread Cert.BwdDownXIdeal.nD Cert.BwdDownXIdeal.τ).loc Cert.BwdDownXIdeal.main_arg1))
      ∧ r.2.sem = fun _ => 0)

def quiescent_BwdDownXRefIdeal [hBwdDownXRefIdeal : Cert.BwdDownXRefIdeal.Facts] : Prop :=
  ∀ (m : (ℓ : Loc Cert.BwdDownXRefIdeal.nD Cert.BwdDownXRefIdeal.τ Cert.BwdDownXRefIdeal.sig) → Buf (Elt Ideal) ℓ) (g : Dev Cert.BwdDownXRefIdeal.nD → PrngReg), Pre_BwdDownXRefIdeal m →
    θ_run (Cert.BwdDownXRefIdeal.defs (F := Ideal)) (onTc (τ := Cert.BwdDownXRefIdeal.τ) (Cert.BwdDownXRefIdeal.main (F := Ideal))) ⟨m, fun _ => 0, g⟩ (fun r => (∀ c : Dev Cert.BwdDownXRefIdeal.nD,
      r.2.mem ((c.tc : Thread Cert.BwdDownXRefIdeal.nD Cert.BwdDownXRefIdeal.τ).loc Cert.BwdDownXRefIdeal.main_arg0) = m ((c.tc : Thread Cert.BwdDownXRefIdeal.nD Cert.BwdDownXRefIdeal.τ).loc Cert.BwdDownXRefIdeal.main_arg0)
      ∧ r.2.mem ((c.tc : Thread Cert.BwdDownXRefIdeal.nD Cert.BwdDownXRefIdeal.τ).loc Cert.BwdDownXRefIdeal.main_arg1) = m ((c.tc : Thread Cert.BwdDownXRefIdeal.nD Cert.BwdDownXRefIdeal.τ).loc Cert.BwdDownXRefIdeal.main_arg1))
      ∧ r.2.sem = fun _ => 0)

def quiescent_BwdInW [hBwdInW : Cert.BwdInW.Facts] : Prop :=
  ∀ (m : (ℓ : Loc Cert.BwdInW.nD Cert.BwdInW.τ Cert.BwdInW.sig) → Buf (Elt Bits) ℓ) (g : Dev Cert.BwdInW.nD → PrngReg), Pre_BwdInW m →
    θ_run (Cert.BwdInW.defs (F := Bits)) (onTc (τ := Cert.BwdInW.τ) (Cert.BwdInW.main (F := Bits))) ⟨m, fun _ => 0, g⟩ (fun r => (∀ c : Dev Cert.BwdInW.nD,
      r.2.mem ((c.tc : Thread Cert.BwdInW.nD Cert.BwdInW.τ).loc Cert.BwdInW.main_arg0) = m ((c.tc : Thread Cert.BwdInW.nD Cert.BwdInW.τ).loc Cert.BwdInW.main_arg0)
      ∧ r.2.mem ((c.tc : Thread Cert.BwdInW.nD Cert.BwdInW.τ).loc Cert.BwdInW.main_arg1) = m ((c.tc : Thread Cert.BwdInW.nD Cert.BwdInW.τ).loc Cert.BwdInW.main_arg1))
      ∧ r.2.sem = fun _ => 0)

def quiescent_BwdInWIdeal [hBwdInWIdeal : Cert.BwdInWIdeal.Facts] : Prop :=
  ∀ (m : (ℓ : Loc Cert.BwdInWIdeal.nD Cert.BwdInWIdeal.τ Cert.BwdInWIdeal.sig) → Buf (Elt Ideal) ℓ) (g : Dev Cert.BwdInWIdeal.nD → PrngReg), Pre_BwdInWIdeal m →
    θ_run (Cert.BwdInWIdeal.defs (F := Ideal)) (onTc (τ := Cert.BwdInWIdeal.τ) (Cert.BwdInWIdeal.main (F := Ideal))) ⟨m, fun _ => 0, g⟩ (fun r => (∀ c : Dev Cert.BwdInWIdeal.nD,
      r.2.mem ((c.tc : Thread Cert.BwdInWIdeal.nD Cert.BwdInWIdeal.τ).loc Cert.BwdInWIdeal.main_arg0) = m ((c.tc : Thread Cert.BwdInWIdeal.nD Cert.BwdInWIdeal.τ).loc Cert.BwdInWIdeal.main_arg0)
      ∧ r.2.mem ((c.tc : Thread Cert.BwdInWIdeal.nD Cert.BwdInWIdeal.τ).loc Cert.BwdInWIdeal.main_arg1) = m ((c.tc : Thread Cert.BwdInWIdeal.nD Cert.BwdInWIdeal.τ).loc Cert.BwdInWIdeal.main_arg1))
      ∧ r.2.sem = fun _ => 0)

def quiescent_BwdInWRefIdeal [hBwdInWRefIdeal : Cert.BwdInWRefIdeal.Facts] : Prop :=
  ∀ (m : (ℓ : Loc Cert.BwdInWRefIdeal.nD Cert.BwdInWRefIdeal.τ Cert.BwdInWRefIdeal.sig) → Buf (Elt Ideal) ℓ) (g : Dev Cert.BwdInWRefIdeal.nD → PrngReg), Pre_BwdInWRefIdeal m →
    θ_run (Cert.BwdInWRefIdeal.defs (F := Ideal)) (onTc (τ := Cert.BwdInWRefIdeal.τ) (Cert.BwdInWRefIdeal.main (F := Ideal))) ⟨m, fun _ => 0, g⟩ (fun r => (∀ c : Dev Cert.BwdInWRefIdeal.nD,
      r.2.mem ((c.tc : Thread Cert.BwdInWRefIdeal.nD Cert.BwdInWRefIdeal.τ).loc Cert.BwdInWRefIdeal.main_arg0) = m ((c.tc : Thread Cert.BwdInWRefIdeal.nD Cert.BwdInWRefIdeal.τ).loc Cert.BwdInWRefIdeal.main_arg0)
      ∧ r.2.mem ((c.tc : Thread Cert.BwdInWRefIdeal.nD Cert.BwdInWRefIdeal.τ).loc Cert.BwdInWRefIdeal.main_arg1) = m ((c.tc : Thread Cert.BwdInWRefIdeal.nD Cert.BwdInWRefIdeal.τ).loc Cert.BwdInWRefIdeal.main_arg1))
      ∧ r.2.sem = fun _ => 0)

def quiescent_BwdGuW [hBwdGuW : Cert.BwdGuW.Facts] : Prop :=
  ∀ (m : (ℓ : Loc Cert.BwdGuW.nD Cert.BwdGuW.τ Cert.BwdGuW.sig) → Buf (Elt Bits) ℓ) (g : Dev Cert.BwdGuW.nD → PrngReg), Pre_BwdGuW m →
    θ_run (Cert.BwdGuW.defs (F := Bits)) (onTc (τ := Cert.BwdGuW.τ) (Cert.BwdGuW.main (F := Bits))) ⟨m, fun _ => 0, g⟩ (fun r => (∀ c : Dev Cert.BwdGuW.nD,
      r.2.mem ((c.tc : Thread Cert.BwdGuW.nD Cert.BwdGuW.τ).loc Cert.BwdGuW.main_arg0) = m ((c.tc : Thread Cert.BwdGuW.nD Cert.BwdGuW.τ).loc Cert.BwdGuW.main_arg0)
      ∧ r.2.mem ((c.tc : Thread Cert.BwdGuW.nD Cert.BwdGuW.τ).loc Cert.BwdGuW.main_arg1) = m ((c.tc : Thread Cert.BwdGuW.nD Cert.BwdGuW.τ).loc Cert.BwdGuW.main_arg1))
      ∧ r.2.sem = fun _ => 0)

def quiescent_BwdGuWIdeal [hBwdGuWIdeal : Cert.BwdGuWIdeal.Facts] : Prop :=
  ∀ (m : (ℓ : Loc Cert.BwdGuWIdeal.nD Cert.BwdGuWIdeal.τ Cert.BwdGuWIdeal.sig) → Buf (Elt Ideal) ℓ) (g : Dev Cert.BwdGuWIdeal.nD → PrngReg), Pre_BwdGuWIdeal m →
    θ_run (Cert.BwdGuWIdeal.defs (F := Ideal)) (onTc (τ := Cert.BwdGuWIdeal.τ) (Cert.BwdGuWIdeal.main (F := Ideal))) ⟨m, fun _ => 0, g⟩ (fun r => (∀ c : Dev Cert.BwdGuWIdeal.nD,
      r.2.mem ((c.tc : Thread Cert.BwdGuWIdeal.nD Cert.BwdGuWIdeal.τ).loc Cert.BwdGuWIdeal.main_arg0) = m ((c.tc : Thread Cert.BwdGuWIdeal.nD Cert.BwdGuWIdeal.τ).loc Cert.BwdGuWIdeal.main_arg0)
      ∧ r.2.mem ((c.tc : Thread Cert.BwdGuWIdeal.nD Cert.BwdGuWIdeal.τ).loc Cert.BwdGuWIdeal.main_arg1) = m ((c.tc : Thread Cert.BwdGuWIdeal.nD Cert.BwdGuWIdeal.τ).loc Cert.BwdGuWIdeal.main_arg1))
      ∧ r.2.sem = fun _ => 0)

def quiescent_BwdGuWRefIdeal [hBwdGuWRefIdeal : Cert.BwdGuWRefIdeal.Facts] : Prop :=
  ∀ (m : (ℓ : Loc Cert.BwdGuWRefIdeal.nD Cert.BwdGuWRefIdeal.τ Cert.BwdGuWRefIdeal.sig) → Buf (Elt Ideal) ℓ) (g : Dev Cert.BwdGuWRefIdeal.nD → PrngReg), Pre_BwdGuWRefIdeal m →
    θ_run (Cert.BwdGuWRefIdeal.defs (F := Ideal)) (onTc (τ := Cert.BwdGuWRefIdeal.τ) (Cert.BwdGuWRefIdeal.main (F := Ideal))) ⟨m, fun _ => 0, g⟩ (fun r => (∀ c : Dev Cert.BwdGuWRefIdeal.nD,
      r.2.mem ((c.tc : Thread Cert.BwdGuWRefIdeal.nD Cert.BwdGuWRefIdeal.τ).loc Cert.BwdGuWRefIdeal.main_arg0) = m ((c.tc : Thread Cert.BwdGuWRefIdeal.nD Cert.BwdGuWRefIdeal.τ).loc Cert.BwdGuWRefIdeal.main_arg0)
      ∧ r.2.mem ((c.tc : Thread Cert.BwdGuWRefIdeal.nD Cert.BwdGuWRefIdeal.τ).loc Cert.BwdGuWRefIdeal.main_arg1) = m ((c.tc : Thread Cert.BwdGuWRefIdeal.nD Cert.BwdGuWRefIdeal.τ).loc Cert.BwdGuWRefIdeal.main_arg1))
      ∧ r.2.sem = fun _ => 0)

def quiescent_BwdOutW [hBwdOutW : Cert.BwdOutW.Facts] : Prop :=
  ∀ (m : (ℓ : Loc Cert.BwdOutW.nD Cert.BwdOutW.τ Cert.BwdOutW.sig) → Buf (Elt Bits) ℓ) (g : Dev Cert.BwdOutW.nD → PrngReg), Pre_BwdOutW m →
    θ_run (Cert.BwdOutW.defs (F := Bits)) (onTc (τ := Cert.BwdOutW.τ) (Cert.BwdOutW.main (F := Bits))) ⟨m, fun _ => 0, g⟩ (fun r => (∀ c : Dev Cert.BwdOutW.nD,
      r.2.mem ((c.tc : Thread Cert.BwdOutW.nD Cert.BwdOutW.τ).loc Cert.BwdOutW.main_arg0) = m ((c.tc : Thread Cert.BwdOutW.nD Cert.BwdOutW.τ).loc Cert.BwdOutW.main_arg0)
      ∧ r.2.mem ((c.tc : Thread Cert.BwdOutW.nD Cert.BwdOutW.τ).loc Cert.BwdOutW.main_arg1) = m ((c.tc : Thread Cert.BwdOutW.nD Cert.BwdOutW.τ).loc Cert.BwdOutW.main_arg1))
      ∧ r.2.sem = fun _ => 0)

def quiescent_BwdOutWIdeal [hBwdOutWIdeal : Cert.BwdOutWIdeal.Facts] : Prop :=
  ∀ (m : (ℓ : Loc Cert.BwdOutWIdeal.nD Cert.BwdOutWIdeal.τ Cert.BwdOutWIdeal.sig) → Buf (Elt Ideal) ℓ) (g : Dev Cert.BwdOutWIdeal.nD → PrngReg), Pre_BwdOutWIdeal m →
    θ_run (Cert.BwdOutWIdeal.defs (F := Ideal)) (onTc (τ := Cert.BwdOutWIdeal.τ) (Cert.BwdOutWIdeal.main (F := Ideal))) ⟨m, fun _ => 0, g⟩ (fun r => (∀ c : Dev Cert.BwdOutWIdeal.nD,
      r.2.mem ((c.tc : Thread Cert.BwdOutWIdeal.nD Cert.BwdOutWIdeal.τ).loc Cert.BwdOutWIdeal.main_arg0) = m ((c.tc : Thread Cert.BwdOutWIdeal.nD Cert.BwdOutWIdeal.τ).loc Cert.BwdOutWIdeal.main_arg0)
      ∧ r.2.mem ((c.tc : Thread Cert.BwdOutWIdeal.nD Cert.BwdOutWIdeal.τ).loc Cert.BwdOutWIdeal.main_arg1) = m ((c.tc : Thread Cert.BwdOutWIdeal.nD Cert.BwdOutWIdeal.τ).loc Cert.BwdOutWIdeal.main_arg1))
      ∧ r.2.sem = fun _ => 0)

def quiescent_BwdOutWRefIdeal [hBwdOutWRefIdeal : Cert.BwdOutWRefIdeal.Facts] : Prop :=
  ∀ (m : (ℓ : Loc Cert.BwdOutWRefIdeal.nD Cert.BwdOutWRefIdeal.τ Cert.BwdOutWRefIdeal.sig) → Buf (Elt Ideal) ℓ) (g : Dev Cert.BwdOutWRefIdeal.nD → PrngReg), Pre_BwdOutWRefIdeal m →
    θ_run (Cert.BwdOutWRefIdeal.defs (F := Ideal)) (onTc (τ := Cert.BwdOutWRefIdeal.τ) (Cert.BwdOutWRefIdeal.main (F := Ideal))) ⟨m, fun _ => 0, g⟩ (fun r => (∀ c : Dev Cert.BwdOutWRefIdeal.nD,
      r.2.mem ((c.tc : Thread Cert.BwdOutWRefIdeal.nD Cert.BwdOutWRefIdeal.τ).loc Cert.BwdOutWRefIdeal.main_arg0) = m ((c.tc : Thread Cert.BwdOutWRefIdeal.nD Cert.BwdOutWRefIdeal.τ).loc Cert.BwdOutWRefIdeal.main_arg0)
      ∧ r.2.mem ((c.tc : Thread Cert.BwdOutWRefIdeal.nD Cert.BwdOutWRefIdeal.τ).loc Cert.BwdOutWRefIdeal.main_arg1) = m ((c.tc : Thread Cert.BwdOutWRefIdeal.nD Cert.BwdOutWRefIdeal.τ).loc Cert.BwdOutWRefIdeal.main_arg1))
      ∧ r.2.sem = fun _ => 0)

def quiescent_BwdDownW [hBwdDownW : Cert.BwdDownW.Facts] : Prop :=
  ∀ (m : (ℓ : Loc Cert.BwdDownW.nD Cert.BwdDownW.τ Cert.BwdDownW.sig) → Buf (Elt Bits) ℓ) (g : Dev Cert.BwdDownW.nD → PrngReg), Pre_BwdDownW m →
    θ_run (Cert.BwdDownW.defs (F := Bits)) (onTc (τ := Cert.BwdDownW.τ) (Cert.BwdDownW.main (F := Bits))) ⟨m, fun _ => 0, g⟩ (fun r => (∀ c : Dev Cert.BwdDownW.nD,
      r.2.mem ((c.tc : Thread Cert.BwdDownW.nD Cert.BwdDownW.τ).loc Cert.BwdDownW.main_arg0) = m ((c.tc : Thread Cert.BwdDownW.nD Cert.BwdDownW.τ).loc Cert.BwdDownW.main_arg0)
      ∧ r.2.mem ((c.tc : Thread Cert.BwdDownW.nD Cert.BwdDownW.τ).loc Cert.BwdDownW.main_arg1) = m ((c.tc : Thread Cert.BwdDownW.nD Cert.BwdDownW.τ).loc Cert.BwdDownW.main_arg1))
      ∧ r.2.sem = fun _ => 0)

def quiescent_BwdDownWIdeal [hBwdDownWIdeal : Cert.BwdDownWIdeal.Facts] : Prop :=
  ∀ (m : (ℓ : Loc Cert.BwdDownWIdeal.nD Cert.BwdDownWIdeal.τ Cert.BwdDownWIdeal.sig) → Buf (Elt Ideal) ℓ) (g : Dev Cert.BwdDownWIdeal.nD → PrngReg), Pre_BwdDownWIdeal m →
    θ_run (Cert.BwdDownWIdeal.defs (F := Ideal)) (onTc (τ := Cert.BwdDownWIdeal.τ) (Cert.BwdDownWIdeal.main (F := Ideal))) ⟨m, fun _ => 0, g⟩ (fun r => (∀ c : Dev Cert.BwdDownWIdeal.nD,
      r.2.mem ((c.tc : Thread Cert.BwdDownWIdeal.nD Cert.BwdDownWIdeal.τ).loc Cert.BwdDownWIdeal.main_arg0) = m ((c.tc : Thread Cert.BwdDownWIdeal.nD Cert.BwdDownWIdeal.τ).loc Cert.BwdDownWIdeal.main_arg0)
      ∧ r.2.mem ((c.tc : Thread Cert.BwdDownWIdeal.nD Cert.BwdDownWIdeal.τ).loc Cert.BwdDownWIdeal.main_arg1) = m ((c.tc : Thread Cert.BwdDownWIdeal.nD Cert.BwdDownWIdeal.τ).loc Cert.BwdDownWIdeal.main_arg1))
      ∧ r.2.sem = fun _ => 0)

def quiescent_BwdDownWRefIdeal [hBwdDownWRefIdeal : Cert.BwdDownWRefIdeal.Facts] : Prop :=
  ∀ (m : (ℓ : Loc Cert.BwdDownWRefIdeal.nD Cert.BwdDownWRefIdeal.τ Cert.BwdDownWRefIdeal.sig) → Buf (Elt Ideal) ℓ) (g : Dev Cert.BwdDownWRefIdeal.nD → PrngReg), Pre_BwdDownWRefIdeal m →
    θ_run (Cert.BwdDownWRefIdeal.defs (F := Ideal)) (onTc (τ := Cert.BwdDownWRefIdeal.τ) (Cert.BwdDownWRefIdeal.main (F := Ideal))) ⟨m, fun _ => 0, g⟩ (fun r => (∀ c : Dev Cert.BwdDownWRefIdeal.nD,
      r.2.mem ((c.tc : Thread Cert.BwdDownWRefIdeal.nD Cert.BwdDownWRefIdeal.τ).loc Cert.BwdDownWRefIdeal.main_arg0) = m ((c.tc : Thread Cert.BwdDownWRefIdeal.nD Cert.BwdDownWRefIdeal.τ).loc Cert.BwdDownWRefIdeal.main_arg0)
      ∧ r.2.mem ((c.tc : Thread Cert.BwdDownWRefIdeal.nD Cert.BwdDownWRefIdeal.τ).loc Cert.BwdDownWRefIdeal.main_arg1) = m ((c.tc : Thread Cert.BwdDownWRefIdeal.nD Cert.BwdDownWRefIdeal.τ).loc Cert.BwdDownWRefIdeal.main_arg1))
      ∧ r.2.sem = fun _ => 0)

def quiescent_BwdRms [hBwdRms : Cert.BwdRms.Facts] : Prop :=
  ∀ (m : (ℓ : Loc Cert.BwdRms.nD Cert.BwdRms.τ Cert.BwdRms.sig) → Buf (Elt Bits) ℓ) (g : Dev Cert.BwdRms.nD → PrngReg), Pre_BwdRms m →
    θ_run (Cert.BwdRms.defs (F := Bits)) (onTc (τ := Cert.BwdRms.τ) (Cert.BwdRms.main (F := Bits))) ⟨m, fun _ => 0, g⟩ (fun r => (∀ c : Dev Cert.BwdRms.nD,
      r.2.mem ((c.tc : Thread Cert.BwdRms.nD Cert.BwdRms.τ).loc Cert.BwdRms.main_arg0) = m ((c.tc : Thread Cert.BwdRms.nD Cert.BwdRms.τ).loc Cert.BwdRms.main_arg0)
      ∧ r.2.mem ((c.tc : Thread Cert.BwdRms.nD Cert.BwdRms.τ).loc Cert.BwdRms.main_arg1) = m ((c.tc : Thread Cert.BwdRms.nD Cert.BwdRms.τ).loc Cert.BwdRms.main_arg1)
      ∧ r.2.mem ((c.tc : Thread Cert.BwdRms.nD Cert.BwdRms.τ).loc Cert.BwdRms.main_arg2) = m ((c.tc : Thread Cert.BwdRms.nD Cert.BwdRms.τ).loc Cert.BwdRms.main_arg2)
      ∧ r.2.mem ((c.tc : Thread Cert.BwdRms.nD Cert.BwdRms.τ).loc Cert.BwdRms.main_arg3) = m ((c.tc : Thread Cert.BwdRms.nD Cert.BwdRms.τ).loc Cert.BwdRms.main_arg3))
      ∧ r.2.sem = fun _ => 0)

def quiescent_BwdRmsIdeal [hBwdRmsIdeal : Cert.BwdRmsIdeal.Facts] : Prop :=
  ∀ (m : (ℓ : Loc Cert.BwdRmsIdeal.nD Cert.BwdRmsIdeal.τ Cert.BwdRmsIdeal.sig) → Buf (Elt Ideal) ℓ) (g : Dev Cert.BwdRmsIdeal.nD → PrngReg), Pre_BwdRmsIdeal m →
    θ_run (Cert.BwdRmsIdeal.defs (F := Ideal)) (onTc (τ := Cert.BwdRmsIdeal.τ) (Cert.BwdRmsIdeal.main (F := Ideal))) ⟨m, fun _ => 0, g⟩ (fun r => (∀ c : Dev Cert.BwdRmsIdeal.nD,
      r.2.mem ((c.tc : Thread Cert.BwdRmsIdeal.nD Cert.BwdRmsIdeal.τ).loc Cert.BwdRmsIdeal.main_arg0) = m ((c.tc : Thread Cert.BwdRmsIdeal.nD Cert.BwdRmsIdeal.τ).loc Cert.BwdRmsIdeal.main_arg0)
      ∧ r.2.mem ((c.tc : Thread Cert.BwdRmsIdeal.nD Cert.BwdRmsIdeal.τ).loc Cert.BwdRmsIdeal.main_arg1) = m ((c.tc : Thread Cert.BwdRmsIdeal.nD Cert.BwdRmsIdeal.τ).loc Cert.BwdRmsIdeal.main_arg1)
      ∧ r.2.mem ((c.tc : Thread Cert.BwdRmsIdeal.nD Cert.BwdRmsIdeal.τ).loc Cert.BwdRmsIdeal.main_arg2) = m ((c.tc : Thread Cert.BwdRmsIdeal.nD Cert.BwdRmsIdeal.τ).loc Cert.BwdRmsIdeal.main_arg2)
      ∧ r.2.mem ((c.tc : Thread Cert.BwdRmsIdeal.nD Cert.BwdRmsIdeal.τ).loc Cert.BwdRmsIdeal.main_arg3) = m ((c.tc : Thread Cert.BwdRmsIdeal.nD Cert.BwdRmsIdeal.τ).loc Cert.BwdRmsIdeal.main_arg3))
      ∧ r.2.sem = fun _ => 0)

def quiescent_BwdRmsRefIdeal [hBwdRmsRefIdeal : Cert.BwdRmsRefIdeal.Facts] : Prop :=
  ∀ (m : (ℓ : Loc Cert.BwdRmsRefIdeal.nD Cert.BwdRmsRefIdeal.τ Cert.BwdRmsRefIdeal.sig) → Buf (Elt Ideal) ℓ) (g : Dev Cert.BwdRmsRefIdeal.nD → PrngReg), Pre_BwdRmsRefIdeal m →
    θ_run (Cert.BwdRmsRefIdeal.defs (F := Ideal)) (onTc (τ := Cert.BwdRmsRefIdeal.τ) (Cert.BwdRmsRefIdeal.main (F := Ideal))) ⟨m, fun _ => 0, g⟩ (fun r => (∀ c : Dev Cert.BwdRmsRefIdeal.nD,
      r.2.mem ((c.tc : Thread Cert.BwdRmsRefIdeal.nD Cert.BwdRmsRefIdeal.τ).loc Cert.BwdRmsRefIdeal.main_arg0) = m ((c.tc : Thread Cert.BwdRmsRefIdeal.nD Cert.BwdRmsRefIdeal.τ).loc Cert.BwdRmsRefIdeal.main_arg0)
      ∧ r.2.mem ((c.tc : Thread Cert.BwdRmsRefIdeal.nD Cert.BwdRmsRefIdeal.τ).loc Cert.BwdRmsRefIdeal.main_arg1) = m ((c.tc : Thread Cert.BwdRmsRefIdeal.nD Cert.BwdRmsRefIdeal.τ).loc Cert.BwdRmsRefIdeal.main_arg1)
      ∧ r.2.mem ((c.tc : Thread Cert.BwdRmsRefIdeal.nD Cert.BwdRmsRefIdeal.τ).loc Cert.BwdRmsRefIdeal.main_arg2) = m ((c.tc : Thread Cert.BwdRmsRefIdeal.nD Cert.BwdRmsRefIdeal.τ).loc Cert.BwdRmsRefIdeal.main_arg2)
      ∧ r.2.mem ((c.tc : Thread Cert.BwdRmsRefIdeal.nD Cert.BwdRmsRefIdeal.τ).loc Cert.BwdRmsRefIdeal.main_arg3) = m ((c.tc : Thread Cert.BwdRmsRefIdeal.nD Cert.BwdRmsRefIdeal.τ).loc Cert.BwdRmsRefIdeal.main_arg3))
      ∧ r.2.sem = fun _ => 0)

def quiescent_BwdGlu [hBwdGlu : Cert.BwdGlu.Facts] : Prop :=
  ∀ (m : (ℓ : Loc Cert.BwdGlu.nD Cert.BwdGlu.τ Cert.BwdGlu.sig) → Buf (Elt Bits) ℓ) (g : Dev Cert.BwdGlu.nD → PrngReg), Pre_BwdGlu m →
    θ_run (Cert.BwdGlu.defs (F := Bits)) (onTc (τ := Cert.BwdGlu.τ) (Cert.BwdGlu.main (F := Bits))) ⟨m, fun _ => 0, g⟩ (fun r => (∀ c : Dev Cert.BwdGlu.nD,
      r.2.mem ((c.tc : Thread Cert.BwdGlu.nD Cert.BwdGlu.τ).loc Cert.BwdGlu.main_arg0) = m ((c.tc : Thread Cert.BwdGlu.nD Cert.BwdGlu.τ).loc Cert.BwdGlu.main_arg0)
      ∧ r.2.mem ((c.tc : Thread Cert.BwdGlu.nD Cert.BwdGlu.τ).loc Cert.BwdGlu.main_arg1) = m ((c.tc : Thread Cert.BwdGlu.nD Cert.BwdGlu.τ).loc Cert.BwdGlu.main_arg1))
      ∧ r.2.sem = fun _ => 0)

def quiescent_BwdGluIdeal [hBwdGluIdeal : Cert.BwdGluIdeal.Facts] : Prop :=
  ∀ (m : (ℓ : Loc Cert.BwdGluIdeal.nD Cert.BwdGluIdeal.τ Cert.BwdGluIdeal.sig) → Buf (Elt Ideal) ℓ) (g : Dev Cert.BwdGluIdeal.nD → PrngReg), Pre_BwdGluIdeal m →
    θ_run (Cert.BwdGluIdeal.defs (F := Ideal)) (onTc (τ := Cert.BwdGluIdeal.τ) (Cert.BwdGluIdeal.main (F := Ideal))) ⟨m, fun _ => 0, g⟩ (fun r => (∀ c : Dev Cert.BwdGluIdeal.nD,
      r.2.mem ((c.tc : Thread Cert.BwdGluIdeal.nD Cert.BwdGluIdeal.τ).loc Cert.BwdGluIdeal.main_arg0) = m ((c.tc : Thread Cert.BwdGluIdeal.nD Cert.BwdGluIdeal.τ).loc Cert.BwdGluIdeal.main_arg0)
      ∧ r.2.mem ((c.tc : Thread Cert.BwdGluIdeal.nD Cert.BwdGluIdeal.τ).loc Cert.BwdGluIdeal.main_arg1) = m ((c.tc : Thread Cert.BwdGluIdeal.nD Cert.BwdGluIdeal.τ).loc Cert.BwdGluIdeal.main_arg1))
      ∧ r.2.sem = fun _ => 0)

def quiescent_BwdGluRefIdeal [hBwdGluRefIdeal : Cert.BwdGluRefIdeal.Facts] : Prop :=
  ∀ (m : (ℓ : Loc Cert.BwdGluRefIdeal.nD Cert.BwdGluRefIdeal.τ Cert.BwdGluRefIdeal.sig) → Buf (Elt Ideal) ℓ) (g : Dev Cert.BwdGluRefIdeal.nD → PrngReg), Pre_BwdGluRefIdeal m →
    θ_run (Cert.BwdGluRefIdeal.defs (F := Ideal)) (onTc (τ := Cert.BwdGluRefIdeal.τ) (Cert.BwdGluRefIdeal.main (F := Ideal))) ⟨m, fun _ => 0, g⟩ (fun r => (∀ c : Dev Cert.BwdGluRefIdeal.nD,
      r.2.mem ((c.tc : Thread Cert.BwdGluRefIdeal.nD Cert.BwdGluRefIdeal.τ).loc Cert.BwdGluRefIdeal.main_arg0) = m ((c.tc : Thread Cert.BwdGluRefIdeal.nD Cert.BwdGluRefIdeal.τ).loc Cert.BwdGluRefIdeal.main_arg0)
      ∧ r.2.mem ((c.tc : Thread Cert.BwdGluRefIdeal.nD Cert.BwdGluRefIdeal.τ).loc Cert.BwdGluRefIdeal.main_arg1) = m ((c.tc : Thread Cert.BwdGluRefIdeal.nD Cert.BwdGluRefIdeal.τ).loc Cert.BwdGluRefIdeal.main_arg1))
      ∧ r.2.sem = fun _ => 0)

def quiescent_BwdMerge [hBwdMerge : Cert.BwdMerge.Facts] : Prop :=
  ∀ (m : (ℓ : Loc Cert.BwdMerge.nD Cert.BwdMerge.τ Cert.BwdMerge.sig) → Buf (Elt Bits) ℓ) (g : Dev Cert.BwdMerge.nD → PrngReg), Pre_BwdMerge m →
    θ_run (Cert.BwdMerge.defs (F := Bits)) (onTc (τ := Cert.BwdMerge.τ) (Cert.BwdMerge.main (F := Bits))) ⟨m, fun _ => 0, g⟩ (fun r => (∀ c : Dev Cert.BwdMerge.nD,
      r.2.mem ((c.tc : Thread Cert.BwdMerge.nD Cert.BwdMerge.τ).loc Cert.BwdMerge.main_arg0) = m ((c.tc : Thread Cert.BwdMerge.nD Cert.BwdMerge.τ).loc Cert.BwdMerge.main_arg0)
      ∧ r.2.mem ((c.tc : Thread Cert.BwdMerge.nD Cert.BwdMerge.τ).loc Cert.BwdMerge.main_arg1) = m ((c.tc : Thread Cert.BwdMerge.nD Cert.BwdMerge.τ).loc Cert.BwdMerge.main_arg1)
      ∧ r.2.mem ((c.tc : Thread Cert.BwdMerge.nD Cert.BwdMerge.τ).loc Cert.BwdMerge.main_arg2) = m ((c.tc : Thread Cert.BwdMerge.nD Cert.BwdMerge.τ).loc Cert.BwdMerge.main_arg2)
      ∧ r.2.mem ((c.tc : Thread Cert.BwdMerge.nD Cert.BwdMerge.τ).loc Cert.BwdMerge.main_arg3) = m ((c.tc : Thread Cert.BwdMerge.nD Cert.BwdMerge.τ).loc Cert.BwdMerge.main_arg3)
      ∧ r.2.mem ((c.tc : Thread Cert.BwdMerge.nD Cert.BwdMerge.τ).loc Cert.BwdMerge.main_arg4) = m ((c.tc : Thread Cert.BwdMerge.nD Cert.BwdMerge.τ).loc Cert.BwdMerge.main_arg4)
      ∧ r.2.mem ((c.tc : Thread Cert.BwdMerge.nD Cert.BwdMerge.τ).loc Cert.BwdMerge.main_arg5) = m ((c.tc : Thread Cert.BwdMerge.nD Cert.BwdMerge.τ).loc Cert.BwdMerge.main_arg5))
      ∧ r.2.sem = fun _ => 0)

def quiescent_BwdMergeIdeal [hBwdMergeIdeal : Cert.BwdMergeIdeal.Facts] : Prop :=
  ∀ (m : (ℓ : Loc Cert.BwdMergeIdeal.nD Cert.BwdMergeIdeal.τ Cert.BwdMergeIdeal.sig) → Buf (Elt Ideal) ℓ) (g : Dev Cert.BwdMergeIdeal.nD → PrngReg), Pre_BwdMergeIdeal m →
    θ_run (Cert.BwdMergeIdeal.defs (F := Ideal)) (onTc (τ := Cert.BwdMergeIdeal.τ) (Cert.BwdMergeIdeal.main (F := Ideal))) ⟨m, fun _ => 0, g⟩ (fun r => (∀ c : Dev Cert.BwdMergeIdeal.nD,
      r.2.mem ((c.tc : Thread Cert.BwdMergeIdeal.nD Cert.BwdMergeIdeal.τ).loc Cert.BwdMergeIdeal.main_arg0) = m ((c.tc : Thread Cert.BwdMergeIdeal.nD Cert.BwdMergeIdeal.τ).loc Cert.BwdMergeIdeal.main_arg0)
      ∧ r.2.mem ((c.tc : Thread Cert.BwdMergeIdeal.nD Cert.BwdMergeIdeal.τ).loc Cert.BwdMergeIdeal.main_arg1) = m ((c.tc : Thread Cert.BwdMergeIdeal.nD Cert.BwdMergeIdeal.τ).loc Cert.BwdMergeIdeal.main_arg1)
      ∧ r.2.mem ((c.tc : Thread Cert.BwdMergeIdeal.nD Cert.BwdMergeIdeal.τ).loc Cert.BwdMergeIdeal.main_arg2) = m ((c.tc : Thread Cert.BwdMergeIdeal.nD Cert.BwdMergeIdeal.τ).loc Cert.BwdMergeIdeal.main_arg2)
      ∧ r.2.mem ((c.tc : Thread Cert.BwdMergeIdeal.nD Cert.BwdMergeIdeal.τ).loc Cert.BwdMergeIdeal.main_arg3) = m ((c.tc : Thread Cert.BwdMergeIdeal.nD Cert.BwdMergeIdeal.τ).loc Cert.BwdMergeIdeal.main_arg3)
      ∧ r.2.mem ((c.tc : Thread Cert.BwdMergeIdeal.nD Cert.BwdMergeIdeal.τ).loc Cert.BwdMergeIdeal.main_arg4) = m ((c.tc : Thread Cert.BwdMergeIdeal.nD Cert.BwdMergeIdeal.τ).loc Cert.BwdMergeIdeal.main_arg4)
      ∧ r.2.mem ((c.tc : Thread Cert.BwdMergeIdeal.nD Cert.BwdMergeIdeal.τ).loc Cert.BwdMergeIdeal.main_arg5) = m ((c.tc : Thread Cert.BwdMergeIdeal.nD Cert.BwdMergeIdeal.τ).loc Cert.BwdMergeIdeal.main_arg5))
      ∧ r.2.sem = fun _ => 0)

def quiescent_BwdMergeRefIdeal [hBwdMergeRefIdeal : Cert.BwdMergeRefIdeal.Facts] : Prop :=
  ∀ (m : (ℓ : Loc Cert.BwdMergeRefIdeal.nD Cert.BwdMergeRefIdeal.τ Cert.BwdMergeRefIdeal.sig) → Buf (Elt Ideal) ℓ) (g : Dev Cert.BwdMergeRefIdeal.nD → PrngReg), Pre_BwdMergeRefIdeal m →
    θ_run (Cert.BwdMergeRefIdeal.defs (F := Ideal)) (onTc (τ := Cert.BwdMergeRefIdeal.τ) (Cert.BwdMergeRefIdeal.main (F := Ideal))) ⟨m, fun _ => 0, g⟩ (fun r => (∀ c : Dev Cert.BwdMergeRefIdeal.nD,
      r.2.mem ((c.tc : Thread Cert.BwdMergeRefIdeal.nD Cert.BwdMergeRefIdeal.τ).loc Cert.BwdMergeRefIdeal.main_arg0) = m ((c.tc : Thread Cert.BwdMergeRefIdeal.nD Cert.BwdMergeRefIdeal.τ).loc Cert.BwdMergeRefIdeal.main_arg0)
      ∧ r.2.mem ((c.tc : Thread Cert.BwdMergeRefIdeal.nD Cert.BwdMergeRefIdeal.τ).loc Cert.BwdMergeRefIdeal.main_arg1) = m ((c.tc : Thread Cert.BwdMergeRefIdeal.nD Cert.BwdMergeRefIdeal.τ).loc Cert.BwdMergeRefIdeal.main_arg1)
      ∧ r.2.mem ((c.tc : Thread Cert.BwdMergeRefIdeal.nD Cert.BwdMergeRefIdeal.τ).loc Cert.BwdMergeRefIdeal.main_arg2) = m ((c.tc : Thread Cert.BwdMergeRefIdeal.nD Cert.BwdMergeRefIdeal.τ).loc Cert.BwdMergeRefIdeal.main_arg2)
      ∧ r.2.mem ((c.tc : Thread Cert.BwdMergeRefIdeal.nD Cert.BwdMergeRefIdeal.τ).loc Cert.BwdMergeRefIdeal.main_arg3) = m ((c.tc : Thread Cert.BwdMergeRefIdeal.nD Cert.BwdMergeRefIdeal.τ).loc Cert.BwdMergeRefIdeal.main_arg3)
      ∧ r.2.mem ((c.tc : Thread Cert.BwdMergeRefIdeal.nD Cert.BwdMergeRefIdeal.τ).loc Cert.BwdMergeRefIdeal.main_arg4) = m ((c.tc : Thread Cert.BwdMergeRefIdeal.nD Cert.BwdMergeRefIdeal.τ).loc Cert.BwdMergeRefIdeal.main_arg4)
      ∧ r.2.mem ((c.tc : Thread Cert.BwdMergeRefIdeal.nD Cert.BwdMergeRefIdeal.τ).loc Cert.BwdMergeRefIdeal.main_arg5) = m ((c.tc : Thread Cert.BwdMergeRefIdeal.nD Cert.BwdMergeRefIdeal.τ).loc Cert.BwdMergeRefIdeal.main_arg5))
      ∧ r.2.sem = fun _ => 0)

def quiescent_BwdPost [hBwdPost : Cert.BwdPost.Facts] : Prop :=
  ∀ (m : (ℓ : Loc Cert.BwdPost.nD Cert.BwdPost.τ Cert.BwdPost.sig) → Buf (Elt Bits) ℓ) (g : Dev Cert.BwdPost.nD → PrngReg), Pre_BwdPost m →
    θ_run (Cert.BwdPost.defs (F := Bits)) (onTc (τ := Cert.BwdPost.τ) (Cert.BwdPost.main (F := Bits))) ⟨m, fun _ => 0, g⟩ (fun r => (∀ c : Dev Cert.BwdPost.nD,
      r.2.mem ((c.tc : Thread Cert.BwdPost.nD Cert.BwdPost.τ).loc Cert.BwdPost.main_arg0) = m ((c.tc : Thread Cert.BwdPost.nD Cert.BwdPost.τ).loc Cert.BwdPost.main_arg0)
      ∧ r.2.mem ((c.tc : Thread Cert.BwdPost.nD Cert.BwdPost.τ).loc Cert.BwdPost.main_arg1) = m ((c.tc : Thread Cert.BwdPost.nD Cert.BwdPost.τ).loc Cert.BwdPost.main_arg1)
      ∧ r.2.mem ((c.tc : Thread Cert.BwdPost.nD Cert.BwdPost.τ).loc Cert.BwdPost.main_arg2) = m ((c.tc : Thread Cert.BwdPost.nD Cert.BwdPost.τ).loc Cert.BwdPost.main_arg2)
      ∧ r.2.mem ((c.tc : Thread Cert.BwdPost.nD Cert.BwdPost.τ).loc Cert.BwdPost.main_arg3) = m ((c.tc : Thread Cert.BwdPost.nD Cert.BwdPost.τ).loc Cert.BwdPost.main_arg3)
      ∧ r.2.mem ((c.tc : Thread Cert.BwdPost.nD Cert.BwdPost.τ).loc Cert.BwdPost.main_arg4) = m ((c.tc : Thread Cert.BwdPost.nD Cert.BwdPost.τ).loc Cert.BwdPost.main_arg4)
      ∧ r.2.mem ((c.tc : Thread Cert.BwdPost.nD Cert.BwdPost.τ).loc Cert.BwdPost.main_arg5) = m ((c.tc : Thread Cert.BwdPost.nD Cert.BwdPost.τ).loc Cert.BwdPost.main_arg5))
      ∧ r.2.sem = fun _ => 0)

def quiescent_BwdPostIdeal [hBwdPostIdeal : Cert.BwdPostIdeal.Facts] : Prop :=
  ∀ (m : (ℓ : Loc Cert.BwdPostIdeal.nD Cert.BwdPostIdeal.τ Cert.BwdPostIdeal.sig) → Buf (Elt Ideal) ℓ) (g : Dev Cert.BwdPostIdeal.nD → PrngReg), Pre_BwdPostIdeal m →
    θ_run (Cert.BwdPostIdeal.defs (F := Ideal)) (onTc (τ := Cert.BwdPostIdeal.τ) (Cert.BwdPostIdeal.main (F := Ideal))) ⟨m, fun _ => 0, g⟩ (fun r => (∀ c : Dev Cert.BwdPostIdeal.nD,
      r.2.mem ((c.tc : Thread Cert.BwdPostIdeal.nD Cert.BwdPostIdeal.τ).loc Cert.BwdPostIdeal.main_arg0) = m ((c.tc : Thread Cert.BwdPostIdeal.nD Cert.BwdPostIdeal.τ).loc Cert.BwdPostIdeal.main_arg0)
      ∧ r.2.mem ((c.tc : Thread Cert.BwdPostIdeal.nD Cert.BwdPostIdeal.τ).loc Cert.BwdPostIdeal.main_arg1) = m ((c.tc : Thread Cert.BwdPostIdeal.nD Cert.BwdPostIdeal.τ).loc Cert.BwdPostIdeal.main_arg1)
      ∧ r.2.mem ((c.tc : Thread Cert.BwdPostIdeal.nD Cert.BwdPostIdeal.τ).loc Cert.BwdPostIdeal.main_arg2) = m ((c.tc : Thread Cert.BwdPostIdeal.nD Cert.BwdPostIdeal.τ).loc Cert.BwdPostIdeal.main_arg2)
      ∧ r.2.mem ((c.tc : Thread Cert.BwdPostIdeal.nD Cert.BwdPostIdeal.τ).loc Cert.BwdPostIdeal.main_arg3) = m ((c.tc : Thread Cert.BwdPostIdeal.nD Cert.BwdPostIdeal.τ).loc Cert.BwdPostIdeal.main_arg3)
      ∧ r.2.mem ((c.tc : Thread Cert.BwdPostIdeal.nD Cert.BwdPostIdeal.τ).loc Cert.BwdPostIdeal.main_arg4) = m ((c.tc : Thread Cert.BwdPostIdeal.nD Cert.BwdPostIdeal.τ).loc Cert.BwdPostIdeal.main_arg4)
      ∧ r.2.mem ((c.tc : Thread Cert.BwdPostIdeal.nD Cert.BwdPostIdeal.τ).loc Cert.BwdPostIdeal.main_arg5) = m ((c.tc : Thread Cert.BwdPostIdeal.nD Cert.BwdPostIdeal.τ).loc Cert.BwdPostIdeal.main_arg5))
      ∧ r.2.sem = fun _ => 0)

def quiescent_BwdPostRefIdeal [hBwdPostRefIdeal : Cert.BwdPostRefIdeal.Facts] : Prop :=
  ∀ (m : (ℓ : Loc Cert.BwdPostRefIdeal.nD Cert.BwdPostRefIdeal.τ Cert.BwdPostRefIdeal.sig) → Buf (Elt Ideal) ℓ) (g : Dev Cert.BwdPostRefIdeal.nD → PrngReg), Pre_BwdPostRefIdeal m →
    θ_run (Cert.BwdPostRefIdeal.defs (F := Ideal)) (onTc (τ := Cert.BwdPostRefIdeal.τ) (Cert.BwdPostRefIdeal.main (F := Ideal))) ⟨m, fun _ => 0, g⟩ (fun r => (∀ c : Dev Cert.BwdPostRefIdeal.nD,
      r.2.mem ((c.tc : Thread Cert.BwdPostRefIdeal.nD Cert.BwdPostRefIdeal.τ).loc Cert.BwdPostRefIdeal.main_arg0) = m ((c.tc : Thread Cert.BwdPostRefIdeal.nD Cert.BwdPostRefIdeal.τ).loc Cert.BwdPostRefIdeal.main_arg0)
      ∧ r.2.mem ((c.tc : Thread Cert.BwdPostRefIdeal.nD Cert.BwdPostRefIdeal.τ).loc Cert.BwdPostRefIdeal.main_arg1) = m ((c.tc : Thread Cert.BwdPostRefIdeal.nD Cert.BwdPostRefIdeal.τ).loc Cert.BwdPostRefIdeal.main_arg1)
      ∧ r.2.mem ((c.tc : Thread Cert.BwdPostRefIdeal.nD Cert.BwdPostRefIdeal.τ).loc Cert.BwdPostRefIdeal.main_arg2) = m ((c.tc : Thread Cert.BwdPostRefIdeal.nD Cert.BwdPostRefIdeal.τ).loc Cert.BwdPostRefIdeal.main_arg2)
      ∧ r.2.mem ((c.tc : Thread Cert.BwdPostRefIdeal.nD Cert.BwdPostRefIdeal.τ).loc Cert.BwdPostRefIdeal.main_arg3) = m ((c.tc : Thread Cert.BwdPostRefIdeal.nD Cert.BwdPostRefIdeal.τ).loc Cert.BwdPostRefIdeal.main_arg3)
      ∧ r.2.mem ((c.tc : Thread Cert.BwdPostRefIdeal.nD Cert.BwdPostRefIdeal.τ).loc Cert.BwdPostRefIdeal.main_arg4) = m ((c.tc : Thread Cert.BwdPostRefIdeal.nD Cert.BwdPostRefIdeal.τ).loc Cert.BwdPostRefIdeal.main_arg4)
      ∧ r.2.mem ((c.tc : Thread Cert.BwdPostRefIdeal.nD Cert.BwdPostRefIdeal.τ).loc Cert.BwdPostRefIdeal.main_arg5) = m ((c.tc : Thread Cert.BwdPostRefIdeal.nD Cert.BwdPostRefIdeal.τ).loc Cert.BwdPostRefIdeal.main_arg5))
      ∧ r.2.sem = fun _ => 0)

def quiescent_BwdRot [hBwdRot : Cert.BwdRot.Facts] : Prop :=
  ∀ (m : (ℓ : Loc Cert.BwdRot.nD Cert.BwdRot.τ Cert.BwdRot.sig) → Buf (Elt Bits) ℓ) (g : Dev Cert.BwdRot.nD → PrngReg), Pre_BwdRot m →
    θ_run (Cert.BwdRot.defs (F := Bits)) (onTc (τ := Cert.BwdRot.τ) (Cert.BwdRot.main (F := Bits))) ⟨m, fun _ => 0, g⟩ (fun r => (∀ c : Dev Cert.BwdRot.nD,
      r.2.mem ((c.tc : Thread Cert.BwdRot.nD Cert.BwdRot.τ).loc Cert.BwdRot.main_arg0) = m ((c.tc : Thread Cert.BwdRot.nD Cert.BwdRot.τ).loc Cert.BwdRot.main_arg0)
      ∧ r.2.mem ((c.tc : Thread Cert.BwdRot.nD Cert.BwdRot.τ).loc Cert.BwdRot.main_arg1) = m ((c.tc : Thread Cert.BwdRot.nD Cert.BwdRot.τ).loc Cert.BwdRot.main_arg1)
      ∧ r.2.mem ((c.tc : Thread Cert.BwdRot.nD Cert.BwdRot.τ).loc Cert.BwdRot.main_arg2) = m ((c.tc : Thread Cert.BwdRot.nD Cert.BwdRot.τ).loc Cert.BwdRot.main_arg2))
      ∧ r.2.sem = fun _ => 0)

def quiescent_BwdRotIdeal [hBwdRotIdeal : Cert.BwdRotIdeal.Facts] : Prop :=
  ∀ (m : (ℓ : Loc Cert.BwdRotIdeal.nD Cert.BwdRotIdeal.τ Cert.BwdRotIdeal.sig) → Buf (Elt Ideal) ℓ) (g : Dev Cert.BwdRotIdeal.nD → PrngReg), Pre_BwdRotIdeal m →
    θ_run (Cert.BwdRotIdeal.defs (F := Ideal)) (onTc (τ := Cert.BwdRotIdeal.τ) (Cert.BwdRotIdeal.main (F := Ideal))) ⟨m, fun _ => 0, g⟩ (fun r => (∀ c : Dev Cert.BwdRotIdeal.nD,
      r.2.mem ((c.tc : Thread Cert.BwdRotIdeal.nD Cert.BwdRotIdeal.τ).loc Cert.BwdRotIdeal.main_arg0) = m ((c.tc : Thread Cert.BwdRotIdeal.nD Cert.BwdRotIdeal.τ).loc Cert.BwdRotIdeal.main_arg0)
      ∧ r.2.mem ((c.tc : Thread Cert.BwdRotIdeal.nD Cert.BwdRotIdeal.τ).loc Cert.BwdRotIdeal.main_arg1) = m ((c.tc : Thread Cert.BwdRotIdeal.nD Cert.BwdRotIdeal.τ).loc Cert.BwdRotIdeal.main_arg1)
      ∧ r.2.mem ((c.tc : Thread Cert.BwdRotIdeal.nD Cert.BwdRotIdeal.τ).loc Cert.BwdRotIdeal.main_arg2) = m ((c.tc : Thread Cert.BwdRotIdeal.nD Cert.BwdRotIdeal.τ).loc Cert.BwdRotIdeal.main_arg2))
      ∧ r.2.sem = fun _ => 0)

def quiescent_BwdRotRefIdeal [hBwdRotRefIdeal : Cert.BwdRotRefIdeal.Facts] : Prop :=
  ∀ (m : (ℓ : Loc Cert.BwdRotRefIdeal.nD Cert.BwdRotRefIdeal.τ Cert.BwdRotRefIdeal.sig) → Buf (Elt Ideal) ℓ) (g : Dev Cert.BwdRotRefIdeal.nD → PrngReg), Pre_BwdRotRefIdeal m →
    θ_run (Cert.BwdRotRefIdeal.defs (F := Ideal)) (onTc (τ := Cert.BwdRotRefIdeal.τ) (Cert.BwdRotRefIdeal.main (F := Ideal))) ⟨m, fun _ => 0, g⟩ (fun r => (∀ c : Dev Cert.BwdRotRefIdeal.nD,
      r.2.mem ((c.tc : Thread Cert.BwdRotRefIdeal.nD Cert.BwdRotRefIdeal.τ).loc Cert.BwdRotRefIdeal.main_arg0) = m ((c.tc : Thread Cert.BwdRotRefIdeal.nD Cert.BwdRotRefIdeal.τ).loc Cert.BwdRotRefIdeal.main_arg0)
      ∧ r.2.mem ((c.tc : Thread Cert.BwdRotRefIdeal.nD Cert.BwdRotRefIdeal.τ).loc Cert.BwdRotRefIdeal.main_arg1) = m ((c.tc : Thread Cert.BwdRotRefIdeal.nD Cert.BwdRotRefIdeal.τ).loc Cert.BwdRotRefIdeal.main_arg1)
      ∧ r.2.mem ((c.tc : Thread Cert.BwdRotRefIdeal.nD Cert.BwdRotRefIdeal.τ).loc Cert.BwdRotRefIdeal.main_arg2) = m ((c.tc : Thread Cert.BwdRotRefIdeal.nD Cert.BwdRotRefIdeal.τ).loc Cert.BwdRotRefIdeal.main_arg2))
      ∧ r.2.sem = fun _ => 0)

def quiescent_LossStage [hLossStage : Cert.LossStage.Facts] : Prop :=
  ∀ (m : (ℓ : Loc Cert.LossStage.nD Cert.LossStage.τ Cert.LossStage.sig) → Buf (Elt Bits) ℓ) (g : Dev Cert.LossStage.nD → PrngReg), Pre_LossStage m →
    θ_run (Cert.LossStage.defs (F := Bits)) (onTc (τ := Cert.LossStage.τ) (Cert.LossStage.main (F := Bits))) ⟨m, fun _ => 0, g⟩ (fun r => (∀ c : Dev Cert.LossStage.nD,
      r.2.mem ((c.tc : Thread Cert.LossStage.nD Cert.LossStage.τ).loc Cert.LossStage.main_arg0) = m ((c.tc : Thread Cert.LossStage.nD Cert.LossStage.τ).loc Cert.LossStage.main_arg0)
      ∧ r.2.mem ((c.tc : Thread Cert.LossStage.nD Cert.LossStage.τ).loc Cert.LossStage.main_arg1) = m ((c.tc : Thread Cert.LossStage.nD Cert.LossStage.τ).loc Cert.LossStage.main_arg1)
      ∧ r.2.mem ((c.tc : Thread Cert.LossStage.nD Cert.LossStage.τ).loc Cert.LossStage.main_arg2) = m ((c.tc : Thread Cert.LossStage.nD Cert.LossStage.τ).loc Cert.LossStage.main_arg2))
      ∧ r.2.sem = fun _ => 0)

def quiescent_LossStageIdeal [hLossStageIdeal : Cert.LossStageIdeal.Facts] : Prop :=
  ∀ (m : (ℓ : Loc Cert.LossStageIdeal.nD Cert.LossStageIdeal.τ Cert.LossStageIdeal.sig) → Buf (Elt Ideal) ℓ) (g : Dev Cert.LossStageIdeal.nD → PrngReg), Pre_LossStageIdeal m →
    θ_run (Cert.LossStageIdeal.defs (F := Ideal)) (onTc (τ := Cert.LossStageIdeal.τ) (Cert.LossStageIdeal.main (F := Ideal))) ⟨m, fun _ => 0, g⟩ (fun r => (∀ c : Dev Cert.LossStageIdeal.nD,
      r.2.mem ((c.tc : Thread Cert.LossStageIdeal.nD Cert.LossStageIdeal.τ).loc Cert.LossStageIdeal.main_arg0) = m ((c.tc : Thread Cert.LossStageIdeal.nD Cert.LossStageIdeal.τ).loc Cert.LossStageIdeal.main_arg0)
      ∧ r.2.mem ((c.tc : Thread Cert.LossStageIdeal.nD Cert.LossStageIdeal.τ).loc Cert.LossStageIdeal.main_arg1) = m ((c.tc : Thread Cert.LossStageIdeal.nD Cert.LossStageIdeal.τ).loc Cert.LossStageIdeal.main_arg1)
      ∧ r.2.mem ((c.tc : Thread Cert.LossStageIdeal.nD Cert.LossStageIdeal.τ).loc Cert.LossStageIdeal.main_arg2) = m ((c.tc : Thread Cert.LossStageIdeal.nD Cert.LossStageIdeal.τ).loc Cert.LossStageIdeal.main_arg2))
      ∧ r.2.sem = fun _ => 0)

def quiescent_LossStageRefIdeal [hLossStageRefIdeal : Cert.LossStageRefIdeal.Facts] : Prop :=
  ∀ (m : (ℓ : Loc Cert.LossStageRefIdeal.nD Cert.LossStageRefIdeal.τ Cert.LossStageRefIdeal.sig) → Buf (Elt Ideal) ℓ) (g : Dev Cert.LossStageRefIdeal.nD → PrngReg), Pre_LossStageRefIdeal m →
    θ_run (Cert.LossStageRefIdeal.defs (F := Ideal)) (onTc (τ := Cert.LossStageRefIdeal.τ) (Cert.LossStageRefIdeal.main (F := Ideal))) ⟨m, fun _ => 0, g⟩ (fun r => (∀ c : Dev Cert.LossStageRefIdeal.nD,
      r.2.mem ((c.tc : Thread Cert.LossStageRefIdeal.nD Cert.LossStageRefIdeal.τ).loc Cert.LossStageRefIdeal.main_arg0) = m ((c.tc : Thread Cert.LossStageRefIdeal.nD Cert.LossStageRefIdeal.τ).loc Cert.LossStageRefIdeal.main_arg0)
      ∧ r.2.mem ((c.tc : Thread Cert.LossStageRefIdeal.nD Cert.LossStageRefIdeal.τ).loc Cert.LossStageRefIdeal.main_arg1) = m ((c.tc : Thread Cert.LossStageRefIdeal.nD Cert.LossStageRefIdeal.τ).loc Cert.LossStageRefIdeal.main_arg1)
      ∧ r.2.mem ((c.tc : Thread Cert.LossStageRefIdeal.nD Cert.LossStageRefIdeal.τ).loc Cert.LossStageRefIdeal.main_arg2) = m ((c.tc : Thread Cert.LossStageRefIdeal.nD Cert.LossStageRefIdeal.τ).loc Cert.LossStageRefIdeal.main_arg2))
      ∧ r.2.sem = fun _ => 0)

def quiescent_FwdRms [hFwdRms : Cert.FwdRms.Facts] : Prop :=
  ∀ (m : (ℓ : Loc Cert.FwdRms.nD Cert.FwdRms.τ Cert.FwdRms.sig) → Buf (Elt Bits) ℓ) (g : Dev Cert.FwdRms.nD → PrngReg), Pre_FwdRms m →
    θ_run (Cert.FwdRms.defs (F := Bits)) (onTc (τ := Cert.FwdRms.τ) (Cert.FwdRms.main (F := Bits))) ⟨m, fun _ => 0, g⟩ (fun r => (∀ c : Dev Cert.FwdRms.nD,
      r.2.mem ((c.tc : Thread Cert.FwdRms.nD Cert.FwdRms.τ).loc Cert.FwdRms.main_arg0) = m ((c.tc : Thread Cert.FwdRms.nD Cert.FwdRms.τ).loc Cert.FwdRms.main_arg0)
      ∧ r.2.mem ((c.tc : Thread Cert.FwdRms.nD Cert.FwdRms.τ).loc Cert.FwdRms.main_arg1) = m ((c.tc : Thread Cert.FwdRms.nD Cert.FwdRms.τ).loc Cert.FwdRms.main_arg1))
      ∧ r.2.sem = fun _ => 0)

def quiescent_FwdRmsIdeal [hFwdRmsIdeal : Cert.FwdRmsIdeal.Facts] : Prop :=
  ∀ (m : (ℓ : Loc Cert.FwdRmsIdeal.nD Cert.FwdRmsIdeal.τ Cert.FwdRmsIdeal.sig) → Buf (Elt Ideal) ℓ) (g : Dev Cert.FwdRmsIdeal.nD → PrngReg), Pre_FwdRmsIdeal m →
    θ_run (Cert.FwdRmsIdeal.defs (F := Ideal)) (onTc (τ := Cert.FwdRmsIdeal.τ) (Cert.FwdRmsIdeal.main (F := Ideal))) ⟨m, fun _ => 0, g⟩ (fun r => (∀ c : Dev Cert.FwdRmsIdeal.nD,
      r.2.mem ((c.tc : Thread Cert.FwdRmsIdeal.nD Cert.FwdRmsIdeal.τ).loc Cert.FwdRmsIdeal.main_arg0) = m ((c.tc : Thread Cert.FwdRmsIdeal.nD Cert.FwdRmsIdeal.τ).loc Cert.FwdRmsIdeal.main_arg0)
      ∧ r.2.mem ((c.tc : Thread Cert.FwdRmsIdeal.nD Cert.FwdRmsIdeal.τ).loc Cert.FwdRmsIdeal.main_arg1) = m ((c.tc : Thread Cert.FwdRmsIdeal.nD Cert.FwdRmsIdeal.τ).loc Cert.FwdRmsIdeal.main_arg1))
      ∧ r.2.sem = fun _ => 0)

def quiescent_FwdRmsRefIdeal [hFwdRmsRefIdeal : Cert.FwdRmsRefIdeal.Facts] : Prop :=
  ∀ (m : (ℓ : Loc Cert.FwdRmsRefIdeal.nD Cert.FwdRmsRefIdeal.τ Cert.FwdRmsRefIdeal.sig) → Buf (Elt Ideal) ℓ) (g : Dev Cert.FwdRmsRefIdeal.nD → PrngReg), Pre_FwdRmsRefIdeal m →
    θ_run (Cert.FwdRmsRefIdeal.defs (F := Ideal)) (onTc (τ := Cert.FwdRmsRefIdeal.τ) (Cert.FwdRmsRefIdeal.main (F := Ideal))) ⟨m, fun _ => 0, g⟩ (fun r => (∀ c : Dev Cert.FwdRmsRefIdeal.nD,
      r.2.mem ((c.tc : Thread Cert.FwdRmsRefIdeal.nD Cert.FwdRmsRefIdeal.τ).loc Cert.FwdRmsRefIdeal.main_arg0) = m ((c.tc : Thread Cert.FwdRmsRefIdeal.nD Cert.FwdRmsRefIdeal.τ).loc Cert.FwdRmsRefIdeal.main_arg0)
      ∧ r.2.mem ((c.tc : Thread Cert.FwdRmsRefIdeal.nD Cert.FwdRmsRefIdeal.τ).loc Cert.FwdRmsRefIdeal.main_arg1) = m ((c.tc : Thread Cert.FwdRmsRefIdeal.nD Cert.FwdRmsRefIdeal.τ).loc Cert.FwdRmsRefIdeal.main_arg1))
      ∧ r.2.sem = fun _ => 0)

def quiescent_FwdSwish [hFwdSwish : Cert.FwdSwish.Facts] : Prop :=
  ∀ (m : (ℓ : Loc Cert.FwdSwish.nD Cert.FwdSwish.τ Cert.FwdSwish.sig) → Buf (Elt Bits) ℓ) (g : Dev Cert.FwdSwish.nD → PrngReg), Pre_FwdSwish m →
    θ_run (Cert.FwdSwish.defs (F := Bits)) (onTc (τ := Cert.FwdSwish.τ) (Cert.FwdSwish.main (F := Bits))) ⟨m, fun _ => 0, g⟩ (fun r => (∀ c : Dev Cert.FwdSwish.nD,
      r.2.mem ((c.tc : Thread Cert.FwdSwish.nD Cert.FwdSwish.τ).loc Cert.FwdSwish.main_arg0) = m ((c.tc : Thread Cert.FwdSwish.nD Cert.FwdSwish.τ).loc Cert.FwdSwish.main_arg0))
      ∧ r.2.sem = fun _ => 0)

def quiescent_FwdSwishIdeal [hFwdSwishIdeal : Cert.FwdSwishIdeal.Facts] : Prop :=
  ∀ (m : (ℓ : Loc Cert.FwdSwishIdeal.nD Cert.FwdSwishIdeal.τ Cert.FwdSwishIdeal.sig) → Buf (Elt Ideal) ℓ) (g : Dev Cert.FwdSwishIdeal.nD → PrngReg), Pre_FwdSwishIdeal m →
    θ_run (Cert.FwdSwishIdeal.defs (F := Ideal)) (onTc (τ := Cert.FwdSwishIdeal.τ) (Cert.FwdSwishIdeal.main (F := Ideal))) ⟨m, fun _ => 0, g⟩ (fun r => (∀ c : Dev Cert.FwdSwishIdeal.nD,
      r.2.mem ((c.tc : Thread Cert.FwdSwishIdeal.nD Cert.FwdSwishIdeal.τ).loc Cert.FwdSwishIdeal.main_arg0) = m ((c.tc : Thread Cert.FwdSwishIdeal.nD Cert.FwdSwishIdeal.τ).loc Cert.FwdSwishIdeal.main_arg0))
      ∧ r.2.sem = fun _ => 0)

def quiescent_FwdSwishRefIdeal [hFwdSwishRefIdeal : Cert.FwdSwishRefIdeal.Facts] : Prop :=
  ∀ (m : (ℓ : Loc Cert.FwdSwishRefIdeal.nD Cert.FwdSwishRefIdeal.τ Cert.FwdSwishRefIdeal.sig) → Buf (Elt Ideal) ℓ) (g : Dev Cert.FwdSwishRefIdeal.nD → PrngReg), Pre_FwdSwishRefIdeal m →
    θ_run (Cert.FwdSwishRefIdeal.defs (F := Ideal)) (onTc (τ := Cert.FwdSwishRefIdeal.τ) (Cert.FwdSwishRefIdeal.main (F := Ideal))) ⟨m, fun _ => 0, g⟩ (fun r => (∀ c : Dev Cert.FwdSwishRefIdeal.nD,
      r.2.mem ((c.tc : Thread Cert.FwdSwishRefIdeal.nD Cert.FwdSwishRefIdeal.τ).loc Cert.FwdSwishRefIdeal.main_arg0) = m ((c.tc : Thread Cert.FwdSwishRefIdeal.nD Cert.FwdSwishRefIdeal.τ).loc Cert.FwdSwishRefIdeal.main_arg0))
      ∧ r.2.sem = fun _ => 0)

def quiescent_FwdMerge [hFwdMerge : Cert.FwdMerge.Facts] : Prop :=
  ∀ (m : (ℓ : Loc Cert.FwdMerge.nD Cert.FwdMerge.τ Cert.FwdMerge.sig) → Buf (Elt Bits) ℓ) (g : Dev Cert.FwdMerge.nD → PrngReg), Pre_FwdMerge m →
    θ_run (Cert.FwdMerge.defs (F := Bits)) (onTc (τ := Cert.FwdMerge.τ) (Cert.FwdMerge.main (F := Bits))) ⟨m, fun _ => 0, g⟩ (fun r => (∀ c : Dev Cert.FwdMerge.nD,
      r.2.mem ((c.tc : Thread Cert.FwdMerge.nD Cert.FwdMerge.τ).loc Cert.FwdMerge.main_arg0) = m ((c.tc : Thread Cert.FwdMerge.nD Cert.FwdMerge.τ).loc Cert.FwdMerge.main_arg0)
      ∧ r.2.mem ((c.tc : Thread Cert.FwdMerge.nD Cert.FwdMerge.τ).loc Cert.FwdMerge.main_arg1) = m ((c.tc : Thread Cert.FwdMerge.nD Cert.FwdMerge.τ).loc Cert.FwdMerge.main_arg1)
      ∧ r.2.mem ((c.tc : Thread Cert.FwdMerge.nD Cert.FwdMerge.τ).loc Cert.FwdMerge.main_arg2) = m ((c.tc : Thread Cert.FwdMerge.nD Cert.FwdMerge.τ).loc Cert.FwdMerge.main_arg2)
      ∧ r.2.mem ((c.tc : Thread Cert.FwdMerge.nD Cert.FwdMerge.τ).loc Cert.FwdMerge.main_arg3) = m ((c.tc : Thread Cert.FwdMerge.nD Cert.FwdMerge.τ).loc Cert.FwdMerge.main_arg3)
      ∧ r.2.mem ((c.tc : Thread Cert.FwdMerge.nD Cert.FwdMerge.τ).loc Cert.FwdMerge.main_arg4) = m ((c.tc : Thread Cert.FwdMerge.nD Cert.FwdMerge.τ).loc Cert.FwdMerge.main_arg4))
      ∧ r.2.sem = fun _ => 0)

def quiescent_FwdMergeIdeal [hFwdMergeIdeal : Cert.FwdMergeIdeal.Facts] : Prop :=
  ∀ (m : (ℓ : Loc Cert.FwdMergeIdeal.nD Cert.FwdMergeIdeal.τ Cert.FwdMergeIdeal.sig) → Buf (Elt Ideal) ℓ) (g : Dev Cert.FwdMergeIdeal.nD → PrngReg), Pre_FwdMergeIdeal m →
    θ_run (Cert.FwdMergeIdeal.defs (F := Ideal)) (onTc (τ := Cert.FwdMergeIdeal.τ) (Cert.FwdMergeIdeal.main (F := Ideal))) ⟨m, fun _ => 0, g⟩ (fun r => (∀ c : Dev Cert.FwdMergeIdeal.nD,
      r.2.mem ((c.tc : Thread Cert.FwdMergeIdeal.nD Cert.FwdMergeIdeal.τ).loc Cert.FwdMergeIdeal.main_arg0) = m ((c.tc : Thread Cert.FwdMergeIdeal.nD Cert.FwdMergeIdeal.τ).loc Cert.FwdMergeIdeal.main_arg0)
      ∧ r.2.mem ((c.tc : Thread Cert.FwdMergeIdeal.nD Cert.FwdMergeIdeal.τ).loc Cert.FwdMergeIdeal.main_arg1) = m ((c.tc : Thread Cert.FwdMergeIdeal.nD Cert.FwdMergeIdeal.τ).loc Cert.FwdMergeIdeal.main_arg1)
      ∧ r.2.mem ((c.tc : Thread Cert.FwdMergeIdeal.nD Cert.FwdMergeIdeal.τ).loc Cert.FwdMergeIdeal.main_arg2) = m ((c.tc : Thread Cert.FwdMergeIdeal.nD Cert.FwdMergeIdeal.τ).loc Cert.FwdMergeIdeal.main_arg2)
      ∧ r.2.mem ((c.tc : Thread Cert.FwdMergeIdeal.nD Cert.FwdMergeIdeal.τ).loc Cert.FwdMergeIdeal.main_arg3) = m ((c.tc : Thread Cert.FwdMergeIdeal.nD Cert.FwdMergeIdeal.τ).loc Cert.FwdMergeIdeal.main_arg3)
      ∧ r.2.mem ((c.tc : Thread Cert.FwdMergeIdeal.nD Cert.FwdMergeIdeal.τ).loc Cert.FwdMergeIdeal.main_arg4) = m ((c.tc : Thread Cert.FwdMergeIdeal.nD Cert.FwdMergeIdeal.τ).loc Cert.FwdMergeIdeal.main_arg4))
      ∧ r.2.sem = fun _ => 0)

def quiescent_FwdMergeRefIdeal [hFwdMergeRefIdeal : Cert.FwdMergeRefIdeal.Facts] : Prop :=
  ∀ (m : (ℓ : Loc Cert.FwdMergeRefIdeal.nD Cert.FwdMergeRefIdeal.τ Cert.FwdMergeRefIdeal.sig) → Buf (Elt Ideal) ℓ) (g : Dev Cert.FwdMergeRefIdeal.nD → PrngReg), Pre_FwdMergeRefIdeal m →
    θ_run (Cert.FwdMergeRefIdeal.defs (F := Ideal)) (onTc (τ := Cert.FwdMergeRefIdeal.τ) (Cert.FwdMergeRefIdeal.main (F := Ideal))) ⟨m, fun _ => 0, g⟩ (fun r => (∀ c : Dev Cert.FwdMergeRefIdeal.nD,
      r.2.mem ((c.tc : Thread Cert.FwdMergeRefIdeal.nD Cert.FwdMergeRefIdeal.τ).loc Cert.FwdMergeRefIdeal.main_arg0) = m ((c.tc : Thread Cert.FwdMergeRefIdeal.nD Cert.FwdMergeRefIdeal.τ).loc Cert.FwdMergeRefIdeal.main_arg0)
      ∧ r.2.mem ((c.tc : Thread Cert.FwdMergeRefIdeal.nD Cert.FwdMergeRefIdeal.τ).loc Cert.FwdMergeRefIdeal.main_arg1) = m ((c.tc : Thread Cert.FwdMergeRefIdeal.nD Cert.FwdMergeRefIdeal.τ).loc Cert.FwdMergeRefIdeal.main_arg1)
      ∧ r.2.mem ((c.tc : Thread Cert.FwdMergeRefIdeal.nD Cert.FwdMergeRefIdeal.τ).loc Cert.FwdMergeRefIdeal.main_arg2) = m ((c.tc : Thread Cert.FwdMergeRefIdeal.nD Cert.FwdMergeRefIdeal.τ).loc Cert.FwdMergeRefIdeal.main_arg2)
      ∧ r.2.mem ((c.tc : Thread Cert.FwdMergeRefIdeal.nD Cert.FwdMergeRefIdeal.τ).loc Cert.FwdMergeRefIdeal.main_arg3) = m ((c.tc : Thread Cert.FwdMergeRefIdeal.nD Cert.FwdMergeRefIdeal.τ).loc Cert.FwdMergeRefIdeal.main_arg3)
      ∧ r.2.mem ((c.tc : Thread Cert.FwdMergeRefIdeal.nD Cert.FwdMergeRefIdeal.τ).loc Cert.FwdMergeRefIdeal.main_arg4) = m ((c.tc : Thread Cert.FwdMergeRefIdeal.nD Cert.FwdMergeRefIdeal.τ).loc Cert.FwdMergeRefIdeal.main_arg4))
      ∧ r.2.sem = fun _ => 0)

def quiescent_FwdPost [hFwdPost : Cert.FwdPost.Facts] : Prop :=
  ∀ (m : (ℓ : Loc Cert.FwdPost.nD Cert.FwdPost.τ Cert.FwdPost.sig) → Buf (Elt Bits) ℓ) (g : Dev Cert.FwdPost.nD → PrngReg), Pre_FwdPost m →
    θ_run (Cert.FwdPost.defs (F := Bits)) (onTc (τ := Cert.FwdPost.τ) (Cert.FwdPost.main (F := Bits))) ⟨m, fun _ => 0, g⟩ (fun r => (∀ c : Dev Cert.FwdPost.nD,
      r.2.mem ((c.tc : Thread Cert.FwdPost.nD Cert.FwdPost.τ).loc Cert.FwdPost.main_arg0) = m ((c.tc : Thread Cert.FwdPost.nD Cert.FwdPost.τ).loc Cert.FwdPost.main_arg0)
      ∧ r.2.mem ((c.tc : Thread Cert.FwdPost.nD Cert.FwdPost.τ).loc Cert.FwdPost.main_arg1) = m ((c.tc : Thread Cert.FwdPost.nD Cert.FwdPost.τ).loc Cert.FwdPost.main_arg1)
      ∧ r.2.mem ((c.tc : Thread Cert.FwdPost.nD Cert.FwdPost.τ).loc Cert.FwdPost.main_arg2) = m ((c.tc : Thread Cert.FwdPost.nD Cert.FwdPost.τ).loc Cert.FwdPost.main_arg2)
      ∧ r.2.mem ((c.tc : Thread Cert.FwdPost.nD Cert.FwdPost.τ).loc Cert.FwdPost.main_arg3) = m ((c.tc : Thread Cert.FwdPost.nD Cert.FwdPost.τ).loc Cert.FwdPost.main_arg3))
      ∧ r.2.sem = fun _ => 0)

def quiescent_FwdPostIdeal [hFwdPostIdeal : Cert.FwdPostIdeal.Facts] : Prop :=
  ∀ (m : (ℓ : Loc Cert.FwdPostIdeal.nD Cert.FwdPostIdeal.τ Cert.FwdPostIdeal.sig) → Buf (Elt Ideal) ℓ) (g : Dev Cert.FwdPostIdeal.nD → PrngReg), Pre_FwdPostIdeal m →
    θ_run (Cert.FwdPostIdeal.defs (F := Ideal)) (onTc (τ := Cert.FwdPostIdeal.τ) (Cert.FwdPostIdeal.main (F := Ideal))) ⟨m, fun _ => 0, g⟩ (fun r => (∀ c : Dev Cert.FwdPostIdeal.nD,
      r.2.mem ((c.tc : Thread Cert.FwdPostIdeal.nD Cert.FwdPostIdeal.τ).loc Cert.FwdPostIdeal.main_arg0) = m ((c.tc : Thread Cert.FwdPostIdeal.nD Cert.FwdPostIdeal.τ).loc Cert.FwdPostIdeal.main_arg0)
      ∧ r.2.mem ((c.tc : Thread Cert.FwdPostIdeal.nD Cert.FwdPostIdeal.τ).loc Cert.FwdPostIdeal.main_arg1) = m ((c.tc : Thread Cert.FwdPostIdeal.nD Cert.FwdPostIdeal.τ).loc Cert.FwdPostIdeal.main_arg1)
      ∧ r.2.mem ((c.tc : Thread Cert.FwdPostIdeal.nD Cert.FwdPostIdeal.τ).loc Cert.FwdPostIdeal.main_arg2) = m ((c.tc : Thread Cert.FwdPostIdeal.nD Cert.FwdPostIdeal.τ).loc Cert.FwdPostIdeal.main_arg2)
      ∧ r.2.mem ((c.tc : Thread Cert.FwdPostIdeal.nD Cert.FwdPostIdeal.τ).loc Cert.FwdPostIdeal.main_arg3) = m ((c.tc : Thread Cert.FwdPostIdeal.nD Cert.FwdPostIdeal.τ).loc Cert.FwdPostIdeal.main_arg3))
      ∧ r.2.sem = fun _ => 0)

def quiescent_FwdPostRefIdeal [hFwdPostRefIdeal : Cert.FwdPostRefIdeal.Facts] : Prop :=
  ∀ (m : (ℓ : Loc Cert.FwdPostRefIdeal.nD Cert.FwdPostRefIdeal.τ Cert.FwdPostRefIdeal.sig) → Buf (Elt Ideal) ℓ) (g : Dev Cert.FwdPostRefIdeal.nD → PrngReg), Pre_FwdPostRefIdeal m →
    θ_run (Cert.FwdPostRefIdeal.defs (F := Ideal)) (onTc (τ := Cert.FwdPostRefIdeal.τ) (Cert.FwdPostRefIdeal.main (F := Ideal))) ⟨m, fun _ => 0, g⟩ (fun r => (∀ c : Dev Cert.FwdPostRefIdeal.nD,
      r.2.mem ((c.tc : Thread Cert.FwdPostRefIdeal.nD Cert.FwdPostRefIdeal.τ).loc Cert.FwdPostRefIdeal.main_arg0) = m ((c.tc : Thread Cert.FwdPostRefIdeal.nD Cert.FwdPostRefIdeal.τ).loc Cert.FwdPostRefIdeal.main_arg0)
      ∧ r.2.mem ((c.tc : Thread Cert.FwdPostRefIdeal.nD Cert.FwdPostRefIdeal.τ).loc Cert.FwdPostRefIdeal.main_arg1) = m ((c.tc : Thread Cert.FwdPostRefIdeal.nD Cert.FwdPostRefIdeal.τ).loc Cert.FwdPostRefIdeal.main_arg1)
      ∧ r.2.mem ((c.tc : Thread Cert.FwdPostRefIdeal.nD Cert.FwdPostRefIdeal.τ).loc Cert.FwdPostRefIdeal.main_arg2) = m ((c.tc : Thread Cert.FwdPostRefIdeal.nD Cert.FwdPostRefIdeal.τ).loc Cert.FwdPostRefIdeal.main_arg2)
      ∧ r.2.mem ((c.tc : Thread Cert.FwdPostRefIdeal.nD Cert.FwdPostRefIdeal.τ).loc Cert.FwdPostRefIdeal.main_arg3) = m ((c.tc : Thread Cert.FwdPostRefIdeal.nD Cert.FwdPostRefIdeal.τ).loc Cert.FwdPostRefIdeal.main_arg3))
      ∧ r.2.sem = fun _ => 0)

def quiescent_FwdRot [hFwdRot : Cert.FwdRot.Facts] : Prop :=
  ∀ (m : (ℓ : Loc Cert.FwdRot.nD Cert.FwdRot.τ Cert.FwdRot.sig) → Buf (Elt Bits) ℓ) (g : Dev Cert.FwdRot.nD → PrngReg), Pre_FwdRot m →
    θ_run (Cert.FwdRot.defs (F := Bits)) (onTc (τ := Cert.FwdRot.τ) (Cert.FwdRot.main (F := Bits))) ⟨m, fun _ => 0, g⟩ (fun r => (∀ c : Dev Cert.FwdRot.nD,
      r.2.mem ((c.tc : Thread Cert.FwdRot.nD Cert.FwdRot.τ).loc Cert.FwdRot.main_arg0) = m ((c.tc : Thread Cert.FwdRot.nD Cert.FwdRot.τ).loc Cert.FwdRot.main_arg0))
      ∧ r.2.sem = fun _ => 0)

def quiescent_FwdRotIdeal [hFwdRotIdeal : Cert.FwdRotIdeal.Facts] : Prop :=
  ∀ (m : (ℓ : Loc Cert.FwdRotIdeal.nD Cert.FwdRotIdeal.τ Cert.FwdRotIdeal.sig) → Buf (Elt Ideal) ℓ) (g : Dev Cert.FwdRotIdeal.nD → PrngReg), Pre_FwdRotIdeal m →
    θ_run (Cert.FwdRotIdeal.defs (F := Ideal)) (onTc (τ := Cert.FwdRotIdeal.τ) (Cert.FwdRotIdeal.main (F := Ideal))) ⟨m, fun _ => 0, g⟩ (fun r => (∀ c : Dev Cert.FwdRotIdeal.nD,
      r.2.mem ((c.tc : Thread Cert.FwdRotIdeal.nD Cert.FwdRotIdeal.τ).loc Cert.FwdRotIdeal.main_arg0) = m ((c.tc : Thread Cert.FwdRotIdeal.nD Cert.FwdRotIdeal.τ).loc Cert.FwdRotIdeal.main_arg0))
      ∧ r.2.sem = fun _ => 0)

def quiescent_FwdRotRefIdeal [hFwdRotRefIdeal : Cert.FwdRotRefIdeal.Facts] : Prop :=
  ∀ (m : (ℓ : Loc Cert.FwdRotRefIdeal.nD Cert.FwdRotRefIdeal.τ Cert.FwdRotRefIdeal.sig) → Buf (Elt Ideal) ℓ) (g : Dev Cert.FwdRotRefIdeal.nD → PrngReg), Pre_FwdRotRefIdeal m →
    θ_run (Cert.FwdRotRefIdeal.defs (F := Ideal)) (onTc (τ := Cert.FwdRotRefIdeal.τ) (Cert.FwdRotRefIdeal.main (F := Ideal))) ⟨m, fun _ => 0, g⟩ (fun r => (∀ c : Dev Cert.FwdRotRefIdeal.nD,
      r.2.mem ((c.tc : Thread Cert.FwdRotRefIdeal.nD Cert.FwdRotRefIdeal.τ).loc Cert.FwdRotRefIdeal.main_arg0) = m ((c.tc : Thread Cert.FwdRotRefIdeal.nD Cert.FwdRotRefIdeal.τ).loc Cert.FwdRotRefIdeal.main_arg0))
      ∧ r.2.sem = fun _ => 0)

def quiescent_FwdRet [hFwdRet : Cert.FwdRet.Facts] : Prop :=
  ∀ (m : (ℓ : Loc Cert.FwdRet.nD Cert.FwdRet.τ Cert.FwdRet.sig) → Buf (Elt Bits) ℓ) (g : Dev Cert.FwdRet.nD → PrngReg), Pre_FwdRet m →
    θ_run (Cert.FwdRet.defs (F := Bits)) (onTc (τ := Cert.FwdRet.τ) (Cert.FwdRet.main (F := Bits))) ⟨m, fun _ => 0, g⟩ (fun r => (∀ c : Dev Cert.FwdRet.nD,
      r.2.mem ((c.tc : Thread Cert.FwdRet.nD Cert.FwdRet.τ).loc Cert.FwdRet.main_arg0) = m ((c.tc : Thread Cert.FwdRet.nD Cert.FwdRet.τ).loc Cert.FwdRet.main_arg0)
      ∧ r.2.mem ((c.tc : Thread Cert.FwdRet.nD Cert.FwdRet.τ).loc Cert.FwdRet.main_arg1) = m ((c.tc : Thread Cert.FwdRet.nD Cert.FwdRet.τ).loc Cert.FwdRet.main_arg1)
      ∧ r.2.mem ((c.tc : Thread Cert.FwdRet.nD Cert.FwdRet.τ).loc Cert.FwdRet.main_arg2) = m ((c.tc : Thread Cert.FwdRet.nD Cert.FwdRet.τ).loc Cert.FwdRet.main_arg2)
      ∧ r.2.mem ((c.tc : Thread Cert.FwdRet.nD Cert.FwdRet.τ).loc Cert.FwdRet.main_arg3) = m ((c.tc : Thread Cert.FwdRet.nD Cert.FwdRet.τ).loc Cert.FwdRet.main_arg3))
      ∧ r.2.sem = fun _ => 0)

def quiescent_FwdRetIdeal [hFwdRetIdeal : Cert.FwdRetIdeal.Facts] : Prop :=
  ∀ (m : (ℓ : Loc Cert.FwdRetIdeal.nD Cert.FwdRetIdeal.τ Cert.FwdRetIdeal.sig) → Buf (Elt Ideal) ℓ) (g : Dev Cert.FwdRetIdeal.nD → PrngReg), Pre_FwdRetIdeal m →
    θ_run (Cert.FwdRetIdeal.defs (F := Ideal)) (onTc (τ := Cert.FwdRetIdeal.τ) (Cert.FwdRetIdeal.main (F := Ideal))) ⟨m, fun _ => 0, g⟩ (fun r => (∀ c : Dev Cert.FwdRetIdeal.nD,
      r.2.mem ((c.tc : Thread Cert.FwdRetIdeal.nD Cert.FwdRetIdeal.τ).loc Cert.FwdRetIdeal.main_arg0) = m ((c.tc : Thread Cert.FwdRetIdeal.nD Cert.FwdRetIdeal.τ).loc Cert.FwdRetIdeal.main_arg0)
      ∧ r.2.mem ((c.tc : Thread Cert.FwdRetIdeal.nD Cert.FwdRetIdeal.τ).loc Cert.FwdRetIdeal.main_arg1) = m ((c.tc : Thread Cert.FwdRetIdeal.nD Cert.FwdRetIdeal.τ).loc Cert.FwdRetIdeal.main_arg1)
      ∧ r.2.mem ((c.tc : Thread Cert.FwdRetIdeal.nD Cert.FwdRetIdeal.τ).loc Cert.FwdRetIdeal.main_arg2) = m ((c.tc : Thread Cert.FwdRetIdeal.nD Cert.FwdRetIdeal.τ).loc Cert.FwdRetIdeal.main_arg2)
      ∧ r.2.mem ((c.tc : Thread Cert.FwdRetIdeal.nD Cert.FwdRetIdeal.τ).loc Cert.FwdRetIdeal.main_arg3) = m ((c.tc : Thread Cert.FwdRetIdeal.nD Cert.FwdRetIdeal.τ).loc Cert.FwdRetIdeal.main_arg3))
      ∧ r.2.sem = fun _ => 0)

def quiescent_FwdRetRefIdeal [hFwdRetRefIdeal : Cert.FwdRetRefIdeal.Facts] : Prop :=
  ∀ (m : (ℓ : Loc Cert.FwdRetRefIdeal.nD Cert.FwdRetRefIdeal.τ Cert.FwdRetRefIdeal.sig) → Buf (Elt Ideal) ℓ) (g : Dev Cert.FwdRetRefIdeal.nD → PrngReg), Pre_FwdRetRefIdeal m →
    θ_run (Cert.FwdRetRefIdeal.defs (F := Ideal)) (onTc (τ := Cert.FwdRetRefIdeal.τ) (Cert.FwdRetRefIdeal.main (F := Ideal))) ⟨m, fun _ => 0, g⟩ (fun r => (∀ c : Dev Cert.FwdRetRefIdeal.nD,
      r.2.mem ((c.tc : Thread Cert.FwdRetRefIdeal.nD Cert.FwdRetRefIdeal.τ).loc Cert.FwdRetRefIdeal.main_arg0) = m ((c.tc : Thread Cert.FwdRetRefIdeal.nD Cert.FwdRetRefIdeal.τ).loc Cert.FwdRetRefIdeal.main_arg0)
      ∧ r.2.mem ((c.tc : Thread Cert.FwdRetRefIdeal.nD Cert.FwdRetRefIdeal.τ).loc Cert.FwdRetRefIdeal.main_arg1) = m ((c.tc : Thread Cert.FwdRetRefIdeal.nD Cert.FwdRetRefIdeal.τ).loc Cert.FwdRetRefIdeal.main_arg1)
      ∧ r.2.mem ((c.tc : Thread Cert.FwdRetRefIdeal.nD Cert.FwdRetRefIdeal.τ).loc Cert.FwdRetRefIdeal.main_arg2) = m ((c.tc : Thread Cert.FwdRetRefIdeal.nD Cert.FwdRetRefIdeal.τ).loc Cert.FwdRetRefIdeal.main_arg2)
      ∧ r.2.mem ((c.tc : Thread Cert.FwdRetRefIdeal.nD Cert.FwdRetRefIdeal.τ).loc Cert.FwdRetRefIdeal.main_arg3) = m ((c.tc : Thread Cert.FwdRetRefIdeal.nD Cert.FwdRetRefIdeal.τ).loc Cert.FwdRetRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3)
      ∧ r.2.mem ((c.tc : Thread Cert.AdamGu.nD Cert.AdamGu.τ).loc Cert.AdamGu.main_arg4) = m ((c.tc : Thread Cert.AdamGu.nD Cert.AdamGu.τ).loc Cert.AdamGu.main_arg4))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3)
      ∧ r.2.mem ((c.tc : Thread Cert.AdamGuIdeal.nD Cert.AdamGuIdeal.τ).loc Cert.AdamGuIdeal.main_arg4) = m ((c.tc : Thread Cert.AdamGuIdeal.nD Cert.AdamGuIdeal.τ).loc Cert.AdamGuIdeal.main_arg4))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3)
      ∧ r.2.mem ((c.tc : Thread Cert.AdamGuRefIdeal.nD Cert.AdamGuRefIdeal.τ).loc Cert.AdamGuRefIdeal.main_arg4) = m ((c.tc : Thread Cert.AdamGuRefIdeal.nD Cert.AdamGuRefIdeal.τ).loc Cert.AdamGuRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamTiny [hAdamTiny : Cert.AdamTiny.Facts] : Prop :=
  ∀ (m : (ℓ : Loc Cert.AdamTiny.nD Cert.AdamTiny.τ Cert.AdamTiny.sig) → Buf (Elt Bits) ℓ) (g : Dev Cert.AdamTiny.nD → PrngReg), Pre_AdamTiny m →
    θ_run (Cert.AdamTiny.defs (F := Bits)) (onTc (τ := Cert.AdamTiny.τ) (Cert.AdamTiny.main (F := Bits))) ⟨m, fun _ => 0, g⟩ (fun r => (∀ c : Dev Cert.AdamTiny.nD,
      r.2.mem ((c.tc : Thread Cert.AdamTiny.nD Cert.AdamTiny.τ).loc Cert.AdamTiny.main_arg0) = m ((c.tc : Thread Cert.AdamTiny.nD Cert.AdamTiny.τ).loc Cert.AdamTiny.main_arg0)
      ∧ r.2.mem ((c.tc : Thread Cert.AdamTiny.nD Cert.AdamTiny.τ).loc Cert.AdamTiny.main_arg1) = m ((c.tc : Thread Cert.AdamTiny.nD Cert.AdamTiny.τ).loc Cert.AdamTiny.main_arg1)
      ∧ r.2.mem ((c.tc : Thread Cert.AdamTiny.nD Cert.AdamTiny.τ).loc Cert.AdamTiny.main_arg2) = m ((c.tc : Thread Cert.AdamTiny.nD Cert.AdamTiny.τ).loc Cert.AdamTiny.main_arg2)
      ∧ r.2.mem ((c.tc : Thread Cert.AdamTiny.nD Cert.AdamTiny.τ).loc Cert.AdamTiny.main_arg3) = m ((c.tc : Thread Cert.AdamTiny.nD Cert.AdamTiny.τ).loc Cert.AdamTiny.main_arg3)
      ∧ r.2.mem ((c.tc : Thread Cert.AdamTiny.nD Cert.AdamTiny.τ).loc Cert.AdamTiny.main_arg4) = m ((c.tc : Thread Cert.AdamTiny.nD Cert.AdamTiny.τ).loc Cert.AdamTiny.main_arg4)
      ∧ r.2.mem ((c.tc : Thread Cert.AdamTiny.nD Cert.AdamTiny.τ).loc Cert.AdamTiny.main_arg5) = m ((c.tc : Thread Cert.AdamTiny.nD Cert.AdamTiny.τ).loc Cert.AdamTiny.main_arg5)
      ∧ r.2.mem ((c.tc : Thread Cert.AdamTiny.nD Cert.AdamTiny.τ).loc Cert.AdamTiny.main_arg6) = m ((c.tc : Thread Cert.AdamTiny.nD Cert.AdamTiny.τ).loc Cert.AdamTiny.main_arg6)
      ∧ r.2.mem ((c.tc : Thread Cert.AdamTiny.nD Cert.AdamTiny.τ).loc Cert.AdamTiny.main_arg7) = m ((c.tc : Thread Cert.AdamTiny.nD Cert.AdamTiny.τ).loc Cert.AdamTiny.main_arg7)
      ∧ r.2.mem ((c.tc : Thread Cert.AdamTiny.nD Cert.AdamTiny.τ).loc Cert.AdamTiny.main_arg8) = m ((c.tc : Thread Cert.AdamTiny.nD Cert.AdamTiny.τ).loc Cert.AdamTiny.main_arg8)
      ∧ r.2.mem ((c.tc : Thread Cert.AdamTiny.nD Cert.AdamTiny.τ).loc Cert.AdamTiny.main_arg9) = m ((c.tc : Thread Cert.AdamTiny.nD Cert.AdamTiny.τ).loc Cert.AdamTiny.main_arg9)
      ∧ r.2.mem ((c.tc : Thread Cert.AdamTiny.nD Cert.AdamTiny.τ).loc Cert.AdamTiny.main_arg10) = m ((c.tc : Thread Cert.AdamTiny.nD Cert.AdamTiny.τ).loc Cert.AdamTiny.main_arg10)
      ∧ r.2.mem ((c.tc : Thread Cert.AdamTiny.nD Cert.AdamTiny.τ).loc Cert.AdamTiny.main_arg11) = m ((c.tc : Thread Cert.AdamTiny.nD Cert.AdamTiny.τ).loc Cert.AdamTiny.main_arg11)
      ∧ r.2.mem ((c.tc : Thread Cert.AdamTiny.nD Cert.AdamTiny.τ).loc Cert.AdamTiny.main_arg12) = m ((c.tc : Thread Cert.AdamTiny.nD Cert.AdamTiny.τ).loc Cert.AdamTiny.main_arg12)
      ∧ r.2.mem ((c.tc : Thread Cert.AdamTiny.nD Cert.AdamTiny.τ).loc Cert.AdamTiny.main_arg13) = m ((c.tc : Thread Cert.AdamTiny.nD Cert.AdamTiny.τ).loc Cert.AdamTiny.main_arg13)
      ∧ r.2.mem ((c.tc : Thread Cert.AdamTiny.nD Cert.AdamTiny.τ).loc Cert.AdamTiny.main_arg14) = m ((c.tc : Thread Cert.AdamTiny.nD Cert.AdamTiny.τ).loc Cert.AdamTiny.main_arg14)
      ∧ r.2.mem ((c.tc : Thread Cert.AdamTiny.nD Cert.AdamTiny.τ).loc Cert.AdamTiny.main_arg15) = m ((c.tc : Thread Cert.AdamTiny.nD Cert.AdamTiny.τ).loc Cert.AdamTiny.main_arg15)
      ∧ r.2.mem ((c.tc : Thread Cert.AdamTiny.nD Cert.AdamTiny.τ).loc Cert.AdamTiny.main_arg16) = m ((c.tc : Thread Cert.AdamTiny.nD Cert.AdamTiny.τ).loc Cert.AdamTiny.main_arg16)
      ∧ r.2.mem ((c.tc : Thread Cert.AdamTiny.nD Cert.AdamTiny.τ).loc Cert.AdamTiny.main_arg17) = m ((c.tc : Thread Cert.AdamTiny.nD Cert.AdamTiny.τ).loc Cert.AdamTiny.main_arg17)
      ∧ r.2.mem ((c.tc : Thread Cert.AdamTiny.nD Cert.AdamTiny.τ).loc Cert.AdamTiny.main_arg18) = m ((c.tc : Thread Cert.AdamTiny.nD Cert.AdamTiny.τ).loc Cert.AdamTiny.main_arg18)
      ∧ r.2.mem ((c.tc : Thread Cert.AdamTiny.nD Cert.AdamTiny.τ).loc Cert.AdamTiny.main_arg19) = m ((c.tc : Thread Cert.AdamTiny.nD Cert.AdamTiny.τ).loc Cert.AdamTiny.main_arg19)
      ∧ r.2.mem ((c.tc : Thread Cert.AdamTiny.nD Cert.AdamTiny.τ).loc Cert.AdamTiny.main_arg20) = m ((c.tc : Thread Cert.AdamTiny.nD Cert.AdamTiny.τ).loc Cert.AdamTiny.main_arg20)
      ∧ r.2.mem ((c.tc : Thread Cert.AdamTiny.nD Cert.AdamTiny.τ).loc Cert.AdamTiny.main_arg21) = m ((c.tc : Thread Cert.AdamTiny.nD Cert.AdamTiny.τ).loc Cert.AdamTiny.main_arg21)
      ∧ r.2.mem ((c.tc : Thread Cert.AdamTiny.nD Cert.AdamTiny.τ).loc Cert.AdamTiny.main_arg22) = m ((c.tc : Thread Cert.AdamTiny.nD Cert.AdamTiny.τ).loc Cert.AdamTiny.main_arg22)
      ∧ r.2.mem ((c.tc : Thread Cert.AdamTiny.nD Cert.AdamTiny.τ).loc Cert.AdamTiny.main_arg23) = m ((c.tc : Thread Cert.AdamTiny.nD Cert.AdamTiny.τ).loc Cert.AdamTiny.main_arg23)
      ∧ r.2.mem ((c.tc : Thread Cert.AdamTiny.nD Cert.AdamTiny.τ).loc Cert.AdamTiny.main_arg24) = m ((c.tc : Thread Cert.AdamTiny.nD Cert.AdamTiny.τ).loc Cert.AdamTiny.main_arg24)
      ∧ r.2.mem ((c.tc : Thread Cert.AdamTiny.nD Cert.AdamTiny.τ).loc Cert.AdamTiny.main_arg25) = m ((c.tc : Thread Cert.AdamTiny.nD Cert.AdamTiny.τ).loc Cert.AdamTiny.main_arg25)
      ∧ r.2.mem ((c.tc : Thread Cert.AdamTiny.nD Cert.AdamTiny.τ).loc Cert.AdamTiny.main_arg26) = m ((c.tc : Thread Cert.AdamTiny.nD Cert.AdamTiny.τ).loc Cert.AdamTiny.main_arg26)
      ∧ r.2.mem ((c.tc : Thread Cert.AdamTiny.nD Cert.AdamTiny.τ).loc Cert.AdamTiny.main_arg27) = m ((c.tc : Thread Cert.AdamTiny.nD Cert.AdamTiny.τ).loc Cert.AdamTiny.main_arg27)
      ∧ r.2.mem ((c.tc : Thread Cert.AdamTiny.nD Cert.AdamTiny.τ).loc Cert.AdamTiny.main_arg28) = m ((c.tc : Thread Cert.AdamTiny.nD Cert.AdamTiny.τ).loc Cert.AdamTiny.main_arg28)
      ∧ r.2.mem ((c.tc : Thread Cert.AdamTiny.nD Cert.AdamTiny.τ).loc Cert.AdamTiny.main_arg29) = m ((c.tc : Thread Cert.AdamTiny.nD Cert.AdamTiny.τ).loc Cert.AdamTiny.main_arg29)
      ∧ r.2.mem ((c.tc : Thread Cert.AdamTiny.nD Cert.AdamTiny.τ).loc Cert.AdamTiny.main_arg30) = m ((c.tc : Thread Cert.AdamTiny.nD Cert.AdamTiny.τ).loc Cert.AdamTiny.main_arg30)
      ∧ r.2.mem ((c.tc : Thread Cert.AdamTiny.nD Cert.AdamTiny.τ).loc Cert.AdamTiny.main_arg31) = m ((c.tc : Thread Cert.AdamTiny.nD Cert.AdamTiny.τ).loc Cert.AdamTiny.main_arg31)
      ∧ r.2.mem ((c.tc : Thread Cert.AdamTiny.nD Cert.AdamTiny.τ).loc Cert.AdamTiny.main_arg32) = m ((c.tc : Thread Cert.AdamTiny.nD Cert.AdamTiny.τ).loc Cert.AdamTiny.main_arg32)
      ∧ r.2.mem ((c.tc : Thread Cert.AdamTiny.nD Cert.AdamTiny.τ).loc Cert.AdamTiny.main_arg33) = m ((c.tc : Thread Cert.AdamTiny.nD Cert.AdamTiny.τ).loc Cert.AdamTiny.main_arg33)
      ∧ r.2.mem ((c.tc : Thread Cert.AdamTiny.nD Cert.AdamTiny.τ).loc Cert.AdamTiny.main_arg34) = m ((c.tc : Thread Cert.AdamTiny.nD Cert.AdamTiny.τ).loc Cert.AdamTiny.main_arg34)
      ∧ r.2.mem ((c.tc : Thread Cert.AdamTiny.nD Cert.AdamTiny.τ).loc Cert.AdamTiny.main_arg35) = m ((c.tc : Thread Cert.AdamTiny.nD Cert.AdamTiny.τ).loc Cert.AdamTiny.main_arg35))
      ∧ r.2.sem = fun _ => 0)

def quiescent_AdamTinyIdeal [hAdamTinyIdeal : Cert.AdamTinyIdeal.Facts] : Prop :=
  ∀ (m : (ℓ : Loc Cert.AdamTinyIdeal.nD Cert.AdamTinyIdeal.τ Cert.AdamTinyIdeal.sig) → Buf (Elt Ideal) ℓ) (g : Dev Cert.AdamTinyIdeal.nD → PrngReg), Pre_AdamTinyIdeal m →
    θ_run (Cert.AdamTinyIdeal.defs (F := Ideal)) (onTc (τ := Cert.AdamTinyIdeal.τ) (Cert.AdamTinyIdeal.main (F := Ideal))) ⟨m, fun _ => 0, g⟩ (fun r => (∀ c : Dev Cert.AdamTinyIdeal.nD,
      r.2.mem ((c.tc : Thread Cert.AdamTinyIdeal.nD Cert.AdamTinyIdeal.τ).loc Cert.AdamTinyIdeal.main_arg0) = m ((c.tc : Thread Cert.AdamTinyIdeal.nD Cert.AdamTinyIdeal.τ).loc Cert.AdamTinyIdeal.main_arg0)
      ∧ r.2.mem ((c.tc : Thread Cert.AdamTinyIdeal.nD Cert.AdamTinyIdeal.τ).loc Cert.AdamTinyIdeal.main_arg1) = m ((c.tc : Thread Cert.AdamTinyIdeal.nD Cert.AdamTinyIdeal.τ).loc Cert.AdamTinyIdeal.main_arg1)
      ∧ r.2.mem ((c.tc : Thread Cert.AdamTinyIdeal.nD Cert.AdamTinyIdeal.τ).loc Cert.AdamTinyIdeal.main_arg2) = m ((c.tc : Thread Cert.AdamTinyIdeal.nD Cert.AdamTinyIdeal.τ).loc Cert.AdamTinyIdeal.main_arg2)
      ∧ r.2.mem ((c.tc : Thread Cert.AdamTinyIdeal.nD Cert.AdamTinyIdeal.τ).loc Cert.AdamTinyIdeal.main_arg3) = m ((c.tc : Thread Cert.AdamTinyIdeal.nD Cert.AdamTinyIdeal.τ).loc Cert.AdamTinyIdeal.main_arg3)
      ∧ r.2.mem ((c.tc : Thread Cert.AdamTinyIdeal.nD Cert.AdamTinyIdeal.τ).loc Cert.AdamTinyIdeal.main_arg4) = m ((c.tc : Thread Cert.AdamTinyIdeal.nD Cert.AdamTinyIdeal.τ).loc Cert.AdamTinyIdeal.main_arg4)
      ∧ r.2.mem ((c.tc : Thread Cert.AdamTinyIdeal.nD Cert.AdamTinyIdeal.τ).loc Cert.AdamTinyIdeal.main_arg5) = m ((c.tc : Thread Cert.AdamTinyIdeal.nD Cert.AdamTinyIdeal.τ).loc Cert.AdamTinyIdeal.main_arg5)
      ∧ r.2.mem ((c.tc : Thread Cert.AdamTinyIdeal.nD Cert.AdamTinyIdeal.τ).loc Cert.AdamTinyIdeal.main_arg6) = m ((c.tc : Thread Cert.AdamTinyIdeal.nD Cert.AdamTinyIdeal.τ).loc Cert.AdamTinyIdeal.main_arg6)
      ∧ r.2.mem ((c.tc : Thread Cert.AdamTinyIdeal.nD Cert.AdamTinyIdeal.τ).loc Cert.AdamTinyIdeal.main_arg7) = m ((c.tc : Thread Cert.AdamTinyIdeal.nD Cert.AdamTinyIdeal.τ).loc Cert.AdamTinyIdeal.main_arg7)
      ∧ r.2.mem ((c.tc : Thread Cert.AdamTinyIdeal.nD Cert.AdamTinyIdeal.τ).loc Cert.AdamTinyIdeal.main_arg8) = m ((c.tc : Thread Cert.AdamTinyIdeal.nD Cert.AdamTinyIdeal.τ).loc Cert.AdamTinyIdeal.main_arg8)
      ∧ r.2.mem ((c.tc : Thread Cert.AdamTinyIdeal.nD Cert.AdamTinyIdeal.τ).loc Cert.AdamTinyIdeal.main_arg9) = m ((c.tc : Thread Cert.AdamTinyIdeal.nD Cert.AdamTinyIdeal.τ).loc Cert.AdamTinyIdeal.main_arg9)
      ∧ r.2.mem ((c.tc : Thread Cert.AdamTinyIdeal.nD Cert.AdamTinyIdeal.τ).loc Cert.AdamTinyIdeal.main_arg10) = m ((c.tc : Thread Cert.AdamTinyIdeal.nD Cert.AdamTinyIdeal.τ).loc Cert.AdamTinyIdeal.main_arg10)
      ∧ r.2.mem ((c.tc : Thread Cert.AdamTinyIdeal.nD Cert.AdamTinyIdeal.τ).loc Cert.AdamTinyIdeal.main_arg11) = m ((c.tc : Thread Cert.AdamTinyIdeal.nD Cert.AdamTinyIdeal.τ).loc Cert.AdamTinyIdeal.main_arg11)
      ∧ r.2.mem ((c.tc : Thread Cert.AdamTinyIdeal.nD Cert.AdamTinyIdeal.τ).loc Cert.AdamTinyIdeal.main_arg12) = m ((c.tc : Thread Cert.AdamTinyIdeal.nD Cert.AdamTinyIdeal.τ).loc Cert.AdamTinyIdeal.main_arg12)
      ∧ r.2.mem ((c.tc : Thread Cert.AdamTinyIdeal.nD Cert.AdamTinyIdeal.τ).loc Cert.AdamTinyIdeal.main_arg13) = m ((c.tc : Thread Cert.AdamTinyIdeal.nD Cert.AdamTinyIdeal.τ).loc Cert.AdamTinyIdeal.main_arg13)
      ∧ r.2.mem ((c.tc : Thread Cert.AdamTinyIdeal.nD Cert.AdamTinyIdeal.τ).loc Cert.AdamTinyIdeal.main_arg14) = m ((c.tc : Thread Cert.AdamTinyIdeal.nD Cert.AdamTinyIdeal.τ).loc Cert.AdamTinyIdeal.main_arg14)
      ∧ r.2.mem ((c.tc : Thread Cert.AdamTinyIdeal.nD Cert.AdamTinyIdeal.τ).loc Cert.AdamTinyIdeal.main_arg15) = m ((c.tc : Thread Cert.AdamTinyIdeal.nD Cert.AdamTinyIdeal.τ).loc Cert.AdamTinyIdeal.main_arg15)
      ∧ r.2.mem ((c.tc : Thread Cert.AdamTinyIdeal.nD Cert.AdamTinyIdeal.τ).loc Cert.AdamTinyIdeal.main_arg16) = m ((c.tc : Thread Cert.AdamTinyIdeal.nD Cert.AdamTinyIdeal.τ).loc Cert.AdamTinyIdeal.main_arg16)
      ∧ r.2.mem ((c.tc : Thread Cert.AdamTinyIdeal.nD Cert.AdamTinyIdeal.τ).loc Cert.AdamTinyIdeal.main_arg17) = m ((c.tc : Thread Cert.AdamTinyIdeal.nD Cert.AdamTinyIdeal.τ).loc Cert.AdamTinyIdeal.main_arg17)
      ∧ r.2.mem ((c.tc : Thread Cert.AdamTinyIdeal.nD Cert.AdamTinyIdeal.τ).loc Cert.AdamTinyIdeal.main_arg18) = m ((c.tc : Thread Cert.AdamTinyIdeal.nD Cert.AdamTinyIdeal.τ).loc Cert.AdamTinyIdeal.main_arg18)
      ∧ r.2.mem ((c.tc : Thread Cert.AdamTinyIdeal.nD Cert.AdamTinyIdeal.τ).loc Cert.AdamTinyIdeal.main_arg19) = m ((c.tc : Thread Cert.AdamTinyIdeal.nD Cert.AdamTinyIdeal.τ).loc Cert.AdamTinyIdeal.main_arg19)
      ∧ r.2.mem ((c.tc : Thread Cert.AdamTinyIdeal.nD Cert.AdamTinyIdeal.τ).loc Cert.AdamTinyIdeal.main_arg20) = m ((c.tc : Thread Cert.AdamTinyIdeal.nD Cert.AdamTinyIdeal.τ).loc Cert.AdamTinyIdeal.main_arg20)
      ∧ r.2.mem ((c.tc : Thread Cert.AdamTinyIdeal.nD Cert.AdamTinyIdeal.τ).loc Cert.AdamTinyIdeal.main_arg21) = m ((c.tc : Thread Cert.AdamTinyIdeal.nD Cert.AdamTinyIdeal.τ).loc Cert.AdamTinyIdeal.main_arg21)
      ∧ r.2.mem ((c.tc : Thread Cert.AdamTinyIdeal.nD Cert.AdamTinyIdeal.τ).loc Cert.AdamTinyIdeal.main_arg22) = m ((c.tc : Thread Cert.AdamTinyIdeal.nD Cert.AdamTinyIdeal.τ).loc Cert.AdamTinyIdeal.main_arg22)
      ∧ r.2.mem ((c.tc : Thread Cert.AdamTinyIdeal.nD Cert.AdamTinyIdeal.τ).loc Cert.AdamTinyIdeal.main_arg23) = m ((c.tc : Thread Cert.AdamTinyIdeal.nD Cert.AdamTinyIdeal.τ).loc Cert.AdamTinyIdeal.main_arg23)
      ∧ r.2.mem ((c.tc : Thread Cert.AdamTinyIdeal.nD Cert.AdamTinyIdeal.τ).loc Cert.AdamTinyIdeal.main_arg24) = m ((c.tc : Thread Cert.AdamTinyIdeal.nD Cert.AdamTinyIdeal.τ).loc Cert.AdamTinyIdeal.main_arg24)
      ∧ r.2.mem ((c.tc : Thread Cert.AdamTinyIdeal.nD Cert.AdamTinyIdeal.τ).loc Cert.AdamTinyIdeal.main_arg25) = m ((c.tc : Thread Cert.AdamTinyIdeal.nD Cert.AdamTinyIdeal.τ).loc Cert.AdamTinyIdeal.main_arg25)
      ∧ r.2.mem ((c.tc : Thread Cert.AdamTinyIdeal.nD Cert.AdamTinyIdeal.τ).loc Cert.AdamTinyIdeal.main_arg26) = m ((c.tc : Thread Cert.AdamTinyIdeal.nD Cert.AdamTinyIdeal.τ).loc Cert.AdamTinyIdeal.main_arg26)
      ∧ r.2.mem ((c.tc : Thread Cert.AdamTinyIdeal.nD Cert.AdamTinyIdeal.τ).loc Cert.AdamTinyIdeal.main_arg27) = m ((c.tc : Thread Cert.AdamTinyIdeal.nD Cert.AdamTinyIdeal.τ).loc Cert.AdamTinyIdeal.main_arg27)
      ∧ r.2.mem ((c.tc : Thread Cert.AdamTinyIdeal.nD Cert.AdamTinyIdeal.τ).loc Cert.AdamTinyIdeal.main_arg28) = m ((c.tc : Thread Cert.AdamTinyIdeal.nD Cert.AdamTinyIdeal.τ).loc Cert.AdamTinyIdeal.main_arg28)
      ∧ r.2.mem ((c.tc : Thread Cert.AdamTinyIdeal.nD Cert.AdamTinyIdeal.τ).loc Cert.AdamTinyIdeal.main_arg29) = m ((c.tc : Thread Cert.AdamTinyIdeal.nD Cert.AdamTinyIdeal.τ).loc Cert.AdamTinyIdeal.main_arg29)
      ∧ r.2.mem ((c.tc : Thread Cert.AdamTinyIdeal.nD Cert.AdamTinyIdeal.τ).loc Cert.AdamTinyIdeal.main_arg30) = m ((c.tc : Thread Cert.AdamTinyIdeal.nD Cert.AdamTinyIdeal.τ).loc Cert.AdamTinyIdeal.main_arg30)
      ∧ r.2.mem ((c.tc : Thread Cert.AdamTinyIdeal.nD Cert.AdamTinyIdeal.τ).loc Cert.AdamTinyIdeal.main_arg31) = m ((c.tc : Thread Cert.AdamTinyIdeal.nD Cert.AdamTinyIdeal.τ).loc Cert.AdamTinyIdeal.main_arg31)
      ∧ r.2.mem ((c.tc : Thread Cert.AdamTinyIdeal.nD Cert.AdamTinyIdeal.τ).loc Cert.AdamTinyIdeal.main_arg32) = m ((c.tc : Thread Cert.AdamTinyIdeal.nD Cert.AdamTinyIdeal.τ).loc Cert.AdamTinyIdeal.main_arg32)
      ∧ r.2.mem ((c.tc : Thread Cert.AdamTinyIdeal.nD Cert.AdamTinyIdeal.τ).loc Cert.AdamTinyIdeal.main_arg33) = m ((c.tc : Thread Cert.AdamTinyIdeal.nD Cert.AdamTinyIdeal.τ).loc Cert.AdamTinyIdeal.main_arg33)
      ∧ r.2.mem ((c.tc : Thread Cert.AdamTinyIdeal.nD Cert.AdamTinyIdeal.τ).loc Cert.AdamTinyIdeal.main_arg34) = m ((c.tc : Thread Cert.AdamTinyIdeal.nD Cert.AdamTinyIdeal.τ).loc Cert.AdamTinyIdeal.main_arg34)
      ∧ r.2.mem ((c.tc : Thread Cert.AdamTinyIdeal.nD Cert.AdamTinyIdeal.τ).loc Cert.AdamTinyIdeal.main_arg35) = m ((c.tc : Thread Cert.AdamTinyIdeal.nD Cert.AdamTinyIdeal.τ).loc Cert.AdamTinyIdeal.main_arg35))
      ∧ r.2.sem = fun _ => 0)

def quiescent_AdamTinyRefIdeal [hAdamTinyRefIdeal : Cert.AdamTinyRefIdeal.Facts] : Prop :=
  ∀ (m : (ℓ : Loc Cert.AdamTinyRefIdeal.nD Cert.AdamTinyRefIdeal.τ Cert.AdamTinyRefIdeal.sig) → Buf (Elt Ideal) ℓ) (g : Dev Cert.AdamTinyRefIdeal.nD → PrngReg), Pre_AdamTinyRefIdeal m →
    θ_run (Cert.AdamTinyRefIdeal.defs (F := Ideal)) (onTc (τ := Cert.AdamTinyRefIdeal.τ) (Cert.AdamTinyRefIdeal.main (F := Ideal))) ⟨m, fun _ => 0, g⟩ (fun r => (∀ c : Dev Cert.AdamTinyRefIdeal.nD,
      r.2.mem ((c.tc : Thread Cert.AdamTinyRefIdeal.nD Cert.AdamTinyRefIdeal.τ).loc Cert.AdamTinyRefIdeal.main_arg0) = m ((c.tc : Thread Cert.AdamTinyRefIdeal.nD Cert.AdamTinyRefIdeal.τ).loc Cert.AdamTinyRefIdeal.main_arg0)
      ∧ r.2.mem ((c.tc : Thread Cert.AdamTinyRefIdeal.nD Cert.AdamTinyRefIdeal.τ).loc Cert.AdamTinyRefIdeal.main_arg1) = m ((c.tc : Thread Cert.AdamTinyRefIdeal.nD Cert.AdamTinyRefIdeal.τ).loc Cert.AdamTinyRefIdeal.main_arg1)
      ∧ r.2.mem ((c.tc : Thread Cert.AdamTinyRefIdeal.nD Cert.AdamTinyRefIdeal.τ).loc Cert.AdamTinyRefIdeal.main_arg2) = m ((c.tc : Thread Cert.AdamTinyRefIdeal.nD Cert.AdamTinyRefIdeal.τ).loc Cert.AdamTinyRefIdeal.main_arg2)
      ∧ r.2.mem ((c.tc : Thread Cert.AdamTinyRefIdeal.nD Cert.AdamTinyRefIdeal.τ).loc Cert.AdamTinyRefIdeal.main_arg3) = m ((c.tc : Thread Cert.AdamTinyRefIdeal.nD Cert.AdamTinyRefIdeal.τ).loc Cert.AdamTinyRefIdeal.main_arg3)
      ∧ r.2.mem ((c.tc : Thread Cert.AdamTinyRefIdeal.nD Cert.AdamTinyRefIdeal.τ).loc Cert.AdamTinyRefIdeal.main_arg4) = m ((c.tc : Thread Cert.AdamTinyRefIdeal.nD Cert.AdamTinyRefIdeal.τ).loc Cert.AdamTinyRefIdeal.main_arg4)
      ∧ r.2.mem ((c.tc : Thread Cert.AdamTinyRefIdeal.nD Cert.AdamTinyRefIdeal.τ).loc Cert.AdamTinyRefIdeal.main_arg5) = m ((c.tc : Thread Cert.AdamTinyRefIdeal.nD Cert.AdamTinyRefIdeal.τ).loc Cert.AdamTinyRefIdeal.main_arg5)
      ∧ r.2.mem ((c.tc : Thread Cert.AdamTinyRefIdeal.nD Cert.AdamTinyRefIdeal.τ).loc Cert.AdamTinyRefIdeal.main_arg6) = m ((c.tc : Thread Cert.AdamTinyRefIdeal.nD Cert.AdamTinyRefIdeal.τ).loc Cert.AdamTinyRefIdeal.main_arg6)
      ∧ r.2.mem ((c.tc : Thread Cert.AdamTinyRefIdeal.nD Cert.AdamTinyRefIdeal.τ).loc Cert.AdamTinyRefIdeal.main_arg7) = m ((c.tc : Thread Cert.AdamTinyRefIdeal.nD Cert.AdamTinyRefIdeal.τ).loc Cert.AdamTinyRefIdeal.main_arg7)
      ∧ r.2.mem ((c.tc : Thread Cert.AdamTinyRefIdeal.nD Cert.AdamTinyRefIdeal.τ).loc Cert.AdamTinyRefIdeal.main_arg8) = m ((c.tc : Thread Cert.AdamTinyRefIdeal.nD Cert.AdamTinyRefIdeal.τ).loc Cert.AdamTinyRefIdeal.main_arg8)
      ∧ r.2.mem ((c.tc : Thread Cert.AdamTinyRefIdeal.nD Cert.AdamTinyRefIdeal.τ).loc Cert.AdamTinyRefIdeal.main_arg9) = m ((c.tc : Thread Cert.AdamTinyRefIdeal.nD Cert.AdamTinyRefIdeal.τ).loc Cert.AdamTinyRefIdeal.main_arg9)
      ∧ r.2.mem ((c.tc : Thread Cert.AdamTinyRefIdeal.nD Cert.AdamTinyRefIdeal.τ).loc Cert.AdamTinyRefIdeal.main_arg10) = m ((c.tc : Thread Cert.AdamTinyRefIdeal.nD Cert.AdamTinyRefIdeal.τ).loc Cert.AdamTinyRefIdeal.main_arg10)
      ∧ r.2.mem ((c.tc : Thread Cert.AdamTinyRefIdeal.nD Cert.AdamTinyRefIdeal.τ).loc Cert.AdamTinyRefIdeal.main_arg11) = m ((c.tc : Thread Cert.AdamTinyRefIdeal.nD Cert.AdamTinyRefIdeal.τ).loc Cert.AdamTinyRefIdeal.main_arg11)
      ∧ r.2.mem ((c.tc : Thread Cert.AdamTinyRefIdeal.nD Cert.AdamTinyRefIdeal.τ).loc Cert.AdamTinyRefIdeal.main_arg12) = m ((c.tc : Thread Cert.AdamTinyRefIdeal.nD Cert.AdamTinyRefIdeal.τ).loc Cert.AdamTinyRefIdeal.main_arg12)
      ∧ r.2.mem ((c.tc : Thread Cert.AdamTinyRefIdeal.nD Cert.AdamTinyRefIdeal.τ).loc Cert.AdamTinyRefIdeal.main_arg13) = m ((c.tc : Thread Cert.AdamTinyRefIdeal.nD Cert.AdamTinyRefIdeal.τ).loc Cert.AdamTinyRefIdeal.main_arg13)
      ∧ r.2.mem ((c.tc : Thread Cert.AdamTinyRefIdeal.nD Cert.AdamTinyRefIdeal.τ).loc Cert.AdamTinyRefIdeal.main_arg14) = m ((c.tc : Thread Cert.AdamTinyRefIdeal.nD Cert.AdamTinyRefIdeal.τ).loc Cert.AdamTinyRefIdeal.main_arg14)
      ∧ r.2.mem ((c.tc : Thread Cert.AdamTinyRefIdeal.nD Cert.AdamTinyRefIdeal.τ).loc Cert.AdamTinyRefIdeal.main_arg15) = m ((c.tc : Thread Cert.AdamTinyRefIdeal.nD Cert.AdamTinyRefIdeal.τ).loc Cert.AdamTinyRefIdeal.main_arg15)
      ∧ r.2.mem ((c.tc : Thread Cert.AdamTinyRefIdeal.nD Cert.AdamTinyRefIdeal.τ).loc Cert.AdamTinyRefIdeal.main_arg16) = m ((c.tc : Thread Cert.AdamTinyRefIdeal.nD Cert.AdamTinyRefIdeal.τ).loc Cert.AdamTinyRefIdeal.main_arg16)
      ∧ r.2.mem ((c.tc : Thread Cert.AdamTinyRefIdeal.nD Cert.AdamTinyRefIdeal.τ).loc Cert.AdamTinyRefIdeal.main_arg17) = m ((c.tc : Thread Cert.AdamTinyRefIdeal.nD Cert.AdamTinyRefIdeal.τ).loc Cert.AdamTinyRefIdeal.main_arg17)
      ∧ r.2.mem ((c.tc : Thread Cert.AdamTinyRefIdeal.nD Cert.AdamTinyRefIdeal.τ).loc Cert.AdamTinyRefIdeal.main_arg18) = m ((c.tc : Thread Cert.AdamTinyRefIdeal.nD Cert.AdamTinyRefIdeal.τ).loc Cert.AdamTinyRefIdeal.main_arg18)
      ∧ r.2.mem ((c.tc : Thread Cert.AdamTinyRefIdeal.nD Cert.AdamTinyRefIdeal.τ).loc Cert.AdamTinyRefIdeal.main_arg19) = m ((c.tc : Thread Cert.AdamTinyRefIdeal.nD Cert.AdamTinyRefIdeal.τ).loc Cert.AdamTinyRefIdeal.main_arg19)
      ∧ r.2.mem ((c.tc : Thread Cert.AdamTinyRefIdeal.nD Cert.AdamTinyRefIdeal.τ).loc Cert.AdamTinyRefIdeal.main_arg20) = m ((c.tc : Thread Cert.AdamTinyRefIdeal.nD Cert.AdamTinyRefIdeal.τ).loc Cert.AdamTinyRefIdeal.main_arg20)
      ∧ r.2.mem ((c.tc : Thread Cert.AdamTinyRefIdeal.nD Cert.AdamTinyRefIdeal.τ).loc Cert.AdamTinyRefIdeal.main_arg21) = m ((c.tc : Thread Cert.AdamTinyRefIdeal.nD Cert.AdamTinyRefIdeal.τ).loc Cert.AdamTinyRefIdeal.main_arg21)
      ∧ r.2.mem ((c.tc : Thread Cert.AdamTinyRefIdeal.nD Cert.AdamTinyRefIdeal.τ).loc Cert.AdamTinyRefIdeal.main_arg22) = m ((c.tc : Thread Cert.AdamTinyRefIdeal.nD Cert.AdamTinyRefIdeal.τ).loc Cert.AdamTinyRefIdeal.main_arg22)
      ∧ r.2.mem ((c.tc : Thread Cert.AdamTinyRefIdeal.nD Cert.AdamTinyRefIdeal.τ).loc Cert.AdamTinyRefIdeal.main_arg23) = m ((c.tc : Thread Cert.AdamTinyRefIdeal.nD Cert.AdamTinyRefIdeal.τ).loc Cert.AdamTinyRefIdeal.main_arg23)
      ∧ r.2.mem ((c.tc : Thread Cert.AdamTinyRefIdeal.nD Cert.AdamTinyRefIdeal.τ).loc Cert.AdamTinyRefIdeal.main_arg24) = m ((c.tc : Thread Cert.AdamTinyRefIdeal.nD Cert.AdamTinyRefIdeal.τ).loc Cert.AdamTinyRefIdeal.main_arg24)
      ∧ r.2.mem ((c.tc : Thread Cert.AdamTinyRefIdeal.nD Cert.AdamTinyRefIdeal.τ).loc Cert.AdamTinyRefIdeal.main_arg25) = m ((c.tc : Thread Cert.AdamTinyRefIdeal.nD Cert.AdamTinyRefIdeal.τ).loc Cert.AdamTinyRefIdeal.main_arg25)
      ∧ r.2.mem ((c.tc : Thread Cert.AdamTinyRefIdeal.nD Cert.AdamTinyRefIdeal.τ).loc Cert.AdamTinyRefIdeal.main_arg26) = m ((c.tc : Thread Cert.AdamTinyRefIdeal.nD Cert.AdamTinyRefIdeal.τ).loc Cert.AdamTinyRefIdeal.main_arg26)
      ∧ r.2.mem ((c.tc : Thread Cert.AdamTinyRefIdeal.nD Cert.AdamTinyRefIdeal.τ).loc Cert.AdamTinyRefIdeal.main_arg27) = m ((c.tc : Thread Cert.AdamTinyRefIdeal.nD Cert.AdamTinyRefIdeal.τ).loc Cert.AdamTinyRefIdeal.main_arg27)
      ∧ r.2.mem ((c.tc : Thread Cert.AdamTinyRefIdeal.nD Cert.AdamTinyRefIdeal.τ).loc Cert.AdamTinyRefIdeal.main_arg28) = m ((c.tc : Thread Cert.AdamTinyRefIdeal.nD Cert.AdamTinyRefIdeal.τ).loc Cert.AdamTinyRefIdeal.main_arg28)
      ∧ r.2.mem ((c.tc : Thread Cert.AdamTinyRefIdeal.nD Cert.AdamTinyRefIdeal.τ).loc Cert.AdamTinyRefIdeal.main_arg29) = m ((c.tc : Thread Cert.AdamTinyRefIdeal.nD Cert.AdamTinyRefIdeal.τ).loc Cert.AdamTinyRefIdeal.main_arg29)
      ∧ r.2.mem ((c.tc : Thread Cert.AdamTinyRefIdeal.nD Cert.AdamTinyRefIdeal.τ).loc Cert.AdamTinyRefIdeal.main_arg30) = m ((c.tc : Thread Cert.AdamTinyRefIdeal.nD Cert.AdamTinyRefIdeal.τ).loc Cert.AdamTinyRefIdeal.main_arg30)
      ∧ r.2.mem ((c.tc : Thread Cert.AdamTinyRefIdeal.nD Cert.AdamTinyRefIdeal.τ).loc Cert.AdamTinyRefIdeal.main_arg31) = m ((c.tc : Thread Cert.AdamTinyRefIdeal.nD Cert.AdamTinyRefIdeal.τ).loc Cert.AdamTinyRefIdeal.main_arg31)
      ∧ r.2.mem ((c.tc : Thread Cert.AdamTinyRefIdeal.nD Cert.AdamTinyRefIdeal.τ).loc Cert.AdamTinyRefIdeal.main_arg32) = m ((c.tc : Thread Cert.AdamTinyRefIdeal.nD Cert.AdamTinyRefIdeal.τ).loc Cert.AdamTinyRefIdeal.main_arg32)
      ∧ r.2.mem ((c.tc : Thread Cert.AdamTinyRefIdeal.nD Cert.AdamTinyRefIdeal.τ).loc Cert.AdamTinyRefIdeal.main_arg33) = m ((c.tc : Thread Cert.AdamTinyRefIdeal.nD Cert.AdamTinyRefIdeal.τ).loc Cert.AdamTinyRefIdeal.main_arg33)
      ∧ r.2.mem ((c.tc : Thread Cert.AdamTinyRefIdeal.nD Cert.AdamTinyRefIdeal.τ).loc Cert.AdamTinyRefIdeal.main_arg34) = m ((c.tc : Thread Cert.AdamTinyRefIdeal.nD Cert.AdamTinyRefIdeal.τ).loc Cert.AdamTinyRefIdeal.main_arg34)
      ∧ r.2.mem ((c.tc : Thread Cert.AdamTinyRefIdeal.nD Cert.AdamTinyRefIdeal.τ).loc Cert.AdamTinyRefIdeal.main_arg35) = m ((c.tc : Thread Cert.AdamTinyRefIdeal.nD Cert.AdamTinyRefIdeal.τ).loc Cert.AdamTinyRefIdeal.main_arg35))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_LossTotal [hLossTotal : Cert.LossTotal.Facts] : Prop :=
  ∀ (m : (ℓ : Loc Cert.LossTotal.nD Cert.LossTotal.τ Cert.LossTotal.sig) → Buf (Elt Bits) ℓ) (g : Dev Cert.LossTotal.nD → PrngReg), Pre_LossTotal m →
    θ_run (Cert.LossTotal.defs (F := Bits)) (onTc (τ := Cert.LossTotal.τ) (Cert.LossTotal.main (F := Bits))) ⟨m, fun _ => 0, g⟩ (fun r => (∀ c : Dev Cert.LossTotal.nD,
      r.2.mem ((c.tc : Thread Cert.LossTotal.nD Cert.LossTotal.τ).loc Cert.LossTotal.main_arg0) = m ((c.tc : Thread Cert.LossTotal.nD Cert.LossTotal.τ).loc Cert.LossTotal.main_arg0))
      ∧ r.2.sem = fun _ => 0)

def quiescent_LossTotalIdeal [hLossTotalIdeal : Cert.LossTotalIdeal.Facts] : Prop :=
  ∀ (m : (ℓ : Loc Cert.LossTotalIdeal.nD Cert.LossTotalIdeal.τ Cert.LossTotalIdeal.sig) → Buf (Elt Ideal) ℓ) (g : Dev Cert.LossTotalIdeal.nD → PrngReg), Pre_LossTotalIdeal m →
    θ_run (Cert.LossTotalIdeal.defs (F := Ideal)) (onTc (τ := Cert.LossTotalIdeal.τ) (Cert.LossTotalIdeal.main (F := Ideal))) ⟨m, fun _ => 0, g⟩ (fun r => (∀ c : Dev Cert.LossTotalIdeal.nD,
      r.2.mem ((c.tc : Thread Cert.LossTotalIdeal.nD Cert.LossTotalIdeal.τ).loc Cert.LossTotalIdeal.main_arg0) = m ((c.tc : Thread Cert.LossTotalIdeal.nD Cert.LossTotalIdeal.τ).loc Cert.LossTotalIdeal.main_arg0))
      ∧ r.2.sem = fun _ => 0)

def quiescent_LossTotalRefIdeal [hLossTotalRefIdeal : Cert.LossTotalRefIdeal.Facts] : Prop :=
  ∀ (m : (ℓ : Loc Cert.LossTotalRefIdeal.nD Cert.LossTotalRefIdeal.τ Cert.LossTotalRefIdeal.sig) → Buf (Elt Ideal) ℓ) (g : Dev Cert.LossTotalRefIdeal.nD → PrngReg), Pre_LossTotalRefIdeal m →
    θ_run (Cert.LossTotalRefIdeal.defs (F := Ideal)) (onTc (τ := Cert.LossTotalRefIdeal.τ) (Cert.LossTotalRefIdeal.main (F := Ideal))) ⟨m, fun _ => 0, g⟩ (fun r => (∀ c : Dev Cert.LossTotalRefIdeal.nD,
      r.2.mem ((c.tc : Thread Cert.LossTotalRefIdeal.nD Cert.LossTotalRefIdeal.τ).loc Cert.LossTotalRefIdeal.main_arg0) = m ((c.tc : Thread Cert.LossTotalRefIdeal.nD Cert.LossTotalRefIdeal.τ).loc Cert.LossTotalRefIdeal.main_arg0))
      ∧ r.2.sem = fun _ => 0)

def quiescent_FwdScan [hFwdScan : Cert.FwdScan.Facts] : Prop :=
  ∀ (m : (ℓ : Loc Cert.FwdScan.nD Cert.FwdScan.τ Cert.FwdScan.sig) → Buf (Elt Bits) ℓ) (g : Dev Cert.FwdScan.nD → PrngReg), Pre_FwdScan m →
    θ_run (Cert.FwdScan.defs (F := Bits)) (onTc (τ := Cert.FwdScan.τ) (Cert.FwdScan.main (F := Bits))) ⟨m, fun _ => 0, g⟩ (fun r => (∀ c : Dev Cert.FwdScan.nD,
      r.2.mem ((c.tc : Thread Cert.FwdScan.nD Cert.FwdScan.τ).loc Cert.FwdScan.main_arg0) = m ((c.tc : Thread Cert.FwdScan.nD Cert.FwdScan.τ).loc Cert.FwdScan.main_arg0)
      ∧ r.2.mem ((c.tc : Thread Cert.FwdScan.nD Cert.FwdScan.τ).loc Cert.FwdScan.main_arg1) = m ((c.tc : Thread Cert.FwdScan.nD Cert.FwdScan.τ).loc Cert.FwdScan.main_arg1)
      ∧ r.2.mem ((c.tc : Thread Cert.FwdScan.nD Cert.FwdScan.τ).loc Cert.FwdScan.main_arg2) = m ((c.tc : Thread Cert.FwdScan.nD Cert.FwdScan.τ).loc Cert.FwdScan.main_arg2)
      ∧ r.2.mem ((c.tc : Thread Cert.FwdScan.nD Cert.FwdScan.τ).loc Cert.FwdScan.main_arg3) = m ((c.tc : Thread Cert.FwdScan.nD Cert.FwdScan.τ).loc Cert.FwdScan.main_arg3))
      ∧ r.2.sem = fun _ => 0)

def quiescent_FwdScanIdeal [hFwdScanIdeal : Cert.FwdScanIdeal.Facts] : Prop :=
  ∀ (m : (ℓ : Loc Cert.FwdScanIdeal.nD Cert.FwdScanIdeal.τ Cert.FwdScanIdeal.sig) → Buf (Elt Ideal) ℓ) (g : Dev Cert.FwdScanIdeal.nD → PrngReg), Pre_FwdScanIdeal m →
    θ_run (Cert.FwdScanIdeal.defs (F := Ideal)) (onTc (τ := Cert.FwdScanIdeal.τ) (Cert.FwdScanIdeal.main (F := Ideal))) ⟨m, fun _ => 0, g⟩ (fun r => (∀ c : Dev Cert.FwdScanIdeal.nD,
      r.2.mem ((c.tc : Thread Cert.FwdScanIdeal.nD Cert.FwdScanIdeal.τ).loc Cert.FwdScanIdeal.main_arg0) = m ((c.tc : Thread Cert.FwdScanIdeal.nD Cert.FwdScanIdeal.τ).loc Cert.FwdScanIdeal.main_arg0)
      ∧ r.2.mem ((c.tc : Thread Cert.FwdScanIdeal.nD Cert.FwdScanIdeal.τ).loc Cert.FwdScanIdeal.main_arg1) = m ((c.tc : Thread Cert.FwdScanIdeal.nD Cert.FwdScanIdeal.τ).loc Cert.FwdScanIdeal.main_arg1)
      ∧ r.2.mem ((c.tc : Thread Cert.FwdScanIdeal.nD Cert.FwdScanIdeal.τ).loc Cert.FwdScanIdeal.main_arg2) = m ((c.tc : Thread Cert.FwdScanIdeal.nD Cert.FwdScanIdeal.τ).loc Cert.FwdScanIdeal.main_arg2)
      ∧ r.2.mem ((c.tc : Thread Cert.FwdScanIdeal.nD Cert.FwdScanIdeal.τ).loc Cert.FwdScanIdeal.main_arg3) = m ((c.tc : Thread Cert.FwdScanIdeal.nD Cert.FwdScanIdeal.τ).loc Cert.FwdScanIdeal.main_arg3))
      ∧ r.2.sem = fun _ => 0)

def quiescent_BwdScan [hBwdScan : Cert.BwdScan.Facts] : Prop :=
  ∀ (m : (ℓ : Loc Cert.BwdScan.nD Cert.BwdScan.τ Cert.BwdScan.sig) → Buf (Elt Bits) ℓ) (g : Dev Cert.BwdScan.nD → PrngReg), Pre_BwdScan m →
    θ_run (Cert.BwdScan.defs (F := Bits)) (onTc (τ := Cert.BwdScan.τ) (Cert.BwdScan.main (F := Bits))) ⟨m, fun _ => 0, g⟩ (fun r => (∀ c : Dev Cert.BwdScan.nD,
      r.2.mem ((c.tc : Thread Cert.BwdScan.nD Cert.BwdScan.τ).loc Cert.BwdScan.main_arg0) = m ((c.tc : Thread Cert.BwdScan.nD Cert.BwdScan.τ).loc Cert.BwdScan.main_arg0)
      ∧ r.2.mem ((c.tc : Thread Cert.BwdScan.nD Cert.BwdScan.τ).loc Cert.BwdScan.main_arg1) = m ((c.tc : Thread Cert.BwdScan.nD Cert.BwdScan.τ).loc Cert.BwdScan.main_arg1)
      ∧ r.2.mem ((c.tc : Thread Cert.BwdScan.nD Cert.BwdScan.τ).loc Cert.BwdScan.main_arg2) = m ((c.tc : Thread Cert.BwdScan.nD Cert.BwdScan.τ).loc Cert.BwdScan.main_arg2)
      ∧ r.2.mem ((c.tc : Thread Cert.BwdScan.nD Cert.BwdScan.τ).loc Cert.BwdScan.main_arg3) = m ((c.tc : Thread Cert.BwdScan.nD Cert.BwdScan.τ).loc Cert.BwdScan.main_arg3)
      ∧ r.2.mem ((c.tc : Thread Cert.BwdScan.nD Cert.BwdScan.τ).loc Cert.BwdScan.main_arg4) = m ((c.tc : Thread Cert.BwdScan.nD Cert.BwdScan.τ).loc Cert.BwdScan.main_arg4)
      ∧ r.2.mem ((c.tc : Thread Cert.BwdScan.nD Cert.BwdScan.τ).loc Cert.BwdScan.main_arg5) = m ((c.tc : Thread Cert.BwdScan.nD Cert.BwdScan.τ).loc Cert.BwdScan.main_arg5))
      ∧ r.2.sem = fun _ => 0)

def quiescent_BwdScanIdeal [hBwdScanIdeal : Cert.BwdScanIdeal.Facts] : Prop :=
  ∀ (m : (ℓ : Loc Cert.BwdScanIdeal.nD Cert.BwdScanIdeal.τ Cert.BwdScanIdeal.sig) → Buf (Elt Ideal) ℓ) (g : Dev Cert.BwdScanIdeal.nD → PrngReg), Pre_BwdScanIdeal m →
    θ_run (Cert.BwdScanIdeal.defs (F := Ideal)) (onTc (τ := Cert.BwdScanIdeal.τ) (Cert.BwdScanIdeal.main (F := Ideal))) ⟨m, fun _ => 0, g⟩ (fun r => (∀ c : Dev Cert.BwdScanIdeal.nD,
      r.2.mem ((c.tc : Thread Cert.BwdScanIdeal.nD Cert.BwdScanIdeal.τ).loc Cert.BwdScanIdeal.main_arg0) = m ((c.tc : Thread Cert.BwdScanIdeal.nD Cert.BwdScanIdeal.τ).loc Cert.BwdScanIdeal.main_arg0)
      ∧ r.2.mem ((c.tc : Thread Cert.BwdScanIdeal.nD Cert.BwdScanIdeal.τ).loc Cert.BwdScanIdeal.main_arg1) = m ((c.tc : Thread Cert.BwdScanIdeal.nD Cert.BwdScanIdeal.τ).loc Cert.BwdScanIdeal.main_arg1)
      ∧ r.2.mem ((c.tc : Thread Cert.BwdScanIdeal.nD Cert.BwdScanIdeal.τ).loc Cert.BwdScanIdeal.main_arg2) = m ((c.tc : Thread Cert.BwdScanIdeal.nD Cert.BwdScanIdeal.τ).loc Cert.BwdScanIdeal.main_arg2)
      ∧ r.2.mem ((c.tc : Thread Cert.BwdScanIdeal.nD Cert.BwdScanIdeal.τ).loc Cert.BwdScanIdeal.main_arg3) = m ((c.tc : Thread Cert.BwdScanIdeal.nD Cert.BwdScanIdeal.τ).loc Cert.BwdScanIdeal.main_arg3)
      ∧ r.2.mem ((c.tc : Thread Cert.BwdScanIdeal.nD Cert.BwdScanIdeal.τ).loc Cert.BwdScanIdeal.main_arg4) = m ((c.tc : Thread Cert.BwdScanIdeal.nD Cert.BwdScanIdeal.τ).loc Cert.BwdScanIdeal.main_arg4)
      ∧ r.2.mem ((c.tc : Thread Cert.BwdScanIdeal.nD Cert.BwdScanIdeal.τ).loc Cert.BwdScanIdeal.main_arg5) = m ((c.tc : Thread Cert.BwdScanIdeal.nD Cert.BwdScanIdeal.τ).loc Cert.BwdScanIdeal.main_arg5))
      ∧ r.2.sem = fun _ => 0)

def quiescent_RedIn [hRedIn : Cert.RedIn.Facts] [hPre_device_in : Cert.Pre_device_in.Facts] : Prop :=
  ∀ (m : (ℓ : Loc Cert.RedIn.nD Cert.RedIn.τ Cert.RedIn.sig) → Buf (Elt Bits) ℓ) (g : Dev Cert.RedIn.nD → PrngReg), Pre_RedIn m →
    θ_run (Cert.RedIn.defs (F := Bits)) (onTc (τ := Cert.RedIn.τ) (Cert.RedIn.main (F := Bits))) ⟨m, fun _ => 0, g⟩ (fun r => (∀ c : Dev Cert.RedIn.nD,
      r.2.mem ((c.tc : Thread Cert.RedIn.nD Cert.RedIn.τ).loc Cert.RedIn.main_arg0) = m ((c.tc : Thread Cert.RedIn.nD Cert.RedIn.τ).loc Cert.RedIn.main_arg0)
      ∧ r.2.mem ((c.tc : Thread Cert.RedIn.nD Cert.RedIn.τ).loc Cert.RedIn.main_arg1) = m ((c.tc : Thread Cert.RedIn.nD Cert.RedIn.τ).loc Cert.RedIn.main_arg1)
      ∧ r.2.mem ((c.tc : Thread Cert.RedIn.nD Cert.RedIn.τ).loc Cert.RedIn.main_arg2) = m ((c.tc : Thread Cert.RedIn.nD Cert.RedIn.τ).loc Cert.RedIn.main_arg2)
      ∧ r.2.mem ((c.tc : Thread Cert.RedIn.nD Cert.RedIn.τ).loc Cert.RedIn.main_arg3) = m ((c.tc : Thread Cert.RedIn.nD Cert.RedIn.τ).loc Cert.RedIn.main_arg3)
      ∧ r.2.mem ((c.tc : Thread Cert.RedIn.nD Cert.RedIn.τ).loc Cert.RedIn.main_arg4) = m ((c.tc : Thread Cert.RedIn.nD Cert.RedIn.τ).loc Cert.RedIn.main_arg4))
      ∧ r.2.sem = fun _ => 0)

def quiescent_RedInIdeal [hRedInIdeal : Cert.RedInIdeal.Facts] [hPre_device_in : Cert.Pre_device_in.Facts] : Prop :=
  ∀ (m : (ℓ : Loc Cert.RedInIdeal.nD Cert.RedInIdeal.τ Cert.RedInIdeal.sig) → Buf (Elt Ideal) ℓ) (g : Dev Cert.RedInIdeal.nD → PrngReg), Pre_RedInIdeal m →
    θ_run (Cert.RedInIdeal.defs (F := Ideal)) (onTc (τ := Cert.RedInIdeal.τ) (Cert.RedInIdeal.main (F := Ideal))) ⟨m, fun _ => 0, g⟩ (fun r => (∀ c : Dev Cert.RedInIdeal.nD,
      r.2.mem ((c.tc : Thread Cert.RedInIdeal.nD Cert.RedInIdeal.τ).loc Cert.RedInIdeal.main_arg0) = m ((c.tc : Thread Cert.RedInIdeal.nD Cert.RedInIdeal.τ).loc Cert.RedInIdeal.main_arg0)
      ∧ r.2.mem ((c.tc : Thread Cert.RedInIdeal.nD Cert.RedInIdeal.τ).loc Cert.RedInIdeal.main_arg1) = m ((c.tc : Thread Cert.RedInIdeal.nD Cert.RedInIdeal.τ).loc Cert.RedInIdeal.main_arg1)
      ∧ r.2.mem ((c.tc : Thread Cert.RedInIdeal.nD Cert.RedInIdeal.τ).loc Cert.RedInIdeal.main_arg2) = m ((c.tc : Thread Cert.RedInIdeal.nD Cert.RedInIdeal.τ).loc Cert.RedInIdeal.main_arg2)
      ∧ r.2.mem ((c.tc : Thread Cert.RedInIdeal.nD Cert.RedInIdeal.τ).loc Cert.RedInIdeal.main_arg3) = m ((c.tc : Thread Cert.RedInIdeal.nD Cert.RedInIdeal.τ).loc Cert.RedInIdeal.main_arg3)
      ∧ r.2.mem ((c.tc : Thread Cert.RedInIdeal.nD Cert.RedInIdeal.τ).loc Cert.RedInIdeal.main_arg4) = m ((c.tc : Thread Cert.RedInIdeal.nD Cert.RedInIdeal.τ).loc Cert.RedInIdeal.main_arg4))
      ∧ r.2.sem = fun _ => 0)

def quiescent_RedInRefIdeal [hRedInRefIdeal : Cert.RedInRefIdeal.Facts] : Prop :=
  ∀ (m : (ℓ : Loc Cert.RedInRefIdeal.nD Cert.RedInRefIdeal.τ Cert.RedInRefIdeal.sig) → Buf (Elt Ideal) ℓ) (g : Dev Cert.RedInRefIdeal.nD → PrngReg), Pre_RedInRefIdeal m →
    θ_run (Cert.RedInRefIdeal.defs (F := Ideal)) (onTc (τ := Cert.RedInRefIdeal.τ) (Cert.RedInRefIdeal.main (F := Ideal))) ⟨m, fun _ => 0, g⟩ (fun r => (∀ c : Dev Cert.RedInRefIdeal.nD,
      r.2.mem ((c.tc : Thread Cert.RedInRefIdeal.nD Cert.RedInRefIdeal.τ).loc Cert.RedInRefIdeal.main_arg0) = m ((c.tc : Thread Cert.RedInRefIdeal.nD Cert.RedInRefIdeal.τ).loc Cert.RedInRefIdeal.main_arg0)
      ∧ r.2.mem ((c.tc : Thread Cert.RedInRefIdeal.nD Cert.RedInRefIdeal.τ).loc Cert.RedInRefIdeal.main_arg1) = m ((c.tc : Thread Cert.RedInRefIdeal.nD Cert.RedInRefIdeal.τ).loc Cert.RedInRefIdeal.main_arg1)
      ∧ r.2.mem ((c.tc : Thread Cert.RedInRefIdeal.nD Cert.RedInRefIdeal.τ).loc Cert.RedInRefIdeal.main_arg2) = m ((c.tc : Thread Cert.RedInRefIdeal.nD Cert.RedInRefIdeal.τ).loc Cert.RedInRefIdeal.main_arg2)
      ∧ r.2.mem ((c.tc : Thread Cert.RedInRefIdeal.nD Cert.RedInRefIdeal.τ).loc Cert.RedInRefIdeal.main_arg3) = m ((c.tc : Thread Cert.RedInRefIdeal.nD Cert.RedInRefIdeal.τ).loc Cert.RedInRefIdeal.main_arg3)
      ∧ r.2.mem ((c.tc : Thread Cert.RedInRefIdeal.nD Cert.RedInRefIdeal.τ).loc Cert.RedInRefIdeal.main_arg4) = m ((c.tc : Thread Cert.RedInRefIdeal.nD Cert.RedInRefIdeal.τ).loc Cert.RedInRefIdeal.main_arg4))
      ∧ r.2.sem = fun _ => 0)

def quiescent_RedInRefIdeal_pre_device_in [hRedInRefIdeal : Cert.RedInRefIdeal.Facts] [hPre_device_in : Cert.Pre_device_in.Facts] : Prop :=
  ∀ (m : (ℓ : Loc Cert.RedInRefIdeal.nD Cert.RedInRefIdeal.τ Cert.RedInRefIdeal.sig) → Buf (Elt Ideal) ℓ) (g : Dev Cert.RedInRefIdeal.nD → PrngReg), Pre_RedInRefIdeal_device_in m →
    θ_run (Cert.RedInRefIdeal.defs (F := Ideal)) (onTc (τ := Cert.RedInRefIdeal.τ) (Cert.RedInRefIdeal.main (F := Ideal))) ⟨m, fun _ => 0, g⟩ (fun r => (∀ c : Dev Cert.RedInRefIdeal.nD,
      r.2.mem ((c.tc : Thread Cert.RedInRefIdeal.nD Cert.RedInRefIdeal.τ).loc Cert.RedInRefIdeal.main_arg0) = m ((c.tc : Thread Cert.RedInRefIdeal.nD Cert.RedInRefIdeal.τ).loc Cert.RedInRefIdeal.main_arg0)
      ∧ r.2.mem ((c.tc : Thread Cert.RedInRefIdeal.nD Cert.RedInRefIdeal.τ).loc Cert.RedInRefIdeal.main_arg1) = m ((c.tc : Thread Cert.RedInRefIdeal.nD Cert.RedInRefIdeal.τ).loc Cert.RedInRefIdeal.main_arg1)
      ∧ r.2.mem ((c.tc : Thread Cert.RedInRefIdeal.nD Cert.RedInRefIdeal.τ).loc Cert.RedInRefIdeal.main_arg2) = m ((c.tc : Thread Cert.RedInRefIdeal.nD Cert.RedInRefIdeal.τ).loc Cert.RedInRefIdeal.main_arg2)
      ∧ r.2.mem ((c.tc : Thread Cert.RedInRefIdeal.nD Cert.RedInRefIdeal.τ).loc Cert.RedInRefIdeal.main_arg3) = m ((c.tc : Thread Cert.RedInRefIdeal.nD Cert.RedInRefIdeal.τ).loc Cert.RedInRefIdeal.main_arg3)
      ∧ r.2.mem ((c.tc : Thread Cert.RedInRefIdeal.nD Cert.RedInRefIdeal.τ).loc Cert.RedInRefIdeal.main_arg4) = m ((c.tc : Thread Cert.RedInRefIdeal.nD Cert.RedInRefIdeal.τ).loc Cert.RedInRefIdeal.main_arg4))
      ∧ r.2.sem = fun _ => 0)

def quiescent_RedGlu [hRedGlu : Cert.RedGlu.Facts] [hPre_device_glu : Cert.Pre_device_glu.Facts] : Prop :=
  ∀ (m : (ℓ : Loc Cert.RedGlu.nD Cert.RedGlu.τ Cert.RedGlu.sig) → Buf (Elt Bits) ℓ) (g : Dev Cert.RedGlu.nD → PrngReg), Pre_RedGlu m →
    θ_run (Cert.RedGlu.defs (F := Bits)) (onTc (τ := Cert.RedGlu.τ) (Cert.RedGlu.main (F := Bits))) ⟨m, fun _ => 0, g⟩ (fun r => (∀ c : Dev Cert.RedGlu.nD,
      r.2.mem ((c.tc : Thread Cert.RedGlu.nD Cert.RedGlu.τ).loc Cert.RedGlu.main_arg0) = m ((c.tc : Thread Cert.RedGlu.nD Cert.RedGlu.τ).loc Cert.RedGlu.main_arg0)
      ∧ r.2.mem ((c.tc : Thread Cert.RedGlu.nD Cert.RedGlu.τ).loc Cert.RedGlu.main_arg1) = m ((c.tc : Thread Cert.RedGlu.nD Cert.RedGlu.τ).loc Cert.RedGlu.main_arg1)
      ∧ r.2.mem ((c.tc : Thread Cert.RedGlu.nD Cert.RedGlu.τ).loc Cert.RedGlu.main_arg2) = m ((c.tc : Thread Cert.RedGlu.nD Cert.RedGlu.τ).loc Cert.RedGlu.main_arg2)
      ∧ r.2.mem ((c.tc : Thread Cert.RedGlu.nD Cert.RedGlu.τ).loc Cert.RedGlu.main_arg3) = m ((c.tc : Thread Cert.RedGlu.nD Cert.RedGlu.τ).loc Cert.RedGlu.main_arg3)
      ∧ r.2.mem ((c.tc : Thread Cert.RedGlu.nD Cert.RedGlu.τ).loc Cert.RedGlu.main_arg4) = m ((c.tc : Thread Cert.RedGlu.nD Cert.RedGlu.τ).loc Cert.RedGlu.main_arg4))
      ∧ r.2.sem = fun _ => 0)

def quiescent_RedGluIdeal [hRedGluIdeal : Cert.RedGluIdeal.Facts] [hPre_device_glu : Cert.Pre_device_glu.Facts] : Prop :=
  ∀ (m : (ℓ : Loc Cert.RedGluIdeal.nD Cert.RedGluIdeal.τ Cert.RedGluIdeal.sig) → Buf (Elt Ideal) ℓ) (g : Dev Cert.RedGluIdeal.nD → PrngReg), Pre_RedGluIdeal m →
    θ_run (Cert.RedGluIdeal.defs (F := Ideal)) (onTc (τ := Cert.RedGluIdeal.τ) (Cert.RedGluIdeal.main (F := Ideal))) ⟨m, fun _ => 0, g⟩ (fun r => (∀ c : Dev Cert.RedGluIdeal.nD,
      r.2.mem ((c.tc : Thread Cert.RedGluIdeal.nD Cert.RedGluIdeal.τ).loc Cert.RedGluIdeal.main_arg0) = m ((c.tc : Thread Cert.RedGluIdeal.nD Cert.RedGluIdeal.τ).loc Cert.RedGluIdeal.main_arg0)
      ∧ r.2.mem ((c.tc : Thread Cert.RedGluIdeal.nD Cert.RedGluIdeal.τ).loc Cert.RedGluIdeal.main_arg1) = m ((c.tc : Thread Cert.RedGluIdeal.nD Cert.RedGluIdeal.τ).loc Cert.RedGluIdeal.main_arg1)
      ∧ r.2.mem ((c.tc : Thread Cert.RedGluIdeal.nD Cert.RedGluIdeal.τ).loc Cert.RedGluIdeal.main_arg2) = m ((c.tc : Thread Cert.RedGluIdeal.nD Cert.RedGluIdeal.τ).loc Cert.RedGluIdeal.main_arg2)
      ∧ r.2.mem ((c.tc : Thread Cert.RedGluIdeal.nD Cert.RedGluIdeal.τ).loc Cert.RedGluIdeal.main_arg3) = m ((c.tc : Thread Cert.RedGluIdeal.nD Cert.RedGluIdeal.τ).loc Cert.RedGluIdeal.main_arg3)
      ∧ r.2.mem ((c.tc : Thread Cert.RedGluIdeal.nD Cert.RedGluIdeal.τ).loc Cert.RedGluIdeal.main_arg4) = m ((c.tc : Thread Cert.RedGluIdeal.nD Cert.RedGluIdeal.τ).loc Cert.RedGluIdeal.main_arg4))
      ∧ r.2.sem = fun _ => 0)

def quiescent_RedGluRefIdeal [hRedGluRefIdeal : Cert.RedGluRefIdeal.Facts] : Prop :=
  ∀ (m : (ℓ : Loc Cert.RedGluRefIdeal.nD Cert.RedGluRefIdeal.τ Cert.RedGluRefIdeal.sig) → Buf (Elt Ideal) ℓ) (g : Dev Cert.RedGluRefIdeal.nD → PrngReg), Pre_RedGluRefIdeal m →
    θ_run (Cert.RedGluRefIdeal.defs (F := Ideal)) (onTc (τ := Cert.RedGluRefIdeal.τ) (Cert.RedGluRefIdeal.main (F := Ideal))) ⟨m, fun _ => 0, g⟩ (fun r => (∀ c : Dev Cert.RedGluRefIdeal.nD,
      r.2.mem ((c.tc : Thread Cert.RedGluRefIdeal.nD Cert.RedGluRefIdeal.τ).loc Cert.RedGluRefIdeal.main_arg0) = m ((c.tc : Thread Cert.RedGluRefIdeal.nD Cert.RedGluRefIdeal.τ).loc Cert.RedGluRefIdeal.main_arg0)
      ∧ r.2.mem ((c.tc : Thread Cert.RedGluRefIdeal.nD Cert.RedGluRefIdeal.τ).loc Cert.RedGluRefIdeal.main_arg1) = m ((c.tc : Thread Cert.RedGluRefIdeal.nD Cert.RedGluRefIdeal.τ).loc Cert.RedGluRefIdeal.main_arg1)
      ∧ r.2.mem ((c.tc : Thread Cert.RedGluRefIdeal.nD Cert.RedGluRefIdeal.τ).loc Cert.RedGluRefIdeal.main_arg2) = m ((c.tc : Thread Cert.RedGluRefIdeal.nD Cert.RedGluRefIdeal.τ).loc Cert.RedGluRefIdeal.main_arg2)
      ∧ r.2.mem ((c.tc : Thread Cert.RedGluRefIdeal.nD Cert.RedGluRefIdeal.τ).loc Cert.RedGluRefIdeal.main_arg3) = m ((c.tc : Thread Cert.RedGluRefIdeal.nD Cert.RedGluRefIdeal.τ).loc Cert.RedGluRefIdeal.main_arg3)
      ∧ r.2.mem ((c.tc : Thread Cert.RedGluRefIdeal.nD Cert.RedGluRefIdeal.τ).loc Cert.RedGluRefIdeal.main_arg4) = m ((c.tc : Thread Cert.RedGluRefIdeal.nD Cert.RedGluRefIdeal.τ).loc Cert.RedGluRefIdeal.main_arg4))
      ∧ r.2.sem = fun _ => 0)

def quiescent_RedGluRefIdeal_pre_device_glu [hRedGluRefIdeal : Cert.RedGluRefIdeal.Facts] [hPre_device_glu : Cert.Pre_device_glu.Facts] : Prop :=
  ∀ (m : (ℓ : Loc Cert.RedGluRefIdeal.nD Cert.RedGluRefIdeal.τ Cert.RedGluRefIdeal.sig) → Buf (Elt Ideal) ℓ) (g : Dev Cert.RedGluRefIdeal.nD → PrngReg), Pre_RedGluRefIdeal_device_glu m →
    θ_run (Cert.RedGluRefIdeal.defs (F := Ideal)) (onTc (τ := Cert.RedGluRefIdeal.τ) (Cert.RedGluRefIdeal.main (F := Ideal))) ⟨m, fun _ => 0, g⟩ (fun r => (∀ c : Dev Cert.RedGluRefIdeal.nD,
      r.2.mem ((c.tc : Thread Cert.RedGluRefIdeal.nD Cert.RedGluRefIdeal.τ).loc Cert.RedGluRefIdeal.main_arg0) = m ((c.tc : Thread Cert.RedGluRefIdeal.nD Cert.RedGluRefIdeal.τ).loc Cert.RedGluRefIdeal.main_arg0)
      ∧ r.2.mem ((c.tc : Thread Cert.RedGluRefIdeal.nD Cert.RedGluRefIdeal.τ).loc Cert.RedGluRefIdeal.main_arg1) = m ((c.tc : Thread Cert.RedGluRefIdeal.nD Cert.RedGluRefIdeal.τ).loc Cert.RedGluRefIdeal.main_arg1)
      ∧ r.2.mem ((c.tc : Thread Cert.RedGluRefIdeal.nD Cert.RedGluRefIdeal.τ).loc Cert.RedGluRefIdeal.main_arg2) = m ((c.tc : Thread Cert.RedGluRefIdeal.nD Cert.RedGluRefIdeal.τ).loc Cert.RedGluRefIdeal.main_arg2)
      ∧ r.2.mem ((c.tc : Thread Cert.RedGluRefIdeal.nD Cert.RedGluRefIdeal.τ).loc Cert.RedGluRefIdeal.main_arg3) = m ((c.tc : Thread Cert.RedGluRefIdeal.nD Cert.RedGluRefIdeal.τ).loc Cert.RedGluRefIdeal.main_arg3)
      ∧ r.2.mem ((c.tc : Thread Cert.RedGluRefIdeal.nD Cert.RedGluRefIdeal.τ).loc Cert.RedGluRefIdeal.main_arg4) = m ((c.tc : Thread Cert.RedGluRefIdeal.nD Cert.RedGluRefIdeal.τ).loc Cert.RedGluRefIdeal.main_arg4))
      ∧ r.2.sem = fun _ => 0)

def quiescent_RedOut [hRedOut : Cert.RedOut.Facts] [hPre_device_glu : Cert.Pre_device_glu.Facts] : Prop :=
  ∀ (m : (ℓ : Loc Cert.RedOut.nD Cert.RedOut.τ Cert.RedOut.sig) → Buf (Elt Bits) ℓ) (g : Dev Cert.RedOut.nD → PrngReg), Pre_RedOut m →
    θ_run (Cert.RedOut.defs (F := Bits)) (onTc (τ := Cert.RedOut.τ) (Cert.RedOut.main (F := Bits))) ⟨m, fun _ => 0, g⟩ (fun r => (∀ c : Dev Cert.RedOut.nD,
      r.2.mem ((c.tc : Thread Cert.RedOut.nD Cert.RedOut.τ).loc Cert.RedOut.main_arg0) = m ((c.tc : Thread Cert.RedOut.nD Cert.RedOut.τ).loc Cert.RedOut.main_arg0)
      ∧ r.2.mem ((c.tc : Thread Cert.RedOut.nD Cert.RedOut.τ).loc Cert.RedOut.main_arg1) = m ((c.tc : Thread Cert.RedOut.nD Cert.RedOut.τ).loc Cert.RedOut.main_arg1)
      ∧ r.2.mem ((c.tc : Thread Cert.RedOut.nD Cert.RedOut.τ).loc Cert.RedOut.main_arg2) = m ((c.tc : Thread Cert.RedOut.nD Cert.RedOut.τ).loc Cert.RedOut.main_arg2)
      ∧ r.2.mem ((c.tc : Thread Cert.RedOut.nD Cert.RedOut.τ).loc Cert.RedOut.main_arg3) = m ((c.tc : Thread Cert.RedOut.nD Cert.RedOut.τ).loc Cert.RedOut.main_arg3)
      ∧ r.2.mem ((c.tc : Thread Cert.RedOut.nD Cert.RedOut.τ).loc Cert.RedOut.main_arg4) = m ((c.tc : Thread Cert.RedOut.nD Cert.RedOut.τ).loc Cert.RedOut.main_arg4))
      ∧ r.2.sem = fun _ => 0)

def quiescent_RedOutIdeal [hRedOutIdeal : Cert.RedOutIdeal.Facts] [hPre_device_glu : Cert.Pre_device_glu.Facts] : Prop :=
  ∀ (m : (ℓ : Loc Cert.RedOutIdeal.nD Cert.RedOutIdeal.τ Cert.RedOutIdeal.sig) → Buf (Elt Ideal) ℓ) (g : Dev Cert.RedOutIdeal.nD → PrngReg), Pre_RedOutIdeal m →
    θ_run (Cert.RedOutIdeal.defs (F := Ideal)) (onTc (τ := Cert.RedOutIdeal.τ) (Cert.RedOutIdeal.main (F := Ideal))) ⟨m, fun _ => 0, g⟩ (fun r => (∀ c : Dev Cert.RedOutIdeal.nD,
      r.2.mem ((c.tc : Thread Cert.RedOutIdeal.nD Cert.RedOutIdeal.τ).loc Cert.RedOutIdeal.main_arg0) = m ((c.tc : Thread Cert.RedOutIdeal.nD Cert.RedOutIdeal.τ).loc Cert.RedOutIdeal.main_arg0)
      ∧ r.2.mem ((c.tc : Thread Cert.RedOutIdeal.nD Cert.RedOutIdeal.τ).loc Cert.RedOutIdeal.main_arg1) = m ((c.tc : Thread Cert.RedOutIdeal.nD Cert.RedOutIdeal.τ).loc Cert.RedOutIdeal.main_arg1)
      ∧ r.2.mem ((c.tc : Thread Cert.RedOutIdeal.nD Cert.RedOutIdeal.τ).loc Cert.RedOutIdeal.main_arg2) = m ((c.tc : Thread Cert.RedOutIdeal.nD Cert.RedOutIdeal.τ).loc Cert.RedOutIdeal.main_arg2)
      ∧ r.2.mem ((c.tc : Thread Cert.RedOutIdeal.nD Cert.RedOutIdeal.τ).loc Cert.RedOutIdeal.main_arg3) = m ((c.tc : Thread Cert.RedOutIdeal.nD Cert.RedOutIdeal.τ).loc Cert.RedOutIdeal.main_arg3)
      ∧ r.2.mem ((c.tc : Thread Cert.RedOutIdeal.nD Cert.RedOutIdeal.τ).loc Cert.RedOutIdeal.main_arg4) = m ((c.tc : Thread Cert.RedOutIdeal.nD Cert.RedOutIdeal.τ).loc Cert.RedOutIdeal.main_arg4))
      ∧ r.2.sem = fun _ => 0)

def quiescent_RedOutRefIdeal [hRedOutRefIdeal : Cert.RedOutRefIdeal.Facts] : Prop :=
  ∀ (m : (ℓ : Loc Cert.RedOutRefIdeal.nD Cert.RedOutRefIdeal.τ Cert.RedOutRefIdeal.sig) → Buf (Elt Ideal) ℓ) (g : Dev Cert.RedOutRefIdeal.nD → PrngReg), Pre_RedOutRefIdeal m →
    θ_run (Cert.RedOutRefIdeal.defs (F := Ideal)) (onTc (τ := Cert.RedOutRefIdeal.τ) (Cert.RedOutRefIdeal.main (F := Ideal))) ⟨m, fun _ => 0, g⟩ (fun r => (∀ c : Dev Cert.RedOutRefIdeal.nD,
      r.2.mem ((c.tc : Thread Cert.RedOutRefIdeal.nD Cert.RedOutRefIdeal.τ).loc Cert.RedOutRefIdeal.main_arg0) = m ((c.tc : Thread Cert.RedOutRefIdeal.nD Cert.RedOutRefIdeal.τ).loc Cert.RedOutRefIdeal.main_arg0)
      ∧ r.2.mem ((c.tc : Thread Cert.RedOutRefIdeal.nD Cert.RedOutRefIdeal.τ).loc Cert.RedOutRefIdeal.main_arg1) = m ((c.tc : Thread Cert.RedOutRefIdeal.nD Cert.RedOutRefIdeal.τ).loc Cert.RedOutRefIdeal.main_arg1)
      ∧ r.2.mem ((c.tc : Thread Cert.RedOutRefIdeal.nD Cert.RedOutRefIdeal.τ).loc Cert.RedOutRefIdeal.main_arg2) = m ((c.tc : Thread Cert.RedOutRefIdeal.nD Cert.RedOutRefIdeal.τ).loc Cert.RedOutRefIdeal.main_arg2)
      ∧ r.2.mem ((c.tc : Thread Cert.RedOutRefIdeal.nD Cert.RedOutRefIdeal.τ).loc Cert.RedOutRefIdeal.main_arg3) = m ((c.tc : Thread Cert.RedOutRefIdeal.nD Cert.RedOutRefIdeal.τ).loc Cert.RedOutRefIdeal.main_arg3)
      ∧ r.2.mem ((c.tc : Thread Cert.RedOutRefIdeal.nD Cert.RedOutRefIdeal.τ).loc Cert.RedOutRefIdeal.main_arg4) = m ((c.tc : Thread Cert.RedOutRefIdeal.nD Cert.RedOutRefIdeal.τ).loc Cert.RedOutRefIdeal.main_arg4))
      ∧ r.2.sem = fun _ => 0)

def quiescent_RedOutRefIdeal_pre_device_glu [hRedOutRefIdeal : Cert.RedOutRefIdeal.Facts] [hPre_device_glu : Cert.Pre_device_glu.Facts] : Prop :=
  ∀ (m : (ℓ : Loc Cert.RedOutRefIdeal.nD Cert.RedOutRefIdeal.τ Cert.RedOutRefIdeal.sig) → Buf (Elt Ideal) ℓ) (g : Dev Cert.RedOutRefIdeal.nD → PrngReg), Pre_RedOutRefIdeal_device_glu m →
    θ_run (Cert.RedOutRefIdeal.defs (F := Ideal)) (onTc (τ := Cert.RedOutRefIdeal.τ) (Cert.RedOutRefIdeal.main (F := Ideal))) ⟨m, fun _ => 0, g⟩ (fun r => (∀ c : Dev Cert.RedOutRefIdeal.nD,
      r.2.mem ((c.tc : Thread Cert.RedOutRefIdeal.nD Cert.RedOutRefIdeal.τ).loc Cert.RedOutRefIdeal.main_arg0) = m ((c.tc : Thread Cert.RedOutRefIdeal.nD Cert.RedOutRefIdeal.τ).loc Cert.RedOutRefIdeal.main_arg0)
      ∧ r.2.mem ((c.tc : Thread Cert.RedOutRefIdeal.nD Cert.RedOutRefIdeal.τ).loc Cert.RedOutRefIdeal.main_arg1) = m ((c.tc : Thread Cert.RedOutRefIdeal.nD Cert.RedOutRefIdeal.τ).loc Cert.RedOutRefIdeal.main_arg1)
      ∧ r.2.mem ((c.tc : Thread Cert.RedOutRefIdeal.nD Cert.RedOutRefIdeal.τ).loc Cert.RedOutRefIdeal.main_arg2) = m ((c.tc : Thread Cert.RedOutRefIdeal.nD Cert.RedOutRefIdeal.τ).loc Cert.RedOutRefIdeal.main_arg2)
      ∧ r.2.mem ((c.tc : Thread Cert.RedOutRefIdeal.nD Cert.RedOutRefIdeal.τ).loc Cert.RedOutRefIdeal.main_arg3) = m ((c.tc : Thread Cert.RedOutRefIdeal.nD Cert.RedOutRefIdeal.τ).loc Cert.RedOutRefIdeal.main_arg3)
      ∧ r.2.mem ((c.tc : Thread Cert.RedOutRefIdeal.nD Cert.RedOutRefIdeal.τ).loc Cert.RedOutRefIdeal.main_arg4) = m ((c.tc : Thread Cert.RedOutRefIdeal.nD Cert.RedOutRefIdeal.τ).loc Cert.RedOutRefIdeal.main_arg4))
      ∧ r.2.sem = fun _ => 0)

def quiescent_RedGate [hRedGate : Cert.RedGate.Facts] [hPre_device_ffn : Cert.Pre_device_ffn.Facts] : Prop :=
  ∀ (m : (ℓ : Loc Cert.RedGate.nD Cert.RedGate.τ Cert.RedGate.sig) → Buf (Elt Bits) ℓ) (g : Dev Cert.RedGate.nD → PrngReg), Pre_RedGate m →
    θ_run (Cert.RedGate.defs (F := Bits)) (onTc (τ := Cert.RedGate.τ) (Cert.RedGate.main (F := Bits))) ⟨m, fun _ => 0, g⟩ (fun r => (∀ c : Dev Cert.RedGate.nD,
      r.2.mem ((c.tc : Thread Cert.RedGate.nD Cert.RedGate.τ).loc Cert.RedGate.main_arg0) = m ((c.tc : Thread Cert.RedGate.nD Cert.RedGate.τ).loc Cert.RedGate.main_arg0)
      ∧ r.2.mem ((c.tc : Thread Cert.RedGate.nD Cert.RedGate.τ).loc Cert.RedGate.main_arg1) = m ((c.tc : Thread Cert.RedGate.nD Cert.RedGate.τ).loc Cert.RedGate.main_arg1)
      ∧ r.2.mem ((c.tc : Thread Cert.RedGate.nD Cert.RedGate.τ).loc Cert.RedGate.main_arg2) = m ((c.tc : Thread Cert.RedGate.nD Cert.RedGate.τ).loc Cert.RedGate.main_arg2)
      ∧ r.2.mem ((c.tc : Thread Cert.RedGate.nD Cert.RedGate.τ).loc Cert.RedGate.main_arg3) = m ((c.tc : Thread Cert.RedGate.nD Cert.RedGate.τ).loc Cert.RedGate.main_arg3)
      ∧ r.2.mem ((c.tc : Thread Cert.RedGate.nD Cert.RedGate.τ).loc Cert.RedGate.main_arg4) = m ((c.tc : Thread Cert.RedGate.nD Cert.RedGate.τ).loc Cert.RedGate.main_arg4))
      ∧ r.2.sem = fun _ => 0)

def quiescent_RedGateIdeal [hRedGateIdeal : Cert.RedGateIdeal.Facts] [hPre_device_ffn : Cert.Pre_device_ffn.Facts] : Prop :=
  ∀ (m : (ℓ : Loc Cert.RedGateIdeal.nD Cert.RedGateIdeal.τ Cert.RedGateIdeal.sig) → Buf (Elt Ideal) ℓ) (g : Dev Cert.RedGateIdeal.nD → PrngReg), Pre_RedGateIdeal m →
    θ_run (Cert.RedGateIdeal.defs (F := Ideal)) (onTc (τ := Cert.RedGateIdeal.τ) (Cert.RedGateIdeal.main (F := Ideal))) ⟨m, fun _ => 0, g⟩ (fun r => (∀ c : Dev Cert.RedGateIdeal.nD,
      r.2.mem ((c.tc : Thread Cert.RedGateIdeal.nD Cert.RedGateIdeal.τ).loc Cert.RedGateIdeal.main_arg0) = m ((c.tc : Thread Cert.RedGateIdeal.nD Cert.RedGateIdeal.τ).loc Cert.RedGateIdeal.main_arg0)
      ∧ r.2.mem ((c.tc : Thread Cert.RedGateIdeal.nD Cert.RedGateIdeal.τ).loc Cert.RedGateIdeal.main_arg1) = m ((c.tc : Thread Cert.RedGateIdeal.nD Cert.RedGateIdeal.τ).loc Cert.RedGateIdeal.main_arg1)
      ∧ r.2.mem ((c.tc : Thread Cert.RedGateIdeal.nD Cert.RedGateIdeal.τ).loc Cert.RedGateIdeal.main_arg2) = m ((c.tc : Thread Cert.RedGateIdeal.nD Cert.RedGateIdeal.τ).loc Cert.RedGateIdeal.main_arg2)
      ∧ r.2.mem ((c.tc : Thread Cert.RedGateIdeal.nD Cert.RedGateIdeal.τ).loc Cert.RedGateIdeal.main_arg3) = m ((c.tc : Thread Cert.RedGateIdeal.nD Cert.RedGateIdeal.τ).loc Cert.RedGateIdeal.main_arg3)
      ∧ r.2.mem ((c.tc : Thread Cert.RedGateIdeal.nD Cert.RedGateIdeal.τ).loc Cert.RedGateIdeal.main_arg4) = m ((c.tc : Thread Cert.RedGateIdeal.nD Cert.RedGateIdeal.τ).loc Cert.RedGateIdeal.main_arg4))
      ∧ r.2.sem = fun _ => 0)

def quiescent_RedGateRefIdeal [hRedGateRefIdeal : Cert.RedGateRefIdeal.Facts] : Prop :=
  ∀ (m : (ℓ : Loc Cert.RedGateRefIdeal.nD Cert.RedGateRefIdeal.τ Cert.RedGateRefIdeal.sig) → Buf (Elt Ideal) ℓ) (g : Dev Cert.RedGateRefIdeal.nD → PrngReg), Pre_RedGateRefIdeal m →
    θ_run (Cert.RedGateRefIdeal.defs (F := Ideal)) (onTc (τ := Cert.RedGateRefIdeal.τ) (Cert.RedGateRefIdeal.main (F := Ideal))) ⟨m, fun _ => 0, g⟩ (fun r => (∀ c : Dev Cert.RedGateRefIdeal.nD,
      r.2.mem ((c.tc : Thread Cert.RedGateRefIdeal.nD Cert.RedGateRefIdeal.τ).loc Cert.RedGateRefIdeal.main_arg0) = m ((c.tc : Thread Cert.RedGateRefIdeal.nD Cert.RedGateRefIdeal.τ).loc Cert.RedGateRefIdeal.main_arg0)
      ∧ r.2.mem ((c.tc : Thread Cert.RedGateRefIdeal.nD Cert.RedGateRefIdeal.τ).loc Cert.RedGateRefIdeal.main_arg1) = m ((c.tc : Thread Cert.RedGateRefIdeal.nD Cert.RedGateRefIdeal.τ).loc Cert.RedGateRefIdeal.main_arg1)
      ∧ r.2.mem ((c.tc : Thread Cert.RedGateRefIdeal.nD Cert.RedGateRefIdeal.τ).loc Cert.RedGateRefIdeal.main_arg2) = m ((c.tc : Thread Cert.RedGateRefIdeal.nD Cert.RedGateRefIdeal.τ).loc Cert.RedGateRefIdeal.main_arg2)
      ∧ r.2.mem ((c.tc : Thread Cert.RedGateRefIdeal.nD Cert.RedGateRefIdeal.τ).loc Cert.RedGateRefIdeal.main_arg3) = m ((c.tc : Thread Cert.RedGateRefIdeal.nD Cert.RedGateRefIdeal.τ).loc Cert.RedGateRefIdeal.main_arg3)
      ∧ r.2.mem ((c.tc : Thread Cert.RedGateRefIdeal.nD Cert.RedGateRefIdeal.τ).loc Cert.RedGateRefIdeal.main_arg4) = m ((c.tc : Thread Cert.RedGateRefIdeal.nD Cert.RedGateRefIdeal.τ).loc Cert.RedGateRefIdeal.main_arg4))
      ∧ r.2.sem = fun _ => 0)

def quiescent_RedGateRefIdeal_pre_device_ffn [hRedGateRefIdeal : Cert.RedGateRefIdeal.Facts] [hPre_device_ffn : Cert.Pre_device_ffn.Facts] : Prop :=
  ∀ (m : (ℓ : Loc Cert.RedGateRefIdeal.nD Cert.RedGateRefIdeal.τ Cert.RedGateRefIdeal.sig) → Buf (Elt Ideal) ℓ) (g : Dev Cert.RedGateRefIdeal.nD → PrngReg), Pre_RedGateRefIdeal_device_ffn m →
    θ_run (Cert.RedGateRefIdeal.defs (F := Ideal)) (onTc (τ := Cert.RedGateRefIdeal.τ) (Cert.RedGateRefIdeal.main (F := Ideal))) ⟨m, fun _ => 0, g⟩ (fun r => (∀ c : Dev Cert.RedGateRefIdeal.nD,
      r.2.mem ((c.tc : Thread Cert.RedGateRefIdeal.nD Cert.RedGateRefIdeal.τ).loc Cert.RedGateRefIdeal.main_arg0) = m ((c.tc : Thread Cert.RedGateRefIdeal.nD Cert.RedGateRefIdeal.τ).loc Cert.RedGateRefIdeal.main_arg0)
      ∧ r.2.mem ((c.tc : Thread Cert.RedGateRefIdeal.nD Cert.RedGateRefIdeal.τ).loc Cert.RedGateRefIdeal.main_arg1) = m ((c.tc : Thread Cert.RedGateRefIdeal.nD Cert.RedGateRefIdeal.τ).loc Cert.RedGateRefIdeal.main_arg1)
      ∧ r.2.mem ((c.tc : Thread Cert.RedGateRefIdeal.nD Cert.RedGateRefIdeal.τ).loc Cert.RedGateRefIdeal.main_arg2) = m ((c.tc : Thread Cert.RedGateRefIdeal.nD Cert.RedGateRefIdeal.τ).loc Cert.RedGateRefIdeal.main_arg2)
      ∧ r.2.mem ((c.tc : Thread Cert.RedGateRefIdeal.nD Cert.RedGateRefIdeal.τ).loc Cert.RedGateRefIdeal.main_arg3) = m ((c.tc : Thread Cert.RedGateRefIdeal.nD Cert.RedGateRefIdeal.τ).loc Cert.RedGateRefIdeal.main_arg3)
      ∧ r.2.mem ((c.tc : Thread Cert.RedGateRefIdeal.nD Cert.RedGateRefIdeal.τ).loc Cert.RedGateRefIdeal.main_arg4) = m ((c.tc : Thread Cert.RedGateRefIdeal.nD Cert.RedGateRefIdeal.τ).loc Cert.RedGateRefIdeal.main_arg4))
      ∧ r.2.sem = fun _ => 0)

def quiescent_RedUp [hRedUp : Cert.RedUp.Facts] [hPre_device_ffn : Cert.Pre_device_ffn.Facts] : Prop :=
  ∀ (m : (ℓ : Loc Cert.RedUp.nD Cert.RedUp.τ Cert.RedUp.sig) → Buf (Elt Bits) ℓ) (g : Dev Cert.RedUp.nD → PrngReg), Pre_RedUp m →
    θ_run (Cert.RedUp.defs (F := Bits)) (onTc (τ := Cert.RedUp.τ) (Cert.RedUp.main (F := Bits))) ⟨m, fun _ => 0, g⟩ (fun r => (∀ c : Dev Cert.RedUp.nD,
      r.2.mem ((c.tc : Thread Cert.RedUp.nD Cert.RedUp.τ).loc Cert.RedUp.main_arg0) = m ((c.tc : Thread Cert.RedUp.nD Cert.RedUp.τ).loc Cert.RedUp.main_arg0)
      ∧ r.2.mem ((c.tc : Thread Cert.RedUp.nD Cert.RedUp.τ).loc Cert.RedUp.main_arg1) = m ((c.tc : Thread Cert.RedUp.nD Cert.RedUp.τ).loc Cert.RedUp.main_arg1)
      ∧ r.2.mem ((c.tc : Thread Cert.RedUp.nD Cert.RedUp.τ).loc Cert.RedUp.main_arg2) = m ((c.tc : Thread Cert.RedUp.nD Cert.RedUp.τ).loc Cert.RedUp.main_arg2)
      ∧ r.2.mem ((c.tc : Thread Cert.RedUp.nD Cert.RedUp.τ).loc Cert.RedUp.main_arg3) = m ((c.tc : Thread Cert.RedUp.nD Cert.RedUp.τ).loc Cert.RedUp.main_arg3)
      ∧ r.2.mem ((c.tc : Thread Cert.RedUp.nD Cert.RedUp.τ).loc Cert.RedUp.main_arg4) = m ((c.tc : Thread Cert.RedUp.nD Cert.RedUp.τ).loc Cert.RedUp.main_arg4))
      ∧ r.2.sem = fun _ => 0)

def quiescent_RedUpIdeal [hRedUpIdeal : Cert.RedUpIdeal.Facts] [hPre_device_ffn : Cert.Pre_device_ffn.Facts] : Prop :=
  ∀ (m : (ℓ : Loc Cert.RedUpIdeal.nD Cert.RedUpIdeal.τ Cert.RedUpIdeal.sig) → Buf (Elt Ideal) ℓ) (g : Dev Cert.RedUpIdeal.nD → PrngReg), Pre_RedUpIdeal m →
    θ_run (Cert.RedUpIdeal.defs (F := Ideal)) (onTc (τ := Cert.RedUpIdeal.τ) (Cert.RedUpIdeal.main (F := Ideal))) ⟨m, fun _ => 0, g⟩ (fun r => (∀ c : Dev Cert.RedUpIdeal.nD,
      r.2.mem ((c.tc : Thread Cert.RedUpIdeal.nD Cert.RedUpIdeal.τ).loc Cert.RedUpIdeal.main_arg0) = m ((c.tc : Thread Cert.RedUpIdeal.nD Cert.RedUpIdeal.τ).loc Cert.RedUpIdeal.main_arg0)
      ∧ r.2.mem ((c.tc : Thread Cert.RedUpIdeal.nD Cert.RedUpIdeal.τ).loc Cert.RedUpIdeal.main_arg1) = m ((c.tc : Thread Cert.RedUpIdeal.nD Cert.RedUpIdeal.τ).loc Cert.RedUpIdeal.main_arg1)
      ∧ r.2.mem ((c.tc : Thread Cert.RedUpIdeal.nD Cert.RedUpIdeal.τ).loc Cert.RedUpIdeal.main_arg2) = m ((c.tc : Thread Cert.RedUpIdeal.nD Cert.RedUpIdeal.τ).loc Cert.RedUpIdeal.main_arg2)
      ∧ r.2.mem ((c.tc : Thread Cert.RedUpIdeal.nD Cert.RedUpIdeal.τ).loc Cert.RedUpIdeal.main_arg3) = m ((c.tc : Thread Cert.RedUpIdeal.nD Cert.RedUpIdeal.τ).loc Cert.RedUpIdeal.main_arg3)
      ∧ r.2.mem ((c.tc : Thread Cert.RedUpIdeal.nD Cert.RedUpIdeal.τ).loc Cert.RedUpIdeal.main_arg4) = m ((c.tc : Thread Cert.RedUpIdeal.nD Cert.RedUpIdeal.τ).loc Cert.RedUpIdeal.main_arg4))
      ∧ r.2.sem = fun _ => 0)

def quiescent_RedUpRefIdeal [hRedUpRefIdeal : Cert.RedUpRefIdeal.Facts] : Prop :=
  ∀ (m : (ℓ : Loc Cert.RedUpRefIdeal.nD Cert.RedUpRefIdeal.τ Cert.RedUpRefIdeal.sig) → Buf (Elt Ideal) ℓ) (g : Dev Cert.RedUpRefIdeal.nD → PrngReg), Pre_RedUpRefIdeal m →
    θ_run (Cert.RedUpRefIdeal.defs (F := Ideal)) (onTc (τ := Cert.RedUpRefIdeal.τ) (Cert.RedUpRefIdeal.main (F := Ideal))) ⟨m, fun _ => 0, g⟩ (fun r => (∀ c : Dev Cert.RedUpRefIdeal.nD,
      r.2.mem ((c.tc : Thread Cert.RedUpRefIdeal.nD Cert.RedUpRefIdeal.τ).loc Cert.RedUpRefIdeal.main_arg0) = m ((c.tc : Thread Cert.RedUpRefIdeal.nD Cert.RedUpRefIdeal.τ).loc Cert.RedUpRefIdeal.main_arg0)
      ∧ r.2.mem ((c.tc : Thread Cert.RedUpRefIdeal.nD Cert.RedUpRefIdeal.τ).loc Cert.RedUpRefIdeal.main_arg1) = m ((c.tc : Thread Cert.RedUpRefIdeal.nD Cert.RedUpRefIdeal.τ).loc Cert.RedUpRefIdeal.main_arg1)
      ∧ r.2.mem ((c.tc : Thread Cert.RedUpRefIdeal.nD Cert.RedUpRefIdeal.τ).loc Cert.RedUpRefIdeal.main_arg2) = m ((c.tc : Thread Cert.RedUpRefIdeal.nD Cert.RedUpRefIdeal.τ).loc Cert.RedUpRefIdeal.main_arg2)
      ∧ r.2.mem ((c.tc : Thread Cert.RedUpRefIdeal.nD Cert.RedUpRefIdeal.τ).loc Cert.RedUpRefIdeal.main_arg3) = m ((c.tc : Thread Cert.RedUpRefIdeal.nD Cert.RedUpRefIdeal.τ).loc Cert.RedUpRefIdeal.main_arg3)
      ∧ r.2.mem ((c.tc : Thread Cert.RedUpRefIdeal.nD Cert.RedUpRefIdeal.τ).loc Cert.RedUpRefIdeal.main_arg4) = m ((c.tc : Thread Cert.RedUpRefIdeal.nD Cert.RedUpRefIdeal.τ).loc Cert.RedUpRefIdeal.main_arg4))
      ∧ r.2.sem = fun _ => 0)

def quiescent_RedUpRefIdeal_pre_device_ffn [hRedUpRefIdeal : Cert.RedUpRefIdeal.Facts] [hPre_device_ffn : Cert.Pre_device_ffn.Facts] : Prop :=
  ∀ (m : (ℓ : Loc Cert.RedUpRefIdeal.nD Cert.RedUpRefIdeal.τ Cert.RedUpRefIdeal.sig) → Buf (Elt Ideal) ℓ) (g : Dev Cert.RedUpRefIdeal.nD → PrngReg), Pre_RedUpRefIdeal_device_ffn m →
    θ_run (Cert.RedUpRefIdeal.defs (F := Ideal)) (onTc (τ := Cert.RedUpRefIdeal.τ) (Cert.RedUpRefIdeal.main (F := Ideal))) ⟨m, fun _ => 0, g⟩ (fun r => (∀ c : Dev Cert.RedUpRefIdeal.nD,
      r.2.mem ((c.tc : Thread Cert.RedUpRefIdeal.nD Cert.RedUpRefIdeal.τ).loc Cert.RedUpRefIdeal.main_arg0) = m ((c.tc : Thread Cert.RedUpRefIdeal.nD Cert.RedUpRefIdeal.τ).loc Cert.RedUpRefIdeal.main_arg0)
      ∧ r.2.mem ((c.tc : Thread Cert.RedUpRefIdeal.nD Cert.RedUpRefIdeal.τ).loc Cert.RedUpRefIdeal.main_arg1) = m ((c.tc : Thread Cert.RedUpRefIdeal.nD Cert.RedUpRefIdeal.τ).loc Cert.RedUpRefIdeal.main_arg1)
      ∧ r.2.mem ((c.tc : Thread Cert.RedUpRefIdeal.nD Cert.RedUpRefIdeal.τ).loc Cert.RedUpRefIdeal.main_arg2) = m ((c.tc : Thread Cert.RedUpRefIdeal.nD Cert.RedUpRefIdeal.τ).loc Cert.RedUpRefIdeal.main_arg2)
      ∧ r.2.mem ((c.tc : Thread Cert.RedUpRefIdeal.nD Cert.RedUpRefIdeal.τ).loc Cert.RedUpRefIdeal.main_arg3) = m ((c.tc : Thread Cert.RedUpRefIdeal.nD Cert.RedUpRefIdeal.τ).loc Cert.RedUpRefIdeal.main_arg3)
      ∧ r.2.mem ((c.tc : Thread Cert.RedUpRefIdeal.nD Cert.RedUpRefIdeal.τ).loc Cert.RedUpRefIdeal.main_arg4) = m ((c.tc : Thread Cert.RedUpRefIdeal.nD Cert.RedUpRefIdeal.τ).loc Cert.RedUpRefIdeal.main_arg4))
      ∧ r.2.sem = fun _ => 0)

def quiescent_RedDown [hRedDown : Cert.RedDown.Facts] [hPre_device_down : Cert.Pre_device_down.Facts] : Prop :=
  ∀ (m : (ℓ : Loc Cert.RedDown.nD Cert.RedDown.τ Cert.RedDown.sig) → Buf (Elt Bits) ℓ) (g : Dev Cert.RedDown.nD → PrngReg), Pre_RedDown m →
    θ_run (Cert.RedDown.defs (F := Bits)) (onTc (τ := Cert.RedDown.τ) (Cert.RedDown.main (F := Bits))) ⟨m, fun _ => 0, g⟩ (fun r => (∀ c : Dev Cert.RedDown.nD,
      r.2.mem ((c.tc : Thread Cert.RedDown.nD Cert.RedDown.τ).loc Cert.RedDown.main_arg0) = m ((c.tc : Thread Cert.RedDown.nD Cert.RedDown.τ).loc Cert.RedDown.main_arg0)
      ∧ r.2.mem ((c.tc : Thread Cert.RedDown.nD Cert.RedDown.τ).loc Cert.RedDown.main_arg1) = m ((c.tc : Thread Cert.RedDown.nD Cert.RedDown.τ).loc Cert.RedDown.main_arg1)
      ∧ r.2.mem ((c.tc : Thread Cert.RedDown.nD Cert.RedDown.τ).loc Cert.RedDown.main_arg2) = m ((c.tc : Thread Cert.RedDown.nD Cert.RedDown.τ).loc Cert.RedDown.main_arg2)
      ∧ r.2.mem ((c.tc : Thread Cert.RedDown.nD Cert.RedDown.τ).loc Cert.RedDown.main_arg3) = m ((c.tc : Thread Cert.RedDown.nD Cert.RedDown.τ).loc Cert.RedDown.main_arg3)
      ∧ r.2.mem ((c.tc : Thread Cert.RedDown.nD Cert.RedDown.τ).loc Cert.RedDown.main_arg4) = m ((c.tc : Thread Cert.RedDown.nD Cert.RedDown.τ).loc Cert.RedDown.main_arg4))
      ∧ r.2.sem = fun _ => 0)

def quiescent_RedDownIdeal [hRedDownIdeal : Cert.RedDownIdeal.Facts] [hPre_device_down : Cert.Pre_device_down.Facts] : Prop :=
  ∀ (m : (ℓ : Loc Cert.RedDownIdeal.nD Cert.RedDownIdeal.τ Cert.RedDownIdeal.sig) → Buf (Elt Ideal) ℓ) (g : Dev Cert.RedDownIdeal.nD → PrngReg), Pre_RedDownIdeal m →
    θ_run (Cert.RedDownIdeal.defs (F := Ideal)) (onTc (τ := Cert.RedDownIdeal.τ) (Cert.RedDownIdeal.main (F := Ideal))) ⟨m, fun _ => 0, g⟩ (fun r => (∀ c : Dev Cert.RedDownIdeal.nD,
      r.2.mem ((c.tc : Thread Cert.RedDownIdeal.nD Cert.RedDownIdeal.τ).loc Cert.RedDownIdeal.main_arg0) = m ((c.tc : Thread Cert.RedDownIdeal.nD Cert.RedDownIdeal.τ).loc Cert.RedDownIdeal.main_arg0)
      ∧ r.2.mem ((c.tc : Thread Cert.RedDownIdeal.nD Cert.RedDownIdeal.τ).loc Cert.RedDownIdeal.main_arg1) = m ((c.tc : Thread Cert.RedDownIdeal.nD Cert.RedDownIdeal.τ).loc Cert.RedDownIdeal.main_arg1)
      ∧ r.2.mem ((c.tc : Thread Cert.RedDownIdeal.nD Cert.RedDownIdeal.τ).loc Cert.RedDownIdeal.main_arg2) = m ((c.tc : Thread Cert.RedDownIdeal.nD Cert.RedDownIdeal.τ).loc Cert.RedDownIdeal.main_arg2)
      ∧ r.2.mem ((c.tc : Thread Cert.RedDownIdeal.nD Cert.RedDownIdeal.τ).loc Cert.RedDownIdeal.main_arg3) = m ((c.tc : Thread Cert.RedDownIdeal.nD Cert.RedDownIdeal.τ).loc Cert.RedDownIdeal.main_arg3)
      ∧ r.2.mem ((c.tc : Thread Cert.RedDownIdeal.nD Cert.RedDownIdeal.τ).loc Cert.RedDownIdeal.main_arg4) = m ((c.tc : Thread Cert.RedDownIdeal.nD Cert.RedDownIdeal.τ).loc Cert.RedDownIdeal.main_arg4))
      ∧ r.2.sem = fun _ => 0)

def quiescent_RedDownRefIdeal [hRedDownRefIdeal : Cert.RedDownRefIdeal.Facts] : Prop :=
  ∀ (m : (ℓ : Loc Cert.RedDownRefIdeal.nD Cert.RedDownRefIdeal.τ Cert.RedDownRefIdeal.sig) → Buf (Elt Ideal) ℓ) (g : Dev Cert.RedDownRefIdeal.nD → PrngReg), Pre_RedDownRefIdeal m →
    θ_run (Cert.RedDownRefIdeal.defs (F := Ideal)) (onTc (τ := Cert.RedDownRefIdeal.τ) (Cert.RedDownRefIdeal.main (F := Ideal))) ⟨m, fun _ => 0, g⟩ (fun r => (∀ c : Dev Cert.RedDownRefIdeal.nD,
      r.2.mem ((c.tc : Thread Cert.RedDownRefIdeal.nD Cert.RedDownRefIdeal.τ).loc Cert.RedDownRefIdeal.main_arg0) = m ((c.tc : Thread Cert.RedDownRefIdeal.nD Cert.RedDownRefIdeal.τ).loc Cert.RedDownRefIdeal.main_arg0)
      ∧ r.2.mem ((c.tc : Thread Cert.RedDownRefIdeal.nD Cert.RedDownRefIdeal.τ).loc Cert.RedDownRefIdeal.main_arg1) = m ((c.tc : Thread Cert.RedDownRefIdeal.nD Cert.RedDownRefIdeal.τ).loc Cert.RedDownRefIdeal.main_arg1)
      ∧ r.2.mem ((c.tc : Thread Cert.RedDownRefIdeal.nD Cert.RedDownRefIdeal.τ).loc Cert.RedDownRefIdeal.main_arg2) = m ((c.tc : Thread Cert.RedDownRefIdeal.nD Cert.RedDownRefIdeal.τ).loc Cert.RedDownRefIdeal.main_arg2)
      ∧ r.2.mem ((c.tc : Thread Cert.RedDownRefIdeal.nD Cert.RedDownRefIdeal.τ).loc Cert.RedDownRefIdeal.main_arg3) = m ((c.tc : Thread Cert.RedDownRefIdeal.nD Cert.RedDownRefIdeal.τ).loc Cert.RedDownRefIdeal.main_arg3)
      ∧ r.2.mem ((c.tc : Thread Cert.RedDownRefIdeal.nD Cert.RedDownRefIdeal.τ).loc Cert.RedDownRefIdeal.main_arg4) = m ((c.tc : Thread Cert.RedDownRefIdeal.nD Cert.RedDownRefIdeal.τ).loc Cert.RedDownRefIdeal.main_arg4))
      ∧ r.2.sem = fun _ => 0)

def quiescent_RedDownRefIdeal_pre_device_down [hRedDownRefIdeal : Cert.RedDownRefIdeal.Facts] [hPre_device_down : Cert.Pre_device_down.Facts] : Prop :=
  ∀ (m : (ℓ : Loc Cert.RedDownRefIdeal.nD Cert.RedDownRefIdeal.τ Cert.RedDownRefIdeal.sig) → Buf (Elt Ideal) ℓ) (g : Dev Cert.RedDownRefIdeal.nD → PrngReg), Pre_RedDownRefIdeal_device_down m →
    θ_run (Cert.RedDownRefIdeal.defs (F := Ideal)) (onTc (τ := Cert.RedDownRefIdeal.τ) (Cert.RedDownRefIdeal.main (F := Ideal))) ⟨m, fun _ => 0, g⟩ (fun r => (∀ c : Dev Cert.RedDownRefIdeal.nD,
      r.2.mem ((c.tc : Thread Cert.RedDownRefIdeal.nD Cert.RedDownRefIdeal.τ).loc Cert.RedDownRefIdeal.main_arg0) = m ((c.tc : Thread Cert.RedDownRefIdeal.nD Cert.RedDownRefIdeal.τ).loc Cert.RedDownRefIdeal.main_arg0)
      ∧ r.2.mem ((c.tc : Thread Cert.RedDownRefIdeal.nD Cert.RedDownRefIdeal.τ).loc Cert.RedDownRefIdeal.main_arg1) = m ((c.tc : Thread Cert.RedDownRefIdeal.nD Cert.RedDownRefIdeal.τ).loc Cert.RedDownRefIdeal.main_arg1)
      ∧ r.2.mem ((c.tc : Thread Cert.RedDownRefIdeal.nD Cert.RedDownRefIdeal.τ).loc Cert.RedDownRefIdeal.main_arg2) = m ((c.tc : Thread Cert.RedDownRefIdeal.nD Cert.RedDownRefIdeal.τ).loc Cert.RedDownRefIdeal.main_arg2)
      ∧ r.2.mem ((c.tc : Thread Cert.RedDownRefIdeal.nD Cert.RedDownRefIdeal.τ).loc Cert.RedDownRefIdeal.main_arg3) = m ((c.tc : Thread Cert.RedDownRefIdeal.nD Cert.RedDownRefIdeal.τ).loc Cert.RedDownRefIdeal.main_arg3)
      ∧ r.2.mem ((c.tc : Thread Cert.RedDownRefIdeal.nD Cert.RedDownRefIdeal.τ).loc Cert.RedDownRefIdeal.main_arg4) = m ((c.tc : Thread Cert.RedDownRefIdeal.nD Cert.RedDownRefIdeal.τ).loc Cert.RedDownRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)) →
    ∃ (v0 : (c : Dev Cert.FwdInIdeal.nD) → Buf (Elt Ideal) ((c.tc : Thread Cert.FwdInIdeal.nD Cert.FwdInIdeal.τ).loc Cert.FwdInIdeal.main_v0)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v0) = v0 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v2) = v0 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1))

def preserves_FwdGu_FwdGuIdeal : Prop :=
  True

def algebraic_FwdGuIdeal_FwdGuRefIdeal [hFwdGuIdeal : Cert.FwdGuIdeal.Facts] [hFwdGuRefIdeal : Cert.FwdGuRefIdeal.Facts] : Prop :=
  ∀ (m : (ℓ : Loc Cert.FwdGuIdeal.nD Cert.FwdGuIdeal.τ Cert.FwdGuIdeal.sig) → Buf (Elt Ideal) ℓ) (g : Dev Cert.FwdGuIdeal.nD → PrngReg)
    (m' : (ℓ : Loc Cert.FwdGuRefIdeal.nD Cert.FwdGuRefIdeal.τ Cert.FwdGuRefIdeal.sig) → Buf (Elt Ideal) ℓ) (g' : Dev Cert.FwdGuRefIdeal.nD → PrngReg), Pre_FwdGuIdeal m →
    (∀ c : Dev Cert.FwdGuIdeal.nD,
      m' ((c.tc : Thread Cert.FwdGuRefIdeal.nD Cert.FwdGuRefIdeal.τ).loc Cert.FwdGuRefIdeal.main_arg0) = m ((c.tc : Thread Cert.FwdGuIdeal.nD Cert.FwdGuIdeal.τ).loc Cert.FwdGuIdeal.main_arg0)
      ∧ m' ((c.tc : Thread Cert.FwdGuRefIdeal.nD Cert.FwdGuRefIdeal.τ).loc Cert.FwdGuRefIdeal.main_arg1) = m ((c.tc : Thread Cert.FwdGuIdeal.nD Cert.FwdGuIdeal.τ).loc Cert.FwdGuIdeal.main_arg1)) →
    ∃ (v0 : (c : Dev Cert.FwdGuIdeal.nD) → Buf (Elt Ideal) ((c.tc : Thread Cert.FwdGuIdeal.nD Cert.FwdGuIdeal.τ).loc Cert.FwdGuIdeal.main_v0)),
      θ_run (Cert.FwdGuIdeal.defs (F := Ideal)) (onTc (τ := Cert.FwdGuIdeal.τ) (Cert.FwdGuIdeal.main (F := Ideal))) ⟨m, fun _ => 0, g⟩ (fun r => ∀ c : Dev Cert.FwdGuIdeal.nD,
          r.2.mem ((c.tc : Thread Cert.FwdGuIdeal.nD Cert.FwdGuIdeal.τ).loc Cert.FwdGuIdeal.main_v0) = v0 c
          ∧ r.2.mem ((c.tc : Thread Cert.FwdGuIdeal.nD Cert.FwdGuIdeal.τ).loc Cert.FwdGuIdeal.main_arg0) = m ((c.tc : Thread Cert.FwdGuIdeal.nD Cert.FwdGuIdeal.τ).loc Cert.FwdGuIdeal.main_arg0)
          ∧ r.2.mem ((c.tc : Thread Cert.FwdGuIdeal.nD Cert.FwdGuIdeal.τ).loc Cert.FwdGuIdeal.main_arg1) = m ((c.tc : Thread Cert.FwdGuIdeal.nD Cert.FwdGuIdeal.τ).loc Cert.FwdGuIdeal.main_arg1))
      ∧ θ_run (Cert.FwdGuRefIdeal.defs (F := Ideal)) (onTc (τ := Cert.FwdGuRefIdeal.τ) (Cert.FwdGuRefIdeal.main (F := Ideal))) ⟨m', fun _ => 0, g'⟩ (fun r => ∀ c : Dev Cert.FwdGuRefIdeal.nD,
          r.2.mem ((c.tc : Thread Cert.FwdGuRefIdeal.nD Cert.FwdGuRefIdeal.τ).loc Cert.FwdGuRefIdeal.main_v6) = v0 c
          ∧ r.2.mem ((c.tc : Thread Cert.FwdGuRefIdeal.nD Cert.FwdGuRefIdeal.τ).loc Cert.FwdGuRefIdeal.main_arg0) = m' ((c.tc : Thread Cert.FwdGuRefIdeal.nD Cert.FwdGuRefIdeal.τ).loc Cert.FwdGuRefIdeal.main_arg0)
          ∧ r.2.mem ((c.tc : Thread Cert.FwdGuRefIdeal.nD Cert.FwdGuRefIdeal.τ).loc Cert.FwdGuRefIdeal.main_arg1) = m' ((c.tc : Thread Cert.FwdGuRefIdeal.nD Cert.FwdGuRefIdeal.τ).loc Cert.FwdGuRefIdeal.main_arg1))

def preserves_FwdGlu_FwdGluIdeal : Prop :=
  True

def algebraic_FwdGluIdeal_FwdGluRefIdeal [hFwdGluIdeal : Cert.FwdGluIdeal.Facts] [hFwdGluRefIdeal : Cert.FwdGluRefIdeal.Facts] : Prop :=
  ∀ (m : (ℓ : Loc Cert.FwdGluIdeal.nD Cert.FwdGluIdeal.τ Cert.FwdGluIdeal.sig) → Buf (Elt Ideal) ℓ) (g : Dev Cert.FwdGluIdeal.nD → PrngReg)
    (m' : (ℓ : Loc Cert.FwdGluRefIdeal.nD Cert.FwdGluRefIdeal.τ Cert.FwdGluRefIdeal.sig) → Buf (Elt Ideal) ℓ) (g' : Dev Cert.FwdGluRefIdeal.nD → PrngReg), Pre_FwdGluIdeal m →
    (∀ c : Dev Cert.FwdGluIdeal.nD,
      m' ((c.tc : Thread Cert.FwdGluRefIdeal.nD Cert.FwdGluRefIdeal.τ).loc Cert.FwdGluRefIdeal.main_arg0) = m ((c.tc : Thread Cert.FwdGluIdeal.nD Cert.FwdGluIdeal.τ).loc Cert.FwdGluIdeal.main_arg0)
      ∧ m' ((c.tc : Thread Cert.FwdGluRefIdeal.nD Cert.FwdGluRefIdeal.τ).loc Cert.FwdGluRefIdeal.main_arg1) = m ((c.tc : Thread Cert.FwdGluIdeal.nD Cert.FwdGluIdeal.τ).loc Cert.FwdGluIdeal.main_arg1)) →
    ∃ (v0 : (c : Dev Cert.FwdGluIdeal.nD) → Buf (Elt Ideal) ((c.tc : Thread Cert.FwdGluIdeal.nD Cert.FwdGluIdeal.τ).loc Cert.FwdGluIdeal.main_v0)),
      θ_run (Cert.FwdGluIdeal.defs (F := Ideal)) (onTc (τ := Cert.FwdGluIdeal.τ) (Cert.FwdGluIdeal.main (F := Ideal))) ⟨m, fun _ => 0, g⟩ (fun r => ∀ c : Dev Cert.FwdGluIdeal.nD,
          r.2.mem ((c.tc : Thread Cert.FwdGluIdeal.nD Cert.FwdGluIdeal.τ).loc Cert.FwdGluIdeal.main_v0) = v0 c
          ∧ r.2.mem ((c.tc : Thread Cert.FwdGluIdeal.nD Cert.FwdGluIdeal.τ).loc Cert.FwdGluIdeal.main_arg0) = m ((c.tc : Thread Cert.FwdGluIdeal.nD Cert.FwdGluIdeal.τ).loc Cert.FwdGluIdeal.main_arg0)
          ∧ r.2.mem ((c.tc : Thread Cert.FwdGluIdeal.nD Cert.FwdGluIdeal.τ).loc Cert.FwdGluIdeal.main_arg1) = m ((c.tc : Thread Cert.FwdGluIdeal.nD Cert.FwdGluIdeal.τ).loc Cert.FwdGluIdeal.main_arg1))
      ∧ θ_run (Cert.FwdGluRefIdeal.defs (F := Ideal)) (onTc (τ := Cert.FwdGluRefIdeal.τ) (Cert.FwdGluRefIdeal.main (F := Ideal))) ⟨m', fun _ => 0, g'⟩ (fun r => ∀ c : Dev Cert.FwdGluRefIdeal.nD,
          r.2.mem ((c.tc : Thread Cert.FwdGluRefIdeal.nD Cert.FwdGluRefIdeal.τ).loc Cert.FwdGluRefIdeal.main_v2) = v0 c
          ∧ r.2.mem ((c.tc : Thread Cert.FwdGluRefIdeal.nD Cert.FwdGluRefIdeal.τ).loc Cert.FwdGluRefIdeal.main_arg0) = m' ((c.tc : Thread Cert.FwdGluRefIdeal.nD Cert.FwdGluRefIdeal.τ).loc Cert.FwdGluRefIdeal.main_arg0)
          ∧ r.2.mem ((c.tc : Thread Cert.FwdGluRefIdeal.nD Cert.FwdGluRefIdeal.τ).loc Cert.FwdGluRefIdeal.main_arg1) = m' ((c.tc : Thread Cert.FwdGluRefIdeal.nD Cert.FwdGluRefIdeal.τ).loc Cert.FwdGluRefIdeal.main_arg1))

def preserves_FwdOut_FwdOutIdeal : Prop :=
  True

def algebraic_FwdOutIdeal_FwdOutRefIdeal [hFwdOutIdeal : Cert.FwdOutIdeal.Facts] [hFwdOutRefIdeal : Cert.FwdOutRefIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg)
    (m' : (ℓ : Loc Cert.FwdOutRefIdeal.nD Cert.FwdOutRefIdeal.τ Cert.FwdOutRefIdeal.sig) → Buf (Elt Ideal) ℓ) (g' : Dev Cert.FwdOutRefIdeal.nD → PrngReg), Pre_FwdOutIdeal m →
    (∀ c : Dev Cert.FwdOutIdeal.nD,
      m' ((c.tc : Thread Cert.FwdOutRefIdeal.nD Cert.FwdOutRefIdeal.τ).loc Cert.FwdOutRefIdeal.main_arg0) = m ((c.tc : Thread Cert.FwdOutIdeal.nD Cert.FwdOutIdeal.τ).loc Cert.FwdOutIdeal.main_arg0)
      ∧ m' ((c.tc : Thread Cert.FwdOutRefIdeal.nD Cert.FwdOutRefIdeal.τ).loc Cert.FwdOutRefIdeal.main_arg1) = m ((c.tc : Thread Cert.FwdOutIdeal.nD Cert.FwdOutIdeal.τ).loc Cert.FwdOutIdeal.main_arg1)
      ∧ m' ((c.tc : Thread Cert.FwdOutRefIdeal.nD Cert.FwdOutRefIdeal.τ).loc Cert.FwdOutRefIdeal.main_arg2) = m ((c.tc : Thread Cert.FwdOutIdeal.nD Cert.FwdOutIdeal.τ).loc Cert.FwdOutIdeal.main_arg2)) →
    ∃ (v0 : (c : Dev Cert.FwdOutIdeal.nD) → Buf (Elt Ideal) ((c.tc : Thread Cert.FwdOutIdeal.nD Cert.FwdOutIdeal.τ).loc Cert.FwdOutIdeal.main_v0)),
      θ_run (Cert.FwdOutIdeal.defs (F := Ideal)) (onTc (τ := Cert.FwdOutIdeal.τ) (Cert.FwdOutIdeal.main (F := Ideal))) ⟨m, fun _ => 0, g⟩ (fun r => ∀ c : Dev Cert.FwdOutIdeal.nD,
          r.2.mem ((c.tc : Thread Cert.FwdOutIdeal.nD Cert.FwdOutIdeal.τ).loc Cert.FwdOutIdeal.main_v0) = v0 c
          ∧ r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
          ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
          ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2))
      ∧ θ_run (Cert.FwdOutRefIdeal.defs (F := Ideal)) (onTc (τ := Cert.FwdOutRefIdeal.τ) (Cert.FwdOutRefIdeal.main (F := Ideal))) ⟨m', fun _ => 0, g'⟩ (fun r => ∀ c : Dev Cert.FwdOutRefIdeal.nD,
          r.2.mem ((c.tc : Thread Cert.FwdOutRefIdeal.nD Cert.FwdOutRefIdeal.τ).loc Cert.FwdOutRefIdeal.main_v3) = v0 c
          ∧ r.2.mem ((c.tc : Thread Cert.FwdOutRefIdeal.nD Cert.FwdOutRefIdeal.τ).loc Cert.FwdOutRefIdeal.main_arg0) = m' ((c.tc : Thread Cert.FwdOutRefIdeal.nD Cert.FwdOutRefIdeal.τ).loc Cert.FwdOutRefIdeal.main_arg0)
          ∧ r.2.mem ((c.tc : Thread Cert.FwdOutRefIdeal.nD Cert.FwdOutRefIdeal.τ).loc Cert.FwdOutRefIdeal.main_arg1) = m' ((c.tc : Thread Cert.FwdOutRefIdeal.nD Cert.FwdOutRefIdeal.τ).loc Cert.FwdOutRefIdeal.main_arg1)
          ∧ r.2.mem ((c.tc : Thread Cert.FwdOutRefIdeal.nD Cert.FwdOutRefIdeal.τ).loc Cert.FwdOutRefIdeal.main_arg2) = m' ((c.tc : Thread Cert.FwdOutRefIdeal.nD Cert.FwdOutRefIdeal.τ).loc Cert.FwdOutRefIdeal.main_arg2))

def preserves_FwdDown_FwdDownIdeal : Prop :=
  True

def algebraic_FwdDownIdeal_FwdDownRefIdeal [hFwdDownIdeal : Cert.FwdDownIdeal.Facts] [hFwdDownRefIdeal : Cert.FwdDownRefIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg)
    (m' : (ℓ : Loc Cert.FwdDownRefIdeal.nD Cert.FwdDownRefIdeal.τ Cert.FwdDownRefIdeal.sig) → Buf (Elt Ideal) ℓ) (g' : Dev Cert.FwdDownRefIdeal.nD → PrngReg), Pre_FwdDownIdeal m →
    (∀ c : Dev Cert.FwdDownIdeal.nD,
      m' ((c.tc : Thread Cert.FwdDownRefIdeal.nD Cert.FwdDownRefIdeal.τ).loc Cert.FwdDownRefIdeal.main_arg0) = m ((c.tc : Thread Cert.FwdDownIdeal.nD Cert.FwdDownIdeal.τ).loc Cert.FwdDownIdeal.main_arg0)
      ∧ m' ((c.tc : Thread Cert.FwdDownRefIdeal.nD Cert.FwdDownRefIdeal.τ).loc Cert.FwdDownRefIdeal.main_arg1) = m ((c.tc : Thread Cert.FwdDownIdeal.nD Cert.FwdDownIdeal.τ).loc Cert.FwdDownIdeal.main_arg1)
      ∧ m' ((c.tc : Thread Cert.FwdDownRefIdeal.nD Cert.FwdDownRefIdeal.τ).loc Cert.FwdDownRefIdeal.main_arg2) = m ((c.tc : Thread Cert.FwdDownIdeal.nD Cert.FwdDownIdeal.τ).loc Cert.FwdDownIdeal.main_arg2)) →
    ∃ (v0 : (c : Dev Cert.FwdDownIdeal.nD) → Buf (Elt Ideal) ((c.tc : Thread Cert.FwdDownIdeal.nD Cert.FwdDownIdeal.τ).loc Cert.FwdDownIdeal.main_v0)),
      θ_run (Cert.FwdDownIdeal.defs (F := Ideal)) (onTc (τ := Cert.FwdDownIdeal.τ) (Cert.FwdDownIdeal.main (F := Ideal))) ⟨m, fun _ => 0, g⟩ (fun r => ∀ c : Dev Cert.FwdDownIdeal.nD,
          r.2.mem ((c.tc : Thread Cert.FwdDownIdeal.nD Cert.FwdDownIdeal.τ).loc Cert.FwdDownIdeal.main_v0) = v0 c
          ∧ r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
          ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
          ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2))
      ∧ θ_run (Cert.FwdDownRefIdeal.defs (F := Ideal)) (onTc (τ := Cert.FwdDownRefIdeal.τ) (Cert.FwdDownRefIdeal.main (F := Ideal))) ⟨m', fun _ => 0, g'⟩ (fun r => ∀ c : Dev Cert.FwdDownRefIdeal.nD,
          r.2.mem ((c.tc : Thread Cert.FwdDownRefIdeal.nD Cert.FwdDownRefIdeal.τ).loc Cert.FwdDownRefIdeal.main_v3) = v0 c
          ∧ r.2.mem ((c.tc : Thread Cert.FwdDownRefIdeal.nD Cert.FwdDownRefIdeal.τ).loc Cert.FwdDownRefIdeal.main_arg0) = m' ((c.tc : Thread Cert.FwdDownRefIdeal.nD Cert.FwdDownRefIdeal.τ).loc Cert.FwdDownRefIdeal.main_arg0)
          ∧ r.2.mem ((c.tc : Thread Cert.FwdDownRefIdeal.nD Cert.FwdDownRefIdeal.τ).loc Cert.FwdDownRefIdeal.main_arg1) = m' ((c.tc : Thread Cert.FwdDownRefIdeal.nD Cert.FwdDownRefIdeal.τ).loc Cert.FwdDownRefIdeal.main_arg1)
          ∧ r.2.mem ((c.tc : Thread Cert.FwdDownRefIdeal.nD Cert.FwdDownRefIdeal.τ).loc Cert.FwdDownRefIdeal.main_arg2) = m' ((c.tc : Thread Cert.FwdDownRefIdeal.nD Cert.FwdDownRefIdeal.τ).loc Cert.FwdDownRefIdeal.main_arg2))

def preserves_BwdInX_BwdInXIdeal : Prop :=
  True

def algebraic_BwdInXIdeal_BwdInXRefIdeal [hBwdInXIdeal : Cert.BwdInXIdeal.Facts] [hBwdInXRefIdeal : Cert.BwdInXRefIdeal.Facts] : Prop :=
  ∀ (m : (ℓ : Loc Cert.BwdInXIdeal.nD Cert.BwdInXIdeal.τ Cert.BwdInXIdeal.sig) → Buf (Elt Ideal) ℓ) (g : Dev Cert.BwdInXIdeal.nD → PrngReg)
    (m' : (ℓ : Loc Cert.BwdInXRefIdeal.nD Cert.BwdInXRefIdeal.τ Cert.BwdInXRefIdeal.sig) → Buf (Elt Ideal) ℓ) (g' : Dev Cert.BwdInXRefIdeal.nD → PrngReg), Pre_BwdInXIdeal m →
    (∀ c : Dev Cert.BwdInXIdeal.nD,
      m' ((c.tc : Thread Cert.BwdInXRefIdeal.nD Cert.BwdInXRefIdeal.τ).loc Cert.BwdInXRefIdeal.main_arg0) = m ((c.tc : Thread Cert.BwdInXIdeal.nD Cert.BwdInXIdeal.τ).loc Cert.BwdInXIdeal.main_arg0)
      ∧ m' ((c.tc : Thread Cert.BwdInXRefIdeal.nD Cert.BwdInXRefIdeal.τ).loc Cert.BwdInXRefIdeal.main_arg1) = m ((c.tc : Thread Cert.BwdInXIdeal.nD Cert.BwdInXIdeal.τ).loc Cert.BwdInXIdeal.main_arg1)) →
    ∃ (v0 : (c : Dev Cert.BwdInXIdeal.nD) → Buf (Elt Ideal) ((c.tc : Thread Cert.BwdInXIdeal.nD Cert.BwdInXIdeal.τ).loc Cert.BwdInXIdeal.main_v0)),
      θ_run (Cert.BwdInXIdeal.defs (F := Ideal)) (onTc (τ := Cert.BwdInXIdeal.τ) (Cert.BwdInXIdeal.main (F := Ideal))) ⟨m, fun _ => 0, g⟩ (fun r => ∀ c : Dev Cert.BwdInXIdeal.nD,
          r.2.mem ((c.tc : Thread Cert.BwdInXIdeal.nD Cert.BwdInXIdeal.τ).loc Cert.BwdInXIdeal.main_v0) = v0 c
          ∧ r.2.mem ((c.tc : Thread Cert.BwdInXIdeal.nD Cert.BwdInXIdeal.τ).loc Cert.BwdInXIdeal.main_arg0) = m ((c.tc : Thread Cert.BwdInXIdeal.nD Cert.BwdInXIdeal.τ).loc Cert.BwdInXIdeal.main_arg0)
          ∧ r.2.mem ((c.tc : Thread Cert.BwdInXIdeal.nD Cert.BwdInXIdeal.τ).loc Cert.BwdInXIdeal.main_arg1) = m ((c.tc : Thread Cert.BwdInXIdeal.nD Cert.BwdInXIdeal.τ).loc Cert.BwdInXIdeal.main_arg1))
      ∧ θ_run (Cert.BwdInXRefIdeal.defs (F := Ideal)) (onTc (τ := Cert.BwdInXRefIdeal.τ) (Cert.BwdInXRefIdeal.main (F := Ideal))) ⟨m', fun _ => 0, g'⟩ (fun r => ∀ c : Dev Cert.BwdInXRefIdeal.nD,
          r.2.mem ((c.tc : Thread Cert.BwdInXRefIdeal.nD Cert.BwdInXRefIdeal.τ).loc Cert.BwdInXRefIdeal.main_v4) = v0 c
          ∧ r.2.mem ((c.tc : Thread Cert.BwdInXRefIdeal.nD Cert.BwdInXRefIdeal.τ).loc Cert.BwdInXRefIdeal.main_arg0) = m' ((c.tc : Thread Cert.BwdInXRefIdeal.nD Cert.BwdInXRefIdeal.τ).loc Cert.BwdInXRefIdeal.main_arg0)
          ∧ r.2.mem ((c.tc : Thread Cert.BwdInXRefIdeal.nD Cert.BwdInXRefIdeal.τ).loc Cert.BwdInXRefIdeal.main_arg1) = m' ((c.tc : Thread Cert.BwdInXRefIdeal.nD Cert.BwdInXRefIdeal.τ).loc Cert.BwdInXRefIdeal.main_arg1))

def preserves_BwdGuX_BwdGuXIdeal : Prop :=
  True

def algebraic_BwdGuXIdeal_BwdGuXRefIdeal [hBwdGuXIdeal : Cert.BwdGuXIdeal.Facts] [hBwdGuXRefIdeal : Cert.BwdGuXRefIdeal.Facts] : Prop :=
  ∀ (m : (ℓ : Loc Cert.BwdGuXIdeal.nD Cert.BwdGuXIdeal.τ Cert.BwdGuXIdeal.sig) → Buf (Elt Ideal) ℓ) (g : Dev Cert.BwdGuXIdeal.nD → PrngReg)
    (m' : (ℓ : Loc Cert.BwdGuXRefIdeal.nD Cert.BwdGuXRefIdeal.τ Cert.BwdGuXRefIdeal.sig) → Buf (Elt Ideal) ℓ) (g' : Dev Cert.BwdGuXRefIdeal.nD → PrngReg), Pre_BwdGuXIdeal m →
    (∀ c : Dev Cert.BwdGuXIdeal.nD,
      m' ((c.tc : Thread Cert.BwdGuXRefIdeal.nD Cert.BwdGuXRefIdeal.τ).loc Cert.BwdGuXRefIdeal.main_arg0) = m ((c.tc : Thread Cert.BwdGuXIdeal.nD Cert.BwdGuXIdeal.τ).loc Cert.BwdGuXIdeal.main_arg0)
      ∧ m' ((c.tc : Thread Cert.BwdGuXRefIdeal.nD Cert.BwdGuXRefIdeal.τ).loc Cert.BwdGuXRefIdeal.main_arg1) = m ((c.tc : Thread Cert.BwdGuXIdeal.nD Cert.BwdGuXIdeal.τ).loc Cert.BwdGuXIdeal.main_arg1)) →
    ∃ (v0 : (c : Dev Cert.BwdGuXIdeal.nD) → Buf (Elt Ideal) ((c.tc : Thread Cert.BwdGuXIdeal.nD Cert.BwdGuXIdeal.τ).loc Cert.BwdGuXIdeal.main_v0)),
      θ_run (Cert.BwdGuXIdeal.defs (F := Ideal)) (onTc (τ := Cert.BwdGuXIdeal.τ) (Cert.BwdGuXIdeal.main (F := Ideal))) ⟨m, fun _ => 0, g⟩ (fun r => ∀ c : Dev Cert.BwdGuXIdeal.nD,
          r.2.mem ((c.tc : Thread Cert.BwdGuXIdeal.nD Cert.BwdGuXIdeal.τ).loc Cert.BwdGuXIdeal.main_v0) = v0 c
          ∧ r.2.mem ((c.tc : Thread Cert.BwdGuXIdeal.nD Cert.BwdGuXIdeal.τ).loc Cert.BwdGuXIdeal.main_arg0) = m ((c.tc : Thread Cert.BwdGuXIdeal.nD Cert.BwdGuXIdeal.τ).loc Cert.BwdGuXIdeal.main_arg0)
          ∧ r.2.mem ((c.tc : Thread Cert.BwdGuXIdeal.nD Cert.BwdGuXIdeal.τ).loc Cert.BwdGuXIdeal.main_arg1) = m ((c.tc : Thread Cert.BwdGuXIdeal.nD Cert.BwdGuXIdeal.τ).loc Cert.BwdGuXIdeal.main_arg1))
      ∧ θ_run (Cert.BwdGuXRefIdeal.defs (F := Ideal)) (onTc (τ := Cert.BwdGuXRefIdeal.τ) (Cert.BwdGuXRefIdeal.main (F := Ideal))) ⟨m', fun _ => 0, g'⟩ (fun r => ∀ c : Dev Cert.BwdGuXRefIdeal.nD,
          r.2.mem ((c.tc : Thread Cert.BwdGuXRefIdeal.nD Cert.BwdGuXRefIdeal.τ).loc Cert.BwdGuXRefIdeal.main_v13) = v0 c
          ∧ r.2.mem ((c.tc : Thread Cert.BwdGuXRefIdeal.nD Cert.BwdGuXRefIdeal.τ).loc Cert.BwdGuXRefIdeal.main_arg0) = m' ((c.tc : Thread Cert.BwdGuXRefIdeal.nD Cert.BwdGuXRefIdeal.τ).loc Cert.BwdGuXRefIdeal.main_arg0)
          ∧ r.2.mem ((c.tc : Thread Cert.BwdGuXRefIdeal.nD Cert.BwdGuXRefIdeal.τ).loc Cert.BwdGuXRefIdeal.main_arg1) = m' ((c.tc : Thread Cert.BwdGuXRefIdeal.nD Cert.BwdGuXRefIdeal.τ).loc Cert.BwdGuXRefIdeal.main_arg1))

def preserves_BwdGluX_BwdGluXIdeal : Prop :=
  True

def algebraic_BwdGluXIdeal_BwdGluXRefIdeal [hBwdGluXIdeal : Cert.BwdGluXIdeal.Facts] [hBwdGluXRefIdeal : Cert.BwdGluXRefIdeal.Facts] : Prop :=
  ∀ (m : (ℓ : Loc Cert.BwdGluXIdeal.nD Cert.BwdGluXIdeal.τ Cert.BwdGluXIdeal.sig) → Buf (Elt Ideal) ℓ) (g : Dev Cert.BwdGluXIdeal.nD → PrngReg)
    (m' : (ℓ : Loc Cert.BwdGluXRefIdeal.nD Cert.BwdGluXRefIdeal.τ Cert.BwdGluXRefIdeal.sig) → Buf (Elt Ideal) ℓ) (g' : Dev Cert.BwdGluXRefIdeal.nD → PrngReg), Pre_BwdGluXIdeal m →
    (∀ c : Dev Cert.BwdGluXIdeal.nD,
      m' ((c.tc : Thread Cert.BwdGluXRefIdeal.nD Cert.BwdGluXRefIdeal.τ).loc Cert.BwdGluXRefIdeal.main_arg0) = m ((c.tc : Thread Cert.BwdGluXIdeal.nD Cert.BwdGluXIdeal.τ).loc Cert.BwdGluXIdeal.main_arg0)
      ∧ m' ((c.tc : Thread Cert.BwdGluXRefIdeal.nD Cert.BwdGluXRefIdeal.τ).loc Cert.BwdGluXRefIdeal.main_arg1) = m ((c.tc : Thread Cert.BwdGluXIdeal.nD Cert.BwdGluXIdeal.τ).loc Cert.BwdGluXIdeal.main_arg1)
      ∧ m' ((c.tc : Thread Cert.BwdGluXRefIdeal.nD Cert.BwdGluXRefIdeal.τ).loc Cert.BwdGluXRefIdeal.main_arg2) = m ((c.tc : Thread Cert.BwdGluXIdeal.nD Cert.BwdGluXIdeal.τ).loc Cert.BwdGluXIdeal.main_arg2)) →
    ∃ (v0 : (c : Dev Cert.BwdGluXIdeal.nD) → Buf (Elt Ideal) ((c.tc : Thread Cert.BwdGluXIdeal.nD Cert.BwdGluXIdeal.τ).loc Cert.BwdGluXIdeal.main_v0)),
      θ_run (Cert.BwdGluXIdeal.defs (F := Ideal)) (onTc (τ := Cert.BwdGluXIdeal.τ) (Cert.BwdGluXIdeal.main (F := Ideal))) ⟨m, fun _ => 0, g⟩ (fun r => ∀ c : Dev Cert.BwdGluXIdeal.nD,
          r.2.mem ((c.tc : Thread Cert.BwdGluXIdeal.nD Cert.BwdGluXIdeal.τ).loc Cert.BwdGluXIdeal.main_v0) = v0 c
          ∧ r.2.mem ((c.tc : Thread Cert.BwdGluXIdeal.nD Cert.BwdGluXIdeal.τ).loc Cert.BwdGluXIdeal.main_arg0) = m ((c.tc : Thread Cert.BwdGluXIdeal.nD Cert.BwdGluXIdeal.τ).loc Cert.BwdGluXIdeal.main_arg0)
          ∧ r.2.mem ((c.tc : Thread Cert.BwdGluXIdeal.nD Cert.BwdGluXIdeal.τ).loc Cert.BwdGluXIdeal.main_arg1) = m ((c.tc : Thread Cert.BwdGluXIdeal.nD Cert.BwdGluXIdeal.τ).loc Cert.BwdGluXIdeal.main_arg1)
          ∧ r.2.mem ((c.tc : Thread Cert.BwdGluXIdeal.nD Cert.BwdGluXIdeal.τ).loc Cert.BwdGluXIdeal.main_arg2) = m ((c.tc : Thread Cert.BwdGluXIdeal.nD Cert.BwdGluXIdeal.τ).loc Cert.BwdGluXIdeal.main_arg2))
      ∧ θ_run (Cert.BwdGluXRefIdeal.defs (F := Ideal)) (onTc (τ := Cert.BwdGluXRefIdeal.τ) (Cert.BwdGluXRefIdeal.main (F := Ideal))) ⟨m', fun _ => 0, g'⟩ (fun r => ∀ c : Dev Cert.BwdGluXRefIdeal.nD,
          r.2.mem ((c.tc : Thread Cert.BwdGluXRefIdeal.nD Cert.BwdGluXRefIdeal.τ).loc Cert.BwdGluXRefIdeal.main_v5) = v0 c
          ∧ r.2.mem ((c.tc : Thread Cert.BwdGluXRefIdeal.nD Cert.BwdGluXRefIdeal.τ).loc Cert.BwdGluXRefIdeal.main_arg0) = m' ((c.tc : Thread Cert.BwdGluXRefIdeal.nD Cert.BwdGluXRefIdeal.τ).loc Cert.BwdGluXRefIdeal.main_arg0)
          ∧ r.2.mem ((c.tc : Thread Cert.BwdGluXRefIdeal.nD Cert.BwdGluXRefIdeal.τ).loc Cert.BwdGluXRefIdeal.main_arg1) = m' ((c.tc : Thread Cert.BwdGluXRefIdeal.nD Cert.BwdGluXRefIdeal.τ).loc Cert.BwdGluXRefIdeal.main_arg1)
          ∧ r.2.mem ((c.tc : Thread Cert.BwdGluXRefIdeal.nD Cert.BwdGluXRefIdeal.τ).loc Cert.BwdGluXRefIdeal.main_arg2) = m' ((c.tc : Thread Cert.BwdGluXRefIdeal.nD Cert.BwdGluXRefIdeal.τ).loc Cert.BwdGluXRefIdeal.main_arg2))

def preserves_BwdOutX_BwdOutXIdeal : Prop :=
  True

def algebraic_BwdOutXIdeal_BwdOutXRefIdeal [hBwdOutXIdeal : Cert.BwdOutXIdeal.Facts] [hBwdOutXRefIdeal : Cert.BwdOutXRefIdeal.Facts] : Prop :=
  ∀ (m : (ℓ : Loc Cert.BwdOutXIdeal.nD Cert.BwdOutXIdeal.τ Cert.BwdOutXIdeal.sig) → Buf (Elt Ideal) ℓ) (g : Dev Cert.BwdOutXIdeal.nD → PrngReg)
    (m' : (ℓ : Loc Cert.BwdOutXRefIdeal.nD Cert.BwdOutXRefIdeal.τ Cert.BwdOutXRefIdeal.sig) → Buf (Elt Ideal) ℓ) (g' : Dev Cert.BwdOutXRefIdeal.nD → PrngReg), Pre_BwdOutXIdeal m →
    (∀ c : Dev Cert.BwdOutXIdeal.nD,
      m' ((c.tc : Thread Cert.BwdOutXRefIdeal.nD Cert.BwdOutXRefIdeal.τ).loc Cert.BwdOutXRefIdeal.main_arg0) = m ((c.tc : Thread Cert.BwdOutXIdeal.nD Cert.BwdOutXIdeal.τ).loc Cert.BwdOutXIdeal.main_arg0)
      ∧ m' ((c.tc : Thread Cert.BwdOutXRefIdeal.nD Cert.BwdOutXRefIdeal.τ).loc Cert.BwdOutXRefIdeal.main_arg1) = m ((c.tc : Thread Cert.BwdOutXIdeal.nD Cert.BwdOutXIdeal.τ).loc Cert.BwdOutXIdeal.main_arg1)) →
    ∃ (v0 : (c : Dev Cert.BwdOutXIdeal.nD) → Buf (Elt Ideal) ((c.tc : Thread Cert.BwdOutXIdeal.nD Cert.BwdOutXIdeal.τ).loc Cert.BwdOutXIdeal.main_v0)),
      θ_run (Cert.BwdOutXIdeal.defs (F := Ideal)) (onTc (τ := Cert.BwdOutXIdeal.τ) (Cert.BwdOutXIdeal.main (F := Ideal))) ⟨m, fun _ => 0, g⟩ (fun r => ∀ c : Dev Cert.BwdOutXIdeal.nD,
          r.2.mem ((c.tc : Thread Cert.BwdOutXIdeal.nD Cert.BwdOutXIdeal.τ).loc Cert.BwdOutXIdeal.main_v0) = v0 c
          ∧ r.2.mem ((c.tc : Thread Cert.BwdOutXIdeal.nD Cert.BwdOutXIdeal.τ).loc Cert.BwdOutXIdeal.main_arg0) = m ((c.tc : Thread Cert.BwdOutXIdeal.nD Cert.BwdOutXIdeal.τ).loc Cert.BwdOutXIdeal.main_arg0)
          ∧ r.2.mem ((c.tc : Thread Cert.BwdOutXIdeal.nD Cert.BwdOutXIdeal.τ).loc Cert.BwdOutXIdeal.main_arg1) = m ((c.tc : Thread Cert.BwdOutXIdeal.nD Cert.BwdOutXIdeal.τ).loc Cert.BwdOutXIdeal.main_arg1))
      ∧ θ_run (Cert.BwdOutXRefIdeal.defs (F := Ideal)) (onTc (τ := Cert.BwdOutXRefIdeal.τ) (Cert.BwdOutXRefIdeal.main (F := Ideal))) ⟨m', fun _ => 0, g'⟩ (fun r => ∀ c : Dev Cert.BwdOutXRefIdeal.nD,
          r.2.mem ((c.tc : Thread Cert.BwdOutXRefIdeal.nD Cert.BwdOutXRefIdeal.τ).loc Cert.BwdOutXRefIdeal.main_v4) = v0 c
          ∧ r.2.mem ((c.tc : Thread Cert.BwdOutXRefIdeal.nD Cert.BwdOutXRefIdeal.τ).loc Cert.BwdOutXRefIdeal.main_arg0) = m' ((c.tc : Thread Cert.BwdOutXRefIdeal.nD Cert.BwdOutXRefIdeal.τ).loc Cert.BwdOutXRefIdeal.main_arg0)
          ∧ r.2.mem ((c.tc : Thread Cert.BwdOutXRefIdeal.nD Cert.BwdOutXRefIdeal.τ).loc Cert.BwdOutXRefIdeal.main_arg1) = m' ((c.tc : Thread Cert.BwdOutXRefIdeal.nD Cert.BwdOutXRefIdeal.τ).loc Cert.BwdOutXRefIdeal.main_arg1))

def preserves_BwdDownX_BwdDownXIdeal : Prop :=
  True

def algebraic_BwdDownXIdeal_BwdDownXRefIdeal [hBwdDownXIdeal : Cert.BwdDownXIdeal.Facts] [hBwdDownXRefIdeal : Cert.BwdDownXRefIdeal.Facts] : Prop :=
  ∀ (m : (ℓ : Loc Cert.BwdDownXIdeal.nD Cert.BwdDownXIdeal.τ Cert.BwdDownXIdeal.sig) → Buf (Elt Ideal) ℓ) (g : Dev Cert.BwdDownXIdeal.nD → PrngReg)
    (m' : (ℓ : Loc Cert.BwdDownXRefIdeal.nD Cert.BwdDownXRefIdeal.τ Cert.BwdDownXRefIdeal.sig) → Buf (Elt Ideal) ℓ) (g' : Dev Cert.BwdDownXRefIdeal.nD → PrngReg), Pre_BwdDownXIdeal m →
    (∀ c : Dev Cert.BwdDownXIdeal.nD,
      m' ((c.tc : Thread Cert.BwdDownXRefIdeal.nD Cert.BwdDownXRefIdeal.τ).loc Cert.BwdDownXRefIdeal.main_arg0) = m ((c.tc : Thread Cert.BwdDownXIdeal.nD Cert.BwdDownXIdeal.τ).loc Cert.BwdDownXIdeal.main_arg0)
      ∧ m' ((c.tc : Thread Cert.BwdDownXRefIdeal.nD Cert.BwdDownXRefIdeal.τ).loc Cert.BwdDownXRefIdeal.main_arg1) = m ((c.tc : Thread Cert.BwdDownXIdeal.nD Cert.BwdDownXIdeal.τ).loc Cert.BwdDownXIdeal.main_arg1)) →
    ∃ (v0 : (c : Dev Cert.BwdDownXIdeal.nD) → Buf (Elt Ideal) ((c.tc : Thread Cert.BwdDownXIdeal.nD Cert.BwdDownXIdeal.τ).loc Cert.BwdDownXIdeal.main_v0)),
      θ_run (Cert.BwdDownXIdeal.defs (F := Ideal)) (onTc (τ := Cert.BwdDownXIdeal.τ) (Cert.BwdDownXIdeal.main (F := Ideal))) ⟨m, fun _ => 0, g⟩ (fun r => ∀ c : Dev Cert.BwdDownXIdeal.nD,
          r.2.mem ((c.tc : Thread Cert.BwdDownXIdeal.nD Cert.BwdDownXIdeal.τ).loc Cert.BwdDownXIdeal.main_v0) = v0 c
          ∧ r.2.mem ((c.tc : Thread Cert.BwdDownXIdeal.nD Cert.BwdDownXIdeal.τ).loc Cert.BwdDownXIdeal.main_arg0) = m ((c.tc : Thread Cert.BwdDownXIdeal.nD Cert.BwdDownXIdeal.τ).loc Cert.BwdDownXIdeal.main_arg0)
          ∧ r.2.mem ((c.tc : Thread Cert.BwdDownXIdeal.nD Cert.BwdDownXIdeal.τ).loc Cert.BwdDownXIdeal.main_arg1) = m ((c.tc : Thread Cert.BwdDownXIdeal.nD Cert.BwdDownXIdeal.τ).loc Cert.BwdDownXIdeal.main_arg1))
      ∧ θ_run (Cert.BwdDownXRefIdeal.defs (F := Ideal)) (onTc (τ := Cert.BwdDownXRefIdeal.τ) (Cert.BwdDownXRefIdeal.main (F := Ideal))) ⟨m', fun _ => 0, g'⟩ (fun r => ∀ c : Dev Cert.BwdDownXRefIdeal.nD,
          r.2.mem ((c.tc : Thread Cert.BwdDownXRefIdeal.nD Cert.BwdDownXRefIdeal.τ).loc Cert.BwdDownXRefIdeal.main_v4) = v0 c
          ∧ r.2.mem ((c.tc : Thread Cert.BwdDownXRefIdeal.nD Cert.BwdDownXRefIdeal.τ).loc Cert.BwdDownXRefIdeal.main_arg0) = m' ((c.tc : Thread Cert.BwdDownXRefIdeal.nD Cert.BwdDownXRefIdeal.τ).loc Cert.BwdDownXRefIdeal.main_arg0)
          ∧ r.2.mem ((c.tc : Thread Cert.BwdDownXRefIdeal.nD Cert.BwdDownXRefIdeal.τ).loc Cert.BwdDownXRefIdeal.main_arg1) = m' ((c.tc : Thread Cert.BwdDownXRefIdeal.nD Cert.BwdDownXRefIdeal.τ).loc Cert.BwdDownXRefIdeal.main_arg1))

def preserves_BwdInW_BwdInWIdeal : Prop :=
  True

def algebraic_BwdInWIdeal_BwdInWRefIdeal [hBwdInWIdeal : Cert.BwdInWIdeal.Facts] [hBwdInWRefIdeal : Cert.BwdInWRefIdeal.Facts] : Prop :=
  ∀ (m : (ℓ : Loc Cert.BwdInWIdeal.nD Cert.BwdInWIdeal.τ Cert.BwdInWIdeal.sig) → Buf (Elt Ideal) ℓ) (g : Dev Cert.BwdInWIdeal.nD → PrngReg)
    (m' : (ℓ : Loc Cert.BwdInWRefIdeal.nD Cert.BwdInWRefIdeal.τ Cert.BwdInWRefIdeal.sig) → Buf (Elt Ideal) ℓ) (g' : Dev Cert.BwdInWRefIdeal.nD → PrngReg), Pre_BwdInWIdeal m →
    (∀ c : Dev Cert.BwdInWIdeal.nD,
      m' ((c.tc : Thread Cert.BwdInWRefIdeal.nD Cert.BwdInWRefIdeal.τ).loc Cert.BwdInWRefIdeal.main_arg0) = m ((c.tc : Thread Cert.BwdInWIdeal.nD Cert.BwdInWIdeal.τ).loc Cert.BwdInWIdeal.main_arg0)
      ∧ m' ((c.tc : Thread Cert.BwdInWRefIdeal.nD Cert.BwdInWRefIdeal.τ).loc Cert.BwdInWRefIdeal.main_arg1) = m ((c.tc : Thread Cert.BwdInWIdeal.nD Cert.BwdInWIdeal.τ).loc Cert.BwdInWIdeal.main_arg1)) →
    ∃ (v0 : (c : Dev Cert.BwdInWIdeal.nD) → Buf (Elt Ideal) ((c.tc : Thread Cert.BwdInWIdeal.nD Cert.BwdInWIdeal.τ).loc Cert.BwdInWIdeal.main_v0_0)) (v1 : (c : Dev Cert.BwdInWIdeal.nD) → Buf (Elt Ideal) ((c.tc : Thread Cert.BwdInWIdeal.nD Cert.BwdInWIdeal.τ).loc Cert.BwdInWIdeal.main_v0_1)),
      θ_run (Cert.BwdInWIdeal.defs (F := Ideal)) (onTc (τ := Cert.BwdInWIdeal.τ) (Cert.BwdInWIdeal.main (F := Ideal))) ⟨m, fun _ => 0, g⟩ (fun r => ∀ c : Dev Cert.BwdInWIdeal.nD,
          r.2.mem ((c.tc : Thread Cert.BwdInWIdeal.nD Cert.BwdInWIdeal.τ).loc Cert.BwdInWIdeal.main_v0_0) = v0 c
          ∧ r.2.mem ((c.tc : Thread Cert.BwdInWIdeal.nD Cert.BwdInWIdeal.τ).loc Cert.BwdInWIdeal.main_v0_1) = v1 c
          ∧ r.2.mem ((c.tc : Thread Cert.BwdInWIdeal.nD Cert.BwdInWIdeal.τ).loc Cert.BwdInWIdeal.main_arg0) = m ((c.tc : Thread Cert.BwdInWIdeal.nD Cert.BwdInWIdeal.τ).loc Cert.BwdInWIdeal.main_arg0)
          ∧ r.2.mem ((c.tc : Thread Cert.BwdInWIdeal.nD Cert.BwdInWIdeal.τ).loc Cert.BwdInWIdeal.main_arg1) = m ((c.tc : Thread Cert.BwdInWIdeal.nD Cert.BwdInWIdeal.τ).loc Cert.BwdInWIdeal.main_arg1))
      ∧ θ_run (Cert.BwdInWRefIdeal.defs (F := Ideal)) (onTc (τ := Cert.BwdInWRefIdeal.τ) (Cert.BwdInWRefIdeal.main (F := Ideal))) ⟨m', fun _ => 0, g'⟩ (fun r => ∀ c : Dev Cert.BwdInWRefIdeal.nD,
          r.2.mem ((c.tc : Thread Cert.BwdInWRefIdeal.nD Cert.BwdInWRefIdeal.τ).loc Cert.BwdInWRefIdeal.main_v5) = v0 c
          ∧ r.2.mem ((c.tc : Thread Cert.BwdInWRefIdeal.nD Cert.BwdInWRefIdeal.τ).loc Cert.BwdInWRefIdeal.main_v6) = v1 c
          ∧ r.2.mem ((c.tc : Thread Cert.BwdInWRefIdeal.nD Cert.BwdInWRefIdeal.τ).loc Cert.BwdInWRefIdeal.main_arg0) = m' ((c.tc : Thread Cert.BwdInWRefIdeal.nD Cert.BwdInWRefIdeal.τ).loc Cert.BwdInWRefIdeal.main_arg0)
          ∧ r.2.mem ((c.tc : Thread Cert.BwdInWRefIdeal.nD Cert.BwdInWRefIdeal.τ).loc Cert.BwdInWRefIdeal.main_arg1) = m' ((c.tc : Thread Cert.BwdInWRefIdeal.nD Cert.BwdInWRefIdeal.τ).loc Cert.BwdInWRefIdeal.main_arg1))

def preserves_BwdGuW_BwdGuWIdeal : Prop :=
  True

def algebraic_BwdGuWIdeal_BwdGuWRefIdeal [hBwdGuWIdeal : Cert.BwdGuWIdeal.Facts] [hBwdGuWRefIdeal : Cert.BwdGuWRefIdeal.Facts] : Prop :=
  ∀ (m : (ℓ : Loc Cert.BwdGuWIdeal.nD Cert.BwdGuWIdeal.τ Cert.BwdGuWIdeal.sig) → Buf (Elt Ideal) ℓ) (g : Dev Cert.BwdGuWIdeal.nD → PrngReg)
    (m' : (ℓ : Loc Cert.BwdGuWRefIdeal.nD Cert.BwdGuWRefIdeal.τ Cert.BwdGuWRefIdeal.sig) → Buf (Elt Ideal) ℓ) (g' : Dev Cert.BwdGuWRefIdeal.nD → PrngReg), Pre_BwdGuWIdeal m →
    (∀ c : Dev Cert.BwdGuWIdeal.nD,
      m' ((c.tc : Thread Cert.BwdGuWRefIdeal.nD Cert.BwdGuWRefIdeal.τ).loc Cert.BwdGuWRefIdeal.main_arg0) = m ((c.tc : Thread Cert.BwdGuWIdeal.nD Cert.BwdGuWIdeal.τ).loc Cert.BwdGuWIdeal.main_arg0)
      ∧ m' ((c.tc : Thread Cert.BwdGuWRefIdeal.nD Cert.BwdGuWRefIdeal.τ).loc Cert.BwdGuWRefIdeal.main_arg1) = m ((c.tc : Thread Cert.BwdGuWIdeal.nD Cert.BwdGuWIdeal.τ).loc Cert.BwdGuWIdeal.main_arg1)) →
    ∃ (v0 : (c : Dev Cert.BwdGuWIdeal.nD) → Buf (Elt Ideal) ((c.tc : Thread Cert.BwdGuWIdeal.nD Cert.BwdGuWIdeal.τ).loc Cert.BwdGuWIdeal.main_v0_0)) (v1 : (c : Dev Cert.BwdGuWIdeal.nD) → Buf (Elt Ideal) ((c.tc : Thread Cert.BwdGuWIdeal.nD Cert.BwdGuWIdeal.τ).loc Cert.BwdGuWIdeal.main_v0_1)),
      θ_run (Cert.BwdGuWIdeal.defs (F := Ideal)) (onTc (τ := Cert.BwdGuWIdeal.τ) (Cert.BwdGuWIdeal.main (F := Ideal))) ⟨m, fun _ => 0, g⟩ (fun r => ∀ c : Dev Cert.BwdGuWIdeal.nD,
          r.2.mem ((c.tc : Thread Cert.BwdGuWIdeal.nD Cert.BwdGuWIdeal.τ).loc Cert.BwdGuWIdeal.main_v0_0) = v0 c
          ∧ r.2.mem ((c.tc : Thread Cert.BwdGuWIdeal.nD Cert.BwdGuWIdeal.τ).loc Cert.BwdGuWIdeal.main_v0_1) = v1 c
          ∧ r.2.mem ((c.tc : Thread Cert.BwdGuWIdeal.nD Cert.BwdGuWIdeal.τ).loc Cert.BwdGuWIdeal.main_arg0) = m ((c.tc : Thread Cert.BwdGuWIdeal.nD Cert.BwdGuWIdeal.τ).loc Cert.BwdGuWIdeal.main_arg0)
          ∧ r.2.mem ((c.tc : Thread Cert.BwdGuWIdeal.nD Cert.BwdGuWIdeal.τ).loc Cert.BwdGuWIdeal.main_arg1) = m ((c.tc : Thread Cert.BwdGuWIdeal.nD Cert.BwdGuWIdeal.τ).loc Cert.BwdGuWIdeal.main_arg1))
      ∧ θ_run (Cert.BwdGuWRefIdeal.defs (F := Ideal)) (onTc (τ := Cert.BwdGuWRefIdeal.τ) (Cert.BwdGuWRefIdeal.main (F := Ideal))) ⟨m', fun _ => 0, g'⟩ (fun r => ∀ c : Dev Cert.BwdGuWRefIdeal.nD,
          r.2.mem ((c.tc : Thread Cert.BwdGuWRefIdeal.nD Cert.BwdGuWRefIdeal.τ).loc Cert.BwdGuWRefIdeal.main_v14) = v0 c
          ∧ r.2.mem ((c.tc : Thread Cert.BwdGuWRefIdeal.nD Cert.BwdGuWRefIdeal.τ).loc Cert.BwdGuWRefIdeal.main_v15) = v1 c
          ∧ r.2.mem ((c.tc : Thread Cert.BwdGuWRefIdeal.nD Cert.BwdGuWRefIdeal.τ).loc Cert.BwdGuWRefIdeal.main_arg0) = m' ((c.tc : Thread Cert.BwdGuWRefIdeal.nD Cert.BwdGuWRefIdeal.τ).loc Cert.BwdGuWRefIdeal.main_arg0)
          ∧ r.2.mem ((c.tc : Thread Cert.BwdGuWRefIdeal.nD Cert.BwdGuWRefIdeal.τ).loc Cert.BwdGuWRefIdeal.main_arg1) = m' ((c.tc : Thread Cert.BwdGuWRefIdeal.nD Cert.BwdGuWRefIdeal.τ).loc Cert.BwdGuWRefIdeal.main_arg1))

def preserves_BwdOutW_BwdOutWIdeal : Prop :=
  True

def algebraic_BwdOutWIdeal_BwdOutWRefIdeal [hBwdOutWIdeal : Cert.BwdOutWIdeal.Facts] [hBwdOutWRefIdeal : Cert.BwdOutWRefIdeal.Facts] : Prop :=
  ∀ (m : (ℓ : Loc Cert.BwdOutWIdeal.nD Cert.BwdOutWIdeal.τ Cert.BwdOutWIdeal.sig) → Buf (Elt Ideal) ℓ) (g : Dev Cert.BwdOutWIdeal.nD → PrngReg)
    (m' : (ℓ : Loc Cert.BwdOutWRefIdeal.nD Cert.BwdOutWRefIdeal.τ Cert.BwdOutWRefIdeal.sig) → Buf (Elt Ideal) ℓ) (g' : Dev Cert.BwdOutWRefIdeal.nD → PrngReg), Pre_BwdOutWIdeal m →
    (∀ c : Dev Cert.BwdOutWIdeal.nD,
      m' ((c.tc : Thread Cert.BwdOutWRefIdeal.nD Cert.BwdOutWRefIdeal.τ).loc Cert.BwdOutWRefIdeal.main_arg0) = m ((c.tc : Thread Cert.BwdOutWIdeal.nD Cert.BwdOutWIdeal.τ).loc Cert.BwdOutWIdeal.main_arg0)
      ∧ m' ((c.tc : Thread Cert.BwdOutWRefIdeal.nD Cert.BwdOutWRefIdeal.τ).loc Cert.BwdOutWRefIdeal.main_arg1) = m ((c.tc : Thread Cert.BwdOutWIdeal.nD Cert.BwdOutWIdeal.τ).loc Cert.BwdOutWIdeal.main_arg1)) →
    ∃ (v0 : (c : Dev Cert.BwdOutWIdeal.nD) → Buf (Elt Ideal) ((c.tc : Thread Cert.BwdOutWIdeal.nD Cert.BwdOutWIdeal.τ).loc Cert.BwdOutWIdeal.main_v0_0)) (v1 : (c : Dev Cert.BwdOutWIdeal.nD) → Buf (Elt Ideal) ((c.tc : Thread Cert.BwdOutWIdeal.nD Cert.BwdOutWIdeal.τ).loc Cert.BwdOutWIdeal.main_v0_1)),
      θ_run (Cert.BwdOutWIdeal.defs (F := Ideal)) (onTc (τ := Cert.BwdOutWIdeal.τ) (Cert.BwdOutWIdeal.main (F := Ideal))) ⟨m, fun _ => 0, g⟩ (fun r => ∀ c : Dev Cert.BwdOutWIdeal.nD,
          r.2.mem ((c.tc : Thread Cert.BwdOutWIdeal.nD Cert.BwdOutWIdeal.τ).loc Cert.BwdOutWIdeal.main_v0_0) = v0 c
          ∧ r.2.mem ((c.tc : Thread Cert.BwdOutWIdeal.nD Cert.BwdOutWIdeal.τ).loc Cert.BwdOutWIdeal.main_v0_1) = v1 c
          ∧ r.2.mem ((c.tc : Thread Cert.BwdOutWIdeal.nD Cert.BwdOutWIdeal.τ).loc Cert.BwdOutWIdeal.main_arg0) = m ((c.tc : Thread Cert.BwdOutWIdeal.nD Cert.BwdOutWIdeal.τ).loc Cert.BwdOutWIdeal.main_arg0)
          ∧ r.2.mem ((c.tc : Thread Cert.BwdOutWIdeal.nD Cert.BwdOutWIdeal.τ).loc Cert.BwdOutWIdeal.main_arg1) = m ((c.tc : Thread Cert.BwdOutWIdeal.nD Cert.BwdOutWIdeal.τ).loc Cert.BwdOutWIdeal.main_arg1))
      ∧ θ_run (Cert.BwdOutWRefIdeal.defs (F := Ideal)) (onTc (τ := Cert.BwdOutWRefIdeal.τ) (Cert.BwdOutWRefIdeal.main (F := Ideal))) ⟨m', fun _ => 0, g'⟩ (fun r => ∀ c : Dev Cert.BwdOutWRefIdeal.nD,
          r.2.mem ((c.tc : Thread Cert.BwdOutWRefIdeal.nD Cert.BwdOutWRefIdeal.τ).loc Cert.BwdOutWRefIdeal.main_v5) = v0 c
          ∧ r.2.mem ((c.tc : Thread Cert.BwdOutWRefIdeal.nD Cert.BwdOutWRefIdeal.τ).loc Cert.BwdOutWRefIdeal.main_v6) = v1 c
          ∧ r.2.mem ((c.tc : Thread Cert.BwdOutWRefIdeal.nD Cert.BwdOutWRefIdeal.τ).loc Cert.BwdOutWRefIdeal.main_arg0) = m' ((c.tc : Thread Cert.BwdOutWRefIdeal.nD Cert.BwdOutWRefIdeal.τ).loc Cert.BwdOutWRefIdeal.main_arg0)
          ∧ r.2.mem ((c.tc : Thread Cert.BwdOutWRefIdeal.nD Cert.BwdOutWRefIdeal.τ).loc Cert.BwdOutWRefIdeal.main_arg1) = m' ((c.tc : Thread Cert.BwdOutWRefIdeal.nD Cert.BwdOutWRefIdeal.τ).loc Cert.BwdOutWRefIdeal.main_arg1))

def preserves_BwdDownW_BwdDownWIdeal : Prop :=
  True

def algebraic_BwdDownWIdeal_BwdDownWRefIdeal [hBwdDownWIdeal : Cert.BwdDownWIdeal.Facts] [hBwdDownWRefIdeal : Cert.BwdDownWRefIdeal.Facts] : Prop :=
  ∀ (m : (ℓ : Loc Cert.BwdDownWIdeal.nD Cert.BwdDownWIdeal.τ Cert.BwdDownWIdeal.sig) → Buf (Elt Ideal) ℓ) (g : Dev Cert.BwdDownWIdeal.nD → PrngReg)
    (m' : (ℓ : Loc Cert.BwdDownWRefIdeal.nD Cert.BwdDownWRefIdeal.τ Cert.BwdDownWRefIdeal.sig) → Buf (Elt Ideal) ℓ) (g' : Dev Cert.BwdDownWRefIdeal.nD → PrngReg), Pre_BwdDownWIdeal m →
    (∀ c : Dev Cert.BwdDownWIdeal.nD,
      m' ((c.tc : Thread Cert.BwdDownWRefIdeal.nD Cert.BwdDownWRefIdeal.τ).loc Cert.BwdDownWRefIdeal.main_arg0) = m ((c.tc : Thread Cert.BwdDownWIdeal.nD Cert.BwdDownWIdeal.τ).loc Cert.BwdDownWIdeal.main_arg0)
      ∧ m' ((c.tc : Thread Cert.BwdDownWRefIdeal.nD Cert.BwdDownWRefIdeal.τ).loc Cert.BwdDownWRefIdeal.main_arg1) = m ((c.tc : Thread Cert.BwdDownWIdeal.nD Cert.BwdDownWIdeal.τ).loc Cert.BwdDownWIdeal.main_arg1)) →
    ∃ (v0 : (c : Dev Cert.BwdDownWIdeal.nD) → Buf (Elt Ideal) ((c.tc : Thread Cert.BwdDownWIdeal.nD Cert.BwdDownWIdeal.τ).loc Cert.BwdDownWIdeal.main_v0_0)) (v1 : (c : Dev Cert.BwdDownWIdeal.nD) → Buf (Elt Ideal) ((c.tc : Thread Cert.BwdDownWIdeal.nD Cert.BwdDownWIdeal.τ).loc Cert.BwdDownWIdeal.main_v0_1)),
      θ_run (Cert.BwdDownWIdeal.defs (F := Ideal)) (onTc (τ := Cert.BwdDownWIdeal.τ) (Cert.BwdDownWIdeal.main (F := Ideal))) ⟨m, fun _ => 0, g⟩ (fun r => ∀ c : Dev Cert.BwdDownWIdeal.nD,
          r.2.mem ((c.tc : Thread Cert.BwdDownWIdeal.nD Cert.BwdDownWIdeal.τ).loc Cert.BwdDownWIdeal.main_v0_0) = v0 c
          ∧ r.2.mem ((c.tc : Thread Cert.BwdDownWIdeal.nD Cert.BwdDownWIdeal.τ).loc Cert.BwdDownWIdeal.main_v0_1) = v1 c
          ∧ r.2.mem ((c.tc : Thread Cert.BwdDownWIdeal.nD Cert.BwdDownWIdeal.τ).loc Cert.BwdDownWIdeal.main_arg0) = m ((c.tc : Thread Cert.BwdDownWIdeal.nD Cert.BwdDownWIdeal.τ).loc Cert.BwdDownWIdeal.main_arg0)
          ∧ r.2.mem ((c.tc : Thread Cert.BwdDownWIdeal.nD Cert.BwdDownWIdeal.τ).loc Cert.BwdDownWIdeal.main_arg1) = m ((c.tc : Thread Cert.BwdDownWIdeal.nD Cert.BwdDownWIdeal.τ).loc Cert.BwdDownWIdeal.main_arg1))
      ∧ θ_run (Cert.BwdDownWRefIdeal.defs (F := Ideal)) (onTc (τ := Cert.BwdDownWRefIdeal.τ) (Cert.BwdDownWRefIdeal.main (F := Ideal))) ⟨m', fun _ => 0, g'⟩ (fun r => ∀ c : Dev Cert.BwdDownWRefIdeal.nD,
          r.2.mem ((c.tc : Thread Cert.BwdDownWRefIdeal.nD Cert.BwdDownWRefIdeal.τ).loc Cert.BwdDownWRefIdeal.main_v5) = v0 c
          ∧ r.2.mem ((c.tc : Thread Cert.BwdDownWRefIdeal.nD Cert.BwdDownWRefIdeal.τ).loc Cert.BwdDownWRefIdeal.main_v6) = v1 c
          ∧ r.2.mem ((c.tc : Thread Cert.BwdDownWRefIdeal.nD Cert.BwdDownWRefIdeal.τ).loc Cert.BwdDownWRefIdeal.main_arg0) = m' ((c.tc : Thread Cert.BwdDownWRefIdeal.nD Cert.BwdDownWRefIdeal.τ).loc Cert.BwdDownWRefIdeal.main_arg0)
          ∧ r.2.mem ((c.tc : Thread Cert.BwdDownWRefIdeal.nD Cert.BwdDownWRefIdeal.τ).loc Cert.BwdDownWRefIdeal.main_arg1) = m' ((c.tc : Thread Cert.BwdDownWRefIdeal.nD Cert.BwdDownWRefIdeal.τ).loc Cert.BwdDownWRefIdeal.main_arg1))

def preserves_BwdRms_BwdRmsIdeal : Prop :=
  True

def algebraic_BwdRmsIdeal_BwdRmsRefIdeal [hBwdRmsIdeal : Cert.BwdRmsIdeal.Facts] [hBwdRmsRefIdeal : Cert.BwdRmsRefIdeal.Facts] : Prop :=
  ∀ (m : (ℓ : Loc Cert.BwdRmsIdeal.nD Cert.BwdRmsIdeal.τ Cert.BwdRmsIdeal.sig) → Buf (Elt Ideal) ℓ) (g : Dev Cert.BwdRmsIdeal.nD → PrngReg)
    (m' : (ℓ : Loc Cert.BwdRmsRefIdeal.nD Cert.BwdRmsRefIdeal.τ Cert.BwdRmsRefIdeal.sig) → Buf (Elt Ideal) ℓ) (g' : Dev Cert.BwdRmsRefIdeal.nD → PrngReg), Pre_BwdRmsIdeal m →
    (∀ c : Dev Cert.BwdRmsIdeal.nD,
      m' ((c.tc : Thread Cert.BwdRmsRefIdeal.nD Cert.BwdRmsRefIdeal.τ).loc Cert.BwdRmsRefIdeal.main_arg0) = m ((c.tc : Thread Cert.BwdRmsIdeal.nD Cert.BwdRmsIdeal.τ).loc Cert.BwdRmsIdeal.main_arg0)
      ∧ m' ((c.tc : Thread Cert.BwdRmsRefIdeal.nD Cert.BwdRmsRefIdeal.τ).loc Cert.BwdRmsRefIdeal.main_arg1) = m ((c.tc : Thread Cert.BwdRmsIdeal.nD Cert.BwdRmsIdeal.τ).loc Cert.BwdRmsIdeal.main_arg1)
      ∧ m' ((c.tc : Thread Cert.BwdRmsRefIdeal.nD Cert.BwdRmsRefIdeal.τ).loc Cert.BwdRmsRefIdeal.main_arg2) = m ((c.tc : Thread Cert.BwdRmsIdeal.nD Cert.BwdRmsIdeal.τ).loc Cert.BwdRmsIdeal.main_arg2)
      ∧ m' ((c.tc : Thread Cert.BwdRmsRefIdeal.nD Cert.BwdRmsRefIdeal.τ).loc Cert.BwdRmsRefIdeal.main_arg3) = m ((c.tc : Thread Cert.BwdRmsIdeal.nD Cert.BwdRmsIdeal.τ).loc Cert.BwdRmsIdeal.main_arg3)) →
    ∃ (v0 : (c : Dev Cert.BwdRmsIdeal.nD) → Buf (Elt Ideal) ((c.tc : Thread Cert.BwdRmsIdeal.nD Cert.BwdRmsIdeal.τ).loc Cert.BwdRmsIdeal.main_v0_0)) (v1 : (c : Dev Cert.BwdRmsIdeal.nD) → Buf (Elt Ideal) ((c.tc : Thread Cert.BwdRmsIdeal.nD Cert.BwdRmsIdeal.τ).loc Cert.BwdRmsIdeal.main_v0_1)) (v2 : (c : Dev Cert.BwdRmsIdeal.nD) → Buf (Elt Ideal) ((c.tc : Thread Cert.BwdRmsIdeal.nD Cert.BwdRmsIdeal.τ).loc Cert.BwdRmsIdeal.main_v0_2)),
      θ_run (Cert.BwdRmsIdeal.defs (F := Ideal)) (onTc (τ := Cert.BwdRmsIdeal.τ) (Cert.BwdRmsIdeal.main (F := Ideal))) ⟨m, fun _ => 0, g⟩ (fun r => ∀ c : Dev Cert.BwdRmsIdeal.nD,
          r.2.mem ((c.tc : Thread Cert.BwdRmsIdeal.nD Cert.BwdRmsIdeal.τ).loc Cert.BwdRmsIdeal.main_v0_0) = v0 c
          ∧ r.2.mem ((c.tc : Thread Cert.BwdRmsIdeal.nD Cert.BwdRmsIdeal.τ).loc Cert.BwdRmsIdeal.main_v0_1) = v1 c
          ∧ r.2.mem ((c.tc : Thread Cert.BwdRmsIdeal.nD Cert.BwdRmsIdeal.τ).loc Cert.BwdRmsIdeal.main_v0_2) = v2 c
          ∧ r.2.mem ((c.tc : Thread Cert.BwdRmsIdeal.nD Cert.BwdRmsIdeal.τ).loc Cert.BwdRmsIdeal.main_arg0) = m ((c.tc : Thread Cert.BwdRmsIdeal.nD Cert.BwdRmsIdeal.τ).loc Cert.BwdRmsIdeal.main_arg0)
          ∧ r.2.mem ((c.tc : Thread Cert.BwdRmsIdeal.nD Cert.BwdRmsIdeal.τ).loc Cert.BwdRmsIdeal.main_arg1) = m ((c.tc : Thread Cert.BwdRmsIdeal.nD Cert.BwdRmsIdeal.τ).loc Cert.BwdRmsIdeal.main_arg1)
          ∧ r.2.mem ((c.tc : Thread Cert.BwdRmsIdeal.nD Cert.BwdRmsIdeal.τ).loc Cert.BwdRmsIdeal.main_arg2) = m ((c.tc : Thread Cert.BwdRmsIdeal.nD Cert.BwdRmsIdeal.τ).loc Cert.BwdRmsIdeal.main_arg2)
          ∧ r.2.mem ((c.tc : Thread Cert.BwdRmsIdeal.nD Cert.BwdRmsIdeal.τ).loc Cert.BwdRmsIdeal.main_arg3) = m ((c.tc : Thread Cert.BwdRmsIdeal.nD Cert.BwdRmsIdeal.τ).loc Cert.BwdRmsIdeal.main_arg3))
      ∧ θ_run (Cert.BwdRmsRefIdeal.defs (F := Ideal)) (onTc (τ := Cert.BwdRmsRefIdeal.τ) (Cert.BwdRmsRefIdeal.main (F := Ideal))) ⟨m', fun _ => 0, g'⟩ (fun r => ∀ c : Dev Cert.BwdRmsRefIdeal.nD,
          r.2.mem ((c.tc : Thread Cert.BwdRmsRefIdeal.nD Cert.BwdRmsRefIdeal.τ).loc Cert.BwdRmsRefIdeal.main_v37) = v0 c
          ∧ r.2.mem ((c.tc : Thread Cert.BwdRmsRefIdeal.nD Cert.BwdRmsRefIdeal.τ).loc Cert.BwdRmsRefIdeal.main_v38) = v1 c
          ∧ r.2.mem ((c.tc : Thread Cert.BwdRmsRefIdeal.nD Cert.BwdRmsRefIdeal.τ).loc Cert.BwdRmsRefIdeal.main_v39) = v2 c
          ∧ r.2.mem ((c.tc : Thread Cert.BwdRmsRefIdeal.nD Cert.BwdRmsRefIdeal.τ).loc Cert.BwdRmsRefIdeal.main_arg0) = m' ((c.tc : Thread Cert.BwdRmsRefIdeal.nD Cert.BwdRmsRefIdeal.τ).loc Cert.BwdRmsRefIdeal.main_arg0)
          ∧ r.2.mem ((c.tc : Thread Cert.BwdRmsRefIdeal.nD Cert.BwdRmsRefIdeal.τ).loc Cert.BwdRmsRefIdeal.main_arg1) = m' ((c.tc : Thread Cert.BwdRmsRefIdeal.nD Cert.BwdRmsRefIdeal.τ).loc Cert.BwdRmsRefIdeal.main_arg1)
          ∧ r.2.mem ((c.tc : Thread Cert.BwdRmsRefIdeal.nD Cert.BwdRmsRefIdeal.τ).loc Cert.BwdRmsRefIdeal.main_arg2) = m' ((c.tc : Thread Cert.BwdRmsRefIdeal.nD Cert.BwdRmsRefIdeal.τ).loc Cert.BwdRmsRefIdeal.main_arg2)
          ∧ r.2.mem ((c.tc : Thread Cert.BwdRmsRefIdeal.nD Cert.BwdRmsRefIdeal.τ).loc Cert.BwdRmsRefIdeal.main_arg3) = m' ((c.tc : Thread Cert.BwdRmsRefIdeal.nD Cert.BwdRmsRefIdeal.τ).loc Cert.BwdRmsRefIdeal.main_arg3))

def preserves_BwdGlu_BwdGluIdeal : Prop :=
  True

def algebraic_BwdGluIdeal_BwdGluRefIdeal [hBwdGluIdeal : Cert.BwdGluIdeal.Facts] [hBwdGluRefIdeal : Cert.BwdGluRefIdeal.Facts] : Prop :=
  ∀ (m : (ℓ : Loc Cert.BwdGluIdeal.nD Cert.BwdGluIdeal.τ Cert.BwdGluIdeal.sig) → Buf (Elt Ideal) ℓ) (g : Dev Cert.BwdGluIdeal.nD → PrngReg)
    (m' : (ℓ : Loc Cert.BwdGluRefIdeal.nD Cert.BwdGluRefIdeal.τ Cert.BwdGluRefIdeal.sig) → Buf (Elt Ideal) ℓ) (g' : Dev Cert.BwdGluRefIdeal.nD → PrngReg), Pre_BwdGluIdeal m →
    (∀ c : Dev Cert.BwdGluIdeal.nD,
      m' ((c.tc : Thread Cert.BwdGluRefIdeal.nD Cert.BwdGluRefIdeal.τ).loc Cert.BwdGluRefIdeal.main_arg0) = m ((c.tc : Thread Cert.BwdGluIdeal.nD Cert.BwdGluIdeal.τ).loc Cert.BwdGluIdeal.main_arg0)
      ∧ m' ((c.tc : Thread Cert.BwdGluRefIdeal.nD Cert.BwdGluRefIdeal.τ).loc Cert.BwdGluRefIdeal.main_arg1) = m ((c.tc : Thread Cert.BwdGluIdeal.nD Cert.BwdGluIdeal.τ).loc Cert.BwdGluIdeal.main_arg1)) →
    ∃ (v0 : (c : Dev Cert.BwdGluIdeal.nD) → Buf (Elt Ideal) ((c.tc : Thread Cert.BwdGluIdeal.nD Cert.BwdGluIdeal.τ).loc Cert.BwdGluIdeal.main_v0)),
      θ_run (Cert.BwdGluIdeal.defs (F := Ideal)) (onTc (τ := Cert.BwdGluIdeal.τ) (Cert.BwdGluIdeal.main (F := Ideal))) ⟨m, fun _ => 0, g⟩ (fun r => ∀ c : Dev Cert.BwdGluIdeal.nD,
          r.2.mem ((c.tc : Thread Cert.BwdGluIdeal.nD Cert.BwdGluIdeal.τ).loc Cert.BwdGluIdeal.main_v0) = v0 c
          ∧ r.2.mem ((c.tc : Thread Cert.BwdGluIdeal.nD Cert.BwdGluIdeal.τ).loc Cert.BwdGluIdeal.main_arg0) = m ((c.tc : Thread Cert.BwdGluIdeal.nD Cert.BwdGluIdeal.τ).loc Cert.BwdGluIdeal.main_arg0)
          ∧ r.2.mem ((c.tc : Thread Cert.BwdGluIdeal.nD Cert.BwdGluIdeal.τ).loc Cert.BwdGluIdeal.main_arg1) = m ((c.tc : Thread Cert.BwdGluIdeal.nD Cert.BwdGluIdeal.τ).loc Cert.BwdGluIdeal.main_arg1))
      ∧ θ_run (Cert.BwdGluRefIdeal.defs (F := Ideal)) (onTc (τ := Cert.BwdGluRefIdeal.τ) (Cert.BwdGluRefIdeal.main (F := Ideal))) ⟨m', fun _ => 0, g'⟩ (fun r => ∀ c : Dev Cert.BwdGluRefIdeal.nD,
          r.2.mem ((c.tc : Thread Cert.BwdGluRefIdeal.nD Cert.BwdGluRefIdeal.τ).loc Cert.BwdGluRefIdeal.main_v8) = v0 c
          ∧ r.2.mem ((c.tc : Thread Cert.BwdGluRefIdeal.nD Cert.BwdGluRefIdeal.τ).loc Cert.BwdGluRefIdeal.main_arg0) = m' ((c.tc : Thread Cert.BwdGluRefIdeal.nD Cert.BwdGluRefIdeal.τ).loc Cert.BwdGluRefIdeal.main_arg0)
          ∧ r.2.mem ((c.tc : Thread Cert.BwdGluRefIdeal.nD Cert.BwdGluRefIdeal.τ).loc Cert.BwdGluRefIdeal.main_arg1) = m' ((c.tc : Thread Cert.BwdGluRefIdeal.nD Cert.BwdGluRefIdeal.τ).loc Cert.BwdGluRefIdeal.main_arg1))

def preserves_BwdMerge_BwdMergeIdeal : Prop :=
  True

def algebraic_BwdMergeIdeal_BwdMergeRefIdeal [hBwdMergeIdeal : Cert.BwdMergeIdeal.Facts] [hBwdMergeRefIdeal : Cert.BwdMergeRefIdeal.Facts] : Prop :=
  ∀ (m : (ℓ : Loc Cert.BwdMergeIdeal.nD Cert.BwdMergeIdeal.τ Cert.BwdMergeIdeal.sig) → Buf (Elt Ideal) ℓ) (g : Dev Cert.BwdMergeIdeal.nD → PrngReg)
    (m' : (ℓ : Loc Cert.BwdMergeRefIdeal.nD Cert.BwdMergeRefIdeal.τ Cert.BwdMergeRefIdeal.sig) → Buf (Elt Ideal) ℓ) (g' : Dev Cert.BwdMergeRefIdeal.nD → PrngReg), Pre_BwdMergeIdeal m →
    (∀ c : Dev Cert.BwdMergeIdeal.nD,
      m' ((c.tc : Thread Cert.BwdMergeRefIdeal.nD Cert.BwdMergeRefIdeal.τ).loc Cert.BwdMergeRefIdeal.main_arg0) = m ((c.tc : Thread Cert.BwdMergeIdeal.nD Cert.BwdMergeIdeal.τ).loc Cert.BwdMergeIdeal.main_arg0)
      ∧ m' ((c.tc : Thread Cert.BwdMergeRefIdeal.nD Cert.BwdMergeRefIdeal.τ).loc Cert.BwdMergeRefIdeal.main_arg1) = m ((c.tc : Thread Cert.BwdMergeIdeal.nD Cert.BwdMergeIdeal.τ).loc Cert.BwdMergeIdeal.main_arg1)
      ∧ m' ((c.tc : Thread Cert.BwdMergeRefIdeal.nD Cert.BwdMergeRefIdeal.τ).loc Cert.BwdMergeRefIdeal.main_arg2) = m ((c.tc : Thread Cert.BwdMergeIdeal.nD Cert.BwdMergeIdeal.τ).loc Cert.BwdMergeIdeal.main_arg2)
      ∧ m' ((c.tc : Thread Cert.BwdMergeRefIdeal.nD Cert.BwdMergeRefIdeal.τ).loc Cert.BwdMergeRefIdeal.main_arg3) = m ((c.tc : Thread Cert.BwdMergeIdeal.nD Cert.BwdMergeIdeal.τ).loc Cert.BwdMergeIdeal.main_arg3)
      ∧ m' ((c.tc : Thread Cert.BwdMergeRefIdeal.nD Cert.BwdMergeRefIdeal.τ).loc Cert.BwdMergeRefIdeal.main_arg4) = m ((c.tc : Thread Cert.BwdMergeIdeal.nD Cert.BwdMergeIdeal.τ).loc Cert.BwdMergeIdeal.main_arg4)
      ∧ m' ((c.tc : Thread Cert.BwdMergeRefIdeal.nD Cert.BwdMergeRefIdeal.τ).loc Cert.BwdMergeRefIdeal.main_arg5) = m ((c.tc : Thread Cert.BwdMergeIdeal.nD Cert.BwdMergeIdeal.τ).loc Cert.BwdMergeIdeal.main_arg5)) →
    ∃ (v0 : (c : Dev Cert.BwdMergeIdeal.nD) → Buf (Elt Ideal) ((c.tc : Thread Cert.BwdMergeIdeal.nD Cert.BwdMergeIdeal.τ).loc Cert.BwdMergeIdeal.main_v0_0)) (v1 : (c : Dev Cert.BwdMergeIdeal.nD) → Buf (Elt Ideal) ((c.tc : Thread Cert.BwdMergeIdeal.nD Cert.BwdMergeIdeal.τ).loc Cert.BwdMergeIdeal.main_v0_1)) (v2 : (c : Dev Cert.BwdMergeIdeal.nD) → Buf (Elt Ideal) ((c.tc : Thread Cert.BwdMergeIdeal.nD Cert.BwdMergeIdeal.τ).loc Cert.BwdMergeIdeal.main_v0_2)) (v3 : (c : Dev Cert.BwdMergeIdeal.nD) → Buf (Elt Ideal) ((c.tc : Thread Cert.BwdMergeIdeal.nD Cert.BwdMergeIdeal.τ).loc Cert.BwdMergeIdeal.main_v0_3)),
      θ_run (Cert.BwdMergeIdeal.defs (F := Ideal)) (onTc (τ := Cert.BwdMergeIdeal.τ) (Cert.BwdMergeIdeal.main (F := Ideal))) ⟨m, fun _ => 0, g⟩ (fun r => ∀ c : Dev Cert.BwdMergeIdeal.nD,
          r.2.mem ((c.tc : Thread Cert.BwdMergeIdeal.nD Cert.BwdMergeIdeal.τ).loc Cert.BwdMergeIdeal.main_v0_0) = v0 c
          ∧ r.2.mem ((c.tc : Thread Cert.BwdMergeIdeal.nD Cert.BwdMergeIdeal.τ).loc Cert.BwdMergeIdeal.main_v0_1) = v1 c
          ∧ r.2.mem ((c.tc : Thread Cert.BwdMergeIdeal.nD Cert.BwdMergeIdeal.τ).loc Cert.BwdMergeIdeal.main_v0_2) = v2 c
          ∧ r.2.mem ((c.tc : Thread Cert.BwdMergeIdeal.nD Cert.BwdMergeIdeal.τ).loc Cert.BwdMergeIdeal.main_v0_3) = v3 c
          ∧ r.2.mem ((c.tc : Thread Cert.BwdMergeIdeal.nD Cert.BwdMergeIdeal.τ).loc Cert.BwdMergeIdeal.main_arg0) = m ((c.tc : Thread Cert.BwdMergeIdeal.nD Cert.BwdMergeIdeal.τ).loc Cert.BwdMergeIdeal.main_arg0)
          ∧ r.2.mem ((c.tc : Thread Cert.BwdMergeIdeal.nD Cert.BwdMergeIdeal.τ).loc Cert.BwdMergeIdeal.main_arg1) = m ((c.tc : Thread Cert.BwdMergeIdeal.nD Cert.BwdMergeIdeal.τ).loc Cert.BwdMergeIdeal.main_arg1)
          ∧ r.2.mem ((c.tc : Thread Cert.BwdMergeIdeal.nD Cert.BwdMergeIdeal.τ).loc Cert.BwdMergeIdeal.main_arg2) = m ((c.tc : Thread Cert.BwdMergeIdeal.nD Cert.BwdMergeIdeal.τ).loc Cert.BwdMergeIdeal.main_arg2)
          ∧ r.2.mem ((c.tc : Thread Cert.BwdMergeIdeal.nD Cert.BwdMergeIdeal.τ).loc Cert.BwdMergeIdeal.main_arg3) = m ((c.tc : Thread Cert.BwdMergeIdeal.nD Cert.BwdMergeIdeal.τ).loc Cert.BwdMergeIdeal.main_arg3)
          ∧ r.2.mem ((c.tc : Thread Cert.BwdMergeIdeal.nD Cert.BwdMergeIdeal.τ).loc Cert.BwdMergeIdeal.main_arg4) = m ((c.tc : Thread Cert.BwdMergeIdeal.nD Cert.BwdMergeIdeal.τ).loc Cert.BwdMergeIdeal.main_arg4)
          ∧ r.2.mem ((c.tc : Thread Cert.BwdMergeIdeal.nD Cert.BwdMergeIdeal.τ).loc Cert.BwdMergeIdeal.main_arg5) = m ((c.tc : Thread Cert.BwdMergeIdeal.nD Cert.BwdMergeIdeal.τ).loc Cert.BwdMergeIdeal.main_arg5))
      ∧ θ_run (Cert.BwdMergeRefIdeal.defs (F := Ideal)) (onTc (τ := Cert.BwdMergeRefIdeal.τ) (Cert.BwdMergeRefIdeal.main (F := Ideal))) ⟨m', fun _ => 0, g'⟩ (fun r => ∀ c : Dev Cert.BwdMergeRefIdeal.nD,
          r.2.mem ((c.tc : Thread Cert.BwdMergeRefIdeal.nD Cert.BwdMergeRefIdeal.τ).loc Cert.BwdMergeRefIdeal.main_v35) = v0 c
          ∧ r.2.mem ((c.tc : Thread Cert.BwdMergeRefIdeal.nD Cert.BwdMergeRefIdeal.τ).loc Cert.BwdMergeRefIdeal.main_v30) = v1 c
          ∧ r.2.mem ((c.tc : Thread Cert.BwdMergeRefIdeal.nD Cert.BwdMergeRefIdeal.τ).loc Cert.BwdMergeRefIdeal.main_v36) = v2 c
          ∧ r.2.mem ((c.tc : Thread Cert.BwdMergeRefIdeal.nD Cert.BwdMergeRefIdeal.τ).loc Cert.BwdMergeRefIdeal.main_v37) = v3 c
          ∧ r.2.mem ((c.tc : Thread Cert.BwdMergeRefIdeal.nD Cert.BwdMergeRefIdeal.τ).loc Cert.BwdMergeRefIdeal.main_arg0) = m' ((c.tc : Thread Cert.BwdMergeRefIdeal.nD Cert.BwdMergeRefIdeal.τ).loc Cert.BwdMergeRefIdeal.main_arg0)
          ∧ r.2.mem ((c.tc : Thread Cert.BwdMergeRefIdeal.nD Cert.BwdMergeRefIdeal.τ).loc Cert.BwdMergeRefIdeal.main_arg1) = m' ((c.tc : Thread Cert.BwdMergeRefIdeal.nD Cert.BwdMergeRefIdeal.τ).loc Cert.BwdMergeRefIdeal.main_arg1)
          ∧ r.2.mem ((c.tc : Thread Cert.BwdMergeRefIdeal.nD Cert.BwdMergeRefIdeal.τ).loc Cert.BwdMergeRefIdeal.main_arg2) = m' ((c.tc : Thread Cert.BwdMergeRefIdeal.nD Cert.BwdMergeRefIdeal.τ).loc Cert.BwdMergeRefIdeal.main_arg2)
          ∧ r.2.mem ((c.tc : Thread Cert.BwdMergeRefIdeal.nD Cert.BwdMergeRefIdeal.τ).loc Cert.BwdMergeRefIdeal.main_arg3) = m' ((c.tc : Thread Cert.BwdMergeRefIdeal.nD Cert.BwdMergeRefIdeal.τ).loc Cert.BwdMergeRefIdeal.main_arg3)
          ∧ r.2.mem ((c.tc : Thread Cert.BwdMergeRefIdeal.nD Cert.BwdMergeRefIdeal.τ).loc Cert.BwdMergeRefIdeal.main_arg4) = m' ((c.tc : Thread Cert.BwdMergeRefIdeal.nD Cert.BwdMergeRefIdeal.τ).loc Cert.BwdMergeRefIdeal.main_arg4)
          ∧ r.2.mem ((c.tc : Thread Cert.BwdMergeRefIdeal.nD Cert.BwdMergeRefIdeal.τ).loc Cert.BwdMergeRefIdeal.main_arg5) = m' ((c.tc : Thread Cert.BwdMergeRefIdeal.nD Cert.BwdMergeRefIdeal.τ).loc Cert.BwdMergeRefIdeal.main_arg5))

def preserves_BwdPost_BwdPostIdeal : Prop :=
  True

def algebraic_BwdPostIdeal_BwdPostRefIdeal [hBwdPostIdeal : Cert.BwdPostIdeal.Facts] [hBwdPostRefIdeal : Cert.BwdPostRefIdeal.Facts] : Prop :=
  ∀ (m : (ℓ : Loc Cert.BwdPostIdeal.nD Cert.BwdPostIdeal.τ Cert.BwdPostIdeal.sig) → Buf (Elt Ideal) ℓ) (g : Dev Cert.BwdPostIdeal.nD → PrngReg)
    (m' : (ℓ : Loc Cert.BwdPostRefIdeal.nD Cert.BwdPostRefIdeal.τ Cert.BwdPostRefIdeal.sig) → Buf (Elt Ideal) ℓ) (g' : Dev Cert.BwdPostRefIdeal.nD → PrngReg), Pre_BwdPostIdeal m →
    (∀ c : Dev Cert.BwdPostIdeal.nD,
      m' ((c.tc : Thread Cert.BwdPostRefIdeal.nD Cert.BwdPostRefIdeal.τ).loc Cert.BwdPostRefIdeal.main_arg0) = m ((c.tc : Thread Cert.BwdPostIdeal.nD Cert.BwdPostIdeal.τ).loc Cert.BwdPostIdeal.main_arg0)
      ∧ m' ((c.tc : Thread Cert.BwdPostRefIdeal.nD Cert.BwdPostRefIdeal.τ).loc Cert.BwdPostRefIdeal.main_arg1) = m ((c.tc : Thread Cert.BwdPostIdeal.nD Cert.BwdPostIdeal.τ).loc Cert.BwdPostIdeal.main_arg1)
      ∧ m' ((c.tc : Thread Cert.BwdPostRefIdeal.nD Cert.BwdPostRefIdeal.τ).loc Cert.BwdPostRefIdeal.main_arg2) = m ((c.tc : Thread Cert.BwdPostIdeal.nD Cert.BwdPostIdeal.τ).loc Cert.BwdPostIdeal.main_arg2)
      ∧ m' ((c.tc : Thread Cert.BwdPostRefIdeal.nD Cert.BwdPostRefIdeal.τ).loc Cert.BwdPostRefIdeal.main_arg3) = m ((c.tc : Thread Cert.BwdPostIdeal.nD Cert.BwdPostIdeal.τ).loc Cert.BwdPostIdeal.main_arg3)
      ∧ m' ((c.tc : Thread Cert.BwdPostRefIdeal.nD Cert.BwdPostRefIdeal.τ).loc Cert.BwdPostRefIdeal.main_arg4) = m ((c.tc : Thread Cert.BwdPostIdeal.nD Cert.BwdPostIdeal.τ).loc Cert.BwdPostIdeal.main_arg4)
      ∧ m' ((c.tc : Thread Cert.BwdPostRefIdeal.nD Cert.BwdPostRefIdeal.τ).loc Cert.BwdPostRefIdeal.main_arg5) = m ((c.tc : Thread Cert.BwdPostIdeal.nD Cert.BwdPostIdeal.τ).loc Cert.BwdPostIdeal.main_arg5)) →
    ∃ (v0 : (c : Dev Cert.BwdPostIdeal.nD) → Buf (Elt Ideal) ((c.tc : Thread Cert.BwdPostIdeal.nD Cert.BwdPostIdeal.τ).loc Cert.BwdPostIdeal.main_v0_0)) (v1 : (c : Dev Cert.BwdPostIdeal.nD) → Buf (Elt Ideal) ((c.tc : Thread Cert.BwdPostIdeal.nD Cert.BwdPostIdeal.τ).loc Cert.BwdPostIdeal.main_v0_1)) (v2 : (c : Dev Cert.BwdPostIdeal.nD) → Buf (Elt Ideal) ((c.tc : Thread Cert.BwdPostIdeal.nD Cert.BwdPostIdeal.τ).loc Cert.BwdPostIdeal.main_v0_2)) (v3 : (c : Dev Cert.BwdPostIdeal.nD) → Buf (Elt Ideal) ((c.tc : Thread Cert.BwdPostIdeal.nD Cert.BwdPostIdeal.τ).loc Cert.BwdPostIdeal.main_v0_3)) (v4 : (c : Dev Cert.BwdPostIdeal.nD) → Buf (Elt Ideal) ((c.tc : Thread Cert.BwdPostIdeal.nD Cert.BwdPostIdeal.τ).loc Cert.BwdPostIdeal.main_v0_4)) (v5 : (c : Dev Cert.BwdPostIdeal.nD) → Buf (Elt Ideal) ((c.tc : Thread Cert.BwdPostIdeal.nD Cert.BwdPostIdeal.τ).loc Cert.BwdPostIdeal.main_v0_5)),
      θ_run (Cert.BwdPostIdeal.defs (F := Ideal)) (onTc (τ := Cert.BwdPostIdeal.τ) (Cert.BwdPostIdeal.main (F := Ideal))) ⟨m, fun _ => 0, g⟩ (fun r => ∀ c : Dev Cert.BwdPostIdeal.nD,
          r.2.mem ((c.tc : Thread Cert.BwdPostIdeal.nD Cert.BwdPostIdeal.τ).loc Cert.BwdPostIdeal.main_v0_0) = v0 c
          ∧ r.2.mem ((c.tc : Thread Cert.BwdPostIdeal.nD Cert.BwdPostIdeal.τ).loc Cert.BwdPostIdeal.main_v0_1) = v1 c
          ∧ r.2.mem ((c.tc : Thread Cert.BwdPostIdeal.nD Cert.BwdPostIdeal.τ).loc Cert.BwdPostIdeal.main_v0_2) = v2 c
          ∧ r.2.mem ((c.tc : Thread Cert.BwdPostIdeal.nD Cert.BwdPostIdeal.τ).loc Cert.BwdPostIdeal.main_v0_3) = v3 c
          ∧ r.2.mem ((c.tc : Thread Cert.BwdPostIdeal.nD Cert.BwdPostIdeal.τ).loc Cert.BwdPostIdeal.main_v0_4) = v4 c
          ∧ r.2.mem ((c.tc : Thread Cert.BwdPostIdeal.nD Cert.BwdPostIdeal.τ).loc Cert.BwdPostIdeal.main_v0_5) = v5 c
          ∧ r.2.mem ((c.tc : Thread Cert.BwdPostIdeal.nD Cert.BwdPostIdeal.τ).loc Cert.BwdPostIdeal.main_arg0) = m ((c.tc : Thread Cert.BwdPostIdeal.nD Cert.BwdPostIdeal.τ).loc Cert.BwdPostIdeal.main_arg0)
          ∧ r.2.mem ((c.tc : Thread Cert.BwdPostIdeal.nD Cert.BwdPostIdeal.τ).loc Cert.BwdPostIdeal.main_arg1) = m ((c.tc : Thread Cert.BwdPostIdeal.nD Cert.BwdPostIdeal.τ).loc Cert.BwdPostIdeal.main_arg1)
          ∧ r.2.mem ((c.tc : Thread Cert.BwdPostIdeal.nD Cert.BwdPostIdeal.τ).loc Cert.BwdPostIdeal.main_arg2) = m ((c.tc : Thread Cert.BwdPostIdeal.nD Cert.BwdPostIdeal.τ).loc Cert.BwdPostIdeal.main_arg2)
          ∧ r.2.mem ((c.tc : Thread Cert.BwdPostIdeal.nD Cert.BwdPostIdeal.τ).loc Cert.BwdPostIdeal.main_arg3) = m ((c.tc : Thread Cert.BwdPostIdeal.nD Cert.BwdPostIdeal.τ).loc Cert.BwdPostIdeal.main_arg3)
          ∧ r.2.mem ((c.tc : Thread Cert.BwdPostIdeal.nD Cert.BwdPostIdeal.τ).loc Cert.BwdPostIdeal.main_arg4) = m ((c.tc : Thread Cert.BwdPostIdeal.nD Cert.BwdPostIdeal.τ).loc Cert.BwdPostIdeal.main_arg4)
          ∧ r.2.mem ((c.tc : Thread Cert.BwdPostIdeal.nD Cert.BwdPostIdeal.τ).loc Cert.BwdPostIdeal.main_arg5) = m ((c.tc : Thread Cert.BwdPostIdeal.nD Cert.BwdPostIdeal.τ).loc Cert.BwdPostIdeal.main_arg5))
      ∧ θ_run (Cert.BwdPostRefIdeal.defs (F := Ideal)) (onTc (τ := Cert.BwdPostRefIdeal.τ) (Cert.BwdPostRefIdeal.main (F := Ideal))) ⟨m', fun _ => 0, g'⟩ (fun r => ∀ c : Dev Cert.BwdPostRefIdeal.nD,
          r.2.mem ((c.tc : Thread Cert.BwdPostRefIdeal.nD Cert.BwdPostRefIdeal.τ).loc Cert.BwdPostRefIdeal.main_v96) = v0 c
          ∧ r.2.mem ((c.tc : Thread Cert.BwdPostRefIdeal.nD Cert.BwdPostRefIdeal.τ).loc Cert.BwdPostRefIdeal.main_v97) = v1 c
          ∧ r.2.mem ((c.tc : Thread Cert.BwdPostRefIdeal.nD Cert.BwdPostRefIdeal.τ).loc Cert.BwdPostRefIdeal.main_v98) = v2 c
          ∧ r.2.mem ((c.tc : Thread Cert.BwdPostRefIdeal.nD Cert.BwdPostRefIdeal.τ).loc Cert.BwdPostRefIdeal.main_v89) = v3 c
          ∧ r.2.mem ((c.tc : Thread Cert.BwdPostRefIdeal.nD Cert.BwdPostRefIdeal.τ).loc Cert.BwdPostRefIdeal.main_v91) = v4 c
          ∧ r.2.mem ((c.tc : Thread Cert.BwdPostRefIdeal.nD Cert.BwdPostRefIdeal.τ).loc Cert.BwdPostRefIdeal.main_v99) = v5 c
          ∧ r.2.mem ((c.tc : Thread Cert.BwdPostRefIdeal.nD Cert.BwdPostRefIdeal.τ).loc Cert.BwdPostRefIdeal.main_arg0) = m' ((c.tc : Thread Cert.BwdPostRefIdeal.nD Cert.BwdPostRefIdeal.τ).loc Cert.BwdPostRefIdeal.main_arg0)
          ∧ r.2.mem ((c.tc : Thread Cert.BwdPostRefIdeal.nD Cert.BwdPostRefIdeal.τ).loc Cert.BwdPostRefIdeal.main_arg1) = m' ((c.tc : Thread Cert.BwdPostRefIdeal.nD Cert.BwdPostRefIdeal.τ).loc Cert.BwdPostRefIdeal.main_arg1)
          ∧ r.2.mem ((c.tc : Thread Cert.BwdPostRefIdeal.nD Cert.BwdPostRefIdeal.τ).loc Cert.BwdPostRefIdeal.main_arg2) = m' ((c.tc : Thread Cert.BwdPostRefIdeal.nD Cert.BwdPostRefIdeal.τ).loc Cert.BwdPostRefIdeal.main_arg2)
          ∧ r.2.mem ((c.tc : Thread Cert.BwdPostRefIdeal.nD Cert.BwdPostRefIdeal.τ).loc Cert.BwdPostRefIdeal.main_arg3) = m' ((c.tc : Thread Cert.BwdPostRefIdeal.nD Cert.BwdPostRefIdeal.τ).loc Cert.BwdPostRefIdeal.main_arg3)
          ∧ r.2.mem ((c.tc : Thread Cert.BwdPostRefIdeal.nD Cert.BwdPostRefIdeal.τ).loc Cert.BwdPostRefIdeal.main_arg4) = m' ((c.tc : Thread Cert.BwdPostRefIdeal.nD Cert.BwdPostRefIdeal.τ).loc Cert.BwdPostRefIdeal.main_arg4)
          ∧ r.2.mem ((c.tc : Thread Cert.BwdPostRefIdeal.nD Cert.BwdPostRefIdeal.τ).loc Cert.BwdPostRefIdeal.main_arg5) = m' ((c.tc : Thread Cert.BwdPostRefIdeal.nD Cert.BwdPostRefIdeal.τ).loc Cert.BwdPostRefIdeal.main_arg5))

def preserves_BwdRot_BwdRotIdeal : Prop :=
  True

def algebraic_BwdRotIdeal_BwdRotRefIdeal [hBwdRotIdeal : Cert.BwdRotIdeal.Facts] [hBwdRotRefIdeal : Cert.BwdRotRefIdeal.Facts] : Prop :=
  ∀ (m : (ℓ : Loc Cert.BwdRotIdeal.nD Cert.BwdRotIdeal.τ Cert.BwdRotIdeal.sig) → Buf (Elt Ideal) ℓ) (g : Dev Cert.BwdRotIdeal.nD → PrngReg)
    (m' : (ℓ : Loc Cert.BwdRotRefIdeal.nD Cert.BwdRotRefIdeal.τ Cert.BwdRotRefIdeal.sig) → Buf (Elt Ideal) ℓ) (g' : Dev Cert.BwdRotRefIdeal.nD → PrngReg), Pre_BwdRotIdeal m →
    (∀ c : Dev Cert.BwdRotIdeal.nD,
      m' ((c.tc : Thread Cert.BwdRotRefIdeal.nD Cert.BwdRotRefIdeal.τ).loc Cert.BwdRotRefIdeal.main_arg0) = m ((c.tc : Thread Cert.BwdRotIdeal.nD Cert.BwdRotIdeal.τ).loc Cert.BwdRotIdeal.main_arg0)
      ∧ m' ((c.tc : Thread Cert.BwdRotRefIdeal.nD Cert.BwdRotRefIdeal.τ).loc Cert.BwdRotRefIdeal.main_arg1) = m ((c.tc : Thread Cert.BwdRotIdeal.nD Cert.BwdRotIdeal.τ).loc Cert.BwdRotIdeal.main_arg1)
      ∧ m' ((c.tc : Thread Cert.BwdRotRefIdeal.nD Cert.BwdRotRefIdeal.τ).loc Cert.BwdRotRefIdeal.main_arg2) = m ((c.tc : Thread Cert.BwdRotIdeal.nD Cert.BwdRotIdeal.τ).loc Cert.BwdRotIdeal.main_arg2)) →
    ∃ (v0 : (c : Dev Cert.BwdRotIdeal.nD) → Buf (Elt Ideal) ((c.tc : Thread Cert.BwdRotIdeal.nD Cert.BwdRotIdeal.τ).loc Cert.BwdRotIdeal.main_v15)),
      θ_run (Cert.BwdRotIdeal.defs (F := Ideal)) (onTc (τ := Cert.BwdRotIdeal.τ) (Cert.BwdRotIdeal.main (F := Ideal))) ⟨m, fun _ => 0, g⟩ (fun r => ∀ c : Dev Cert.BwdRotIdeal.nD,
          r.2.mem ((c.tc : Thread Cert.BwdRotIdeal.nD Cert.BwdRotIdeal.τ).loc Cert.BwdRotIdeal.main_v15) = v0 c
          ∧ r.2.mem ((c.tc : Thread Cert.BwdRotIdeal.nD Cert.BwdRotIdeal.τ).loc Cert.BwdRotIdeal.main_arg0) = m ((c.tc : Thread Cert.BwdRotIdeal.nD Cert.BwdRotIdeal.τ).loc Cert.BwdRotIdeal.main_arg0)
          ∧ r.2.mem ((c.tc : Thread Cert.BwdRotIdeal.nD Cert.BwdRotIdeal.τ).loc Cert.BwdRotIdeal.main_arg1) = m ((c.tc : Thread Cert.BwdRotIdeal.nD Cert.BwdRotIdeal.τ).loc Cert.BwdRotIdeal.main_arg1)
          ∧ r.2.mem ((c.tc : Thread Cert.BwdRotIdeal.nD Cert.BwdRotIdeal.τ).loc Cert.BwdRotIdeal.main_arg2) = m ((c.tc : Thread Cert.BwdRotIdeal.nD Cert.BwdRotIdeal.τ).loc Cert.BwdRotIdeal.main_arg2))
      ∧ θ_run (Cert.BwdRotRefIdeal.defs (F := Ideal)) (onTc (τ := Cert.BwdRotRefIdeal.τ) (Cert.BwdRotRefIdeal.main (F := Ideal))) ⟨m', fun _ => 0, g'⟩ (fun r => ∀ c : Dev Cert.BwdRotRefIdeal.nD,
          r.2.mem ((c.tc : Thread Cert.BwdRotRefIdeal.nD Cert.BwdRotRefIdeal.τ).loc Cert.BwdRotRefIdeal.main_v109) = v0 c
          ∧ r.2.mem ((c.tc : Thread Cert.BwdRotRefIdeal.nD Cert.BwdRotRefIdeal.τ).loc Cert.BwdRotRefIdeal.main_arg0) = m' ((c.tc : Thread Cert.BwdRotRefIdeal.nD Cert.BwdRotRefIdeal.τ).loc Cert.BwdRotRefIdeal.main_arg0)
          ∧ r.2.mem ((c.tc : Thread Cert.BwdRotRefIdeal.nD Cert.BwdRotRefIdeal.τ).loc Cert.BwdRotRefIdeal.main_arg1) = m' ((c.tc : Thread Cert.BwdRotRefIdeal.nD Cert.BwdRotRefIdeal.τ).loc Cert.BwdRotRefIdeal.main_arg1)
          ∧ r.2.mem ((c.tc : Thread Cert.BwdRotRefIdeal.nD Cert.BwdRotRefIdeal.τ).loc Cert.BwdRotRefIdeal.main_arg2) = m' ((c.tc : Thread Cert.BwdRotRefIdeal.nD Cert.BwdRotRefIdeal.τ).loc Cert.BwdRotRefIdeal.main_arg2))

def preserves_LossStage_LossStageIdeal : Prop :=
  True

def algebraic_LossStageIdeal_LossStageRefIdeal [hLossStageIdeal : Cert.LossStageIdeal.Facts] [hLossStageRefIdeal : Cert.LossStageRefIdeal.Facts] : Prop :=
  ∀ (m : (ℓ : Loc Cert.LossStageIdeal.nD Cert.LossStageIdeal.τ Cert.LossStageIdeal.sig) → Buf (Elt Ideal) ℓ) (g : Dev Cert.LossStageIdeal.nD → PrngReg)
    (m' : (ℓ : Loc Cert.LossStageRefIdeal.nD Cert.LossStageRefIdeal.τ Cert.LossStageRefIdeal.sig) → Buf (Elt Ideal) ℓ) (g' : Dev Cert.LossStageRefIdeal.nD → PrngReg), Pre_LossStageIdeal m →
    (∀ c : Dev Cert.LossStageIdeal.nD,
      m' ((c.tc : Thread Cert.LossStageRefIdeal.nD Cert.LossStageRefIdeal.τ).loc Cert.LossStageRefIdeal.main_arg0) = m ((c.tc : Thread Cert.LossStageIdeal.nD Cert.LossStageIdeal.τ).loc Cert.LossStageIdeal.main_arg0)
      ∧ m' ((c.tc : Thread Cert.LossStageRefIdeal.nD Cert.LossStageRefIdeal.τ).loc Cert.LossStageRefIdeal.main_arg1) = m ((c.tc : Thread Cert.LossStageIdeal.nD Cert.LossStageIdeal.τ).loc Cert.LossStageIdeal.main_arg1)
      ∧ m' ((c.tc : Thread Cert.LossStageRefIdeal.nD Cert.LossStageRefIdeal.τ).loc Cert.LossStageRefIdeal.main_arg2) = m ((c.tc : Thread Cert.LossStageIdeal.nD Cert.LossStageIdeal.τ).loc Cert.LossStageIdeal.main_arg2)) →
    ∃ (v0 : (c : Dev Cert.LossStageIdeal.nD) → Buf (Elt Ideal) ((c.tc : Thread Cert.LossStageIdeal.nD Cert.LossStageIdeal.τ).loc Cert.LossStageIdeal.main_v0_0)) (v1 : (c : Dev Cert.LossStageIdeal.nD) → Buf (Elt Ideal) ((c.tc : Thread Cert.LossStageIdeal.nD Cert.LossStageIdeal.τ).loc Cert.LossStageIdeal.main_v0_1)) (v2 : (c : Dev Cert.LossStageIdeal.nD) → Buf (Elt Ideal) ((c.tc : Thread Cert.LossStageIdeal.nD Cert.LossStageIdeal.τ).loc Cert.LossStageIdeal.main_v0_2)) (v3 : (c : Dev Cert.LossStageIdeal.nD) → Buf (Elt Ideal) ((c.tc : Thread Cert.LossStageIdeal.nD Cert.LossStageIdeal.τ).loc Cert.LossStageIdeal.main_v0_3)),
      θ_run (Cert.LossStageIdeal.defs (F := Ideal)) (onTc (τ := Cert.LossStageIdeal.τ) (Cert.LossStageIdeal.main (F := Ideal))) ⟨m, fun _ => 0, g⟩ (fun r => ∀ c : Dev Cert.LossStageIdeal.nD,
          r.2.mem ((c.tc : Thread Cert.LossStageIdeal.nD Cert.LossStageIdeal.τ).loc Cert.LossStageIdeal.main_v0_0) = v0 c
          ∧ r.2.mem ((c.tc : Thread Cert.LossStageIdeal.nD Cert.LossStageIdeal.τ).loc Cert.LossStageIdeal.main_v0_1) = v1 c
          ∧ r.2.mem ((c.tc : Thread Cert.LossStageIdeal.nD Cert.LossStageIdeal.τ).loc Cert.LossStageIdeal.main_v0_2) = v2 c
          ∧ r.2.mem ((c.tc : Thread Cert.LossStageIdeal.nD Cert.LossStageIdeal.τ).loc Cert.LossStageIdeal.main_v0_3) = v3 c
          ∧ r.2.mem ((c.tc : Thread Cert.LossStageIdeal.nD Cert.LossStageIdeal.τ).loc Cert.LossStageIdeal.main_arg0) = m ((c.tc : Thread Cert.LossStageIdeal.nD Cert.LossStageIdeal.τ).loc Cert.LossStageIdeal.main_arg0)
          ∧ r.2.mem ((c.tc : Thread Cert.LossStageIdeal.nD Cert.LossStageIdeal.τ).loc Cert.LossStageIdeal.main_arg1) = m ((c.tc : Thread Cert.LossStageIdeal.nD Cert.LossStageIdeal.τ).loc Cert.LossStageIdeal.main_arg1)
          ∧ r.2.mem ((c.tc : Thread Cert.LossStageIdeal.nD Cert.LossStageIdeal.τ).loc Cert.LossStageIdeal.main_arg2) = m ((c.tc : Thread Cert.LossStageIdeal.nD Cert.LossStageIdeal.τ).loc Cert.LossStageIdeal.main_arg2))
      ∧ θ_run (Cert.LossStageRefIdeal.defs (F := Ideal)) (onTc (τ := Cert.LossStageRefIdeal.τ) (Cert.LossStageRefIdeal.main (F := Ideal))) ⟨m', fun _ => 0, g'⟩ (fun r => ∀ c : Dev Cert.LossStageRefIdeal.nD,
          r.2.mem ((c.tc : Thread Cert.LossStageRefIdeal.nD Cert.LossStageRefIdeal.τ).loc Cert.LossStageRefIdeal.main_v51) = v0 c
          ∧ r.2.mem ((c.tc : Thread Cert.LossStageRefIdeal.nD Cert.LossStageRefIdeal.τ).loc Cert.LossStageRefIdeal.main_v52) = v1 c
          ∧ r.2.mem ((c.tc : Thread Cert.LossStageRefIdeal.nD Cert.LossStageRefIdeal.τ).loc Cert.LossStageRefIdeal.main_v53) = v2 c
          ∧ r.2.mem ((c.tc : Thread Cert.LossStageRefIdeal.nD Cert.LossStageRefIdeal.τ).loc Cert.LossStageRefIdeal.main_v54) = v3 c
          ∧ r.2.mem ((c.tc : Thread Cert.LossStageRefIdeal.nD Cert.LossStageRefIdeal.τ).loc Cert.LossStageRefIdeal.main_arg0) = m' ((c.tc : Thread Cert.LossStageRefIdeal.nD Cert.LossStageRefIdeal.τ).loc Cert.LossStageRefIdeal.main_arg0)
          ∧ r.2.mem ((c.tc : Thread Cert.LossStageRefIdeal.nD Cert.LossStageRefIdeal.τ).loc Cert.LossStageRefIdeal.main_arg1) = m' ((c.tc : Thread Cert.LossStageRefIdeal.nD Cert.LossStageRefIdeal.τ).loc Cert.LossStageRefIdeal.main_arg1)
          ∧ r.2.mem ((c.tc : Thread Cert.LossStageRefIdeal.nD Cert.LossStageRefIdeal.τ).loc Cert.LossStageRefIdeal.main_arg2) = m' ((c.tc : Thread Cert.LossStageRefIdeal.nD Cert.LossStageRefIdeal.τ).loc Cert.LossStageRefIdeal.main_arg2))

def preserves_FwdRms_FwdRmsIdeal : Prop :=
  True

def algebraic_FwdRmsIdeal_FwdRmsRefIdeal [hFwdRmsIdeal : Cert.FwdRmsIdeal.Facts] [hFwdRmsRefIdeal : Cert.FwdRmsRefIdeal.Facts] : Prop :=
  ∀ (m : (ℓ : Loc Cert.FwdRmsIdeal.nD Cert.FwdRmsIdeal.τ Cert.FwdRmsIdeal.sig) → Buf (Elt Ideal) ℓ) (g : Dev Cert.FwdRmsIdeal.nD → PrngReg)
    (m' : (ℓ : Loc Cert.FwdRmsRefIdeal.nD Cert.FwdRmsRefIdeal.τ Cert.FwdRmsRefIdeal.sig) → Buf (Elt Ideal) ℓ) (g' : Dev Cert.FwdRmsRefIdeal.nD → PrngReg), Pre_FwdRmsIdeal m →
    (∀ c : Dev Cert.FwdRmsIdeal.nD,
      m' ((c.tc : Thread Cert.FwdRmsRefIdeal.nD Cert.FwdRmsRefIdeal.τ).loc Cert.FwdRmsRefIdeal.main_arg0) = m ((c.tc : Thread Cert.FwdRmsIdeal.nD Cert.FwdRmsIdeal.τ).loc Cert.FwdRmsIdeal.main_arg0)
      ∧ m' ((c.tc : Thread Cert.FwdRmsRefIdeal.nD Cert.FwdRmsRefIdeal.τ).loc Cert.FwdRmsRefIdeal.main_arg1) = m ((c.tc : Thread Cert.FwdRmsIdeal.nD Cert.FwdRmsIdeal.τ).loc Cert.FwdRmsIdeal.main_arg1)) →
    ∃ (v0 : (c : Dev Cert.FwdRmsIdeal.nD) → Buf (Elt Ideal) ((c.tc : Thread Cert.FwdRmsIdeal.nD Cert.FwdRmsIdeal.τ).loc Cert.FwdRmsIdeal.main_v0)),
      θ_run (Cert.FwdRmsIdeal.defs (F := Ideal)) (onTc (τ := Cert.FwdRmsIdeal.τ) (Cert.FwdRmsIdeal.main (F := Ideal))) ⟨m, fun _ => 0, g⟩ (fun r => ∀ c : Dev Cert.FwdRmsIdeal.nD,
          r.2.mem ((c.tc : Thread Cert.FwdRmsIdeal.nD Cert.FwdRmsIdeal.τ).loc Cert.FwdRmsIdeal.main_v0) = v0 c
          ∧ r.2.mem ((c.tc : Thread Cert.FwdRmsIdeal.nD Cert.FwdRmsIdeal.τ).loc Cert.FwdRmsIdeal.main_arg0) = m ((c.tc : Thread Cert.FwdRmsIdeal.nD Cert.FwdRmsIdeal.τ).loc Cert.FwdRmsIdeal.main_arg0)
          ∧ r.2.mem ((c.tc : Thread Cert.FwdRmsIdeal.nD Cert.FwdRmsIdeal.τ).loc Cert.FwdRmsIdeal.main_arg1) = m ((c.tc : Thread Cert.FwdRmsIdeal.nD Cert.FwdRmsIdeal.τ).loc Cert.FwdRmsIdeal.main_arg1))
      ∧ θ_run (Cert.FwdRmsRefIdeal.defs (F := Ideal)) (onTc (τ := Cert.FwdRmsRefIdeal.τ) (Cert.FwdRmsRefIdeal.main (F := Ideal))) ⟨m', fun _ => 0, g'⟩ (fun r => ∀ c : Dev Cert.FwdRmsRefIdeal.nD,
          r.2.mem ((c.tc : Thread Cert.FwdRmsRefIdeal.nD Cert.FwdRmsRefIdeal.τ).loc Cert.FwdRmsRefIdeal.main_v14) = v0 c
          ∧ r.2.mem ((c.tc : Thread Cert.FwdRmsRefIdeal.nD Cert.FwdRmsRefIdeal.τ).loc Cert.FwdRmsRefIdeal.main_arg0) = m' ((c.tc : Thread Cert.FwdRmsRefIdeal.nD Cert.FwdRmsRefIdeal.τ).loc Cert.FwdRmsRefIdeal.main_arg0)
          ∧ r.2.mem ((c.tc : Thread Cert.FwdRmsRefIdeal.nD Cert.FwdRmsRefIdeal.τ).loc Cert.FwdRmsRefIdeal.main_arg1) = m' ((c.tc : Thread Cert.FwdRmsRefIdeal.nD Cert.FwdRmsRefIdeal.τ).loc Cert.FwdRmsRefIdeal.main_arg1))

def preserves_FwdSwish_FwdSwishIdeal : Prop :=
  True

def algebraic_FwdSwishIdeal_FwdSwishRefIdeal [hFwdSwishIdeal : Cert.FwdSwishIdeal.Facts] [hFwdSwishRefIdeal : Cert.FwdSwishRefIdeal.Facts] : Prop :=
  ∀ (m : (ℓ : Loc Cert.FwdSwishIdeal.nD Cert.FwdSwishIdeal.τ Cert.FwdSwishIdeal.sig) → Buf (Elt Ideal) ℓ) (g : Dev Cert.FwdSwishIdeal.nD → PrngReg)
    (m' : (ℓ : Loc Cert.FwdSwishRefIdeal.nD Cert.FwdSwishRefIdeal.τ Cert.FwdSwishRefIdeal.sig) → Buf (Elt Ideal) ℓ) (g' : Dev Cert.FwdSwishRefIdeal.nD → PrngReg), Pre_FwdSwishIdeal m →
    (∀ c : Dev Cert.FwdSwishIdeal.nD,
      m' ((c.tc : Thread Cert.FwdSwishRefIdeal.nD Cert.FwdSwishRefIdeal.τ).loc Cert.FwdSwishRefIdeal.main_arg0) = m ((c.tc : Thread Cert.FwdSwishIdeal.nD Cert.FwdSwishIdeal.τ).loc Cert.FwdSwishIdeal.main_arg0)) →
    ∃ (v0 : (c : Dev Cert.FwdSwishIdeal.nD) → Buf (Elt Ideal) ((c.tc : Thread Cert.FwdSwishIdeal.nD Cert.FwdSwishIdeal.τ).loc Cert.FwdSwishIdeal.main_v0)),
      θ_run (Cert.FwdSwishIdeal.defs (F := Ideal)) (onTc (τ := Cert.FwdSwishIdeal.τ) (Cert.FwdSwishIdeal.main (F := Ideal))) ⟨m, fun _ => 0, g⟩ (fun r => ∀ c : Dev Cert.FwdSwishIdeal.nD,
          r.2.mem ((c.tc : Thread Cert.FwdSwishIdeal.nD Cert.FwdSwishIdeal.τ).loc Cert.FwdSwishIdeal.main_v0) = v0 c
          ∧ r.2.mem ((c.tc : Thread Cert.FwdSwishIdeal.nD Cert.FwdSwishIdeal.τ).loc Cert.FwdSwishIdeal.main_arg0) = m ((c.tc : Thread Cert.FwdSwishIdeal.nD Cert.FwdSwishIdeal.τ).loc Cert.FwdSwishIdeal.main_arg0))
      ∧ θ_run (Cert.FwdSwishRefIdeal.defs (F := Ideal)) (onTc (τ := Cert.FwdSwishRefIdeal.τ) (Cert.FwdSwishRefIdeal.main (F := Ideal))) ⟨m', fun _ => 0, g'⟩ (fun r => ∀ c : Dev Cert.FwdSwishRefIdeal.nD,
          r.2.mem ((c.tc : Thread Cert.FwdSwishRefIdeal.nD Cert.FwdSwishRefIdeal.τ).loc Cert.FwdSwishRefIdeal.main_v4) = v0 c
          ∧ r.2.mem ((c.tc : Thread Cert.FwdSwishRefIdeal.nD Cert.FwdSwishRefIdeal.τ).loc Cert.FwdSwishRefIdeal.main_arg0) = m' ((c.tc : Thread Cert.FwdSwishRefIdeal.nD Cert.FwdSwishRefIdeal.τ).loc Cert.FwdSwishRefIdeal.main_arg0))

def preserves_FwdMerge_FwdMergeIdeal : Prop :=
  True

def algebraic_FwdMergeIdeal_FwdMergeRefIdeal [hFwdMergeIdeal : Cert.FwdMergeIdeal.Facts] [hFwdMergeRefIdeal : Cert.FwdMergeRefIdeal.Facts] : Prop :=
  ∀ (m : (ℓ : Loc Cert.FwdMergeIdeal.nD Cert.FwdMergeIdeal.τ Cert.FwdMergeIdeal.sig) → Buf (Elt Ideal) ℓ) (g : Dev Cert.FwdMergeIdeal.nD → PrngReg)
    (m' : (ℓ : Loc Cert.FwdMergeRefIdeal.nD Cert.FwdMergeRefIdeal.τ Cert.FwdMergeRefIdeal.sig) → Buf (Elt Ideal) ℓ) (g' : Dev Cert.FwdMergeRefIdeal.nD → PrngReg), Pre_FwdMergeIdeal m →
    (∀ c : Dev Cert.FwdMergeIdeal.nD,
      m' ((c.tc : Thread Cert.FwdMergeRefIdeal.nD Cert.FwdMergeRefIdeal.τ).loc Cert.FwdMergeRefIdeal.main_arg0) = m ((c.tc : Thread Cert.FwdMergeIdeal.nD Cert.FwdMergeIdeal.τ).loc Cert.FwdMergeIdeal.main_arg0)
      ∧ m' ((c.tc : Thread Cert.FwdMergeRefIdeal.nD Cert.FwdMergeRefIdeal.τ).loc Cert.FwdMergeRefIdeal.main_arg1) = m ((c.tc : Thread Cert.FwdMergeIdeal.nD Cert.FwdMergeIdeal.τ).loc Cert.FwdMergeIdeal.main_arg1)
      ∧ m' ((c.tc : Thread Cert.FwdMergeRefIdeal.nD Cert.FwdMergeRefIdeal.τ).loc Cert.FwdMergeRefIdeal.main_arg2) = m ((c.tc : Thread Cert.FwdMergeIdeal.nD Cert.FwdMergeIdeal.τ).loc Cert.FwdMergeIdeal.main_arg2)
      ∧ m' ((c.tc : Thread Cert.FwdMergeRefIdeal.nD Cert.FwdMergeRefIdeal.τ).loc Cert.FwdMergeRefIdeal.main_arg3) = m ((c.tc : Thread Cert.FwdMergeIdeal.nD Cert.FwdMergeIdeal.τ).loc Cert.FwdMergeIdeal.main_arg3)
      ∧ m' ((c.tc : Thread Cert.FwdMergeRefIdeal.nD Cert.FwdMergeRefIdeal.τ).loc Cert.FwdMergeRefIdeal.main_arg4) = m ((c.tc : Thread Cert.FwdMergeIdeal.nD Cert.FwdMergeIdeal.τ).loc Cert.FwdMergeIdeal.main_arg4)) →
    ∃ (v0 : (c : Dev Cert.FwdMergeIdeal.nD) → Buf (Elt Ideal) ((c.tc : Thread Cert.FwdMergeIdeal.nD Cert.FwdMergeIdeal.τ).loc Cert.FwdMergeIdeal.main_v0)),
      θ_run (Cert.FwdMergeIdeal.defs (F := Ideal)) (onTc (τ := Cert.FwdMergeIdeal.τ) (Cert.FwdMergeIdeal.main (F := Ideal))) ⟨m, fun _ => 0, g⟩ (fun r => ∀ c : Dev Cert.FwdMergeIdeal.nD,
          r.2.mem ((c.tc : Thread Cert.FwdMergeIdeal.nD Cert.FwdMergeIdeal.τ).loc Cert.FwdMergeIdeal.main_v0) = v0 c
          ∧ r.2.mem ((c.tc : Thread Cert.FwdMergeIdeal.nD Cert.FwdMergeIdeal.τ).loc Cert.FwdMergeIdeal.main_arg0) = m ((c.tc : Thread Cert.FwdMergeIdeal.nD Cert.FwdMergeIdeal.τ).loc Cert.FwdMergeIdeal.main_arg0)
          ∧ r.2.mem ((c.tc : Thread Cert.FwdMergeIdeal.nD Cert.FwdMergeIdeal.τ).loc Cert.FwdMergeIdeal.main_arg1) = m ((c.tc : Thread Cert.FwdMergeIdeal.nD Cert.FwdMergeIdeal.τ).loc Cert.FwdMergeIdeal.main_arg1)
          ∧ r.2.mem ((c.tc : Thread Cert.FwdMergeIdeal.nD Cert.FwdMergeIdeal.τ).loc Cert.FwdMergeIdeal.main_arg2) = m ((c.tc : Thread Cert.FwdMergeIdeal.nD Cert.FwdMergeIdeal.τ).loc Cert.FwdMergeIdeal.main_arg2)
          ∧ r.2.mem ((c.tc : Thread Cert.FwdMergeIdeal.nD Cert.FwdMergeIdeal.τ).loc Cert.FwdMergeIdeal.main_arg3) = m ((c.tc : Thread Cert.FwdMergeIdeal.nD Cert.FwdMergeIdeal.τ).loc Cert.FwdMergeIdeal.main_arg3)
          ∧ r.2.mem ((c.tc : Thread Cert.FwdMergeIdeal.nD Cert.FwdMergeIdeal.τ).loc Cert.FwdMergeIdeal.main_arg4) = m ((c.tc : Thread Cert.FwdMergeIdeal.nD Cert.FwdMergeIdeal.τ).loc Cert.FwdMergeIdeal.main_arg4))
      ∧ θ_run (Cert.FwdMergeRefIdeal.defs (F := Ideal)) (onTc (τ := Cert.FwdMergeRefIdeal.τ) (Cert.FwdMergeRefIdeal.main (F := Ideal))) ⟨m', fun _ => 0, g'⟩ (fun r => ∀ c : Dev Cert.FwdMergeRefIdeal.nD,
          r.2.mem ((c.tc : Thread Cert.FwdMergeRefIdeal.nD Cert.FwdMergeRefIdeal.τ).loc Cert.FwdMergeRefIdeal.main_v20) = v0 c
          ∧ r.2.mem ((c.tc : Thread Cert.FwdMergeRefIdeal.nD Cert.FwdMergeRefIdeal.τ).loc Cert.FwdMergeRefIdeal.main_arg0) = m' ((c.tc : Thread Cert.FwdMergeRefIdeal.nD Cert.FwdMergeRefIdeal.τ).loc Cert.FwdMergeRefIdeal.main_arg0)
          ∧ r.2.mem ((c.tc : Thread Cert.FwdMergeRefIdeal.nD Cert.FwdMergeRefIdeal.τ).loc Cert.FwdMergeRefIdeal.main_arg1) = m' ((c.tc : Thread Cert.FwdMergeRefIdeal.nD Cert.FwdMergeRefIdeal.τ).loc Cert.FwdMergeRefIdeal.main_arg1)
          ∧ r.2.mem ((c.tc : Thread Cert.FwdMergeRefIdeal.nD Cert.FwdMergeRefIdeal.τ).loc Cert.FwdMergeRefIdeal.main_arg2) = m' ((c.tc : Thread Cert.FwdMergeRefIdeal.nD Cert.FwdMergeRefIdeal.τ).loc Cert.FwdMergeRefIdeal.main_arg2)
          ∧ r.2.mem ((c.tc : Thread Cert.FwdMergeRefIdeal.nD Cert.FwdMergeRefIdeal.τ).loc Cert.FwdMergeRefIdeal.main_arg3) = m' ((c.tc : Thread Cert.FwdMergeRefIdeal.nD Cert.FwdMergeRefIdeal.τ).loc Cert.FwdMergeRefIdeal.main_arg3)
          ∧ r.2.mem ((c.tc : Thread Cert.FwdMergeRefIdeal.nD Cert.FwdMergeRefIdeal.τ).loc Cert.FwdMergeRefIdeal.main_arg4) = m' ((c.tc : Thread Cert.FwdMergeRefIdeal.nD Cert.FwdMergeRefIdeal.τ).loc Cert.FwdMergeRefIdeal.main_arg4))

def preserves_FwdPost_FwdPostIdeal : Prop :=
  True

def algebraic_FwdPostIdeal_FwdPostRefIdeal [hFwdPostIdeal : Cert.FwdPostIdeal.Facts] [hFwdPostRefIdeal : Cert.FwdPostRefIdeal.Facts] : Prop :=
  ∀ (m : (ℓ : Loc Cert.FwdPostIdeal.nD Cert.FwdPostIdeal.τ Cert.FwdPostIdeal.sig) → Buf (Elt Ideal) ℓ) (g : Dev Cert.FwdPostIdeal.nD → PrngReg)
    (m' : (ℓ : Loc Cert.FwdPostRefIdeal.nD Cert.FwdPostRefIdeal.τ Cert.FwdPostRefIdeal.sig) → Buf (Elt Ideal) ℓ) (g' : Dev Cert.FwdPostRefIdeal.nD → PrngReg), Pre_FwdPostIdeal m →
    (∀ c : Dev Cert.FwdPostIdeal.nD,
      m' ((c.tc : Thread Cert.FwdPostRefIdeal.nD Cert.FwdPostRefIdeal.τ).loc Cert.FwdPostRefIdeal.main_arg0) = m ((c.tc : Thread Cert.FwdPostIdeal.nD Cert.FwdPostIdeal.τ).loc Cert.FwdPostIdeal.main_arg0)
      ∧ m' ((c.tc : Thread Cert.FwdPostRefIdeal.nD Cert.FwdPostRefIdeal.τ).loc Cert.FwdPostRefIdeal.main_arg1) = m ((c.tc : Thread Cert.FwdPostIdeal.nD Cert.FwdPostIdeal.τ).loc Cert.FwdPostIdeal.main_arg1)
      ∧ m' ((c.tc : Thread Cert.FwdPostRefIdeal.nD Cert.FwdPostRefIdeal.τ).loc Cert.FwdPostRefIdeal.main_arg2) = m ((c.tc : Thread Cert.FwdPostIdeal.nD Cert.FwdPostIdeal.τ).loc Cert.FwdPostIdeal.main_arg2)
      ∧ m' ((c.tc : Thread Cert.FwdPostRefIdeal.nD Cert.FwdPostRefIdeal.τ).loc Cert.FwdPostRefIdeal.main_arg3) = m ((c.tc : Thread Cert.FwdPostIdeal.nD Cert.FwdPostIdeal.τ).loc Cert.FwdPostIdeal.main_arg3)) →
    ∃ (v0 : (c : Dev Cert.FwdPostIdeal.nD) → Buf (Elt Ideal) ((c.tc : Thread Cert.FwdPostIdeal.nD Cert.FwdPostIdeal.τ).loc Cert.FwdPostIdeal.main_v0_0)) (v1 : (c : Dev Cert.FwdPostIdeal.nD) → Buf (Elt Ideal) ((c.tc : Thread Cert.FwdPostIdeal.nD Cert.FwdPostIdeal.τ).loc Cert.FwdPostIdeal.main_v0_1)) (v2 : (c : Dev Cert.FwdPostIdeal.nD) → Buf (Elt Ideal) ((c.tc : Thread Cert.FwdPostIdeal.nD Cert.FwdPostIdeal.τ).loc Cert.FwdPostIdeal.main_v0_2)),
      θ_run (Cert.FwdPostIdeal.defs (F := Ideal)) (onTc (τ := Cert.FwdPostIdeal.τ) (Cert.FwdPostIdeal.main (F := Ideal))) ⟨m, fun _ => 0, g⟩ (fun r => ∀ c : Dev Cert.FwdPostIdeal.nD,
          r.2.mem ((c.tc : Thread Cert.FwdPostIdeal.nD Cert.FwdPostIdeal.τ).loc Cert.FwdPostIdeal.main_v0_0) = v0 c
          ∧ r.2.mem ((c.tc : Thread Cert.FwdPostIdeal.nD Cert.FwdPostIdeal.τ).loc Cert.FwdPostIdeal.main_v0_1) = v1 c
          ∧ r.2.mem ((c.tc : Thread Cert.FwdPostIdeal.nD Cert.FwdPostIdeal.τ).loc Cert.FwdPostIdeal.main_v0_2) = v2 c
          ∧ r.2.mem ((c.tc : Thread Cert.FwdPostIdeal.nD Cert.FwdPostIdeal.τ).loc Cert.FwdPostIdeal.main_arg0) = m ((c.tc : Thread Cert.FwdPostIdeal.nD Cert.FwdPostIdeal.τ).loc Cert.FwdPostIdeal.main_arg0)
          ∧ r.2.mem ((c.tc : Thread Cert.FwdPostIdeal.nD Cert.FwdPostIdeal.τ).loc Cert.FwdPostIdeal.main_arg1) = m ((c.tc : Thread Cert.FwdPostIdeal.nD Cert.FwdPostIdeal.τ).loc Cert.FwdPostIdeal.main_arg1)
          ∧ r.2.mem ((c.tc : Thread Cert.FwdPostIdeal.nD Cert.FwdPostIdeal.τ).loc Cert.FwdPostIdeal.main_arg2) = m ((c.tc : Thread Cert.FwdPostIdeal.nD Cert.FwdPostIdeal.τ).loc Cert.FwdPostIdeal.main_arg2)
          ∧ r.2.mem ((c.tc : Thread Cert.FwdPostIdeal.nD Cert.FwdPostIdeal.τ).loc Cert.FwdPostIdeal.main_arg3) = m ((c.tc : Thread Cert.FwdPostIdeal.nD Cert.FwdPostIdeal.τ).loc Cert.FwdPostIdeal.main_arg3))
      ∧ θ_run (Cert.FwdPostRefIdeal.defs (F := Ideal)) (onTc (τ := Cert.FwdPostRefIdeal.τ) (Cert.FwdPostRefIdeal.main (F := Ideal))) ⟨m', fun _ => 0, g'⟩ (fun r => ∀ c : Dev Cert.FwdPostRefIdeal.nD,
          r.2.mem ((c.tc : Thread Cert.FwdPostRefIdeal.nD Cert.FwdPostRefIdeal.τ).loc Cert.FwdPostRefIdeal.main_v41) = v0 c
          ∧ r.2.mem ((c.tc : Thread Cert.FwdPostRefIdeal.nD Cert.FwdPostRefIdeal.τ).loc Cert.FwdPostRefIdeal.main_v20) = v1 c
          ∧ r.2.mem ((c.tc : Thread Cert.FwdPostRefIdeal.nD Cert.FwdPostRefIdeal.τ).loc Cert.FwdPostRefIdeal.main_v42) = v2 c
          ∧ r.2.mem ((c.tc : Thread Cert.FwdPostRefIdeal.nD Cert.FwdPostRefIdeal.τ).loc Cert.FwdPostRefIdeal.main_arg0) = m' ((c.tc : Thread Cert.FwdPostRefIdeal.nD Cert.FwdPostRefIdeal.τ).loc Cert.FwdPostRefIdeal.main_arg0)
          ∧ r.2.mem ((c.tc : Thread Cert.FwdPostRefIdeal.nD Cert.FwdPostRefIdeal.τ).loc Cert.FwdPostRefIdeal.main_arg1) = m' ((c.tc : Thread Cert.FwdPostRefIdeal.nD Cert.FwdPostRefIdeal.τ).loc Cert.FwdPostRefIdeal.main_arg1)
          ∧ r.2.mem ((c.tc : Thread Cert.FwdPostRefIdeal.nD Cert.FwdPostRefIdeal.τ).loc Cert.FwdPostRefIdeal.main_arg2) = m' ((c.tc : Thread Cert.FwdPostRefIdeal.nD Cert.FwdPostRefIdeal.τ).loc Cert.FwdPostRefIdeal.main_arg2)
          ∧ r.2.mem ((c.tc : Thread Cert.FwdPostRefIdeal.nD Cert.FwdPostRefIdeal.τ).loc Cert.FwdPostRefIdeal.main_arg3) = m' ((c.tc : Thread Cert.FwdPostRefIdeal.nD Cert.FwdPostRefIdeal.τ).loc Cert.FwdPostRefIdeal.main_arg3))

def preserves_FwdRot_FwdRotIdeal : Prop :=
  True

def algebraic_FwdRotIdeal_FwdRotRefIdeal [hFwdRotIdeal : Cert.FwdRotIdeal.Facts] [hFwdRotRefIdeal : Cert.FwdRotRefIdeal.Facts] : Prop :=
  ∀ (m : (ℓ : Loc Cert.FwdRotIdeal.nD Cert.FwdRotIdeal.τ Cert.FwdRotIdeal.sig) → Buf (Elt Ideal) ℓ) (g : Dev Cert.FwdRotIdeal.nD → PrngReg)
    (m' : (ℓ : Loc Cert.FwdRotRefIdeal.nD Cert.FwdRotRefIdeal.τ Cert.FwdRotRefIdeal.sig) → Buf (Elt Ideal) ℓ) (g' : Dev Cert.FwdRotRefIdeal.nD → PrngReg), Pre_FwdRotIdeal m →
    (∀ c : Dev Cert.FwdRotIdeal.nD,
      m' ((c.tc : Thread Cert.FwdRotRefIdeal.nD Cert.FwdRotRefIdeal.τ).loc Cert.FwdRotRefIdeal.main_arg0) = m ((c.tc : Thread Cert.FwdRotIdeal.nD Cert.FwdRotIdeal.τ).loc Cert.FwdRotIdeal.main_arg0)) →
    ∃ (v0 : (c : Dev Cert.FwdRotIdeal.nD) → Buf (Elt Ideal) ((c.tc : Thread Cert.FwdRotIdeal.nD Cert.FwdRotIdeal.τ).loc Cert.FwdRotIdeal.main_v15_0)) (v1 : (c : Dev Cert.FwdRotIdeal.nD) → Buf (Elt Ideal) ((c.tc : Thread Cert.FwdRotIdeal.nD Cert.FwdRotIdeal.τ).loc Cert.FwdRotIdeal.main_v15_1)),
      θ_run (Cert.FwdRotIdeal.defs (F := Ideal)) (onTc (τ := Cert.FwdRotIdeal.τ) (Cert.FwdRotIdeal.main (F := Ideal))) ⟨m, fun _ => 0, g⟩ (fun r => ∀ c : Dev Cert.FwdRotIdeal.nD,
          r.2.mem ((c.tc : Thread Cert.FwdRotIdeal.nD Cert.FwdRotIdeal.τ).loc Cert.FwdRotIdeal.main_v15_0) = v0 c
          ∧ r.2.mem ((c.tc : Thread Cert.FwdRotIdeal.nD Cert.FwdRotIdeal.τ).loc Cert.FwdRotIdeal.main_v15_1) = v1 c
          ∧ r.2.mem ((c.tc : Thread Cert.FwdRotIdeal.nD Cert.FwdRotIdeal.τ).loc Cert.FwdRotIdeal.main_arg0) = m ((c.tc : Thread Cert.FwdRotIdeal.nD Cert.FwdRotIdeal.τ).loc Cert.FwdRotIdeal.main_arg0))
      ∧ θ_run (Cert.FwdRotRefIdeal.defs (F := Ideal)) (onTc (τ := Cert.FwdRotRefIdeal.τ) (Cert.FwdRotRefIdeal.main (F := Ideal))) ⟨m', fun _ => 0, g'⟩ (fun r => ∀ c : Dev Cert.FwdRotRefIdeal.nD,
          r.2.mem ((c.tc : Thread Cert.FwdRotRefIdeal.nD Cert.FwdRotRefIdeal.τ).loc Cert.FwdRotRefIdeal.main_v70) = v0 c
          ∧ r.2.mem ((c.tc : Thread Cert.FwdRotRefIdeal.nD Cert.FwdRotRefIdeal.τ).loc Cert.FwdRotRefIdeal.main_v71) = v1 c
          ∧ r.2.mem ((c.tc : Thread Cert.FwdRotRefIdeal.nD Cert.FwdRotRefIdeal.τ).loc Cert.FwdRotRefIdeal.main_arg0) = m' ((c.tc : Thread Cert.FwdRotRefIdeal.nD Cert.FwdRotRefIdeal.τ).loc Cert.FwdRotRefIdeal.main_arg0))

def preserves_FwdRet_FwdRetIdeal : Prop :=
  True

def algebraic_FwdRetIdeal_FwdRetRefIdeal [hFwdRetIdeal : Cert.FwdRetIdeal.Facts] [hFwdRetRefIdeal : Cert.FwdRetRefIdeal.Facts] : Prop :=
  ∀ (m : (ℓ : Loc Cert.FwdRetIdeal.nD Cert.FwdRetIdeal.τ Cert.FwdRetIdeal.sig) → Buf (Elt Ideal) ℓ) (g : Dev Cert.FwdRetIdeal.nD → PrngReg)
    (m' : (ℓ : Loc Cert.FwdRetRefIdeal.nD Cert.FwdRetRefIdeal.τ Cert.FwdRetRefIdeal.sig) → Buf (Elt Ideal) ℓ) (g' : Dev Cert.FwdRetRefIdeal.nD → PrngReg), Pre_FwdRetIdeal m →
    (∀ c : Dev Cert.FwdRetIdeal.nD,
      m' ((c.tc : Thread Cert.FwdRetRefIdeal.nD Cert.FwdRetRefIdeal.τ).loc Cert.FwdRetRefIdeal.main_arg0) = m ((c.tc : Thread Cert.FwdRetIdeal.nD Cert.FwdRetIdeal.τ).loc Cert.FwdRetIdeal.main_arg0)
      ∧ m' ((c.tc : Thread Cert.FwdRetRefIdeal.nD Cert.FwdRetRefIdeal.τ).loc Cert.FwdRetRefIdeal.main_arg1) = m ((c.tc : Thread Cert.FwdRetIdeal.nD Cert.FwdRetIdeal.τ).loc Cert.FwdRetIdeal.main_arg1)
      ∧ m' ((c.tc : Thread Cert.FwdRetRefIdeal.nD Cert.FwdRetRefIdeal.τ).loc Cert.FwdRetRefIdeal.main_arg2) = m ((c.tc : Thread Cert.FwdRetIdeal.nD Cert.FwdRetIdeal.τ).loc Cert.FwdRetIdeal.main_arg2)
      ∧ m' ((c.tc : Thread Cert.FwdRetRefIdeal.nD Cert.FwdRetRefIdeal.τ).loc Cert.FwdRetRefIdeal.main_arg3) = m ((c.tc : Thread Cert.FwdRetIdeal.nD Cert.FwdRetIdeal.τ).loc Cert.FwdRetIdeal.main_arg3)) →
    ∃ (v0 : (c : Dev Cert.FwdRetIdeal.nD) → Buf (Elt Ideal) ((c.tc : Thread Cert.FwdRetIdeal.nD Cert.FwdRetIdeal.τ).loc Cert.FwdRetIdeal.main_v3)),
      θ_run (Cert.FwdRetIdeal.defs (F := Ideal)) (onTc (τ := Cert.FwdRetIdeal.τ) (Cert.FwdRetIdeal.main (F := Ideal))) ⟨m, fun _ => 0, g⟩ (fun r => ∀ c : Dev Cert.FwdRetIdeal.nD,
          r.2.mem ((c.tc : Thread Cert.FwdRetIdeal.nD Cert.FwdRetIdeal.τ).loc Cert.FwdRetIdeal.main_v3) = v0 c
          ∧ r.2.mem ((c.tc : Thread Cert.FwdRetIdeal.nD Cert.FwdRetIdeal.τ).loc Cert.FwdRetIdeal.main_arg0) = m ((c.tc : Thread Cert.FwdRetIdeal.nD Cert.FwdRetIdeal.τ).loc Cert.FwdRetIdeal.main_arg0)
          ∧ r.2.mem ((c.tc : Thread Cert.FwdRetIdeal.nD Cert.FwdRetIdeal.τ).loc Cert.FwdRetIdeal.main_arg1) = m ((c.tc : Thread Cert.FwdRetIdeal.nD Cert.FwdRetIdeal.τ).loc Cert.FwdRetIdeal.main_arg1)
          ∧ r.2.mem ((c.tc : Thread Cert.FwdRetIdeal.nD Cert.FwdRetIdeal.τ).loc Cert.FwdRetIdeal.main_arg2) = m ((c.tc : Thread Cert.FwdRetIdeal.nD Cert.FwdRetIdeal.τ).loc Cert.FwdRetIdeal.main_arg2)
          ∧ r.2.mem ((c.tc : Thread Cert.FwdRetIdeal.nD Cert.FwdRetIdeal.τ).loc Cert.FwdRetIdeal.main_arg3) = m ((c.tc : Thread Cert.FwdRetIdeal.nD Cert.FwdRetIdeal.τ).loc Cert.FwdRetIdeal.main_arg3))
      ∧ θ_run (Cert.FwdRetRefIdeal.defs (F := Ideal)) (onTc (τ := Cert.FwdRetRefIdeal.τ) (Cert.FwdRetRefIdeal.main (F := Ideal))) ⟨m', fun _ => 0, g'⟩ (fun r => ∀ c : Dev Cert.FwdRetRefIdeal.nD,
          r.2.mem ((c.tc : Thread Cert.FwdRetRefIdeal.nD Cert.FwdRetRefIdeal.τ).loc Cert.FwdRetRefIdeal.main_v35) = v0 c
          ∧ r.2.mem ((c.tc : Thread Cert.FwdRetRefIdeal.nD Cert.FwdRetRefIdeal.τ).loc Cert.FwdRetRefIdeal.main_arg0) = m' ((c.tc : Thread Cert.FwdRetRefIdeal.nD Cert.FwdRetRefIdeal.τ).loc Cert.FwdRetRefIdeal.main_arg0)
          ∧ r.2.mem ((c.tc : Thread Cert.FwdRetRefIdeal.nD Cert.FwdRetRefIdeal.τ).loc Cert.FwdRetRefIdeal.main_arg1) = m' ((c.tc : Thread Cert.FwdRetRefIdeal.nD Cert.FwdRetRefIdeal.τ).loc Cert.FwdRetRefIdeal.main_arg1)
          ∧ r.2.mem ((c.tc : Thread Cert.FwdRetRefIdeal.nD Cert.FwdRetRefIdeal.τ).loc Cert.FwdRetRefIdeal.main_arg2) = m' ((c.tc : Thread Cert.FwdRetRefIdeal.nD Cert.FwdRetRefIdeal.τ).loc Cert.FwdRetRefIdeal.main_arg2)
          ∧ r.2.mem ((c.tc : Thread Cert.FwdRetRefIdeal.nD Cert.FwdRetRefIdeal.τ).loc Cert.FwdRetRefIdeal.main_arg3) = m' ((c.tc : Thread Cert.FwdRetRefIdeal.nD Cert.FwdRetRefIdeal.τ).loc Cert.FwdRetRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)
      ∧ m' ((c.tc : Thread Cert.AdamGuRefIdeal.nD Cert.AdamGuRefIdeal.τ).loc Cert.AdamGuRefIdeal.main_arg4) = m ((c.tc : Thread Cert.AdamGuIdeal.nD Cert.AdamGuIdeal.τ).loc Cert.AdamGuIdeal.main_arg4)) →
    ∃ (v0 : (c : Dev Cert.AdamGuIdeal.nD) → Buf (Elt Ideal) ((c.tc : Thread Cert.AdamGuIdeal.nD Cert.AdamGuIdeal.τ).loc Cert.AdamGuIdeal.main_v0_0)) (v1 : (c : Dev Cert.AdamGuIdeal.nD) → Buf (Elt Ideal) ((c.tc : Thread Cert.AdamGuIdeal.nD Cert.AdamGuIdeal.τ).loc Cert.AdamGuIdeal.main_v0_1)) (v2 : (c : Dev Cert.AdamGuIdeal.nD) → Buf (Elt Ideal) ((c.tc : Thread Cert.AdamGuIdeal.nD Cert.AdamGuIdeal.τ).loc Cert.AdamGuIdeal.main_v0_2)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v0_0) = v0 c
          ∧ r.2.mem ((c.tc : Thread Cert.AdamGuIdeal.nD Cert.AdamGuIdeal.τ).loc Cert.AdamGuIdeal.main_v0_1) = v1 c
          ∧ r.2.mem ((c.tc : Thread Cert.AdamGuIdeal.nD Cert.AdamGuIdeal.τ).loc Cert.AdamGuIdeal.main_v0_2) = v2 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3)
          ∧ r.2.mem ((c.tc : Thread Cert.AdamGuIdeal.nD Cert.AdamGuIdeal.τ).loc Cert.AdamGuIdeal.main_arg4) = m ((c.tc : Thread Cert.AdamGuIdeal.nD Cert.AdamGuIdeal.τ).loc Cert.AdamGuIdeal.main_arg4))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v23) = v0 c
          ∧ r.2.mem ((c.tc : Thread Cert.AdamGuRefIdeal.nD Cert.AdamGuRefIdeal.τ).loc Cert.AdamGuRefIdeal.main_v4) = v1 c
          ∧ r.2.mem ((c.tc : Thread Cert.AdamGuRefIdeal.nD Cert.AdamGuRefIdeal.τ).loc Cert.AdamGuRefIdeal.main_v10) = v2 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3)
          ∧ r.2.mem ((c.tc : Thread Cert.AdamGuRefIdeal.nD Cert.AdamGuRefIdeal.τ).loc Cert.AdamGuRefIdeal.main_arg4) = m' ((c.tc : Thread Cert.AdamGuRefIdeal.nD Cert.AdamGuRefIdeal.τ).loc Cert.AdamGuRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamTiny_AdamTinyIdeal : Prop :=
  True

def algebraic_AdamTinyIdeal_AdamTinyRefIdeal [hAdamTinyIdeal : Cert.AdamTinyIdeal.Facts] [hAdamTinyRefIdeal : Cert.AdamTinyRefIdeal.Facts] : Prop :=
  ∀ (m : (ℓ : Loc Cert.AdamTinyIdeal.nD Cert.AdamTinyIdeal.τ Cert.AdamTinyIdeal.sig) → Buf (Elt Ideal) ℓ) (g : Dev Cert.AdamTinyIdeal.nD → PrngReg)
    (m' : (ℓ : Loc Cert.AdamTinyRefIdeal.nD Cert.AdamTinyRefIdeal.τ Cert.AdamTinyRefIdeal.sig) → Buf (Elt Ideal) ℓ) (g' : Dev Cert.AdamTinyRefIdeal.nD → PrngReg), Pre_AdamTinyIdeal m →
    (∀ c : Dev Cert.AdamTinyIdeal.nD,
      m' ((c.tc : Thread Cert.AdamTinyRefIdeal.nD Cert.AdamTinyRefIdeal.τ).loc Cert.AdamTinyRefIdeal.main_arg0) = m ((c.tc : Thread Cert.AdamTinyIdeal.nD Cert.AdamTinyIdeal.τ).loc Cert.AdamTinyIdeal.main_arg0)
      ∧ m' ((c.tc : Thread Cert.AdamTinyRefIdeal.nD Cert.AdamTinyRefIdeal.τ).loc Cert.AdamTinyRefIdeal.main_arg1) = m ((c.tc : Thread Cert.AdamTinyIdeal.nD Cert.AdamTinyIdeal.τ).loc Cert.AdamTinyIdeal.main_arg1)
      ∧ m' ((c.tc : Thread Cert.AdamTinyRefIdeal.nD Cert.AdamTinyRefIdeal.τ).loc Cert.AdamTinyRefIdeal.main_arg2) = m ((c.tc : Thread Cert.AdamTinyIdeal.nD Cert.AdamTinyIdeal.τ).loc Cert.AdamTinyIdeal.main_arg2)
      ∧ m' ((c.tc : Thread Cert.AdamTinyRefIdeal.nD Cert.AdamTinyRefIdeal.τ).loc Cert.AdamTinyRefIdeal.main_arg3) = m ((c.tc : Thread Cert.AdamTinyIdeal.nD Cert.AdamTinyIdeal.τ).loc Cert.AdamTinyIdeal.main_arg3)
      ∧ m' ((c.tc : Thread Cert.AdamTinyRefIdeal.nD Cert.AdamTinyRefIdeal.τ).loc Cert.AdamTinyRefIdeal.main_arg4) = m ((c.tc : Thread Cert.AdamTinyIdeal.nD Cert.AdamTinyIdeal.τ).loc Cert.AdamTinyIdeal.main_arg4)
      ∧ m' ((c.tc : Thread Cert.AdamTinyRefIdeal.nD Cert.AdamTinyRefIdeal.τ).loc Cert.AdamTinyRefIdeal.main_arg5) = m ((c.tc : Thread Cert.AdamTinyIdeal.nD Cert.AdamTinyIdeal.τ).loc Cert.AdamTinyIdeal.main_arg5)
      ∧ m' ((c.tc : Thread Cert.AdamTinyRefIdeal.nD Cert.AdamTinyRefIdeal.τ).loc Cert.AdamTinyRefIdeal.main_arg6) = m ((c.tc : Thread Cert.AdamTinyIdeal.nD Cert.AdamTinyIdeal.τ).loc Cert.AdamTinyIdeal.main_arg6)
      ∧ m' ((c.tc : Thread Cert.AdamTinyRefIdeal.nD Cert.AdamTinyRefIdeal.τ).loc Cert.AdamTinyRefIdeal.main_arg7) = m ((c.tc : Thread Cert.AdamTinyIdeal.nD Cert.AdamTinyIdeal.τ).loc Cert.AdamTinyIdeal.main_arg7)
      ∧ m' ((c.tc : Thread Cert.AdamTinyRefIdeal.nD Cert.AdamTinyRefIdeal.τ).loc Cert.AdamTinyRefIdeal.main_arg8) = m ((c.tc : Thread Cert.AdamTinyIdeal.nD Cert.AdamTinyIdeal.τ).loc Cert.AdamTinyIdeal.main_arg8)
      ∧ m' ((c.tc : Thread Cert.AdamTinyRefIdeal.nD Cert.AdamTinyRefIdeal.τ).loc Cert.AdamTinyRefIdeal.main_arg9) = m ((c.tc : Thread Cert.AdamTinyIdeal.nD Cert.AdamTinyIdeal.τ).loc Cert.AdamTinyIdeal.main_arg9)
      ∧ m' ((c.tc : Thread Cert.AdamTinyRefIdeal.nD Cert.AdamTinyRefIdeal.τ).loc Cert.AdamTinyRefIdeal.main_arg10) = m ((c.tc : Thread Cert.AdamTinyIdeal.nD Cert.AdamTinyIdeal.τ).loc Cert.AdamTinyIdeal.main_arg10)
      ∧ m' ((c.tc : Thread Cert.AdamTinyRefIdeal.nD Cert.AdamTinyRefIdeal.τ).loc Cert.AdamTinyRefIdeal.main_arg11) = m ((c.tc : Thread Cert.AdamTinyIdeal.nD Cert.AdamTinyIdeal.τ).loc Cert.AdamTinyIdeal.main_arg11)
      ∧ m' ((c.tc : Thread Cert.AdamTinyRefIdeal.nD Cert.AdamTinyRefIdeal.τ).loc Cert.AdamTinyRefIdeal.main_arg12) = m ((c.tc : Thread Cert.AdamTinyIdeal.nD Cert.AdamTinyIdeal.τ).loc Cert.AdamTinyIdeal.main_arg12)
      ∧ m' ((c.tc : Thread Cert.AdamTinyRefIdeal.nD Cert.AdamTinyRefIdeal.τ).loc Cert.AdamTinyRefIdeal.main_arg13) = m ((c.tc : Thread Cert.AdamTinyIdeal.nD Cert.AdamTinyIdeal.τ).loc Cert.AdamTinyIdeal.main_arg13)
      ∧ m' ((c.tc : Thread Cert.AdamTinyRefIdeal.nD Cert.AdamTinyRefIdeal.τ).loc Cert.AdamTinyRefIdeal.main_arg14) = m ((c.tc : Thread Cert.AdamTinyIdeal.nD Cert.AdamTinyIdeal.τ).loc Cert.AdamTinyIdeal.main_arg14)
      ∧ m' ((c.tc : Thread Cert.AdamTinyRefIdeal.nD Cert.AdamTinyRefIdeal.τ).loc Cert.AdamTinyRefIdeal.main_arg15) = m ((c.tc : Thread Cert.AdamTinyIdeal.nD Cert.AdamTinyIdeal.τ).loc Cert.AdamTinyIdeal.main_arg15)
      ∧ m' ((c.tc : Thread Cert.AdamTinyRefIdeal.nD Cert.AdamTinyRefIdeal.τ).loc Cert.AdamTinyRefIdeal.main_arg16) = m ((c.tc : Thread Cert.AdamTinyIdeal.nD Cert.AdamTinyIdeal.τ).loc Cert.AdamTinyIdeal.main_arg16)
      ∧ m' ((c.tc : Thread Cert.AdamTinyRefIdeal.nD Cert.AdamTinyRefIdeal.τ).loc Cert.AdamTinyRefIdeal.main_arg17) = m ((c.tc : Thread Cert.AdamTinyIdeal.nD Cert.AdamTinyIdeal.τ).loc Cert.AdamTinyIdeal.main_arg17)
      ∧ m' ((c.tc : Thread Cert.AdamTinyRefIdeal.nD Cert.AdamTinyRefIdeal.τ).loc Cert.AdamTinyRefIdeal.main_arg18) = m ((c.tc : Thread Cert.AdamTinyIdeal.nD Cert.AdamTinyIdeal.τ).loc Cert.AdamTinyIdeal.main_arg18)
      ∧ m' ((c.tc : Thread Cert.AdamTinyRefIdeal.nD Cert.AdamTinyRefIdeal.τ).loc Cert.AdamTinyRefIdeal.main_arg19) = m ((c.tc : Thread Cert.AdamTinyIdeal.nD Cert.AdamTinyIdeal.τ).loc Cert.AdamTinyIdeal.main_arg19)
      ∧ m' ((c.tc : Thread Cert.AdamTinyRefIdeal.nD Cert.AdamTinyRefIdeal.τ).loc Cert.AdamTinyRefIdeal.main_arg20) = m ((c.tc : Thread Cert.AdamTinyIdeal.nD Cert.AdamTinyIdeal.τ).loc Cert.AdamTinyIdeal.main_arg20)
      ∧ m' ((c.tc : Thread Cert.AdamTinyRefIdeal.nD Cert.AdamTinyRefIdeal.τ).loc Cert.AdamTinyRefIdeal.main_arg21) = m ((c.tc : Thread Cert.AdamTinyIdeal.nD Cert.AdamTinyIdeal.τ).loc Cert.AdamTinyIdeal.main_arg21)
      ∧ m' ((c.tc : Thread Cert.AdamTinyRefIdeal.nD Cert.AdamTinyRefIdeal.τ).loc Cert.AdamTinyRefIdeal.main_arg22) = m ((c.tc : Thread Cert.AdamTinyIdeal.nD Cert.AdamTinyIdeal.τ).loc Cert.AdamTinyIdeal.main_arg22)
      ∧ m' ((c.tc : Thread Cert.AdamTinyRefIdeal.nD Cert.AdamTinyRefIdeal.τ).loc Cert.AdamTinyRefIdeal.main_arg23) = m ((c.tc : Thread Cert.AdamTinyIdeal.nD Cert.AdamTinyIdeal.τ).loc Cert.AdamTinyIdeal.main_arg23)
      ∧ m' ((c.tc : Thread Cert.AdamTinyRefIdeal.nD Cert.AdamTinyRefIdeal.τ).loc Cert.AdamTinyRefIdeal.main_arg24) = m ((c.tc : Thread Cert.AdamTinyIdeal.nD Cert.AdamTinyIdeal.τ).loc Cert.AdamTinyIdeal.main_arg24)
      ∧ m' ((c.tc : Thread Cert.AdamTinyRefIdeal.nD Cert.AdamTinyRefIdeal.τ).loc Cert.AdamTinyRefIdeal.main_arg25) = m ((c.tc : Thread Cert.AdamTinyIdeal.nD Cert.AdamTinyIdeal.τ).loc Cert.AdamTinyIdeal.main_arg25)
      ∧ m' ((c.tc : Thread Cert.AdamTinyRefIdeal.nD Cert.AdamTinyRefIdeal.τ).loc Cert.AdamTinyRefIdeal.main_arg26) = m ((c.tc : Thread Cert.AdamTinyIdeal.nD Cert.AdamTinyIdeal.τ).loc Cert.AdamTinyIdeal.main_arg26)
      ∧ m' ((c.tc : Thread Cert.AdamTinyRefIdeal.nD Cert.AdamTinyRefIdeal.τ).loc Cert.AdamTinyRefIdeal.main_arg27) = m ((c.tc : Thread Cert.AdamTinyIdeal.nD Cert.AdamTinyIdeal.τ).loc Cert.AdamTinyIdeal.main_arg27)
      ∧ m' ((c.tc : Thread Cert.AdamTinyRefIdeal.nD Cert.AdamTinyRefIdeal.τ).loc Cert.AdamTinyRefIdeal.main_arg28) = m ((c.tc : Thread Cert.AdamTinyIdeal.nD Cert.AdamTinyIdeal.τ).loc Cert.AdamTinyIdeal.main_arg28)
      ∧ m' ((c.tc : Thread Cert.AdamTinyRefIdeal.nD Cert.AdamTinyRefIdeal.τ).loc Cert.AdamTinyRefIdeal.main_arg29) = m ((c.tc : Thread Cert.AdamTinyIdeal.nD Cert.AdamTinyIdeal.τ).loc Cert.AdamTinyIdeal.main_arg29)
      ∧ m' ((c.tc : Thread Cert.AdamTinyRefIdeal.nD Cert.AdamTinyRefIdeal.τ).loc Cert.AdamTinyRefIdeal.main_arg30) = m ((c.tc : Thread Cert.AdamTinyIdeal.nD Cert.AdamTinyIdeal.τ).loc Cert.AdamTinyIdeal.main_arg30)
      ∧ m' ((c.tc : Thread Cert.AdamTinyRefIdeal.nD Cert.AdamTinyRefIdeal.τ).loc Cert.AdamTinyRefIdeal.main_arg31) = m ((c.tc : Thread Cert.AdamTinyIdeal.nD Cert.AdamTinyIdeal.τ).loc Cert.AdamTinyIdeal.main_arg31)
      ∧ m' ((c.tc : Thread Cert.AdamTinyRefIdeal.nD Cert.AdamTinyRefIdeal.τ).loc Cert.AdamTinyRefIdeal.main_arg32) = m ((c.tc : Thread Cert.AdamTinyIdeal.nD Cert.AdamTinyIdeal.τ).loc Cert.AdamTinyIdeal.main_arg32)
      ∧ m' ((c.tc : Thread Cert.AdamTinyRefIdeal.nD Cert.AdamTinyRefIdeal.τ).loc Cert.AdamTinyRefIdeal.main_arg33) = m ((c.tc : Thread Cert.AdamTinyIdeal.nD Cert.AdamTinyIdeal.τ).loc Cert.AdamTinyIdeal.main_arg33)
      ∧ m' ((c.tc : Thread Cert.AdamTinyRefIdeal.nD Cert.AdamTinyRefIdeal.τ).loc Cert.AdamTinyRefIdeal.main_arg34) = m ((c.tc : Thread Cert.AdamTinyIdeal.nD Cert.AdamTinyIdeal.τ).loc Cert.AdamTinyIdeal.main_arg34)
      ∧ m' ((c.tc : Thread Cert.AdamTinyRefIdeal.nD Cert.AdamTinyRefIdeal.τ).loc Cert.AdamTinyRefIdeal.main_arg35) = m ((c.tc : Thread Cert.AdamTinyIdeal.nD Cert.AdamTinyIdeal.τ).loc Cert.AdamTinyIdeal.main_arg35)) →
    ∃ (v0 : (c : Dev Cert.AdamTinyIdeal.nD) → Buf (Elt Ideal) ((c.tc : Thread Cert.AdamTinyIdeal.nD Cert.AdamTinyIdeal.τ).loc Cert.AdamTinyIdeal.main_v85)) (v1 : (c : Dev Cert.AdamTinyIdeal.nD) → Buf (Elt Ideal) ((c.tc : Thread Cert.AdamTinyIdeal.nD Cert.AdamTinyIdeal.τ).loc Cert.AdamTinyIdeal.main_v90)) (v2 : (c : Dev Cert.AdamTinyIdeal.nD) → Buf (Elt Ideal) ((c.tc : Thread Cert.AdamTinyIdeal.nD Cert.AdamTinyIdeal.τ).loc Cert.AdamTinyIdeal.main_v94)) (v3 : (c : Dev Cert.AdamTinyIdeal.nD) → Buf (Elt Ideal) ((c.tc : Thread Cert.AdamTinyIdeal.nD Cert.AdamTinyIdeal.τ).loc Cert.AdamTinyIdeal.main_v98)) (v4 : (c : Dev Cert.AdamTinyIdeal.nD) → Buf (Elt Ideal) ((c.tc : Thread Cert.AdamTinyIdeal.nD Cert.AdamTinyIdeal.τ).loc Cert.AdamTinyIdeal.main_v103)) (v5 : (c : Dev Cert.AdamTinyIdeal.nD) → Buf (Elt Ideal) ((c.tc : Thread Cert.AdamTinyIdeal.nD Cert.AdamTinyIdeal.τ).loc Cert.AdamTinyIdeal.main_v108)) (v6 : (c : Dev Cert.AdamTinyIdeal.nD) → Buf (Elt Ideal) ((c.tc : Thread Cert.AdamTinyIdeal.nD Cert.AdamTinyIdeal.τ).loc Cert.AdamTinyIdeal.main_v113)) (v7 : (c : Dev Cert.AdamTinyIdeal.nD) → Buf (Elt Ideal) ((c.tc : Thread Cert.AdamTinyIdeal.nD Cert.AdamTinyIdeal.τ).loc Cert.AdamTinyIdeal.main_v118)) (v8 : (c : Dev Cert.AdamTinyIdeal.nD) → Buf (Elt Ideal) ((c.tc : Thread Cert.AdamTinyIdeal.nD Cert.AdamTinyIdeal.τ).loc Cert.AdamTinyIdeal.main_v122)) (v9 : (c : Dev Cert.AdamTinyIdeal.nD) → Buf (Elt Ideal) ((c.tc : Thread Cert.AdamTinyIdeal.nD Cert.AdamTinyIdeal.τ).loc Cert.AdamTinyIdeal.main_v127)) (v10 : (c : Dev Cert.AdamTinyIdeal.nD) → Buf (Elt Ideal) ((c.tc : Thread Cert.AdamTinyIdeal.nD Cert.AdamTinyIdeal.τ).loc Cert.AdamTinyIdeal.main_v132)) (v11 : (c : Dev Cert.AdamTinyIdeal.nD) → Buf (Elt Ideal) ((c.tc : Thread Cert.AdamTinyIdeal.nD Cert.AdamTinyIdeal.τ).loc Cert.AdamTinyIdeal.main_v136)) (v12 : (c : Dev Cert.AdamTinyIdeal.nD) → Buf (Elt Ideal) ((c.tc : Thread Cert.AdamTinyIdeal.nD Cert.AdamTinyIdeal.τ).loc Cert.AdamTinyIdeal.main_v140)) (v13 : (c : Dev Cert.AdamTinyIdeal.nD) → Buf (Elt Ideal) ((c.tc : Thread Cert.AdamTinyIdeal.nD Cert.AdamTinyIdeal.τ).loc Cert.AdamTinyIdeal.main_v145)) (v14 : (c : Dev Cert.AdamTinyIdeal.nD) → Buf (Elt Ideal) ((c.tc : Thread Cert.AdamTinyIdeal.nD Cert.AdamTinyIdeal.τ).loc Cert.AdamTinyIdeal.main_v150)) (v15 : (c : Dev Cert.AdamTinyIdeal.nD) → Buf (Elt Ideal) ((c.tc : Thread Cert.AdamTinyIdeal.nD Cert.AdamTinyIdeal.τ).loc Cert.AdamTinyIdeal.main_v155)) (v16 : (c : Dev Cert.AdamTinyIdeal.nD) → Buf (Elt Ideal) ((c.tc : Thread Cert.AdamTinyIdeal.nD Cert.AdamTinyIdeal.τ).loc Cert.AdamTinyIdeal.main_v160)) (v17 : (c : Dev Cert.AdamTinyIdeal.nD) → Buf (Elt Ideal) ((c.tc : Thread Cert.AdamTinyIdeal.nD Cert.AdamTinyIdeal.τ).loc Cert.AdamTinyIdeal.main_v164)) (v18 : (c : Dev Cert.AdamTinyIdeal.nD) → Buf (Elt Ideal) ((c.tc : Thread Cert.AdamTinyIdeal.nD Cert.AdamTinyIdeal.τ).loc Cert.AdamTinyIdeal.main_v169)) (v19 : (c : Dev Cert.AdamTinyIdeal.nD) → Buf (Elt Ideal) ((c.tc : Thread Cert.AdamTinyIdeal.nD Cert.AdamTinyIdeal.τ).loc Cert.AdamTinyIdeal.main_v174)) (v20 : (c : Dev Cert.AdamTinyIdeal.nD) → Buf (Elt Ideal) ((c.tc : Thread Cert.AdamTinyIdeal.nD Cert.AdamTinyIdeal.τ).loc Cert.AdamTinyIdeal.main_v178)) (v21 : (c : Dev Cert.AdamTinyIdeal.nD) → Buf (Elt Ideal) ((c.tc : Thread Cert.AdamTinyIdeal.nD Cert.AdamTinyIdeal.τ).loc Cert.AdamTinyIdeal.main_v182)) (v22 : (c : Dev Cert.AdamTinyIdeal.nD) → Buf (Elt Ideal) ((c.tc : Thread Cert.AdamTinyIdeal.nD Cert.AdamTinyIdeal.τ).loc Cert.AdamTinyIdeal.main_v187)) (v23 : (c : Dev Cert.AdamTinyIdeal.nD) → Buf (Elt Ideal) ((c.tc : Thread Cert.AdamTinyIdeal.nD Cert.AdamTinyIdeal.τ).loc Cert.AdamTinyIdeal.main_v192)) (v24 : (c : Dev Cert.AdamTinyIdeal.nD) → Buf (Elt Ideal) ((c.tc : Thread Cert.AdamTinyIdeal.nD Cert.AdamTinyIdeal.τ).loc Cert.AdamTinyIdeal.main_v197)) (v25 : (c : Dev Cert.AdamTinyIdeal.nD) → Buf (Elt Ideal) ((c.tc : Thread Cert.AdamTinyIdeal.nD Cert.AdamTinyIdeal.τ).loc Cert.AdamTinyIdeal.main_v202)) (v26 : (c : Dev Cert.AdamTinyIdeal.nD) → Buf (Elt Ideal) ((c.tc : Thread Cert.AdamTinyIdeal.nD Cert.AdamTinyIdeal.τ).loc Cert.AdamTinyIdeal.main_v206)),
      θ_run (Cert.AdamTinyIdeal.defs (F := Ideal)) (onTc (τ := Cert.AdamTinyIdeal.τ) (Cert.AdamTinyIdeal.main (F := Ideal))) ⟨m, fun _ => 0, g⟩ (fun r => ∀ c : Dev Cert.AdamTinyIdeal.nD,
          r.2.mem ((c.tc : Thread Cert.AdamTinyIdeal.nD Cert.AdamTinyIdeal.τ).loc Cert.AdamTinyIdeal.main_v85) = v0 c
          ∧ r.2.mem ((c.tc : Thread Cert.AdamTinyIdeal.nD Cert.AdamTinyIdeal.τ).loc Cert.AdamTinyIdeal.main_v90) = v1 c
          ∧ r.2.mem ((c.tc : Thread Cert.AdamTinyIdeal.nD Cert.AdamTinyIdeal.τ).loc Cert.AdamTinyIdeal.main_v94) = v2 c
          ∧ r.2.mem ((c.tc : Thread Cert.AdamTinyIdeal.nD Cert.AdamTinyIdeal.τ).loc Cert.AdamTinyIdeal.main_v98) = v3 c
          ∧ r.2.mem ((c.tc : Thread Cert.AdamTinyIdeal.nD Cert.AdamTinyIdeal.τ).loc Cert.AdamTinyIdeal.main_v103) = v4 c
          ∧ r.2.mem ((c.tc : Thread Cert.AdamTinyIdeal.nD Cert.AdamTinyIdeal.τ).loc Cert.AdamTinyIdeal.main_v108) = v5 c
          ∧ r.2.mem ((c.tc : Thread Cert.AdamTinyIdeal.nD Cert.AdamTinyIdeal.τ).loc Cert.AdamTinyIdeal.main_v113) = v6 c
          ∧ r.2.mem ((c.tc : Thread Cert.AdamTinyIdeal.nD Cert.AdamTinyIdeal.τ).loc Cert.AdamTinyIdeal.main_v118) = v7 c
          ∧ r.2.mem ((c.tc : Thread Cert.AdamTinyIdeal.nD Cert.AdamTinyIdeal.τ).loc Cert.AdamTinyIdeal.main_v122) = v8 c
          ∧ r.2.mem ((c.tc : Thread Cert.AdamTinyIdeal.nD Cert.AdamTinyIdeal.τ).loc Cert.AdamTinyIdeal.main_v127) = v9 c
          ∧ r.2.mem ((c.tc : Thread Cert.AdamTinyIdeal.nD Cert.AdamTinyIdeal.τ).loc Cert.AdamTinyIdeal.main_v132) = v10 c
          ∧ r.2.mem ((c.tc : Thread Cert.AdamTinyIdeal.nD Cert.AdamTinyIdeal.τ).loc Cert.AdamTinyIdeal.main_v136) = v11 c
          ∧ r.2.mem ((c.tc : Thread Cert.AdamTinyIdeal.nD Cert.AdamTinyIdeal.τ).loc Cert.AdamTinyIdeal.main_v140) = v12 c
          ∧ r.2.mem ((c.tc : Thread Cert.AdamTinyIdeal.nD Cert.AdamTinyIdeal.τ).loc Cert.AdamTinyIdeal.main_v145) = v13 c
          ∧ r.2.mem ((c.tc : Thread Cert.AdamTinyIdeal.nD Cert.AdamTinyIdeal.τ).loc Cert.AdamTinyIdeal.main_v150) = v14 c
          ∧ r.2.mem ((c.tc : Thread Cert.AdamTinyIdeal.nD Cert.AdamTinyIdeal.τ).loc Cert.AdamTinyIdeal.main_v155) = v15 c
          ∧ r.2.mem ((c.tc : Thread Cert.AdamTinyIdeal.nD Cert.AdamTinyIdeal.τ).loc Cert.AdamTinyIdeal.main_v160) = v16 c
          ∧ r.2.mem ((c.tc : Thread Cert.AdamTinyIdeal.nD Cert.AdamTinyIdeal.τ).loc Cert.AdamTinyIdeal.main_v164) = v17 c
          ∧ r.2.mem ((c.tc : Thread Cert.AdamTinyIdeal.nD Cert.AdamTinyIdeal.τ).loc Cert.AdamTinyIdeal.main_v169) = v18 c
          ∧ r.2.mem ((c.tc : Thread Cert.AdamTinyIdeal.nD Cert.AdamTinyIdeal.τ).loc Cert.AdamTinyIdeal.main_v174) = v19 c
          ∧ r.2.mem ((c.tc : Thread Cert.AdamTinyIdeal.nD Cert.AdamTinyIdeal.τ).loc Cert.AdamTinyIdeal.main_v178) = v20 c
          ∧ r.2.mem ((c.tc : Thread Cert.AdamTinyIdeal.nD Cert.AdamTinyIdeal.τ).loc Cert.AdamTinyIdeal.main_v182) = v21 c
          ∧ r.2.mem ((c.tc : Thread Cert.AdamTinyIdeal.nD Cert.AdamTinyIdeal.τ).loc Cert.AdamTinyIdeal.main_v187) = v22 c
          ∧ r.2.mem ((c.tc : Thread Cert.AdamTinyIdeal.nD Cert.AdamTinyIdeal.τ).loc Cert.AdamTinyIdeal.main_v192) = v23 c
          ∧ r.2.mem ((c.tc : Thread Cert.AdamTinyIdeal.nD Cert.AdamTinyIdeal.τ).loc Cert.AdamTinyIdeal.main_v197) = v24 c
          ∧ r.2.mem ((c.tc : Thread Cert.AdamTinyIdeal.nD Cert.AdamTinyIdeal.τ).loc Cert.AdamTinyIdeal.main_v202) = v25 c
          ∧ r.2.mem ((c.tc : Thread Cert.AdamTinyIdeal.nD Cert.AdamTinyIdeal.τ).loc Cert.AdamTinyIdeal.main_v206) = v26 c
          ∧ r.2.mem ((c.tc : Thread Cert.AdamTinyIdeal.nD Cert.AdamTinyIdeal.τ).loc Cert.AdamTinyIdeal.main_arg0) = m ((c.tc : Thread Cert.AdamTinyIdeal.nD Cert.AdamTinyIdeal.τ).loc Cert.AdamTinyIdeal.main_arg0)
          ∧ r.2.mem ((c.tc : Thread Cert.AdamTinyIdeal.nD Cert.AdamTinyIdeal.τ).loc Cert.AdamTinyIdeal.main_arg1) = m ((c.tc : Thread Cert.AdamTinyIdeal.nD Cert.AdamTinyIdeal.τ).loc Cert.AdamTinyIdeal.main_arg1)
          ∧ r.2.mem ((c.tc : Thread Cert.AdamTinyIdeal.nD Cert.AdamTinyIdeal.τ).loc Cert.AdamTinyIdeal.main_arg2) = m ((c.tc : Thread Cert.AdamTinyIdeal.nD Cert.AdamTinyIdeal.τ).loc Cert.AdamTinyIdeal.main_arg2)
          ∧ r.2.mem ((c.tc : Thread Cert.AdamTinyIdeal.nD Cert.AdamTinyIdeal.τ).loc Cert.AdamTinyIdeal.main_arg3) = m ((c.tc : Thread Cert.AdamTinyIdeal.nD Cert.AdamTinyIdeal.τ).loc Cert.AdamTinyIdeal.main_arg3)
          ∧ r.2.mem ((c.tc : Thread Cert.AdamTinyIdeal.nD Cert.AdamTinyIdeal.τ).loc Cert.AdamTinyIdeal.main_arg4) = m ((c.tc : Thread Cert.AdamTinyIdeal.nD Cert.AdamTinyIdeal.τ).loc Cert.AdamTinyIdeal.main_arg4)
          ∧ r.2.mem ((c.tc : Thread Cert.AdamTinyIdeal.nD Cert.AdamTinyIdeal.τ).loc Cert.AdamTinyIdeal.main_arg5) = m ((c.tc : Thread Cert.AdamTinyIdeal.nD Cert.AdamTinyIdeal.τ).loc Cert.AdamTinyIdeal.main_arg5)
          ∧ r.2.mem ((c.tc : Thread Cert.AdamTinyIdeal.nD Cert.AdamTinyIdeal.τ).loc Cert.AdamTinyIdeal.main_arg6) = m ((c.tc : Thread Cert.AdamTinyIdeal.nD Cert.AdamTinyIdeal.τ).loc Cert.AdamTinyIdeal.main_arg6)
          ∧ r.2.mem ((c.tc : Thread Cert.AdamTinyIdeal.nD Cert.AdamTinyIdeal.τ).loc Cert.AdamTinyIdeal.main_arg7) = m ((c.tc : Thread Cert.AdamTinyIdeal.nD Cert.AdamTinyIdeal.τ).loc Cert.AdamTinyIdeal.main_arg7)
          ∧ r.2.mem ((c.tc : Thread Cert.AdamTinyIdeal.nD Cert.AdamTinyIdeal.τ).loc Cert.AdamTinyIdeal.main_arg8) = m ((c.tc : Thread Cert.AdamTinyIdeal.nD Cert.AdamTinyIdeal.τ).loc Cert.AdamTinyIdeal.main_arg8)
          ∧ r.2.mem ((c.tc : Thread Cert.AdamTinyIdeal.nD Cert.AdamTinyIdeal.τ).loc Cert.AdamTinyIdeal.main_arg9) = m ((c.tc : Thread Cert.AdamTinyIdeal.nD Cert.AdamTinyIdeal.τ).loc Cert.AdamTinyIdeal.main_arg9)
          ∧ r.2.mem ((c.tc : Thread Cert.AdamTinyIdeal.nD Cert.AdamTinyIdeal.τ).loc Cert.AdamTinyIdeal.main_arg10) = m ((c.tc : Thread Cert.AdamTinyIdeal.nD Cert.AdamTinyIdeal.τ).loc Cert.AdamTinyIdeal.main_arg10)
          ∧ r.2.mem ((c.tc : Thread Cert.AdamTinyIdeal.nD Cert.AdamTinyIdeal.τ).loc Cert.AdamTinyIdeal.main_arg11) = m ((c.tc : Thread Cert.AdamTinyIdeal.nD Cert.AdamTinyIdeal.τ).loc Cert.AdamTinyIdeal.main_arg11)
          ∧ r.2.mem ((c.tc : Thread Cert.AdamTinyIdeal.nD Cert.AdamTinyIdeal.τ).loc Cert.AdamTinyIdeal.main_arg12) = m ((c.tc : Thread Cert.AdamTinyIdeal.nD Cert.AdamTinyIdeal.τ).loc Cert.AdamTinyIdeal.main_arg12)
          ∧ r.2.mem ((c.tc : Thread Cert.AdamTinyIdeal.nD Cert.AdamTinyIdeal.τ).loc Cert.AdamTinyIdeal.main_arg13) = m ((c.tc : Thread Cert.AdamTinyIdeal.nD Cert.AdamTinyIdeal.τ).loc Cert.AdamTinyIdeal.main_arg13)
          ∧ r.2.mem ((c.tc : Thread Cert.AdamTinyIdeal.nD Cert.AdamTinyIdeal.τ).loc Cert.AdamTinyIdeal.main_arg14) = m ((c.tc : Thread Cert.AdamTinyIdeal.nD Cert.AdamTinyIdeal.τ).loc Cert.AdamTinyIdeal.main_arg14)
          ∧ r.2.mem ((c.tc : Thread Cert.AdamTinyIdeal.nD Cert.AdamTinyIdeal.τ).loc Cert.AdamTinyIdeal.main_arg15) = m ((c.tc : Thread Cert.AdamTinyIdeal.nD Cert.AdamTinyIdeal.τ).loc Cert.AdamTinyIdeal.main_arg15)
          ∧ r.2.mem ((c.tc : Thread Cert.AdamTinyIdeal.nD Cert.AdamTinyIdeal.τ).loc Cert.AdamTinyIdeal.main_arg16) = m ((c.tc : Thread Cert.AdamTinyIdeal.nD Cert.AdamTinyIdeal.τ).loc Cert.AdamTinyIdeal.main_arg16)
          ∧ r.2.mem ((c.tc : Thread Cert.AdamTinyIdeal.nD Cert.AdamTinyIdeal.τ).loc Cert.AdamTinyIdeal.main_arg17) = m ((c.tc : Thread Cert.AdamTinyIdeal.nD Cert.AdamTinyIdeal.τ).loc Cert.AdamTinyIdeal.main_arg17)
          ∧ r.2.mem ((c.tc : Thread Cert.AdamTinyIdeal.nD Cert.AdamTinyIdeal.τ).loc Cert.AdamTinyIdeal.main_arg18) = m ((c.tc : Thread Cert.AdamTinyIdeal.nD Cert.AdamTinyIdeal.τ).loc Cert.AdamTinyIdeal.main_arg18)
          ∧ r.2.mem ((c.tc : Thread Cert.AdamTinyIdeal.nD Cert.AdamTinyIdeal.τ).loc Cert.AdamTinyIdeal.main_arg19) = m ((c.tc : Thread Cert.AdamTinyIdeal.nD Cert.AdamTinyIdeal.τ).loc Cert.AdamTinyIdeal.main_arg19)
          ∧ r.2.mem ((c.tc : Thread Cert.AdamTinyIdeal.nD Cert.AdamTinyIdeal.τ).loc Cert.AdamTinyIdeal.main_arg20) = m ((c.tc : Thread Cert.AdamTinyIdeal.nD Cert.AdamTinyIdeal.τ).loc Cert.AdamTinyIdeal.main_arg20)
          ∧ r.2.mem ((c.tc : Thread Cert.AdamTinyIdeal.nD Cert.AdamTinyIdeal.τ).loc Cert.AdamTinyIdeal.main_arg21) = m ((c.tc : Thread Cert.AdamTinyIdeal.nD Cert.AdamTinyIdeal.τ).loc Cert.AdamTinyIdeal.main_arg21)
          ∧ r.2.mem ((c.tc : Thread Cert.AdamTinyIdeal.nD Cert.AdamTinyIdeal.τ).loc Cert.AdamTinyIdeal.main_arg22) = m ((c.tc : Thread Cert.AdamTinyIdeal.nD Cert.AdamTinyIdeal.τ).loc Cert.AdamTinyIdeal.main_arg22)
          ∧ r.2.mem ((c.tc : Thread Cert.AdamTinyIdeal.nD Cert.AdamTinyIdeal.τ).loc Cert.AdamTinyIdeal.main_arg23) = m ((c.tc : Thread Cert.AdamTinyIdeal.nD Cert.AdamTinyIdeal.τ).loc Cert.AdamTinyIdeal.main_arg23)
          ∧ r.2.mem ((c.tc : Thread Cert.AdamTinyIdeal.nD Cert.AdamTinyIdeal.τ).loc Cert.AdamTinyIdeal.main_arg24) = m ((c.tc : Thread Cert.AdamTinyIdeal.nD Cert.AdamTinyIdeal.τ).loc Cert.AdamTinyIdeal.main_arg24)
          ∧ r.2.mem ((c.tc : Thread Cert.AdamTinyIdeal.nD Cert.AdamTinyIdeal.τ).loc Cert.AdamTinyIdeal.main_arg25) = m ((c.tc : Thread Cert.AdamTinyIdeal.nD Cert.AdamTinyIdeal.τ).loc Cert.AdamTinyIdeal.main_arg25)
          ∧ r.2.mem ((c.tc : Thread Cert.AdamTinyIdeal.nD Cert.AdamTinyIdeal.τ).loc Cert.AdamTinyIdeal.main_arg26) = m ((c.tc : Thread Cert.AdamTinyIdeal.nD Cert.AdamTinyIdeal.τ).loc Cert.AdamTinyIdeal.main_arg26)
          ∧ r.2.mem ((c.tc : Thread Cert.AdamTinyIdeal.nD Cert.AdamTinyIdeal.τ).loc Cert.AdamTinyIdeal.main_arg27) = m ((c.tc : Thread Cert.AdamTinyIdeal.nD Cert.AdamTinyIdeal.τ).loc Cert.AdamTinyIdeal.main_arg27)
          ∧ r.2.mem ((c.tc : Thread Cert.AdamTinyIdeal.nD Cert.AdamTinyIdeal.τ).loc Cert.AdamTinyIdeal.main_arg28) = m ((c.tc : Thread Cert.AdamTinyIdeal.nD Cert.AdamTinyIdeal.τ).loc Cert.AdamTinyIdeal.main_arg28)
          ∧ r.2.mem ((c.tc : Thread Cert.AdamTinyIdeal.nD Cert.AdamTinyIdeal.τ).loc Cert.AdamTinyIdeal.main_arg29) = m ((c.tc : Thread Cert.AdamTinyIdeal.nD Cert.AdamTinyIdeal.τ).loc Cert.AdamTinyIdeal.main_arg29)
          ∧ r.2.mem ((c.tc : Thread Cert.AdamTinyIdeal.nD Cert.AdamTinyIdeal.τ).loc Cert.AdamTinyIdeal.main_arg30) = m ((c.tc : Thread Cert.AdamTinyIdeal.nD Cert.AdamTinyIdeal.τ).loc Cert.AdamTinyIdeal.main_arg30)
          ∧ r.2.mem ((c.tc : Thread Cert.AdamTinyIdeal.nD Cert.AdamTinyIdeal.τ).loc Cert.AdamTinyIdeal.main_arg31) = m ((c.tc : Thread Cert.AdamTinyIdeal.nD Cert.AdamTinyIdeal.τ).loc Cert.AdamTinyIdeal.main_arg31)
          ∧ r.2.mem ((c.tc : Thread Cert.AdamTinyIdeal.nD Cert.AdamTinyIdeal.τ).loc Cert.AdamTinyIdeal.main_arg32) = m ((c.tc : Thread Cert.AdamTinyIdeal.nD Cert.AdamTinyIdeal.τ).loc Cert.AdamTinyIdeal.main_arg32)
          ∧ r.2.mem ((c.tc : Thread Cert.AdamTinyIdeal.nD Cert.AdamTinyIdeal.τ).loc Cert.AdamTinyIdeal.main_arg33) = m ((c.tc : Thread Cert.AdamTinyIdeal.nD Cert.AdamTinyIdeal.τ).loc Cert.AdamTinyIdeal.main_arg33)
          ∧ r.2.mem ((c.tc : Thread Cert.AdamTinyIdeal.nD Cert.AdamTinyIdeal.τ).loc Cert.AdamTinyIdeal.main_arg34) = m ((c.tc : Thread Cert.AdamTinyIdeal.nD Cert.AdamTinyIdeal.τ).loc Cert.AdamTinyIdeal.main_arg34)
          ∧ r.2.mem ((c.tc : Thread Cert.AdamTinyIdeal.nD Cert.AdamTinyIdeal.τ).loc Cert.AdamTinyIdeal.main_arg35) = m ((c.tc : Thread Cert.AdamTinyIdeal.nD Cert.AdamTinyIdeal.τ).loc Cert.AdamTinyIdeal.main_arg35))
      ∧ θ_run (Cert.AdamTinyRefIdeal.defs (F := Ideal)) (onTc (τ := Cert.AdamTinyRefIdeal.τ) (Cert.AdamTinyRefIdeal.main (F := Ideal))) ⟨m', fun _ => 0, g'⟩ (fun r => ∀ c : Dev Cert.AdamTinyRefIdeal.nD,
          r.2.mem ((c.tc : Thread Cert.AdamTinyRefIdeal.nD Cert.AdamTinyRefIdeal.τ).loc Cert.AdamTinyRefIdeal.main_v23) = v0 c
          ∧ r.2.mem ((c.tc : Thread Cert.AdamTinyRefIdeal.nD Cert.AdamTinyRefIdeal.τ).loc Cert.AdamTinyRefIdeal.main_v47) = v1 c
          ∧ r.2.mem ((c.tc : Thread Cert.AdamTinyRefIdeal.nD Cert.AdamTinyRefIdeal.τ).loc Cert.AdamTinyRefIdeal.main_v71) = v2 c
          ∧ r.2.mem ((c.tc : Thread Cert.AdamTinyRefIdeal.nD Cert.AdamTinyRefIdeal.τ).loc Cert.AdamTinyRefIdeal.main_v95) = v3 c
          ∧ r.2.mem ((c.tc : Thread Cert.AdamTinyRefIdeal.nD Cert.AdamTinyRefIdeal.τ).loc Cert.AdamTinyRefIdeal.main_v119) = v4 c
          ∧ r.2.mem ((c.tc : Thread Cert.AdamTinyRefIdeal.nD Cert.AdamTinyRefIdeal.τ).loc Cert.AdamTinyRefIdeal.main_v143) = v5 c
          ∧ r.2.mem ((c.tc : Thread Cert.AdamTinyRefIdeal.nD Cert.AdamTinyRefIdeal.τ).loc Cert.AdamTinyRefIdeal.main_v167) = v6 c
          ∧ r.2.mem ((c.tc : Thread Cert.AdamTinyRefIdeal.nD Cert.AdamTinyRefIdeal.τ).loc Cert.AdamTinyRefIdeal.main_v191) = v7 c
          ∧ r.2.mem ((c.tc : Thread Cert.AdamTinyRefIdeal.nD Cert.AdamTinyRefIdeal.τ).loc Cert.AdamTinyRefIdeal.main_v215) = v8 c
          ∧ r.2.mem ((c.tc : Thread Cert.AdamTinyRefIdeal.nD Cert.AdamTinyRefIdeal.τ).loc Cert.AdamTinyRefIdeal.main_v4) = v9 c
          ∧ r.2.mem ((c.tc : Thread Cert.AdamTinyRefIdeal.nD Cert.AdamTinyRefIdeal.τ).loc Cert.AdamTinyRefIdeal.main_v28) = v10 c
          ∧ r.2.mem ((c.tc : Thread Cert.AdamTinyRefIdeal.nD Cert.AdamTinyRefIdeal.τ).loc Cert.AdamTinyRefIdeal.main_v52) = v11 c
          ∧ r.2.mem ((c.tc : Thread Cert.AdamTinyRefIdeal.nD Cert.AdamTinyRefIdeal.τ).loc Cert.AdamTinyRefIdeal.main_v76) = v12 c
          ∧ r.2.mem ((c.tc : Thread Cert.AdamTinyRefIdeal.nD Cert.AdamTinyRefIdeal.τ).loc Cert.AdamTinyRefIdeal.main_v100) = v13 c
          ∧ r.2.mem ((c.tc : Thread Cert.AdamTinyRefIdeal.nD Cert.AdamTinyRefIdeal.τ).loc Cert.AdamTinyRefIdeal.main_v124) = v14 c
          ∧ r.2.mem ((c.tc : Thread Cert.AdamTinyRefIdeal.nD Cert.AdamTinyRefIdeal.τ).loc Cert.AdamTinyRefIdeal.main_v148) = v15 c
          ∧ r.2.mem ((c.tc : Thread Cert.AdamTinyRefIdeal.nD Cert.AdamTinyRefIdeal.τ).loc Cert.AdamTinyRefIdeal.main_v172) = v16 c
          ∧ r.2.mem ((c.tc : Thread Cert.AdamTinyRefIdeal.nD Cert.AdamTinyRefIdeal.τ).loc Cert.AdamTinyRefIdeal.main_v196) = v17 c
          ∧ r.2.mem ((c.tc : Thread Cert.AdamTinyRefIdeal.nD Cert.AdamTinyRefIdeal.τ).loc Cert.AdamTinyRefIdeal.main_v10) = v18 c
          ∧ r.2.mem ((c.tc : Thread Cert.AdamTinyRefIdeal.nD Cert.AdamTinyRefIdeal.τ).loc Cert.AdamTinyRefIdeal.main_v34) = v19 c
          ∧ r.2.mem ((c.tc : Thread Cert.AdamTinyRefIdeal.nD Cert.AdamTinyRefIdeal.τ).loc Cert.AdamTinyRefIdeal.main_v58) = v20 c
          ∧ r.2.mem ((c.tc : Thread Cert.AdamTinyRefIdeal.nD Cert.AdamTinyRefIdeal.τ).loc Cert.AdamTinyRefIdeal.main_v82) = v21 c
          ∧ r.2.mem ((c.tc : Thread Cert.AdamTinyRefIdeal.nD Cert.AdamTinyRefIdeal.τ).loc Cert.AdamTinyRefIdeal.main_v106) = v22 c
          ∧ r.2.mem ((c.tc : Thread Cert.AdamTinyRefIdeal.nD Cert.AdamTinyRefIdeal.τ).loc Cert.AdamTinyRefIdeal.main_v130) = v23 c
          ∧ r.2.mem ((c.tc : Thread Cert.AdamTinyRefIdeal.nD Cert.AdamTinyRefIdeal.τ).loc Cert.AdamTinyRefIdeal.main_v154) = v24 c
          ∧ r.2.mem ((c.tc : Thread Cert.AdamTinyRefIdeal.nD Cert.AdamTinyRefIdeal.τ).loc Cert.AdamTinyRefIdeal.main_v178) = v25 c
          ∧ r.2.mem ((c.tc : Thread Cert.AdamTinyRefIdeal.nD Cert.AdamTinyRefIdeal.τ).loc Cert.AdamTinyRefIdeal.main_v202) = v26 c
          ∧ r.2.mem ((c.tc : Thread Cert.AdamTinyRefIdeal.nD Cert.AdamTinyRefIdeal.τ).loc Cert.AdamTinyRefIdeal.main_arg0) = m' ((c.tc : Thread Cert.AdamTinyRefIdeal.nD Cert.AdamTinyRefIdeal.τ).loc Cert.AdamTinyRefIdeal.main_arg0)
          ∧ r.2.mem ((c.tc : Thread Cert.AdamTinyRefIdeal.nD Cert.AdamTinyRefIdeal.τ).loc Cert.AdamTinyRefIdeal.main_arg1) = m' ((c.tc : Thread Cert.AdamTinyRefIdeal.nD Cert.AdamTinyRefIdeal.τ).loc Cert.AdamTinyRefIdeal.main_arg1)
          ∧ r.2.mem ((c.tc : Thread Cert.AdamTinyRefIdeal.nD Cert.AdamTinyRefIdeal.τ).loc Cert.AdamTinyRefIdeal.main_arg2) = m' ((c.tc : Thread Cert.AdamTinyRefIdeal.nD Cert.AdamTinyRefIdeal.τ).loc Cert.AdamTinyRefIdeal.main_arg2)
          ∧ r.2.mem ((c.tc : Thread Cert.AdamTinyRefIdeal.nD Cert.AdamTinyRefIdeal.τ).loc Cert.AdamTinyRefIdeal.main_arg3) = m' ((c.tc : Thread Cert.AdamTinyRefIdeal.nD Cert.AdamTinyRefIdeal.τ).loc Cert.AdamTinyRefIdeal.main_arg3)
          ∧ r.2.mem ((c.tc : Thread Cert.AdamTinyRefIdeal.nD Cert.AdamTinyRefIdeal.τ).loc Cert.AdamTinyRefIdeal.main_arg4) = m' ((c.tc : Thread Cert.AdamTinyRefIdeal.nD Cert.AdamTinyRefIdeal.τ).loc Cert.AdamTinyRefIdeal.main_arg4)
          ∧ r.2.mem ((c.tc : Thread Cert.AdamTinyRefIdeal.nD Cert.AdamTinyRefIdeal.τ).loc Cert.AdamTinyRefIdeal.main_arg5) = m' ((c.tc : Thread Cert.AdamTinyRefIdeal.nD Cert.AdamTinyRefIdeal.τ).loc Cert.AdamTinyRefIdeal.main_arg5)
          ∧ r.2.mem ((c.tc : Thread Cert.AdamTinyRefIdeal.nD Cert.AdamTinyRefIdeal.τ).loc Cert.AdamTinyRefIdeal.main_arg6) = m' ((c.tc : Thread Cert.AdamTinyRefIdeal.nD Cert.AdamTinyRefIdeal.τ).loc Cert.AdamTinyRefIdeal.main_arg6)
          ∧ r.2.mem ((c.tc : Thread Cert.AdamTinyRefIdeal.nD Cert.AdamTinyRefIdeal.τ).loc Cert.AdamTinyRefIdeal.main_arg7) = m' ((c.tc : Thread Cert.AdamTinyRefIdeal.nD Cert.AdamTinyRefIdeal.τ).loc Cert.AdamTinyRefIdeal.main_arg7)
          ∧ r.2.mem ((c.tc : Thread Cert.AdamTinyRefIdeal.nD Cert.AdamTinyRefIdeal.τ).loc Cert.AdamTinyRefIdeal.main_arg8) = m' ((c.tc : Thread Cert.AdamTinyRefIdeal.nD Cert.AdamTinyRefIdeal.τ).loc Cert.AdamTinyRefIdeal.main_arg8)
          ∧ r.2.mem ((c.tc : Thread Cert.AdamTinyRefIdeal.nD Cert.AdamTinyRefIdeal.τ).loc Cert.AdamTinyRefIdeal.main_arg9) = m' ((c.tc : Thread Cert.AdamTinyRefIdeal.nD Cert.AdamTinyRefIdeal.τ).loc Cert.AdamTinyRefIdeal.main_arg9)
          ∧ r.2.mem ((c.tc : Thread Cert.AdamTinyRefIdeal.nD Cert.AdamTinyRefIdeal.τ).loc Cert.AdamTinyRefIdeal.main_arg10) = m' ((c.tc : Thread Cert.AdamTinyRefIdeal.nD Cert.AdamTinyRefIdeal.τ).loc Cert.AdamTinyRefIdeal.main_arg10)
          ∧ r.2.mem ((c.tc : Thread Cert.AdamTinyRefIdeal.nD Cert.AdamTinyRefIdeal.τ).loc Cert.AdamTinyRefIdeal.main_arg11) = m' ((c.tc : Thread Cert.AdamTinyRefIdeal.nD Cert.AdamTinyRefIdeal.τ).loc Cert.AdamTinyRefIdeal.main_arg11)
          ∧ r.2.mem ((c.tc : Thread Cert.AdamTinyRefIdeal.nD Cert.AdamTinyRefIdeal.τ).loc Cert.AdamTinyRefIdeal.main_arg12) = m' ((c.tc : Thread Cert.AdamTinyRefIdeal.nD Cert.AdamTinyRefIdeal.τ).loc Cert.AdamTinyRefIdeal.main_arg12)
          ∧ r.2.mem ((c.tc : Thread Cert.AdamTinyRefIdeal.nD Cert.AdamTinyRefIdeal.τ).loc Cert.AdamTinyRefIdeal.main_arg13) = m' ((c.tc : Thread Cert.AdamTinyRefIdeal.nD Cert.AdamTinyRefIdeal.τ).loc Cert.AdamTinyRefIdeal.main_arg13)
          ∧ r.2.mem ((c.tc : Thread Cert.AdamTinyRefIdeal.nD Cert.AdamTinyRefIdeal.τ).loc Cert.AdamTinyRefIdeal.main_arg14) = m' ((c.tc : Thread Cert.AdamTinyRefIdeal.nD Cert.AdamTinyRefIdeal.τ).loc Cert.AdamTinyRefIdeal.main_arg14)
          ∧ r.2.mem ((c.tc : Thread Cert.AdamTinyRefIdeal.nD Cert.AdamTinyRefIdeal.τ).loc Cert.AdamTinyRefIdeal.main_arg15) = m' ((c.tc : Thread Cert.AdamTinyRefIdeal.nD Cert.AdamTinyRefIdeal.τ).loc Cert.AdamTinyRefIdeal.main_arg15)
          ∧ r.2.mem ((c.tc : Thread Cert.AdamTinyRefIdeal.nD Cert.AdamTinyRefIdeal.τ).loc Cert.AdamTinyRefIdeal.main_arg16) = m' ((c.tc : Thread Cert.AdamTinyRefIdeal.nD Cert.AdamTinyRefIdeal.τ).loc Cert.AdamTinyRefIdeal.main_arg16)
          ∧ r.2.mem ((c.tc : Thread Cert.AdamTinyRefIdeal.nD Cert.AdamTinyRefIdeal.τ).loc Cert.AdamTinyRefIdeal.main_arg17) = m' ((c.tc : Thread Cert.AdamTinyRefIdeal.nD Cert.AdamTinyRefIdeal.τ).loc Cert.AdamTinyRefIdeal.main_arg17)
          ∧ r.2.mem ((c.tc : Thread Cert.AdamTinyRefIdeal.nD Cert.AdamTinyRefIdeal.τ).loc Cert.AdamTinyRefIdeal.main_arg18) = m' ((c.tc : Thread Cert.AdamTinyRefIdeal.nD Cert.AdamTinyRefIdeal.τ).loc Cert.AdamTinyRefIdeal.main_arg18)
          ∧ r.2.mem ((c.tc : Thread Cert.AdamTinyRefIdeal.nD Cert.AdamTinyRefIdeal.τ).loc Cert.AdamTinyRefIdeal.main_arg19) = m' ((c.tc : Thread Cert.AdamTinyRefIdeal.nD Cert.AdamTinyRefIdeal.τ).loc Cert.AdamTinyRefIdeal.main_arg19)
          ∧ r.2.mem ((c.tc : Thread Cert.AdamTinyRefIdeal.nD Cert.AdamTinyRefIdeal.τ).loc Cert.AdamTinyRefIdeal.main_arg20) = m' ((c.tc : Thread Cert.AdamTinyRefIdeal.nD Cert.AdamTinyRefIdeal.τ).loc Cert.AdamTinyRefIdeal.main_arg20)
          ∧ r.2.mem ((c.tc : Thread Cert.AdamTinyRefIdeal.nD Cert.AdamTinyRefIdeal.τ).loc Cert.AdamTinyRefIdeal.main_arg21) = m' ((c.tc : Thread Cert.AdamTinyRefIdeal.nD Cert.AdamTinyRefIdeal.τ).loc Cert.AdamTinyRefIdeal.main_arg21)
          ∧ r.2.mem ((c.tc : Thread Cert.AdamTinyRefIdeal.nD Cert.AdamTinyRefIdeal.τ).loc Cert.AdamTinyRefIdeal.main_arg22) = m' ((c.tc : Thread Cert.AdamTinyRefIdeal.nD Cert.AdamTinyRefIdeal.τ).loc Cert.AdamTinyRefIdeal.main_arg22)
          ∧ r.2.mem ((c.tc : Thread Cert.AdamTinyRefIdeal.nD Cert.AdamTinyRefIdeal.τ).loc Cert.AdamTinyRefIdeal.main_arg23) = m' ((c.tc : Thread Cert.AdamTinyRefIdeal.nD Cert.AdamTinyRefIdeal.τ).loc Cert.AdamTinyRefIdeal.main_arg23)
          ∧ r.2.mem ((c.tc : Thread Cert.AdamTinyRefIdeal.nD Cert.AdamTinyRefIdeal.τ).loc Cert.AdamTinyRefIdeal.main_arg24) = m' ((c.tc : Thread Cert.AdamTinyRefIdeal.nD Cert.AdamTinyRefIdeal.τ).loc Cert.AdamTinyRefIdeal.main_arg24)
          ∧ r.2.mem ((c.tc : Thread Cert.AdamTinyRefIdeal.nD Cert.AdamTinyRefIdeal.τ).loc Cert.AdamTinyRefIdeal.main_arg25) = m' ((c.tc : Thread Cert.AdamTinyRefIdeal.nD Cert.AdamTinyRefIdeal.τ).loc Cert.AdamTinyRefIdeal.main_arg25)
          ∧ r.2.mem ((c.tc : Thread Cert.AdamTinyRefIdeal.nD Cert.AdamTinyRefIdeal.τ).loc Cert.AdamTinyRefIdeal.main_arg26) = m' ((c.tc : Thread Cert.AdamTinyRefIdeal.nD Cert.AdamTinyRefIdeal.τ).loc Cert.AdamTinyRefIdeal.main_arg26)
          ∧ r.2.mem ((c.tc : Thread Cert.AdamTinyRefIdeal.nD Cert.AdamTinyRefIdeal.τ).loc Cert.AdamTinyRefIdeal.main_arg27) = m' ((c.tc : Thread Cert.AdamTinyRefIdeal.nD Cert.AdamTinyRefIdeal.τ).loc Cert.AdamTinyRefIdeal.main_arg27)
          ∧ r.2.mem ((c.tc : Thread Cert.AdamTinyRefIdeal.nD Cert.AdamTinyRefIdeal.τ).loc Cert.AdamTinyRefIdeal.main_arg28) = m' ((c.tc : Thread Cert.AdamTinyRefIdeal.nD Cert.AdamTinyRefIdeal.τ).loc Cert.AdamTinyRefIdeal.main_arg28)
          ∧ r.2.mem ((c.tc : Thread Cert.AdamTinyRefIdeal.nD Cert.AdamTinyRefIdeal.τ).loc Cert.AdamTinyRefIdeal.main_arg29) = m' ((c.tc : Thread Cert.AdamTinyRefIdeal.nD Cert.AdamTinyRefIdeal.τ).loc Cert.AdamTinyRefIdeal.main_arg29)
          ∧ r.2.mem ((c.tc : Thread Cert.AdamTinyRefIdeal.nD Cert.AdamTinyRefIdeal.τ).loc Cert.AdamTinyRefIdeal.main_arg30) = m' ((c.tc : Thread Cert.AdamTinyRefIdeal.nD Cert.AdamTinyRefIdeal.τ).loc Cert.AdamTinyRefIdeal.main_arg30)
          ∧ r.2.mem ((c.tc : Thread Cert.AdamTinyRefIdeal.nD Cert.AdamTinyRefIdeal.τ).loc Cert.AdamTinyRefIdeal.main_arg31) = m' ((c.tc : Thread Cert.AdamTinyRefIdeal.nD Cert.AdamTinyRefIdeal.τ).loc Cert.AdamTinyRefIdeal.main_arg31)
          ∧ r.2.mem ((c.tc : Thread Cert.AdamTinyRefIdeal.nD Cert.AdamTinyRefIdeal.τ).loc Cert.AdamTinyRefIdeal.main_arg32) = m' ((c.tc : Thread Cert.AdamTinyRefIdeal.nD Cert.AdamTinyRefIdeal.τ).loc Cert.AdamTinyRefIdeal.main_arg32)
          ∧ r.2.mem ((c.tc : Thread Cert.AdamTinyRefIdeal.nD Cert.AdamTinyRefIdeal.τ).loc Cert.AdamTinyRefIdeal.main_arg33) = m' ((c.tc : Thread Cert.AdamTinyRefIdeal.nD Cert.AdamTinyRefIdeal.τ).loc Cert.AdamTinyRefIdeal.main_arg33)
          ∧ r.2.mem ((c.tc : Thread Cert.AdamTinyRefIdeal.nD Cert.AdamTinyRefIdeal.τ).loc Cert.AdamTinyRefIdeal.main_arg34) = m' ((c.tc : Thread Cert.AdamTinyRefIdeal.nD Cert.AdamTinyRefIdeal.τ).loc Cert.AdamTinyRefIdeal.main_arg34)
          ∧ r.2.mem ((c.tc : Thread Cert.AdamTinyRefIdeal.nD Cert.AdamTinyRefIdeal.τ).loc Cert.AdamTinyRefIdeal.main_arg35) = m' ((c.tc : Thread Cert.AdamTinyRefIdeal.nD Cert.AdamTinyRefIdeal.τ).loc Cert.AdamTinyRefIdeal.main_arg35))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v23) = v0 c
          ∧ r.2.mem ((c.tc : Thread Cert.AdamBRefIdeal.nD Cert.AdamBRefIdeal.τ).loc Cert.AdamBRefIdeal.main_v4) = v1 c
          ∧ r.2.mem ((c.tc : Thread Cert.AdamBRefIdeal.nD Cert.AdamBRefIdeal.τ).loc Cert.AdamBRefIdeal.main_v10) = v2 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def preserves_AdamC_AdamCIdeal : Prop :=
  True

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v0_0)) (v1 : (c : Dev Cert.AdamCIdeal.nD) → Buf (Elt Ideal) ((c.tc : Thread Cert.AdamCIdeal.nD Cert.AdamCIdeal.τ).loc Cert.AdamCIdeal.main_v0_1)) (v2 : (c : Dev Cert.AdamCIdeal.nD) → Buf (Elt Ideal) ((c.tc : Thread Cert.AdamCIdeal.nD Cert.AdamCIdeal.τ).loc Cert.AdamCIdeal.main_v0_2)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v0_0) = v0 c
          ∧ r.2.mem ((c.tc : Thread Cert.AdamCIdeal.nD Cert.AdamCIdeal.τ).loc Cert.AdamCIdeal.main_v0_1) = v1 c
          ∧ r.2.mem ((c.tc : Thread Cert.AdamCIdeal.nD Cert.AdamCIdeal.τ).loc Cert.AdamCIdeal.main_v0_2) = v2 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v23) = v0 c
          ∧ r.2.mem ((c.tc : Thread Cert.AdamCRefIdeal.nD Cert.AdamCRefIdeal.τ).loc Cert.AdamCRefIdeal.main_v4) = v1 c
          ∧ r.2.mem ((c.tc : Thread Cert.AdamCRefIdeal.nD Cert.AdamCRefIdeal.τ).loc Cert.AdamCRefIdeal.main_v10) = v2 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_LossTotal_LossTotalIdeal : Prop :=
  True

def algebraic_LossTotalIdeal_LossTotalRefIdeal [hLossTotalIdeal : Cert.LossTotalIdeal.Facts] [hLossTotalRefIdeal : Cert.LossTotalRefIdeal.Facts] : Prop :=
  ∀ (m : (ℓ : Loc Cert.LossTotalIdeal.nD Cert.LossTotalIdeal.τ Cert.LossTotalIdeal.sig) → Buf (Elt Ideal) ℓ) (g : Dev Cert.LossTotalIdeal.nD → PrngReg)
    (m' : (ℓ : Loc Cert.LossTotalRefIdeal.nD Cert.LossTotalRefIdeal.τ Cert.LossTotalRefIdeal.sig) → Buf (Elt Ideal) ℓ) (g' : Dev Cert.LossTotalRefIdeal.nD → PrngReg), Pre_LossTotalIdeal m →
    (∀ c : Dev Cert.LossTotalIdeal.nD,
      m ((c.tc : Thread Cert.LossTotalIdeal.nD Cert.LossTotalIdeal.τ).loc Cert.LossTotalIdeal.main_arg0) = Layout.block ⟨2, ![1, 128]⟩ ⟨2, ![8, 128]⟩ 0 8 c (m' (((0 : Dev Cert.LossTotalRefIdeal.nD).tc : Thread Cert.LossTotalRefIdeal.nD Cert.LossTotalRefIdeal.τ).loc Cert.LossTotalRefIdeal.main_arg0))) →
    ∃ (v0 : Buf (Elt Ideal) (((0 : Dev Cert.LossTotalRefIdeal.nD).tc : Thread Cert.LossTotalRefIdeal.nD Cert.LossTotalRefIdeal.τ).loc Cert.LossTotalRefIdeal.main_v2)),
      θ_run (Cert.LossTotalIdeal.defs (F := Ideal)) (onTc (τ := Cert.LossTotalIdeal.τ) (Cert.LossTotalIdeal.main (F := Ideal))) ⟨m, fun _ => 0, g⟩ (fun r => ∀ c : Dev Cert.LossTotalIdeal.nD,
          r.2.mem ((c.tc : Thread Cert.LossTotalIdeal.nD Cert.LossTotalIdeal.τ).loc Cert.LossTotalIdeal.main_v3) = v0
          ∧ r.2.mem ((c.tc : Thread Cert.LossTotalIdeal.nD Cert.LossTotalIdeal.τ).loc Cert.LossTotalIdeal.main_arg0) = m ((c.tc : Thread Cert.LossTotalIdeal.nD Cert.LossTotalIdeal.τ).loc Cert.LossTotalIdeal.main_arg0))
      ∧ θ_run (Cert.LossTotalRefIdeal.defs (F := Ideal)) (onTc (τ := Cert.LossTotalRefIdeal.τ) (Cert.LossTotalRefIdeal.main (F := Ideal))) ⟨m', fun _ => 0, g'⟩ (fun r =>
          r.2.mem (((0 : Dev Cert.LossTotalRefIdeal.nD).tc : Thread Cert.LossTotalRefIdeal.nD Cert.LossTotalRefIdeal.τ).loc Cert.LossTotalRefIdeal.main_v2) = v0
          ∧ r.2.mem (((0 : Dev Cert.LossTotalRefIdeal.nD).tc : Thread Cert.LossTotalRefIdeal.nD Cert.LossTotalRefIdeal.τ).loc Cert.LossTotalRefIdeal.main_arg0) = m' (((0 : Dev Cert.LossTotalRefIdeal.nD).tc : Thread Cert.LossTotalRefIdeal.nD Cert.LossTotalRefIdeal.τ).loc Cert.LossTotalRefIdeal.main_arg0))

def preserves_FwdScan_FwdScanIdeal : Prop :=
  True

def preserves_BwdScan_BwdScanIdeal : Prop :=
  True

def preserves_RedIn_RedInIdeal : Prop :=
  True

def algebraic_RedInIdeal_RedInRefIdeal [hRedInIdeal : Cert.RedInIdeal.Facts] [hRedInRefIdeal : Cert.RedInRefIdeal.Facts] [hPre_device_in : Cert.Pre_device_in.Facts] : Prop :=
  ∀ (m : (ℓ : Loc Cert.RedInIdeal.nD Cert.RedInIdeal.τ Cert.RedInIdeal.sig) → Buf (Elt Ideal) ℓ) (g : Dev Cert.RedInIdeal.nD → PrngReg)
    (m' : (ℓ : Loc Cert.RedInRefIdeal.nD Cert.RedInRefIdeal.τ Cert.RedInRefIdeal.sig) → Buf (Elt Ideal) ℓ) (g' : Dev Cert.RedInRefIdeal.nD → PrngReg), Pre_RedInIdeal m →
    (∀ c : Dev Cert.RedInIdeal.nD,
      m' ((c.tc : Thread Cert.RedInRefIdeal.nD Cert.RedInRefIdeal.τ).loc Cert.RedInRefIdeal.main_arg0) = m ((c.tc : Thread Cert.RedInIdeal.nD Cert.RedInIdeal.τ).loc Cert.RedInIdeal.main_arg0)
      ∧ m' ((c.tc : Thread Cert.RedInRefIdeal.nD Cert.RedInRefIdeal.τ).loc Cert.RedInRefIdeal.main_arg1) = m ((c.tc : Thread Cert.RedInIdeal.nD Cert.RedInIdeal.τ).loc Cert.RedInIdeal.main_arg1)
      ∧ m' ((c.tc : Thread Cert.RedInRefIdeal.nD Cert.RedInRefIdeal.τ).loc Cert.RedInRefIdeal.main_arg2) = m ((c.tc : Thread Cert.RedInIdeal.nD Cert.RedInIdeal.τ).loc Cert.RedInIdeal.main_arg2)
      ∧ m' ((c.tc : Thread Cert.RedInRefIdeal.nD Cert.RedInRefIdeal.τ).loc Cert.RedInRefIdeal.main_arg3) = m ((c.tc : Thread Cert.RedInIdeal.nD Cert.RedInIdeal.τ).loc Cert.RedInIdeal.main_arg3)
      ∧ m' ((c.tc : Thread Cert.RedInRefIdeal.nD Cert.RedInRefIdeal.τ).loc Cert.RedInRefIdeal.main_arg4) = m ((c.tc : Thread Cert.RedInIdeal.nD Cert.RedInIdeal.τ).loc Cert.RedInIdeal.main_arg4)) →
    ∃ (v0 : (c : Dev Cert.RedInIdeal.nD) → Buf (Elt Ideal) ((c.tc : Thread Cert.RedInIdeal.nD Cert.RedInIdeal.τ).loc Cert.RedInIdeal.main_v0)),
      θ_run (Cert.RedInIdeal.defs (F := Ideal)) (onTc (τ := Cert.RedInIdeal.τ) (Cert.RedInIdeal.main (F := Ideal))) ⟨m, fun _ => 0, g⟩ (fun r => ∀ c : Dev Cert.RedInIdeal.nD,
          r.2.mem ((c.tc : Thread Cert.RedInIdeal.nD Cert.RedInIdeal.τ).loc Cert.RedInIdeal.main_v0) = v0 c
          ∧ r.2.mem ((c.tc : Thread Cert.RedInIdeal.nD Cert.RedInIdeal.τ).loc Cert.RedInIdeal.main_arg0) = m ((c.tc : Thread Cert.RedInIdeal.nD Cert.RedInIdeal.τ).loc Cert.RedInIdeal.main_arg0)
          ∧ r.2.mem ((c.tc : Thread Cert.RedInIdeal.nD Cert.RedInIdeal.τ).loc Cert.RedInIdeal.main_arg1) = m ((c.tc : Thread Cert.RedInIdeal.nD Cert.RedInIdeal.τ).loc Cert.RedInIdeal.main_arg1)
          ∧ r.2.mem ((c.tc : Thread Cert.RedInIdeal.nD Cert.RedInIdeal.τ).loc Cert.RedInIdeal.main_arg2) = m ((c.tc : Thread Cert.RedInIdeal.nD Cert.RedInIdeal.τ).loc Cert.RedInIdeal.main_arg2)
          ∧ r.2.mem ((c.tc : Thread Cert.RedInIdeal.nD Cert.RedInIdeal.τ).loc Cert.RedInIdeal.main_arg3) = m ((c.tc : Thread Cert.RedInIdeal.nD Cert.RedInIdeal.τ).loc Cert.RedInIdeal.main_arg3)
          ∧ r.2.mem ((c.tc : Thread Cert.RedInIdeal.nD Cert.RedInIdeal.τ).loc Cert.RedInIdeal.main_arg4) = m ((c.tc : Thread Cert.RedInIdeal.nD Cert.RedInIdeal.τ).loc Cert.RedInIdeal.main_arg4))
      ∧ θ_run (Cert.RedInRefIdeal.defs (F := Ideal)) (onTc (τ := Cert.RedInRefIdeal.τ) (Cert.RedInRefIdeal.main (F := Ideal))) ⟨m', fun _ => 0, g'⟩ (fun r => ∀ c : Dev Cert.RedInRefIdeal.nD,
          r.2.mem ((c.tc : Thread Cert.RedInRefIdeal.nD Cert.RedInRefIdeal.τ).loc Cert.RedInRefIdeal.main_v60) = v0 c
          ∧ r.2.mem ((c.tc : Thread Cert.RedInRefIdeal.nD Cert.RedInRefIdeal.τ).loc Cert.RedInRefIdeal.main_arg0) = m' ((c.tc : Thread Cert.RedInRefIdeal.nD Cert.RedInRefIdeal.τ).loc Cert.RedInRefIdeal.main_arg0)
          ∧ r.2.mem ((c.tc : Thread Cert.RedInRefIdeal.nD Cert.RedInRefIdeal.τ).loc Cert.RedInRefIdeal.main_arg1) = m' ((c.tc : Thread Cert.RedInRefIdeal.nD Cert.RedInRefIdeal.τ).loc Cert.RedInRefIdeal.main_arg1)
          ∧ r.2.mem ((c.tc : Thread Cert.RedInRefIdeal.nD Cert.RedInRefIdeal.τ).loc Cert.RedInRefIdeal.main_arg2) = m' ((c.tc : Thread Cert.RedInRefIdeal.nD Cert.RedInRefIdeal.τ).loc Cert.RedInRefIdeal.main_arg2)
          ∧ r.2.mem ((c.tc : Thread Cert.RedInRefIdeal.nD Cert.RedInRefIdeal.τ).loc Cert.RedInRefIdeal.main_arg3) = m' ((c.tc : Thread Cert.RedInRefIdeal.nD Cert.RedInRefIdeal.τ).loc Cert.RedInRefIdeal.main_arg3)
          ∧ r.2.mem ((c.tc : Thread Cert.RedInRefIdeal.nD Cert.RedInRefIdeal.τ).loc Cert.RedInRefIdeal.main_arg4) = m' ((c.tc : Thread Cert.RedInRefIdeal.nD Cert.RedInRefIdeal.τ).loc Cert.RedInRefIdeal.main_arg4))

def preserves_RedGlu_RedGluIdeal : Prop :=
  True

def algebraic_RedGluIdeal_RedGluRefIdeal [hRedGluIdeal : Cert.RedGluIdeal.Facts] [hRedGluRefIdeal : Cert.RedGluRefIdeal.Facts] [hPre_device_glu : Cert.Pre_device_glu.Facts] : Prop :=
  ∀ (m : (ℓ : Loc Cert.RedGluIdeal.nD Cert.RedGluIdeal.τ Cert.RedGluIdeal.sig) → Buf (Elt Ideal) ℓ) (g : Dev Cert.RedGluIdeal.nD → PrngReg)
    (m' : (ℓ : Loc Cert.RedGluRefIdeal.nD Cert.RedGluRefIdeal.τ Cert.RedGluRefIdeal.sig) → Buf (Elt Ideal) ℓ) (g' : Dev Cert.RedGluRefIdeal.nD → PrngReg), Pre_RedGluIdeal m →
    (∀ c : Dev Cert.RedGluIdeal.nD,
      m' ((c.tc : Thread Cert.RedGluRefIdeal.nD Cert.RedGluRefIdeal.τ).loc Cert.RedGluRefIdeal.main_arg0) = m ((c.tc : Thread Cert.RedGluIdeal.nD Cert.RedGluIdeal.τ).loc Cert.RedGluIdeal.main_arg0)
      ∧ m' ((c.tc : Thread Cert.RedGluRefIdeal.nD Cert.RedGluRefIdeal.τ).loc Cert.RedGluRefIdeal.main_arg1) = m ((c.tc : Thread Cert.RedGluIdeal.nD Cert.RedGluIdeal.τ).loc Cert.RedGluIdeal.main_arg1)
      ∧ m' ((c.tc : Thread Cert.RedGluRefIdeal.nD Cert.RedGluRefIdeal.τ).loc Cert.RedGluRefIdeal.main_arg2) = m ((c.tc : Thread Cert.RedGluIdeal.nD Cert.RedGluIdeal.τ).loc Cert.RedGluIdeal.main_arg2)
      ∧ m' ((c.tc : Thread Cert.RedGluRefIdeal.nD Cert.RedGluRefIdeal.τ).loc Cert.RedGluRefIdeal.main_arg3) = m ((c.tc : Thread Cert.RedGluIdeal.nD Cert.RedGluIdeal.τ).loc Cert.RedGluIdeal.main_arg3)
      ∧ m' ((c.tc : Thread Cert.RedGluRefIdeal.nD Cert.RedGluRefIdeal.τ).loc Cert.RedGluRefIdeal.main_arg4) = m ((c.tc : Thread Cert.RedGluIdeal.nD Cert.RedGluIdeal.τ).loc Cert.RedGluIdeal.main_arg4)) →
    ∃ (v0 : (c : Dev Cert.RedGluIdeal.nD) → Buf (Elt Ideal) ((c.tc : Thread Cert.RedGluIdeal.nD Cert.RedGluIdeal.τ).loc Cert.RedGluIdeal.main_v0)),
      θ_run (Cert.RedGluIdeal.defs (F := Ideal)) (onTc (τ := Cert.RedGluIdeal.τ) (Cert.RedGluIdeal.main (F := Ideal))) ⟨m, fun _ => 0, g⟩ (fun r => ∀ c : Dev Cert.RedGluIdeal.nD,
          r.2.mem ((c.tc : Thread Cert.RedGluIdeal.nD Cert.RedGluIdeal.τ).loc Cert.RedGluIdeal.main_v0) = v0 c
          ∧ r.2.mem ((c.tc : Thread Cert.RedGluIdeal.nD Cert.RedGluIdeal.τ).loc Cert.RedGluIdeal.main_arg0) = m ((c.tc : Thread Cert.RedGluIdeal.nD Cert.RedGluIdeal.τ).loc Cert.RedGluIdeal.main_arg0)
          ∧ r.2.mem ((c.tc : Thread Cert.RedGluIdeal.nD Cert.RedGluIdeal.τ).loc Cert.RedGluIdeal.main_arg1) = m ((c.tc : Thread Cert.RedGluIdeal.nD Cert.RedGluIdeal.τ).loc Cert.RedGluIdeal.main_arg1)
          ∧ r.2.mem ((c.tc : Thread Cert.RedGluIdeal.nD Cert.RedGluIdeal.τ).loc Cert.RedGluIdeal.main_arg2) = m ((c.tc : Thread Cert.RedGluIdeal.nD Cert.RedGluIdeal.τ).loc Cert.RedGluIdeal.main_arg2)
          ∧ r.2.mem ((c.tc : Thread Cert.RedGluIdeal.nD Cert.RedGluIdeal.τ).loc Cert.RedGluIdeal.main_arg3) = m ((c.tc : Thread Cert.RedGluIdeal.nD Cert.RedGluIdeal.τ).loc Cert.RedGluIdeal.main_arg3)
          ∧ r.2.mem ((c.tc : Thread Cert.RedGluIdeal.nD Cert.RedGluIdeal.τ).loc Cert.RedGluIdeal.main_arg4) = m ((c.tc : Thread Cert.RedGluIdeal.nD Cert.RedGluIdeal.τ).loc Cert.RedGluIdeal.main_arg4))
      ∧ θ_run (Cert.RedGluRefIdeal.defs (F := Ideal)) (onTc (τ := Cert.RedGluRefIdeal.τ) (Cert.RedGluRefIdeal.main (F := Ideal))) ⟨m', fun _ => 0, g'⟩ (fun r => ∀ c : Dev Cert.RedGluRefIdeal.nD,
          r.2.mem ((c.tc : Thread Cert.RedGluRefIdeal.nD Cert.RedGluRefIdeal.τ).loc Cert.RedGluRefIdeal.main_v74) = v0 c
          ∧ r.2.mem ((c.tc : Thread Cert.RedGluRefIdeal.nD Cert.RedGluRefIdeal.τ).loc Cert.RedGluRefIdeal.main_arg0) = m' ((c.tc : Thread Cert.RedGluRefIdeal.nD Cert.RedGluRefIdeal.τ).loc Cert.RedGluRefIdeal.main_arg0)
          ∧ r.2.mem ((c.tc : Thread Cert.RedGluRefIdeal.nD Cert.RedGluRefIdeal.τ).loc Cert.RedGluRefIdeal.main_arg1) = m' ((c.tc : Thread Cert.RedGluRefIdeal.nD Cert.RedGluRefIdeal.τ).loc Cert.RedGluRefIdeal.main_arg1)
          ∧ r.2.mem ((c.tc : Thread Cert.RedGluRefIdeal.nD Cert.RedGluRefIdeal.τ).loc Cert.RedGluRefIdeal.main_arg2) = m' ((c.tc : Thread Cert.RedGluRefIdeal.nD Cert.RedGluRefIdeal.τ).loc Cert.RedGluRefIdeal.main_arg2)
          ∧ r.2.mem ((c.tc : Thread Cert.RedGluRefIdeal.nD Cert.RedGluRefIdeal.τ).loc Cert.RedGluRefIdeal.main_arg3) = m' ((c.tc : Thread Cert.RedGluRefIdeal.nD Cert.RedGluRefIdeal.τ).loc Cert.RedGluRefIdeal.main_arg3)
          ∧ r.2.mem ((c.tc : Thread Cert.RedGluRefIdeal.nD Cert.RedGluRefIdeal.τ).loc Cert.RedGluRefIdeal.main_arg4) = m' ((c.tc : Thread Cert.RedGluRefIdeal.nD Cert.RedGluRefIdeal.τ).loc Cert.RedGluRefIdeal.main_arg4))

def preserves_RedOut_RedOutIdeal : Prop :=
  True

def algebraic_RedOutIdeal_RedOutRefIdeal [hRedOutIdeal : Cert.RedOutIdeal.Facts] [hRedOutRefIdeal : Cert.RedOutRefIdeal.Facts] [hPre_device_glu : Cert.Pre_device_glu.Facts] : Prop :=
  ∀ (m : (ℓ : Loc Cert.RedOutIdeal.nD Cert.RedOutIdeal.τ Cert.RedOutIdeal.sig) → Buf (Elt Ideal) ℓ) (g : Dev Cert.RedOutIdeal.nD → PrngReg)
    (m' : (ℓ : Loc Cert.RedOutRefIdeal.nD Cert.RedOutRefIdeal.τ Cert.RedOutRefIdeal.sig) → Buf (Elt Ideal) ℓ) (g' : Dev Cert.RedOutRefIdeal.nD → PrngReg), Pre_RedOutIdeal m →
    (∀ c : Dev Cert.RedOutIdeal.nD,
      m' ((c.tc : Thread Cert.RedOutRefIdeal.nD Cert.RedOutRefIdeal.τ).loc Cert.RedOutRefIdeal.main_arg0) = m ((c.tc : Thread Cert.RedOutIdeal.nD Cert.RedOutIdeal.τ).loc Cert.RedOutIdeal.main_arg0)
      ∧ m' ((c.tc : Thread Cert.RedOutRefIdeal.nD Cert.RedOutRefIdeal.τ).loc Cert.RedOutRefIdeal.main_arg1) = m ((c.tc : Thread Cert.RedOutIdeal.nD Cert.RedOutIdeal.τ).loc Cert.RedOutIdeal.main_arg1)
      ∧ m' ((c.tc : Thread Cert.RedOutRefIdeal.nD Cert.RedOutRefIdeal.τ).loc Cert.RedOutRefIdeal.main_arg2) = m ((c.tc : Thread Cert.RedOutIdeal.nD Cert.RedOutIdeal.τ).loc Cert.RedOutIdeal.main_arg2)
      ∧ m' ((c.tc : Thread Cert.RedOutRefIdeal.nD Cert.RedOutRefIdeal.τ).loc Cert.RedOutRefIdeal.main_arg3) = m ((c.tc : Thread Cert.RedOutIdeal.nD Cert.RedOutIdeal.τ).loc Cert.RedOutIdeal.main_arg3)
      ∧ m' ((c.tc : Thread Cert.RedOutRefIdeal.nD Cert.RedOutRefIdeal.τ).loc Cert.RedOutRefIdeal.main_arg4) = m ((c.tc : Thread Cert.RedOutIdeal.nD Cert.RedOutIdeal.τ).loc Cert.RedOutIdeal.main_arg4)) →
    ∃ (v0 : (c : Dev Cert.RedOutIdeal.nD) → Buf (Elt Ideal) ((c.tc : Thread Cert.RedOutIdeal.nD Cert.RedOutIdeal.τ).loc Cert.RedOutIdeal.main_v0)),
      θ_run (Cert.RedOutIdeal.defs (F := Ideal)) (onTc (τ := Cert.RedOutIdeal.τ) (Cert.RedOutIdeal.main (F := Ideal))) ⟨m, fun _ => 0, g⟩ (fun r => ∀ c : Dev Cert.RedOutIdeal.nD,
          r.2.mem ((c.tc : Thread Cert.RedOutIdeal.nD Cert.RedOutIdeal.τ).loc Cert.RedOutIdeal.main_v0) = v0 c
          ∧ r.2.mem ((c.tc : Thread Cert.RedOutIdeal.nD Cert.RedOutIdeal.τ).loc Cert.RedOutIdeal.main_arg0) = m ((c.tc : Thread Cert.RedOutIdeal.nD Cert.RedOutIdeal.τ).loc Cert.RedOutIdeal.main_arg0)
          ∧ r.2.mem ((c.tc : Thread Cert.RedOutIdeal.nD Cert.RedOutIdeal.τ).loc Cert.RedOutIdeal.main_arg1) = m ((c.tc : Thread Cert.RedOutIdeal.nD Cert.RedOutIdeal.τ).loc Cert.RedOutIdeal.main_arg1)
          ∧ r.2.mem ((c.tc : Thread Cert.RedOutIdeal.nD Cert.RedOutIdeal.τ).loc Cert.RedOutIdeal.main_arg2) = m ((c.tc : Thread Cert.RedOutIdeal.nD Cert.RedOutIdeal.τ).loc Cert.RedOutIdeal.main_arg2)
          ∧ r.2.mem ((c.tc : Thread Cert.RedOutIdeal.nD Cert.RedOutIdeal.τ).loc Cert.RedOutIdeal.main_arg3) = m ((c.tc : Thread Cert.RedOutIdeal.nD Cert.RedOutIdeal.τ).loc Cert.RedOutIdeal.main_arg3)
          ∧ r.2.mem ((c.tc : Thread Cert.RedOutIdeal.nD Cert.RedOutIdeal.τ).loc Cert.RedOutIdeal.main_arg4) = m ((c.tc : Thread Cert.RedOutIdeal.nD Cert.RedOutIdeal.τ).loc Cert.RedOutIdeal.main_arg4))
      ∧ θ_run (Cert.RedOutRefIdeal.defs (F := Ideal)) (onTc (τ := Cert.RedOutRefIdeal.τ) (Cert.RedOutRefIdeal.main (F := Ideal))) ⟨m', fun _ => 0, g'⟩ (fun r => ∀ c : Dev Cert.RedOutRefIdeal.nD,
          r.2.mem ((c.tc : Thread Cert.RedOutRefIdeal.nD Cert.RedOutRefIdeal.τ).loc Cert.RedOutRefIdeal.main_v74) = v0 c
          ∧ r.2.mem ((c.tc : Thread Cert.RedOutRefIdeal.nD Cert.RedOutRefIdeal.τ).loc Cert.RedOutRefIdeal.main_arg0) = m' ((c.tc : Thread Cert.RedOutRefIdeal.nD Cert.RedOutRefIdeal.τ).loc Cert.RedOutRefIdeal.main_arg0)
          ∧ r.2.mem ((c.tc : Thread Cert.RedOutRefIdeal.nD Cert.RedOutRefIdeal.τ).loc Cert.RedOutRefIdeal.main_arg1) = m' ((c.tc : Thread Cert.RedOutRefIdeal.nD Cert.RedOutRefIdeal.τ).loc Cert.RedOutRefIdeal.main_arg1)
          ∧ r.2.mem ((c.tc : Thread Cert.RedOutRefIdeal.nD Cert.RedOutRefIdeal.τ).loc Cert.RedOutRefIdeal.main_arg2) = m' ((c.tc : Thread Cert.RedOutRefIdeal.nD Cert.RedOutRefIdeal.τ).loc Cert.RedOutRefIdeal.main_arg2)
          ∧ r.2.mem ((c.tc : Thread Cert.RedOutRefIdeal.nD Cert.RedOutRefIdeal.τ).loc Cert.RedOutRefIdeal.main_arg3) = m' ((c.tc : Thread Cert.RedOutRefIdeal.nD Cert.RedOutRefIdeal.τ).loc Cert.RedOutRefIdeal.main_arg3)
          ∧ r.2.mem ((c.tc : Thread Cert.RedOutRefIdeal.nD Cert.RedOutRefIdeal.τ).loc Cert.RedOutRefIdeal.main_arg4) = m' ((c.tc : Thread Cert.RedOutRefIdeal.nD Cert.RedOutRefIdeal.τ).loc Cert.RedOutRefIdeal.main_arg4))

def preserves_RedGate_RedGateIdeal : Prop :=
  True

def algebraic_RedGateIdeal_RedGateRefIdeal [hRedGateIdeal : Cert.RedGateIdeal.Facts] [hRedGateRefIdeal : Cert.RedGateRefIdeal.Facts] [hPre_device_ffn : Cert.Pre_device_ffn.Facts] : Prop :=
  ∀ (m : (ℓ : Loc Cert.RedGateIdeal.nD Cert.RedGateIdeal.τ Cert.RedGateIdeal.sig) → Buf (Elt Ideal) ℓ) (g : Dev Cert.RedGateIdeal.nD → PrngReg)
    (m' : (ℓ : Loc Cert.RedGateRefIdeal.nD Cert.RedGateRefIdeal.τ Cert.RedGateRefIdeal.sig) → Buf (Elt Ideal) ℓ) (g' : Dev Cert.RedGateRefIdeal.nD → PrngReg), Pre_RedGateIdeal m →
    (∀ c : Dev Cert.RedGateIdeal.nD,
      m' ((c.tc : Thread Cert.RedGateRefIdeal.nD Cert.RedGateRefIdeal.τ).loc Cert.RedGateRefIdeal.main_arg0) = m ((c.tc : Thread Cert.RedGateIdeal.nD Cert.RedGateIdeal.τ).loc Cert.RedGateIdeal.main_arg0)
      ∧ m' ((c.tc : Thread Cert.RedGateRefIdeal.nD Cert.RedGateRefIdeal.τ).loc Cert.RedGateRefIdeal.main_arg1) = m ((c.tc : Thread Cert.RedGateIdeal.nD Cert.RedGateIdeal.τ).loc Cert.RedGateIdeal.main_arg1)
      ∧ m' ((c.tc : Thread Cert.RedGateRefIdeal.nD Cert.RedGateRefIdeal.τ).loc Cert.RedGateRefIdeal.main_arg2) = m ((c.tc : Thread Cert.RedGateIdeal.nD Cert.RedGateIdeal.τ).loc Cert.RedGateIdeal.main_arg2)
      ∧ m' ((c.tc : Thread Cert.RedGateRefIdeal.nD Cert.RedGateRefIdeal.τ).loc Cert.RedGateRefIdeal.main_arg3) = m ((c.tc : Thread Cert.RedGateIdeal.nD Cert.RedGateIdeal.τ).loc Cert.RedGateIdeal.main_arg3)
      ∧ m' ((c.tc : Thread Cert.RedGateRefIdeal.nD Cert.RedGateRefIdeal.τ).loc Cert.RedGateRefIdeal.main_arg4) = m ((c.tc : Thread Cert.RedGateIdeal.nD Cert.RedGateIdeal.τ).loc Cert.RedGateIdeal.main_arg4)) →
    ∃ (v0 : (c : Dev Cert.RedGateIdeal.nD) → Buf (Elt Ideal) ((c.tc : Thread Cert.RedGateIdeal.nD Cert.RedGateIdeal.τ).loc Cert.RedGateIdeal.main_v0)),
      θ_run (Cert.RedGateIdeal.defs (F := Ideal)) (onTc (τ := Cert.RedGateIdeal.τ) (Cert.RedGateIdeal.main (F := Ideal))) ⟨m, fun _ => 0, g⟩ (fun r => ∀ c : Dev Cert.RedGateIdeal.nD,
          r.2.mem ((c.tc : Thread Cert.RedGateIdeal.nD Cert.RedGateIdeal.τ).loc Cert.RedGateIdeal.main_v0) = v0 c
          ∧ r.2.mem ((c.tc : Thread Cert.RedGateIdeal.nD Cert.RedGateIdeal.τ).loc Cert.RedGateIdeal.main_arg0) = m ((c.tc : Thread Cert.RedGateIdeal.nD Cert.RedGateIdeal.τ).loc Cert.RedGateIdeal.main_arg0)
          ∧ r.2.mem ((c.tc : Thread Cert.RedGateIdeal.nD Cert.RedGateIdeal.τ).loc Cert.RedGateIdeal.main_arg1) = m ((c.tc : Thread Cert.RedGateIdeal.nD Cert.RedGateIdeal.τ).loc Cert.RedGateIdeal.main_arg1)
          ∧ r.2.mem ((c.tc : Thread Cert.RedGateIdeal.nD Cert.RedGateIdeal.τ).loc Cert.RedGateIdeal.main_arg2) = m ((c.tc : Thread Cert.RedGateIdeal.nD Cert.RedGateIdeal.τ).loc Cert.RedGateIdeal.main_arg2)
          ∧ r.2.mem ((c.tc : Thread Cert.RedGateIdeal.nD Cert.RedGateIdeal.τ).loc Cert.RedGateIdeal.main_arg3) = m ((c.tc : Thread Cert.RedGateIdeal.nD Cert.RedGateIdeal.τ).loc Cert.RedGateIdeal.main_arg3)
          ∧ r.2.mem ((c.tc : Thread Cert.RedGateIdeal.nD Cert.RedGateIdeal.τ).loc Cert.RedGateIdeal.main_arg4) = m ((c.tc : Thread Cert.RedGateIdeal.nD Cert.RedGateIdeal.τ).loc Cert.RedGateIdeal.main_arg4))
      ∧ θ_run (Cert.RedGateRefIdeal.defs (F := Ideal)) (onTc (τ := Cert.RedGateRefIdeal.τ) (Cert.RedGateRefIdeal.main (F := Ideal))) ⟨m', fun _ => 0, g'⟩ (fun r => ∀ c : Dev Cert.RedGateRefIdeal.nD,
          r.2.mem ((c.tc : Thread Cert.RedGateRefIdeal.nD Cert.RedGateRefIdeal.τ).loc Cert.RedGateRefIdeal.main_v60) = v0 c
          ∧ r.2.mem ((c.tc : Thread Cert.RedGateRefIdeal.nD Cert.RedGateRefIdeal.τ).loc Cert.RedGateRefIdeal.main_arg0) = m' ((c.tc : Thread Cert.RedGateRefIdeal.nD Cert.RedGateRefIdeal.τ).loc Cert.RedGateRefIdeal.main_arg0)
          ∧ r.2.mem ((c.tc : Thread Cert.RedGateRefIdeal.nD Cert.RedGateRefIdeal.τ).loc Cert.RedGateRefIdeal.main_arg1) = m' ((c.tc : Thread Cert.RedGateRefIdeal.nD Cert.RedGateRefIdeal.τ).loc Cert.RedGateRefIdeal.main_arg1)
          ∧ r.2.mem ((c.tc : Thread Cert.RedGateRefIdeal.nD Cert.RedGateRefIdeal.τ).loc Cert.RedGateRefIdeal.main_arg2) = m' ((c.tc : Thread Cert.RedGateRefIdeal.nD Cert.RedGateRefIdeal.τ).loc Cert.RedGateRefIdeal.main_arg2)
          ∧ r.2.mem ((c.tc : Thread Cert.RedGateRefIdeal.nD Cert.RedGateRefIdeal.τ).loc Cert.RedGateRefIdeal.main_arg3) = m' ((c.tc : Thread Cert.RedGateRefIdeal.nD Cert.RedGateRefIdeal.τ).loc Cert.RedGateRefIdeal.main_arg3)
          ∧ r.2.mem ((c.tc : Thread Cert.RedGateRefIdeal.nD Cert.RedGateRefIdeal.τ).loc Cert.RedGateRefIdeal.main_arg4) = m' ((c.tc : Thread Cert.RedGateRefIdeal.nD Cert.RedGateRefIdeal.τ).loc Cert.RedGateRefIdeal.main_arg4))

def preserves_RedUp_RedUpIdeal : Prop :=
  True

def algebraic_RedUpIdeal_RedUpRefIdeal [hRedUpIdeal : Cert.RedUpIdeal.Facts] [hRedUpRefIdeal : Cert.RedUpRefIdeal.Facts] [hPre_device_ffn : Cert.Pre_device_ffn.Facts] : Prop :=
  ∀ (m : (ℓ : Loc Cert.RedUpIdeal.nD Cert.RedUpIdeal.τ Cert.RedUpIdeal.sig) → Buf (Elt Ideal) ℓ) (g : Dev Cert.RedUpIdeal.nD → PrngReg)
    (m' : (ℓ : Loc Cert.RedUpRefIdeal.nD Cert.RedUpRefIdeal.τ Cert.RedUpRefIdeal.sig) → Buf (Elt Ideal) ℓ) (g' : Dev Cert.RedUpRefIdeal.nD → PrngReg), Pre_RedUpIdeal m →
    (∀ c : Dev Cert.RedUpIdeal.nD,
      m' ((c.tc : Thread Cert.RedUpRefIdeal.nD Cert.RedUpRefIdeal.τ).loc Cert.RedUpRefIdeal.main_arg0) = m ((c.tc : Thread Cert.RedUpIdeal.nD Cert.RedUpIdeal.τ).loc Cert.RedUpIdeal.main_arg0)
      ∧ m' ((c.tc : Thread Cert.RedUpRefIdeal.nD Cert.RedUpRefIdeal.τ).loc Cert.RedUpRefIdeal.main_arg1) = m ((c.tc : Thread Cert.RedUpIdeal.nD Cert.RedUpIdeal.τ).loc Cert.RedUpIdeal.main_arg1)
      ∧ m' ((c.tc : Thread Cert.RedUpRefIdeal.nD Cert.RedUpRefIdeal.τ).loc Cert.RedUpRefIdeal.main_arg2) = m ((c.tc : Thread Cert.RedUpIdeal.nD Cert.RedUpIdeal.τ).loc Cert.RedUpIdeal.main_arg2)
      ∧ m' ((c.tc : Thread Cert.RedUpRefIdeal.nD Cert.RedUpRefIdeal.τ).loc Cert.RedUpRefIdeal.main_arg3) = m ((c.tc : Thread Cert.RedUpIdeal.nD Cert.RedUpIdeal.τ).loc Cert.RedUpIdeal.main_arg3)
      ∧ m' ((c.tc : Thread Cert.RedUpRefIdeal.nD Cert.RedUpRefIdeal.τ).loc Cert.RedUpRefIdeal.main_arg4) = m ((c.tc : Thread Cert.RedUpIdeal.nD Cert.RedUpIdeal.τ).loc Cert.RedUpIdeal.main_arg4)) →
    ∃ (v0 : (c : Dev Cert.RedUpIdeal.nD) → Buf (Elt Ideal) ((c.tc : Thread Cert.RedUpIdeal.nD Cert.RedUpIdeal.τ).loc Cert.RedUpIdeal.main_v0)),
      θ_run (Cert.RedUpIdeal.defs (F := Ideal)) (onTc (τ := Cert.RedUpIdeal.τ) (Cert.RedUpIdeal.main (F := Ideal))) ⟨m, fun _ => 0, g⟩ (fun r => ∀ c : Dev Cert.RedUpIdeal.nD,
          r.2.mem ((c.tc : Thread Cert.RedUpIdeal.nD Cert.RedUpIdeal.τ).loc Cert.RedUpIdeal.main_v0) = v0 c
          ∧ r.2.mem ((c.tc : Thread Cert.RedUpIdeal.nD Cert.RedUpIdeal.τ).loc Cert.RedUpIdeal.main_arg0) = m ((c.tc : Thread Cert.RedUpIdeal.nD Cert.RedUpIdeal.τ).loc Cert.RedUpIdeal.main_arg0)
          ∧ r.2.mem ((c.tc : Thread Cert.RedUpIdeal.nD Cert.RedUpIdeal.τ).loc Cert.RedUpIdeal.main_arg1) = m ((c.tc : Thread Cert.RedUpIdeal.nD Cert.RedUpIdeal.τ).loc Cert.RedUpIdeal.main_arg1)
          ∧ r.2.mem ((c.tc : Thread Cert.RedUpIdeal.nD Cert.RedUpIdeal.τ).loc Cert.RedUpIdeal.main_arg2) = m ((c.tc : Thread Cert.RedUpIdeal.nD Cert.RedUpIdeal.τ).loc Cert.RedUpIdeal.main_arg2)
          ∧ r.2.mem ((c.tc : Thread Cert.RedUpIdeal.nD Cert.RedUpIdeal.τ).loc Cert.RedUpIdeal.main_arg3) = m ((c.tc : Thread Cert.RedUpIdeal.nD Cert.RedUpIdeal.τ).loc Cert.RedUpIdeal.main_arg3)
          ∧ r.2.mem ((c.tc : Thread Cert.RedUpIdeal.nD Cert.RedUpIdeal.τ).loc Cert.RedUpIdeal.main_arg4) = m ((c.tc : Thread Cert.RedUpIdeal.nD Cert.RedUpIdeal.τ).loc Cert.RedUpIdeal.main_arg4))
      ∧ θ_run (Cert.RedUpRefIdeal.defs (F := Ideal)) (onTc (τ := Cert.RedUpRefIdeal.τ) (Cert.RedUpRefIdeal.main (F := Ideal))) ⟨m', fun _ => 0, g'⟩ (fun r => ∀ c : Dev Cert.RedUpRefIdeal.nD,
          r.2.mem ((c.tc : Thread Cert.RedUpRefIdeal.nD Cert.RedUpRefIdeal.τ).loc Cert.RedUpRefIdeal.main_v60) = v0 c
          ∧ r.2.mem ((c.tc : Thread Cert.RedUpRefIdeal.nD Cert.RedUpRefIdeal.τ).loc Cert.RedUpRefIdeal.main_arg0) = m' ((c.tc : Thread Cert.RedUpRefIdeal.nD Cert.RedUpRefIdeal.τ).loc Cert.RedUpRefIdeal.main_arg0)
          ∧ r.2.mem ((c.tc : Thread Cert.RedUpRefIdeal.nD Cert.RedUpRefIdeal.τ).loc Cert.RedUpRefIdeal.main_arg1) = m' ((c.tc : Thread Cert.RedUpRefIdeal.nD Cert.RedUpRefIdeal.τ).loc Cert.RedUpRefIdeal.main_arg1)
          ∧ r.2.mem ((c.tc : Thread Cert.RedUpRefIdeal.nD Cert.RedUpRefIdeal.τ).loc Cert.RedUpRefIdeal.main_arg2) = m' ((c.tc : Thread Cert.RedUpRefIdeal.nD Cert.RedUpRefIdeal.τ).loc Cert.RedUpRefIdeal.main_arg2)
          ∧ r.2.mem ((c.tc : Thread Cert.RedUpRefIdeal.nD Cert.RedUpRefIdeal.τ).loc Cert.RedUpRefIdeal.main_arg3) = m' ((c.tc : Thread Cert.RedUpRefIdeal.nD Cert.RedUpRefIdeal.τ).loc Cert.RedUpRefIdeal.main_arg3)
          ∧ r.2.mem ((c.tc : Thread Cert.RedUpRefIdeal.nD Cert.RedUpRefIdeal.τ).loc Cert.RedUpRefIdeal.main_arg4) = m' ((c.tc : Thread Cert.RedUpRefIdeal.nD Cert.RedUpRefIdeal.τ).loc Cert.RedUpRefIdeal.main_arg4))

def preserves_RedDown_RedDownIdeal : Prop :=
  True

def algebraic_RedDownIdeal_RedDownRefIdeal [hRedDownIdeal : Cert.RedDownIdeal.Facts] [hRedDownRefIdeal : Cert.RedDownRefIdeal.Facts] [hPre_device_down : Cert.Pre_device_down.Facts] : Prop :=
  ∀ (m : (ℓ : Loc Cert.RedDownIdeal.nD Cert.RedDownIdeal.τ Cert.RedDownIdeal.sig) → Buf (Elt Ideal) ℓ) (g : Dev Cert.RedDownIdeal.nD → PrngReg)
    (m' : (ℓ : Loc Cert.RedDownRefIdeal.nD Cert.RedDownRefIdeal.τ Cert.RedDownRefIdeal.sig) → Buf (Elt Ideal) ℓ) (g' : Dev Cert.RedDownRefIdeal.nD → PrngReg), Pre_RedDownIdeal m →
    (∀ c : Dev Cert.RedDownIdeal.nD,
      m' ((c.tc : Thread Cert.RedDownRefIdeal.nD Cert.RedDownRefIdeal.τ).loc Cert.RedDownRefIdeal.main_arg0) = m ((c.tc : Thread Cert.RedDownIdeal.nD Cert.RedDownIdeal.τ).loc Cert.RedDownIdeal.main_arg0)
      ∧ m' ((c.tc : Thread Cert.RedDownRefIdeal.nD Cert.RedDownRefIdeal.τ).loc Cert.RedDownRefIdeal.main_arg1) = m ((c.tc : Thread Cert.RedDownIdeal.nD Cert.RedDownIdeal.τ).loc Cert.RedDownIdeal.main_arg1)
      ∧ m' ((c.tc : Thread Cert.RedDownRefIdeal.nD Cert.RedDownRefIdeal.τ).loc Cert.RedDownRefIdeal.main_arg2) = m ((c.tc : Thread Cert.RedDownIdeal.nD Cert.RedDownIdeal.τ).loc Cert.RedDownIdeal.main_arg2)
      ∧ m' ((c.tc : Thread Cert.RedDownRefIdeal.nD Cert.RedDownRefIdeal.τ).loc Cert.RedDownRefIdeal.main_arg3) = m ((c.tc : Thread Cert.RedDownIdeal.nD Cert.RedDownIdeal.τ).loc Cert.RedDownIdeal.main_arg3)
      ∧ m' ((c.tc : Thread Cert.RedDownRefIdeal.nD Cert.RedDownRefIdeal.τ).loc Cert.RedDownRefIdeal.main_arg4) = m ((c.tc : Thread Cert.RedDownIdeal.nD Cert.RedDownIdeal.τ).loc Cert.RedDownIdeal.main_arg4)) →
    ∃ (v0 : (c : Dev Cert.RedDownIdeal.nD) → Buf (Elt Ideal) ((c.tc : Thread Cert.RedDownIdeal.nD Cert.RedDownIdeal.τ).loc Cert.RedDownIdeal.main_v0)),
      θ_run (Cert.RedDownIdeal.defs (F := Ideal)) (onTc (τ := Cert.RedDownIdeal.τ) (Cert.RedDownIdeal.main (F := Ideal))) ⟨m, fun _ => 0, g⟩ (fun r => ∀ c : Dev Cert.RedDownIdeal.nD,
          r.2.mem ((c.tc : Thread Cert.RedDownIdeal.nD Cert.RedDownIdeal.τ).loc Cert.RedDownIdeal.main_v0) = v0 c
          ∧ r.2.mem ((c.tc : Thread Cert.RedDownIdeal.nD Cert.RedDownIdeal.τ).loc Cert.RedDownIdeal.main_arg0) = m ((c.tc : Thread Cert.RedDownIdeal.nD Cert.RedDownIdeal.τ).loc Cert.RedDownIdeal.main_arg0)
          ∧ r.2.mem ((c.tc : Thread Cert.RedDownIdeal.nD Cert.RedDownIdeal.τ).loc Cert.RedDownIdeal.main_arg1) = m ((c.tc : Thread Cert.RedDownIdeal.nD Cert.RedDownIdeal.τ).loc Cert.RedDownIdeal.main_arg1)
          ∧ r.2.mem ((c.tc : Thread Cert.RedDownIdeal.nD Cert.RedDownIdeal.τ).loc Cert.RedDownIdeal.main_arg2) = m ((c.tc : Thread Cert.RedDownIdeal.nD Cert.RedDownIdeal.τ).loc Cert.RedDownIdeal.main_arg2)
          ∧ r.2.mem ((c.tc : Thread Cert.RedDownIdeal.nD Cert.RedDownIdeal.τ).loc Cert.RedDownIdeal.main_arg3) = m ((c.tc : Thread Cert.RedDownIdeal.nD Cert.RedDownIdeal.τ).loc Cert.RedDownIdeal.main_arg3)
          ∧ r.2.mem ((c.tc : Thread Cert.RedDownIdeal.nD Cert.RedDownIdeal.τ).loc Cert.RedDownIdeal.main_arg4) = m ((c.tc : Thread Cert.RedDownIdeal.nD Cert.RedDownIdeal.τ).loc Cert.RedDownIdeal.main_arg4))
      ∧ θ_run (Cert.RedDownRefIdeal.defs (F := Ideal)) (onTc (τ := Cert.RedDownRefIdeal.τ) (Cert.RedDownRefIdeal.main (F := Ideal))) ⟨m', fun _ => 0, g'⟩ (fun r => ∀ c : Dev Cert.RedDownRefIdeal.nD,
          r.2.mem ((c.tc : Thread Cert.RedDownRefIdeal.nD Cert.RedDownRefIdeal.τ).loc Cert.RedDownRefIdeal.main_v74) = v0 c
          ∧ r.2.mem ((c.tc : Thread Cert.RedDownRefIdeal.nD Cert.RedDownRefIdeal.τ).loc Cert.RedDownRefIdeal.main_arg0) = m' ((c.tc : Thread Cert.RedDownRefIdeal.nD Cert.RedDownRefIdeal.τ).loc Cert.RedDownRefIdeal.main_arg0)
          ∧ r.2.mem ((c.tc : Thread Cert.RedDownRefIdeal.nD Cert.RedDownRefIdeal.τ).loc Cert.RedDownRefIdeal.main_arg1) = m' ((c.tc : Thread Cert.RedDownRefIdeal.nD Cert.RedDownRefIdeal.τ).loc Cert.RedDownRefIdeal.main_arg1)
          ∧ r.2.mem ((c.tc : Thread Cert.RedDownRefIdeal.nD Cert.RedDownRefIdeal.τ).loc Cert.RedDownRefIdeal.main_arg2) = m' ((c.tc : Thread Cert.RedDownRefIdeal.nD Cert.RedDownRefIdeal.τ).loc Cert.RedDownRefIdeal.main_arg2)
          ∧ r.2.mem ((c.tc : Thread Cert.RedDownRefIdeal.nD Cert.RedDownRefIdeal.τ).loc Cert.RedDownRefIdeal.main_arg3) = m' ((c.tc : Thread Cert.RedDownRefIdeal.nD Cert.RedDownRefIdeal.τ).loc Cert.RedDownRefIdeal.main_arg3)
          ∧ r.2.mem ((c.tc : Thread Cert.RedDownRefIdeal.nD Cert.RedDownRefIdeal.τ).loc Cert.RedDownRefIdeal.main_arg4) = m' ((c.tc : Thread Cert.RedDownRefIdeal.nD Cert.RedDownRefIdeal.τ).loc Cert.RedDownRefIdeal.main_arg4))

def Claim : Prop :=
  ∃ (hKernel : Cert.Kernel.Facts) (hKernelIdeal : Cert.KernelIdeal.Facts) (hReferenceIdeal : Cert.ReferenceIdeal.Facts) (hFwdIn : Cert.FwdIn.Facts) (hFwdInIdeal : Cert.FwdInIdeal.Facts) (hFwdInRefIdeal : Cert.FwdInRefIdeal.Facts) (hFwdGu : Cert.FwdGu.Facts) (hFwdGuIdeal : Cert.FwdGuIdeal.Facts) (hFwdGuRefIdeal : Cert.FwdGuRefIdeal.Facts) (hFwdGlu : Cert.FwdGlu.Facts) (hFwdGluIdeal : Cert.FwdGluIdeal.Facts) (hFwdGluRefIdeal : Cert.FwdGluRefIdeal.Facts) (hFwdOut : Cert.FwdOut.Facts) (hFwdOutIdeal : Cert.FwdOutIdeal.Facts) (hFwdOutRefIdeal : Cert.FwdOutRefIdeal.Facts) (hFwdDown : Cert.FwdDown.Facts) (hFwdDownIdeal : Cert.FwdDownIdeal.Facts) (hFwdDownRefIdeal : Cert.FwdDownRefIdeal.Facts) (hBwdInX : Cert.BwdInX.Facts) (hBwdInXIdeal : Cert.BwdInXIdeal.Facts) (hBwdInXRefIdeal : Cert.BwdInXRefIdeal.Facts) (hBwdGuX : Cert.BwdGuX.Facts) (hBwdGuXIdeal : Cert.BwdGuXIdeal.Facts) (hBwdGuXRefIdeal : Cert.BwdGuXRefIdeal.Facts) (hBwdGluX : Cert.BwdGluX.Facts) (hBwdGluXIdeal : Cert.BwdGluXIdeal.Facts) (hBwdGluXRefIdeal : Cert.BwdGluXRefIdeal.Facts) (hBwdOutX : Cert.BwdOutX.Facts) (hBwdOutXIdeal : Cert.BwdOutXIdeal.Facts) (hBwdOutXRefIdeal : Cert.BwdOutXRefIdeal.Facts) (hBwdDownX : Cert.BwdDownX.Facts) (hBwdDownXIdeal : Cert.BwdDownXIdeal.Facts) (hBwdDownXRefIdeal : Cert.BwdDownXRefIdeal.Facts) (hBwdInW : Cert.BwdInW.Facts) (hBwdInWIdeal : Cert.BwdInWIdeal.Facts) (hBwdInWRefIdeal : Cert.BwdInWRefIdeal.Facts) (hBwdGuW : Cert.BwdGuW.Facts) (hBwdGuWIdeal : Cert.BwdGuWIdeal.Facts) (hBwdGuWRefIdeal : Cert.BwdGuWRefIdeal.Facts) (hBwdOutW : Cert.BwdOutW.Facts) (hBwdOutWIdeal : Cert.BwdOutWIdeal.Facts) (hBwdOutWRefIdeal : Cert.BwdOutWRefIdeal.Facts) (hBwdDownW : Cert.BwdDownW.Facts) (hBwdDownWIdeal : Cert.BwdDownWIdeal.Facts) (hBwdDownWRefIdeal : Cert.BwdDownWRefIdeal.Facts) (hBwdRms : Cert.BwdRms.Facts) (hBwdRmsIdeal : Cert.BwdRmsIdeal.Facts) (hBwdRmsRefIdeal : Cert.BwdRmsRefIdeal.Facts) (hBwdGlu : Cert.BwdGlu.Facts) (hBwdGluIdeal : Cert.BwdGluIdeal.Facts) (hBwdGluRefIdeal : Cert.BwdGluRefIdeal.Facts) (hBwdMerge : Cert.BwdMerge.Facts) (hBwdMergeIdeal : Cert.BwdMergeIdeal.Facts) (hBwdMergeRefIdeal : Cert.BwdMergeRefIdeal.Facts) (hBwdPost : Cert.BwdPost.Facts) (hBwdPostIdeal : Cert.BwdPostIdeal.Facts) (hBwdPostRefIdeal : Cert.BwdPostRefIdeal.Facts) (hBwdRot : Cert.BwdRot.Facts) (hBwdRotIdeal : Cert.BwdRotIdeal.Facts) (hBwdRotRefIdeal : Cert.BwdRotRefIdeal.Facts) (hLossStage : Cert.LossStage.Facts) (hLossStageIdeal : Cert.LossStageIdeal.Facts) (hLossStageRefIdeal : Cert.LossStageRefIdeal.Facts) (hFwdRms : Cert.FwdRms.Facts) (hFwdRmsIdeal : Cert.FwdRmsIdeal.Facts) (hFwdRmsRefIdeal : Cert.FwdRmsRefIdeal.Facts) (hFwdSwish : Cert.FwdSwish.Facts) (hFwdSwishIdeal : Cert.FwdSwishIdeal.Facts) (hFwdSwishRefIdeal : Cert.FwdSwishRefIdeal.Facts) (hFwdMerge : Cert.FwdMerge.Facts) (hFwdMergeIdeal : Cert.FwdMergeIdeal.Facts) (hFwdMergeRefIdeal : Cert.FwdMergeRefIdeal.Facts) (hFwdPost : Cert.FwdPost.Facts) (hFwdPostIdeal : Cert.FwdPostIdeal.Facts) (hFwdPostRefIdeal : Cert.FwdPostRefIdeal.Facts) (hFwdRot : Cert.FwdRot.Facts) (hFwdRotIdeal : Cert.FwdRotIdeal.Facts) (hFwdRotRefIdeal : Cert.FwdRotRefIdeal.Facts) (hFwdRet : Cert.FwdRet.Facts) (hFwdRetIdeal : Cert.FwdRetIdeal.Facts) (hFwdRetRefIdeal : Cert.FwdRetRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGu : Cert.AdamGu.Facts) (hAdamGuIdeal : Cert.AdamGuIdeal.Facts) (hAdamGuRefIdeal : Cert.AdamGuRefIdeal.Facts) (hAdamDown : Cert.AdamDown.Facts) (hAdamDownIdeal : Cert.AdamDownIdeal.Facts) (hAdamDownRefIdeal : Cert.AdamDownRefIdeal.Facts) (hAdamTiny : Cert.AdamTiny.Facts) (hAdamTinyIdeal : Cert.AdamTinyIdeal.Facts) (hAdamTinyRefIdeal : Cert.AdamTinyRefIdeal.Facts) (hAdamB : Cert.AdamB.Facts) (hAdamBIdeal : Cert.AdamBIdeal.Facts) (hAdamBRefIdeal : Cert.AdamBRefIdeal.Facts) (hAdamC : Cert.AdamC.Facts) (hAdamCIdeal : Cert.AdamCIdeal.Facts) (hAdamCRefIdeal : Cert.AdamCRefIdeal.Facts) (hSumSlots : Cert.SumSlots.Facts) (hSumSlotsIdeal : Cert.SumSlotsIdeal.Facts) (hSumSlotsRefIdeal : Cert.SumSlotsRefIdeal.Facts) (hLossTotal : Cert.LossTotal.Facts) (hLossTotalIdeal : Cert.LossTotalIdeal.Facts) (hLossTotalRefIdeal : Cert.LossTotalRefIdeal.Facts) (hFwdScan : Cert.FwdScan.Facts) (hFwdScanIdeal : Cert.FwdScanIdeal.Facts) (hBwdScan : Cert.BwdScan.Facts) (hBwdScanIdeal : Cert.BwdScanIdeal.Facts) (hRedIn : Cert.RedIn.Facts) (hRedInIdeal : Cert.RedInIdeal.Facts) (hRedInRefIdeal : Cert.RedInRefIdeal.Facts) (hRedGlu : Cert.RedGlu.Facts) (hRedGluIdeal : Cert.RedGluIdeal.Facts) (hRedGluRefIdeal : Cert.RedGluRefIdeal.Facts) (hRedOut : Cert.RedOut.Facts) (hRedOutIdeal : Cert.RedOutIdeal.Facts) (hRedOutRefIdeal : Cert.RedOutRefIdeal.Facts) (hRedGate : Cert.RedGate.Facts) (hRedGateIdeal : Cert.RedGateIdeal.Facts) (hRedGateRefIdeal : Cert.RedGateRefIdeal.Facts) (hRedUp : Cert.RedUp.Facts) (hRedUpIdeal : Cert.RedUpIdeal.Facts) (hRedUpRefIdeal : Cert.RedUpRefIdeal.Facts) (hRedDown : Cert.RedDown.Facts) (hRedDownIdeal : Cert.RedDownIdeal.Facts) (hRedDownRefIdeal : Cert.RedDownRefIdeal.Facts) (hPre_device_in : Cert.Pre_device_in.Facts) (hPre_device_glu : Cert.Pre_device_glu.Facts) (hPre_device_ffn : Cert.Pre_device_ffn.Facts) (hPre_device_down : Cert.Pre_device_down.Facts),
    quiescent_Kernel (hKernel := hKernel)
    ∧ quiescent_KernelIdeal (hKernelIdeal := hKernelIdeal)
    ∧ quiescent_ReferenceIdeal (hReferenceIdeal := hReferenceIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_FwdGu (hFwdGu := hFwdGu)
    ∧ quiescent_FwdGuIdeal (hFwdGuIdeal := hFwdGuIdeal)
    ∧ quiescent_FwdGuRefIdeal (hFwdGuRefIdeal := hFwdGuRefIdeal)
    ∧ quiescent_FwdGlu (hFwdGlu := hFwdGlu)
    ∧ quiescent_FwdGluIdeal (hFwdGluIdeal := hFwdGluIdeal)
    ∧ quiescent_FwdGluRefIdeal (hFwdGluRefIdeal := hFwdGluRefIdeal)
    ∧ quiescent_FwdOut (hFwdOut := hFwdOut)
    ∧ quiescent_FwdOutIdeal (hFwdOutIdeal := hFwdOutIdeal)
    ∧ quiescent_FwdOutRefIdeal (hFwdOutRefIdeal := hFwdOutRefIdeal)
    ∧ quiescent_FwdDown (hFwdDown := hFwdDown)
    ∧ quiescent_FwdDownIdeal (hFwdDownIdeal := hFwdDownIdeal)
    ∧ quiescent_FwdDownRefIdeal (hFwdDownRefIdeal := hFwdDownRefIdeal)
    ∧ quiescent_BwdInX (hBwdInX := hBwdInX)
    ∧ quiescent_BwdInXIdeal (hBwdInXIdeal := hBwdInXIdeal)
    ∧ quiescent_BwdInXRefIdeal (hBwdInXRefIdeal := hBwdInXRefIdeal)
    ∧ quiescent_BwdGuX (hBwdGuX := hBwdGuX)
    ∧ quiescent_BwdGuXIdeal (hBwdGuXIdeal := hBwdGuXIdeal)
    ∧ quiescent_BwdGuXRefIdeal (hBwdGuXRefIdeal := hBwdGuXRefIdeal)
    ∧ quiescent_BwdGluX (hBwdGluX := hBwdGluX)
    ∧ quiescent_BwdGluXIdeal (hBwdGluXIdeal := hBwdGluXIdeal)
    ∧ quiescent_BwdGluXRefIdeal (hBwdGluXRefIdeal := hBwdGluXRefIdeal)
    ∧ quiescent_BwdOutX (hBwdOutX := hBwdOutX)
    ∧ quiescent_BwdOutXIdeal (hBwdOutXIdeal := hBwdOutXIdeal)
    ∧ quiescent_BwdOutXRefIdeal (hBwdOutXRefIdeal := hBwdOutXRefIdeal)
    ∧ quiescent_BwdDownX (hBwdDownX := hBwdDownX)
    ∧ quiescent_BwdDownXIdeal (hBwdDownXIdeal := hBwdDownXIdeal)
    ∧ quiescent_BwdDownXRefIdeal (hBwdDownXRefIdeal := hBwdDownXRefIdeal)
    ∧ quiescent_BwdInW (hBwdInW := hBwdInW)
    ∧ quiescent_BwdInWIdeal (hBwdInWIdeal := hBwdInWIdeal)
    ∧ quiescent_BwdInWRefIdeal (hBwdInWRefIdeal := hBwdInWRefIdeal)
    ∧ quiescent_BwdGuW (hBwdGuW := hBwdGuW)
    ∧ quiescent_BwdGuWIdeal (hBwdGuWIdeal := hBwdGuWIdeal)
    ∧ quiescent_BwdGuWRefIdeal (hBwdGuWRefIdeal := hBwdGuWRefIdeal)
    ∧ quiescent_BwdOutW (hBwdOutW := hBwdOutW)
    ∧ quiescent_BwdOutWIdeal (hBwdOutWIdeal := hBwdOutWIdeal)
    ∧ quiescent_BwdOutWRefIdeal (hBwdOutWRefIdeal := hBwdOutWRefIdeal)
    ∧ quiescent_BwdDownW (hBwdDownW := hBwdDownW)
    ∧ quiescent_BwdDownWIdeal (hBwdDownWIdeal := hBwdDownWIdeal)
    ∧ quiescent_BwdDownWRefIdeal (hBwdDownWRefIdeal := hBwdDownWRefIdeal)
    ∧ quiescent_BwdRms (hBwdRms := hBwdRms)
    ∧ quiescent_BwdRmsIdeal (hBwdRmsIdeal := hBwdRmsIdeal)
    ∧ quiescent_BwdRmsRefIdeal (hBwdRmsRefIdeal := hBwdRmsRefIdeal)
    ∧ quiescent_BwdGlu (hBwdGlu := hBwdGlu)
    ∧ quiescent_BwdGluIdeal (hBwdGluIdeal := hBwdGluIdeal)
    ∧ quiescent_BwdGluRefIdeal (hBwdGluRefIdeal := hBwdGluRefIdeal)
    ∧ quiescent_BwdMerge (hBwdMerge := hBwdMerge)
    ∧ quiescent_BwdMergeIdeal (hBwdMergeIdeal := hBwdMergeIdeal)
    ∧ quiescent_BwdMergeRefIdeal (hBwdMergeRefIdeal := hBwdMergeRefIdeal)
    ∧ quiescent_BwdPost (hBwdPost := hBwdPost)
    ∧ quiescent_BwdPostIdeal (hBwdPostIdeal := hBwdPostIdeal)
    ∧ quiescent_BwdPostRefIdeal (hBwdPostRefIdeal := hBwdPostRefIdeal)
    ∧ quiescent_BwdRot (hBwdRot := hBwdRot)
    ∧ quiescent_BwdRotIdeal (hBwdRotIdeal := hBwdRotIdeal)
    ∧ quiescent_BwdRotRefIdeal (hBwdRotRefIdeal := hBwdRotRefIdeal)
    ∧ quiescent_LossStage (hLossStage := hLossStage)
    ∧ quiescent_LossStageIdeal (hLossStageIdeal := hLossStageIdeal)
    ∧ quiescent_LossStageRefIdeal (hLossStageRefIdeal := hLossStageRefIdeal)
    ∧ quiescent_FwdRms (hFwdRms := hFwdRms)
    ∧ quiescent_FwdRmsIdeal (hFwdRmsIdeal := hFwdRmsIdeal)
    ∧ quiescent_FwdRmsRefIdeal (hFwdRmsRefIdeal := hFwdRmsRefIdeal)
    ∧ quiescent_FwdSwish (hFwdSwish := hFwdSwish)
    ∧ quiescent_FwdSwishIdeal (hFwdSwishIdeal := hFwdSwishIdeal)
    ∧ quiescent_FwdSwishRefIdeal (hFwdSwishRefIdeal := hFwdSwishRefIdeal)
    ∧ quiescent_FwdMerge (hFwdMerge := hFwdMerge)
    ∧ quiescent_FwdMergeIdeal (hFwdMergeIdeal := hFwdMergeIdeal)
    ∧ quiescent_FwdMergeRefIdeal (hFwdMergeRefIdeal := hFwdMergeRefIdeal)
    ∧ quiescent_FwdPost (hFwdPost := hFwdPost)
    ∧ quiescent_FwdPostIdeal (hFwdPostIdeal := hFwdPostIdeal)
    ∧ quiescent_FwdPostRefIdeal (hFwdPostRefIdeal := hFwdPostRefIdeal)
    ∧ quiescent_FwdRot (hFwdRot := hFwdRot)
    ∧ quiescent_FwdRotIdeal (hFwdRotIdeal := hFwdRotIdeal)
    ∧ quiescent_FwdRotRefIdeal (hFwdRotRefIdeal := hFwdRotRefIdeal)
    ∧ quiescent_FwdRet (hFwdRet := hFwdRet)
    ∧ quiescent_FwdRetIdeal (hFwdRetIdeal := hFwdRetIdeal)
    ∧ quiescent_FwdRetRefIdeal (hFwdRetRefIdeal := hFwdRetRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamTiny (hAdamTiny := hAdamTiny)
    ∧ quiescent_AdamTinyIdeal (hAdamTinyIdeal := hAdamTinyIdeal)
    ∧ quiescent_AdamTinyRefIdeal (hAdamTinyRefIdeal := hAdamTinyRefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_LossTotal (hLossTotal := hLossTotal)
    ∧ quiescent_LossTotalIdeal (hLossTotalIdeal := hLossTotalIdeal)
    ∧ quiescent_LossTotalRefIdeal (hLossTotalRefIdeal := hLossTotalRefIdeal)
    ∧ quiescent_FwdScan (hFwdScan := hFwdScan)
    ∧ quiescent_FwdScanIdeal (hFwdScanIdeal := hFwdScanIdeal)
    ∧ quiescent_BwdScan (hBwdScan := hBwdScan)
    ∧ quiescent_BwdScanIdeal (hBwdScanIdeal := hBwdScanIdeal)
    ∧ quiescent_RedIn (hRedIn := hRedIn) (hPre_device_in := hPre_device_in)
    ∧ quiescent_RedInIdeal (hRedInIdeal := hRedInIdeal) (hPre_device_in := hPre_device_in)
    ∧ quiescent_RedInRefIdeal (hRedInRefIdeal := hRedInRefIdeal)
    ∧ quiescent_RedInRefIdeal_pre_device_in (hRedInRefIdeal := hRedInRefIdeal) (hPre_device_in := hPre_device_in)
    ∧ quiescent_RedGlu (hRedGlu := hRedGlu) (hPre_device_glu := hPre_device_glu)
    ∧ quiescent_RedGluIdeal (hRedGluIdeal := hRedGluIdeal) (hPre_device_glu := hPre_device_glu)
    ∧ quiescent_RedGluRefIdeal (hRedGluRefIdeal := hRedGluRefIdeal)
    ∧ quiescent_RedGluRefIdeal_pre_device_glu (hRedGluRefIdeal := hRedGluRefIdeal) (hPre_device_glu := hPre_device_glu)
    ∧ quiescent_RedOut (hRedOut := hRedOut) (hPre_device_glu := hPre_device_glu)
    ∧ quiescent_RedOutIdeal (hRedOutIdeal := hRedOutIdeal) (hPre_device_glu := hPre_device_glu)
    ∧ quiescent_RedOutRefIdeal (hRedOutRefIdeal := hRedOutRefIdeal)
    ∧ quiescent_RedOutRefIdeal_pre_device_glu (hRedOutRefIdeal := hRedOutRefIdeal) (hPre_device_glu := hPre_device_glu)
    ∧ quiescent_RedGate (hRedGate := hRedGate) (hPre_device_ffn := hPre_device_ffn)
    ∧ quiescent_RedGateIdeal (hRedGateIdeal := hRedGateIdeal) (hPre_device_ffn := hPre_device_ffn)
    ∧ quiescent_RedGateRefIdeal (hRedGateRefIdeal := hRedGateRefIdeal)
    ∧ quiescent_RedGateRefIdeal_pre_device_ffn (hRedGateRefIdeal := hRedGateRefIdeal) (hPre_device_ffn := hPre_device_ffn)
    ∧ quiescent_RedUp (hRedUp := hRedUp) (hPre_device_ffn := hPre_device_ffn)
    ∧ quiescent_RedUpIdeal (hRedUpIdeal := hRedUpIdeal) (hPre_device_ffn := hPre_device_ffn)
    ∧ quiescent_RedUpRefIdeal (hRedUpRefIdeal := hRedUpRefIdeal)
    ∧ quiescent_RedUpRefIdeal_pre_device_ffn (hRedUpRefIdeal := hRedUpRefIdeal) (hPre_device_ffn := hPre_device_ffn)
    ∧ quiescent_RedDown (hRedDown := hRedDown) (hPre_device_down := hPre_device_down)
    ∧ quiescent_RedDownIdeal (hRedDownIdeal := hRedDownIdeal) (hPre_device_down := hPre_device_down)
    ∧ quiescent_RedDownRefIdeal (hRedDownRefIdeal := hRedDownRefIdeal)
    ∧ quiescent_RedDownRefIdeal_pre_device_down (hRedDownRefIdeal := hRedDownRefIdeal) (hPre_device_down := hPre_device_down)
    ∧ preserves_Kernel_KernelIdeal
    ∧ algebraic_KernelIdeal_ReferenceIdeal (hKernelIdeal := hKernelIdeal) (hReferenceIdeal := hReferenceIdeal)
    ∧ preserves_FwdIn_FwdInIdeal
    ∧ algebraic_FwdInIdeal_FwdInRefIdeal (hFwdInIdeal := hFwdInIdeal) (hFwdInRefIdeal := hFwdInRefIdeal)
    ∧ preserves_FwdGu_FwdGuIdeal
    ∧ algebraic_FwdGuIdeal_FwdGuRefIdeal (hFwdGuIdeal := hFwdGuIdeal) (hFwdGuRefIdeal := hFwdGuRefIdeal)
    ∧ preserves_FwdGlu_FwdGluIdeal
    ∧ algebraic_FwdGluIdeal_FwdGluRefIdeal (hFwdGluIdeal := hFwdGluIdeal) (hFwdGluRefIdeal := hFwdGluRefIdeal)
    ∧ preserves_FwdOut_FwdOutIdeal
    ∧ algebraic_FwdOutIdeal_FwdOutRefIdeal (hFwdOutIdeal := hFwdOutIdeal) (hFwdOutRefIdeal := hFwdOutRefIdeal)
    ∧ preserves_FwdDown_FwdDownIdeal
    ∧ algebraic_FwdDownIdeal_FwdDownRefIdeal (hFwdDownIdeal := hFwdDownIdeal) (hFwdDownRefIdeal := hFwdDownRefIdeal)
    ∧ preserves_BwdInX_BwdInXIdeal
    ∧ algebraic_BwdInXIdeal_BwdInXRefIdeal (hBwdInXIdeal := hBwdInXIdeal) (hBwdInXRefIdeal := hBwdInXRefIdeal)
    ∧ preserves_BwdGuX_BwdGuXIdeal
    ∧ algebraic_BwdGuXIdeal_BwdGuXRefIdeal (hBwdGuXIdeal := hBwdGuXIdeal) (hBwdGuXRefIdeal := hBwdGuXRefIdeal)
    ∧ preserves_BwdGluX_BwdGluXIdeal
    ∧ algebraic_BwdGluXIdeal_BwdGluXRefIdeal (hBwdGluXIdeal := hBwdGluXIdeal) (hBwdGluXRefIdeal := hBwdGluXRefIdeal)
    ∧ preserves_BwdOutX_BwdOutXIdeal
    ∧ algebraic_BwdOutXIdeal_BwdOutXRefIdeal (hBwdOutXIdeal := hBwdOutXIdeal) (hBwdOutXRefIdeal := hBwdOutXRefIdeal)
    ∧ preserves_BwdDownX_BwdDownXIdeal
    ∧ algebraic_BwdDownXIdeal_BwdDownXRefIdeal (hBwdDownXIdeal := hBwdDownXIdeal) (hBwdDownXRefIdeal := hBwdDownXRefIdeal)
    ∧ preserves_BwdInW_BwdInWIdeal
    ∧ algebraic_BwdInWIdeal_BwdInWRefIdeal (hBwdInWIdeal := hBwdInWIdeal) (hBwdInWRefIdeal := hBwdInWRefIdeal)
    ∧ preserves_BwdGuW_BwdGuWIdeal
    ∧ algebraic_BwdGuWIdeal_BwdGuWRefIdeal (hBwdGuWIdeal := hBwdGuWIdeal) (hBwdGuWRefIdeal := hBwdGuWRefIdeal)
    ∧ preserves_BwdOutW_BwdOutWIdeal
    ∧ algebraic_BwdOutWIdeal_BwdOutWRefIdeal (hBwdOutWIdeal := hBwdOutWIdeal) (hBwdOutWRefIdeal := hBwdOutWRefIdeal)
    ∧ preserves_BwdDownW_BwdDownWIdeal
    ∧ algebraic_BwdDownWIdeal_BwdDownWRefIdeal (hBwdDownWIdeal := hBwdDownWIdeal) (hBwdDownWRefIdeal := hBwdDownWRefIdeal)
    ∧ preserves_BwdRms_BwdRmsIdeal
    ∧ algebraic_BwdRmsIdeal_BwdRmsRefIdeal (hBwdRmsIdeal := hBwdRmsIdeal) (hBwdRmsRefIdeal := hBwdRmsRefIdeal)
    ∧ preserves_BwdGlu_BwdGluIdeal
    ∧ algebraic_BwdGluIdeal_BwdGluRefIdeal (hBwdGluIdeal := hBwdGluIdeal) (hBwdGluRefIdeal := hBwdGluRefIdeal)
    ∧ preserves_BwdMerge_BwdMergeIdeal
    ∧ algebraic_BwdMergeIdeal_BwdMergeRefIdeal (hBwdMergeIdeal := hBwdMergeIdeal) (hBwdMergeRefIdeal := hBwdMergeRefIdeal)
    ∧ preserves_BwdPost_BwdPostIdeal
    ∧ algebraic_BwdPostIdeal_BwdPostRefIdeal (hBwdPostIdeal := hBwdPostIdeal) (hBwdPostRefIdeal := hBwdPostRefIdeal)
    ∧ preserves_BwdRot_BwdRotIdeal
    ∧ algebraic_BwdRotIdeal_BwdRotRefIdeal (hBwdRotIdeal := hBwdRotIdeal) (hBwdRotRefIdeal := hBwdRotRefIdeal)
    ∧ preserves_LossStage_LossStageIdeal
    ∧ algebraic_LossStageIdeal_LossStageRefIdeal (hLossStageIdeal := hLossStageIdeal) (hLossStageRefIdeal := hLossStageRefIdeal)
    ∧ preserves_FwdRms_FwdRmsIdeal
    ∧ algebraic_FwdRmsIdeal_FwdRmsRefIdeal (hFwdRmsIdeal := hFwdRmsIdeal) (hFwdRmsRefIdeal := hFwdRmsRefIdeal)
    ∧ preserves_FwdSwish_FwdSwishIdeal
    ∧ algebraic_FwdSwishIdeal_FwdSwishRefIdeal (hFwdSwishIdeal := hFwdSwishIdeal) (hFwdSwishRefIdeal := hFwdSwishRefIdeal)
    ∧ preserves_FwdMerge_FwdMergeIdeal
    ∧ algebraic_FwdMergeIdeal_FwdMergeRefIdeal (hFwdMergeIdeal := hFwdMergeIdeal) (hFwdMergeRefIdeal := hFwdMergeRefIdeal)
    ∧ preserves_FwdPost_FwdPostIdeal
    ∧ algebraic_FwdPostIdeal_FwdPostRefIdeal (hFwdPostIdeal := hFwdPostIdeal) (hFwdPostRefIdeal := hFwdPostRefIdeal)
    ∧ preserves_FwdRot_FwdRotIdeal
    ∧ algebraic_FwdRotIdeal_FwdRotRefIdeal (hFwdRotIdeal := hFwdRotIdeal) (hFwdRotRefIdeal := hFwdRotRefIdeal)
    ∧ preserves_FwdRet_FwdRetIdeal
    ∧ algebraic_FwdRetIdeal_FwdRetRefIdeal (hFwdRetIdeal := hFwdRetIdeal) (hFwdRetRefIdeal := hFwdRetRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGu_AdamGuIdeal
    ∧ algebraic_AdamGuIdeal_AdamGuRefIdeal (hAdamGuIdeal := hAdamGuIdeal) (hAdamGuRefIdeal := hAdamGuRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamTiny_AdamTinyIdeal
    ∧ algebraic_AdamTinyIdeal_AdamTinyRefIdeal (hAdamTinyIdeal := hAdamTinyIdeal) (hAdamTinyRefIdeal := hAdamTinyRefIdeal)
    ∧ preserves_AdamB_AdamBIdeal
    ∧ algebraic_AdamBIdeal_AdamBRefIdeal (hAdamBIdeal := hAdamBIdeal) (hAdamBRefIdeal := hAdamBRefIdeal)
    ∧ preserves_AdamC_AdamCIdeal
    ∧ algebraic_AdamCIdeal_AdamCRefIdeal (hAdamCIdeal := hAdamCIdeal) (hAdamCRefIdeal := hAdamCRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_LossTotal_LossTotalIdeal
    ∧ algebraic_LossTotalIdeal_LossTotalRefIdeal (hLossTotalIdeal := hLossTotalIdeal) (hLossTotalRefIdeal := hLossTotalRefIdeal)
    ∧ preserves_FwdScan_FwdScanIdeal
    ∧ preserves_BwdScan_BwdScanIdeal
    ∧ preserves_RedIn_RedInIdeal
    ∧ algebraic_RedInIdeal_RedInRefIdeal (hRedInIdeal := hRedInIdeal) (hRedInRefIdeal := hRedInRefIdeal) (hPre_device_in := hPre_device_in)
    ∧ preserves_RedGlu_RedGluIdeal
    ∧ algebraic_RedGluIdeal_RedGluRefIdeal (hRedGluIdeal := hRedGluIdeal) (hRedGluRefIdeal := hRedGluRefIdeal) (hPre_device_glu := hPre_device_glu)
    ∧ preserves_RedOut_RedOutIdeal
    ∧ algebraic_RedOutIdeal_RedOutRefIdeal (hRedOutIdeal := hRedOutIdeal) (hRedOutRefIdeal := hRedOutRefIdeal) (hPre_device_glu := hPre_device_glu)
    ∧ preserves_RedGate_RedGateIdeal
    ∧ algebraic_RedGateIdeal_RedGateRefIdeal (hRedGateIdeal := hRedGateIdeal) (hRedGateRefIdeal := hRedGateRefIdeal) (hPre_device_ffn := hPre_device_ffn)
    ∧ preserves_RedUp_RedUpIdeal
    ∧ algebraic_RedUpIdeal_RedUpRefIdeal (hRedUpIdeal := hRedUpIdeal) (hRedUpRefIdeal := hRedUpRefIdeal) (hPre_device_ffn := hPre_device_ffn)
    ∧ preserves_RedDown_RedDownIdeal
    ∧ algebraic_RedDownIdeal_RedDownRefIdeal (hRedDownIdeal := hRedDownIdeal) (hRedDownRefIdeal := hRedDownRefIdeal) (hPre_device_down := hPre_device_down)
-- ==== Pre_device_down.lean ====
abbrev S2 : Shape := ⟨1, ![2]⟩
abbrev S5632x2048 : Shape := ⟨2, ![5632, 2048]⟩
abbrev S4x704x2048 : Shape := ⟨3, ![4, 704, 2048]⟩
abbrev S2x1408x2048 : Shape := ⟨3, ![2, 1408, 2048]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S5632x2048 .f32) (main_arg2 : FVec F S5632x2048 .bf16) (main_arg3 : FVec F S4x704x2048 .bf16) (main_arg4 : FVec F S2x1408x2048 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Pre_device_ffn.lean ====
abbrev S2 : Shape := ⟨1, ![2]⟩
abbrev S2048x11264 : Shape := ⟨2, ![2048, 11264]⟩
abbrev S4x1024x1408 : Shape := ⟨3, ![4, 1024, 1408]⟩
abbrev S2x2048x1408 : Shape := ⟨3, ![2, 2048, 1408]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S2048x11264 .f32) (main_arg2 : FVec F S2048x11264 .bf16) (main_arg3 : FVec F S4x1024x1408 .bf16) (main_arg4 : FVec F S2x2048x1408 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Pre_device_glu.lean ====
abbrev S2 : Shape := ⟨1, ![2]⟩
abbrev S2048x2048 : Shape := ⟨2, ![2048, 2048]⟩
abbrev S4x256x2048 : Shape := ⟨3, ![4, 256, 2048]⟩
abbrev S2x512x2048 : Shape := ⟨3, ![2, 512, 2048]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S2048x2048 .f32) (main_arg2 : FVec F S2048x2048 .bf16) (main_arg3 : FVec F S4x256x2048 .bf16) (main_arg4 : FVec F S2x512x2048 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Pre_device_in.lean ====
abbrev S2 : Shape := ⟨1, ![2]⟩
abbrev S2048x12288 : Shape := ⟨2, ![2048, 12288]⟩
abbrev S4x1024x3072 : Shape := ⟨3, ![4, 1024, 3072]⟩
abbrev S2x2048x3072 : Shape := ⟨3, ![2, 2048, 3072]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S2048x12288 .f32) (main_arg2 : FVec F S2048x12288 .bf16) (main_arg3 : FVec F S4x1024x3072 .bf16) (main_arg4 : FVec F S2x2048x3072 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Kernel.lean ====
abbrev S2048x1024 : Shape := ⟨2, ![2048, 1024]⟩
abbrev S2048x12288 : Shape := ⟨2, ![2048, 12288]⟩
abbrev S2048x2048 : Shape := ⟨2, ![2048, 2048]⟩
abbrev S2x4 : Shape := ⟨2, ![2, 4]⟩
abbrev S4x2 : Shape := ⟨2, ![4, 2]⟩
abbrev S4x2x1 : Shape := ⟨3, ![4, 2, 1]⟩
abbrev S4x2x128 : Shape := ⟨3, ![4, 2, 128]⟩
abbrev S512x256 : Shape := ⟨2, ![512, 256]⟩
abbrev S2048x256 : Shape := ⟨2, ![2048, 256]⟩
abbrev S2048x512 : Shape := ⟨2, ![2048, 512]⟩
abbrev S512x512 : Shape := ⟨2, ![512, 512]⟩
abbrev S1x2x128 : Shape := ⟨3, ![1, 2, 128]⟩
abbrev S512x2048 : Shape := ⟨2, ![512, 2048]⟩
abbrev S1x1x1 : Shape := ⟨3, ![1, 1, 1]⟩
abbrev S1x1 : Shape := ⟨2, ![1, 1]⟩
abbrev S512 : Shape := ⟨1, ![512]⟩
abbrev S512x1 : Shape := ⟨2, ![512, 1]⟩
abbrev S1 : Shape := ⟨1, ![1]⟩
abbrev S2x128 : Shape := ⟨2, ![2, 128]⟩

abbrev nBuf : Space → Nat
  | .hbm => 12
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x12288, .f32⟩
  | .hbm, ⟨3, _⟩ => ⟨S2048x2048, .bf16⟩
  | .hbm, ⟨4, _⟩ => ⟨S2x4, .f32⟩
  | .hbm, ⟨5, _⟩ => ⟨S4x2, .f32⟩
  | .hbm, ⟨6, _⟩ => ⟨S4x2x1, .f32⟩
  | .hbm, ⟨7, _⟩ => ⟨S4x2x128, .f32⟩
  | .hbm, ⟨8, _⟩ => ⟨S2048x1024, .f32⟩
  | .hbm, ⟨9, _⟩ => ⟨S2048x1024, .f32⟩
  | .hbm, ⟨10, _⟩ => ⟨S2048x2048, .f32⟩
  | .hbm, ⟨11, _⟩ => ⟨S4x2x128, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .f32⟩
  | .local _ .vmem, ⟨5, _⟩ => ⟨S2048x512, .f32⟩
  | .local _ .vmem, ⟨6, _⟩ => ⟨S512x512, .bf16⟩
  | .local _ .vmem, ⟨7, _⟩ => ⟨S512x512, .bf16⟩
  | .local _ .vmem, ⟨8, _⟩ => ⟨S1x2x128, .f32⟩
  | .local _ .vmem, ⟨9, _⟩ => ⟨S1x2x128, .f32⟩
  | .local _ .vmem, ⟨10, _⟩ => ⟨S512x256, .f32⟩
  | .local _ .vmem, ⟨11, _⟩ => ⟨S512x256, .f32⟩
  | .local _ .vmem, ⟨12, _⟩ => ⟨S2048x256, .f32⟩
  | .local _ .vmem, ⟨13, _⟩ => ⟨S2048x256, .f32⟩
  | .local _ .vmem, ⟨14, _⟩ => ⟨S2048x512, .f32⟩
  | .local _ .vmem, ⟨15, _⟩ => ⟨S2048x512, .f32⟩
  | .local _ .vmem, ⟨16, _⟩ => ⟨S1x2x128, .f32⟩
  | .local _ .vmem, ⟨17, _⟩ => ⟨S1x2x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2048x1024 : Shape := ⟨2, ![2048, 1024]⟩
abbrev S2048x12288 : Shape := ⟨2, ![2048, 12288]⟩
abbrev S2048x2048 : Shape := ⟨2, ![2048, 2048]⟩
abbrev S2x4 : Shape := ⟨2, ![2, 4]⟩
abbrev S2048x4x256 : Shape := ⟨3, ![2048, 4, 256]⟩
abbrev S2048x4x512 : Shape := ⟨3, ![2048, 4, 512]⟩
abbrev S1x4 : Shape := ⟨2, ![1, 4]⟩
abbrev S4 : Shape := ⟨1, ![4]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S4x512x2048 : Shape := ⟨3, ![4, 512, 2048]⟩
abbrev S4x2048x256 : Shape := ⟨3, ![4, 2048, 256]⟩
abbrev S4x2 : Shape := ⟨2, ![4, 2]⟩
abbrev S4x2x1 : Shape := ⟨3, ![4, 2, 1]⟩
abbrev S4x2x128 : Shape := ⟨3, ![4, 2, 128]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x12288, .f32⟩
  | .hbm, ⟨3, _⟩ => ⟨S2048x2048, .bf16⟩
  | .hbm, ⟨4, _⟩ => ⟨S2x4, .f32⟩
  | .hbm, ⟨5, _⟩ => ⟨S2048x1024, .f32⟩
  | .hbm, ⟨6, _⟩ => ⟨S2048x4x256, .f32⟩
  | .hbm, ⟨7, _⟩ => ⟨S2048x1024, .f32⟩
  | .hbm, ⟨8, _⟩ => ⟨S2048x4x256, .f32⟩
  | .hbm, ⟨9, _⟩ => ⟨S2048x2048, .f32⟩
  | .hbm, ⟨10, _⟩ => ⟨S2048x4x512, .f32⟩
  | .hbm, ⟨11, _⟩ => ⟨S2048x2048, .f32⟩
  | .hbm, ⟨12, _⟩ => ⟨S2048x4x512, .f32⟩
  | .hbm, ⟨13, _⟩ => ⟨S1x4, .f32⟩
  | .hbm, ⟨14, _⟩ => ⟨S4, .f32⟩
  | .hbm, ⟨15, _⟩ => ⟨S1x4, .f32⟩
  | .hbm, ⟨16, _⟩ => ⟨S4, .f32⟩
  | .hbm, ⟨17, _⟩ => ⟨S2048, .f32⟩
  | .hbm, ⟨18, _⟩ => ⟨S2048x1, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .i1⟩
  | .hbm, ⟨26, _⟩ => ⟨S4x1x1, .f32⟩
  | .hbm, ⟨27, _⟩ => ⟨S1x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x1x1, .f32⟩
  | .hbm, ⟨32, _⟩ => ⟨S2048x2048, .f32⟩
  | .hbm, ⟨33, _⟩ => ⟨S1x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .i1⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x512x2048, .f32⟩
  | .hbm, ⟨43, _⟩ => ⟨S2048x4x512, .f32⟩
  | .hbm, ⟨44, _⟩ => ⟨S4x512x2048, .f32⟩
  | .hbm, ⟨45, _⟩ => ⟨S4x2048x2048, .f32⟩
  | .hbm, ⟨46, _⟩ => ⟨S4x512x2048, .f32⟩
  | .hbm, ⟨47, _⟩ => ⟨S2048x4x512, .f32⟩
  | .hbm, ⟨48, _⟩ => ⟨S4x2048x2048, .f32⟩
  | .hbm, ⟨49, _⟩ => ⟨S4x2048x2048, .f32⟩
  | .hbm, ⟨50, _⟩ => ⟨S4x2048x256, .f32⟩
  | .hbm, ⟨51, _⟩ => ⟨S2048x4x256, .f32⟩
  | .hbm, ⟨52, _⟩ => ⟨S4x2048x256, .f32⟩
  | .hbm, ⟨53, _⟩ => ⟨S2048x4x256, .f32⟩
  | .hbm, ⟨54, _⟩ => ⟨S4x2048x2048, .f32⟩
  | .hbm, ⟨55, _⟩ => ⟨S_, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S_, .f32⟩
  | .hbm, ⟨62, _⟩ => ⟨S4, .f32⟩
  | .hbm, ⟨63, _⟩ => ⟨S4x1x1, .f32⟩
  | .hbm, ⟨64, _⟩ => ⟨S_, .f32⟩
  | .hbm, ⟨65, _⟩ => ⟨S4, .f32⟩
  | .hbm, ⟨66, _⟩ => ⟨S4x2048x2048, .f32⟩
  | .hbm, ⟨67, _⟩ => ⟨S4x2048x2048, .f32⟩
  | .hbm, ⟨68, _⟩ => ⟨S_, .f32⟩
  | .hbm, ⟨69, _⟩ => ⟨S4, .f32⟩
  | .hbm, ⟨70, _⟩ => ⟨S4x1x1, .f32⟩
  | .hbm, ⟨71, _⟩ => ⟨S_, .f32⟩
  | .hbm, ⟨72, _⟩ => ⟨S4, .f32⟩
  | .hbm, ⟨73, _⟩ => ⟨S1x4, .f32⟩
  | .hbm, ⟨74, _⟩ => ⟨S_, .f32⟩
  | .hbm, ⟨75, _⟩ => ⟨S2x4, .f32⟩
  | .hbm, ⟨76, _⟩ => ⟨S1x4, .f32⟩
  | .hbm, ⟨77, _⟩ => ⟨S_, .f32⟩
  | .hbm, ⟨78, _⟩ => ⟨S2x4, .f32⟩
  | .hbm, ⟨79, _⟩ => ⟨S2x4, .f32⟩
  | .hbm, ⟨80, _⟩ => ⟨S2048x1024, .f32⟩
  | .hbm, ⟨81, _⟩ => ⟨S2048x1024, .f32⟩
  | .hbm, ⟨82, _⟩ => ⟨S2048x2048, .f32⟩
  | .hbm, ⟨83, _⟩ => ⟨S4x2, .f32⟩
  | .hbm, ⟨84, _⟩ => ⟨S4x2x1, .f32⟩
  | .hbm, ⟨85, _⟩ => ⟨S4x2x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31_1 : Ref sig .tc := ⟨.hbm, 37, rfl⟩
abbrev main_v31_0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_call1_cst : Ref sig .tc := ⟨.hbm, 55, rfl⟩
abbrev main_call1_v0 : Ref sig .tc := ⟨.hbm, 56, rfl⟩
abbrev main_v48_1 : Ref sig .tc := ⟨.hbm, 57, rfl⟩
abbrev main_v48_0 : Ref sig .tc := ⟨.hbm, 58, rfl⟩
abbrev main_v49 : Ref sig .tc := ⟨.hbm, 59, rfl⟩
abbrev main_v50 : Ref sig .tc := ⟨.hbm, 60, rfl⟩
abbrev main_cst_0 : Ref sig .tc := ⟨.hbm, 61, rfl⟩
abbrev main_v51 : Ref sig .tc := ⟨.hbm, 62, rfl⟩
abbrev main_v52 : Ref sig .tc := ⟨.hbm, 63, rfl⟩
abbrev main_cst_1 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_2 : Ref sig .tc := ⟨.hbm, 68, rfl⟩
abbrev main_v56 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev main_cst_4 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== FwdIn.lean ====
abbrev S2048x2048 : Shape := ⟨2, ![2048, 2048]⟩
abbrev S2048x12288 : Shape := ⟨2, ![2048, 12288]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x12288, .f32⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdInRefIdeal.lean ====
abbrev S2048x2048 : Shape := ⟨2, ![2048, 2048]⟩
abbrev S2048x12288 : Shape := ⟨2, ![2048, 12288]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x2048, .f32⟩
  | .hbm, ⟨3, _⟩ => ⟨S2048x12288, .f32⟩
  | .hbm, ⟨4, _⟩ => ⟨S2048x12288, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdGu.lean ====
abbrev S2048x2048 : Shape := ⟨2, ![2048, 2048]⟩
abbrev S2048x11264 : Shape := ⟨2, ![2048, 11264]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .f32⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdGuRefIdeal.lean ====
abbrev S2048x2048 : Shape := ⟨2, ![2048, 2048]⟩
abbrev S2048x11264 : Shape := ⟨2, ![2048, 11264]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== FwdGlu.lean ====
abbrev S2048x2048 : Shape := ⟨2, ![2048, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdGluRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdOut.lean ====
abbrev S2048x2048 : Shape := ⟨2, ![2048, 2048]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FwdOutRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FwdDown.lean ====
abbrev S2048x5632 : Shape := ⟨2, ![2048, 5632]⟩
abbrev S5632x2048 : Shape := ⟨2, ![5632, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FwdDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BwdInX.lean ====
abbrev S2048x12288 : Shape := ⟨2, ![2048, 12288]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x12288, .bf16⟩
  | .hbm, ⟨1, _⟩ => ⟨S2048x12288, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 12], ![false, false, false]⟩

def k0_cond2 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdInXRefIdeal.lean ====
abbrev S2048x12288 : Shape := ⟨2, ![2048, 12288]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x12288, .bf16⟩
  | .hbm, ⟨1, _⟩ => ⟨S2048x12288, .bf16⟩
  | .hbm, ⟨2, _⟩ => ⟨S_, .f32⟩
  | .hbm, ⟨3, _⟩ => ⟨S2048x2048, .f32⟩
  | .hbm, ⟨4, _⟩ => ⟨S2048x12288, .f32⟩
  | .hbm, ⟨5, _⟩ => ⟨S2048x12288, .f32⟩
  | .hbm, ⟨6, _⟩ => ⟨S2048x12288, .f32⟩
  | .hbm, ⟨7, _⟩ => ⟨S2048x2048, .f32⟩
  | _, _ => ⟨S2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BwdGuX.lean ====
abbrev S2048x11264 : Shape := ⟨2, ![2048, 11264]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdGuXIdeal.lean ====
abbrev S2048x11264 : Shape := ⟨2, ![2048, 11264]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdGuXRefIdeal.lean ====
abbrev S2048x11264 : Shape := ⟨2, ![2048, 11264]⟩
abbrev S2048x5632 : Shape := ⟨2, ![2048, 5632]⟩
abbrev S_ : Shape := ⟨0, ![]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x11264, .f32⟩
  | .hbm, ⟨3, _⟩ => ⟨S2048x5632, .bf16⟩
  | .hbm, ⟨4, _⟩ => ⟨S2048x5632, .bf16⟩
  | .hbm, ⟨5, _⟩ => ⟨S2048x5632, .f32⟩
  | .hbm, ⟨6, _⟩ => ⟨S_, .f32⟩
  | .hbm, ⟨7, _⟩ => ⟨S2048x2048, .f32⟩
  | .hbm, ⟨8, _⟩ => ⟨S2048x5632, .f32⟩
  | .hbm, ⟨9, _⟩ => ⟨S2048x5632, .f32⟩
  | .hbm, ⟨10, _⟩ => ⟨S2048x2048, .f32⟩
  | .hbm, ⟨11, _⟩ => ⟨S2048x5632, .f32⟩
  | .hbm, ⟨12, _⟩ => ⟨S_, .f32⟩
  | .hbm, ⟨13, _⟩ => ⟨S2048x2048, .f32⟩
  | .hbm, ⟨14, _⟩ => ⟨S2048x5632, .f32⟩
  | .hbm, ⟨15, _⟩ => ⟨S2048x5632, .f32⟩
  | .hbm, ⟨16, _⟩ => ⟨S2048x2048, .f32⟩
  | .hbm, ⟨17, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== BwdGluX.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BwdGluXRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== BwdOutX.lean ====
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdOutXIdeal.lean ====
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdOutXRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BwdDownX.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdDownXRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BwdInW.lean ====
abbrev S2048x2048 : Shape := ⟨2, ![2048, 2048]⟩
abbrev S2048x12288 : Shape := ⟨2, ![2048, 12288]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x12288, .f32⟩
  | .hbm, ⟨3, _⟩ => ⟨S2048x12288, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BwdInWRefIdeal.lean ====
abbrev S2048x2048 : Shape := ⟨2, ![2048, 2048]⟩
abbrev S2048x12288 : Shape := ⟨2, ![2048, 12288]⟩
abbrev S_ : Shape := ⟨0, ![]⟩
abbrev S12288x2048 : Shape := ⟨2, ![12288, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S_, .f32⟩
  | .hbm, ⟨3, _⟩ => ⟨S2048x12288, .f32⟩
  | .hbm, ⟨4, _⟩ => ⟨S2048x2048, .f32⟩
  | .hbm, ⟨5, _⟩ => ⟨S2048x12288, .f32⟩
  | .hbm, ⟨6, _⟩ => ⟨S2048x12288, .f32⟩
  | .hbm, ⟨7, _⟩ => ⟨S12288x2048, .f32⟩
  | .hbm, ⟨8, _⟩ => ⟨S2048x12288, .f32⟩
  | .hbm, ⟨9, _⟩ => ⟨S2048x12288, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BwdGuW.lean ====
abbrev S2048x2048 : Shape := ⟨2, ![2048, 2048]⟩
abbrev S2048x11264 : Shape := ⟨2, ![2048, 11264]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .f32⟩
  | .hbm, ⟨3, _⟩ => ⟨S2048x11264, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BwdGuWIdeal.lean ====
abbrev S2048x2048 : Shape := ⟨2, ![2048, 2048]⟩
abbrev S2048x11264 : Shape := ⟨2, ![2048, 11264]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .f32⟩
  | .hbm, ⟨3, _⟩ => ⟨S2048x11264, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BwdGuWRefIdeal.lean ====
abbrev S2048x2048 : Shape := ⟨2, ![2048, 2048]⟩
abbrev S2048x11264 : Shape := ⟨2, ![2048, 11264]⟩
abbrev S2048x5632 : Shape := ⟨2, ![2048, 5632]⟩
abbrev S_ : Shape := ⟨0, ![]⟩
abbrev S5632x2048 : Shape := ⟨2, ![5632, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x5632, .bf16⟩
  | .hbm, ⟨3, _⟩ => ⟨S_, .f32⟩
  | .hbm, ⟨4, _⟩ => ⟨S2048x5632, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S2048x5632, .bf16⟩
  | .hbm, ⟨11, _⟩ => ⟨S_, .f32⟩
  | .hbm, ⟨12, _⟩ => ⟨S2048x5632, .f32⟩
  | .hbm, ⟨13, _⟩ => ⟨S2048x2048, .f32⟩
  | .hbm, ⟨14, _⟩ => ⟨S2048x5632, .f32⟩
  | .hbm, ⟨15, _⟩ => ⟨S2048x5632, .f32⟩
  | .hbm, ⟨16, _⟩ => ⟨S5632x2048, .f32⟩
  | .hbm, ⟨17, _⟩ => ⟨S2048x5632, .f32⟩
  | .hbm, ⟨18, _⟩ => ⟨S2048x11264, .f32⟩
  | .hbm, ⟨19, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== BwdOutW.lean ====
abbrev S2048x2048 : Shape := ⟨2, ![2048, 2048]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BwdOutWRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BwdDownW.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .f32⟩
  | .hbm, ⟨3, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BwdDownWRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BwdRms.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdRmsRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== BwdGlu.lean ====
abbrev S2048x11264 : Shape := ⟨2, ![2048, 11264]⟩
abbrev S2048x5632 : Shape := ⟨2, ![2048, 5632]⟩
abbrev S128x5632 : Shape := ⟨2, ![128, 5632]⟩
abbrev S128x11264 : Shape := ⟨2, ![128, 11264]⟩

abbrev nBuf : Space → Nat
  | .hbm => 3
  | .vmem => 8
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S2048x11264, .bf16⟩
  | .local _ .vmem, ⟨0, _⟩ => ⟨S128x5632, .f32⟩
  | .local _ .vmem, ⟨1, _⟩ => ⟨S128x5632, .f32⟩
  | .local _ .vmem, ⟨2, _⟩ => ⟨S128x5632, .f32⟩
  | .local _ .vmem, ⟨3, _⟩ => ⟨S128x5632, .f32⟩
  | .local _ .vmem, ⟨4, _⟩ => ⟨S128x5632, .f32⟩
  | .local _ .vmem, ⟨5, _⟩ => ⟨S128x5632, .f32⟩
  | .local _ .vmem, ⟨6, _⟩ => ⟨S128x11264, .bf16⟩
  | .local _ .vmem, ⟨7, _⟩ => ⟨S128x11264, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BwdGluRefIdeal.lean ====
abbrev S2048x11264 : Shape := ⟨2, ![2048, 11264]⟩
abbrev S2048x5632 : Shape := ⟨2, ![2048, 5632]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x11264, .f32⟩
  | .hbm, ⟨25, _⟩ => ⟨S2048x11264, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== BwdMerge.lean ====
abbrev S2048x2048 : Shape := ⟨2, ![2048, 2048]⟩
abbrev S2048x12288 : Shape := ⟨2, ![2048, 12288]⟩
abbrev S1x2048 : Shape := ⟨2, ![1, 2048]⟩
abbrev S128x2048 : Shape := ⟨2, ![128, 2048]⟩
abbrev S2048 : Shape := ⟨1, ![2048]⟩

abbrev nBuf : Space → Nat
  | .hbm => 10
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x12288, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x2048, .bf16⟩
  | .hbm, ⟨7, _⟩ => ⟨S2048x2048, .f32⟩
  | .hbm, ⟨8, _⟩ => ⟨S2048x2048, .bf16⟩
  | .hbm, ⟨9, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x2048, .f32⟩
  | .local _ .vmem, ⟨11, _⟩ => ⟨S128x2048, .bf16⟩
  | .local _ .vmem, ⟨12, _⟩ => ⟨S128x2048, .bf16⟩
  | .local _ .vmem, ⟨13, _⟩ => ⟨S128x2048, .f32⟩
  | .local _ .vmem, ⟨14, _⟩ => ⟨S128x2048, .f32⟩
  | .local _ .vmem, ⟨15, _⟩ => ⟨S128x2048, .bf16⟩
  | .local _ .vmem, ⟨16, _⟩ => ⟨S128x2048, .bf16⟩
  | .local _ .vmem, ⟨17, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BwdMergeRefIdeal.lean ====
abbrev S2048x2048 : Shape := ⟨2, ![2048, 2048]⟩
abbrev S2048x12288 : Shape := ⟨2, ![2048, 12288]⟩
abbrev S1x2048 : Shape := ⟨2, ![1, 2048]⟩
abbrev S2048 : Shape := ⟨1, ![2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x12288, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S2048, .f32⟩
  | .hbm, ⟨49, _⟩ => ⟨S2048x2048, .bf16⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== BwdPost.lean ====
abbrev S2048x2048 : Shape := ⟨2, ![2048, 2048]⟩
abbrev S2048x12288 : Shape := ⟨2, ![2048, 12288]⟩
abbrev S1x2048 : Shape := ⟨2, ![1, 2048]⟩
abbrev S128x512 : Shape := ⟨2, ![128, 512]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 12
  | .vmem => 32
  | .smem => 0
  | _ => 0

abbrev bufTy : (tb : Table) → Fin (tcTables nBuf tb) → BufTy
  | .hbm, ⟨0, _⟩ => ⟨S2048x2048, .f32⟩
  | .hbm, ⟨1, _⟩ => ⟨S2048x12288, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .f32⟩
  | .hbm, ⟨10, _⟩ => ⟨S2048x2048, .f32⟩
  | .hbm, ⟨11, _⟩ => ⟨S1x2048, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S1x2048, .f32⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .bf16⟩
  | .local _ .vmem, ⟨25, _⟩ => ⟨S128x2048, .bf16⟩
  | .local _ .vmem, ⟨26, _⟩ => ⟨S128x2048, .bf16⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S128x2048, .f32⟩
  | .local _ .vmem, ⟨31, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== BwdPostRefIdeal.lean ====
abbrev S2048x2048 : Shape := ⟨2, ![2048, 2048]⟩
abbrev S2048x12288 : Shape := ⟨2, ![2048, 12288]⟩
abbrev S1x2048 : Shape := ⟨2, ![1, 2048]⟩
abbrev S2048x4x512 : Shape := ⟨3, ![2048, 4, 512]⟩
abbrev S_ : Shape := ⟨0, ![]⟩
abbrev S2048x4 : Shape := ⟨2, ![2048, 4]⟩
abbrev S2048x4x1 : Shape := ⟨3, ![2048, 4, 1]⟩
abbrev S2048 : Shape := ⟨1, ![2048]⟩

abbrev nBuf : Space → Nat
  | .hbm => 143
  | .vmem => 0
  | .smem => 0
  | _ => 0

abbrev hbmTy0_0 (i : Nat) : BufTy := match i % 128 with
  | 0 => ⟨S2048x2048, .f32⟩
  | 1 => ⟨S2048x12288, .f32⟩
  | 2 => ⟨S2048x2048, .f32⟩
  | 3 => ⟨S2048x2048, .f32⟩
  | 4 => ⟨S2048x2048, .f32⟩
  | 5 => ⟨S1x2048, .f32⟩
  | 6 => ⟨S2048x2048, .f32⟩
  | 7 => ⟨S2048x2048, .f32⟩
  | 8 => ⟨S2048x2048, .f32⟩
  | 9 => ⟨S2048x4x512, .f32⟩
  | 10 => ⟨S2048x4x512, .f32⟩
  | 11 => ⟨S_, .f32⟩
  | 12 => ⟨S2048x4, .f32⟩
  | 13 => ⟨S2048x4x1, .f32⟩
  | 14 => ⟨S_, .f32⟩
  | 15 => ⟨S2048x4x1, .f32⟩
  | 16 => ⟨S2048x4x1, .f32⟩
  | 17 => ⟨S_, .f32⟩
  | 18 => ⟨S2048x4x1, .f32⟩
  | 19 => ⟨S2048x4x1, .f32⟩
  | 20 => ⟨S2048x4x1, .f32⟩
  | 21 => ⟨S2048x4x1, .f32⟩
  | 22 => ⟨S_, .f32⟩
  | 23 => ⟨S2048x4x1, .f32⟩
  | 24 => ⟨S2048x4x1, .f32⟩
  | 25 => ⟨S2048x4x512, .f32⟩
  | 26 => ⟨S2048x4x512, .f32⟩
  | 27 => ⟨S2048x2048, .f32⟩
  | 28 => ⟨S2048x2048, .f32⟩
  | 29 => ⟨S_, .f32⟩
  | 30 => ⟨S2048x2048, .f32⟩
  | 31 => ⟨S2048x2048, .f32⟩
  | 32 => ⟨S_, .f32⟩
  | 33 => ⟨S2048x2048, .f32⟩
  | 34 => ⟨S2048x2048, .f32⟩
  | 35 => ⟨S_, .f32⟩
  | 36 => ⟨S2048x2048, .f32⟩
  | 37 => ⟨S2048x2048, .f32⟩
  | 38 => ⟨S2048x2048, .f32⟩
  | 39 => ⟨S2048x2048, .f32⟩
  | 40 => ⟨S2048x2048, .f32⟩
  | 41 => ⟨S2048x2048, .f32⟩
  | 42 => ⟨S2048x2048, .f32⟩
  | 43 => ⟨S2048x2048, .f32⟩
  | 44 => ⟨S_, .f32⟩
  | 45 => ⟨S2048x2048, .f32⟩
  | 46 => ⟨S2048x2048, .f32⟩
  | 47 => ⟨S_, .f32⟩
  | 48 => ⟨S2048x2048, .f32⟩
  | 49 => ⟨S2048x2048, .f32⟩
  | 50 => ⟨S_, .f32⟩
  | 51 => ⟨S2048x2048, .f32⟩
  | 52 => ⟨S2048x2048, .f32⟩
  | 53 => ⟨S2048x2048, .f32⟩
  | 54 => ⟨S2048x2048, .f32⟩
  | 55 => ⟨S2048x2048, .f32⟩
  | 56 => ⟨S2048x2048, .f32⟩
  | 57 => ⟨S2048x2048, .f32⟩
  | 58 => ⟨S2048x2048, .f32⟩
  | 59 => ⟨S2048x2048, .f32⟩
  | 60 => ⟨S2048x4x512, .f32⟩
  | 61 => ⟨S2048x2048, .f32⟩
  | 62 => ⟨S2048x2048, .f32⟩
  | 63 => ⟨S2048x2048, .f32⟩
  | 64 => ⟨S2048x2048, .f32⟩
  | 65 => ⟨S2048x4x512, .f32⟩
  | 66 => ⟨S_, .f32⟩
  | 67 => ⟨S2048x4, .f32⟩
  | 68 => ⟨S2048x4x1, .f32⟩
  | 69 => ⟨S2048x4x512, .f32⟩
  | 70 => ⟨S2048x4x512, .f32⟩
  | 71 => ⟨S2048x4x1, .f32⟩
  | 72 => ⟨S_, .f32⟩
  | 73 => ⟨S2048x4x1, .f32⟩
  | 74 => ⟨S2048x4x1, .f32⟩
  | 75 => ⟨S_, .f32⟩
  | 76 => ⟨S2048x4, .f32⟩
  | 77 => ⟨S2048x4x512, .f32⟩
  | 78 => ⟨S2048x4x512, .f32⟩
  | 79 => ⟨S2048x4x512, .f32⟩
  | 80 => ⟨S2048x4x512, .f32⟩
  | 81 => ⟨S2048x4x512, .f32⟩
  | 82 => ⟨S2048x2048, .f32⟩
  | 83 => ⟨S2048, .f32⟩
  | 84 => ⟨S1x2048, .f32⟩
  | 85 => ⟨S2048x2048, .f32⟩
  | 86 => ⟨S2048x2048, .f32⟩
  | 87 => ⟨S2048x2048, .f32⟩
  | 88 => ⟨S2048x2048, .f32⟩
  | 89 => ⟨S2048x2048, .f32⟩
  | 90 => ⟨S2048x2048, .f32⟩
  | 91 => ⟨S_, .f32⟩
  | 92 => ⟨S2048x2048, .f32⟩
  | 93 => ⟨S2048x2048, .f32⟩
  | 94 => ⟨S_, .f32⟩
  | 95 => ⟨S2048x2048, .f32⟩
  | 96 => ⟨S2048x2048, .f32⟩
  | 97 => ⟨S2048x2048, .f32⟩
  | 98 => ⟨S_, .f32⟩
  | 99 => ⟨S2048x2048, .f32⟩
  | 100 => ⟨S2048x2048, .f32⟩
  | 101 => ⟨S2048x2048, .f32⟩
  | 102 => ⟨S_, .f32⟩
  | 103 => ⟨S2048x2048, .f32⟩
  | 104 => ⟨S2048x2048, .f32⟩
  | 105 => ⟨S_, .f32⟩
  | 106 => ⟨S2048x2048, .f32⟩
  | 107 => ⟨S2048x2048, .f32⟩
  | 108 => ⟨S2048x2048, .f32⟩
  | 109 => ⟨S_, .f32⟩
  | 110 => ⟨S2048x2048, .f32⟩
  | 111 => ⟨S2048x2048, .f32⟩
  | 112 => ⟨S_, .f32⟩
  | 113 => ⟨S2048x2048, .f32⟩
  | 114 => ⟨S2048x2048, .f32⟩
  | 115 => ⟨S2048x2048, .f32⟩
  | 116 => ⟨S2048x2048, .f32⟩
  | 117 => ⟨S2048x2048, .f32⟩
  | 118 => ⟨S_, .f32⟩
  | 119 => ⟨S2048x2048, .f32⟩
  | 120 => ⟨S2048x2048, .f32⟩
  | 121 => ⟨S2048x2048, .f32⟩
  | 122 => ⟨S_, .f32⟩
  | 123 => ⟨S2048x2048, .f32⟩
  | 124 => ⟨S2048x2048, .f32⟩
  | 125 => ⟨S2048x2048, .f32⟩
  | 126 => ⟨S_, .f32⟩
  | 127 => ⟨S2048x2048, .f32⟩
  | _ => ⟨S2048x2048, .f32⟩

abbrev hbmTy0_1 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .f32⟩
  | 5 => ⟨S2048x2048, .f32⟩
  | 6 => ⟨S_, .f32⟩
  | 7 => ⟨S2048, .f32⟩
  | 8 => ⟨S1x2048, .f32⟩
  | 9 => ⟨S_, .f32⟩
  | 10 => ⟨S2048, .f32⟩
  | 11 => ⟨S2048x2048, .bf16⟩
  | 12 => ⟨S2048x2048, .bf16⟩
  | 13 => ⟨S2048x2048, .bf16⟩
  | 14 => ⟨S1x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_19 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩

abbrev nD : Nat := 1
abbrev τ : Topo := Topo.v7x

variable {F : FTy → Type} [FloatOps F]
-- ==== BwdRot.lean ====
abbrev S2048x1024 : Shape := ⟨2, ![2048, 1024]⟩
abbrev S2048x2048 : Shape := ⟨2, ![2048, 2048]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x4096 : Shape := ⟨2, ![2048, 4096]⟩
abbrev S256x1024 : Shape := ⟨2, ![256, 1024]⟩
abbrev S256x2048 : Shape := ⟨2, ![256, 2048]⟩
abbrev S256x128 : Shape := ⟨2, ![256, 128]⟩
abbrev S256x4096 : Shape := ⟨2, ![256, 4096]⟩

abbrev nBuf : Space → Nat
  | .hbm => 22
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S2048, .f32⟩
  | .hbm, ⟨14, _⟩ => ⟨S2048x1, .f32⟩
  | .hbm, ⟨15, _⟩ => ⟨S1x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x4096, .bf16⟩
  | .local _ .vmem, ⟨11, _⟩ => ⟨S256x4096, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BwdRotRefIdeal.lean ====
abbrev S2048x1024 : Shape := ⟨2, ![2048, 1024]⟩
abbrev S2048x2048 : Shape := ⟨2, ![2048, 2048]⟩
abbrev S_ : Shape := ⟨0, ![]⟩
abbrev S2048x4096 : Shape := ⟨2, ![2048, 4096]⟩
abbrev S2048x4x256 : Shape := ⟨3, ![2048, 4, 256]⟩
abbrev S128 : Shape := ⟨1, ![128]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x1x128 : Shape := ⟨3, ![2048, 1, 128]⟩
abbrev S2048x4x128 : Shape := ⟨3, ![2048, 4, 128]⟩

abbrev nBuf : Space → Nat
  | .hbm => 126
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S_, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S2048x4x256, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S2048, .f32⟩
  | .hbm, ⟨20, _⟩ => ⟨S2048x1, .f32⟩
  | .hbm, ⟨21, _⟩ => ⟨S1x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S2048x1x128, .f32⟩
  | .hbm, ⟨27, _⟩ => ⟨S2048x128, .f32⟩
  | .hbm, ⟨28, _⟩ => ⟨S2048x1x128, .f32⟩
  | .hbm, ⟨29, _⟩ => ⟨S2048x4x128, .f32⟩
  | .hbm, ⟨30, _⟩ => ⟨S2048x4x128, .f32⟩
  | .hbm, ⟨31, _⟩ => ⟨S2048x4x128, .f32⟩
  | .hbm, ⟨32, _⟩ => ⟨S2048x4x128, .f32⟩
  | .hbm, ⟨33, _⟩ => ⟨S2048x4x128, .f32⟩
  | .hbm, ⟨34, _⟩ => ⟨S2048x4x128, .f32⟩
  | .hbm, ⟨35, _⟩ => ⟨S2048x4x128, .f32⟩
  | .hbm, ⟨36, _⟩ => ⟨S2048x4x128, .f32⟩
  | .hbm, ⟨37, _⟩ => ⟨S2048x4x128, .f32⟩
  | .hbm, ⟨38, _⟩ => ⟨S2048x4x128, .f32⟩
  | .hbm, ⟨39, _⟩ => ⟨S2048x4x128, .f32⟩
  | .hbm, ⟨40, _⟩ => ⟨S2048x4x128, .f32⟩
  | .hbm, ⟨41, _⟩ => ⟨S2048x4x256, .f32⟩
  | .hbm, ⟨42, _⟩ => ⟨S2048x1024, .f32⟩
  | .hbm, ⟨43, _⟩ => ⟨S2048x4x256, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S2048, .f32⟩
  | .hbm, ⟨55, _⟩ => ⟨S2048x1, .f32⟩
  | .hbm, ⟨56, _⟩ => ⟨S1x128, .f32⟩
  | .hbm, ⟨57, _⟩ => ⟨S2048x128, .f32⟩
  | .hbm, ⟨58, _⟩ => ⟨S2048x128, .f32⟩
  | .hbm, ⟨59, _⟩ => ⟨S2048x128, .f32⟩
  | .hbm, ⟨60, _⟩ => ⟨S2048x128, .f32⟩
  | .hbm, ⟨61, _⟩ => ⟨S2048x1x128, .f32⟩
  | .hbm, ⟨62, _⟩ => ⟨S2048x128, .f32⟩
  | .hbm, ⟨63, _⟩ => ⟨S2048x1x128, .f32⟩
  | .hbm, ⟨64, _⟩ => ⟨S2048x4x128, .f32⟩
  | .hbm, ⟨65, _⟩ => ⟨S2048x4x128, .f32⟩
  | .hbm, ⟨66, _⟩ => ⟨S2048x4x128, .f32⟩
  | .hbm, ⟨67, _⟩ => ⟨S2048x4x128, .f32⟩
  | .hbm, ⟨68, _⟩ => ⟨S2048x4x128, .f32⟩
  | .hbm, ⟨69, _⟩ => ⟨S2048x4x128, .f32⟩
  | .hbm, ⟨70, _⟩ => ⟨S2048x4x128, .f32⟩
  | .hbm, ⟨71, _⟩ => ⟨S2048x4x128, .f32⟩
  | .hbm, ⟨72, _⟩ => ⟨S2048x4x128, .f32⟩
  | .hbm, ⟨73, _⟩ => ⟨S2048x4x128, .f32⟩
  | .hbm, ⟨74, _⟩ => ⟨S2048x4x128, .f32⟩
  | .hbm, ⟨75, _⟩ => ⟨S2048x4x128, .f32⟩
  | .hbm, ⟨76, _⟩ => ⟨S2048x4x256, .f32⟩
  | .hbm, ⟨77, _⟩ => ⟨S_, .f32⟩
  | .hbm, ⟨78, _⟩ => ⟨S2048x4x256, .f32⟩
  | .hbm, ⟨79, _⟩ => ⟨S2048x4x256, .f32⟩
  | .hbm, ⟨80, _⟩ => ⟨S2048x1024, .f32⟩
  | .hbm, ⟨81, _⟩ => ⟨S2048x4x256, .f32⟩
  | .hbm, ⟨82, _⟩ => ⟨S_, .f32⟩
  | .hbm, ⟨83, _⟩ => ⟨S2048x4x256, .f32⟩
  | .hbm, ⟨84, _⟩ => ⟨S2048x4x256, .f32⟩
  | .hbm, ⟨85, _⟩ => ⟨S2048x4x128, .f32⟩
  | .hbm, ⟨86, _⟩ => ⟨S2048x4x128, .f32⟩
  | .hbm, ⟨87, _⟩ => ⟨S2048x4x128, .f32⟩
  | .hbm, ⟨88, _⟩ => ⟨S2048x4x128, .f32⟩
  | .hbm, ⟨89, _⟩ => ⟨S2048x4x128, .f32⟩
  | .hbm, ⟨90, _⟩ => ⟨S2048x4x128, .f32⟩
  | .hbm, ⟨91, _⟩ => ⟨S2048x4x128, .f32⟩
  | .hbm, ⟨92, _⟩ => ⟨S2048x4x128, .f32⟩
  | .hbm, ⟨93, _⟩ => ⟨S2048x4x128, .f32⟩
  | .hbm, ⟨94, _⟩ => ⟨S2048x4x128, .f32⟩
  | .hbm, ⟨95, _⟩ => ⟨S2048x4x128, .f32⟩
  | .hbm, ⟨96, _⟩ => ⟨S2048x4x128, .f32⟩
  | .hbm, ⟨97, _⟩ => ⟨S2048x4x128, .f32⟩
  | .hbm, ⟨98, _⟩ => ⟨S_, .f32⟩
  | .hbm, ⟨99, _⟩ => ⟨S2048x4x256, .f32⟩
  | .hbm, ⟨100, _⟩ => ⟨S_, .f32⟩
  | .hbm, ⟨101, _⟩ => ⟨S2048x4x256, .f32⟩
  | .hbm, ⟨102, _⟩ => ⟨S2048x4x256, .f32⟩
  | .hbm, ⟨103, _⟩ => ⟨S2048x1024, .f32⟩
  | .hbm, ⟨104, _⟩ => ⟨S2048x4x256, .f32⟩
  | .hbm, ⟨105, _⟩ => ⟨S2048x4x128, .f32⟩
  | .hbm, ⟨106, _⟩ => ⟨S2048x4x128, .f32⟩
  | .hbm, ⟨107, _⟩ => ⟨S2048x4x128, .f32⟩
  | .hbm, ⟨108, _⟩ => ⟨S2048x4x128, .f32⟩
  | .hbm, ⟨109, _⟩ => ⟨S2048x4x128, .f32⟩
  | .hbm, ⟨110, _⟩ => ⟨S2048x4x128, .f32⟩
  | .hbm, ⟨111, _⟩ => ⟨S2048x4x128, .f32⟩
  | .hbm, ⟨112, _⟩ => ⟨S2048x4x128, .f32⟩
  | .hbm, ⟨113, _⟩ => ⟨S2048x4x128, .f32⟩
  | .hbm, ⟨114, _⟩ => ⟨S2048x4x128, .f32⟩
  | .hbm, ⟨115, _⟩ => ⟨S2048x4x128, .f32⟩
  | .hbm, ⟨116, _⟩ => ⟨S2048x4x128, .f32⟩
  | .hbm, ⟨117, _⟩ => ⟨S2048x4x128, .f32⟩
  | .hbm, ⟨118, _⟩ => ⟨S_, .f32⟩
  | .hbm, ⟨119, _⟩ => ⟨S2048x4x256, .f32⟩
  | .hbm, ⟨120, _⟩ => ⟨S_, .f32⟩
  | .hbm, ⟨121, _⟩ => ⟨S2048x4x256, .f32⟩
  | .hbm, ⟨122, _⟩ => ⟨S2048x4x256, .f32⟩
  | .hbm, ⟨123, _⟩ => ⟨S2048x1024, .f32⟩
  | .hbm, ⟨124, _⟩ => ⟨S2048x4096, .f32⟩
  | .hbm, ⟨125, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_6 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_7 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_cst_8 : Ref sig .tc := ⟨.hbm, 98, rfl⟩
abbrev main_v86 : Ref sig .tc := ⟨.hbm, 99, rfl⟩
abbrev main_cst_9 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_10 : Ref sig .tc := ⟨.hbm, 118, rfl⟩
abbrev main_v104 : Ref sig .tc := ⟨.hbm, 119, rfl⟩
abbrev main_cst_11 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩

abbrev nD : Nat := 1
abbrev τ : Topo := Topo.v7x

variable {F : FTy → Type} [FloatOps F]
-- ==== LossStage.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .bf16⟩
  | .hbm, ⟨5, _⟩ => ⟨S1x128, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x128, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossStageRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .bf16⟩
  | .hbm, ⟨73, _⟩ => ⟨S1x128, .f32⟩
  | .hbm, ⟨74, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== FwdRms.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FwdRmsRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FwdSwish.lean ====
abbrev S2048x11264 : Shape := ⟨2, ![2048, 11264]⟩
abbrev S2048x5632 : Shape := ⟨2, ![2048, 5632]⟩
abbrev S128x5632 : Shape := ⟨2, ![128, 5632]⟩

abbrev nBuf : Space → Nat
  | .hbm => 2
  | .vmem => 6
  | .smem => 0
  | _ => 0

abbrev bufTy : (tb : Table) → Fin (tcTables nBuf tb) → BufTy
  | .hbm, ⟨0, _⟩ => ⟨S2048x11264, .f32⟩
  | .hbm, ⟨1, _⟩ => ⟨S2048x5632, .bf16⟩
  | .local _ .vmem, ⟨0, _⟩ => ⟨S128x5632, .f32⟩
  | .local _ .vmem, ⟨1, _⟩ => ⟨S128x5632, .f32⟩
  | .local _ .vmem, ⟨2, _⟩ => ⟨S128x5632, .f32⟩
  | .local _ .vmem, ⟨3, _⟩ => ⟨S128x5632, .f32⟩
  | .local _ .vmem, ⟨4, _⟩ => ⟨S128x5632, .bf16⟩
  | .local _ .vmem, ⟨5, _⟩ => ⟨S128x5632, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FwdSwishRefIdeal.lean ====
abbrev S2048x11264 : Shape := ⟨2, ![2048, 11264]⟩
abbrev S2048x5632 : Shape := ⟨2, ![2048, 5632]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S_, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== FwdMerge.lean ====
abbrev S2048x2048 : Shape := ⟨2, ![2048, 2048]⟩
abbrev S2048x12288 : Shape := ⟨2, ![2048, 12288]⟩
abbrev S1x2048 : Shape := ⟨2, ![1, 2048]⟩
abbrev S128x2048 : Shape := ⟨2, ![128, 2048]⟩

abbrev nBuf : Space → Nat
  | .hbm => 6
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x12288, .f32⟩
  | .hbm, ⟨3, _⟩ => ⟨S2048x2048, .f32⟩
  | .hbm, ⟨4, _⟩ => ⟨S1x2048, .f32⟩
  | .hbm, ⟨5, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S128x2048, .bf16⟩
  | .local _ .vmem, ⟨10, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdMergeRefIdeal.lean ====
abbrev S2048x2048 : Shape := ⟨2, ![2048, 2048]⟩
abbrev S2048x12288 : Shape := ⟨2, ![2048, 12288]⟩
abbrev S1x2048 : Shape := ⟨2, ![1, 2048]⟩
abbrev S2048 : Shape := ⟨1, ![2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x12288, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== FwdPost.lean ====
abbrev S2048x2048 : Shape := ⟨2, ![2048, 2048]⟩
abbrev S2048x12288 : Shape := ⟨2, ![2048, 12288]⟩
abbrev S1x2048 : Shape := ⟨2, ![1, 2048]⟩
abbrev S128x512 : Shape := ⟨2, ![128, 512]⟩
abbrev S128x2048 : Shape := ⟨2, ![128, 2048]⟩
abbrev S128 : Shape := ⟨1, ![128]⟩
abbrev S128x1 : Shape := ⟨2, ![128, 1]⟩

abbrev nBuf : Space → Nat
  | .hbm => 7
  | .vmem => 23
  | .smem => 0
  | _ => 0

abbrev bufTy : (tb : Table) → Fin (tcTables nBuf tb) → BufTy
  | .hbm, ⟨0, _⟩ => ⟨S2048x2048, .f32⟩
  | .hbm, ⟨1, _⟩ => ⟨S2048x12288, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S1x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .bf16⟩
  | .local _ .vmem, ⟨22, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FwdPostRefIdeal.lean ====
abbrev S2048x2048 : Shape := ⟨2, ![2048, 2048]⟩
abbrev S2048x12288 : Shape := ⟨2, ![2048, 12288]⟩
abbrev S1x2048 : Shape := ⟨2, ![1, 2048]⟩
abbrev S2048 : Shape := ⟨1, ![2048]⟩
abbrev S_ : Shape := ⟨0, ![]⟩
abbrev S2048x4x512 : Shape := ⟨3, ![2048, 4, 512]⟩
abbrev S2048x4 : Shape := ⟨2, ![2048, 4]⟩
abbrev S2048x4x1 : Shape := ⟨3, ![2048, 4, 1]⟩

abbrev nBuf : Space → Nat
  | .hbm => 64
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x12288, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x4x512, .f32⟩
  | .hbm, ⟨30, _⟩ => ⟨S2048x4x512, .f32⟩
  | .hbm, ⟨31, _⟩ => ⟨S_, .f32⟩
  | .hbm, ⟨32, _⟩ => ⟨S2048x4, .f32⟩
  | .hbm, ⟨33, _⟩ => ⟨S2048x4x1, .f32⟩
  | .hbm, ⟨34, _⟩ => ⟨S_, .f32⟩
  | .hbm, ⟨35, _⟩ => ⟨S2048x4x1, .f32⟩
  | .hbm, ⟨36, _⟩ => ⟨S2048x4x1, .f32⟩
  | .hbm, ⟨37, _⟩ => ⟨S_, .f32⟩
  | .hbm, ⟨38, _⟩ => ⟨S2048x4x1, .f32⟩
  | .hbm, ⟨39, _⟩ => ⟨S2048x4x1, .f32⟩
  | .hbm, ⟨40, _⟩ => ⟨S2048x4x1, .f32⟩
  | .hbm, ⟨41, _⟩ => ⟨S2048x4x512, .f32⟩
  | .hbm, ⟨42, _⟩ => ⟨S2048x4x512, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== FwdRot.lean ====
abbrev S2048x12288 : Shape := ⟨2, ![2048, 12288]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x1024 : Shape := ⟨2, ![2048, 1024]⟩
abbrev S256x1024 : Shape := ⟨2, ![256, 1024]⟩
abbrev S256x128 : Shape := ⟨2, ![256, 128]⟩

abbrev nBuf : Space → Nat
  | .hbm => 21
  | .vmem => 12
  | .smem => 0
  | _ => 0

abbrev bufTy : (tb : Table) → Fin (tcTables nBuf tb) → BufTy
  | .hbm, ⟨0, _⟩ => ⟨S2048x12288, .f32⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S2048, .f32⟩
  | .hbm, ⟨12, _⟩ => ⟨S2048x1, .f32⟩
  | .hbm, ⟨13, _⟩ => ⟨S1x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x1024, .bf16⟩
  | .hbm, ⟨20, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdRotRefIdeal.lean ====
abbrev S2048x12288 : Shape := ⟨2, ![2048, 12288]⟩
abbrev S2048x4096 : Shape := ⟨2, ![2048, 4096]⟩
abbrev S2048x1024 : Shape := ⟨2, ![2048, 1024]⟩
abbrev S2048x2048 : Shape := ⟨2, ![2048, 2048]⟩
abbrev S2048x4x256 : Shape := ⟨3, ![2048, 4, 256]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x1x128 : Shape := ⟨3, ![2048, 1, 128]⟩
abbrev S2048x4x128 : Shape := ⟨3, ![2048, 4, 128]⟩

abbrev nBuf : Space → Nat
  | .hbm => 80
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S2048x4096, .f32⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x4x256, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S2048, .f32⟩
  | .hbm, ⟨17, _⟩ => ⟨S2048x1, .f32⟩
  | .hbm, ⟨18, _⟩ => ⟨S1x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x1x128, .f32⟩
  | .hbm, ⟨24, _⟩ => ⟨S2048x128, .f32⟩
  | .hbm, ⟨25, _⟩ => ⟨S2048x1x128, .f32⟩
  | .hbm, ⟨26, _⟩ => ⟨S2048x4x128, .f32⟩
  | .hbm, ⟨27, _⟩ => ⟨S2048x4x128, .f32⟩
  | .hbm, ⟨28, _⟩ => ⟨S2048x4x128, .f32⟩
  | .hbm, ⟨29, _⟩ => ⟨S2048x4x128, .f32⟩
  | .hbm, ⟨30, _⟩ => ⟨S2048x4x128, .f32⟩
  | .hbm, ⟨31, _⟩ => ⟨S2048x4x128, .f32⟩
  | .hbm, ⟨32, _⟩ => ⟨S2048x4x128, .f32⟩
  | .hbm, ⟨33, _⟩ => ⟨S2048x4x128, .f32⟩
  | .hbm, ⟨34, _⟩ => ⟨S2048x4x128, .f32⟩
  | .hbm, ⟨35, _⟩ => ⟨S2048x4x128, .f32⟩
  | .hbm, ⟨36, _⟩ => ⟨S2048x4x128, .f32⟩
  | .hbm, ⟨37, _⟩ => ⟨S2048x4x128, .f32⟩
  | .hbm, ⟨38, _⟩ => ⟨S2048x4x256, .f32⟩
  | .hbm, ⟨39, _⟩ => ⟨S2048x1024, .f32⟩
  | .hbm, ⟨40, _⟩ => ⟨S2048x4x256, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S2048, .f32⟩
  | .hbm, ⟨52, _⟩ => ⟨S2048x1, .f32⟩
  | .hbm, ⟨53, _⟩ => ⟨S1x128, .f32⟩
  | .hbm, ⟨54, _⟩ => ⟨S2048x128, .f32⟩
  | .hbm, ⟨55, _⟩ => ⟨S2048x128, .f32⟩
  | .hbm, ⟨56, _⟩ => ⟨S2048x128, .f32⟩
  | .hbm, ⟨57, _⟩ => ⟨S2048x128, .f32⟩
  | .hbm, ⟨58, _⟩ => ⟨S2048x1x128, .f32⟩
  | .hbm, ⟨59, _⟩ => ⟨S2048x128, .f32⟩
  | .hbm, ⟨60, _⟩ => ⟨S2048x1x128, .f32⟩
  | .hbm, ⟨61, _⟩ => ⟨S2048x4x128, .f32⟩
  | .hbm, ⟨62, _⟩ => ⟨S2048x4x128, .f32⟩
  | .hbm, ⟨63, _⟩ => ⟨S2048x4x128, .f32⟩
  | .hbm, ⟨64, _⟩ => ⟨S2048x4x128, .f32⟩
  | .hbm, ⟨65, _⟩ => ⟨S2048x4x128, .f32⟩
  | .hbm, ⟨66, _⟩ => ⟨S2048x4x128, .f32⟩
  | .hbm, ⟨67, _⟩ => ⟨S2048x4x128, .f32⟩
  | .hbm, ⟨68, _⟩ => ⟨S2048x4x128, .f32⟩
  | .hbm, ⟨69, _⟩ => ⟨S2048x4x128, .f32⟩
  | .hbm, ⟨70, _⟩ => ⟨S2048x4x128, .f32⟩
  | .hbm, ⟨71, _⟩ => ⟨S2048x4x128, .f32⟩
  | .hbm, ⟨72, _⟩ => ⟨S2048x4x128, .f32⟩
  | .hbm, ⟨73, _⟩ => ⟨S2048x4x256, .f32⟩
  | .hbm, ⟨74, _⟩ => ⟨S_, .f32⟩
  | .hbm, ⟨75, _⟩ => ⟨S2048x4x256, .f32⟩
  | .hbm, ⟨76, _⟩ => ⟨S2048x4x256, .f32⟩
  | .hbm, ⟨77, _⟩ => ⟨S2048x1024, .f32⟩
  | .hbm, ⟨78, _⟩ => ⟨S2048x1024, .bf16⟩
  | .hbm, ⟨79, _⟩ => ⟨S2048x1024, .bf16⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_2 : Ref sig .tc := ⟨.hbm, 42, rfl⟩
abbrev main_v38 : Ref sig .tc := ⟨.hbm, 43, rfl⟩
abbrev main_v39 : Ref sig .tc := ⟨.hbm, 44, rfl⟩
abbrev main_cst_3 : Ref sig .tc := ⟨.hbm, 45, rfl⟩
abbrev main_v40 : Ref sig .tc := ⟨.hbm, 46, rfl⟩
abbrev main_v41 : Ref sig .tc := ⟨.hbm, 47, rfl⟩
abbrev main_cst_4 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_5 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩

abbrev nD : Nat := 1
abbrev τ : Topo := Topo.v7x

variable {F : FTy → Type} [FloatOps F]
-- ==== FwdRet.lean ====
abbrev S2048x1024 : Shape := ⟨2, ![2048, 1024]⟩
abbrev S2048x12288 : Shape := ⟨2, ![2048, 12288]⟩
abbrev S2x4 : Shape := ⟨2, ![2, 4]⟩
abbrev S4x2 : Shape := ⟨2, ![4, 2]⟩
abbrev S4x2x1 : Shape := ⟨3, ![4, 2, 1]⟩
abbrev S4x2x128 : Shape := ⟨3, ![4, 2, 128]⟩
abbrev S2048x2048 : Shape := ⟨2, ![2048, 2048]⟩
abbrev S512x256 : Shape := ⟨2, ![512, 256]⟩
abbrev S2048x256 : Shape := ⟨2, ![2048, 256]⟩
abbrev S2048x512 : Shape := ⟨2, ![2048, 512]⟩
abbrev S1x2x128 : Shape := ⟨3, ![1, 2, 128]⟩
abbrev S512x512 : Shape := ⟨2, ![512, 512]⟩
abbrev S512x2048 : Shape := ⟨2, ![512, 2048]⟩
abbrev S1x1x1 : Shape := ⟨3, ![1, 1, 1]⟩
abbrev S1x1 : Shape := ⟨2, ![1, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x12288, .f32⟩
  | .hbm, ⟨3, _⟩ => ⟨S2x4, .f32⟩
  | .hbm, ⟨4, _⟩ => ⟨S4x2, .f32⟩
  | .hbm, ⟨5, _⟩ => ⟨S4x2x1, .f32⟩
  | .hbm, ⟨6, _⟩ => ⟨S4x2x128, .f32⟩
  | .hbm, ⟨7, _⟩ => ⟨S2048x2048, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .f32⟩
  | .local _ .vmem, ⟨5, _⟩ => ⟨S2048x512, .f32⟩
  | .local _ .vmem, ⟨6, _⟩ => ⟨S1x2x128, .f32⟩
  | .local _ .vmem, ⟨7, _⟩ => ⟨S1x2x128, .f32⟩
  | .local _ .vmem, ⟨8, _⟩ => ⟨S512x512, .f32⟩
  | .local _ .vmem, ⟨9, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdRetRefIdeal.lean ====
abbrev S2048x1024 : Shape := ⟨2, ![2048, 1024]⟩
abbrev S2048x12288 : Shape := ⟨2, ![2048, 12288]⟩
abbrev S2x4 : Shape := ⟨2, ![2, 4]⟩
abbrev S2048x4x256 : Shape := ⟨3, ![2048, 4, 256]⟩
abbrev S2048x2048 : Shape := ⟨2, ![2048, 2048]⟩
abbrev S2048x4x512 : Shape := ⟨3, ![2048, 4, 512]⟩
abbrev S1x4 : Shape := ⟨2, ![1, 4]⟩
abbrev S4 : Shape := ⟨1, ![4]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S4x512x2048 : Shape := ⟨3, ![4, 512, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x12288, .f32⟩
  | .hbm, ⟨3, _⟩ => ⟨S2x4, .f32⟩
  | .hbm, ⟨4, _⟩ => ⟨S2048x1024, .f32⟩
  | .hbm, ⟨5, _⟩ => ⟨S2048x4x256, .f32⟩
  | .hbm, ⟨6, _⟩ => ⟨S2048x1024, .f32⟩
  | .hbm, ⟨7, _⟩ => ⟨S2048x4x256, .f32⟩
  | .hbm, ⟨8, _⟩ => ⟨S2048x2048, .f32⟩
  | .hbm, ⟨9, _⟩ => ⟨S2048x4x512, .f32⟩
  | .hbm, ⟨10, _⟩ => ⟨S1x4, .f32⟩
  | .hbm, ⟨11, _⟩ => ⟨S4, .f32⟩
  | .hbm, ⟨12, _⟩ => ⟨S1x4, .f32⟩
  | .hbm, ⟨13, _⟩ => ⟨S4, .f32⟩
  | .hbm, ⟨14, _⟩ => ⟨S2048, .f32⟩
  | .hbm, ⟨15, _⟩ => ⟨S2048x1, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .i1⟩
  | .hbm, ⟨23, _⟩ => ⟨S4x1x1, .f32⟩
  | .hbm, ⟨24, _⟩ => ⟨S1x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x1x1, .f32⟩
  | .hbm, ⟨29, _⟩ => ⟨S2048x2048, .f32⟩
  | .hbm, ⟨30, _⟩ => ⟨S1x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .i1⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x512x2048, .f32⟩
  | .hbm, ⟨40, _⟩ => ⟨S2048x4x512, .f32⟩
  | .hbm, ⟨41, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== AdamIn.lean ====
abbrev S4096x3072 : Shape := ⟨2, ![4096, 3072]⟩
abbrev S8x128 : Shape := ⟨2, ![8, 128]⟩
abbrev S128x3072 : Shape := ⟨2, ![128, 3072]⟩

abbrev nBuf : Space → Nat
  | .hbm => 8
  | .vmem => 15
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S8x128, .f32⟩
  | .hbm, ⟨5, _⟩ => ⟨S4096x3072, .f32⟩
  | .hbm, ⟨6, _⟩ => ⟨S4096x3072, .f32⟩
  | .hbm, ⟨7, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S8x128, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4096x3072 : Shape := ⟨2, ![4096, 3072]⟩
abbrev S8x128 : Shape := ⟨2, ![8, 128]⟩
abbrev S128x3072 : Shape := ⟨2, ![128, 3072]⟩

abbrev nBuf : Space → Nat
  | .hbm => 8
  | .vmem => 15
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S8x128, .f32⟩
  | .hbm, ⟨5, _⟩ => ⟨S4096x3072, .f32⟩
  | .hbm, ⟨6, _⟩ => ⟨S4096x3072, .f32⟩
  | .hbm, ⟨7, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S8x128, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4096x3072 : Shape := ⟨2, ![4096, 3072]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x3072, .f32⟩
  | .hbm, ⟨4, _⟩ => ⟨S8x128, .f32⟩
  | .hbm, ⟨5, _⟩ => ⟨S_, .f32⟩
  | .hbm, ⟨6, _⟩ => ⟨S4096x3072, .f32⟩
  | .hbm, ⟨7, _⟩ => ⟨S4096x3072, .f32⟩
  | .hbm, ⟨8, _⟩ => ⟨S_, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S_, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S_, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S_, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamOut.lean ====
abbrev S1024x2048 : Shape := ⟨2, ![1024, 2048]⟩
abbrev S8x128 : Shape := ⟨2, ![8, 128]⟩
abbrev S128x2048 : Shape := ⟨2, ![128, 2048]⟩

abbrev nBuf : Space → Nat
  | .hbm => 8
  | .vmem => 15
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S8x128, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S8x128, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S1024x2048 : Shape := ⟨2, ![1024, 2048]⟩
abbrev S8x128 : Shape := ⟨2, ![8, 128]⟩
abbrev S128x2048 : Shape := ⟨2, ![128, 2048]⟩

abbrev nBuf : Space → Nat
  | .hbm => 8
  | .vmem => 15
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S8x128, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S8x128, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S1024x2048 : Shape := ⟨2, ![1024, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S8x128, .f32⟩
  | .hbm, ⟨5, _⟩ => ⟨S_, .f32⟩
  | .hbm, ⟨6, _⟩ => ⟨S1024x2048, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S_, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S_, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamGu.lean ====
abbrev S4096x1408 : Shape := ⟨2, ![4096, 1408]⟩
abbrev S8x128 : Shape := ⟨2, ![8, 128]⟩
abbrev S256x1408 : Shape := ⟨2, ![256, 1408]⟩

abbrev nBuf : Space → Nat
  | .hbm => 8
  | .vmem => 15
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S8x128, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S8x128, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGuIdeal.lean ====
abbrev S4096x1408 : Shape := ⟨2, ![4096, 1408]⟩
abbrev S8x128 : Shape := ⟨2, ![8, 128]⟩
abbrev S256x1408 : Shape := ⟨2, ![256, 1408]⟩

abbrev nBuf : Space → Nat
  | .hbm => 8
  | .vmem => 15
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S8x128, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S8x128, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGuRefIdeal.lean ====
abbrev S4096x1408 : Shape := ⟨2, ![4096, 1408]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S8x128, .f32⟩
  | .hbm, ⟨5, _⟩ => ⟨S_, .f32⟩
  | .hbm, ⟨6, _⟩ => ⟨S4096x1408, .f32⟩
  | .hbm, ⟨7, _⟩ => ⟨S4096x1408, .f32⟩
  | .hbm, ⟨8, _⟩ => ⟨S_, .f32⟩
  | .hbm, ⟨9, _⟩ => ⟨S4096x1408, .f32⟩
  | .hbm, ⟨10, _⟩ => ⟨S4096x1408, .f32⟩
  | .hbm, ⟨11, _⟩ => ⟨S4096x1408, .f32⟩
  | .hbm, ⟨12, _⟩ => ⟨S_, .f32⟩
  | .hbm, ⟨13, _⟩ => ⟨S4096x1408, .f32⟩
  | .hbm, ⟨14, _⟩ => ⟨S4096x1408, .f32⟩
  | .hbm, ⟨15, _⟩ => ⟨S4096x1408, .f32⟩
  | .hbm, ⟨16, _⟩ => ⟨S_, .f32⟩
  | .hbm, ⟨17, _⟩ => ⟨S4096x1408, .f32⟩
  | .hbm, ⟨18, _⟩ => ⟨S4096x1408, .f32⟩
  | .hbm, ⟨19, _⟩ => ⟨S4096x1408, .f32⟩
  | .hbm, ⟨20, _⟩ => ⟨S_, .f32⟩
  | .hbm, ⟨21, _⟩ => ⟨S4096x1408, .f32⟩
  | .hbm, ⟨22, _⟩ => ⟨S4096x1408, .f32⟩
  | .hbm, ⟨23, _⟩ => ⟨S_, .f32⟩
  | .hbm, ⟨24, _⟩ => ⟨S4096x1408, .f32⟩
  | .hbm, ⟨25, _⟩ => ⟨S4096x1408, .f32⟩
  | .hbm, ⟨26, _⟩ => ⟨S4096x1408, .f32⟩
  | .hbm, ⟨27, _⟩ => ⟨S_, .f32⟩
  | .hbm, ⟨28, _⟩ => ⟨S4096x1408, .f32⟩
  | .hbm, ⟨29, _⟩ => ⟨S4096x1408, .f32⟩
  | .hbm, ⟨30, _⟩ => ⟨S4096x1408, .f32⟩
  | .hbm, ⟨31, _⟩ => ⟨S_, .f32⟩
  | .hbm, ⟨32, _⟩ => ⟨S4096x1408, .f32⟩
  | .hbm, ⟨33, _⟩ => ⟨S4096x1408, .f32⟩
  | .hbm, ⟨34, _⟩ => ⟨S4096x1408, .f32⟩
  | .hbm, ⟨35, _⟩ => ⟨S_, .f32⟩
  | .hbm, ⟨36, _⟩ => ⟨S4096x1408, .f32⟩
  | .hbm, ⟨37, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamDown.lean ====
abbrev S2816x2048 : Shape := ⟨2, ![2816, 2048]⟩
abbrev S8x128 : Shape := ⟨2, ![8, 128]⟩
abbrev S128x2048 : Shape := ⟨2, ![128, 2048]⟩

abbrev nBuf : Space → Nat
  | .hbm => 8
  | .vmem => 15
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S8x128, .f32⟩
  | .hbm, ⟨5, _⟩ => ⟨S2816x2048, .f32⟩
  | .hbm, ⟨6, _⟩ => ⟨S2816x2048, .f32⟩
  | .hbm, ⟨7, _⟩ => ⟨S2816x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S8x128, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S2816x2048 : Shape := ⟨2, ![2816, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S8x128, .f32⟩
  | .hbm, ⟨5, _⟩ => ⟨S_, .f32⟩
  | .hbm, ⟨6, _⟩ => ⟨S2816x2048, .f32⟩
  | .hbm, ⟨7, _⟩ => ⟨S2816x2048, .f32⟩
  | .hbm, ⟨8, _⟩ => ⟨S_, .f32⟩
  | .hbm, ⟨9, _⟩ => ⟨S2816x2048, .f32⟩
  | .hbm, ⟨10, _⟩ => ⟨S2816x2048, .f32⟩
  | .hbm, ⟨11, _⟩ => ⟨S2816x2048, .f32⟩
  | .hbm, ⟨12, _⟩ => ⟨S_, .f32⟩
  | .hbm, ⟨13, _⟩ => ⟨S2816x2048, .f32⟩
  | .hbm, ⟨14, _⟩ => ⟨S2816x2048, .f32⟩
  | .hbm, ⟨15, _⟩ => ⟨S2816x2048, .f32⟩
  | .hbm, ⟨16, _⟩ => ⟨S_, .f32⟩
  | .hbm, ⟨17, _⟩ => ⟨S2816x2048, .f32⟩
  | .hbm, ⟨18, _⟩ => ⟨S2816x2048, .f32⟩
  | .hbm, ⟨19, _⟩ => ⟨S2816x2048, .f32⟩
  | .hbm, ⟨20, _⟩ => ⟨S_, .f32⟩
  | .hbm, ⟨21, _⟩ => ⟨S2816x2048, .f32⟩
  | .hbm, ⟨22, _⟩ => ⟨S2816x2048, .f32⟩
  | .hbm, ⟨23, _⟩ => ⟨S_, .f32⟩
  | .hbm, ⟨24, _⟩ => ⟨S2816x2048, .f32⟩
  | .hbm, ⟨25, _⟩ => ⟨S2816x2048, .f32⟩
  | .hbm, ⟨26, _⟩ => ⟨S2816x2048, .f32⟩
  | .hbm, ⟨27, _⟩ => ⟨S_, .f32⟩
  | .hbm, ⟨28, _⟩ => ⟨S2816x2048, .f32⟩
  | .hbm, ⟨29, _⟩ => ⟨S2816x2048, .f32⟩
  | .hbm, ⟨30, _⟩ => ⟨S2816x2048, .f32⟩
  | .hbm, ⟨31, _⟩ => ⟨S_, .f32⟩
  | .hbm, ⟨32, _⟩ => ⟨S2816x2048, .f32⟩
  | .hbm, ⟨33, _⟩ => ⟨S2816x2048, .f32⟩
  | .hbm, ⟨34, _⟩ => ⟨S2816x2048, .f32⟩
  | .hbm, ⟨35, _⟩ => ⟨S_, .f32⟩
  | .hbm, ⟨36, _⟩ => ⟨S2816x2048, .f32⟩
  | .hbm, ⟨37, _⟩ => ⟨S2816x2048, .f32⟩
  | _, _ => ⟨S2816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamTiny.lean ====
abbrev S2x2048 : Shape := ⟨2, ![2, 2048]⟩
abbrev S2x2x4 : Shape := ⟨3, ![2, 2, 4]⟩
abbrev S2x2x128x64 : Shape := ⟨4, ![2, 2, 128, 64]⟩
abbrev S2x2x128 : Shape := ⟨3, ![2, 2, 128]⟩
abbrev S2048 : Shape := ⟨1, ![2048]⟩
abbrev S4096 : Shape := ⟨1, ![4096]⟩
abbrev S_ : Shape := ⟨0, ![]⟩
abbrev S16384 : Shape := ⟨1, ![16384]⟩
abbrev S16 : Shape := ⟨1, ![16]⟩
abbrev S32768 : Shape := ⟨1, ![32768]⟩
abbrev S512 : Shape := ⟨1, ![512]⟩
abbrev S81920 : Shape := ⟨1, ![81920]⟩
abbrev S262144 : Shape := ⟨1, ![262144]⟩
abbrev S2048x128 : Shape := ⟨2, ![2048, 128]⟩
abbrev S512x128 : Shape := ⟨2, ![512, 128]⟩
abbrev S128x128 : Shape := ⟨2, ![128, 128]⟩
abbrev S256x128 : Shape := ⟨2, ![256, 128]⟩

abbrev nBuf : Space → Nat
  | .hbm => 321
  | .vmem => 14
  | .smem => 0
  | _ => 0

abbrev hbmTy0_0 (i : Nat) : BufTy := match i % 128 with
  | 0 => ⟨S2x2048, .f32⟩
  | 1 => ⟨S2x2x4, .f32⟩
  | 2 => ⟨S2x2x128x64, .f32⟩
  | 3 => ⟨S2x2x128x64, .f32⟩
  | 4 => ⟨S2x2x128, .f32⟩
  | 5 => ⟨S2x2048, .f32⟩
  | 6 => ⟨S2x2048, .f32⟩
  | 7 => ⟨S2x2048, .f32⟩
  | 8 => ⟨S2048, .f32⟩
  | 9 => ⟨S2x2048, .f32⟩
  | 10 => ⟨S2x2x4, .f32⟩
  | 11 => ⟨S2x2x128x64, .f32⟩
  | 12 => ⟨S2x2x128x64, .f32⟩
  | 13 => ⟨S2x2x128, .f32⟩
  | 14 => ⟨S2x2048, .f32⟩
  | 15 => ⟨S2x2048, .f32⟩
  | 16 => ⟨S2x2048, .f32⟩
  | 17 => ⟨S2048, .f32⟩
  | 18 => ⟨S2x2048, .f32⟩
  | 19 => ⟨S2x2x4, .f32⟩
  | 20 => ⟨S2x2x128x64, .f32⟩
  | 21 => ⟨S2x2x128x64, .f32⟩
  | 22 => ⟨S2x2x128, .f32⟩
  | 23 => ⟨S2x2048, .f32⟩
  | 24 => ⟨S2x2048, .f32⟩
  | 25 => ⟨S2x2048, .f32⟩
  | 26 => ⟨S2048, .f32⟩
  | 27 => ⟨S2x2048, .f32⟩
  | 28 => ⟨S2x2x4, .f32⟩
  | 29 => ⟨S2x2x128x64, .f32⟩
  | 30 => ⟨S2x2x128x64, .f32⟩
  | 31 => ⟨S2x2x128, .f32⟩
  | 32 => ⟨S2x2048, .f32⟩
  | 33 => ⟨S2x2048, .f32⟩
  | 34 => ⟨S2x2048, .f32⟩
  | 35 => ⟨S2048, .f32⟩
  | 36 => ⟨S4096, .f32⟩
  | 37 => ⟨S_, .i32⟩
  | 38 => ⟨S_, .f32⟩
  | 39 => ⟨S16384, .f32⟩
  | 40 => ⟨S16, .f32⟩
  | 41 => ⟨S_, .i32⟩
  | 42 => ⟨S_, .f32⟩
  | 43 => ⟨S16384, .f32⟩
  | 44 => ⟨S32768, .f32⟩
  | 45 => ⟨S_, .i32⟩
  | 46 => ⟨S_, .f32⟩
  | 47 => ⟨S32768, .f32⟩
  | 48 => ⟨S32768, .f32⟩
  | 49 => ⟨S_, .i32⟩
  | 50 => ⟨S_, .f32⟩
  | 51 => ⟨S32768, .f32⟩
  | 52 => ⟨S512, .f32⟩
  | 53 => ⟨S_, .i32⟩
  | 54 => ⟨S_, .f32⟩
  | 55 => ⟨S16384, .f32⟩
  | 56 => ⟨S4096, .f32⟩
  | 57 => ⟨S_, .i32⟩
  | 58 => ⟨S_, .f32⟩
  | 59 => ⟨S16384, .f32⟩
  | 60 => ⟨S4096, .f32⟩
  | 61 => ⟨S_, .i32⟩
  | 62 => ⟨S_, .f32⟩
  | 63 => ⟨S16384, .f32⟩
  | 64 => ⟨S4096, .f32⟩
  | 65 => ⟨S_, .i32⟩
  | 66 => ⟨S_, .f32⟩
  | 67 => ⟨S16384, .f32⟩
  | 68 => ⟨S_, .i32⟩
  | 69 => ⟨S_, .f32⟩
  | 70 => ⟨S16384, .f32⟩
  | 71 => ⟨S_, .f32⟩
  | 72 => ⟨S81920, .f32⟩
  | 73 => ⟨S262144, .f32⟩
  | 74 => ⟨S2048x128, .f32⟩
  | 75 => ⟨S4096, .f32⟩
  | 76 => ⟨S_, .i32⟩
  | 77 => ⟨S_, .f32⟩
  | 78 => ⟨S16384, .f32⟩
  | 79 => ⟨S16, .f32⟩
  | 80 => ⟨S_, .i32⟩
  | 81 => ⟨S_, .f32⟩
  | 82 => ⟨S16384, .f32⟩
  | 83 => ⟨S32768, .f32⟩
  | 84 => ⟨S_, .i32⟩
  | 85 => ⟨S_, .f32⟩
  | 86 => ⟨S32768, .f32⟩
  | 87 => ⟨S32768, .f32⟩
  | 88 => ⟨S_, .i32⟩
  | 89 => ⟨S_, .f32⟩
  | 90 => ⟨S32768, .f32⟩
  | 91 => ⟨S512, .f32⟩
  | 92 => ⟨S_, .i32⟩
  | 93 => ⟨S_, .f32⟩
  | 94 => ⟨S16384, .f32⟩
  | 95 => ⟨S4096, .f32⟩
  | 96 => ⟨S_, .i32⟩
  | 97 => ⟨S_, .f32⟩
  | 98 => ⟨S16384, .f32⟩
  | 99 => ⟨S4096, .f32⟩
  | 100 => ⟨S_, .i32⟩
  | 101 => ⟨S_, .f32⟩
  | 102 => ⟨S16384, .f32⟩
  | 103 => ⟨S4096, .f32⟩
  | 104 => ⟨S_, .i32⟩
  | 105 => ⟨S_, .f32⟩
  | 106 => ⟨S16384, .f32⟩
  | 107 => ⟨S_, .i32⟩
  | 108 => ⟨S_, .f32⟩
  | 109 => ⟨S16384, .f32⟩
  | 110 => ⟨S_, .f32⟩
  | 111 => ⟨S81920, .f32⟩
  | 112 => ⟨S262144, .f32⟩
  | 113 => ⟨S2048x128, .f32⟩
  | 114 => ⟨S4096, .f32⟩
  | 115 => ⟨S_, .i32⟩
  | 116 => ⟨S_, .f32⟩
  | 117 => ⟨S16384, .f32⟩
  | 118 => ⟨S16, .f32⟩
  | 119 => ⟨S_, .i32⟩
  | 120 => ⟨S_, .f32⟩
  | 121 => ⟨S16384, .f32⟩
  | 122 => ⟨S32768, .f32⟩
  | 123 => ⟨S_, .i32⟩
  | 124 => ⟨S_, .f32⟩
  | 125 => ⟨S32768, .f32⟩
  | 126 => ⟨S32768, .f32⟩
  | 127 => ⟨S_, .i32⟩
  | _ => ⟨S2x2048, .f32⟩

abbrev hbmTy0_1 (i : Nat) : BufTy := match i % 128 with
  | 0 => ⟨S_, .f32⟩
  | 1 => ⟨S32768, .f32⟩
  | 2 => ⟨S512, .f32⟩
  | 3 => ⟨S_, .i32⟩
  | 4 => ⟨S_, .f32⟩
  | 5 => ⟨S16384, .f32⟩
  | 6 => ⟨S4096, .f32⟩
  | 7 => ⟨S_, .i32⟩
  | 8 => ⟨S_, .f32⟩
  | 9 => ⟨S16384, .f32⟩
  | 10 => ⟨S4096, .f32⟩
  | 11 => ⟨S_, .i32⟩
  | 12 => ⟨S_, .f32⟩
  | 13 => ⟨S16384, .f32⟩
  | 14 => ⟨S4096, .f32⟩
  | 15 => ⟨S_, .i32⟩
  | 16 => ⟨S_, .f32⟩
  | 17 => ⟨S16384, .f32⟩
  | 18 => ⟨S_, .i32⟩
  | 19 => ⟨S_, .f32⟩
  | 20 => ⟨S16384, .f32⟩
  | 21 => ⟨S_, .f32⟩
  | 22 => ⟨S81920, .f32⟩
  | 23 => ⟨S262144, .f32⟩
  | 24 => ⟨S2048x128, .f32⟩
  | 25 => ⟨S4096, .f32⟩
  | 26 => ⟨S_, .i32⟩
  | 27 => ⟨S_, .f32⟩
  | 28 => ⟨S16384, .f32⟩
  | 29 => ⟨S16, .f32⟩
  | 30 => ⟨S_, .i32⟩
  | 31 => ⟨S_, .f32⟩
  | 32 => ⟨S16384, .f32⟩
  | 33 => ⟨S32768, .f32⟩
  | 34 => ⟨S_, .i32⟩
  | 35 => ⟨S_, .f32⟩
  | 36 => ⟨S32768, .f32⟩
  | 37 => ⟨S32768, .f32⟩
  | 38 => ⟨S_, .i32⟩
  | 39 => ⟨S_, .f32⟩
  | 40 => ⟨S32768, .f32⟩
  | 41 => ⟨S512, .f32⟩
  | 42 => ⟨S_, .i32⟩
  | 43 => ⟨S_, .f32⟩
  | 44 => ⟨S16384, .f32⟩
  | 45 => ⟨S4096, .f32⟩
  | 46 => ⟨S_, .i32⟩
  | 47 => ⟨S_, .f32⟩
  | 48 => ⟨S16384, .f32⟩
  | 49 => ⟨S4096, .f32⟩
  | 50 => ⟨S_, .i32⟩
  | 51 => ⟨S_, .f32⟩
  | 52 => ⟨S16384, .f32⟩
  | 53 => ⟨S4096, .f32⟩
  | 54 => ⟨S_, .i32⟩
  | 55 => ⟨S_, .f32⟩
  | 56 => ⟨S16384, .f32⟩
  | 57 => ⟨S_, .i32⟩
  | 58 => ⟨S_, .f32⟩
  | 59 => ⟨S16384, .f32⟩
  | 60 => ⟨S_, .f32⟩
  | 61 => ⟨S81920, .f32⟩
  | 62 => ⟨S262144, .f32⟩
  | 63 => ⟨S2048x128, .f32⟩
  | 64 => ⟨S2048x128, .f32⟩
  | 65 => ⟨S2048x128, .f32⟩
  | 66 => ⟨S2048x128, .f32⟩
  | 67 => ⟨S128x128, .f32⟩
  | 68 => ⟨S128x128, .f32⟩
  | 69 => ⟨S16384, .f32⟩
  | 70 => ⟨S4096, .f32⟩
  | 71 => ⟨S2x2048, .f32⟩
  | 72 => ⟨S128x128, .f32⟩
  | 73 => ⟨S128x128, .f32⟩
  | 74 => ⟨S16384, .f32⟩
  | 75 => ⟨S16, .f32⟩
  | 76 => ⟨S2x2x4, .f32⟩
  | 77 => ⟨S256x128, .f32⟩
  | 78 => ⟨S256x128, .f32⟩
  | 79 => ⟨S32768, .f32⟩
  | 80 => ⟨S2x2x128x64, .f32⟩
  | 81 => ⟨S256x128, .f32⟩
  | 82 => ⟨S256x128, .f32⟩
  | 83 => ⟨S32768, .f32⟩
  | 84 => ⟨S2x2x128x64, .f32⟩
  | 85 => ⟨S128x128, .f32⟩
  | 86 => ⟨S128x128, .f32⟩
  | 87 => ⟨S16384, .f32⟩
  | 88 => ⟨S512, .f32⟩
  | 89 => ⟨S2x2x128, .f32⟩
  | 90 => ⟨S128x128, .f32⟩
  | 91 => ⟨S128x128, .f32⟩
  | 92 => ⟨S16384, .f32⟩
  | 93 => ⟨S4096, .f32⟩
  | 94 => ⟨S2x2048, .f32⟩
  | 95 => ⟨S128x128, .f32⟩
  | 96 => ⟨S128x128, .f32⟩
  | 97 => ⟨S16384, .f32⟩
  | 98 => ⟨S4096, .f32⟩
  | 99 => ⟨S2x2048, .f32⟩
  | 100 => ⟨S128x128, .f32⟩
  | 101 => ⟨S128x128, .f32⟩
  | 102 => ⟨S16384, .f32⟩
  | 103 => ⟨S4096, .f32⟩
  | 104 => ⟨S2x2048, .f32⟩
  | 105 => ⟨S128x128, .f32⟩
  | 106 => ⟨S128x128, .f32⟩
  | 107 => ⟨S16384, .f32⟩
  | 108 => ⟨S2048, .f32⟩
  | 109 => ⟨S128x128, .f32⟩
  | 110 => ⟨S128x128, .f32⟩
  | 111 => ⟨S16384, .f32⟩
  | 112 => ⟨S4096, .f32⟩
  | 113 => ⟨S2x2048, .f32⟩
  | 114 => ⟨S128x128, .f32⟩
  | 115 => ⟨S128x128, .f32⟩
  | 116 => ⟨S16384, .f32⟩
  | 117 => ⟨S16, .f32⟩
  | 118 => ⟨S2x2x4, .f32⟩
  | 119 => ⟨S256x128, .f32⟩
  | 120 => ⟨S256x128, .f32⟩
  | 121 => ⟨S32768, .f32⟩
  | 122 => ⟨S2x2x128x64, .f32⟩
  | 123 => ⟨S256x128, .f32⟩
  | 124 => ⟨S256x128, .f32⟩
  | 125 => ⟨S32768, .f32⟩
  | 126 => ⟨S2x2x128x64, .f32⟩
  | 127 => ⟨S128x128, .f32⟩
  | _ => ⟨S2x2048, .f32⟩

abbrev hbmTy0_2 (i : Nat) : BufTy := match i % 128 with
  | 0 => ⟨S128x128, .f32⟩
  | 1 => ⟨S16384, .f32⟩
  | 2 => ⟨S512, .f32⟩
  | 3 => ⟨S2x2x128, .f32⟩
  | 4 => ⟨S128x128, .f32⟩
  | 5 => ⟨S128x128, .f32⟩
  | 6 => ⟨S16384, .f32⟩
  | 7 => ⟨S4096, .f32⟩
  | 8 => ⟨S2x2048, .f32⟩
  | 9 => ⟨S128x128, .f32⟩
  | 10 => ⟨S128x128, .f32⟩
  | 11 => ⟨S16384, .f32⟩
  | 12 => ⟨S4096, .f32⟩
  | 13 => ⟨S2x2048, .f32⟩
  | 14 => ⟨S128x128, .f32⟩
  | 15 => ⟨S128x128, .f32⟩
  | 16 => ⟨S16384, .f32⟩
  | 17 => ⟨S4096, .f32⟩
  | 18 => ⟨S2x2048, .f32⟩
  | 19 => ⟨S128x128, .f32⟩
  | 20 => ⟨S128x128, .f32⟩
  | 21 => ⟨S16384, .f32⟩
  | 22 => ⟨S2048, .f32⟩
  | 23 => ⟨S128x128, .f32⟩
  | 24 => ⟨S128x128, .f32⟩
  | 25 => ⟨S16384, .f32⟩
  | 26 => ⟨S4096, .f32⟩
  | 27 => ⟨S2x2048, .f32⟩
  | 28 => ⟨S128x128, .f32⟩
  | 29 => ⟨S128x128, .f32⟩
  | 30 => ⟨S16384, .f32⟩
  | 31 => ⟨S16, .f32⟩
  | 32 => ⟨S2x2x4, .f32⟩
  | 33 => ⟨S256x128, .f32⟩
  | 34 => ⟨S256x128, .f32⟩
  | 35 => ⟨S32768, .f32⟩
  | 36 => ⟨S2x2x128x64, .f32⟩
  | 37 => ⟨S256x128, .f32⟩
  | 38 => ⟨S256x128, .f32⟩
  | 39 => ⟨S32768, .f32⟩
  | 40 => ⟨S2x2x128x64, .f32⟩
  | 41 => ⟨S128x128, .f32⟩
  | 42 => ⟨S128x128, .f32⟩
  | 43 => ⟨S16384, .f32⟩
  | 44 => ⟨S512, .f32⟩
  | 45 => ⟨S2x2x128, .f32⟩
  | 46 => ⟨S128x128, .f32⟩
  | 47 => ⟨S128x128, .f32⟩
  | 48 => ⟨S16384, .f32⟩
  | 49 => ⟨S4096, .f32⟩
  | 50 => ⟨S2x2048, .f32⟩
  | 51 => ⟨S128x128, .f32⟩
  | 52 => ⟨S128x128, .f32⟩
  | 53 => ⟨S16384, .f32⟩
  | 54 => ⟨S4096, .f32⟩
  | 55 => ⟨S2x2048, .f32⟩
  | 56 => ⟨S128x128, .f32⟩
  | 57 => ⟨S128x128, .f32⟩
  | 58 => ⟨S16384, .f32⟩
  | 59 => ⟨S4096, .f32⟩
  | 60 => ⟨S2x2048, .f32⟩
  | 61 => ⟨S128x128, .f32⟩
  | 62 => ⟨S128x128, .f32⟩
  | 63 => ⟨S16384, .f32⟩
  | 64 => ⟨S2048, .f32⟩
  | _ => ⟨S2x2048, .f32⟩

abbrev hbmTy (i : Nat) : BufTy := match i / 128 with
  | 0 => hbmTy0_0 i
  | 1 => hbmTy0_1 i
  | 2 => hbmTy0_2 i
  | _ => ⟨S2x2048, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_c : Ref sig .tc := ⟨.hbm, 37, rfl⟩
abbrev main_call0_v0 : Ref sig .tc := ⟨.hbm, 38, rfl⟩
abbrev main_v1 : Ref sig .tc := ⟨.hbm, 39, rfl⟩
abbrev main_v2 : Ref sig .tc := ⟨.hbm, 40, rfl⟩
abbrev main_c_0 : Ref sig .tc := ⟨.hbm, 41, rfl⟩
abbrev main_call1_v0 : Ref sig .tc := ⟨.hbm, 42, rfl⟩
abbrev main_v3 : Ref sig .tc := ⟨.hbm, 43, rfl⟩
abbrev main_v4 : Ref sig .tc := ⟨.hbm, 44, rfl⟩
abbrev main_c_1 : Ref sig .tc := ⟨.hbm, 45, rfl⟩
abbrev main_call2_v0 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_call3_v0 : Ref sig .tc := ⟨.hbm, 50, rfl⟩
abbrev main_v7 : Ref sig .tc := ⟨.hbm, 51, rfl⟩
abbrev main_v8 : Ref sig .tc := ⟨.hbm, 52, rfl⟩
abbrev main_c_3 : Ref sig .tc := ⟨.hbm, 53, rfl⟩
abbrev main_call4_v0 : Ref sig .tc := ⟨.hbm, 54, rfl⟩
abbrev main_v9 : Ref sig .tc := ⟨.hbm, 55, rfl⟩
abbrev main_v10 : Ref sig .tc := ⟨.hbm, 56, rfl⟩
abbrev main_c_4 : Ref sig .tc := ⟨.hbm, 57, rfl⟩
abbrev main_call5_v0 : Ref sig .tc := ⟨.hbm, 58, rfl⟩
abbrev main_v11 : Ref sig .tc := ⟨.hbm, 59, rfl⟩
abbrev main_v12 : Ref sig .tc := ⟨.hbm, 60, rfl⟩
abbrev main_c_5 : Ref sig .tc := ⟨.hbm, 61, rfl⟩
abbrev main_call6_v0 : Ref sig .tc := ⟨.hbm, 62, rfl⟩
abbrev main_v13 : Ref sig .tc := ⟨.hbm, 63, rfl⟩
abbrev main_v14 : Ref sig .tc := ⟨.hbm, 64, rfl⟩
abbrev main_c_6 : Ref sig .tc := ⟨.hbm, 65, rfl⟩
abbrev main_call7_v0 : Ref sig .tc := ⟨.hbm, 66, rfl⟩
abbrev main_v15 : Ref sig .tc := ⟨.hbm, 67, rfl⟩
abbrev main_c_7 : Ref sig .tc := ⟨.hbm, 68, rfl⟩
abbrev main_call8_v0 : Ref sig .tc := ⟨.hbm, 69, rfl⟩
abbrev main_v16 : Ref sig .tc := ⟨.hbm, 70, rfl⟩
abbrev main_cst : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_c_8 : Ref sig .tc := ⟨.hbm, 76, rfl⟩
abbrev main_call9_v0 : Ref sig .tc := ⟨.hbm, 77, rfl⟩
abbrev main_v21 : Ref sig .tc := ⟨.hbm, 78, rfl⟩
abbrev main_v22 : Ref sig .tc := ⟨.hbm, 79, rfl⟩
abbrev main_c_9 : Ref sig .tc := ⟨.hbm, 80, rfl⟩
abbrev main_call10_v0 : Ref sig .tc := ⟨.hbm, 81, rfl⟩
abbrev main_v23 : Ref sig .tc := ⟨.hbm, 82, rfl⟩
abbrev main_v24 : Ref sig .tc := ⟨.hbm, 83, rfl⟩
abbrev main_c_10 : Ref sig .tc := ⟨.hbm, 84, rfl⟩
abbrev main_call11_v0 : Ref sig .tc := ⟨.hbm, 85, rfl⟩
abbrev main_v25 : Ref sig .tc := ⟨.hbm, 86, rfl⟩
abbrev main_v26 : Ref sig .tc := ⟨.hbm, 87, rfl⟩
abbrev main_c_11 : Ref sig .tc := ⟨.hbm, 88, rfl⟩
abbrev main_call12_v0 : Ref sig .tc := ⟨.hbm, 89, rfl⟩
abbrev main_v27 : Ref sig .tc := ⟨.hbm, 90, rfl⟩
abbrev main_v28 : Ref sig .tc := ⟨.hbm, 91, rfl⟩
abbrev main_c_12 : Ref sig .tc := ⟨.hbm, 92, rfl⟩
abbrev main_call13_v0 : Ref sig .tc := ⟨.hbm, 93, rfl⟩
abbrev main_v29 : Ref sig .tc := ⟨.hbm, 94, rfl⟩
abbrev main_v30 : Ref sig .tc := ⟨.hbm, 95, rfl⟩
abbrev main_c_13 : Ref sig .tc := ⟨.hbm, 96, rfl⟩
abbrev main_call14_v0 : Ref sig .tc := ⟨.hbm, 97, rfl⟩
abbrev main_v31 : Ref sig .tc := ⟨.hbm, 98, rfl⟩
abbrev main_v32 : Ref sig .tc := ⟨.hbm, 99, rfl⟩
abbrev main_c_14 : Ref sig .tc := ⟨.hbm, 100, rfl⟩
abbrev main_call15_v0 : Ref sig .tc := ⟨.hbm, 101, rfl⟩
abbrev main_v33 : Ref sig .tc := ⟨.hbm, 102, rfl⟩
abbrev main_v34 : Ref sig .tc := ⟨.hbm, 103, rfl⟩
abbrev main_c_15 : Ref sig .tc := ⟨.hbm, 104, rfl⟩
abbrev main_call16_v0 : Ref sig .tc := ⟨.hbm, 105, rfl⟩
abbrev main_v35 : Ref sig .tc := ⟨.hbm, 106, rfl⟩
abbrev main_c_16 : Ref sig .tc := ⟨.hbm, 107, rfl⟩
abbrev main_call17_v0 : Ref sig .tc := ⟨.hbm, 108, rfl⟩
abbrev main_v36 : Ref sig .tc := ⟨.hbm, 109, rfl⟩
abbrev main_cst_17 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_c_18 : Ref sig .tc := ⟨.hbm, 115, rfl⟩
abbrev main_call18_v0 : Ref sig .tc := ⟨.hbm, 116, rfl⟩
abbrev main_v41 : Ref sig .tc := ⟨.hbm, 117, rfl⟩
abbrev main_v42 : Ref sig .tc := ⟨.hbm, 118, rfl⟩
abbrev main_c_19 : Ref sig .tc := ⟨.hbm, 119, rfl⟩
abbrev main_call19_v0 : Ref sig .tc := ⟨.hbm, 120, rfl⟩
abbrev main_v43 : Ref sig .tc := ⟨.hbm, 121, rfl⟩
abbrev main_v44 : Ref sig .tc := ⟨.hbm, 122, rfl⟩
abbrev main_c_20 : Ref sig .tc := ⟨.hbm, 123, rfl⟩
abbrev main_call20_v0 : Ref sig .tc := ⟨.hbm, 124, rfl⟩
abbrev main_v45 : Ref sig .tc := ⟨.hbm, 125, rfl⟩
abbrev main_v46 : Ref sig .tc := ⟨.hbm, 126, rfl⟩
abbrev main_c_21 : Ref sig .tc := ⟨.hbm, 127, rfl⟩
abbrev main_call21_v0 : Ref sig .tc := ⟨.hbm, 128, rfl⟩
abbrev main_v47 : Ref sig .tc := ⟨.hbm, 129, rfl⟩
abbrev main_v48 : Ref sig .tc := ⟨.hbm, 130, rfl⟩
abbrev main_c_22 : Ref sig .tc := ⟨.hbm, 131, rfl⟩
abbrev main_call22_v0 : Ref sig .tc := ⟨.hbm, 132, rfl⟩
abbrev main_v49 : Ref sig .tc := ⟨.hbm, 133, rfl⟩
abbrev main_v50 : Ref sig .tc := ⟨.hbm, 134, rfl⟩
abbrev main_c_23 : Ref sig .tc := ⟨.hbm, 135, rfl⟩
abbrev main_call23_v0 : Ref sig .tc := ⟨.hbm, 136, rfl⟩
abbrev main_v51 : Ref sig .tc := ⟨.hbm, 137, rfl⟩
abbrev main_v52 : Ref sig .tc := ⟨.hbm, 138, rfl⟩
abbrev main_c_24 : Ref sig .tc := ⟨.hbm, 139, rfl⟩
abbrev main_call24_v0 : Ref sig .tc := ⟨.hbm, 140, rfl⟩
abbrev main_v53 : Ref sig .tc := ⟨.hbm, 141, rfl⟩
abbrev main_v54 : Ref sig .tc := ⟨.hbm, 142, rfl⟩
abbrev main_c_25 : Ref sig .tc := ⟨.hbm, 143, rfl⟩
abbrev main_call25_v0 : Ref sig .tc := ⟨.hbm, 144, rfl⟩
abbrev main_v55 : Ref sig .tc := ⟨.hbm, 145, rfl⟩
abbrev main_c_26 : Ref sig .tc := ⟨.hbm, 146, rfl⟩
abbrev main_call26_v0 : Ref sig .tc := ⟨.hbm, 147, rfl⟩
abbrev main_v56 : Ref sig .tc := ⟨.hbm, 148, rfl⟩
abbrev main_cst_27 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_c_28 : Ref sig .tc := ⟨.hbm, 154, rfl⟩
abbrev main_call27_v0 : Ref sig .tc := ⟨.hbm, 155, rfl⟩
abbrev main_v61 : Ref sig .tc := ⟨.hbm, 156, rfl⟩
abbrev main_v62 : Ref sig .tc := ⟨.hbm, 157, rfl⟩
abbrev main_c_29 : Ref sig .tc := ⟨.hbm, 158, rfl⟩
abbrev main_call28_v0 : Ref sig .tc := ⟨.hbm, 159, rfl⟩
abbrev main_v63 : Ref sig .tc := ⟨.hbm, 160, rfl⟩
abbrev main_v64 : Ref sig .tc := ⟨.hbm, 161, rfl⟩
abbrev main_c_30 : Ref sig .tc := ⟨.hbm, 162, rfl⟩
abbrev main_call29_v0 : Ref sig .tc := ⟨.hbm, 163, rfl⟩
abbrev main_v65 : Ref sig .tc := ⟨.hbm, 164, rfl⟩
abbrev main_v66 : Ref sig .tc := ⟨.hbm, 165, rfl⟩
abbrev main_c_31 : Ref sig .tc := ⟨.hbm, 166, rfl⟩
abbrev main_call30_v0 : Ref sig .tc := ⟨.hbm, 167, rfl⟩
abbrev main_v67 : Ref sig .tc := ⟨.hbm, 168, rfl⟩
abbrev main_v68 : Ref sig .tc := ⟨.hbm, 169, rfl⟩
abbrev main_c_32 : Ref sig .tc := ⟨.hbm, 170, rfl⟩
abbrev main_call31_v0 : Ref sig .tc := ⟨.hbm, 171, rfl⟩
abbrev main_v69 : Ref sig .tc := ⟨.hbm, 172, rfl⟩
abbrev main_v70 : Ref sig .tc := ⟨.hbm, 173, rfl⟩
abbrev main_c_33 : Ref sig .tc := ⟨.hbm, 174, rfl⟩
abbrev main_call32_v0 : Ref sig .tc := ⟨.hbm, 175, rfl⟩
abbrev main_v71 : Ref sig .tc := ⟨.hbm, 176, rfl⟩
abbrev main_v72 : Ref sig .tc := ⟨.hbm, 177, rfl⟩
abbrev main_c_34 : Ref sig .tc := ⟨.hbm, 178, rfl⟩
abbrev main_call33_v0 : Ref sig .tc := ⟨.hbm, 179, rfl⟩
abbrev main_v73 : Ref sig .tc := ⟨.hbm, 180, rfl⟩
abbrev main_v74 : Ref sig .tc := ⟨.hbm, 181, rfl⟩
abbrev main_c_35 : Ref sig .tc := ⟨.hbm, 182, rfl⟩
abbrev main_call34_v0 : Ref sig .tc := ⟨.hbm, 183, rfl⟩
abbrev main_v75 : Ref sig .tc := ⟨.hbm, 184, rfl⟩
abbrev main_c_36 : Ref sig .tc := ⟨.hbm, 185, rfl⟩
abbrev main_call35_v0 : Ref sig .tc := ⟨.hbm, 186, rfl⟩
abbrev main_v76 : Ref sig .tc := ⟨.hbm, 187, rfl⟩
abbrev main_cst_37 : Ref sig .tc := ⟨.hbm, 188, rfl⟩
abbrev main_v77 : Ref sig .tc := ⟨.hbm, 189, rfl⟩
abbrev main_v78 : Ref sig .tc := ⟨.hbm, 190, rfl⟩
abbrev main_v79 : Ref sig .tc := ⟨.hbm, 191, rfl⟩
abbrev main_v80_0 : Ref sig .tc := ⟨.hbm, 192, rfl⟩
abbrev main_v80_1 : Ref sig .tc := ⟨.hbm, 193, rfl⟩
abbrev main_v80_2 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_v124 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamTinyRefIdeal.lean ====
abbrev S2x2048 : Shape := ⟨2, ![2, 2048]⟩
abbrev S2x2x4 : Shape := ⟨3, ![2, 2, 4]⟩
abbrev S2x2x128x64 : Shape := ⟨4, ![2, 2, 128, 64]⟩
abbrev S2x2x128 : Shape := ⟨3, ![2, 2, 128]⟩
abbrev S2048 : Shape := ⟨1, ![2048]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S2x2048, .f32⟩
  | 1 => ⟨S2x2x4, .f32⟩
  | 2 => ⟨S2x2x128x64, .f32⟩
  | 3 => ⟨S2x2x128x64, .f32⟩
  | 4 => ⟨S2x2x128, .f32⟩
  | 5 => ⟨S2x2048, .f32⟩
  | 6 => ⟨S2x2048, .f32⟩
  | 7 => ⟨S2x2048, .f32⟩
  | 8 => ⟨S2048, .f32⟩
  | 9 => ⟨S2x2048, .f32⟩
  | 10 => ⟨S2x2x4, .f32⟩
  | 11 => ⟨S2x2x128x64, .f32⟩
  | 12 => ⟨S2x2x128x64, .f32⟩
  | 13 => ⟨S2x2x128, .f32⟩
  | 14 => ⟨S2x2048, .f32⟩
  | 15 => ⟨S2x2048, .f32⟩
  | 16 => ⟨S2x2048, .f32⟩
  | 17 => ⟨S2048, .f32⟩
  | 18 => ⟨S2x2048, .f32⟩
  | 19 => ⟨S2x2x4, .f32⟩
  | 20 => ⟨S2x2x128x64, .f32⟩
  | 21 => ⟨S2x2x128x64, .f32⟩
  | 22 => ⟨S2x2x128, .f32⟩
  | 23 => ⟨S2x2048, .f32⟩
  | 24 => ⟨S2x2048, .f32⟩
  | 25 => ⟨S2x2048, .f32⟩
  | 26 => ⟨S2048, .f32⟩
  | 27 => ⟨S2x2048, .f32⟩
  | 28 => ⟨S2x2x4, .f32⟩
  | 29 => ⟨S2x2x128x64, .f32⟩
  | 30 => ⟨S2x2x128x64, .f32⟩
  | 31 => ⟨S2x2x128, .f32⟩
  | 32 => ⟨S2x2048, .f32⟩
  | 33 => ⟨S2x2048, .f32⟩
  | 34 => ⟨S2x2048, .f32⟩
  | 35 => ⟨S2048, .f32⟩
  | 36 => ⟨S_, .f32⟩
  | 37 => ⟨S2x2048, .f32⟩
  | 38 => ⟨S2x2048, .f32⟩
  | 39 => ⟨S_, .f32⟩
  | 40 => ⟨S2x2048, .f32⟩
  | 41 => ⟨S2x2048, .f32⟩
  | 42 => ⟨S2x2048, .f32⟩
  | 43 => ⟨S_, .f32⟩
  | 44 => ⟨S2x2048, .f32⟩
  | 45 => ⟨S2x2048, .f32⟩
  | 46 => ⟨S2x2048, .f32⟩
  | 47 => ⟨S_, .f32⟩
  | 48 => ⟨S2x2048, .f32⟩
  | 49 => ⟨S2x2048, .f32⟩
  | 50 => ⟨S2x2048, .f32⟩
  | 51 => ⟨S_, .f32⟩
  | 52 => ⟨S2x2048, .f32⟩
  | 53 => ⟨S2x2048, .f32⟩
  | 54 => ⟨S_, .f32⟩
  | 55 => ⟨S2x2048, .f32⟩
  | 56 => ⟨S2x2048, .f32⟩
  | 57 => ⟨S2x2048, .f32⟩
  | 58 => ⟨S_, .f32⟩
  | 59 => ⟨S2x2048, .f32⟩
  | 60 => ⟨S2x2048, .f32⟩
  | 61 => ⟨S2x2048, .f32⟩
  | 62 => ⟨S_, .f32⟩
  | 63 => ⟨S2x2048, .f32⟩
  | 64 => ⟨S2x2048, .f32⟩
  | 65 => ⟨S2x2048, .f32⟩
  | 66 => ⟨S_, .f32⟩
  | 67 => ⟨S2x2048, .f32⟩
  | 68 => ⟨S2x2048, .f32⟩
  | 69 => ⟨S_, .f32⟩
  | 70 => ⟨S2x2x4, .f32⟩
  | 71 => ⟨S2x2x4, .f32⟩
  | 72 => ⟨S_, .f32⟩
  | 73 => ⟨S2x2x4, .f32⟩
  | 74 => ⟨S2x2x4, .f32⟩
  | 75 => ⟨S2x2x4, .f32⟩
  | 76 => ⟨S_, .f32⟩
  | 77 => ⟨S2x2x4, .f32⟩
  | 78 => ⟨S2x2x4, .f32⟩
  | 79 => ⟨S2x2x4, .f32⟩
  | 80 => ⟨S_, .f32⟩
  | 81 => ⟨S2x2x4, .f32⟩
  | 82 => ⟨S2x2x4, .f32⟩
  | 83 => ⟨S2x2x4, .f32⟩
  | 84 => ⟨S_, .f32⟩
  | 85 => ⟨S2x2x4, .f32⟩
  | 86 => ⟨S2x2x4, .f32⟩
  | 87 => ⟨S_, .f32⟩
  | 88 => ⟨S2x2x4, .f32⟩
  | 89 => ⟨S2x2x4, .f32⟩
  | 90 => ⟨S2x2x4, .f32⟩
  | 91 => ⟨S_, .f32⟩
  | 92 => ⟨S2x2x4, .f32⟩
  | 93 => ⟨S2x2x4, .f32⟩
  | 94 => ⟨S2x2x4, .f32⟩
  | 95 => ⟨S_, .f32⟩
  | 96 => ⟨S2x2x4, .f32⟩
  | 97 => ⟨S2x2x4, .f32⟩
  | 98 => ⟨S2x2x4, .f32⟩
  | 99 => ⟨S_, .f32⟩
  | 100 => ⟨S2x2x4, .f32⟩
  | 101 => ⟨S2x2x4, .f32⟩
  | 102 => ⟨S_, .f32⟩
  | 103 => ⟨S2x2x128x64, .f32⟩
  | 104 => ⟨S2x2x128x64, .f32⟩
  | 105 => ⟨S_, .f32⟩
  | 106 => ⟨S2x2x128x64, .f32⟩
  | 107 => ⟨S2x2x128x64, .f32⟩
  | 108 => ⟨S2x2x128x64, .f32⟩
  | 109 => ⟨S_, .f32⟩
  | 110 => ⟨S2x2x128x64, .f32⟩
  | 111 => ⟨S2x2x128x64, .f32⟩
  | 112 => ⟨S2x2x128x64, .f32⟩
  | 113 => ⟨S_, .f32⟩
  | 114 => ⟨S2x2x128x64, .f32⟩
  | 115 => ⟨S2x2x128x64, .f32⟩
  | 116 => ⟨S2x2x128x64, .f32⟩
  | 117 => ⟨S_, .f32⟩
  | 118 => ⟨S2x2x128x64, .f32⟩
  | 119 => ⟨S2x2x128x64, .f32⟩
  | 120 => ⟨S_, .f32⟩
  | 121 => ⟨S2x2x128x64, .f32⟩
  | 122 => ⟨S2x2x128x64, .f32⟩
  | 123 => ⟨S2x2x128x64, .f32⟩
  | 124 => ⟨S_, .f32⟩
  | 125 => ⟨S2x2x128x64, .f32⟩
  | 126 => ⟨S2x2x128x64, .f32⟩
  | 127 => ⟨S2x2x128x64, .f32⟩
  | _ => ⟨S2x2048, .f32⟩

abbrev hbmTy0_1 (i : Nat) : BufTy := match i % 128 with
  | 0 => ⟨S_, .f32⟩
  | 1 => ⟨S2x2x128x64, .f32⟩
  | 2 => ⟨S2x2x128x64, .f32⟩
  | 3 => ⟨S2x2x128x64, .f32⟩
  | 4 => ⟨S_, .f32⟩
  | 5 => ⟨S2x2x128x64, .f32⟩
  | 6 => ⟨S2x2x128x64, .f32⟩
  | 7 => ⟨S_, .f32⟩
  | 8 => ⟨S2x2x128x64, .f32⟩
  | 9 => ⟨S2x2x128x64, .f32⟩
  | 10 => ⟨S_, .f32⟩
  | 11 => ⟨S2x2x128x64, .f32⟩
  | 12 => ⟨S2x2x128x64, .f32⟩
  | 13 => ⟨S2x2x128x64, .f32⟩
  | 14 => ⟨S_, .f32⟩
  | 15 => ⟨S2x2x128x64, .f32⟩
  | 16 => ⟨S2x2x128x64, .f32⟩
  | 17 => ⟨S2x2x128x64, .f32⟩
  | 18 => ⟨S_, .f32⟩
  | 19 => ⟨S2x2x128x64, .f32⟩
  | 20 => ⟨S2x2x128x64, .f32⟩
  | 21 => ⟨S2x2x128x64, .f32⟩
  | 22 => ⟨S_, .f32⟩
  | 23 => ⟨S2x2x128x64, .f32⟩
  | 24 => ⟨S2x2x128x64, .f32⟩
  | 25 => ⟨S_, .f32⟩
  | 26 => ⟨S2x2x128x64, .f32⟩
  | 27 => ⟨S2x2x128x64, .f32⟩
  | 28 => ⟨S2x2x128x64, .f32⟩
  | 29 => ⟨S_, .f32⟩
  | 30 => ⟨S2x2x128x64, .f32⟩
  | 31 => ⟨S2x2x128x64, .f32⟩
  | 32 => ⟨S2x2x128x64, .f32⟩
  | 33 => ⟨S_, .f32⟩
  | 34 => ⟨S2x2x128x64, .f32⟩
  | 35 => ⟨S2x2x128x64, .f32⟩
  | 36 => ⟨S2x2x128x64, .f32⟩
  | 37 => ⟨S_, .f32⟩
  | 38 => ⟨S2x2x128x64, .f32⟩
  | 39 => ⟨S2x2x128x64, .f32⟩
  | 40 => ⟨S_, .f32⟩
  | 41 => ⟨S2x2x128, .f32⟩
  | 42 => ⟨S2x2x128, .f32⟩
  | 43 => ⟨S_, .f32⟩
  | 44 => ⟨S2x2x128, .f32⟩
  | 45 => ⟨S2x2x128, .f32⟩
  | 46 => ⟨S2x2x128, .f32⟩
  | 47 => ⟨S_, .f32⟩
  | 48 => ⟨S2x2x128, .f32⟩
  | 49 => ⟨S2x2x128, .f32⟩
  | 50 => ⟨S2x2x128, .f32⟩
  | 51 => ⟨S_, .f32⟩
  | 52 => ⟨S2x2x128, .f32⟩
  | 53 => ⟨S2x2x128, .f32⟩
  | 54 => ⟨S2x2x128, .f32⟩
  | 55 => ⟨S_, .f32⟩
  | 56 => ⟨S2x2x128, .f32⟩
  | 57 => ⟨S2x2x128, .f32⟩
  | 58 => ⟨S_, .f32⟩
  | 59 => ⟨S2x2x128, .f32⟩
  | 60 => ⟨S2x2x128, .f32⟩
  | 61 => ⟨S2x2x128, .f32⟩
  | 62 => ⟨S_, .f32⟩
  | 63 => ⟨S2x2x128, .f32⟩
  | 64 => ⟨S2x2x128, .f32⟩
  | 65 => ⟨S2x2x128, .f32⟩
  | 66 => ⟨S_, .f32⟩
  | 67 => ⟨S2x2x128, .f32⟩
  | 68 => ⟨S2x2x128, .f32⟩
  | 69 => ⟨S2x2x128, .f32⟩
  | 70 => ⟨S_, .f32⟩
  | 71 => ⟨S2x2x128, .f32⟩
  | 72 => ⟨S2x2x128, .f32⟩
  | 73 => ⟨S_, .f32⟩
  | 74 => ⟨S2x2048, .f32⟩
  | 75 => ⟨S2x2048, .f32⟩
  | 76 => ⟨S_, .f32⟩
  | 77 => ⟨S2x2048, .f32⟩
  | 78 => ⟨S2x2048, .f32⟩
  | 79 => ⟨S2x2048, .f32⟩
  | 80 => ⟨S_, .f32⟩
  | 81 => ⟨S2x2048, .f32⟩
  | 82 => ⟨S2x2048, .f32⟩
  | 83 => ⟨S2x2048, .f32⟩
  | 84 => ⟨S_, .f32⟩
  | 85 => ⟨S2x2048, .f32⟩
  | 86 => ⟨S2x2048, .f32⟩
  | 87 => ⟨S2x2048, .f32⟩
  | 88 => ⟨S_, .f32⟩
  | 89 => ⟨S2x2048, .f32⟩
  | 90 => ⟨S2x2048, .f32⟩
  | 91 => ⟨S_, .f32⟩
  | 92 => ⟨S2x2048, .f32⟩
  | 93 => ⟨S2x2048, .f32⟩
  | 94 => ⟨S2x2048, .f32⟩
  | 95 => ⟨S_, .f32⟩
  | 96 => ⟨S2x2048, .f32⟩
  | 97 => ⟨S2x2048, .f32⟩
  | 98 => ⟨S2x2048, .f32⟩
  | 99 => ⟨S_, .f32⟩
  | 100 => ⟨S2x2048, .f32⟩
  | 101 => ⟨S2x2048, .f32⟩
  | 102 => ⟨S2x2048, .f32⟩
  | 103 => ⟨S_, .f32⟩
  | 104 => ⟨S2x2048, .f32⟩
  | 105 => ⟨S2x2048, .f32⟩
  | 106 => ⟨S_, .f32⟩
  | 107 => ⟨S2x2048, .f32⟩
  | 108 => ⟨S2x2048, .f32⟩
  | 109 => ⟨S_, .f32⟩
  | 110 => ⟨S2x2048, .f32⟩
  | 111 => ⟨S2x2048, .f32⟩
  | 112 => ⟨S2x2048, .f32⟩
  | 113 => ⟨S_, .f32⟩
  | 114 => ⟨S2x2048, .f32⟩
  | 115 => ⟨S2x2048, .f32⟩
  | 116 => ⟨S2x2048, .f32⟩
  | 117 => ⟨S_, .f32⟩
  | 118 => ⟨S2x2048, .f32⟩
  | 119 => ⟨S2x2048, .f32⟩
  | 120 => ⟨S2x2048, .f32⟩
  | 121 => ⟨S_, .f32⟩
  | 122 => ⟨S2x2048, .f32⟩
  | 123 => ⟨S2x2048, .f32⟩
  | 124 => ⟨S_, .f32⟩
  | 125 => ⟨S2x2048, .f32⟩
  | 126 => ⟨S2x2048, .f32⟩
  | 127 => ⟨S2x2048, .f32⟩
  | _ => ⟨S2x2048, .f32⟩

abbrev hbmTy0_2 (i : Nat) : BufTy := match i % 128 with
  | 0 => ⟨S_, .f32⟩
  | 1 => ⟨S2x2048, .f32⟩
  | 2 => ⟨S2x2048, .f32⟩
  | 3 => ⟨S2x2048, .f32⟩
  | 4 => ⟨S_, .f32⟩
  | 5 => ⟨S2x2048, .f32⟩
  | 6 => ⟨S2x2048, .f32⟩
  | 7 => ⟨S2x2048, .f32⟩
  | 8 => ⟨S_, .f32⟩
  | 9 => ⟨S2x2048, .f32⟩
  | 10 => ⟨S2x2048, .f32⟩
  | 11 => ⟨S_, .f32⟩
  | 12 => ⟨S2x2048, .f32⟩
  | 13 => ⟨S2x2048, .f32⟩
  | 14 => ⟨S_, .f32⟩
  | 15 => ⟨S2x2048, .f32⟩
  | 16 => ⟨S2x2048, .f32⟩
  | 17 => ⟨S2x2048, .f32⟩
  | 18 => ⟨S_, .f32⟩
  | 19 => ⟨S2x2048, .f32⟩
  | 20 => ⟨S2x2048, .f32⟩
  | 21 => ⟨S2x2048, .f32⟩
  | 22 => ⟨S_, .f32⟩
  | 23 => ⟨S2x2048, .f32⟩
  | 24 => ⟨S2x2048, .f32⟩
  | 25 => ⟨S2x2048, .f32⟩
  | 26 => ⟨S_, .f32⟩
  | 27 => ⟨S2x2048, .f32⟩
  | 28 => ⟨S2x2048, .f32⟩
  | 29 => ⟨S_, .f32⟩
  | 30 => ⟨S2x2048, .f32⟩
  | 31 => ⟨S2x2048, .f32⟩
  | 32 => ⟨S2x2048, .f32⟩
  | 33 => ⟨S_, .f32⟩
  | 34 => ⟨S2x2048, .f32⟩
  | 35 => ⟨S2x2048, .f32⟩
  | 36 => ⟨S2x2048, .f32⟩
  | 37 => ⟨S_, .f32⟩
  | 38 => ⟨S2x2048, .f32⟩
  | 39 => ⟨S2x2048, .f32⟩
  | 40 => ⟨S2x2048, .f32⟩
  | 41 => ⟨S_, .f32⟩
  | 42 => ⟨S2x2048, .f32⟩
  | 43 => ⟨S2x2048, .f32⟩
  | 44 => ⟨S_, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S_, .f32⟩
  | 75 => ⟨S2048, .f32⟩
  | 76 => ⟨S2048, .f32⟩
  | _ => ⟨S2x2048, .f32⟩

abbrev hbmTy (i : Nat) : BufTy := match i / 128 with
  | 0 => hbmTy0_0 i
  | 1 => hbmTy0_1 i
  | 2 => hbmTy0_2 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== AdamB.lean ====
abbrev S512x64x16 : Shape := ⟨3, ![512, 64, 16]⟩
abbrev S64x64x16 : Shape := ⟨3, ![64, 64, 16]⟩

abbrev nBuf : Space → Nat
  | .hbm => 7
  | .vmem => 14
  | .smem => 0
  | _ => 0

abbrev bufTy : (tb : Table) → Fin (tcTables nBuf tb) → BufTy
  | .hbm, ⟨0, _⟩ => ⟨S512x64x16, .f32⟩
  | .hbm, ⟨1, _⟩ => ⟨S512x64x16, .f32⟩
  | .hbm, ⟨2, _⟩ => ⟨S512x64x16, .f32⟩
  | .hbm, ⟨3, _⟩ => ⟨S512x64x16, .f32⟩
  | .hbm, ⟨4, _⟩ => ⟨S512x64x16, .f32⟩
  | .hbm, ⟨5, _⟩ => ⟨S512x64x16, .f32⟩
  | .hbm, ⟨6, _⟩ => ⟨S512x64x16, .f32⟩
  | .local _ .vmem, ⟨0, _⟩ => ⟨S64x64x16, .f32⟩
  | .local _ .vmem, ⟨1, _⟩ => ⟨S64x64x16, .f32⟩
  | .local _ .vmem, ⟨2, _⟩ => ⟨S64x64x16, .f32⟩
  | .local _ .vmem, ⟨3, _⟩ => ⟨S64x64x16, .f32⟩
  | .local _ .vmem, ⟨4, _⟩ => ⟨S64x64x16, .f32⟩
  | .local _ .vmem, ⟨5, _⟩ => ⟨S64x64x16, .f32⟩
  | .local _ .vmem, ⟨6, _⟩ => ⟨S64x64x16, .f32⟩
  | .local _ .vmem, ⟨7, _⟩ => ⟨S64x64x16, .f32⟩
  | .local _ .vmem, ⟨8, _⟩ => ⟨S64x64x16, .f32⟩
  | .local _ .vmem, ⟨9, _⟩ => ⟨S64x64x16, .f32⟩
  | .local _ .vmem, ⟨10, _⟩ => ⟨S64x64x16, .f32⟩
  | .local _ .vmem, ⟨11, _⟩ => ⟨S64x64x16, .f32⟩
  | .local _ .vmem, ⟨12, _⟩ => ⟨S64x64x16, .f32⟩
  | .local _ .vmem, ⟨13, _⟩ => ⟨S64x64x16, .f32⟩
  | _, _ => ⟨S512x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBIdeal.lean ====
abbrev S512x64x16 : Shape := ⟨3, ![512, 64, 16]⟩
abbrev S64x64x16 : Shape := ⟨3, ![64, 64, 16]⟩

abbrev nBuf : Space → Nat
  | .hbm => 7
  | .vmem => 14
  | .smem => 0
  | _ => 0

abbrev bufTy : (tb : Table) → Fin (tcTables nBuf tb) → BufTy
  | .hbm, ⟨0, _⟩ => ⟨S512x64x16, .f32⟩
  | .hbm, ⟨1, _⟩ => ⟨S512x64x16, .f32⟩
  | .hbm, ⟨2, _⟩ => ⟨S512x64x16, .f32⟩
  | .hbm, ⟨3, _⟩ => ⟨S512x64x16, .f32⟩
  | .hbm, ⟨4, _⟩ => ⟨S512x64x16, .f32⟩
  | .hbm, ⟨5, _⟩ => ⟨S512x64x16, .f32⟩
  | .hbm, ⟨6, _⟩ => ⟨S512x64x16, .f32⟩
  | .local _ .vmem, ⟨0, _⟩ => ⟨S64x64x16, .f32⟩
  | .local _ .vmem, ⟨1, _⟩ => ⟨S64x64x16, .f32⟩
  | .local _ .vmem, ⟨2, _⟩ => ⟨S64x64x16, .f32⟩
  | .local _ .vmem, ⟨3, _⟩ => ⟨S64x64x16, .f32⟩
  | .local _ .vmem, ⟨4, _⟩ => ⟨S64x64x16, .f32⟩
  | .local _ .vmem, ⟨5, _⟩ => ⟨S64x64x16, .f32⟩
  | .local _ .vmem, ⟨6, _⟩ => ⟨S64x64x16, .f32⟩
  | .local _ .vmem, ⟨7, _⟩ => ⟨S64x64x16, .f32⟩
  | .local _ .vmem, ⟨8, _⟩ => ⟨S64x64x16, .f32⟩
  | .local _ .vmem, ⟨9, _⟩ => ⟨S64x64x16, .f32⟩
  | .local _ .vmem, ⟨10, _⟩ => ⟨S64x64x16, .f32⟩
  | .local _ .vmem, ⟨11, _⟩ => ⟨S64x64x16, .f32⟩
  | .local _ .vmem, ⟨12, _⟩ => ⟨S64x64x16, .f32⟩
  | .local _ .vmem, ⟨13, _⟩ => ⟨S64x64x16, .f32⟩
  | _, _ => ⟨S512x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBRefIdeal.lean ====
abbrev S512x64x16 : Shape := ⟨3, ![512, 64, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x64x16, .f32⟩
  | .hbm, ⟨1, _⟩ => ⟨S512x64x16, .f32⟩
  | .hbm, ⟨2, _⟩ => ⟨S512x64x16, .f32⟩
  | .hbm, ⟨3, _⟩ => ⟨S512x64x16, .f32⟩
  | .hbm, ⟨4, _⟩ => ⟨S_, .f32⟩
  | .hbm, ⟨5, _⟩ => ⟨S512x64x16, .f32⟩
  | .hbm, ⟨6, _⟩ => ⟨S512x64x16, .f32⟩
  | .hbm, ⟨7, _⟩ => ⟨S_, .f32⟩
  | .hbm, ⟨8, _⟩ => ⟨S512x64x16, .f32⟩
  | .hbm, ⟨9, _⟩ => ⟨S512x64x16, .f32⟩
  | .hbm, ⟨10, _⟩ => ⟨S512x64x16, .f32⟩
  | .hbm, ⟨11, _⟩ => ⟨S_, .f32⟩
  | .hbm, ⟨12, _⟩ => ⟨S512x64x16, .f32⟩
  | .hbm, ⟨13, _⟩ => ⟨S512x64x16, .f32⟩
  | .hbm, ⟨14, _⟩ => ⟨S512x64x16, .f32⟩
  | .hbm, ⟨15, _⟩ => ⟨S_, .f32⟩
  | .hbm, ⟨16, _⟩ => ⟨S512x64x16, .f32⟩
  | .hbm, ⟨17, _⟩ => ⟨S512x64x16, .f32⟩
  | .hbm, ⟨18, _⟩ => ⟨S512x64x16, .f32⟩
  | .hbm, ⟨19, _⟩ => ⟨S_, .f32⟩
  | .hbm, ⟨20, _⟩ => ⟨S512x64x16, .f32⟩
  | .hbm, ⟨21, _⟩ => ⟨S512x64x16, .f32⟩
  | .hbm, ⟨22, _⟩ => ⟨S_, .f32⟩
  | .hbm, ⟨23, _⟩ => ⟨S512x64x16, .f32⟩
  | .hbm, ⟨24, _⟩ => ⟨S512x64x16, .f32⟩
  | .hbm, ⟨25, _⟩ => ⟨S512x64x16, .f32⟩
  | .hbm, ⟨26, _⟩ => ⟨S_, .f32⟩
  | .hbm, ⟨27, _⟩ => ⟨S512x64x16, .f32⟩
  | .hbm, ⟨28, _⟩ => ⟨S512x64x16, .f32⟩
  | .hbm, ⟨29, _⟩ => ⟨S512x64x16, .f32⟩
  | .hbm, ⟨30, _⟩ => ⟨S_, .f32⟩
  | .hbm, ⟨31, _⟩ => ⟨S512x64x16, .f32⟩
  | .hbm, ⟨32, _⟩ => ⟨S512x64x16, .f32⟩
  | .hbm, ⟨33, _⟩ => ⟨S512x64x16, .f32⟩
  | .hbm, ⟨34, _⟩ => ⟨S_, .f32⟩
  | .hbm, ⟨35, _⟩ => ⟨S512x64x16, .f32⟩
  | .hbm, ⟨36, _⟩ => ⟨S512x64x16, .f32⟩
  | _, _ => ⟨S512x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamC.lean ====
abbrev S512x16x64 : Shape := ⟨3, ![512, 16, 64]⟩
abbrev S64x16x64 : Shape := ⟨3, ![64, 16, 64]⟩

abbrev nBuf : Space → Nat
  | .hbm => 7
  | .vmem => 14
  | .smem => 0
  | _ => 0

abbrev bufTy : (tb : Table) → Fin (tcTables nBuf tb) → BufTy
  | .hbm, ⟨0, _⟩ => ⟨S512x16x64, .f32⟩
  | .hbm, ⟨1, _⟩ => ⟨S512x16x64, .f32⟩
  | .hbm, ⟨2, _⟩ => ⟨S512x16x64, .f32⟩
  | .hbm, ⟨3, _⟩ => ⟨S512x16x64, .f32⟩
  | .hbm, ⟨4, _⟩ => ⟨S512x16x64, .f32⟩
  | .hbm, ⟨5, _⟩ => ⟨S512x16x64, .f32⟩
  | .hbm, ⟨6, _⟩ => ⟨S512x16x64, .f32⟩
  | .local _ .vmem, ⟨0, _⟩ => ⟨S64x16x64, .f32⟩
  | .local _ .vmem, ⟨1, _⟩ => ⟨S64x16x64, .f32⟩
  | .local _ .vmem, ⟨2, _⟩ => ⟨S64x16x64, .f32⟩
  | .local _ .vmem, ⟨3, _⟩ => ⟨S64x16x64, .f32⟩
  | .local _ .vmem, ⟨4, _⟩ => ⟨S64x16x64, .f32⟩
  | .local _ .vmem, ⟨5, _⟩ => ⟨S64x16x64, .f32⟩
  | .local _ .vmem, ⟨6, _⟩ => ⟨S64x16x64, .f32⟩
  | .local _ .vmem, ⟨7, _⟩ => ⟨S64x16x64, .f32⟩
  | .local _ .vmem, ⟨8, _⟩ => ⟨S64x16x64, .f32⟩
  | .local _ .vmem, ⟨9, _⟩ => ⟨S64x16x64, .f32⟩
  | .local _ .vmem, ⟨10, _⟩ => ⟨S64x16x64, .f32⟩
  | .local _ .vmem, ⟨11, _⟩ => ⟨S64x16x64, .f32⟩
  | .local _ .vmem, ⟨12, _⟩ => ⟨S64x16x64, .f32⟩
  | .local _ .vmem, ⟨13, _⟩ => ⟨S64x16x64, .f32⟩
  | _, _ => ⟨S512x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCRefIdeal.lean ====
abbrev S512x16x64 : Shape := ⟨3, ![512, 16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x16x64, .f32⟩
  | .hbm, ⟨1, _⟩ => ⟨S512x16x64, .f32⟩
  | .hbm, ⟨2, _⟩ => ⟨S512x16x64, .f32⟩
  | .hbm, ⟨3, _⟩ => ⟨S512x16x64, .f32⟩
  | .hbm, ⟨4, _⟩ => ⟨S_, .f32⟩
  | .hbm, ⟨5, _⟩ => ⟨S512x16x64, .f32⟩
  | .hbm, ⟨6, _⟩ => ⟨S512x16x64, .f32⟩
  | .hbm, ⟨7, _⟩ => ⟨S_, .f32⟩
  | .hbm, ⟨8, _⟩ => ⟨S512x16x64, .f32⟩
  | .hbm, ⟨9, _⟩ => ⟨S512x16x64, .f32⟩
  | .hbm, ⟨10, _⟩ => ⟨S512x16x64, .f32⟩
  | .hbm, ⟨11, _⟩ => ⟨S_, .f32⟩
  | .hbm, ⟨12, _⟩ => ⟨S512x16x64, .f32⟩
  | .hbm, ⟨13, _⟩ => ⟨S512x16x64, .f32⟩
  | .hbm, ⟨14, _⟩ => ⟨S512x16x64, .f32⟩
  | .hbm, ⟨15, _⟩ => ⟨S_, .f32⟩
  | .hbm, ⟨16, _⟩ => ⟨S512x16x64, .f32⟩
  | .hbm, ⟨17, _⟩ => ⟨S512x16x64, .f32⟩
  | .hbm, ⟨18, _⟩ => ⟨S512x16x64, .f32⟩
  | .hbm, ⟨19, _⟩ => ⟨S_, .f32⟩
  | .hbm, ⟨20, _⟩ => ⟨S512x16x64, .f32⟩
  | .hbm, ⟨21, _⟩ => ⟨S512x16x64, .f32⟩
  | .hbm, ⟨22, _⟩ => ⟨S_, .f32⟩
  | .hbm, ⟨23, _⟩ => ⟨S512x16x64, .f32⟩
  | .hbm, ⟨24, _⟩ => ⟨S512x16x64, .f32⟩
  | .hbm, ⟨25, _⟩ => ⟨S512x16x64, .f32⟩
  | .hbm, ⟨26, _⟩ => ⟨S_, .f32⟩
  | .hbm, ⟨27, _⟩ => ⟨S512x16x64, .f32⟩
  | .hbm, ⟨28, _⟩ => ⟨S512x16x64, .f32⟩
  | .hbm, ⟨29, _⟩ => ⟨S512x16x64, .f32⟩
  | .hbm, ⟨30, _⟩ => ⟨S_, .f32⟩
  | .hbm, ⟨31, _⟩ => ⟨S512x16x64, .f32⟩
  | .hbm, ⟨32, _⟩ => ⟨S512x16x64, .f32⟩
  | .hbm, ⟨33, _⟩ => ⟨S512x16x64, .f32⟩
  | .hbm, ⟨34, _⟩ => ⟨S_, .f32⟩
  | .hbm, ⟨35, _⟩ => ⟨S512x16x64, .f32⟩
  | .hbm, ⟨36, _⟩ => ⟨S512x16x64, .f32⟩
  | _, _ => ⟨S512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSlots.lean ====
abbrev S8x2304x128 : Shape := ⟨3, ![8, 2304, 128]⟩
abbrev S2304x128 : Shape := ⟨2, ![2304, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2304x128, .f32⟩
  | .hbm, ⟨1, _⟩ => ⟨S2304x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSlotsRefIdeal.lean ====
abbrev S8x2304x128 : Shape := ⟨3, ![8, 2304, 128]⟩
abbrev S_ : Shape := ⟨0, ![]⟩
abbrev S2304x128 : Shape := ⟨2, ![2304, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2304x128, .f32⟩
  | .hbm, ⟨1, _⟩ => ⟨S_, .f32⟩
  | .hbm, ⟨2, _⟩ => ⟨S2304x128, .f32⟩
  | _, _ => ⟨S8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LossTotal.lean ====
abbrev S1x128 : Shape := ⟨2, ![1, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S1x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== LossTotalRefIdeal.lean ====
abbrev S8x128 : Shape := ⟨2, ![8, 128]⟩
abbrev S8x1 : Shape := ⟨2, ![8, 1]⟩
abbrev S8 : Shape := ⟨1, ![8]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x1, .f32⟩
  | .hbm, ⟨2, _⟩ => ⟨S8, .f32⟩
  | .hbm, ⟨3, _⟩ => ⟨S_, .f32⟩
  | .hbm, ⟨4, _⟩ => ⟨S_, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdScan.lean ====
abbrev S2048x12288 : Shape := ⟨2, ![2048, 12288]⟩
abbrev S2x16x128x1024 : Shape := ⟨4, ![2, 16, 128, 1024]⟩
abbrev S2x16x1024x128 : Shape := ⟨4, ![2, 16, 1024, 128]⟩
abbrev S2x16x4x512 : Shape := ⟨4, ![2, 16, 4, 512]⟩
abbrev S2048x2048 : Shape := ⟨2, ![2048, 2048]⟩
abbrev S2048x128 : Shape := ⟨2, ![2048, 128]⟩
abbrev S2x1x128x1024 : Shape := ⟨4, ![2, 1, 128, 1024]⟩
abbrev S2x1x1024x128 : Shape := ⟨4, ![2, 1, 1024, 128]⟩
abbrev S2x1x4x512 : Shape := ⟨4, ![2, 1, 4, 512]⟩
abbrev S2048x512 : Shape := ⟨2, ![2048, 512]⟩
abbrev S256x128 : Shape := ⟨2, ![256, 128]⟩
abbrev S1x1x128x512 : Shape := ⟨4, ![1, 1, 128, 512]⟩
abbrev S128x512 : Shape := ⟨2, ![128, 512]⟩
abbrev S1x1x1x512 : Shape := ⟨4, ![1, 1, 1, 512]⟩
abbrev S1x512 : Shape := ⟨2, ![1, 512]⟩
abbrev S8x512 : Shape := ⟨2, ![8, 512]⟩
abbrev S1x1x512x128 : Shape := ⟨4, ![1, 1, 512, 128]⟩
abbrev S512x128 : Shape := ⟨2, ![512, 128]⟩

abbrev nBuf : Space → Nat
  | .hbm => 5
  | .vmem => 14
  | .smem => 0
  | _ => 0

abbrev bufTy : (tb : Table) → Fin (tcTables nBuf tb) → BufTy
  | .hbm, ⟨0, _⟩ => ⟨S2048x12288, .f32⟩
  | .hbm, ⟨1, _⟩ => ⟨S2x16x128x1024, .bf16⟩
  | .hbm, ⟨2, _⟩ => ⟨S2x16x1024x128, .bf16⟩
  | .hbm, ⟨3, _⟩ => ⟨S2x16x4x512, .f32⟩
  | .hbm, ⟨4, _⟩ => ⟨S2048x2048, .f32⟩
  | .local _ .vmem, ⟨0, _⟩ => ⟨S2048x128, .f32⟩
  | .local _ .vmem, ⟨1, _⟩ => ⟨S2048x128, .f32⟩
  | .local _ .vmem, ⟨2, _⟩ => ⟨S2x1x128x1024, .bf16⟩
  | .local _ .vmem, ⟨3, _⟩ => ⟨S2x1x128x1024, .bf16⟩
  | .local _ .vmem, ⟨4, _⟩ => ⟨S2x1x1024x128, .bf16⟩
  | .local _ .vmem, ⟨5, _⟩ => ⟨S2x1x1024x128, .bf16⟩
  | .local _ .vmem, ⟨6, _⟩ => ⟨S2x1x4x512, .f32⟩
  | .local _ .vmem, ⟨7, _⟩ => ⟨S2x1x4x512, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x512, .f32⟩
  | .local _ .vmem, ⟨13, _⟩ => ⟨S2048x512, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v63 : BitVec 32 := Scalar.addi c0_i32 c32_i32
  let c1_i32 : BitVec 32 := 1#32
  ⟨c0_i32, v63, c1_i32⟩
def k0_mult1 (k0_t1 : Fin k0_t1_loop.trips) : BitVec 32 :=
  let c0_i32_242 : BitVec 32 := 0#32
  let c0_i32 : BitVec 32 := 0#32
  let c1_i32 : BitVec 32 := 1#32
  let arg10 : BitVec 32 := Scf.iv c0_i32 c1_i32 k0_t1
  let c8_i32 : BitVec 32 := 8#32
  let v426 : BitVec 32 := Scalar.muli arg10 c8_i32
  let v427 : BitVec 32 := Scalar.addi c0_i32_242 v426
  let c0_i32_243 : BitVec 32 := 0#32
  let v428 : BitVec 32 := Scalar.addi v427 c0_i32_243
  let c8_i32_244 : BitVec 32 := 8#32
  let v429 : BitVec 32 := Scalar.muli v428 c8_i32_244
  v429
def k0_off1 (k0_t1 : Fin k0_t1_loop.trips) (c0_i32_243 : BitVec 32) : Fin 2 → Nat :=
  let c0_i32_242 : BitVec 32 := 0#32
  let c0_i32 : BitVec 32 := 0#32
  let c1_i32 : BitVec 32 := 1#32
  let arg10 : BitVec 32 := Scf.iv c0_i32 c1_i32 k0_t1
  let c8_i32 : BitVec 32 := 8#32
  let v426 : BitVec 32 := Scalar.muli arg10 c8_i32
  let v427 : BitVec 32 := Scalar.addi c0_i32_242 v426
  let v428 : BitVec 32 := Scalar.addi v427 c0_i32_243
  let c8_i32_244 : BitVec 32 := 8#32
  let v429 : BitVec 32 := Scalar.muli v428 c8_i32_244
  let v430 : BitVec 32 := v429
  let v434 : Index := Scalar.indexCast v430
  let c0_245 : Index := 0#32
  ![v434.toNat, 0]
def k0_mult2 (k0_t1 : Fin k0_t1_loop.trips) : BitVec 32 :=
  let c0_i32_248 : BitVec 32 := 0#32
  let c0_i32 : BitVec 32 := 0#32
  let c1_i32 : BitVec 32 := 1#32
  let arg10 : BitVec 32 := Scf.iv c0_i32 c1_i32 k0_t1
  let c8_i32_247 : BitVec 32 := 8#32
  let v443 : BitVec 32 := Scalar.muli arg10 c8_i32_247
  let v444 : BitVec 32 := Scalar.addi c0_i32_248 v443
  let c1_i32_249 : BitVec 32 := 1#32
  let v445 : BitVec 32 := Scalar.addi v444 c1_i32_249
  let c8_i32_250 : BitVec 32 := 8#32
  let v446 : BitVec 32 := Scalar.muli v445 c8_i32_250
  v446
def k0_mult3 (k0_t1 : Fin k0_t1_loop.trips) : BitVec 32 :=
  let c0_i32_254 : BitVec 32 := 0#32
  let c0_i32 : BitVec 32 := 0#32
  let c1_i32 : BitVec 32 := 1#32
  let arg10 : BitVec 32 := Scf.iv c0_i32 c1_i32 k0_t1
  let c8_i32_253 : BitVec 32 := 8#32
  let v460 : BitVec 32 := Scalar.muli arg10 c8_i32_253
  let v461 : BitVec 32 := Scalar.addi c0_i32_254 v460
  let c2_i32 : BitVec 32 := 2#32
  let v462 : BitVec 32 := Scalar.addi v461 c2_i32
  let c8_i32_255 : BitVec 32 := 8#32
  let v463 : BitVec 32 := Scalar.muli v462 c8_i32_255
  v463
def k0_mult4 (k0_t1 : Fin k0_t1_loop.trips) : BitVec 32 :=
  let c0_i32_259 : BitVec 32 := 0#32
  let c0_i32 : BitVec 32 := 0#32
  let c1_i32 : BitVec 32 := 1#32
  let arg10 : BitVec 32 := Scf.iv c0_i32 c1_i32 k0_t1
  let c8_i32_258 : BitVec 32 := 8#32
  let v477 : BitVec 32 := Scalar.muli arg10 c8_i32_258
  let v478 : BitVec 32 := Scalar.addi c0_i32_259 v477
  let c3_i32 : BitVec 32 := 3#32
  let v479 : BitVec 32 := Scalar.addi v478 c3_i32
  let c8_i32_260 : BitVec 32 := 8#32
  let v480 : BitVec 32 := Scalar.muli v479 c8_i32_260
  v480
def k0_mult5 (k0_t1 : Fin k0_t1_loop.trips) : BitVec 32 :=
  let c0_i32_264 : BitVec 32 := 0#32
  let c0_i32 : BitVec 32 := 0#32
  let c1_i32 : BitVec 32 := 1#32
  let arg10 : BitVec 32 := Scf.iv c0_i32 c1_i32 k0_t1
  let c8_i32_263 : BitVec 32 := 8#32
  let v494 : BitVec 32 := Scalar.muli arg10 c8_i32_263
  let v495 : BitVec 32 := Scalar.addi c0_i32_264 v494
  let c4_i32 : BitVec 32 := 4#32
  let v496 : BitVec 32 := Scalar.addi v495 c4_i32
  let c8_i32_265 : BitVec 32 := 8#32
  let v497 : BitVec 32 := Scalar.muli v496 c8_i32_265
  v497
def k0_mult6 (k0_t1 : Fin k0_t1_loop.trips) : BitVec 32 :=
  let c0_i32_269 : BitVec 32 := 0#32
  let c0_i32 : BitVec 32 := 0#32
  let c1_i32 : BitVec 32 := 1#32
  let arg10 : BitVec 32 := Scf.iv c0_i32 c1_i32 k0_t1
  let c8_i32_268 : BitVec 32 := 8#32
  let v511 : BitVec 32 := Scalar.muli arg10 c8_i32_268
  let v512 : BitVec 32 := Scalar.addi c0_i32_269 v511
  let c5_i32 : BitVec 32 := 5#32
  let v513 : BitVec 32 := Scalar.addi v512 c5_i32
  let c8_i32_270 : BitVec 32 := 8#32
  let v514 : BitVec 32 := Scalar.muli v513 c8_i32_270
  v514
def k0_mult7 (k0_t1 : Fin k0_t1_loop.trips) : BitVec 32 :=
  let c0_i32_274 : BitVec 32 := 0#32
  let c0_i32 : BitVec 32 := 0#32
  let c1_i32 : BitVec 32 := 1#32
  let arg10 : BitVec 32 := Scf.iv c0_i32 c1_i32 k0_t1
  let c8_i32_273 : BitVec 32 := 8#32
  let v528 : BitVec 32 := Scalar.muli arg10 c8_i32_273
  let v529 : BitVec 32 := Scalar.addi c0_i32_274 v528
  let c6_i32 : BitVec 32 := 6#32
  let v530 : BitVec 32 := Scalar.addi v529 c6_i32
  let c8_i32_275 : BitVec 32 := 8#32
  let v531 : BitVec 32 := Scalar.muli v530 c8_i32_275
  v531
def k0_mult8 (k0_t1 : Fin k0_t1_loop.trips) : BitVec 32 :=
  let c0_i32_279 : BitVec 32 := 0#32
  let c0_i32 : BitVec 32 := 0#32
  let c1_i32 : BitVec 32 := 1#32
  let arg10 : BitVec 32 := Scf.iv c0_i32 c1_i32 k0_t1
  let c8_i32_278 : BitVec 32 := 8#32
  let v545 : BitVec 32 := Scalar.muli arg10 c8_i32_278
  let v546 : BitVec 32 := Scalar.addi c0_i32_279 v545
  let c7_i32_280 : BitVec 32 := 7#32
  let v547 : BitVec 32 := Scalar.addi v546 c7_i32_280
  let c8_i32_281 : BitVec 32 := 8#32
  let v548 : BitVec 32 := Scalar.muli v547 c8_i32_281
  v548
@[reducible] def k0_t2_loop : Scf.Loop 32 :=
  let c0_i32_92 : BitVec 32 := 0#32
  let c32_i32_93 : BitVec 32 := 32#32
  let v205 : BitVec 32 := Scalar.addi c0_i32_92 c32_i32_93
  let c1_i32_94 : BitVec 32 := 1#32
  ⟨c0_i32_92, v205, c1_i32_94⟩
def k0_mult9 (k0_t2 : Fin k0_t2_loop.trips) : BitVec 32 :=
  let c0_i32_242 : BitVec 32 := 0#32
  let c0_i32_92 : BitVec 32 := 0#32
  let c1_i32_94 : BitVec 32 := 1#32
  let arg10 : BitVec 32 := Scf.iv c0_i32_92 c1_i32_94 k0_t2
  let c8_i32 : BitVec 32 := 8#32
  let v426 : BitVec 32 := Scalar.muli arg10 c8_i32
  let v427 : BitVec 32 := Scalar.addi c0_i32_242 v426
  let c0_i32_243 : BitVec 32 := 0#32
  let v428 : BitVec 32 := Scalar.addi v427 c0_i32_243
  let c8_i32_244 : BitVec 32 := 8#32
  let v429 : BitVec 32 := Scalar.muli v428 c8_i32_244
  v429
def k0_off2 (k0_t2 : Fin k0_t2_loop.trips) (c0_i32_243 : BitVec 32) : Fin 2 → Nat :=
  let c0_i32_242 : BitVec 32 := 0#32
  let c0_i32_92 : BitVec 32 := 0#32
  let c1_i32_94 : BitVec 32 := 1#32
  let arg10 : BitVec 32 := Scf.iv c0_i32_92 c1_i32_94 k0_t2
  let c8_i32 : BitVec 32 := 8#32
  let v426 : BitVec 32 := Scalar.muli arg10 c8_i32
  let v427 : BitVec 32 := Scalar.addi c0_i32_242 v426
  let v428 : BitVec 32 := Scalar.addi v427 c0_i32_243
  let c8_i32_244 : BitVec 32 := 8#32
  let v429 : BitVec 32 := Scalar.muli v428 c8_i32_244
  let v430 : BitVec 32 := v429
  let v434 : Index := Scalar.indexCast v430
  let c0_245 : Index := 0#32
  ![v434.toNat, 0]
def k0_mult10 (k0_t2 : Fin k0_t2_loop.trips) : BitVec 32 :=
  let c0_i32_242 : BitVec 32 := 0#32
  let c0_i32_92 : BitVec 32 := 0#32
  let c1_i32_94 : BitVec 32 := 1#32
  let arg10 : BitVec 32 := Scf.iv c0_i32_92 c1_i32_94 k0_t2
  let c8_i32 : BitVec 32 := 8#32
  let v426 : BitVec 32 := Scalar.muli arg10 c8_i32
  let v427 : BitVec 32 := Scalar.addi c0_i32_242 v426
  let c0_i32_243 : BitVec 32 := 0#32
  let v428 : BitVec 32 := Scalar.addi v427 c0_i32_243
  let c8_i32_247 : BitVec 32 := 8#32
  let v443 : BitVec 32 := Scalar.muli v428 c8_i32_247
  v443
def k0_mult11 (k0_t2 : Fin k0_t2_loop.trips) : BitVec 32 :=
  let c0_i32_251 : BitVec 32 := 0#32
  let c0_i32_92 : BitVec 32 := 0#32
  let c1_i32_94 : BitVec 32 := 1#32
  let arg10 : BitVec 32 := Scf.iv c0_i32_92 c1_i32_94 k0_t2
  let c8_i32_250 : BitVec 32 := 8#32
  let v453 : BitVec 32 := Scalar.muli arg10 c8_i32_250
  let v454 : BitVec 32 := Scalar.addi c0_i32_251 v453
  let c1_i32_252 : BitVec 32 := 1#32
  let v455 : BitVec 32 := Scalar.addi v454 c1_i32_252
  let c8_i32_253 : BitVec 32 := 8#32
  let v456 : BitVec 32 := Scalar.muli v455 c8_i32_253
  v456
def k0_mult12 (k0_t2 : Fin k0_t2_loop.trips) : BitVec 32 :=
  let c0_i32_251 : BitVec 32 := 0#32
  let c0_i32_92 : BitVec 32 := 0#32
  let c1_i32_94 : BitVec 32 := 1#32
  let arg10 : BitVec 32 := Scf.iv c0_i32_92 c1_i32_94 k0_t2
  let c8_i32_250 : BitVec 32 := 8#32
  let v453 : BitVec 32 := Scalar.muli arg10 c8_i32_250
  let v454 : BitVec 32 := Scalar.addi c0_i32_251 v453
  let c1_i32_252 : BitVec 32 := 1#32
  let v455 : BitVec 32 := Scalar.addi v454 c1_i32_252
  let c8_i32_256 : BitVec 32 := 8#32
  let v470 : BitVec 32 := Scalar.muli v455 c8_i32_256
  v470
def k0_mult13 (k0_t2 : Fin k0_t2_loop.trips) : BitVec 32 :=
  let c0_i32_260 : BitVec 32 := 0#32
  let c0_i32_92 : BitVec 32 := 0#32
  let c1_i32_94 : BitVec 32 := 1#32
  let arg10 : BitVec 32 := Scf.iv c0_i32_92 c1_i32_94 k0_t2
  let c8_i32_259 : BitVec 32 := 8#32
  let v480 : BitVec 32 := Scalar.muli arg10 c8_i32_259
  let v481 : BitVec 32 := Scalar.addi c0_i32_260 v480
  let c2_i32 : BitVec 32 := 2#32
  let v482 : BitVec 32 := Scalar.addi v481 c2_i32
  let c8_i32_261 : BitVec 32 := 8#32
  let v483 : BitVec 32 := Scalar.muli v482 c8_i32_261
  v483
def k0_mult14 (k0_t2 : Fin k0_t2_loop.trips) : BitVec 32 :=
  let c0_i32_260 : BitVec 32 := 0#32
  let c0_i32_92 : BitVec 32 := 0#32
  let c1_i32_94 : BitVec 32 := 1#32
  let arg10 : BitVec 32 := Scf.iv c0_i32_92 c1_i32_94 k0_t2
  let c8_i32_259 : BitVec 32 := 8#32
  let v480 : BitVec 32 := Scalar.muli arg10 c8_i32_259
  let v481 : BitVec 32 := Scalar.addi c0_i32_260 v480
  let c2_i32 : BitVec 32 := 2#32
  let v482 : BitVec 32 := Scalar.addi v481 c2_i32
  let c8_i32_264 : BitVec 32 := 8#32
  let v497 : BitVec 32 := Scalar.muli v482 c8_i32_264
  v497
def k0_mult15 (k0_t2 : Fin k0_t2_loop.trips) : BitVec 32 :=
  let c0_i32_268 : BitVec 32 := 0#32
  let c0_i32_92 : BitVec 32 := 0#32
  let c1_i32_94 : BitVec 32 := 1#32
  let arg10 : BitVec 32 := Scf.iv c0_i32_92 c1_i32_94 k0_t2
  let c8_i32_267 : BitVec 32 := 8#32
  let v507 : BitVec 32 := Scalar.muli arg10 c8_i32_267
  let v508 : BitVec 32 := Scalar.addi c0_i32_268 v507
  let c3_i32 : BitVec 32 := 3#32
  let v509 : BitVec 32 := Scalar.addi v508 c3_i32
  let c8_i32_269 : BitVec 32 := 8#32
  let v510 : BitVec 32 := Scalar.muli v509 c8_i32_269
  v510
def k0_mult16 (k0_t2 : Fin k0_t2_loop.trips) : BitVec 32 :=
  let c0_i32_268 : BitVec 32 := 0#32
  let c0_i32_92 : BitVec 32 := 0#32
  let c1_i32_94 : BitVec 32 := 1#32
  let arg10 : BitVec 32 := Scf.iv c0_i32_92 c1_i32_94 k0_t2
  let c8_i32_267 : BitVec 32 := 8#32
  let v507 : BitVec 32 := Scalar.muli arg10 c8_i32_267
  let v508 : BitVec 32 := Scalar.addi c0_i32_268 v507
  let c3_i32 : BitVec 32 := 3#32
  let v509 : BitVec 32 := Scalar.addi v508 c3_i32
  let c8_i32_272 : BitVec 32 := 8#32
  let v524 : BitVec 32 := Scalar.muli v509 c8_i32_272
  v524
def k0_mult17 (k0_t2 : Fin k0_t2_loop.trips) : BitVec 32 :=
  let c0_i32_276 : BitVec 32 := 0#32
  let c0_i32_92 : BitVec 32 := 0#32
  let c1_i32_94 : BitVec 32 := 1#32
  let arg10 : BitVec 32 := Scf.iv c0_i32_92 c1_i32_94 k0_t2
  let c8_i32_275 : BitVec 32 := 8#32
  let v534 : BitVec 32 := Scalar.muli arg10 c8_i32_275
  let v535 : BitVec 32 := Scalar.addi c0_i32_276 v534
  let c4_i32 : BitVec 32 := 4#32
  let v536 : BitVec 32 := Scalar.addi v535 c4_i32
  let c8_i32_277 : BitVec 32 := 8#32
  let v537 : BitVec 32 := Scalar.muli v536 c8_i32_277
  v537
def k0_mult18 (k0_t2 : Fin k0_t2_loop.trips) : BitVec 32 :=
  let c0_i32_276 : BitVec 32 := 0#32
  let c0_i32_92 : BitVec 32 := 0#32
  let c1_i32_94 : BitVec 32 := 1#32
  let arg10 : BitVec 32 := Scf.iv c0_i32_92 c1_i32_94 k0_t2
  let c8_i32_275 : BitVec 32 := 8#32
  let v534 : BitVec 32 := Scalar.muli arg10 c8_i32_275
  let v535 : BitVec 32 := Scalar.addi c0_i32_276 v534
  let c4_i32 : BitVec 32 := 4#32
  let v536 : BitVec 32 := Scalar.addi v535 c4_i32
  let c8_i32_280 : BitVec 32 := 8#32
  let v551 : BitVec 32 := Scalar.muli v536 c8_i32_280
  v551
def k0_mult19 (k0_t2 : Fin k0_t2_loop.trips) : BitVec 32 :=
  let c0_i32_284 : BitVec 32 := 0#32
  let c0_i32_92 : BitVec 32 := 0#32
  let c1_i32_94 : BitVec 32 := 1#32
  let arg10 : BitVec 32 := Scf.iv c0_i32_92 c1_i32_94 k0_t2
  let c8_i32_283 : BitVec 32 := 8#32
  let v561 : BitVec 32 := Scalar.muli arg10 c8_i32_283
  let v562 : BitVec 32 := Scalar.addi c0_i32_284 v561
  let c5_i32 : BitVec 32 := 5#32
  let v563 : BitVec 32 := Scalar.addi v562 c5_i32
  let c8_i32_285 : BitVec 32 := 8#32
  let v564 : BitVec 32 := Scalar.muli v563 c8_i32_285
  v564
def k0_mult20 (k0_t2 : Fin k0_t2_loop.trips) : BitVec 32 :=
  let c0_i32_284 : BitVec 32 := 0#32
  let c0_i32_92 : BitVec 32 := 0#32
  let c1_i32_94 : BitVec 32 := 1#32
  let arg10 : BitVec 32 := Scf.iv c0_i32_92 c1_i32_94 k0_t2
  let c8_i32_283 : BitVec 32 := 8#32
  let v561 : BitVec 32 := Scalar.muli arg10 c8_i32_283
  let v562 : BitVec 32 := Scalar.addi c0_i32_284 v561
  let c5_i32 : BitVec 32 := 5#32
  let v563 : BitVec 32 := Scalar.addi v562 c5_i32
  let c8_i32_288 : BitVec 32 := 8#32
  let v578 : BitVec 32 := Scalar.muli v563 c8_i32_288
  v578
def k0_mult21 (k0_t2 : Fin k0_t2_loop.trips) : BitVec 32 :=
  let c0_i32_292 : BitVec 32 := 0#32
  let c0_i32_92 : BitVec 32 := 0#32
  let c1_i32_94 : BitVec 32 := 1#32
  let arg10 : BitVec 32 := Scf.iv c0_i32_92 c1_i32_94 k0_t2
  let c8_i32_291 : BitVec 32 := 8#32
  let v588 : BitVec 32 := Scalar.muli arg10 c8_i32_291
  let v589 : BitVec 32 := Scalar.addi c0_i32_292 v588
  let c6_i32 : BitVec 32 := 6#32
  let v590 : BitVec 32 := Scalar.addi v589 c6_i32
  let c8_i32_293 : BitVec 32 := 8#32
  let v591 : BitVec 32 := Scalar.muli v590 c8_i32_293
  v591
def k0_mult22 (k0_t2 : Fin k0_t2_loop.trips) : BitVec 32 :=
  let c0_i32_292 : BitVec 32 := 0#32
  let c0_i32_92 : BitVec 32 := 0#32
  let c1_i32_94 : BitVec 32 := 1#32
  let arg10 : BitVec 32 := Scf.iv c0_i32_92 c1_i32_94 k0_t2
  let c8_i32_291 : BitVec 32 := 8#32
  let v588 : BitVec 32 := Scalar.muli arg10 c8_i32_291
  let v589 : BitVec 32 := Scalar.addi c0_i32_292 v588
  let c6_i32 : BitVec 32 := 6#32
  let v590 : BitVec 32 := Scalar.addi v589 c6_i32
  let c8_i32_296 : BitVec 32 := 8#32
  let v605 : BitVec 32 := Scalar.muli v590 c8_i32_296
  v605
def k0_mult23 (k0_t2 : Fin k0_t2_loop.trips) : BitVec 32 :=
  let c0_i32_300 : BitVec 32 := 0#32
  let c0_i32_92 : BitVec 32 := 0#32
  let c1_i32_94 : BitVec 32 := 1#32
  let arg10 : BitVec 32 := Scf.iv c0_i32_92 c1_i32_94 k0_t2
  let c8_i32_299 : BitVec 32 := 8#32
  let v615 : BitVec 32 := Scalar.muli arg10 c8_i32_299
  let v616 : BitVec 32 := Scalar.addi c0_i32_300 v615
  let c7_i32_301 : BitVec 32 := 7#32
  let v617 : BitVec 32 := Scalar.addi v616 c7_i32_301
  let c8_i32_302 : BitVec 32 := 8#32
  let v618 : BitVec 32 := Scalar.muli v617 c8_i32_302
  v618
def k0_mult24 (k0_t2 : Fin k0_t2_loop.trips) : BitVec 32 :=
  let c0_i32_300 : BitVec 32 := 0#32
  let c0_i32_92 : BitVec 32 := 0#32
  let c1_i32_94 : BitVec 32 := 1#32
  let arg10 : BitVec 32 := Scf.iv c0_i32_92 c1_i32_94 k0_t2
  let c8_i32_299 : BitVec 32 := 8#32
  let v615 : BitVec 32 := Scalar.muli arg10 c8_i32_299
  let v616 : BitVec 32 := Scalar.addi c0_i32_300 v615
  let c7_i32_301 : BitVec 32 := 7#32
  let v617 : BitVec 32 := Scalar.addi v616 c7_i32_301
  let c8_i32_305 : BitVec 32 := 8#32
  let v632 : BitVec 32 := Scalar.muli v617 c8_i32_305
  v632
@[reducible] def k0_t3_loop : Scf.Loop 32 :=
  let c0_i32_143 : BitVec 32 := 0#32
  let c32_i32_144 : BitVec 32 := 32#32
  let v250 : BitVec 32 := Scalar.addi c0_i32_143 c32_i32_144
  let c1_i32_145 : BitVec 32 := 1#32
  ⟨c0_i32_143, v250, c1_i32_145⟩
def k0_mult25 (k0_t3 : Fin k0_t3_loop.trips) : BitVec 32 :=
  let c255_i32 : BitVec 32 := 255#32
  let c0_i32_242 : BitVec 32 := 0#32
  let c0_i32_143 : BitVec 32 := 0#32
  let c1_i32_145 : BitVec 32 := 1#32
  let arg10 : BitVec 32 := Scf.iv c0_i32_143 c1_i32_145 k0_t3
  let c8_i32 : BitVec 32 := 8#32
  let v426 : BitVec 32 := Scalar.muli arg10 c8_i32
  let v427 : BitVec 32 := Scalar.addi c0_i32_242 v426
  let c0_i32_243 : BitVec 32 := 0#32
  let v428 : BitVec 32 := Scalar.addi v427 c0_i32_243
  let v429 : BitVec 32 := Scalar.subi c255_i32 v428
  let c8_i32_244 : BitVec 32 := 8#32
  let v430 : BitVec 32 := Scalar.muli v429 c8_i32_244
  v430
def k0_off3 (k0_t3 : Fin k0_t3_loop.trips) (c0_i32_243 : BitVec 32) : Fin 2 → Nat :=
  let c255_i32 : BitVec 32 := 255#32
  let c0_i32_242 : BitVec 32 := 0#32
  let c0_i32_143 : BitVec 32 := 0#32
  let c1_i32_145 : BitVec 32 := 1#32
  let arg10 : BitVec 32 := Scf.iv c0_i32_143 c1_i32_145 k0_t3
  let c8_i32 : BitVec 32 := 8#32
  let v426 : BitVec 32 := Scalar.muli arg10 c8_i32
  let v427 : BitVec 32 := Scalar.addi c0_i32_242 v426
  let v428 : BitVec 32 := Scalar.addi v427 c0_i32_243
  let v429 : BitVec 32 := Scalar.subi c255_i32 v428
  let c8_i32_244 : BitVec 32 := 8#32
  let v430 : BitVec 32 := Scalar.muli v429 c8_i32_244
  let v431 : BitVec 32 := v430
  let v435 : Index := Scalar.indexCast v431
  let c0_245 : Index := 0#32
  ![v435.toNat, 0]
def k0_mult26 (k0_t3 : Fin k0_t3_loop.trips) : BitVec 32 :=
  let c255_i32_250 : BitVec 32 := 255#32
  let c0_i32_248 : BitVec 32 := 0#32
  let c0_i32_143 : BitVec 32 := 0#32
  let c1_i32_145 : BitVec 32 := 1#32
  let arg10 : BitVec 32 := Scf.iv c0_i32_143 c1_i32_145 k0_t3
  let c8_i32_247 : BitVec 32 := 8#32
  let v444 : BitVec 32 := Scalar.muli arg10 c8_i32_247
  let v445 : BitVec 32 := Scalar.addi c0_i32_248 v444
  let c1_i32_249 : BitVec 32 := 1#32
  let v446 : BitVec 32 := Scalar.addi v445 c1_i32_249
  let v447 : BitVec 32 := Scalar.subi c255_i32_250 v446
  let c8_i32_251 : BitVec 32 := 8#32
  let v448 : BitVec 32 := Scalar.muli v447 c8_i32_251
  v448
def k0_mult27 (k0_t3 : Fin k0_t3_loop.trips) : BitVec 32 :=
  let c255_i32_256 : BitVec 32 := 255#32
  let c0_i32_255 : BitVec 32 := 0#32
  let c0_i32_143 : BitVec 32 := 0#32
  let c1_i32_145 : BitVec 32 := 1#32
  let arg10 : BitVec 32 := Scf.iv c0_i32_143 c1_i32_145 k0_t3
  let c8_i32_254 : BitVec 32 := 8#32
  let v462 : BitVec 32 := Scalar.muli arg10 c8_i32_254
  let v463 : BitVec 32 := Scalar.addi c0_i32_255 v462
  let c2_i32 : BitVec 32 := 2#32
  let v464 : BitVec 32 := Scalar.addi v463 c2_i32
  let v465 : BitVec 32 := Scalar.subi c255_i32_256 v464
  let c8_i32_257 : BitVec 32 := 8#32
  let v466 : BitVec 32 := Scalar.muli v465 c8_i32_257
  v466
def k0_mult28 (k0_t3 : Fin k0_t3_loop.trips) : BitVec 32 :=
  let c255_i32_262 : BitVec 32 := 255#32
  let c0_i32_261 : BitVec 32 := 0#32
  let c0_i32_143 : BitVec 32 := 0#32
  let c1_i32_145 : BitVec 32 := 1#32
  let arg10 : BitVec 32 := Scf.iv c0_i32_143 c1_i32_145 k0_t3
  let c8_i32_260 : BitVec 32 := 8#32
  let v480 : BitVec 32 := Scalar.muli arg10 c8_i32_260
  let v481 : BitVec 32 := Scalar.addi c0_i32_261 v480
  let c3_i32 : BitVec 32 := 3#32
  let v482 : BitVec 32 := Scalar.addi v481 c3_i32
  let v483 : BitVec 32 := Scalar.subi c255_i32_262 v482
  let c8_i32_263 : BitVec 32 := 8#32
  let v484 : BitVec 32 := Scalar.muli v483 c8_i32_263
  v484
def k0_mult29 (k0_t3 : Fin k0_t3_loop.trips) : BitVec 32 :=
  let c255_i32_268 : BitVec 32 := 255#32
  let c0_i32_267 : BitVec 32 := 0#32
  let c0_i32_143 : BitVec 32 := 0#32
  let c1_i32_145 : BitVec 32 := 1#32
  let arg10 : BitVec 32 := Scf.iv c0_i32_143 c1_i32_145 k0_t3
  let c8_i32_266 : BitVec 32 := 8#32
  let v498 : BitVec 32 := Scalar.muli arg10 c8_i32_266
  let v499 : BitVec 32 := Scalar.addi c0_i32_267 v498
  let c4_i32 : BitVec 32 := 4#32
  let v500 : BitVec 32 := Scalar.addi v499 c4_i32
  let v501 : BitVec 32 := Scalar.subi c255_i32_268 v500
  let c8_i32_269 : BitVec 32 := 8#32
  let v502 : BitVec 32 := Scalar.muli v501 c8_i32_269
  v502
def k0_mult30 (k0_t3 : Fin k0_t3_loop.trips) : BitVec 32 :=
  let c255_i32_274 : BitVec 32 := 255#32
  let c0_i32_273 : BitVec 32 := 0#32
  let c0_i32_143 : BitVec 32 := 0#32
  let c1_i32_145 : BitVec 32 := 1#32
  let arg10 : BitVec 32 := Scf.iv c0_i32_143 c1_i32_145 k0_t3
  let c8_i32_272 : BitVec 32 := 8#32
  let v516 : BitVec 32 := Scalar.muli arg10 c8_i32_272
  let v517 : BitVec 32 := Scalar.addi c0_i32_273 v516
  let c5_i32 : BitVec 32 := 5#32
  let v518 : BitVec 32 := Scalar.addi v517 c5_i32
  let v519 : BitVec 32 := Scalar.subi c255_i32_274 v518
  let c8_i32_275 : BitVec 32 := 8#32
  let v520 : BitVec 32 := Scalar.muli v519 c8_i32_275
  v520
def k0_mult31 (k0_t3 : Fin k0_t3_loop.trips) : BitVec 32 :=
  let c255_i32_280 : BitVec 32 := 255#32
  let c0_i32_279 : BitVec 32 := 0#32
  let c0_i32_143 : BitVec 32 := 0#32
  let c1_i32_145 : BitVec 32 := 1#32
  let arg10 : BitVec 32 := Scf.iv c0_i32_143 c1_i32_145 k0_t3
  let c8_i32_278 : BitVec 32 := 8#32
  let v534 : BitVec 32 := Scalar.muli arg10 c8_i32_278
  let v535 : BitVec 32 := Scalar.addi c0_i32_279 v534
  let c6_i32 : BitVec 32 := 6#32
  let v536 : BitVec 32 := Scalar.addi v535 c6_i32
  let v537 : BitVec 32 := Scalar.subi c255_i32_280 v536
  let c8_i32_281 : BitVec 32 := 8#32
  let v538 : BitVec 32 := Scalar.muli v537 c8_i32_281
  v538
def k0_mult32 (k0_t3 : Fin k0_t3_loop.trips) : BitVec 32 :=
  let c255_i32_287 : BitVec 32 := 255#32
  let c0_i32_285 : BitVec 32 := 0#32
  let c0_i32_143 : BitVec 32 := 0#32
  let c1_i32_145 : BitVec 32 := 1#32
  let arg10 : BitVec 32 := Scf.iv c0_i32_143 c1_i32_145 k0_t3
  let c8_i32_284 : BitVec 32 := 8#32
  let v552 : BitVec 32 := Scalar.muli arg10 c8_i32_284
  let v553 : BitVec 32 := Scalar.addi c0_i32_285 v552
  let c7_i32_286 : BitVec 32 := 7#32
  let v554 : BitVec 32 := Scalar.addi v553 c7_i32_286
  let v555 : BitVec 32 := Scalar.subi c255_i32_287 v554
  let c8_i32_288 : BitVec 32 := 8#32
  let v556 : BitVec 32 := Scalar.muli v555 c8_i32_288
  v556
@[reducible] def k0_t4_loop : Scf.Loop 32 :=
  let c0_i32_188 : BitVec 32 := 0#32
  let c32_i32_189 : BitVec 32 := 32#32
  let v392 : BitVec 32 := Scalar.addi c0_i32_188 c32_i32_189
  let c1_i32_190 : BitVec 32 := 1#32
  ⟨c0_i32_188, v392, c1_i32_190⟩
def k0_mult33 (k0_t4 : Fin k0_t4_loop.trips) : BitVec 32 :=
  let c255_i32 : BitVec 32 := 255#32
  let c0_i32_242 : BitVec 32 := 0#32
  let c0_i32_188 : BitVec 32 := 0#32
  let c1_i32_190 : BitVec 32 := 1#32
  let arg10 : BitVec 32 := Scf.iv c0_i32_188 c1_i32_190 k0_t4
  let c8_i32 : BitVec 32 := 8#32
  let v426 : BitVec 32 := Scalar.muli arg10 c8_i32
  let v427 : BitVec 32 := Scalar.addi c0_i32_242 v426
  let c0_i32_243 : BitVec 32 := 0#32
  let v428 : BitVec 32 := Scalar.addi v427 c0_i32_243
  let v429 : BitVec 32 := Scalar.subi c255_i32 v428
  let c8_i32_244 : BitVec 32 := 8#32
  let v430 : BitVec 32 := Scalar.muli v429 c8_i32_244
  v430
def k0_off4 (k0_t4 : Fin k0_t4_loop.trips) (c0_i32_243 : BitVec 32) : Fin 2 → Nat :=
  let c255_i32 : BitVec 32 := 255#32
  let c0_i32_242 : BitVec 32 := 0#32
  let c0_i32_188 : BitVec 32 := 0#32
  let c1_i32_190 : BitVec 32 := 1#32
  let arg10 : BitVec 32 := Scf.iv c0_i32_188 c1_i32_190 k0_t4
  let c8_i32 : BitVec 32 := 8#32
  let v426 : BitVec 32 := Scalar.muli arg10 c8_i32
  let v427 : BitVec 32 := Scalar.addi c0_i32_242 v426
  let v428 : BitVec 32 := Scalar.addi v427 c0_i32_243
  let v429 : BitVec 32 := Scalar.subi c255_i32 v428
  let c8_i32_244 : BitVec 32 := 8#32
  let v430 : BitVec 32 := Scalar.muli v429 c8_i32_244
  let v431 : BitVec 32 := v430
  let v435 : Index := Scalar.indexCast v431
  let c0_245 : Index := 0#32
  ![v435.toNat, 0]
def k0_mult34 (k0_t4 : Fin k0_t4_loop.trips) : BitVec 32 :=
  let c255_i32_247 : BitVec 32 := 255#32
  let c0_i32_242 : BitVec 32 := 0#32
  let c0_i32_188 : BitVec 32 := 0#32
  let c1_i32_190 : BitVec 32 := 1#32
  let arg10 : BitVec 32 := Scf.iv c0_i32_188 c1_i32_190 k0_t4
  let c8_i32 : BitVec 32 := 8#32
  let v426 : BitVec 32 := Scalar.muli arg10 c8_i32
  let v427 : BitVec 32 := Scalar.addi c0_i32_242 v426
  let c0_i32_243 : BitVec 32 := 0#32
  let v428 : BitVec 32 := Scalar.addi v427 c0_i32_243
  let v444 : BitVec 32 := Scalar.subi c255_i32_247 v428
  let c8_i32_248 : BitVec 32 := 8#32
  let v445 : BitVec 32 := Scalar.muli v444 c8_i32_248
  v445
def k0_mult35 (k0_t4 : Fin k0_t4_loop.trips) : BitVec 32 :=
  let c255_i32_254 : BitVec 32 := 255#32
  let c0_i32_252 : BitVec 32 := 0#32
  let c0_i32_188 : BitVec 32 := 0#32
  let c1_i32_190 : BitVec 32 := 1#32
  let arg10 : BitVec 32 := Scf.iv c0_i32_188 c1_i32_190 k0_t4
  let c8_i32_251 : BitVec 32 := 8#32
  let v455 : BitVec 32 := Scalar.muli arg10 c8_i32_251
  let v456 : BitVec 32 := Scalar.addi c0_i32_252 v455
  let c1_i32_253 : BitVec 32 := 1#32
  let v457 : BitVec 32 := Scalar.addi v456 c1_i32_253
  let v458 : BitVec 32 := Scalar.subi c255_i32_254 v457
  let c8_i32_255 : BitVec 32 := 8#32
  let v459 : BitVec 32 := Scalar.muli v458 c8_i32_255
  v459
def k0_mult36 (k0_t4 : Fin k0_t4_loop.trips) : BitVec 32 :=
  let c255_i32_258 : BitVec 32 := 255#32
  let c0_i32_252 : BitVec 32 := 0#32
  let c0_i32_188 : BitVec 32 := 0#32
  let c1_i32_190 : BitVec 32 := 1#32
  let arg10 : BitVec 32 := Scf.iv c0_i32_188 c1_i32_190 k0_t4
  let c8_i32_251 : BitVec 32 := 8#32
  let v455 : BitVec 32 := Scalar.muli arg10 c8_i32_251
  let v456 : BitVec 32 := Scalar.addi c0_i32_252 v455
  let c1_i32_253 : BitVec 32 := 1#32
  let v457 : BitVec 32 := Scalar.addi v456 c1_i32_253
  let v473 : BitVec 32 := Scalar.subi c255_i32_258 v457
  let c8_i32_259 : BitVec 32 := 8#32
  let v474 : BitVec 32 := Scalar.muli v473 c8_i32_259
  v474
def k0_mult37 (k0_t4 : Fin k0_t4_loop.trips) : BitVec 32 :=
  let c255_i32_264 : BitVec 32 := 255#32
  let c0_i32_263 : BitVec 32 := 0#32
  let c0_i32_188 : BitVec 32 := 0#32
  let c1_i32_190 : BitVec 32 := 1#32
  let arg10 : BitVec 32 := Scf.iv c0_i32_188 c1_i32_190 k0_t4
  let c8_i32_262 : BitVec 32 := 8#32
  let v484 : BitVec 32 := Scalar.muli arg10 c8_i32_262
  let v485 : BitVec 32 := Scalar.addi c0_i32_263 v484
  let c2_i32 : BitVec 32 := 2#32
  let v486 : BitVec 32 := Scalar.addi v485 c2_i32
  let v487 : BitVec 32 := Scalar.subi c255_i32_264 v486
  let c8_i32_265 : BitVec 32 := 8#32
  let v488 : BitVec 32 := Scalar.muli v487 c8_i32_265
  v488
def k0_mult38 (k0_t4 : Fin k0_t4_loop.trips) : BitVec 32 :=
  let c255_i32_268 : BitVec 32 := 255#32
  let c0_i32_263 : BitVec 32 := 0#32
  let c0_i32_188 : BitVec 32 := 0#32
  let c1_i32_190 : BitVec 32 := 1#32
  let arg10 : BitVec 32 := Scf.iv c0_i32_188 c1_i32_190 k0_t4
  let c8_i32_262 : BitVec 32 := 8#32
  let v484 : BitVec 32 := Scalar.muli arg10 c8_i32_262
  let v485 : BitVec 32 := Scalar.addi c0_i32_263 v484
  let c2_i32 : BitVec 32 := 2#32
  let v486 : BitVec 32 := Scalar.addi v485 c2_i32
  let v502 : BitVec 32 := Scalar.subi c255_i32_268 v486
  let c8_i32_269 : BitVec 32 := 8#32
  let v503 : BitVec 32 := Scalar.muli v502 c8_i32_269
  v503
def k0_mult39 (k0_t4 : Fin k0_t4_loop.trips) : BitVec 32 :=
  let c255_i32_274 : BitVec 32 := 255#32
  let c0_i32_273 : BitVec 32 := 0#32
  let c0_i32_188 : BitVec 32 := 0#32
  let c1_i32_190 : BitVec 32 := 1#32
  let arg10 : BitVec 32 := Scf.iv c0_i32_188 c1_i32_190 k0_t4
  let c8_i32_272 : BitVec 32 := 8#32
  let v513 : BitVec 32 := Scalar.muli arg10 c8_i32_272
  let v514 : BitVec 32 := Scalar.addi c0_i32_273 v513
  let c3_i32 : BitVec 32 := 3#32
  let v515 : BitVec 32 := Scalar.addi v514 c3_i32
  let v516 : BitVec 32 := Scalar.subi c255_i32_274 v515
  let c8_i32_275 : BitVec 32 := 8#32
  let v517 : BitVec 32 := Scalar.muli v516 c8_i32_275
  v517
def k0_mult40 (k0_t4 : Fin k0_t4_loop.trips) : BitVec 32 :=
  let c255_i32_278 : BitVec 32 := 255#32
  let c0_i32_273 : BitVec 32 := 0#32
  let c0_i32_188 : BitVec 32 := 0#32
  let c1_i32_190 : BitVec 32 := 1#32
  let arg10 : BitVec 32 := Scf.iv c0_i32_188 c1_i32_190 k0_t4
  let c8_i32_272 : BitVec 32 := 8#32
  let v513 : BitVec 32 := Scalar.muli arg10 c8_i32_272
  let v514 : BitVec 32 := Scalar.addi c0_i32_273 v513
  let c3_i32 : BitVec 32 := 3#32
  let v515 : BitVec 32 := Scalar.addi v514 c3_i32
  let v531 : BitVec 32 := Scalar.subi c255_i32_278 v515
  let c8_i32_279 : BitVec 32 := 8#32
  let v532 : BitVec 32 := Scalar.muli v531 c8_i32_279
  v532
def k0_mult41 (k0_t4 : Fin k0_t4_loop.trips) : BitVec 32 :=
  let c255_i32_284 : BitVec 32 := 255#32
  let c0_i32_283 : BitVec 32 := 0#32
  let c0_i32_188 : BitVec 32 := 0#32
  let c1_i32_190 : BitVec 32 := 1#32
  let arg10 : BitVec 32 := Scf.iv c0_i32_188 c1_i32_190 k0_t4
  let c8_i32_282 : BitVec 32 := 8#32
  let v542 : BitVec 32 := Scalar.muli arg10 c8_i32_282
  let v543 : BitVec 32 := Scalar.addi c0_i32_283 v542
  let c4_i32 : BitVec 32 := 4#32
  let v544 : BitVec 32 := Scalar.addi v543 c4_i32
  let v545 : BitVec 32 := Scalar.subi c255_i32_284 v544
  let c8_i32_285 : BitVec 32 := 8#32
  let v546 : BitVec 32 := Scalar.muli v545 c8_i32_285
  v546
def k0_mult42 (k0_t4 : Fin k0_t4_loop.trips) : BitVec 32 :=
  let c255_i32_288 : BitVec 32 := 255#32
  let c0_i32_283 : BitVec 32 := 0#32
  let c0_i32_188 : BitVec 32 := 0#32
  let c1_i32_190 : BitVec 32 := 1#32
  let arg10 : BitVec 32 := Scf.iv c0_i32_188 c1_i32_190 k0_t4
  let c8_i32_282 : BitVec 32 := 8#32
  let v542 : BitVec 32 := Scalar.muli arg10 c8_i32_282
  let v543 : BitVec 32 := Scalar.addi c0_i32_283 v542
  let c4_i32 : BitVec 32 := 4#32
  let v544 : BitVec 32 := Scalar.addi v543 c4_i32
  let v560 : BitVec 32 := Scalar.subi c255_i32_288 v544
  let c8_i32_289 : BitVec 32 := 8#32
  let v561 : BitVec 32 := Scalar.muli v560 c8_i32_289
  v561
def k0_mult43 (k0_t4 : Fin k0_t4_loop.trips) : BitVec 32 :=
  let c255_i32_294 : BitVec 32 := 255#32
  let c0_i32_293 : BitVec 32 := 0#32
  let c0_i32_188 : BitVec 32 := 0#32
  let c1_i32_190 : BitVec 32 := 1#32
  let arg10 : BitVec 32 := Scf.iv c0_i32_188 c1_i32_190 k0_t4
  let c8_i32_292 : BitVec 32 := 8#32
  let v571 : BitVec 32 := Scalar.muli arg10 c8_i32_292
  let v572 : BitVec 32 := Scalar.addi c0_i32_293 v571
  let c5_i32 : BitVec 32 := 5#32
  let v573 : BitVec 32 := Scalar.addi v572 c5_i32
  let v574 : BitVec 32 := Scalar.subi c255_i32_294 v573
  let c8_i32_295 : BitVec 32 := 8#32
  let v575 : BitVec 32 := Scalar.muli v574 c8_i32_295
  v575
def k0_mult44 (k0_t4 : Fin k0_t4_loop.trips) : BitVec 32 :=
  let c255_i32_298 : BitVec 32 := 255#32
  let c0_i32_293 : BitVec 32 := 0#32
  let c0_i32_188 : BitVec 32 := 0#32
  let c1_i32_190 : BitVec 32 := 1#32
  let arg10 : BitVec 32 := Scf.iv c0_i32_188 c1_i32_190 k0_t4
  let c8_i32_292 : BitVec 32 := 8#32
  let v571 : BitVec 32 := Scalar.muli arg10 c8_i32_292
  let v572 : BitVec 32 := Scalar.addi c0_i32_293 v571
  let c5_i32 : BitVec 32 := 5#32
  let v573 : BitVec 32 := Scalar.addi v572 c5_i32
  let v589 : BitVec 32 := Scalar.subi c255_i32_298 v573
  let c8_i32_299 : BitVec 32 := 8#32
  let v590 : BitVec 32 := Scalar.muli v589 c8_i32_299
  v590
def k0_mult45 (k0_t4 : Fin k0_t4_loop.trips) : BitVec 32 :=
  let c255_i32_304 : BitVec 32 := 255#32
  let c0_i32_303 : BitVec 32 := 0#32
  let c0_i32_188 : BitVec 32 := 0#32
  let c1_i32_190 : BitVec 32 := 1#32
  let arg10 : BitVec 32 := Scf.iv c0_i32_188 c1_i32_190 k0_t4
  let c8_i32_302 : BitVec 32 := 8#32
  let v600 : BitVec 32 := Scalar.muli arg10 c8_i32_302
  let v601 : BitVec 32 := Scalar.addi c0_i32_303 v600
  let c6_i32 : BitVec 32 := 6#32
  let v602 : BitVec 32 := Scalar.addi v601 c6_i32
  let v603 : BitVec 32 := Scalar.subi c255_i32_304 v602
  let c8_i32_305 : BitVec 32 := 8#32
  let v604 : BitVec 32 := Scalar.muli v603 c8_i32_305
  v604
def k0_mult46 (k0_t4 : Fin k0_t4_loop.trips) : BitVec 32 :=
  let c255_i32_308 : BitVec 32 := 255#32
  let c0_i32_303 : BitVec 32 := 0#32
  let c0_i32_188 : BitVec 32 := 0#32
  let c1_i32_190 : BitVec 32 := 1#32
  let arg10 : BitVec 32 := Scf.iv c0_i32_188 c1_i32_190 k0_t4
  let c8_i32_302 : BitVec 32 := 8#32
  let v600 : BitVec 32 := Scalar.muli arg10 c8_i32_302
  let v601 : BitVec 32 := Scalar.addi c0_i32_303 v600
  let c6_i32 : BitVec 32 := 6#32
  let v602 : BitVec 32 := Scalar.addi v601 c6_i32
  let v618 : BitVec 32 := Scalar.subi c255_i32_308 v602
  let c8_i32_309 : BitVec 32 := 8#32
  let v619 : BitVec 32 := Scalar.muli v618 c8_i32_309
  v619
def k0_mult47 (k0_t4 : Fin k0_t4_loop.trips) : BitVec 32 :=
  let c255_i32_315 : BitVec 32 := 255#32
  let c0_i32_313 : BitVec 32 := 0#32
  let c0_i32_188 : BitVec 32 := 0#32
  let c1_i32_190 : BitVec 32 := 1#32
  let arg10 : BitVec 32 := Scf.iv c0_i32_188 c1_i32_190 k0_t4
  let c8_i32_312 : BitVec 32 := 8#32
  let v629 : BitVec 32 := Scalar.muli arg10 c8_i32_312
  let v630 : BitVec 32 := Scalar.addi c0_i32_313 v629
  let c7_i32_314 : BitVec 32 := 7#32
  let v631 : BitVec 32 := Scalar.addi v630 c7_i32_314
  let v632 : BitVec 32 := Scalar.subi c255_i32_315 v631
  let c8_i32_316 : BitVec 32 := 8#32
  let v633 : BitVec 32 := Scalar.muli v632 c8_i32_316
  v633
def k0_mult48 (k0_t4 : Fin k0_t4_loop.trips) : BitVec 32 :=
  let c255_i32_319 : BitVec 32 := 255#32
  let c0_i32_313 : BitVec 32 := 0#32
  let c0_i32_188 : BitVec 32 := 0#32
  let c1_i32_190 : BitVec 32 := 1#32
  let arg10 : BitVec 32 := Scf.iv c0_i32_188 c1_i32_190 k0_t4
  let c8_i32_312 : BitVec 32 := 8#32
  let v629 : BitVec 32 := Scalar.muli arg10 c8_i32_312
  let v630 : BitVec 32 := Scalar.addi c0_i32_313 v629
  let c7_i32_314 : BitVec 32 := 7#32
  let v631 : BitVec 32 := Scalar.addi v630 c7_i32_314
  let v647 : BitVec 32 := Scalar.subi c255_i32_319 v631
  let c8_i32_320 : BitVec 32 := 8#32
  let v648 : BitVec 32 := Scalar.muli v647 c8_i32_320
  v648
def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BwdScan.lean ====
abbrev S2048x12288 : Shape := ⟨2, ![2048, 12288]⟩
abbrev S2048x2048 : Shape := ⟨2, ![2048, 2048]⟩
abbrev S2x16x128x1024 : Shape := ⟨4, ![2, 16, 128, 1024]⟩
abbrev S2x16x1024x128 : Shape := ⟨4, ![2, 16, 1024, 128]⟩
abbrev S2x16x4x512 : Shape := ⟨4, ![2, 16, 4, 512]⟩
abbrev S2x16x2x512 : Shape := ⟨4, ![2, 16, 2, 512]⟩
abbrev S2048x128 : Shape := ⟨2, ![2048, 128]⟩
abbrev S2x1x128x1024 : Shape := ⟨4, ![2, 1, 128, 1024]⟩
abbrev S2x1x1024x128 : Shape := ⟨4, ![2, 1, 1024, 128]⟩
abbrev S2x1x4x512 : Shape := ⟨4, ![2, 1, 4, 512]⟩
abbrev S2x1x2x512 : Shape := ⟨4, ![2, 1, 2, 512]⟩
abbrev S2048x512 : Shape := ⟨2, ![2048, 512]⟩
abbrev S256x128 : Shape := ⟨2, ![256, 128]⟩
abbrev S128x2048 : Shape := ⟨2, ![128, 2048]⟩
abbrev S1x1x128x512 : Shape := ⟨4, ![1, 1, 128, 512]⟩
abbrev S128x512 : Shape := ⟨2, ![128, 512]⟩
abbrev S1x1x1x512 : Shape := ⟨4, ![1, 1, 1, 512]⟩
abbrev S1x512 : Shape := ⟨2, ![1, 512]⟩
abbrev S8x512 : Shape := ⟨2, ![8, 512]⟩
abbrev S1x1x512x128 : Shape := ⟨4, ![1, 1, 512, 128]⟩
abbrev S512x128 : Shape := ⟨2, ![512, 128]⟩
abbrev S512 : Shape := ⟨1, ![512]⟩

abbrev nBuf : Space → Nat
  | .hbm => 10
  | .vmem => 27
  | .smem => 0
  | _ => 0

abbrev bufTy : (tb : Table) → Fin (tcTables nBuf tb) → BufTy
  | .hbm, ⟨0, _⟩ => ⟨S2048x12288, .f32⟩
  | .hbm, ⟨1, _⟩ => ⟨S2048x2048, .f32⟩
  | .hbm, ⟨2, _⟩ => ⟨S2048x2048, .f32⟩
  | .hbm, ⟨3, _⟩ => ⟨S2x16x128x1024, .bf16⟩
  | .hbm, ⟨4, _⟩ => ⟨S2x16x1024x128, .bf16⟩
  | .hbm, ⟨5, _⟩ => ⟨S2x16x4x512, .f32⟩
  | .hbm, ⟨6, _⟩ => ⟨S2048x2048, .bf16⟩
  | .hbm, ⟨7, _⟩ => ⟨S2x16x128x1024, .f32⟩
  | .hbm, ⟨8, _⟩ => ⟨S2x16x128x1024, .f32⟩
  | .hbm, ⟨9, _⟩ => ⟨S2x16x2x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2x1x128x1024, .bf16⟩
  | .local _ .vmem, ⟨7, _⟩ => ⟨S2x1x128x1024, .bf16⟩
  | .local _ .vmem, ⟨8, _⟩ => ⟨S2x1x1024x128, .bf16⟩
  | .local _ .vmem, ⟨9, _⟩ => ⟨S2x1x1024x128, .bf16⟩
  | .local _ .vmem, ⟨10, _⟩ => ⟨S2x1x4x512, .f32⟩
  | .local _ .vmem, ⟨11, _⟩ => ⟨S2x1x4x512, .f32⟩
  | .local _ .vmem, ⟨12, _⟩ => ⟨S2048x128, .bf16⟩
  | .local _ .vmem, ⟨13, _⟩ => ⟨S2048x128, .bf16⟩
  | .local _ .vmem, ⟨14, _⟩ => ⟨S2x1x128x1024, .f32⟩
  | .local _ .vmem, ⟨15, _⟩ => ⟨S2x1x128x1024, .f32⟩
  | .local _ .vmem, ⟨16, _⟩ => ⟨S2x1x128x1024, .f32⟩
  | .local _ .vmem, ⟨17, _⟩ => ⟨S2x1x128x1024, .f32⟩
  | .local _ .vmem, ⟨18, _⟩ => ⟨S2x1x2x512, .f32⟩
  | .local _ .vmem, ⟨19, _⟩ => ⟨S2x1x2x512, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x512, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v103 : BitVec 32 := Scalar.addi c0_i32 c32_i32
  let c1_i32 : BitVec 32 := 1#32
  ⟨c0_i32, v103, c1_i32⟩
def k0_mult1 (k0_t1 : Fin k0_t1_loop.trips) : BitVec 32 :=
  let c0_i32_639 : BitVec 32 := 0#32
  let c0_i32 : BitVec 32 := 0#32
  let c1_i32 : BitVec 32 := 1#32
  let arg18 : BitVec 32 := Scf.iv c0_i32 c1_i32 k0_t1
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let c8_i32_641 : BitVec 32 := 8#32
  let v1113 : BitVec 32 := Scalar.muli v1112 c8_i32_641
  v1113
def k0_off1 (k0_t1 : Fin k0_t1_loop.trips) (c0_i32_640 : BitVec 32) : Fin 2 → Nat :=
  let c0_i32_639 : BitVec 32 := 0#32
  let c0_i32 : BitVec 32 := 0#32
  let c1_i32 : BitVec 32 := 1#32
  let arg18 : BitVec 32 := Scf.iv c0_i32 c1_i32 k0_t1
  let c8_i32 : BitVec 32 := 8#32
  let v1110 : BitVec 32 := Scalar.muli arg18 c8_i32
  let v1111 : BitVec 32 := Scalar.addi c0_i32_639 v1110
  let v1112 : BitVec 32 := Scalar.addi v1111 c0_i32_640
  let c8_i32_641 : BitVec 32 := 8#32
  let v1113 : BitVec 32 := Scalar.muli v1112 c8_i32_641
  let v1114 : BitVec 32 := v1113
  let v1118 : Index := Scalar.indexCast v1114
  let c0_642 : Index := 0#32
  ![v1118.toNat, 0]
def k0_mult2 (k0_t1 : Fin k0_t1_loop.trips) : BitVec 32 :=
  let c0_i32_645 : BitVec 32 := 0#32
  let c0_i32 : BitVec 32 := 0#32
  let c1_i32 : BitVec 32 := 1#32
  let arg18 : BitVec 32 := Scf.iv c0_i32 c1_i32 k0_t1
  let c8_i32_644 : BitVec 32 := 8#32
  let v1127 : BitVec 32 := Scalar.muli arg18 c8_i32_644
  let v1128 : BitVec 32 := Scalar.addi c0_i32_645 v1127
  let c1_i32_646 : BitVec 32 := 1#32
  let v1129 : BitVec 32 := Scalar.addi v1128 c1_i32_646
  let c8_i32_647 : BitVec 32 := 8#32
  let v1130 : BitVec 32 := Scalar.muli v1129 c8_i32_647
  v1130
def k0_mult3 (k0_t1 : Fin k0_t1_loop.trips) : BitVec 32 :=
  let c0_i32_651 : BitVec 32 := 0#32
  let c0_i32 : BitVec 32 := 0#32
  let c1_i32 : BitVec 32 := 1#32
  let arg18 : BitVec 32 := Scf.iv c0_i32 c1_i32 k0_t1
  let c8_i32_650 : BitVec 32 := 8#32
  let v1144 : BitVec 32 := Scalar.muli arg18 c8_i32_650
  let v1145 : BitVec 32 := Scalar.addi c0_i32_651 v1144
  let c2_i32 : BitVec 32 := 2#32
  let v1146 : BitVec 32 := Scalar.addi v1145 c2_i32
  let c8_i32_652 : BitVec 32 := 8#32
  let v1147 : BitVec 32 := Scalar.muli v1146 c8_i32_652
  v1147
def k0_mult4 (k0_t1 : Fin k0_t1_loop.trips) : BitVec 32 :=
  let c0_i32_656 : BitVec 32 := 0#32
  let c0_i32 : BitVec 32 := 0#32
  let c1_i32 : BitVec 32 := 1#32
  let arg18 : BitVec 32 := Scf.iv c0_i32 c1_i32 k0_t1
  let c8_i32_655 : BitVec 32 := 8#32
  let v1161 : BitVec 32 := Scalar.muli arg18 c8_i32_655
  let v1162 : BitVec 32 := Scalar.addi c0_i32_656 v1161
  let c3_i32 : BitVec 32 := 3#32
  let v1163 : BitVec 32 := Scalar.addi v1162 c3_i32
  let c8_i32_657 : BitVec 32 := 8#32
  let v1164 : BitVec 32 := Scalar.muli v1163 c8_i32_657
  v1164
def k0_mult5 (k0_t1 : Fin k0_t1_loop.trips) : BitVec 32 :=
  let c0_i32_661 : BitVec 32 := 0#32
  let c0_i32 : BitVec 32 := 0#32
  let c1_i32 : BitVec 32 := 1#32
  let arg18 : BitVec 32 := Scf.iv c0_i32 c1_i32 k0_t1
  let c8_i32_660 : BitVec 32 := 8#32
  let v1178 : BitVec 32 := Scalar.muli arg18 c8_i32_660
  let v1179 : BitVec 32 := Scalar.addi c0_i32_661 v1178
  let c4_i32 : BitVec 32 := 4#32
  let v1180 : BitVec 32 := Scalar.addi v1179 c4_i32
  let c8_i32_662 : BitVec 32 := 8#32
  let v1181 : BitVec 32 := Scalar.muli v1180 c8_i32_662
  v1181
def k0_mult6 (k0_t1 : Fin k0_t1_loop.trips) : BitVec 32 :=
  let c0_i32_666 : BitVec 32 := 0#32
  let c0_i32 : BitVec 32 := 0#32
  let c1_i32 : BitVec 32 := 1#32
  let arg18 : BitVec 32 := Scf.iv c0_i32 c1_i32 k0_t1
  let c8_i32_665 : BitVec 32 := 8#32
  let v1195 : BitVec 32 := Scalar.muli arg18 c8_i32_665
  let v1196 : BitVec 32 := Scalar.addi c0_i32_666 v1195
  let c5_i32 : BitVec 32 := 5#32
  let v1197 : BitVec 32 := Scalar.addi v1196 c5_i32
  let c8_i32_667 : BitVec 32 := 8#32
  let v1198 : BitVec 32 := Scalar.muli v1197 c8_i32_667
  v1198
def k0_mult7 (k0_t1 : Fin k0_t1_loop.trips) : BitVec 32 :=
  let c0_i32_671 : BitVec 32 := 0#32
  let c0_i32 : BitVec 32 := 0#32
  let c1_i32 : BitVec 32 := 1#32
  let arg18 : BitVec 32 := Scf.iv c0_i32 c1_i32 k0_t1
  let c8_i32_670 : BitVec 32 := 8#32
  let v1212 : BitVec 32 := Scalar.muli arg18 c8_i32_670
  let v1213 : BitVec 32 := Scalar.addi c0_i32_671 v1212
  let c6_i32 : BitVec 32 := 6#32
  let v1214 : BitVec 32 := Scalar.addi v1213 c6_i32
  let c8_i32_672 : BitVec 32 := 8#32
  let v1215 : BitVec 32 := Scalar.muli v1214 c8_i32_672
  v1215
def k0_mult8 (k0_t1 : Fin k0_t1_loop.trips) : BitVec 32 :=
  let c0_i32_676 : BitVec 32 := 0#32
  let c0_i32 : BitVec 32 := 0#32
  let c1_i32 : BitVec 32 := 1#32
  let arg18 : BitVec 32 := Scf.iv c0_i32 c1_i32 k0_t1
  let c8_i32_675 : BitVec 32 := 8#32
  let v1229 : BitVec 32 := Scalar.muli arg18 c8_i32_675
  let v1230 : BitVec 32 := Scalar.addi c0_i32_676 v1229
  let c7_i32_677 : BitVec 32 := 7#32
  let v1231 : BitVec 32 := Scalar.addi v1230 c7_i32_677
  let c8_i32_678 : BitVec 32 := 8#32
  let v1232 : BitVec 32 := Scalar.muli v1231 c8_i32_678
  v1232
@[reducible] def k0_t2_loop : Scf.Loop 32 :=
  let c0_i32_130 : BitVec 32 := 0#32
  let c32_i32_131 : BitVec 32 := 32#32
  let v245 : BitVec 32 := Scalar.addi c0_i32_130 c32_i32_131
  let c1_i32_132 : BitVec 32 := 1#32
  ⟨c0_i32_130, v245, c1_i32_132⟩
def k0_mult9 (k0_t2 : Fin k0_t2_loop.trips) : BitVec 32 :=
  let c0_i32_639 : BitVec 32 := 0#32
  let c0_i32_130 : BitVec 32 := 0#32
  let c1_i32_132 : BitVec 32 := 1#32
  let arg18 : BitVec 32 := Scf.iv c0_i32_130 c1_i32_132 k0_t2
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let c8_i32_641 : BitVec 32 := 8#32
  let v1113 : BitVec 32 := Scalar.muli v1112 c8_i32_641
  v1113
def k0_off2 (k0_t2 : Fin k0_t2_loop.trips) (c0_i32_640 : BitVec 32) : Fin 2 → Nat :=
  let c0_i32_639 : BitVec 32 := 0#32
  let c0_i32_130 : BitVec 32 := 0#32
  let c1_i32_132 : BitVec 32 := 1#32
  let arg18 : BitVec 32 := Scf.iv c0_i32_130 c1_i32_132 k0_t2
  let c8_i32 : BitVec 32 := 8#32
  let v1110 : BitVec 32 := Scalar.muli arg18 c8_i32
  let v1111 : BitVec 32 := Scalar.addi c0_i32_639 v1110
  let v1112 : BitVec 32 := Scalar.addi v1111 c0_i32_640
  let c8_i32_641 : BitVec 32 := 8#32
  let v1113 : BitVec 32 := Scalar.muli v1112 c8_i32_641
  let v1114 : BitVec 32 := v1113
  let v1118 : Index := Scalar.indexCast v1114
  let c0_642 : Index := 0#32
  ![v1118.toNat, 0]
def k0_mult10 (k0_t2 : Fin k0_t2_loop.trips) : BitVec 32 :=
  let c0_i32_639 : BitVec 32 := 0#32
  let c0_i32_130 : BitVec 32 := 0#32
  let c1_i32_132 : BitVec 32 := 1#32
  let arg18 : BitVec 32 := Scf.iv c0_i32_130 c1_i32_132 k0_t2
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let c8_i32_644 : BitVec 32 := 8#32
  let v1127 : BitVec 32 := Scalar.muli v1112 c8_i32_644
  v1127
def k0_mult11 (k0_t2 : Fin k0_t2_loop.trips) : BitVec 32 :=
  let c0_i32_648 : BitVec 32 := 0#32
  let c0_i32_130 : BitVec 32 := 0#32
  let c1_i32_132 : BitVec 32 := 1#32
  let arg18 : BitVec 32 := Scf.iv c0_i32_130 c1_i32_132 k0_t2
  let c8_i32_647 : BitVec 32 := 8#32
  let v1137 : BitVec 32 := Scalar.muli arg18 c8_i32_647
  let v1138 : BitVec 32 := Scalar.addi c0_i32_648 v1137
  let c1_i32_649 : BitVec 32 := 1#32
  let v1139 : BitVec 32 := Scalar.addi v1138 c1_i32_649
  let c8_i32_650 : BitVec 32 := 8#32
  let v1140 : BitVec 32 := Scalar.muli v1139 c8_i32_650
  v1140
def k0_mult12 (k0_t2 : Fin k0_t2_loop.trips) : BitVec 32 :=
  let c0_i32_648 : BitVec 32 := 0#32
  let c0_i32_130 : BitVec 32 := 0#32
  let c1_i32_132 : BitVec 32 := 1#32
  let arg18 : BitVec 32 := Scf.iv c0_i32_130 c1_i32_132 k0_t2
  let c8_i32_647 : BitVec 32 := 8#32
  let v1137 : BitVec 32 := Scalar.muli arg18 c8_i32_647
  let v1138 : BitVec 32 := Scalar.addi c0_i32_648 v1137
  let c1_i32_649 : BitVec 32 := 1#32
  let v1139 : BitVec 32 := Scalar.addi v1138 c1_i32_649
  let c8_i32_653 : BitVec 32 := 8#32
  let v1154 : BitVec 32 := Scalar.muli v1139 c8_i32_653
  v1154
def k0_mult13 (k0_t2 : Fin k0_t2_loop.trips) : BitVec 32 :=
  let c0_i32_657 : BitVec 32 := 0#32
  let c0_i32_130 : BitVec 32 := 0#32
  let c1_i32_132 : BitVec 32 := 1#32
  let arg18 : BitVec 32 := Scf.iv c0_i32_130 c1_i32_132 k0_t2
  let c8_i32_656 : BitVec 32 := 8#32
  let v1164 : BitVec 32 := Scalar.muli arg18 c8_i32_656
  let v1165 : BitVec 32 := Scalar.addi c0_i32_657 v1164
  let c2_i32 : BitVec 32 := 2#32
  let v1166 : BitVec 32 := Scalar.addi v1165 c2_i32
  let c8_i32_658 : BitVec 32 := 8#32
  let v1167 : BitVec 32 := Scalar.muli v1166 c8_i32_658
  v1167
def k0_mult14 (k0_t2 : Fin k0_t2_loop.trips) : BitVec 32 :=
  let c0_i32_657 : BitVec 32 := 0#32
  let c0_i32_130 : BitVec 32 := 0#32
  let c1_i32_132 : BitVec 32 := 1#32
  let arg18 : BitVec 32 := Scf.iv c0_i32_130 c1_i32_132 k0_t2
  let c8_i32_656 : BitVec 32 := 8#32
  let v1164 : BitVec 32 := Scalar.muli arg18 c8_i32_656
  let v1165 : BitVec 32 := Scalar.addi c0_i32_657 v1164
  let c2_i32 : BitVec 32 := 2#32
  let v1166 : BitVec 32 := Scalar.addi v1165 c2_i32
  let c8_i32_661 : BitVec 32 := 8#32
  let v1181 : BitVec 32 := Scalar.muli v1166 c8_i32_661
  v1181
def k0_mult15 (k0_t2 : Fin k0_t2_loop.trips) : BitVec 32 :=
  let c0_i32_665 : BitVec 32 := 0#32
  let c0_i32_130 : BitVec 32 := 0#32
  let c1_i32_132 : BitVec 32 := 1#32
  let arg18 : BitVec 32 := Scf.iv c0_i32_130 c1_i32_132 k0_t2
  let c8_i32_664 : BitVec 32 := 8#32
  let v1191 : BitVec 32 := Scalar.muli arg18 c8_i32_664
  let v1192 : BitVec 32 := Scalar.addi c0_i32_665 v1191
  let c3_i32 : BitVec 32 := 3#32
  let v1193 : BitVec 32 := Scalar.addi v1192 c3_i32
  let c8_i32_666 : BitVec 32 := 8#32
  let v1194 : BitVec 32 := Scalar.muli v1193 c8_i32_666
  v1194
def k0_mult16 (k0_t2 : Fin k0_t2_loop.trips) : BitVec 32 :=
  let c0_i32_665 : BitVec 32 := 0#32
  let c0_i32_130 : BitVec 32 := 0#32
  let c1_i32_132 : BitVec 32 := 1#32
  let arg18 : BitVec 32 := Scf.iv c0_i32_130 c1_i32_132 k0_t2
  let c8_i32_664 : BitVec 32 := 8#32
  let v1191 : BitVec 32 := Scalar.muli arg18 c8_i32_664
  let v1192 : BitVec 32 := Scalar.addi c0_i32_665 v1191
  let c3_i32 : BitVec 32 := 3#32
  let v1193 : BitVec 32 := Scalar.addi v1192 c3_i32
  let c8_i32_669 : BitVec 32 := 8#32
  let v1208 : BitVec 32 := Scalar.muli v1193 c8_i32_669
  v1208
def k0_mult17 (k0_t2 : Fin k0_t2_loop.trips) : BitVec 32 :=
  let c0_i32_673 : BitVec 32 := 0#32
  let c0_i32_130 : BitVec 32 := 0#32
  let c1_i32_132 : BitVec 32 := 1#32
  let arg18 : BitVec 32 := Scf.iv c0_i32_130 c1_i32_132 k0_t2
  let c8_i32_672 : BitVec 32 := 8#32
  let v1218 : BitVec 32 := Scalar.muli arg18 c8_i32_672
  let v1219 : BitVec 32 := Scalar.addi c0_i32_673 v1218
  let c4_i32 : BitVec 32 := 4#32
  let v1220 : BitVec 32 := Scalar.addi v1219 c4_i32
  let c8_i32_674 : BitVec 32 := 8#32
  let v1221 : BitVec 32 := Scalar.muli v1220 c8_i32_674
  v1221
def k0_mult18 (k0_t2 : Fin k0_t2_loop.trips) : BitVec 32 :=
  let c0_i32_673 : BitVec 32 := 0#32
  let c0_i32_130 : BitVec 32 := 0#32
  let c1_i32_132 : BitVec 32 := 1#32
  let arg18 : BitVec 32 := Scf.iv c0_i32_130 c1_i32_132 k0_t2
  let c8_i32_672 : BitVec 32 := 8#32
  let v1218 : BitVec 32 := Scalar.muli arg18 c8_i32_672
  let v1219 : BitVec 32 := Scalar.addi c0_i32_673 v1218
  let c4_i32 : BitVec 32 := 4#32
  let v1220 : BitVec 32 := Scalar.addi v1219 c4_i32
  let c8_i32_677 : BitVec 32 := 8#32
  let v1235 : BitVec 32 := Scalar.muli v1220 c8_i32_677
  v1235
def k0_mult19 (k0_t2 : Fin k0_t2_loop.trips) : BitVec 32 :=
  let c0_i32_681 : BitVec 32 := 0#32
  let c0_i32_130 : BitVec 32 := 0#32
  let c1_i32_132 : BitVec 32 := 1#32
  let arg18 : BitVec 32 := Scf.iv c0_i32_130 c1_i32_132 k0_t2
  let c8_i32_680 : BitVec 32 := 8#32
  let v1245 : BitVec 32 := Scalar.muli arg18 c8_i32_680
  let v1246 : BitVec 32 := Scalar.addi c0_i32_681 v1245
  let c5_i32 : BitVec 32 := 5#32
  let v1247 : BitVec 32 := Scalar.addi v1246 c5_i32
  let c8_i32_682 : BitVec 32 := 8#32
  let v1248 : BitVec 32 := Scalar.muli v1247 c8_i32_682
  v1248
def k0_mult20 (k0_t2 : Fin k0_t2_loop.trips) : BitVec 32 :=
  let c0_i32_681 : BitVec 32 := 0#32
  let c0_i32_130 : BitVec 32 := 0#32
  let c1_i32_132 : BitVec 32 := 1#32
  let arg18 : BitVec 32 := Scf.iv c0_i32_130 c1_i32_132 k0_t2
  let c8_i32_680 : BitVec 32 := 8#32
  let v1245 : BitVec 32 := Scalar.muli arg18 c8_i32_680
  let v1246 : BitVec 32 := Scalar.addi c0_i32_681 v1245
  let c5_i32 : BitVec 32 := 5#32
  let v1247 : BitVec 32 := Scalar.addi v1246 c5_i32
  let c8_i32_685 : BitVec 32 := 8#32
  let v1262 : BitVec 32 := Scalar.muli v1247 c8_i32_685
  v1262
def k0_mult21 (k0_t2 : Fin k0_t2_loop.trips) : BitVec 32 :=
  let c0_i32_689 : BitVec 32 := 0#32
  let c0_i32_130 : BitVec 32 := 0#32
  let c1_i32_132 : BitVec 32 := 1#32
  let arg18 : BitVec 32 := Scf.iv c0_i32_130 c1_i32_132 k0_t2
  let c8_i32_688 : BitVec 32 := 8#32
  let v1272 : BitVec 32 := Scalar.muli arg18 c8_i32_688
  let v1273 : BitVec 32 := Scalar.addi c0_i32_689 v1272
  let c6_i32 : BitVec 32 := 6#32
  let v1274 : BitVec 32 := Scalar.addi v1273 c6_i32
  let c8_i32_690 : BitVec 32 := 8#32
  let v1275 : BitVec 32 := Scalar.muli v1274 c8_i32_690
  v1275
def k0_mult22 (k0_t2 : Fin k0_t2_loop.trips) : BitVec 32 :=
  let c0_i32_689 : BitVec 32 := 0#32
  let c0_i32_130 : BitVec 32 := 0#32
  let c1_i32_132 : BitVec 32 := 1#32
  let arg18 : BitVec 32 := Scf.iv c0_i32_130 c1_i32_132 k0_t2
  let c8_i32_688 : BitVec 32 := 8#32
  let v1272 : BitVec 32 := Scalar.muli arg18 c8_i32_688
  let v1273 : BitVec 32 := Scalar.addi c0_i32_689 v1272
  let c6_i32 : BitVec 32 := 6#32
  let v1274 : BitVec 32 := Scalar.addi v1273 c6_i32
  let c8_i32_693 : BitVec 32 := 8#32
  let v1289 : BitVec 32 := Scalar.muli v1274 c8_i32_693
  v1289
def k0_mult23 (k0_t2 : Fin k0_t2_loop.trips) : BitVec 32 :=
  let c0_i32_697 : BitVec 32 := 0#32
  let c0_i32_130 : BitVec 32 := 0#32
  let c1_i32_132 : BitVec 32 := 1#32
  let arg18 : BitVec 32 := Scf.iv c0_i32_130 c1_i32_132 k0_t2
  let c8_i32_696 : BitVec 32 := 8#32
  let v1299 : BitVec 32 := Scalar.muli arg18 c8_i32_696
  let v1300 : BitVec 32 := Scalar.addi c0_i32_697 v1299
  let c7_i32_698 : BitVec 32 := 7#32
  let v1301 : BitVec 32 := Scalar.addi v1300 c7_i32_698
  let c8_i32_699 : BitVec 32 := 8#32
  let v1302 : BitVec 32 := Scalar.muli v1301 c8_i32_699
  v1302
def k0_mult24 (k0_t2 : Fin k0_t2_loop.trips) : BitVec 32 :=
  let c0_i32_697 : BitVec 32 := 0#32
  let c0_i32_130 : BitVec 32 := 0#32
  let c1_i32_132 : BitVec 32 := 1#32
  let arg18 : BitVec 32 := Scf.iv c0_i32_130 c1_i32_132 k0_t2
  let c8_i32_696 : BitVec 32 := 8#32
  let v1299 : BitVec 32 := Scalar.muli arg18 c8_i32_696
  let v1300 : BitVec 32 := Scalar.addi c0_i32_697 v1299
  let c7_i32_698 : BitVec 32 := 7#32
  let v1301 : BitVec 32 := Scalar.addi v1300 c7_i32_698
  let c8_i32_702 : BitVec 32 := 8#32
  let v1316 : BitVec 32 := Scalar.muli v1301 c8_i32_702
  v1316
@[reducible] def k0_t3_loop : Scf.Loop 32 :=
  let c0_i32_165 : BitVec 32 := 0#32
  let c32_i32_166 : BitVec 32 := 32#32
  let v284 : BitVec 32 := Scalar.addi c0_i32_165 c32_i32_166
  let c1_i32_167 : BitVec 32 := 1#32
  ⟨c0_i32_165, v284, c1_i32_167⟩
def k0_mult25 (k0_t3 : Fin k0_t3_loop.trips) : BitVec 32 :=
  let c255_i32 : BitVec 32 := 255#32
  let c0_i32_639 : BitVec 32 := 0#32
  let c0_i32_165 : BitVec 32 := 0#32
  let c1_i32_167 : BitVec 32 := 1#32
  let arg18 : BitVec 32 := Scf.iv c0_i32_165 c1_i32_167 k0_t3
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let v1113 : BitVec 32 := Scalar.subi c255_i32 v1112
  let c8_i32_641 : BitVec 32 := 8#32
  let v1114 : BitVec 32 := Scalar.muli v1113 c8_i32_641
  v1114
def k0_off3 (k0_t3 : Fin k0_t3_loop.trips) (c0_i32_640 : BitVec 32) : Fin 2 → Nat :=
  let c255_i32 : BitVec 32 := 255#32
  let c0_i32_639 : BitVec 32 := 0#32
  let c0_i32_165 : BitVec 32 := 0#32
  let c1_i32_167 : BitVec 32 := 1#32
  let arg18 : BitVec 32 := Scf.iv c0_i32_165 c1_i32_167 k0_t3
  let c8_i32 : BitVec 32 := 8#32
  let v1110 : BitVec 32 := Scalar.muli arg18 c8_i32
  let v1111 : BitVec 32 := Scalar.addi c0_i32_639 v1110
  let v1112 : BitVec 32 := Scalar.addi v1111 c0_i32_640
  let v1113 : BitVec 32 := Scalar.subi c255_i32 v1112
  let c8_i32_641 : BitVec 32 := 8#32
  let v1114 : BitVec 32 := Scalar.muli v1113 c8_i32_641
  let v1115 : BitVec 32 := v1114
  let v1119 : Index := Scalar.indexCast v1115
  let c0_642 : Index := 0#32
  ![v1119.toNat, 0]
def k0_mult26 (k0_t3 : Fin k0_t3_loop.trips) : BitVec 32 :=
  let c255_i32_647 : BitVec 32 := 255#32
  let c0_i32_645 : BitVec 32 := 0#32
  let c0_i32_165 : BitVec 32 := 0#32
  let c1_i32_167 : BitVec 32 := 1#32
  let arg18 : BitVec 32 := Scf.iv c0_i32_165 c1_i32_167 k0_t3
  let c8_i32_644 : BitVec 32 := 8#32
  let v1128 : BitVec 32 := Scalar.muli arg18 c8_i32_644
  let v1129 : BitVec 32 := Scalar.addi c0_i32_645 v1128
  let c1_i32_646 : BitVec 32 := 1#32
  let v1130 : BitVec 32 := Scalar.addi v1129 c1_i32_646
  let v1131 : BitVec 32 := Scalar.subi c255_i32_647 v1130
  let c8_i32_648 : BitVec 32 := 8#32
  let v1132 : BitVec 32 := Scalar.muli v1131 c8_i32_648
  v1132
def k0_mult27 (k0_t3 : Fin k0_t3_loop.trips) : BitVec 32 :=
  let c255_i32_653 : BitVec 32 := 255#32
  let c0_i32_652 : BitVec 32 := 0#32
  let c0_i32_165 : BitVec 32 := 0#32
  let c1_i32_167 : BitVec 32 := 1#32
  let arg18 : BitVec 32 := Scf.iv c0_i32_165 c1_i32_167 k0_t3
  let c8_i32_651 : BitVec 32 := 8#32
  let v1146 : BitVec 32 := Scalar.muli arg18 c8_i32_651
  let v1147 : BitVec 32 := Scalar.addi c0_i32_652 v1146
  let c2_i32 : BitVec 32 := 2#32
  let v1148 : BitVec 32 := Scalar.addi v1147 c2_i32
  let v1149 : BitVec 32 := Scalar.subi c255_i32_653 v1148
  let c8_i32_654 : BitVec 32 := 8#32
  let v1150 : BitVec 32 := Scalar.muli v1149 c8_i32_654
  v1150
def k0_mult28 (k0_t3 : Fin k0_t3_loop.trips) : BitVec 32 :=
  let c255_i32_659 : BitVec 32 := 255#32
  let c0_i32_658 : BitVec 32 := 0#32
  let c0_i32_165 : BitVec 32 := 0#32
  let c1_i32_167 : BitVec 32 := 1#32
  let arg18 : BitVec 32 := Scf.iv c0_i32_165 c1_i32_167 k0_t3
  let c8_i32_657 : BitVec 32 := 8#32
  let v1164 : BitVec 32 := Scalar.muli arg18 c8_i32_657
  let v1165 : BitVec 32 := Scalar.addi c0_i32_658 v1164
  let c3_i32 : BitVec 32 := 3#32
  let v1166 : BitVec 32 := Scalar.addi v1165 c3_i32
  let v1167 : BitVec 32 := Scalar.subi c255_i32_659 v1166
  let c8_i32_660 : BitVec 32 := 8#32
  let v1168 : BitVec 32 := Scalar.muli v1167 c8_i32_660
  v1168
def k0_mult29 (k0_t3 : Fin k0_t3_loop.trips) : BitVec 32 :=
  let c255_i32_665 : BitVec 32 := 255#32
  let c0_i32_664 : BitVec 32 := 0#32
  let c0_i32_165 : BitVec 32 := 0#32
  let c1_i32_167 : BitVec 32 := 1#32
  let arg18 : BitVec 32 := Scf.iv c0_i32_165 c1_i32_167 k0_t3
  let c8_i32_663 : BitVec 32 := 8#32
  let v1182 : BitVec 32 := Scalar.muli arg18 c8_i32_663
  let v1183 : BitVec 32 := Scalar.addi c0_i32_664 v1182
  let c4_i32 : BitVec 32 := 4#32
  let v1184 : BitVec 32 := Scalar.addi v1183 c4_i32
  let v1185 : BitVec 32 := Scalar.subi c255_i32_665 v1184
  let c8_i32_666 : BitVec 32 := 8#32
  let v1186 : BitVec 32 := Scalar.muli v1185 c8_i32_666
  v1186
def k0_mult30 (k0_t3 : Fin k0_t3_loop.trips) : BitVec 32 :=
  let c255_i32_671 : BitVec 32 := 255#32
  let c0_i32_670 : BitVec 32 := 0#32
  let c0_i32_165 : BitVec 32 := 0#32
  let c1_i32_167 : BitVec 32 := 1#32
  let arg18 : BitVec 32 := Scf.iv c0_i32_165 c1_i32_167 k0_t3
  let c8_i32_669 : BitVec 32 := 8#32
  let v1200 : BitVec 32 := Scalar.muli arg18 c8_i32_669
  let v1201 : BitVec 32 := Scalar.addi c0_i32_670 v1200
  let c5_i32 : BitVec 32 := 5#32
  let v1202 : BitVec 32 := Scalar.addi v1201 c5_i32
  let v1203 : BitVec 32 := Scalar.subi c255_i32_671 v1202
  let c8_i32_672 : BitVec 32 := 8#32
  let v1204 : BitVec 32 := Scalar.muli v1203 c8_i32_672
  v1204
def k0_mult31 (k0_t3 : Fin k0_t3_loop.trips) : BitVec 32 :=
  let c255_i32_677 : BitVec 32 := 255#32
  let c0_i32_676 : BitVec 32 := 0#32
  let c0_i32_165 : BitVec 32 := 0#32
  let c1_i32_167 : BitVec 32 := 1#32
  let arg18 : BitVec 32 := Scf.iv c0_i32_165 c1_i32_167 k0_t3
  let c8_i32_675 : BitVec 32 := 8#32
  let v1218 : BitVec 32 := Scalar.muli arg18 c8_i32_675
  let v1219 : BitVec 32 := Scalar.addi c0_i32_676 v1218
  let c6_i32 : BitVec 32 := 6#32
  let v1220 : BitVec 32 := Scalar.addi v1219 c6_i32
  let v1221 : BitVec 32 := Scalar.subi c255_i32_677 v1220
  let c8_i32_678 : BitVec 32 := 8#32
  let v1222 : BitVec 32 := Scalar.muli v1221 c8_i32_678
  v1222
def k0_mult32 (k0_t3 : Fin k0_t3_loop.trips) : BitVec 32 :=
  let c255_i32_684 : BitVec 32 := 255#32
  let c0_i32_682 : BitVec 32 := 0#32
  let c0_i32_165 : BitVec 32 := 0#32
  let c1_i32_167 : BitVec 32 := 1#32
  let arg18 : BitVec 32 := Scf.iv c0_i32_165 c1_i32_167 k0_t3
  let c8_i32_681 : BitVec 32 := 8#32
  let v1236 : BitVec 32 := Scalar.muli arg18 c8_i32_681
  let v1237 : BitVec 32 := Scalar.addi c0_i32_682 v1236
  let c7_i32_683 : BitVec 32 := 7#32
  let v1238 : BitVec 32 := Scalar.addi v1237 c7_i32_683
  let v1239 : BitVec 32 := Scalar.subi c255_i32_684 v1238
  let c8_i32_685 : BitVec 32 := 8#32
  let v1240 : BitVec 32 := Scalar.muli v1239 c8_i32_685
  v1240
@[reducible] def k0_t4_loop : Scf.Loop 32 :=
  let c0_i32_210 : BitVec 32 := 0#32
  let c32_i32_211 : BitVec 32 := 32#32
  let v426 : BitVec 32 := Scalar.addi c0_i32_210 c32_i32_211
  let c1_i32_212 : BitVec 32 := 1#32
  ⟨c0_i32_210, v426, c1_i32_212⟩
def k0_mult33 (k0_t4 : Fin k0_t4_loop.trips) : BitVec 32 :=
  let c255_i32 : BitVec 32 := 255#32
  let c0_i32_639 : BitVec 32 := 0#32
  let c0_i32_210 : BitVec 32 := 0#32
  let c1_i32_212 : BitVec 32 := 1#32
  let arg18 : BitVec 32 := Scf.iv c0_i32_210 c1_i32_212 k0_t4
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let v1113 : BitVec 32 := Scalar.subi c255_i32 v1112
  let c8_i32_641 : BitVec 32 := 8#32
  let v1114 : BitVec 32 := Scalar.muli v1113 c8_i32_641
  v1114
def k0_off4 (k0_t4 : Fin k0_t4_loop.trips) (c0_i32_640 : BitVec 32) : Fin 2 → Nat :=
  let c255_i32 : BitVec 32 := 255#32
  let c0_i32_639 : BitVec 32 := 0#32
  let c0_i32_210 : BitVec 32 := 0#32
  let c1_i32_212 : BitVec 32 := 1#32
  let arg18 : BitVec 32 := Scf.iv c0_i32_210 c1_i32_212 k0_t4
  let c8_i32 : BitVec 32 := 8#32
  let v1110 : BitVec 32 := Scalar.muli arg18 c8_i32
  let v1111 : BitVec 32 := Scalar.addi c0_i32_639 v1110
  let v1112 : BitVec 32 := Scalar.addi v1111 c0_i32_640
  let v1113 : BitVec 32 := Scalar.subi c255_i32 v1112
  let c8_i32_641 : BitVec 32 := 8#32
  let v1114 : BitVec 32 := Scalar.muli v1113 c8_i32_641
  let v1115 : BitVec 32 := v1114
  let v1119 : Index := Scalar.indexCast v1115
  let c0_642 : Index := 0#32
  ![v1119.toNat, 0]
def k0_mult34 (k0_t4 : Fin k0_t4_loop.trips) : BitVec 32 :=
  let c255_i32_644 : BitVec 32 := 255#32
  let c0_i32_639 : BitVec 32 := 0#32
  let c0_i32_210 : BitVec 32 := 0#32
  let c1_i32_212 : BitVec 32 := 1#32
  let arg18 : BitVec 32 := Scf.iv c0_i32_210 c1_i32_212 k0_t4
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let v1128 : BitVec 32 := Scalar.subi c255_i32_644 v1112
  let c8_i32_645 : BitVec 32 := 8#32
  let v1129 : BitVec 32 := Scalar.muli v1128 c8_i32_645
  v1129
def k0_mult35 (k0_t4 : Fin k0_t4_loop.trips) : BitVec 32 :=
  let c255_i32_651 : BitVec 32 := 255#32
  let c0_i32_649 : BitVec 32 := 0#32
  let c0_i32_210 : BitVec 32 := 0#32
  let c1_i32_212 : BitVec 32 := 1#32
  let arg18 : BitVec 32 := Scf.iv c0_i32_210 c1_i32_212 k0_t4
  let c8_i32_648 : BitVec 32 := 8#32
  let v1139 : BitVec 32 := Scalar.muli arg18 c8_i32_648
  let v1140 : BitVec 32 := Scalar.addi c0_i32_649 v1139
  let c1_i32_650 : BitVec 32 := 1#32
  let v1141 : BitVec 32 := Scalar.addi v1140 c1_i32_650
  let v1142 : BitVec 32 := Scalar.subi c255_i32_651 v1141
  let c8_i32_652 : BitVec 32 := 8#32
  let v1143 : BitVec 32 := Scalar.muli v1142 c8_i32_652
  v1143
def k0_mult36 (k0_t4 : Fin k0_t4_loop.trips) : BitVec 32 :=
  let c255_i32_655 : BitVec 32 := 255#32
  let c0_i32_649 : BitVec 32 := 0#32
  let c0_i32_210 : BitVec 32 := 0#32
  let c1_i32_212 : BitVec 32 := 1#32
  let arg18 : BitVec 32 := Scf.iv c0_i32_210 c1_i32_212 k0_t4
  let c8_i32_648 : BitVec 32 := 8#32
  let v1139 : BitVec 32 := Scalar.muli arg18 c8_i32_648
  let v1140 : BitVec 32 := Scalar.addi c0_i32_649 v1139
  let c1_i32_650 : BitVec 32 := 1#32
  let v1141 : BitVec 32 := Scalar.addi v1140 c1_i32_650
  let v1157 : BitVec 32 := Scalar.subi c255_i32_655 v1141
  let c8_i32_656 : BitVec 32 := 8#32
  let v1158 : BitVec 32 := Scalar.muli v1157 c8_i32_656
  v1158
def k0_mult37 (k0_t4 : Fin k0_t4_loop.trips) : BitVec 32 :=
  let c255_i32_661 : BitVec 32 := 255#32
  let c0_i32_660 : BitVec 32 := 0#32
  let c0_i32_210 : BitVec 32 := 0#32
  let c1_i32_212 : BitVec 32 := 1#32
  let arg18 : BitVec 32 := Scf.iv c0_i32_210 c1_i32_212 k0_t4
  let c8_i32_659 : BitVec 32 := 8#32
  let v1168 : BitVec 32 := Scalar.muli arg18 c8_i32_659
  let v1169 : BitVec 32 := Scalar.addi c0_i32_660 v1168
  let c2_i32 : BitVec 32 := 2#32
  let v1170 : BitVec 32 := Scalar.addi v1169 c2_i32
  let v1171 : BitVec 32 := Scalar.subi c255_i32_661 v1170
  let c8_i32_662 : BitVec 32 := 8#32
  let v1172 : BitVec 32 := Scalar.muli v1171 c8_i32_662
  v1172
def k0_mult38 (k0_t4 : Fin k0_t4_loop.trips) : BitVec 32 :=
  let c255_i32_665 : BitVec 32 := 255#32
  let c0_i32_660 : BitVec 32 := 0#32
  let c0_i32_210 : BitVec 32 := 0#32
  let c1_i32_212 : BitVec 32 := 1#32
  let arg18 : BitVec 32 := Scf.iv c0_i32_210 c1_i32_212 k0_t4
  let c8_i32_659 : BitVec 32 := 8#32
  let v1168 : BitVec 32 := Scalar.muli arg18 c8_i32_659
  let v1169 : BitVec 32 := Scalar.addi c0_i32_660 v1168
  let c2_i32 : BitVec 32 := 2#32
  let v1170 : BitVec 32 := Scalar.addi v1169 c2_i32
  let v1186 : BitVec 32 := Scalar.subi c255_i32_665 v1170
  let c8_i32_666 : BitVec 32 := 8#32
  let v1187 : BitVec 32 := Scalar.muli v1186 c8_i32_666
  v1187
def k0_mult39 (k0_t4 : Fin k0_t4_loop.trips) : BitVec 32 :=
  let c255_i32_671 : BitVec 32 := 255#32
  let c0_i32_670 : BitVec 32 := 0#32
  let c0_i32_210 : BitVec 32 := 0#32
  let c1_i32_212 : BitVec 32 := 1#32
  let arg18 : BitVec 32 := Scf.iv c0_i32_210 c1_i32_212 k0_t4
  let c8_i32_669 : BitVec 32 := 8#32
  let v1197 : BitVec 32 := Scalar.muli arg18 c8_i32_669
  let v1198 : BitVec 32 := Scalar.addi c0_i32_670 v1197
  let c3_i32 : BitVec 32 := 3#32
  let v1199 : BitVec 32 := Scalar.addi v1198 c3_i32
  let v1200 : BitVec 32 := Scalar.subi c255_i32_671 v1199
  let c8_i32_672 : BitVec 32 := 8#32
  let v1201 : BitVec 32 := Scalar.muli v1200 c8_i32_672
  v1201
def k0_mult40 (k0_t4 : Fin k0_t4_loop.trips) : BitVec 32 :=
  let c255_i32_675 : BitVec 32 := 255#32
  let c0_i32_670 : BitVec 32 := 0#32
  let c0_i32_210 : BitVec 32 := 0#32
  let c1_i32_212 : BitVec 32 := 1#32
  let arg18 : BitVec 32 := Scf.iv c0_i32_210 c1_i32_212 k0_t4
  let c8_i32_669 : BitVec 32 := 8#32
  let v1197 : BitVec 32 := Scalar.muli arg18 c8_i32_669
  let v1198 : BitVec 32 := Scalar.addi c0_i32_670 v1197
  let c3_i32 : BitVec 32 := 3#32
  let v1199 : BitVec 32 := Scalar.addi v1198 c3_i32
  let v1215 : BitVec 32 := Scalar.subi c255_i32_675 v1199
  let c8_i32_676 : BitVec 32 := 8#32
  let v1216 : BitVec 32 := Scalar.muli v1215 c8_i32_676
  v1216
def k0_mult41 (k0_t4 : Fin k0_t4_loop.trips) : BitVec 32 :=
  let c255_i32_681 : BitVec 32 := 255#32
  let c0_i32_680 : BitVec 32 := 0#32
  let c0_i32_210 : BitVec 32 := 0#32
  let c1_i32_212 : BitVec 32 := 1#32
  let arg18 : BitVec 32 := Scf.iv c0_i32_210 c1_i32_212 k0_t4
  let c8_i32_679 : BitVec 32 := 8#32
  let v1226 : BitVec 32 := Scalar.muli arg18 c8_i32_679
  let v1227 : BitVec 32 := Scalar.addi c0_i32_680 v1226
  let c4_i32 : BitVec 32 := 4#32
  let v1228 : BitVec 32 := Scalar.addi v1227 c4_i32
  let v1229 : BitVec 32 := Scalar.subi c255_i32_681 v1228
  let c8_i32_682 : BitVec 32 := 8#32
  let v1230 : BitVec 32 := Scalar.muli v1229 c8_i32_682
  v1230
def k0_mult42 (k0_t4 : Fin k0_t4_loop.trips) : BitVec 32 :=
  let c255_i32_685 : BitVec 32 := 255#32
  let c0_i32_680 : BitVec 32 := 0#32
  let c0_i32_210 : BitVec 32 := 0#32
  let c1_i32_212 : BitVec 32 := 1#32
  let arg18 : BitVec 32 := Scf.iv c0_i32_210 c1_i32_212 k0_t4
  let c8_i32_679 : BitVec 32 := 8#32
  let v1226 : BitVec 32 := Scalar.muli arg18 c8_i32_679
  let v1227 : BitVec 32 := Scalar.addi c0_i32_680 v1226
  let c4_i32 : BitVec 32 := 4#32
  let v1228 : BitVec 32 := Scalar.addi v1227 c4_i32
  let v1244 : BitVec 32 := Scalar.subi c255_i32_685 v1228
  let c8_i32_686 : BitVec 32 := 8#32
  let v1245 : BitVec 32 := Scalar.muli v1244 c8_i32_686
  v1245
def k0_mult43 (k0_t4 : Fin k0_t4_loop.trips) : BitVec 32 :=
  let c255_i32_691 : BitVec 32 := 255#32
  let c0_i32_690 : BitVec 32 := 0#32
  let c0_i32_210 : BitVec 32 := 0#32
  let c1_i32_212 : BitVec 32 := 1#32
  let arg18 : BitVec 32 := Scf.iv c0_i32_210 c1_i32_212 k0_t4
  let c8_i32_689 : BitVec 32 := 8#32
  let v1255 : BitVec 32 := Scalar.muli arg18 c8_i32_689
  let v1256 : BitVec 32 := Scalar.addi c0_i32_690 v1255
  let c5_i32 : BitVec 32 := 5#32
  let v1257 : BitVec 32 := Scalar.addi v1256 c5_i32
  let v1258 : BitVec 32 := Scalar.subi c255_i32_691 v1257
  let c8_i32_692 : BitVec 32 := 8#32
  let v1259 : BitVec 32 := Scalar.muli v1258 c8_i32_692
  v1259
def k0_mult44 (k0_t4 : Fin k0_t4_loop.trips) : BitVec 32 :=
  let c255_i32_695 : BitVec 32 := 255#32
  let c0_i32_690 : BitVec 32 := 0#32
  let c0_i32_210 : BitVec 32 := 0#32
  let c1_i32_212 : BitVec 32 := 1#32
  let arg18 : BitVec 32 := Scf.iv c0_i32_210 c1_i32_212 k0_t4
  let c8_i32_689 : BitVec 32 := 8#32
  let v1255 : BitVec 32 := Scalar.muli arg18 c8_i32_689
  let v1256 : BitVec 32 := Scalar.addi c0_i32_690 v1255
  let c5_i32 : BitVec 32 := 5#32
  let v1257 : BitVec 32 := Scalar.addi v1256 c5_i32
  let v1273 : BitVec 32 := Scalar.subi c255_i32_695 v1257
  let c8_i32_696 : BitVec 32 := 8#32
  let v1274 : BitVec 32 := Scalar.muli v1273 c8_i32_696
  v1274
def k0_mult45 (k0_t4 : Fin k0_t4_loop.trips) : BitVec 32 :=
  let c255_i32_701 : BitVec 32 := 255#32
  let c0_i32_700 : BitVec 32 := 0#32
  let c0_i32_210 : BitVec 32 := 0#32
  let c1_i32_212 : BitVec 32 := 1#32
  let arg18 : BitVec 32 := Scf.iv c0_i32_210 c1_i32_212 k0_t4
  let c8_i32_699 : BitVec 32 := 8#32
  let v1284 : BitVec 32 := Scalar.muli arg18 c8_i32_699
  let v1285 : BitVec 32 := Scalar.addi c0_i32_700 v1284
  let c6_i32 : BitVec 32 := 6#32
  let v1286 : BitVec 32 := Scalar.addi v1285 c6_i32
  let v1287 : BitVec 32 := Scalar.subi c255_i32_701 v1286
  let c8_i32_702 : BitVec 32 := 8#32
  let v1288 : BitVec 32 := Scalar.muli v1287 c8_i32_702
  v1288
def k0_mult46 (k0_t4 : Fin k0_t4_loop.trips) : BitVec 32 :=
  let c255_i32_705 : BitVec 32 := 255#32
  let c0_i32_700 : BitVec 32 := 0#32
  let c0_i32_210 : BitVec 32 := 0#32
  let c1_i32_212 : BitVec 32 := 1#32
  let arg18 : BitVec 32 := Scf.iv c0_i32_210 c1_i32_212 k0_t4
  let c8_i32_699 : BitVec 32 := 8#32
  let v1284 : BitVec 32 := Scalar.muli arg18 c8_i32_699
  let v1285 : BitVec 32 := Scalar.addi c0_i32_700 v1284
  let c6_i32 : BitVec 32 := 6#32
  let v1286 : BitVec 32 := Scalar.addi v1285 c6_i32
  let v1302 : BitVec 32 := Scalar.subi c255_i32_705 v1286
  let c8_i32_706 : BitVec 32 := 8#32
  let v1303 : BitVec 32 := Scalar.muli v1302 c8_i32_706
  v1303
def k0_mult47 (k0_t4 : Fin k0_t4_loop.trips) : BitVec 32 :=
  let c255_i32_712 : BitVec 32 := 255#32
  let c0_i32_710 : BitVec 32 := 0#32
  let c0_i32_210 : BitVec 32 := 0#32
  let c1_i32_212 : BitVec 32 := 1#32
  let arg18 : BitVec 32 := Scf.iv c0_i32_210 c1_i32_212 k0_t4
  let c8_i32_709 : BitVec 32 := 8#32
  let v1313 : BitVec 32 := Scalar.muli arg18 c8_i32_709
  let v1314 : BitVec 32 := Scalar.addi c0_i32_710 v1313
  let c7_i32_711 : BitVec 32 := 7#32
  let v1315 : BitVec 32 := Scalar.addi v1314 c7_i32_711
  let v1316 : BitVec 32 := Scalar.subi c255_i32_712 v1315
  let c8_i32_713 : BitVec 32 := 8#32
  let v1317 : BitVec 32 := Scalar.muli v1316 c8_i32_713
  v1317
def k0_mult48 (k0_t4 : Fin k0_t4_loop.trips) : BitVec 32 :=
  let c255_i32_716 : BitVec 32 := 255#32
  let c0_i32_710 : BitVec 32 := 0#32
  let c0_i32_210 : BitVec 32 := 0#32
  let c1_i32_212 : BitVec 32 := 1#32
  let arg18 : BitVec 32 := Scf.iv c0_i32_210 c1_i32_212 k0_t4
  let c8_i32_709 : BitVec 32 := 8#32
  let v1313 : BitVec 32 := Scalar.muli arg18 c8_i32_709
  let v1314 : BitVec 32 := Scalar.addi c0_i32_710 v1313
  let c7_i32_711 : BitVec 32 := 7#32
  let v1315 : BitVec 32 := Scalar.addi v1314 c7_i32_711
  let v1331 : BitVec 32 := Scalar.subi c255_i32_716 v1315
  let c8_i32_717 : BitVec 32 := 8#32
  let v1332 : BitVec 32 := Scalar.muli v1331 c8_i32_717
  v1332
@[reducible] def k0_t5_loop : Scf.Loop 32 :=
  let c0_i32_215 : BitVec 32 := 0#32
  let c31_i32 : BitVec 32 := 31#32
  let v429 : BitVec 32 := Scalar.addi c0_i32_215 c31_i32
  let c1_i32_216 : BitVec 32 := 1#32
  ⟨c0_i32_215, v429, c1_i32_216⟩
def k0_mult49 (k0_t5 : Fin k0_t5_loop.trips) : BitVec 32 :=
  let c1_i32_639 : BitVec 32 := 1#32
  let c0_i32_215 : BitVec 32 := 0#32
  let c1_i32_216 : BitVec 32 := 1#32
  let arg18 : BitVec 32 := Scf.iv c0_i32_215 c1_i32_216 k0_t5
  let c8_i32 : BitVec 32 := 8#32
  let v1110 : BitVec 32 := Scalar.muli arg18 c8_i32
  let v1111 : BitVec 32 := Scalar.addi c1_i32_639 v1110
  let c0_i32_640 : BitVec 32 := 0#32
  let v1112 : BitVec 32 := Scalar.addi v1111 c0_i32_640
  let c1_i32_641 : BitVec 32 := 1#32
  let v1113 : BitVec 32 := Scalar.subi v1112 c1_i32_641
  let c8_i32_642 : BitVec 32 := 8#32
  let v1114 : BitVec 32 := Scalar.muli v1113 c8_i32_642
  v1114
def k0_off5 (k0_t5 : Fin k0_t5_loop.trips) (c0_i32_640 : BitVec 32) : Fin 2 → Nat :=
  let c1_i32_639 : BitVec 32 := 1#32
  let c0_i32_215 : BitVec 32 := 0#32
  let c1_i32_216 : BitVec 32 := 1#32
  let arg18 : BitVec 32 := Scf.iv c0_i32_215 c1_i32_216 k0_t5
  let c8_i32 : BitVec 32 := 8#32
  let v1110 : BitVec 32 := Scalar.muli arg18 c8_i32
  let v1111 : BitVec 32 := Scalar.addi c1_i32_639 v1110
  let v1112 : BitVec 32 := Scalar.addi v1111 c0_i32_640
  let c1_i32_641 : BitVec 32 := 1#32
  let v1113 : BitVec 32 := Scalar.subi v1112 c1_i32_641
  let c8_i32_642 : BitVec 32 := 8#32
  let v1114 : BitVec 32 := Scalar.muli v1113 c8_i32_642
  let v1115 : BitVec 32 := v1114
  let v1116 : Index := Scalar.indexCast v1115
  let c0_643 : Index := 0#32
  ![v1116.toNat, 0]
def k0_mult50 (k0_t5 : Fin k0_t5_loop.trips) : BitVec 32 :=
  let c1_i32_639 : BitVec 32 := 1#32
  let c0_i32_215 : BitVec 32 := 0#32
  let c1_i32_216 : BitVec 32 := 1#32
  let arg18 : BitVec 32 := Scf.iv c0_i32_215 c1_i32_216 k0_t5
  let c8_i32 : BitVec 32 := 8#32
  let v1110 : BitVec 32 := Scalar.muli arg18 c8_i32
  let v1111 : BitVec 32 := Scalar.addi c1_i32_639 v1110
  let c0_i32_640 : BitVec 32 := 0#32
  let v1112 : BitVec 32 := Scalar.addi v1111 c0_i32_640
  let c8_i32_645 : BitVec 32 := 8#32
  let v1120 : BitVec 32 := Scalar.muli v1112 c8_i32_645
  v1120
def k0_off6 (k0_t5 : Fin k0_t5_loop.trips) (c0_i32_640 : BitVec 32) : Fin 2 → Nat :=
  let c1_i32_639 : BitVec 32 := 1#32
  let c0_i32_215 : BitVec 32 := 0#32
  let c1_i32_216 : BitVec 32 := 1#32
  let arg18 : BitVec 32 := Scf.iv c0_i32_215 c1_i32_216 k0_t5
  let c8_i32 : BitVec 32 := 8#32
  let v1110 : BitVec 32 := Scalar.muli arg18 c8_i32
  let v1111 : BitVec 32 := Scalar.addi c1_i32_639 v1110
  let v1112 : BitVec 32 := Scalar.addi v1111 c0_i32_640
  let c8_i32_645 : BitVec 32 := 8#32
  let v1120 : BitVec 32 := Scalar.muli v1112 c8_i32_645
  let v1121 : BitVec 32 := v1120
  let v1122 : Index := Scalar.indexCast v1121
  let c0_646 : Index := 0#32
  ![v1122.toNat, 0]
def k0_mult51 (k0_t5 : Fin k0_t5_loop.trips) : BitVec 32 :=
  let c1_i32_639 : BitVec 32 := 1#32
  let c0_i32_215 : BitVec 32 := 0#32
  let c1_i32_216 : BitVec 32 := 1#32
  let arg18 : BitVec 32 := Scf.iv c0_i32_215 c1_i32_216 k0_t5
  let c8_i32 : BitVec 32 := 8#32
  let v1110 : BitVec 32 := Scalar.muli arg18 c8_i32
  let v1111 : BitVec 32 := Scalar.addi c1_i32_639 v1110
  let c0_i32_640 : BitVec 32 := 0#32
  let v1112 : BitVec 32 := Scalar.addi v1111 c0_i32_640
  let c8_i32_647 : BitVec 32 := 8#32
  let v1124 : BitVec 32 := Scalar.muli v1112 c8_i32_647
  v1124
def k0_mult52 (k0_t5 : Fin k0_t5_loop.trips) : BitVec 32 :=
  let c1_i32_650 : BitVec 32 := 1#32
  let c0_i32_215 : BitVec 32 := 0#32
  let c1_i32_216 : BitVec 32 := 1#32
  let arg18 : BitVec 32 := Scf.iv c0_i32_215 c1_i32_216 k0_t5
  let c8_i32_649 : BitVec 32 := 8#32
  let v1136 : BitVec 32 := Scalar.muli arg18 c8_i32_649
  let v1137 : BitVec 32 := Scalar.addi c1_i32_650 v1136
  let c1_i32_651 : BitVec 32 := 1#32
  let v1138 : BitVec 32 := Scalar.addi v1137 c1_i32_651
  let c1_i32_652 : BitVec 32 := 1#32
  let v1139 : BitVec 32 := Scalar.subi v1138 c1_i32_652
  let c8_i32_653 : BitVec 32 := 8#32
  let v1140 : BitVec 32 := Scalar.muli v1139 c8_i32_653
  v1140
def k0_mult53 (k0_t5 : Fin k0_t5_loop.trips) : BitVec 32 :=
  let c1_i32_650 : BitVec 32 := 1#32
  let c0_i32_215 : BitVec 32 := 0#32
  let c1_i32_216 : BitVec 32 := 1#32
  let arg18 : BitVec 32 := Scf.iv c0_i32_215 c1_i32_216 k0_t5
  let c8_i32_649 : BitVec 32 := 8#32
  let v1136 : BitVec 32 := Scalar.muli arg18 c8_i32_649
  let v1137 : BitVec 32 := Scalar.addi c1_i32_650 v1136
  let c1_i32_651 : BitVec 32 := 1#32
  let v1138 : BitVec 32 := Scalar.addi v1137 c1_i32_651
  let c8_i32_656 : BitVec 32 := 8#32
  let v1146 : BitVec 32 := Scalar.muli v1138 c8_i32_656
  v1146
def k0_mult54 (k0_t5 : Fin k0_t5_loop.trips) : BitVec 32 :=
  let c1_i32_650 : BitVec 32 := 1#32
  let c0_i32_215 : BitVec 32 := 0#32
  let c1_i32_216 : BitVec 32 := 1#32
  let arg18 : BitVec 32 := Scf.iv c0_i32_215 c1_i32_216 k0_t5
  let c8_i32_649 : BitVec 32 := 8#32
  let v1136 : BitVec 32 := Scalar.muli arg18 c8_i32_649
  let v1137 : BitVec 32 := Scalar.addi c1_i32_650 v1136
  let c1_i32_651 : BitVec 32 := 1#32
  let v1138 : BitVec 32 := Scalar.addi v1137 c1_i32_651
  let c8_i32_658 : BitVec 32 := 8#32
  let v1150 : BitVec 32 := Scalar.muli v1138 c8_i32_658
  v1150
def k0_mult55 (k0_t5 : Fin k0_t5_loop.trips) : BitVec 32 :=
  let c1_i32_661 : BitVec 32 := 1#32
  let c0_i32_215 : BitVec 32 := 0#32
  let c1_i32_216 : BitVec 32 := 1#32
  let arg18 : BitVec 32 := Scf.iv c0_i32_215 c1_i32_216 k0_t5
  let c8_i32_660 : BitVec 32 := 8#32
  let v1162 : BitVec 32 := Scalar.muli arg18 c8_i32_660
  let v1163 : BitVec 32 := Scalar.addi c1_i32_661 v1162
  let c2_i32 : BitVec 32 := 2#32
  let v1164 : BitVec 32 := Scalar.addi v1163 c2_i32
  let c1_i32_662 : BitVec 32 := 1#32
  let v1165 : BitVec 32 := Scalar.subi v1164 c1_i32_662
  let c8_i32_663 : BitVec 32 := 8#32
  let v1166 : BitVec 32 := Scalar.muli v1165 c8_i32_663
  v1166
def k0_mult56 (k0_t5 : Fin k0_t5_loop.trips) : BitVec 32 :=
  let c1_i32_661 : BitVec 32 := 1#32
  let c0_i32_215 : BitVec 32 := 0#32
  let c1_i32_216 : BitVec 32 := 1#32
  let arg18 : BitVec 32 := Scf.iv c0_i32_215 c1_i32_216 k0_t5
  let c8_i32_660 : BitVec 32 := 8#32
  let v1162 : BitVec 32 := Scalar.muli arg18 c8_i32_660
  let v1163 : BitVec 32 := Scalar.addi c1_i32_661 v1162
  let c2_i32 : BitVec 32 := 2#32
  let v1164 : BitVec 32 := Scalar.addi v1163 c2_i32
  let c8_i32_666 : BitVec 32 := 8#32
  let v1172 : BitVec 32 := Scalar.muli v1164 c8_i32_666
  v1172
def k0_mult57 (k0_t5 : Fin k0_t5_loop.trips) : BitVec 32 :=
  let c1_i32_661 : BitVec 32 := 1#32
  let c0_i32_215 : BitVec 32 := 0#32
  let c1_i32_216 : BitVec 32 := 1#32
  let arg18 : BitVec 32 := Scf.iv c0_i32_215 c1_i32_216 k0_t5
  let c8_i32_660 : BitVec 32 := 8#32
  let v1162 : BitVec 32 := Scalar.muli arg18 c8_i32_660
  let v1163 : BitVec 32 := Scalar.addi c1_i32_661 v1162
  let c2_i32 : BitVec 32 := 2#32
  let v1164 : BitVec 32 := Scalar.addi v1163 c2_i32
  let c8_i32_668 : BitVec 32 := 8#32
  let v1176 : BitVec 32 := Scalar.muli v1164 c8_i32_668
  v1176
def k0_mult58 (k0_t5 : Fin k0_t5_loop.trips) : BitVec 32 :=
  let c1_i32_671 : BitVec 32 := 1#32
  let c0_i32_215 : BitVec 32 := 0#32
  let c1_i32_216 : BitVec 32 := 1#32
  let arg18 : BitVec 32 := Scf.iv c0_i32_215 c1_i32_216 k0_t5
  let c8_i32_670 : BitVec 32 := 8#32
  let v1188 : BitVec 32 := Scalar.muli arg18 c8_i32_670
  let v1189 : BitVec 32 := Scalar.addi c1_i32_671 v1188
  let c3_i32 : BitVec 32 := 3#32
  let v1190 : BitVec 32 := Scalar.addi v1189 c3_i32
  let c1_i32_672 : BitVec 32 := 1#32
  let v1191 : BitVec 32 := Scalar.subi v1190 c1_i32_672
  let c8_i32_673 : BitVec 32 := 8#32
  let v1192 : BitVec 32 := Scalar.muli v1191 c8_i32_673
  v1192
def k0_mult59 (k0_t5 : Fin k0_t5_loop.trips) : BitVec 32 :=
  let c1_i32_671 : BitVec 32 := 1#32
  let c0_i32_215 : BitVec 32 := 0#32
  let c1_i32_216 : BitVec 32 := 1#32
  let arg18 : BitVec 32 := Scf.iv c0_i32_215 c1_i32_216 k0_t5
  let c8_i32_670 : BitVec 32 := 8#32
  let v1188 : BitVec 32 := Scalar.muli arg18 c8_i32_670
  let v1189 : BitVec 32 := Scalar.addi c1_i32_671 v1188
  let c3_i32 : BitVec 32 := 3#32
  let v1190 : BitVec 32 := Scalar.addi v1189 c3_i32
  let c8_i32_676 : BitVec 32 := 8#32
  let v1198 : BitVec 32 := Scalar.muli v1190 c8_i32_676
  v1198
def k0_mult60 (k0_t5 : Fin k0_t5_loop.trips) : BitVec 32 :=
  let c1_i32_671 : BitVec 32 := 1#32
  let c0_i32_215 : BitVec 32 := 0#32
  let c1_i32_216 : BitVec 32 := 1#32
  let arg18 : BitVec 32 := Scf.iv c0_i32_215 c1_i32_216 k0_t5
  let c8_i32_670 : BitVec 32 := 8#32
  let v1188 : BitVec 32 := Scalar.muli arg18 c8_i32_670
  let v1189 : BitVec 32 := Scalar.addi c1_i32_671 v1188
  let c3_i32 : BitVec 32 := 3#32
  let v1190 : BitVec 32 := Scalar.addi v1189 c3_i32
  let c8_i32_678 : BitVec 32 := 8#32
  let v1202 : BitVec 32 := Scalar.muli v1190 c8_i32_678
  v1202
def k0_mult61 (k0_t5 : Fin k0_t5_loop.trips) : BitVec 32 :=
  let c1_i32_681 : BitVec 32 := 1#32
  let c0_i32_215 : BitVec 32 := 0#32
  let c1_i32_216 : BitVec 32 := 1#32
  let arg18 : BitVec 32 := Scf.iv c0_i32_215 c1_i32_216 k0_t5
  let c8_i32_680 : BitVec 32 := 8#32
  let v1214 : BitVec 32 := Scalar.muli arg18 c8_i32_680
  let v1215 : BitVec 32 := Scalar.addi c1_i32_681 v1214
  let c4_i32 : BitVec 32 := 4#32
  let v1216 : BitVec 32 := Scalar.addi v1215 c4_i32
  let c1_i32_682 : BitVec 32 := 1#32
  let v1217 : BitVec 32 := Scalar.subi v1216 c1_i32_682
  let c8_i32_683 : BitVec 32 := 8#32
  let v1218 : BitVec 32 := Scalar.muli v1217 c8_i32_683
  v1218
def k0_mult62 (k0_t5 : Fin k0_t5_loop.trips) : BitVec 32 :=
  let c1_i32_681 : BitVec 32 := 1#32
  let c0_i32_215 : BitVec 32 := 0#32
  let c1_i32_216 : BitVec 32 := 1#32
  let arg18 : BitVec 32 := Scf.iv c0_i32_215 c1_i32_216 k0_t5
  let c8_i32_680 : BitVec 32 := 8#32
  let v1214 : BitVec 32 := Scalar.muli arg18 c8_i32_680
  let v1215 : BitVec 32 := Scalar.addi c1_i32_681 v1214
  let c4_i32 : BitVec 32 := 4#32
  let v1216 : BitVec 32 := Scalar.addi v1215 c4_i32
  let c8_i32_686 : BitVec 32 := 8#32
  let v1224 : BitVec 32 := Scalar.muli v1216 c8_i32_686
  v1224
def k0_mult63 (k0_t5 : Fin k0_t5_loop.trips) : BitVec 32 :=
  let c1_i32_681 : BitVec 32 := 1#32
  let c0_i32_215 : BitVec 32 := 0#32
  let c1_i32_216 : BitVec 32 := 1#32
  let arg18 : BitVec 32 := Scf.iv c0_i32_215 c1_i32_216 k0_t5
  let c8_i32_680 : BitVec 32 := 8#32
  let v1214 : BitVec 32 := Scalar.muli arg18 c8_i32_680
  let v1215 : BitVec 32 := Scalar.addi c1_i32_681 v1214
  let c4_i32 : BitVec 32 := 4#32
  let v1216 : BitVec 32 := Scalar.addi v1215 c4_i32
  let c8_i32_688 : BitVec 32 := 8#32
  let v1228 : BitVec 32 := Scalar.muli v1216 c8_i32_688
  v1228
def k0_mult64 (k0_t5 : Fin k0_t5_loop.trips) : BitVec 32 :=
  let c1_i32_691 : BitVec 32 := 1#32
  let c0_i32_215 : BitVec 32 := 0#32
  let c1_i32_216 : BitVec 32 := 1#32
  let arg18 : BitVec 32 := Scf.iv c0_i32_215 c1_i32_216 k0_t5
  let c8_i32_690 : BitVec 32 := 8#32
  let v1240 : BitVec 32 := Scalar.muli arg18 c8_i32_690
  let v1241 : BitVec 32 := Scalar.addi c1_i32_691 v1240
  let c5_i32 : BitVec 32 := 5#32
  let v1242 : BitVec 32 := Scalar.addi v1241 c5_i32
  let c1_i32_692 : BitVec 32 := 1#32
  let v1243 : BitVec 32 := Scalar.subi v1242 c1_i32_692
  let c8_i32_693 : BitVec 32 := 8#32
  let v1244 : BitVec 32 := Scalar.muli v1243 c8_i32_693
  v1244
def k0_mult65 (k0_t5 : Fin k0_t5_loop.trips) : BitVec 32 :=
  let c1_i32_691 : BitVec 32 := 1#32
  let c0_i32_215 : BitVec 32 := 0#32
  let c1_i32_216 : BitVec 32 := 1#32
  let arg18 : BitVec 32 := Scf.iv c0_i32_215 c1_i32_216 k0_t5
  let c8_i32_690 : BitVec 32 := 8#32
  let v1240 : BitVec 32 := Scalar.muli arg18 c8_i32_690
  let v1241 : BitVec 32 := Scalar.addi c1_i32_691 v1240
  let c5_i32 : BitVec 32 := 5#32
  let v1242 : BitVec 32 := Scalar.addi v1241 c5_i32
  let c8_i32_696 : BitVec 32 := 8#32
  let v1250 : BitVec 32 := Scalar.muli v1242 c8_i32_696
  v1250
def k0_mult66 (k0_t5 : Fin k0_t5_loop.trips) : BitVec 32 :=
  let c1_i32_691 : BitVec 32 := 1#32
  let c0_i32_215 : BitVec 32 := 0#32
  let c1_i32_216 : BitVec 32 := 1#32
  let arg18 : BitVec 32 := Scf.iv c0_i32_215 c1_i32_216 k0_t5
  let c8_i32_690 : BitVec 32 := 8#32
  let v1240 : BitVec 32 := Scalar.muli arg18 c8_i32_690
  let v1241 : BitVec 32 := Scalar.addi c1_i32_691 v1240
  let c5_i32 : BitVec 32 := 5#32
  let v1242 : BitVec 32 := Scalar.addi v1241 c5_i32
  let c8_i32_698 : BitVec 32 := 8#32
  let v1254 : BitVec 32 := Scalar.muli v1242 c8_i32_698
  v1254
def k0_mult67 (k0_t5 : Fin k0_t5_loop.trips) : BitVec 32 :=
  let c1_i32_701 : BitVec 32 := 1#32
  let c0_i32_215 : BitVec 32 := 0#32
  let c1_i32_216 : BitVec 32 := 1#32
  let arg18 : BitVec 32 := Scf.iv c0_i32_215 c1_i32_216 k0_t5
  let c8_i32_700 : BitVec 32 := 8#32
  let v1266 : BitVec 32 := Scalar.muli arg18 c8_i32_700
  let v1267 : BitVec 32 := Scalar.addi c1_i32_701 v1266
  let c6_i32 : BitVec 32 := 6#32
  let v1268 : BitVec 32 := Scalar.addi v1267 c6_i32
  let c1_i32_702 : BitVec 32 := 1#32
  let v1269 : BitVec 32 := Scalar.subi v1268 c1_i32_702
  let c8_i32_703 : BitVec 32 := 8#32
  let v1270 : BitVec 32 := Scalar.muli v1269 c8_i32_703
  v1270
def k0_mult68 (k0_t5 : Fin k0_t5_loop.trips) : BitVec 32 :=
  let c1_i32_701 : BitVec 32 := 1#32
  let c0_i32_215 : BitVec 32 := 0#32
  let c1_i32_216 : BitVec 32 := 1#32
  let arg18 : BitVec 32 := Scf.iv c0_i32_215 c1_i32_216 k0_t5
  let c8_i32_700 : BitVec 32 := 8#32
  let v1266 : BitVec 32 := Scalar.muli arg18 c8_i32_700
  let v1267 : BitVec 32 := Scalar.addi c1_i32_701 v1266
  let c6_i32 : BitVec 32 := 6#32
  let v1268 : BitVec 32 := Scalar.addi v1267 c6_i32
  let c8_i32_706 : BitVec 32 := 8#32
  let v1276 : BitVec 32 := Scalar.muli v1268 c8_i32_706
  v1276
def k0_mult69 (k0_t5 : Fin k0_t5_loop.trips) : BitVec 32 :=
  let c1_i32_701 : BitVec 32 := 1#32
  let c0_i32_215 : BitVec 32 := 0#32
  let c1_i32_216 : BitVec 32 := 1#32
  let arg18 : BitVec 32 := Scf.iv c0_i32_215 c1_i32_216 k0_t5
  let c8_i32_700 : BitVec 32 := 8#32
  let v1266 : BitVec 32 := Scalar.muli arg18 c8_i32_700
  let v1267 : BitVec 32 := Scalar.addi c1_i32_701 v1266
  let c6_i32 : BitVec 32 := 6#32
  let v1268 : BitVec 32 := Scalar.addi v1267 c6_i32
  let c8_i32_708 : BitVec 32 := 8#32
  let v1280 : BitVec 32 := Scalar.muli v1268 c8_i32_708
  v1280
def k0_mult70 (k0_t5 : Fin k0_t5_loop.trips) : BitVec 32 :=
  let c1_i32_711 : BitVec 32 := 1#32
  let c0_i32_215 : BitVec 32 := 0#32
  let c1_i32_216 : BitVec 32 := 1#32
  let arg18 : BitVec 32 := Scf.iv c0_i32_215 c1_i32_216 k0_t5
  let c8_i32_710 : BitVec 32 := 8#32
  let v1292 : BitVec 32 := Scalar.muli arg18 c8_i32_710
  let v1293 : BitVec 32 := Scalar.addi c1_i32_711 v1292
  let c7_i32_712 : BitVec 32 := 7#32
  let v1294 : BitVec 32 := Scalar.addi v1293 c7_i32_712
  let c1_i32_713 : BitVec 32 := 1#32
  let v1295 : BitVec 32 := Scalar.subi v1294 c1_i32_713
  let c8_i32_714 : BitVec 32 := 8#32
  let v1296 : BitVec 32 := Scalar.muli v1295 c8_i32_714
  v1296
def k0_mult71 (k0_t5 : Fin k0_t5_loop.trips) : BitVec 32 :=
  let c1_i32_711 : BitVec 32 := 1#32
  let c0_i32_215 : BitVec 32 := 0#32
  let c1_i32_216 : BitVec 32 := 1#32
  let arg18 : BitVec 32 := Scf.iv c0_i32_215 c1_i32_216 k0_t5
  let c8_i32_710 : BitVec 32 := 8#32
  let v1292 : BitVec 32 := Scalar.muli arg18 c8_i32_710
  let v1293 : BitVec 32 := Scalar.addi c1_i32_711 v1292
  let c7_i32_712 : BitVec 32 := 7#32
  let v1294 : BitVec 32 := Scalar.addi v1293 c7_i32_712
  let c8_i32_717 : BitVec 32 := 8#32
  let v1302 : BitVec 32 := Scalar.muli v1294 c8_i32_717
  v1302
def k0_mult72 (k0_t5 : Fin k0_t5_loop.trips) : BitVec 32 :=
  let c1_i32_711 : BitVec 32 := 1#32
  let c0_i32_215 : BitVec 32 := 0#32
  let c1_i32_216 : BitVec 32 := 1#32
  let arg18 : BitVec 32 := Scf.iv c0_i32_215 c1_i32_216 k0_t5
  let c8_i32_710 : BitVec 32 := 8#32
  let v1292 : BitVec 32 := Scalar.muli arg18 c8_i32_710
  let v1293 : BitVec 32 := Scalar.addi c1_i32_711 v1292
  let c7_i32_712 : BitVec 32 := 7#32
  let v1294 : BitVec 32 := Scalar.addi v1293 c7_i32_712
  let c8_i32_719 : BitVec 32 := 8#32
  let v1306 : BitVec 32 := Scalar.muli v1294 c8_i32_719
  v1306
@[reducible] def k0_t6_loop : Scf.Loop 32 :=
  let c0_i32_347 : BitVec 32 := 0#32
  let c32_i32_348 : BitVec 32 := 32#32
  let v600 : BitVec 32 := Scalar.addi c0_i32_347 c32_i32_348
  let c1_i32_349 : BitVec 32 := 1#32
  ⟨c0_i32_347, v600, c1_i32_349⟩
def k0_mult73 (k0_t6 : Fin k0_t6_loop.trips) : BitVec 32 :=
  let c255_i32 : BitVec 32 := 255#32
  let c0_i32_639 : BitVec 32 := 0#32
  let c0_i32_347 : BitVec 32 := 0#32
  let c1_i32_349 : BitVec 32 := 1#32
  let arg18 : BitVec 32 := Scf.iv c0_i32_347 c1_i32_349 k0_t6
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let v1113 : BitVec 32 := Scalar.subi c255_i32 v1112
  let c8_i32_641 : BitVec 32 := 8#32
  let v1114 : BitVec 32 := Scalar.muli v1113 c8_i32_641
  v1114
def k0_off7 (k0_t6 : Fin k0_t6_loop.trips) (c0_i32_640 : BitVec 32) : Fin 2 → Nat :=
  let c255_i32 : BitVec 32 := 255#32
  let c0_i32_639 : BitVec 32 := 0#32
  let c0_i32_347 : BitVec 32 := 0#32
  let c1_i32_349 : BitVec 32 := 1#32
  let arg18 : BitVec 32 := Scf.iv c0_i32_347 c1_i32_349 k0_t6
  let c8_i32 : BitVec 32 := 8#32
  let v1110 : BitVec 32 := Scalar.muli arg18 c8_i32
  let v1111 : BitVec 32 := Scalar.addi c0_i32_639 v1110
  let v1112 : BitVec 32 := Scalar.addi v1111 c0_i32_640
  let v1113 : BitVec 32 := Scalar.subi c255_i32 v1112
  let c8_i32_641 : BitVec 32 := 8#32
  let v1114 : BitVec 32 := Scalar.muli v1113 c8_i32_641
  let v1115 : BitVec 32 := v1114
  let v1119 : Index := Scalar.indexCast v1115
  let c0_642 : Index := 0#32
  ![v1119.toNat, 0]
def k0_mult74 (k0_t6 : Fin k0_t6_loop.trips) : BitVec 32 :=
  let c255_i32_647 : BitVec 32 := 255#32
  let c0_i32_645 : BitVec 32 := 0#32
  let c0_i32_347 : BitVec 32 := 0#32
  let c1_i32_349 : BitVec 32 := 1#32
  let arg18 : BitVec 32 := Scf.iv c0_i32_347 c1_i32_349 k0_t6
  let c8_i32_644 : BitVec 32 := 8#32
  let v1128 : BitVec 32 := Scalar.muli arg18 c8_i32_644
  let v1129 : BitVec 32 := Scalar.addi c0_i32_645 v1128
  let c1_i32_646 : BitVec 32 := 1#32
  let v1130 : BitVec 32 := Scalar.addi v1129 c1_i32_646
  let v1131 : BitVec 32 := Scalar.subi c255_i32_647 v1130
  let c8_i32_648 : BitVec 32 := 8#32
  let v1132 : BitVec 32 := Scalar.muli v1131 c8_i32_648
  v1132
def k0_mult75 (k0_t6 : Fin k0_t6_loop.trips) : BitVec 32 :=
  let c255_i32_653 : BitVec 32 := 255#32
  let c0_i32_652 : BitVec 32 := 0#32
  let c0_i32_347 : BitVec 32 := 0#32
  let c1_i32_349 : BitVec 32 := 1#32
  let arg18 : BitVec 32 := Scf.iv c0_i32_347 c1_i32_349 k0_t6
  let c8_i32_651 : BitVec 32 := 8#32
  let v1146 : BitVec 32 := Scalar.muli arg18 c8_i32_651
  let v1147 : BitVec 32 := Scalar.addi c0_i32_652 v1146
  let c2_i32 : BitVec 32 := 2#32
  let v1148 : BitVec 32 := Scalar.addi v1147 c2_i32
  let v1149 : BitVec 32 := Scalar.subi c255_i32_653 v1148
  let c8_i32_654 : BitVec 32 := 8#32
  let v1150 : BitVec 32 := Scalar.muli v1149 c8_i32_654
  v1150
def k0_mult76 (k0_t6 : Fin k0_t6_loop.trips) : BitVec 32 :=
  let c255_i32_659 : BitVec 32 := 255#32
  let c0_i32_658 : BitVec 32 := 0#32
  let c0_i32_347 : BitVec 32 := 0#32
  let c1_i32_349 : BitVec 32 := 1#32
  let arg18 : BitVec 32 := Scf.iv c0_i32_347 c1_i32_349 k0_t6
  let c8_i32_657 : BitVec 32 := 8#32
  let v1164 : BitVec 32 := Scalar.muli arg18 c8_i32_657
  let v1165 : BitVec 32 := Scalar.addi c0_i32_658 v1164
  let c3_i32 : BitVec 32 := 3#32
  let v1166 : BitVec 32 := Scalar.addi v1165 c3_i32
  let v1167 : BitVec 32 := Scalar.subi c255_i32_659 v1166
  let c8_i32_660 : BitVec 32 := 8#32
  let v1168 : BitVec 32 := Scalar.muli v1167 c8_i32_660
  v1168
def k0_mult77 (k0_t6 : Fin k0_t6_loop.trips) : BitVec 32 :=
  let c255_i32_665 : BitVec 32 := 255#32
  let c0_i32_664 : BitVec 32 := 0#32
  let c0_i32_347 : BitVec 32 := 0#32
  let c1_i32_349 : BitVec 32 := 1#32
  let arg18 : BitVec 32 := Scf.iv c0_i32_347 c1_i32_349 k0_t6
  let c8_i32_663 : BitVec 32 := 8#32
  let v1182 : BitVec 32 := Scalar.muli arg18 c8_i32_663
  let v1183 : BitVec 32 := Scalar.addi c0_i32_664 v1182
  let c4_i32 : BitVec 32 := 4#32
  let v1184 : BitVec 32 := Scalar.addi v1183 c4_i32
  let v1185 : BitVec 32 := Scalar.subi c255_i32_665 v1184
  let c8_i32_666 : BitVec 32 := 8#32
  let v1186 : BitVec 32 := Scalar.muli v1185 c8_i32_666
  v1186
def k0_mult78 (k0_t6 : Fin k0_t6_loop.trips) : BitVec 32 :=
  let c255_i32_671 : BitVec 32 := 255#32
  let c0_i32_670 : BitVec 32 := 0#32
  let c0_i32_347 : BitVec 32 := 0#32
  let c1_i32_349 : BitVec 32 := 1#32
  let arg18 : BitVec 32 := Scf.iv c0_i32_347 c1_i32_349 k0_t6
  let c8_i32_669 : BitVec 32 := 8#32
  let v1200 : BitVec 32 := Scalar.muli arg18 c8_i32_669
  let v1201 : BitVec 32 := Scalar.addi c0_i32_670 v1200
  let c5_i32 : BitVec 32 := 5#32
  let v1202 : BitVec 32 := Scalar.addi v1201 c5_i32
  let v1203 : BitVec 32 := Scalar.subi c255_i32_671 v1202
  let c8_i32_672 : BitVec 32 := 8#32
  let v1204 : BitVec 32 := Scalar.muli v1203 c8_i32_672
  v1204
def k0_mult79 (k0_t6 : Fin k0_t6_loop.trips) : BitVec 32 :=
  let c255_i32_677 : BitVec 32 := 255#32
  let c0_i32_676 : BitVec 32 := 0#32
  let c0_i32_347 : BitVec 32 := 0#32
  let c1_i32_349 : BitVec 32 := 1#32
  let arg18 : BitVec 32 := Scf.iv c0_i32_347 c1_i32_349 k0_t6
  let c8_i32_675 : BitVec 32 := 8#32
  let v1218 : BitVec 32 := Scalar.muli arg18 c8_i32_675
  let v1219 : BitVec 32 := Scalar.addi c0_i32_676 v1218
  let c6_i32 : BitVec 32 := 6#32
  let v1220 : BitVec 32 := Scalar.addi v1219 c6_i32
  let v1221 : BitVec 32 := Scalar.subi c255_i32_677 v1220
  let c8_i32_678 : BitVec 32 := 8#32
  let v1222 : BitVec 32 := Scalar.muli v1221 c8_i32_678
  v1222
def k0_mult80 (k0_t6 : Fin k0_t6_loop.trips) : BitVec 32 :=
  let c255_i32_684 : BitVec 32 := 255#32
  let c0_i32_682 : BitVec 32 := 0#32
  let c0_i32_347 : BitVec 32 := 0#32
  let c1_i32_349 : BitVec 32 := 1#32
  let arg18 : BitVec 32 := Scf.iv c0_i32_347 c1_i32_349 k0_t6
  let c8_i32_681 : BitVec 32 := 8#32
  let v1236 : BitVec 32 := Scalar.muli arg18 c8_i32_681
  let v1237 : BitVec 32 := Scalar.addi c0_i32_682 v1236
  let c7_i32_683 : BitVec 32 := 7#32
  let v1238 : BitVec 32 := Scalar.addi v1237 c7_i32_683
  let v1239 : BitVec 32 := Scalar.subi c255_i32_684 v1238
  let c8_i32_685 : BitVec 32 := 8#32
  let v1240 : BitVec 32 := Scalar.muli v1239 c8_i32_685
  v1240
@[reducible] def k0_t7_loop : Scf.Loop 32 :=
  let c0_i32_393 : BitVec 32 := 0#32
  let c32_i32_394 : BitVec 32 := 32#32
  let v742 : BitVec 32 := Scalar.addi c0_i32_393 c32_i32_394
  let c1_i32_395 : BitVec 32 := 1#32
  ⟨c0_i32_393, v742, c1_i32_395⟩
def k0_mult81 (k0_t7 : Fin k0_t7_loop.trips) : BitVec 32 :=
  let c255_i32 : BitVec 32 := 255#32
  let c0_i32_639 : BitVec 32 := 0#32
  let c0_i32_393 : BitVec 32 := 0#32
  let c1_i32_395 : BitVec 32 := 1#32
  let arg18 : BitVec 32 := Scf.iv c0_i32_393 c1_i32_395 k0_t7
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let v1113 : BitVec 32 := Scalar.subi c255_i32 v1112
  let c8_i32_641 : BitVec 32 := 8#32
  let v1114 : BitVec 32 := Scalar.muli v1113 c8_i32_641
  v1114
def k0_off8 (k0_t7 : Fin k0_t7_loop.trips) (c0_i32_640 : BitVec 32) : Fin 2 → Nat :=
  let c255_i32 : BitVec 32 := 255#32
  let c0_i32_639 : BitVec 32 := 0#32
  let c0_i32_393 : BitVec 32 := 0#32
  let c1_i32_395 : BitVec 32 := 1#32
  let arg18 : BitVec 32 := Scf.iv c0_i32_393 c1_i32_395 k0_t7
  let c8_i32 : BitVec 32 := 8#32
  let v1110 : BitVec 32 := Scalar.muli arg18 c8_i32
  let v1111 : BitVec 32 := Scalar.addi c0_i32_639 v1110
  let v1112 : BitVec 32 := Scalar.addi v1111 c0_i32_640
  let v1113 : BitVec 32 := Scalar.subi c255_i32 v1112
  let c8_i32_641 : BitVec 32 := 8#32
  let v1114 : BitVec 32 := Scalar.muli v1113 c8_i32_641
  let v1115 : BitVec 32 := v1114
  let v1119 : Index := Scalar.indexCast v1115
  let c0_642 : Index := 0#32
  ![v1119.toNat, 0]
def k0_mult82 (k0_t7 : Fin k0_t7_loop.trips) : BitVec 32 :=
  let c255_i32_644 : BitVec 32 := 255#32
  let c0_i32_639 : BitVec 32 := 0#32
  let c0_i32_393 : BitVec 32 := 0#32
  let c1_i32_395 : BitVec 32 := 1#32
  let arg18 : BitVec 32 := Scf.iv c0_i32_393 c1_i32_395 k0_t7
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let v1128 : BitVec 32 := Scalar.subi c255_i32_644 v1112
  let c8_i32_645 : BitVec 32 := 8#32
  let v1129 : BitVec 32 := Scalar.muli v1128 c8_i32_645
  v1129
def k0_mult83 (k0_t7 : Fin k0_t7_loop.trips) : BitVec 32 :=
  let c255_i32_651 : BitVec 32 := 255#32
  let c0_i32_649 : BitVec 32 := 0#32
  let c0_i32_393 : BitVec 32 := 0#32
  let c1_i32_395 : BitVec 32 := 1#32
  let arg18 : BitVec 32 := Scf.iv c0_i32_393 c1_i32_395 k0_t7
  let c8_i32_648 : BitVec 32 := 8#32
  let v1139 : BitVec 32 := Scalar.muli arg18 c8_i32_648
  let v1140 : BitVec 32 := Scalar.addi c0_i32_649 v1139
  let c1_i32_650 : BitVec 32 := 1#32
  let v1141 : BitVec 32 := Scalar.addi v1140 c1_i32_650
  let v1142 : BitVec 32 := Scalar.subi c255_i32_651 v1141
  let c8_i32_652 : BitVec 32 := 8#32
  let v1143 : BitVec 32 := Scalar.muli v1142 c8_i32_652
  v1143
def k0_mult84 (k0_t7 : Fin k0_t7_loop.trips) : BitVec 32 :=
  let c255_i32_655 : BitVec 32 := 255#32
  let c0_i32_649 : BitVec 32 := 0#32
  let c0_i32_393 : BitVec 32 := 0#32
  let c1_i32_395 : BitVec 32 := 1#32
  let arg18 : BitVec 32 := Scf.iv c0_i32_393 c1_i32_395 k0_t7
  let c8_i32_648 : BitVec 32 := 8#32
  let v1139 : BitVec 32 := Scalar.muli arg18 c8_i32_648
  let v1140 : BitVec 32 := Scalar.addi c0_i32_649 v1139
  let c1_i32_650 : BitVec 32 := 1#32
  let v1141 : BitVec 32 := Scalar.addi v1140 c1_i32_650
  let v1157 : BitVec 32 := Scalar.subi c255_i32_655 v1141
  let c8_i32_656 : BitVec 32 := 8#32
  let v1158 : BitVec 32 := Scalar.muli v1157 c8_i32_656
  v1158
def k0_mult85 (k0_t7 : Fin k0_t7_loop.trips) : BitVec 32 :=
  let c255_i32_661 : BitVec 32 := 255#32
  let c0_i32_660 : BitVec 32 := 0#32
  let c0_i32_393 : BitVec 32 := 0#32
  let c1_i32_395 : BitVec 32 := 1#32
  let arg18 : BitVec 32 := Scf.iv c0_i32_393 c1_i32_395 k0_t7
  let c8_i32_659 : BitVec 32 := 8#32
  let v1168 : BitVec 32 := Scalar.muli arg18 c8_i32_659
  let v1169 : BitVec 32 := Scalar.addi c0_i32_660 v1168
  let c2_i32 : BitVec 32 := 2#32
  let v1170 : BitVec 32 := Scalar.addi v1169 c2_i32
  let v1171 : BitVec 32 := Scalar.subi c255_i32_661 v1170
  let c8_i32_662 : BitVec 32 := 8#32
  let v1172 : BitVec 32 := Scalar.muli v1171 c8_i32_662
  v1172
def k0_mult86 (k0_t7 : Fin k0_t7_loop.trips) : BitVec 32 :=
  let c255_i32_665 : BitVec 32 := 255#32
  let c0_i32_660 : BitVec 32 := 0#32
  let c0_i32_393 : BitVec 32 := 0#32
  let c1_i32_395 : BitVec 32 := 1#32
  let arg18 : BitVec 32 := Scf.iv c0_i32_393 c1_i32_395 k0_t7
  let c8_i32_659 : BitVec 32 := 8#32
  let v1168 : BitVec 32 := Scalar.muli arg18 c8_i32_659
  let v1169 : BitVec 32 := Scalar.addi c0_i32_660 v1168
  let c2_i32 : BitVec 32 := 2#32
  let v1170 : BitVec 32 := Scalar.addi v1169 c2_i32
  let v1186 : BitVec 32 := Scalar.subi c255_i32_665 v1170
  let c8_i32_666 : BitVec 32 := 8#32
  let v1187 : BitVec 32 := Scalar.muli v1186 c8_i32_666
  v1187
def k0_mult87 (k0_t7 : Fin k0_t7_loop.trips) : BitVec 32 :=
  let c255_i32_671 : BitVec 32 := 255#32
  let c0_i32_670 : BitVec 32 := 0#32
  let c0_i32_393 : BitVec 32 := 0#32
  let c1_i32_395 : BitVec 32 := 1#32
  let arg18 : BitVec 32 := Scf.iv c0_i32_393 c1_i32_395 k0_t7
  let c8_i32_669 : BitVec 32 := 8#32
  let v1197 : BitVec 32 := Scalar.muli arg18 c8_i32_669
  let v1198 : BitVec 32 := Scalar.addi c0_i32_670 v1197
  let c3_i32 : BitVec 32 := 3#32
  let v1199 : BitVec 32 := Scalar.addi v1198 c3_i32
  let v1200 : BitVec 32 := Scalar.subi c255_i32_671 v1199
  let c8_i32_672 : BitVec 32 := 8#32
  let v1201 : BitVec 32 := Scalar.muli v1200 c8_i32_672
  v1201
def k0_mult88 (k0_t7 : Fin k0_t7_loop.trips) : BitVec 32 :=
  let c255_i32_675 : BitVec 32 := 255#32
  let c0_i32_670 : BitVec 32 := 0#32
  let c0_i32_393 : BitVec 32 := 0#32
  let c1_i32_395 : BitVec 32 := 1#32
  let arg18 : BitVec 32 := Scf.iv c0_i32_393 c1_i32_395 k0_t7
  let c8_i32_669 : BitVec 32 := 8#32
  let v1197 : BitVec 32 := Scalar.muli arg18 c8_i32_669
  let v1198 : BitVec 32 := Scalar.addi c0_i32_670 v1197
  let c3_i32 : BitVec 32 := 3#32
  let v1199 : BitVec 32 := Scalar.addi v1198 c3_i32
  let v1215 : BitVec 32 := Scalar.subi c255_i32_675 v1199
  let c8_i32_676 : BitVec 32 := 8#32
  let v1216 : BitVec 32 := Scalar.muli v1215 c8_i32_676
  v1216
def k0_mult89 (k0_t7 : Fin k0_t7_loop.trips) : BitVec 32 :=
  let c255_i32_681 : BitVec 32 := 255#32
  let c0_i32_680 : BitVec 32 := 0#32
  let c0_i32_393 : BitVec 32 := 0#32
  let c1_i32_395 : BitVec 32 := 1#32
  let arg18 : BitVec 32 := Scf.iv c0_i32_393 c1_i32_395 k0_t7
  let c8_i32_679 : BitVec 32 := 8#32
  let v1226 : BitVec 32 := Scalar.muli arg18 c8_i32_679
  let v1227 : BitVec 32 := Scalar.addi c0_i32_680 v1226
  let c4_i32 : BitVec 32 := 4#32
  let v1228 : BitVec 32 := Scalar.addi v1227 c4_i32
  let v1229 : BitVec 32 := Scalar.subi c255_i32_681 v1228
  let c8_i32_682 : BitVec 32 := 8#32
  let v1230 : BitVec 32 := Scalar.muli v1229 c8_i32_682
  v1230
def k0_mult90 (k0_t7 : Fin k0_t7_loop.trips) : BitVec 32 :=
  let c255_i32_685 : BitVec 32 := 255#32
  let c0_i32_680 : BitVec 32 := 0#32
  let c0_i32_393 : BitVec 32 := 0#32
  let c1_i32_395 : BitVec 32 := 1#32
  let arg18 : BitVec 32 := Scf.iv c0_i32_393 c1_i32_395 k0_t7
  let c8_i32_679 : BitVec 32 := 8#32
  let v1226 : BitVec 32 := Scalar.muli arg18 c8_i32_679
  let v1227 : BitVec 32 := Scalar.addi c0_i32_680 v1226
  let c4_i32 : BitVec 32 := 4#32
  let v1228 : BitVec 32 := Scalar.addi v1227 c4_i32
  let v1244 : BitVec 32 := Scalar.subi c255_i32_685 v1228
  let c8_i32_686 : BitVec 32 := 8#32
  let v1245 : BitVec 32 := Scalar.muli v1244 c8_i32_686
  v1245
def k0_mult91 (k0_t7 : Fin k0_t7_loop.trips) : BitVec 32 :=
  let c255_i32_691 : BitVec 32 := 255#32
  let c0_i32_690 : BitVec 32 := 0#32
  let c0_i32_393 : BitVec 32 := 0#32
  let c1_i32_395 : BitVec 32 := 1#32
  let arg18 : BitVec 32 := Scf.iv c0_i32_393 c1_i32_395 k0_t7
  let c8_i32_689 : BitVec 32 := 8#32
  let v1255 : BitVec 32 := Scalar.muli arg18 c8_i32_689
  let v1256 : BitVec 32 := Scalar.addi c0_i32_690 v1255
  let c5_i32 : BitVec 32 := 5#32
  let v1257 : BitVec 32 := Scalar.addi v1256 c5_i32
  let v1258 : BitVec 32 := Scalar.subi c255_i32_691 v1257
  let c8_i32_692 : BitVec 32 := 8#32
  let v1259 : BitVec 32 := Scalar.muli v1258 c8_i32_692
  v1259
def k0_mult92 (k0_t7 : Fin k0_t7_loop.trips) : BitVec 32 :=
  let c255_i32_695 : BitVec 32 := 255#32
  let c0_i32_690 : BitVec 32 := 0#32
  let c0_i32_393 : BitVec 32 := 0#32
  let c1_i32_395 : BitVec 32 := 1#32
  let arg18 : BitVec 32 := Scf.iv c0_i32_393 c1_i32_395 k0_t7
  let c8_i32_689 : BitVec 32 := 8#32
  let v1255 : BitVec 32 := Scalar.muli arg18 c8_i32_689
  let v1256 : BitVec 32 := Scalar.addi c0_i32_690 v1255
  let c5_i32 : BitVec 32 := 5#32
  let v1257 : BitVec 32 := Scalar.addi v1256 c5_i32
  let v1273 : BitVec 32 := Scalar.subi c255_i32_695 v1257
  let c8_i32_696 : BitVec 32 := 8#32
  let v1274 : BitVec 32 := Scalar.muli v1273 c8_i32_696
  v1274
def k0_mult93 (k0_t7 : Fin k0_t7_loop.trips) : BitVec 32 :=
  let c255_i32_701 : BitVec 32 := 255#32
  let c0_i32_700 : BitVec 32 := 0#32
  let c0_i32_393 : BitVec 32 := 0#32
  let c1_i32_395 : BitVec 32 := 1#32
  let arg18 : BitVec 32 := Scf.iv c0_i32_393 c1_i32_395 k0_t7
  let c8_i32_699 : BitVec 32 := 8#32
  let v1284 : BitVec 32 := Scalar.muli arg18 c8_i32_699
  let v1285 : BitVec 32 := Scalar.addi c0_i32_700 v1284
  let c6_i32 : BitVec 32 := 6#32
  let v1286 : BitVec 32 := Scalar.addi v1285 c6_i32
  let v1287 : BitVec 32 := Scalar.subi c255_i32_701 v1286
  let c8_i32_702 : BitVec 32 := 8#32
  let v1288 : BitVec 32 := Scalar.muli v1287 c8_i32_702
  v1288
def k0_mult94 (k0_t7 : Fin k0_t7_loop.trips) : BitVec 32 :=
  let c255_i32_705 : BitVec 32 := 255#32
  let c0_i32_700 : BitVec 32 := 0#32
  let c0_i32_393 : BitVec 32 := 0#32
  let c1_i32_395 : BitVec 32 := 1#32
  let arg18 : BitVec 32 := Scf.iv c0_i32_393 c1_i32_395 k0_t7
  let c8_i32_699 : BitVec 32 := 8#32
  let v1284 : BitVec 32 := Scalar.muli arg18 c8_i32_699
  let v1285 : BitVec 32 := Scalar.addi c0_i32_700 v1284
  let c6_i32 : BitVec 32 := 6#32
  let v1286 : BitVec 32 := Scalar.addi v1285 c6_i32
  let v1302 : BitVec 32 := Scalar.subi c255_i32_705 v1286
  let c8_i32_706 : BitVec 32 := 8#32
  let v1303 : BitVec 32 := Scalar.muli v1302 c8_i32_706
  v1303
def k0_mult95 (k0_t7 : Fin k0_t7_loop.trips) : BitVec 32 :=
  let c255_i32_712 : BitVec 32 := 255#32
  let c0_i32_710 : BitVec 32 := 0#32
  let c0_i32_393 : BitVec 32 := 0#32
  let c1_i32_395 : BitVec 32 := 1#32
  let arg18 : BitVec 32 := Scf.iv c0_i32_393 c1_i32_395 k0_t7
  let c8_i32_709 : BitVec 32 := 8#32
  let v1313 : BitVec 32 := Scalar.muli arg18 c8_i32_709
  let v1314 : BitVec 32 := Scalar.addi c0_i32_710 v1313
  let c7_i32_711 : BitVec 32 := 7#32
  let v1315 : BitVec 32 := Scalar.addi v1314 c7_i32_711
  let v1316 : BitVec 32 := Scalar.subi c255_i32_712 v1315
  let c8_i32_713 : BitVec 32 := 8#32
  let v1317 : BitVec 32 := Scalar.muli v1316 c8_i32_713
  v1317
def k0_mult96 (k0_t7 : Fin k0_t7_loop.trips) : BitVec 32 :=
  let c255_i32_716 : BitVec 32 := 255#32
  let c0_i32_710 : BitVec 32 := 0#32
  let c0_i32_393 : BitVec 32 := 0#32
  let c1_i32_395 : BitVec 32 := 1#32
  let arg18 : BitVec 32 := Scf.iv c0_i32_393 c1_i32_395 k0_t7
  let c8_i32_709 : BitVec 32 := 8#32
  let v1313 : BitVec 32 := Scalar.muli arg18 c8_i32_709
  let v1314 : BitVec 32 := Scalar.addi c0_i32_710 v1313
  let c7_i32_711 : BitVec 32 := 7#32
  let v1315 : BitVec 32 := Scalar.addi v1314 c7_i32_711
  let v1331 : BitVec 32 := Scalar.subi c255_i32_716 v1315
  let c8_i32_717 : BitVec 32 := 8#32
  let v1332 : BitVec 32 := Scalar.muli v1331 c8_i32_717
  v1332
@[reducible] def k0_t8_loop : Scf.Loop 32 :=
  let c0_i32_428 : BitVec 32 := 0#32
  let c32_i32_429 : BitVec 32 := 32#32
  let v781 : BitVec 32 := Scalar.addi c0_i32_428 c32_i32_429
  let c1_i32_430 : BitVec 32 := 1#32
  ⟨c0_i32_428, v781, c1_i32_430⟩
def k0_mult97 (k0_t8 : Fin k0_t8_loop.trips) : BitVec 32 :=
  let c0_i32_639 : BitVec 32 := 0#32
  let c0_i32_428 : BitVec 32 := 0#32
  let c1_i32_430 : BitVec 32 := 1#32
  let arg18 : BitVec 32 := Scf.iv c0_i32_428 c1_i32_430 k0_t8
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let c8_i32_641 : BitVec 32 := 8#32
  let v1113 : BitVec 32 := Scalar.muli v1112 c8_i32_641
  v1113
def k0_off9 (k0_t8 : Fin k0_t8_loop.trips) (c0_i32_640 : BitVec 32) : Fin 2 → Nat :=
  let c0_i32_639 : BitVec 32 := 0#32
  let c0_i32_428 : BitVec 32 := 0#32
  let c1_i32_430 : BitVec 32 := 1#32
  let arg18 : BitVec 32 := Scf.iv c0_i32_428 c1_i32_430 k0_t8
  let c8_i32 : BitVec 32 := 8#32
  let v1110 : BitVec 32 := Scalar.muli arg18 c8_i32
  let v1111 : BitVec 32 := Scalar.addi c0_i32_639 v1110
  let v1112 : BitVec 32 := Scalar.addi v1111 c0_i32_640
  let c8_i32_641 : BitVec 32 := 8#32
  let v1113 : BitVec 32 := Scalar.muli v1112 c8_i32_641
  let v1114 : BitVec 32 := v1113
  let v1118 : Index := Scalar.indexCast v1114
  let c0_642 : Index := 0#32
  ![v1118.toNat, 0]
def k0_mult98 (k0_t8 : Fin k0_t8_loop.trips) : BitVec 32 :=
  let c0_i32_645 : BitVec 32 := 0#32
  let c0_i32_428 : BitVec 32 := 0#32
  let c1_i32_430 : BitVec 32 := 1#32
  let arg18 : BitVec 32 := Scf.iv c0_i32_428 c1_i32_430 k0_t8
  let c8_i32_644 : BitVec 32 := 8#32
  let v1127 : BitVec 32 := Scalar.muli arg18 c8_i32_644
  let v1128 : BitVec 32 := Scalar.addi c0_i32_645 v1127
  let c1_i32_646 : BitVec 32 := 1#32
  let v1129 : BitVec 32 := Scalar.addi v1128 c1_i32_646
  let c8_i32_647 : BitVec 32 := 8#32
  let v1130 : BitVec 32 := Scalar.muli v1129 c8_i32_647
  v1130
def k0_mult99 (k0_t8 : Fin k0_t8_loop.trips) : BitVec 32 :=
  let c0_i32_651 : BitVec 32 := 0#32
  let c0_i32_428 : BitVec 32 := 0#32
  let c1_i32_430 : BitVec 32 := 1#32
  let arg18 : BitVec 32 := Scf.iv c0_i32_428 c1_i32_430 k0_t8
  let c8_i32_650 : BitVec 32 := 8#32
  let v1144 : BitVec 32 := Scalar.muli arg18 c8_i32_650
  let v1145 : BitVec 32 := Scalar.addi c0_i32_651 v1144
  let c2_i32 : BitVec 32 := 2#32
  let v1146 : BitVec 32 := Scalar.addi v1145 c2_i32
  let c8_i32_652 : BitVec 32 := 8#32
  let v1147 : BitVec 32 := Scalar.muli v1146 c8_i32_652
  v1147
def k0_mult100 (k0_t8 : Fin k0_t8_loop.trips) : BitVec 32 :=
  let c0_i32_656 : BitVec 32 := 0#32
  let c0_i32_428 : BitVec 32 := 0#32
  let c1_i32_430 : BitVec 32 := 1#32
  let arg18 : BitVec 32 := Scf.iv c0_i32_428 c1_i32_430 k0_t8
  let c8_i32_655 : BitVec 32 := 8#32
  let v1161 : BitVec 32 := Scalar.muli arg18 c8_i32_655
  let v1162 : BitVec 32 := Scalar.addi c0_i32_656 v1161
  let c3_i32 : BitVec 32 := 3#32
  let v1163 : BitVec 32 := Scalar.addi v1162 c3_i32
  let c8_i32_657 : BitVec 32 := 8#32
  let v1164 : BitVec 32 := Scalar.muli v1163 c8_i32_657
  v1164
def k0_mult101 (k0_t8 : Fin k0_t8_loop.trips) : BitVec 32 :=
  let c0_i32_661 : BitVec 32 := 0#32
  let c0_i32_428 : BitVec 32 := 0#32
  let c1_i32_430 : BitVec 32 := 1#32
  let arg18 : BitVec 32 := Scf.iv c0_i32_428 c1_i32_430 k0_t8
  let c8_i32_660 : BitVec 32 := 8#32
  let v1178 : BitVec 32 := Scalar.muli arg18 c8_i32_660
  let v1179 : BitVec 32 := Scalar.addi c0_i32_661 v1178
  let c4_i32 : BitVec 32 := 4#32
  let v1180 : BitVec 32 := Scalar.addi v1179 c4_i32
  let c8_i32_662 : BitVec 32 := 8#32
  let v1181 : BitVec 32 := Scalar.muli v1180 c8_i32_662
  v1181
def k0_mult102 (k0_t8 : Fin k0_t8_loop.trips) : BitVec 32 :=
  let c0_i32_666 : BitVec 32 := 0#32
  let c0_i32_428 : BitVec 32 := 0#32
  let c1_i32_430 : BitVec 32 := 1#32
  let arg18 : BitVec 32 := Scf.iv c0_i32_428 c1_i32_430 k0_t8
  let c8_i32_665 : BitVec 32 := 8#32
  let v1195 : BitVec 32 := Scalar.muli arg18 c8_i32_665
  let v1196 : BitVec 32 := Scalar.addi c0_i32_666 v1195
  let c5_i32 : BitVec 32 := 5#32
  let v1197 : BitVec 32 := Scalar.addi v1196 c5_i32
  let c8_i32_667 : BitVec 32 := 8#32
  let v1198 : BitVec 32 := Scalar.muli v1197 c8_i32_667
  v1198
def k0_mult103 (k0_t8 : Fin k0_t8_loop.trips) : BitVec 32 :=
  let c0_i32_671 : BitVec 32 := 0#32
  let c0_i32_428 : BitVec 32 := 0#32
  let c1_i32_430 : BitVec 32 := 1#32
  let arg18 : BitVec 32 := Scf.iv c0_i32_428 c1_i32_430 k0_t8
  let c8_i32_670 : BitVec 32 := 8#32
  let v1212 : BitVec 32 := Scalar.muli arg18 c8_i32_670
  let v1213 : BitVec 32 := Scalar.addi c0_i32_671 v1212
  let c6_i32 : BitVec 32 := 6#32
  let v1214 : BitVec 32 := Scalar.addi v1213 c6_i32
  let c8_i32_672 : BitVec 32 := 8#32
  let v1215 : BitVec 32 := Scalar.muli v1214 c8_i32_672
  v1215
def k0_mult104 (k0_t8 : Fin k0_t8_loop.trips) : BitVec 32 :=
  let c0_i32_676 : BitVec 32 := 0#32
  let c0_i32_428 : BitVec 32 := 0#32
  let c1_i32_430 : BitVec 32 := 1#32
  let arg18 : BitVec 32 := Scf.iv c0_i32_428 c1_i32_430 k0_t8
  let c8_i32_675 : BitVec 32 := 8#32
  let v1229 : BitVec 32 := Scalar.muli arg18 c8_i32_675
  let v1230 : BitVec 32 := Scalar.addi c0_i32_676 v1229
  let c7_i32_677 : BitVec 32 := 7#32
  let v1231 : BitVec 32 := Scalar.addi v1230 c7_i32_677
  let c8_i32_678 : BitVec 32 := 8#32
  let v1232 : BitVec 32 := Scalar.muli v1231 c8_i32_678
  v1232
@[reducible] def k0_t9_loop : Scf.Loop 32 :=
  let c0_i32_474 : BitVec 32 := 0#32
  let c32_i32_475 : BitVec 32 := 32#32
  let v923 : BitVec 32 := Scalar.addi c0_i32_474 c32_i32_475
  let c1_i32_476 : BitVec 32 := 1#32
  ⟨c0_i32_474, v923, c1_i32_476⟩
def k0_mult105 (k0_t9 : Fin k0_t9_loop.trips) : BitVec 32 :=
  let c0_i32_639 : BitVec 32 := 0#32
  let c0_i32_474 : BitVec 32 := 0#32
  let c1_i32_476 : BitVec 32 := 1#32
  let arg18 : BitVec 32 := Scf.iv c0_i32_474 c1_i32_476 k0_t9
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let c8_i32_641 : BitVec 32 := 8#32
  let v1113 : BitVec 32 := Scalar.muli v1112 c8_i32_641
  v1113
def k0_off10 (k0_t9 : Fin k0_t9_loop.trips) (c0_i32_640 : BitVec 32) : Fin 2 → Nat :=
  let c0_i32_639 : BitVec 32 := 0#32
  let c0_i32_474 : BitVec 32 := 0#32
  let c1_i32_476 : BitVec 32 := 1#32
  let arg18 : BitVec 32 := Scf.iv c0_i32_474 c1_i32_476 k0_t9
  let c8_i32 : BitVec 32 := 8#32
  let v1110 : BitVec 32 := Scalar.muli arg18 c8_i32
  let v1111 : BitVec 32 := Scalar.addi c0_i32_639 v1110
  let v1112 : BitVec 32 := Scalar.addi v1111 c0_i32_640
  let c8_i32_641 : BitVec 32 := 8#32
  let v1113 : BitVec 32 := Scalar.muli v1112 c8_i32_641
  let v1114 : BitVec 32 := v1113
  let v1118 : Index := Scalar.indexCast v1114
  let c0_642 : Index := 0#32
  ![v1118.toNat, 0]
def k0_mult106 (k0_t9 : Fin k0_t9_loop.trips) : BitVec 32 :=
  let c0_i32_639 : BitVec 32 := 0#32
  let c0_i32_474 : BitVec 32 := 0#32
  let c1_i32_476 : BitVec 32 := 1#32
  let arg18 : BitVec 32 := Scf.iv c0_i32_474 c1_i32_476 k0_t9
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let c8_i32_644 : BitVec 32 := 8#32
  let v1127 : BitVec 32 := Scalar.muli v1112 c8_i32_644
  v1127
def k0_mult107 (k0_t9 : Fin k0_t9_loop.trips) : BitVec 32 :=
  let c0_i32_648 : BitVec 32 := 0#32
  let c0_i32_474 : BitVec 32 := 0#32
  let c1_i32_476 : BitVec 32 := 1#32
  let arg18 : BitVec 32 := Scf.iv c0_i32_474 c1_i32_476 k0_t9
  let c8_i32_647 : BitVec 32 := 8#32
  let v1137 : BitVec 32 := Scalar.muli arg18 c8_i32_647
  let v1138 : BitVec 32 := Scalar.addi c0_i32_648 v1137
  let c1_i32_649 : BitVec 32 := 1#32
  let v1139 : BitVec 32 := Scalar.addi v1138 c1_i32_649
  let c8_i32_650 : BitVec 32 := 8#32
  let v1140 : BitVec 32 := Scalar.muli v1139 c8_i32_650
  v1140
def k0_mult108 (k0_t9 : Fin k0_t9_loop.trips) : BitVec 32 :=
  let c0_i32_648 : BitVec 32 := 0#32
  let c0_i32_474 : BitVec 32 := 0#32
  let c1_i32_476 : BitVec 32 := 1#32
  let arg18 : BitVec 32 := Scf.iv c0_i32_474 c1_i32_476 k0_t9
  let c8_i32_647 : BitVec 32 := 8#32
  let v1137 : BitVec 32 := Scalar.muli arg18 c8_i32_647
  let v1138 : BitVec 32 := Scalar.addi c0_i32_648 v1137
  let c1_i32_649 : BitVec 32 := 1#32
  let v1139 : BitVec 32 := Scalar.addi v1138 c1_i32_649
  let c8_i32_653 : BitVec 32 := 8#32
  let v1154 : BitVec 32 := Scalar.muli v1139 c8_i32_653
  v1154
def k0_mult109 (k0_t9 : Fin k0_t9_loop.trips) : BitVec 32 :=
  let c0_i32_657 : BitVec 32 := 0#32
  let c0_i32_474 : BitVec 32 := 0#32
  let c1_i32_476 : BitVec 32 := 1#32
  let arg18 : BitVec 32 := Scf.iv c0_i32_474 c1_i32_476 k0_t9
  let c8_i32_656 : BitVec 32 := 8#32
  let v1164 : BitVec 32 := Scalar.muli arg18 c8_i32_656
  let v1165 : BitVec 32 := Scalar.addi c0_i32_657 v1164
  let c2_i32 : BitVec 32 := 2#32
  let v1166 : BitVec 32 := Scalar.addi v1165 c2_i32
  let c8_i32_658 : BitVec 32 := 8#32
  let v1167 : BitVec 32 := Scalar.muli v1166 c8_i32_658
  v1167
def k0_mult110 (k0_t9 : Fin k0_t9_loop.trips) : BitVec 32 :=
  let c0_i32_657 : BitVec 32 := 0#32
  let c0_i32_474 : BitVec 32 := 0#32
  let c1_i32_476 : BitVec 32 := 1#32
  let arg18 : BitVec 32 := Scf.iv c0_i32_474 c1_i32_476 k0_t9
  let c8_i32_656 : BitVec 32 := 8#32
  let v1164 : BitVec 32 := Scalar.muli arg18 c8_i32_656
  let v1165 : BitVec 32 := Scalar.addi c0_i32_657 v1164
  let c2_i32 : BitVec 32 := 2#32
  let v1166 : BitVec 32 := Scalar.addi v1165 c2_i32
  let c8_i32_661 : BitVec 32 := 8#32
  let v1181 : BitVec 32 := Scalar.muli v1166 c8_i32_661
  v1181
def k0_mult111 (k0_t9 : Fin k0_t9_loop.trips) : BitVec 32 :=
  let c0_i32_665 : BitVec 32 := 0#32
  let c0_i32_474 : BitVec 32 := 0#32
  let c1_i32_476 : BitVec 32 := 1#32
  let arg18 : BitVec 32 := Scf.iv c0_i32_474 c1_i32_476 k0_t9
  let c8_i32_664 : BitVec 32 := 8#32
  let v1191 : BitVec 32 := Scalar.muli arg18 c8_i32_664
  let v1192 : BitVec 32 := Scalar.addi c0_i32_665 v1191
  let c3_i32 : BitVec 32 := 3#32
  let v1193 : BitVec 32 := Scalar.addi v1192 c3_i32
  let c8_i32_666 : BitVec 32 := 8#32
  let v1194 : BitVec 32 := Scalar.muli v1193 c8_i32_666
  v1194
def k0_mult112 (k0_t9 : Fin k0_t9_loop.trips) : BitVec 32 :=
  let c0_i32_665 : BitVec 32 := 0#32
  let c0_i32_474 : BitVec 32 := 0#32
  let c1_i32_476 : BitVec 32 := 1#32
  let arg18 : BitVec 32 := Scf.iv c0_i32_474 c1_i32_476 k0_t9
  let c8_i32_664 : BitVec 32 := 8#32
  let v1191 : BitVec 32 := Scalar.muli arg18 c8_i32_664
  let v1192 : BitVec 32 := Scalar.addi c0_i32_665 v1191
  let c3_i32 : BitVec 32 := 3#32
  let v1193 : BitVec 32 := Scalar.addi v1192 c3_i32
  let c8_i32_669 : BitVec 32 := 8#32
  let v1208 : BitVec 32 := Scalar.muli v1193 c8_i32_669
  v1208
def k0_mult113 (k0_t9 : Fin k0_t9_loop.trips) : BitVec 32 :=
  let c0_i32_673 : BitVec 32 := 0#32
  let c0_i32_474 : BitVec 32 := 0#32
  let c1_i32_476 : BitVec 32 := 1#32
  let arg18 : BitVec 32 := Scf.iv c0_i32_474 c1_i32_476 k0_t9
  let c8_i32_672 : BitVec 32 := 8#32
  let v1218 : BitVec 32 := Scalar.muli arg18 c8_i32_672
  let v1219 : BitVec 32 := Scalar.addi c0_i32_673 v1218
  let c4_i32 : BitVec 32 := 4#32
  let v1220 : BitVec 32 := Scalar.addi v1219 c4_i32
  let c8_i32_674 : BitVec 32 := 8#32
  let v1221 : BitVec 32 := Scalar.muli v1220 c8_i32_674
  v1221
def k0_mult114 (k0_t9 : Fin k0_t9_loop.trips) : BitVec 32 :=
  let c0_i32_673 : BitVec 32 := 0#32
  let c0_i32_474 : BitVec 32 := 0#32
  let c1_i32_476 : BitVec 32 := 1#32
  let arg18 : BitVec 32 := Scf.iv c0_i32_474 c1_i32_476 k0_t9
  let c8_i32_672 : BitVec 32 := 8#32
  let v1218 : BitVec 32 := Scalar.muli arg18 c8_i32_672
  let v1219 : BitVec 32 := Scalar.addi c0_i32_673 v1218
  let c4_i32 : BitVec 32 := 4#32
  let v1220 : BitVec 32 := Scalar.addi v1219 c4_i32
  let c8_i32_677 : BitVec 32 := 8#32
  let v1235 : BitVec 32 := Scalar.muli v1220 c8_i32_677
  v1235
def k0_mult115 (k0_t9 : Fin k0_t9_loop.trips) : BitVec 32 :=
  let c0_i32_681 : BitVec 32 := 0#32
  let c0_i32_474 : BitVec 32 := 0#32
  let c1_i32_476 : BitVec 32 := 1#32
  let arg18 : BitVec 32 := Scf.iv c0_i32_474 c1_i32_476 k0_t9
  let c8_i32_680 : BitVec 32 := 8#32
  let v1245 : BitVec 32 := Scalar.muli arg18 c8_i32_680
  let v1246 : BitVec 32 := Scalar.addi c0_i32_681 v1245
  let c5_i32 : BitVec 32 := 5#32
  let v1247 : BitVec 32 := Scalar.addi v1246 c5_i32
  let c8_i32_682 : BitVec 32 := 8#32
  let v1248 : BitVec 32 := Scalar.muli v1247 c8_i32_682
  v1248
def k0_mult116 (k0_t9 : Fin k0_t9_loop.trips) : BitVec 32 :=
  let c0_i32_681 : BitVec 32 := 0#32
  let c0_i32_474 : BitVec 32 := 0#32
  let c1_i32_476 : BitVec 32 := 1#32
  let arg18 : BitVec 32 := Scf.iv c0_i32_474 c1_i32_476 k0_t9
  let c8_i32_680 : BitVec 32 := 8#32
  let v1245 : BitVec 32 := Scalar.muli arg18 c8_i32_680
  let v1246 : BitVec 32 := Scalar.addi c0_i32_681 v1245
  let c5_i32 : BitVec 32 := 5#32
  let v1247 : BitVec 32 := Scalar.addi v1246 c5_i32
  let c8_i32_685 : BitVec 32 := 8#32
  let v1262 : BitVec 32 := Scalar.muli v1247 c8_i32_685
  v1262
def k0_mult117 (k0_t9 : Fin k0_t9_loop.trips) : BitVec 32 :=
  let c0_i32_689 : BitVec 32 := 0#32
  let c0_i32_474 : BitVec 32 := 0#32
  let c1_i32_476 : BitVec 32 := 1#32
  let arg18 : BitVec 32 := Scf.iv c0_i32_474 c1_i32_476 k0_t9
  let c8_i32_688 : BitVec 32 := 8#32
  let v1272 : BitVec 32 := Scalar.muli arg18 c8_i32_688
  let v1273 : BitVec 32 := Scalar.addi c0_i32_689 v1272
  let c6_i32 : BitVec 32 := 6#32
  let v1274 : BitVec 32 := Scalar.addi v1273 c6_i32
  let c8_i32_690 : BitVec 32 := 8#32
  let v1275 : BitVec 32 := Scalar.muli v1274 c8_i32_690
  v1275
def k0_mult118 (k0_t9 : Fin k0_t9_loop.trips) : BitVec 32 :=
  let c0_i32_689 : BitVec 32 := 0#32
  let c0_i32_474 : BitVec 32 := 0#32
  let c1_i32_476 : BitVec 32 := 1#32
  let arg18 : BitVec 32 := Scf.iv c0_i32_474 c1_i32_476 k0_t9
  let c8_i32_688 : BitVec 32 := 8#32
  let v1272 : BitVec 32 := Scalar.muli arg18 c8_i32_688
  let v1273 : BitVec 32 := Scalar.addi c0_i32_689 v1272
  let c6_i32 : BitVec 32 := 6#32
  let v1274 : BitVec 32 := Scalar.addi v1273 c6_i32
  let c8_i32_693 : BitVec 32 := 8#32
  let v1289 : BitVec 32 := Scalar.muli v1274 c8_i32_693
  v1289
def k0_mult119 (k0_t9 : Fin k0_t9_loop.trips) : BitVec 32 :=
  let c0_i32_697 : BitVec 32 := 0#32
  let c0_i32_474 : BitVec 32 := 0#32
  let c1_i32_476 : BitVec 32 := 1#32
  let arg18 : BitVec 32 := Scf.iv c0_i32_474 c1_i32_476 k0_t9
  let c8_i32_696 : BitVec 32 := 8#32
  let v1299 : BitVec 32 := Scalar.muli arg18 c8_i32_696
  let v1300 : BitVec 32 := Scalar.addi c0_i32_697 v1299
  let c7_i32_698 : BitVec 32 := 7#32
  let v1301 : BitVec 32 := Scalar.addi v1300 c7_i32_698
  let c8_i32_699 : BitVec 32 := 8#32
  let v1302 : BitVec 32 := Scalar.muli v1301 c8_i32_699
  v1302
def k0_mult120 (k0_t9 : Fin k0_t9_loop.trips) : BitVec 32 :=
  let c0_i32_697 : BitVec 32 := 0#32
  let c0_i32_474 : BitVec 32 := 0#32
  let c1_i32_476 : BitVec 32 := 1#32
  let arg18 : BitVec 32 := Scf.iv c0_i32_474 c1_i32_476 k0_t9
  let c8_i32_696 : BitVec 32 := 8#32
  let v1299 : BitVec 32 := Scalar.muli arg18 c8_i32_696
  let v1300 : BitVec 32 := Scalar.addi c0_i32_697 v1299
  let c7_i32_698 : BitVec 32 := 7#32
  let v1301 : BitVec 32 := Scalar.addi v1300 c7_i32_698
  let c8_i32_702 : BitVec 32 := 8#32
  let v1316 : BitVec 32 := Scalar.muli v1301 c8_i32_702
  v1316
@[reducible] def k0_t10_loop : Scf.Loop 32 :=
  let c0_i32_479 : BitVec 32 := 0#32
  let c31_i32_480 : BitVec 32 := 31#32
  let v926 : BitVec 32 := Scalar.addi c0_i32_479 c31_i32_480
  let c1_i32_481 : BitVec 32 := 1#32
  ⟨c0_i32_479, v926, c1_i32_481⟩
def k0_mult121 (k0_t10 : Fin k0_t10_loop.trips) : BitVec 32 :=
  let c0_i32_639 : BitVec 32 := 0#32
  let c0_i32_479 : BitVec 32 := 0#32
  let c1_i32_481 : BitVec 32 := 1#32
  let arg18 : BitVec 32 := Scf.iv c0_i32_479 c1_i32_481 k0_t10
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let c1_i32_641 : BitVec 32 := 1#32
  let v1113 : BitVec 32 := Scalar.addi v1112 c1_i32_641
  let c8_i32_642 : BitVec 32 := 8#32
  let v1114 : BitVec 32 := Scalar.muli v1113 c8_i32_642
  v1114
def k0_off11 (k0_t10 : Fin k0_t10_loop.trips) (c0_i32_640 : BitVec 32) : Fin 2 → Nat :=
  let c0_i32_639 : BitVec 32 := 0#32
  let c0_i32_479 : BitVec 32 := 0#32
  let c1_i32_481 : BitVec 32 := 1#32
  let arg18 : BitVec 32 := Scf.iv c0_i32_479 c1_i32_481 k0_t10
  let c8_i32 : BitVec 32 := 8#32
  let v1110 : BitVec 32 := Scalar.muli arg18 c8_i32
  let v1111 : BitVec 32 := Scalar.addi c0_i32_639 v1110
  let v1112 : BitVec 32 := Scalar.addi v1111 c0_i32_640
  let c1_i32_641 : BitVec 32 := 1#32
  let v1113 : BitVec 32 := Scalar.addi v1112 c1_i32_641
  let c8_i32_642 : BitVec 32 := 8#32
  let v1114 : BitVec 32 := Scalar.muli v1113 c8_i32_642
  let v1115 : BitVec 32 := v1114
  let v1116 : Index := Scalar.indexCast v1115
  let c0_643 : Index := 0#32
  ![v1116.toNat, 0]
def k0_mult122 (k0_t10 : Fin k0_t10_loop.trips) : BitVec 32 :=
  let c0_i32_639 : BitVec 32 := 0#32
  let c0_i32_479 : BitVec 32 := 0#32
  let c1_i32_481 : BitVec 32 := 1#32
  let arg18 : BitVec 32 := Scf.iv c0_i32_479 c1_i32_481 k0_t10
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let c8_i32_645 : BitVec 32 := 8#32
  let v1120 : BitVec 32 := Scalar.muli v1112 c8_i32_645
  v1120
def k0_off12 (k0_t10 : Fin k0_t10_loop.trips) (c0_i32_640 : BitVec 32) : Fin 2 → Nat :=
  let c0_i32_639 : BitVec 32 := 0#32
  let c0_i32_479 : BitVec 32 := 0#32
  let c1_i32_481 : BitVec 32 := 1#32
  let arg18 : BitVec 32 := Scf.iv c0_i32_479 c1_i32_481 k0_t10
  let c8_i32 : BitVec 32 := 8#32
  let v1110 : BitVec 32 := Scalar.muli arg18 c8_i32
  let v1111 : BitVec 32 := Scalar.addi c0_i32_639 v1110
  let v1112 : BitVec 32 := Scalar.addi v1111 c0_i32_640
  let c8_i32_645 : BitVec 32 := 8#32
  let v1120 : BitVec 32 := Scalar.muli v1112 c8_i32_645
  let v1121 : BitVec 32 := v1120
  let v1122 : Index := Scalar.indexCast v1121
  let c0_646 : Index := 0#32
  ![v1122.toNat, 0]
def k0_mult123 (k0_t10 : Fin k0_t10_loop.trips) : BitVec 32 :=
  let c0_i32_639 : BitVec 32 := 0#32
  let c0_i32_479 : BitVec 32 := 0#32
  let c1_i32_481 : BitVec 32 := 1#32
  let arg18 : BitVec 32 := Scf.iv c0_i32_479 c1_i32_481 k0_t10
  let c8_i32 : BitVec 32 := 8#32
  let v1110 : BitVec 32 := Scalar.muli arg18 c8_i32
  let v1111 : BitVec 32 := Scalar.addi c0_i32_639 v1110
  let c0_i32_640 : BitVec 32 := 0#32
  let v1112 : BitVec 32 := Scalar.addi v1111 c0_i32_640
  let c8_i32_647 : BitVec 32 := 8#32
  let v1124 : BitVec 32 := Scalar.muli v1112 c8_i32_647
  v1124
def k0_mult124 (k0_t10 : Fin k0_t10_loop.trips) : BitVec 32 :=
  let c0_i32_650 : BitVec 32 := 0#32
  let c0_i32_479 : BitVec 32 := 0#32
  let c1_i32_481 : BitVec 32 := 1#32
  let arg18 : BitVec 32 := Scf.iv c0_i32_479 c1_i32_481 k0_t10
  let c8_i32_649 : BitVec 32 := 8#32
  let v1136 : BitVec 32 := Scalar.muli arg18 c8_i32_649
  let v1137 : BitVec 32 := Scalar.addi c0_i32_650 v1136
  let c1_i32_651 : BitVec 32 := 1#32
  let v1138 : BitVec 32 := Scalar.addi v1137 c1_i32_651
  let c1_i32_652 : BitVec 32 := 1#32
  let v1139 : BitVec 32 := Scalar.addi v1138 c1_i32_652
  let c8_i32_653 : BitVec 32 := 8#32
  let v1140 : BitVec 32 := Scalar.muli v1139 c8_i32_653
  v1140
def k0_mult125 (k0_t10 : Fin k0_t10_loop.trips) : BitVec 32 :=
  let c0_i32_650 : BitVec 32 := 0#32
  let c0_i32_479 : BitVec 32 := 0#32
  let c1_i32_481 : BitVec 32 := 1#32
  let arg18 : BitVec 32 := Scf.iv c0_i32_479 c1_i32_481 k0_t10
  let c8_i32_649 : BitVec 32 := 8#32
  let v1136 : BitVec 32 := Scalar.muli arg18 c8_i32_649
  let v1137 : BitVec 32 := Scalar.addi c0_i32_650 v1136
  let c1_i32_651 : BitVec 32 := 1#32
  let v1138 : BitVec 32 := Scalar.addi v1137 c1_i32_651
  let c8_i32_656 : BitVec 32 := 8#32
  let v1146 : BitVec 32 := Scalar.muli v1138 c8_i32_656
  v1146
def k0_mult126 (k0_t10 : Fin k0_t10_loop.trips) : BitVec 32 :=
  let c0_i32_650 : BitVec 32 := 0#32
  let c0_i32_479 : BitVec 32 := 0#32
  let c1_i32_481 : BitVec 32 := 1#32
  let arg18 : BitVec 32 := Scf.iv c0_i32_479 c1_i32_481 k0_t10
  let c8_i32_649 : BitVec 32 := 8#32
  let v1136 : BitVec 32 := Scalar.muli arg18 c8_i32_649
  let v1137 : BitVec 32 := Scalar.addi c0_i32_650 v1136
  let c1_i32_651 : BitVec 32 := 1#32
  let v1138 : BitVec 32 := Scalar.addi v1137 c1_i32_651
  let c8_i32_658 : BitVec 32 := 8#32
  let v1150 : BitVec 32 := Scalar.muli v1138 c8_i32_658
  v1150
def k0_mult127 (k0_t10 : Fin k0_t10_loop.trips) : BitVec 32 :=
  let c0_i32_661 : BitVec 32 := 0#32
  let c0_i32_479 : BitVec 32 := 0#32
  let c1_i32_481 : BitVec 32 := 1#32
  let arg18 : BitVec 32 := Scf.iv c0_i32_479 c1_i32_481 k0_t10
  let c8_i32_660 : BitVec 32 := 8#32
  let v1162 : BitVec 32 := Scalar.muli arg18 c8_i32_660
  let v1163 : BitVec 32 := Scalar.addi c0_i32_661 v1162
  let c2_i32 : BitVec 32 := 2#32
  let v1164 : BitVec 32 := Scalar.addi v1163 c2_i32
  let c1_i32_662 : BitVec 32 := 1#32
  let v1165 : BitVec 32 := Scalar.addi v1164 c1_i32_662
  let c8_i32_663 : BitVec 32 := 8#32
  let v1166 : BitVec 32 := Scalar.muli v1165 c8_i32_663
  v1166
def k0_mult128 (k0_t10 : Fin k0_t10_loop.trips) : BitVec 32 :=
  let c0_i32_661 : BitVec 32 := 0#32
  let c0_i32_479 : BitVec 32 := 0#32
  let c1_i32_481 : BitVec 32 := 1#32
  let arg18 : BitVec 32 := Scf.iv c0_i32_479 c1_i32_481 k0_t10
  let c8_i32_660 : BitVec 32 := 8#32
  let v1162 : BitVec 32 := Scalar.muli arg18 c8_i32_660
  let v1163 : BitVec 32 := Scalar.addi c0_i32_661 v1162
  let c2_i32 : BitVec 32 := 2#32
  let v1164 : BitVec 32 := Scalar.addi v1163 c2_i32
  let c8_i32_666 : BitVec 32 := 8#32
  let v1172 : BitVec 32 := Scalar.muli v1164 c8_i32_666
  v1172
def k0_mult129 (k0_t10 : Fin k0_t10_loop.trips) : BitVec 32 :=
  let c0_i32_661 : BitVec 32 := 0#32
  let c0_i32_479 : BitVec 32 := 0#32
  let c1_i32_481 : BitVec 32 := 1#32
  let arg18 : BitVec 32 := Scf.iv c0_i32_479 c1_i32_481 k0_t10
  let c8_i32_660 : BitVec 32 := 8#32
  let v1162 : BitVec 32 := Scalar.muli arg18 c8_i32_660
  let v1163 : BitVec 32 := Scalar.addi c0_i32_661 v1162
  let c2_i32 : BitVec 32 := 2#32
  let v1164 : BitVec 32 := Scalar.addi v1163 c2_i32
  let c8_i32_668 : BitVec 32 := 8#32
  let v1176 : BitVec 32 := Scalar.muli v1164 c8_i32_668
  v1176
def k0_mult130 (k0_t10 : Fin k0_t10_loop.trips) : BitVec 32 :=
  let c0_i32_671 : BitVec 32 := 0#32
  let c0_i32_479 : BitVec 32 := 0#32
  let c1_i32_481 : BitVec 32 := 1#32
  let arg18 : BitVec 32 := Scf.iv c0_i32_479 c1_i32_481 k0_t10
  let c8_i32_670 : BitVec 32 := 8#32
  let v1188 : BitVec 32 := Scalar.muli arg18 c8_i32_670
  let v1189 : BitVec 32 := Scalar.addi c0_i32_671 v1188
  let c3_i32 : BitVec 32 := 3#32
  let v1190 : BitVec 32 := Scalar.addi v1189 c3_i32
  let c1_i32_672 : BitVec 32 := 1#32
  let v1191 : BitVec 32 := Scalar.addi v1190 c1_i32_672
  let c8_i32_673 : BitVec 32 := 8#32
  let v1192 : BitVec 32 := Scalar.muli v1191 c8_i32_673
  v1192
def k0_mult131 (k0_t10 : Fin k0_t10_loop.trips) : BitVec 32 :=
  let c0_i32_671 : BitVec 32 := 0#32
  let c0_i32_479 : BitVec 32 := 0#32
  let c1_i32_481 : BitVec 32 := 1#32
  let arg18 : BitVec 32 := Scf.iv c0_i32_479 c1_i32_481 k0_t10
  let c8_i32_670 : BitVec 32 := 8#32
  let v1188 : BitVec 32 := Scalar.muli arg18 c8_i32_670
  let v1189 : BitVec 32 := Scalar.addi c0_i32_671 v1188
  let c3_i32 : BitVec 32 := 3#32
  let v1190 : BitVec 32 := Scalar.addi v1189 c3_i32
  let c8_i32_676 : BitVec 32 := 8#32
  let v1198 : BitVec 32 := Scalar.muli v1190 c8_i32_676
  v1198
def k0_mult132 (k0_t10 : Fin k0_t10_loop.trips) : BitVec 32 :=
  let c0_i32_671 : BitVec 32 := 0#32
  let c0_i32_479 : BitVec 32 := 0#32
  let c1_i32_481 : BitVec 32 := 1#32
  let arg18 : BitVec 32 := Scf.iv c0_i32_479 c1_i32_481 k0_t10
  let c8_i32_670 : BitVec 32 := 8#32
  let v1188 : BitVec 32 := Scalar.muli arg18 c8_i32_670
  let v1189 : BitVec 32 := Scalar.addi c0_i32_671 v1188
  let c3_i32 : BitVec 32 := 3#32
  let v1190 : BitVec 32 := Scalar.addi v1189 c3_i32
  let c8_i32_678 : BitVec 32 := 8#32
  let v1202 : BitVec 32 := Scalar.muli v1190 c8_i32_678
  v1202
def k0_mult133 (k0_t10 : Fin k0_t10_loop.trips) : BitVec 32 :=
  let c0_i32_681 : BitVec 32 := 0#32
  let c0_i32_479 : BitVec 32 := 0#32
  let c1_i32_481 : BitVec 32 := 1#32
  let arg18 : BitVec 32 := Scf.iv c0_i32_479 c1_i32_481 k0_t10
  let c8_i32_680 : BitVec 32 := 8#32
  let v1214 : BitVec 32 := Scalar.muli arg18 c8_i32_680
  let v1215 : BitVec 32 := Scalar.addi c0_i32_681 v1214
  let c4_i32 : BitVec 32 := 4#32
  let v1216 : BitVec 32 := Scalar.addi v1215 c4_i32
  let c1_i32_682 : BitVec 32 := 1#32
  let v1217 : BitVec 32 := Scalar.addi v1216 c1_i32_682
  let c8_i32_683 : BitVec 32 := 8#32
  let v1218 : BitVec 32 := Scalar.muli v1217 c8_i32_683
  v1218
def k0_mult134 (k0_t10 : Fin k0_t10_loop.trips) : BitVec 32 :=
  let c0_i32_681 : BitVec 32 := 0#32
  let c0_i32_479 : BitVec 32 := 0#32
  let c1_i32_481 : BitVec 32 := 1#32
  let arg18 : BitVec 32 := Scf.iv c0_i32_479 c1_i32_481 k0_t10
  let c8_i32_680 : BitVec 32 := 8#32
  let v1214 : BitVec 32 := Scalar.muli arg18 c8_i32_680
  let v1215 : BitVec 32 := Scalar.addi c0_i32_681 v1214
  let c4_i32 : BitVec 32 := 4#32
  let v1216 : BitVec 32 := Scalar.addi v1215 c4_i32
  let c8_i32_686 : BitVec 32 := 8#32
  let v1224 : BitVec 32 := Scalar.muli v1216 c8_i32_686
  v1224
def k0_mult135 (k0_t10 : Fin k0_t10_loop.trips) : BitVec 32 :=
  let c0_i32_681 : BitVec 32 := 0#32
  let c0_i32_479 : BitVec 32 := 0#32
  let c1_i32_481 : BitVec 32 := 1#32
  let arg18 : BitVec 32 := Scf.iv c0_i32_479 c1_i32_481 k0_t10
  let c8_i32_680 : BitVec 32 := 8#32
  let v1214 : BitVec 32 := Scalar.muli arg18 c8_i32_680
  let v1215 : BitVec 32 := Scalar.addi c0_i32_681 v1214
  let c4_i32 : BitVec 32 := 4#32
  let v1216 : BitVec 32 := Scalar.addi v1215 c4_i32
  let c8_i32_688 : BitVec 32 := 8#32
  let v1228 : BitVec 32 := Scalar.muli v1216 c8_i32_688
  v1228
def k0_mult136 (k0_t10 : Fin k0_t10_loop.trips) : BitVec 32 :=
  let c0_i32_691 : BitVec 32 := 0#32
  let c0_i32_479 : BitVec 32 := 0#32
  let c1_i32_481 : BitVec 32 := 1#32
  let arg18 : BitVec 32 := Scf.iv c0_i32_479 c1_i32_481 k0_t10
  let c8_i32_690 : BitVec 32 := 8#32
  let v1240 : BitVec 32 := Scalar.muli arg18 c8_i32_690
  let v1241 : BitVec 32 := Scalar.addi c0_i32_691 v1240
  let c5_i32 : BitVec 32 := 5#32
  let v1242 : BitVec 32 := Scalar.addi v1241 c5_i32
  let c1_i32_692 : BitVec 32 := 1#32
  let v1243 : BitVec 32 := Scalar.addi v1242 c1_i32_692
  let c8_i32_693 : BitVec 32 := 8#32
  let v1244 : BitVec 32 := Scalar.muli v1243 c8_i32_693
  v1244
def k0_mult137 (k0_t10 : Fin k0_t10_loop.trips) : BitVec 32 :=
  let c0_i32_691 : BitVec 32 := 0#32
  let c0_i32_479 : BitVec 32 := 0#32
  let c1_i32_481 : BitVec 32 := 1#32
  let arg18 : BitVec 32 := Scf.iv c0_i32_479 c1_i32_481 k0_t10
  let c8_i32_690 : BitVec 32 := 8#32
  let v1240 : BitVec 32 := Scalar.muli arg18 c8_i32_690
  let v1241 : BitVec 32 := Scalar.addi c0_i32_691 v1240
  let c5_i32 : BitVec 32 := 5#32
  let v1242 : BitVec 32 := Scalar.addi v1241 c5_i32
  let c8_i32_696 : BitVec 32 := 8#32
  let v1250 : BitVec 32 := Scalar.muli v1242 c8_i32_696
  v1250
def k0_mult138 (k0_t10 : Fin k0_t10_loop.trips) : BitVec 32 :=
  let c0_i32_691 : BitVec 32 := 0#32
  let c0_i32_479 : BitVec 32 := 0#32
  let c1_i32_481 : BitVec 32 := 1#32
  let arg18 : BitVec 32 := Scf.iv c0_i32_479 c1_i32_481 k0_t10
  let c8_i32_690 : BitVec 32 := 8#32
  let v1240 : BitVec 32 := Scalar.muli arg18 c8_i32_690
  let v1241 : BitVec 32 := Scalar.addi c0_i32_691 v1240
  let c5_i32 : BitVec 32 := 5#32
  let v1242 : BitVec 32 := Scalar.addi v1241 c5_i32
  let c8_i32_698 : BitVec 32 := 8#32
  let v1254 : BitVec 32 := Scalar.muli v1242 c8_i32_698
  v1254
def k0_mult139 (k0_t10 : Fin k0_t10_loop.trips) : BitVec 32 :=
  let c0_i32_701 : BitVec 32 := 0#32
  let c0_i32_479 : BitVec 32 := 0#32
  let c1_i32_481 : BitVec 32 := 1#32
  let arg18 : BitVec 32 := Scf.iv c0_i32_479 c1_i32_481 k0_t10
  let c8_i32_700 : BitVec 32 := 8#32
  let v1266 : BitVec 32 := Scalar.muli arg18 c8_i32_700
  let v1267 : BitVec 32 := Scalar.addi c0_i32_701 v1266
  let c6_i32 : BitVec 32 := 6#32
  let v1268 : BitVec 32 := Scalar.addi v1267 c6_i32
  let c1_i32_702 : BitVec 32 := 1#32
  let v1269 : BitVec 32 := Scalar.addi v1268 c1_i32_702
  let c8_i32_703 : BitVec 32 := 8#32
  let v1270 : BitVec 32 := Scalar.muli v1269 c8_i32_703
  v1270
def k0_mult140 (k0_t10 : Fin k0_t10_loop.trips) : BitVec 32 :=
  let c0_i32_701 : BitVec 32 := 0#32
  let c0_i32_479 : BitVec 32 := 0#32
  let c1_i32_481 : BitVec 32 := 1#32
  let arg18 : BitVec 32 := Scf.iv c0_i32_479 c1_i32_481 k0_t10
  let c8_i32_700 : BitVec 32 := 8#32
  let v1266 : BitVec 32 := Scalar.muli arg18 c8_i32_700
  let v1267 : BitVec 32 := Scalar.addi c0_i32_701 v1266
  let c6_i32 : BitVec 32 := 6#32
  let v1268 : BitVec 32 := Scalar.addi v1267 c6_i32
  let c8_i32_706 : BitVec 32 := 8#32
  let v1276 : BitVec 32 := Scalar.muli v1268 c8_i32_706
  v1276
def k0_mult141 (k0_t10 : Fin k0_t10_loop.trips) : BitVec 32 :=
  let c0_i32_701 : BitVec 32 := 0#32
  let c0_i32_479 : BitVec 32 := 0#32
  let c1_i32_481 : BitVec 32 := 1#32
  let arg18 : BitVec 32 := Scf.iv c0_i32_479 c1_i32_481 k0_t10
  let c8_i32_700 : BitVec 32 := 8#32
  let v1266 : BitVec 32 := Scalar.muli arg18 c8_i32_700
  let v1267 : BitVec 32 := Scalar.addi c0_i32_701 v1266
  let c6_i32 : BitVec 32 := 6#32
  let v1268 : BitVec 32 := Scalar.addi v1267 c6_i32
  let c8_i32_708 : BitVec 32 := 8#32
  let v1280 : BitVec 32 := Scalar.muli v1268 c8_i32_708
  v1280
def k0_mult142 (k0_t10 : Fin k0_t10_loop.trips) : BitVec 32 :=
  let c0_i32_711 : BitVec 32 := 0#32
  let c0_i32_479 : BitVec 32 := 0#32
  let c1_i32_481 : BitVec 32 := 1#32
  let arg18 : BitVec 32 := Scf.iv c0_i32_479 c1_i32_481 k0_t10
  let c8_i32_710 : BitVec 32 := 8#32
  let v1292 : BitVec 32 := Scalar.muli arg18 c8_i32_710
  let v1293 : BitVec 32 := Scalar.addi c0_i32_711 v1292
  let c7_i32_712 : BitVec 32 := 7#32
  let v1294 : BitVec 32 := Scalar.addi v1293 c7_i32_712
  let c1_i32_713 : BitVec 32 := 1#32
  let v1295 : BitVec 32 := Scalar.addi v1294 c1_i32_713
  let c8_i32_714 : BitVec 32 := 8#32
  let v1296 : BitVec 32 := Scalar.muli v1295 c8_i32_714
  v1296
def k0_mult143 (k0_t10 : Fin k0_t10_loop.trips) : BitVec 32 :=
  let c0_i32_711 : BitVec 32 := 0#32
  let c0_i32_479 : BitVec 32 := 0#32
  let c1_i32_481 : BitVec 32 := 1#32
  let arg18 : BitVec 32 := Scf.iv c0_i32_479 c1_i32_481 k0_t10
  let c8_i32_710 : BitVec 32 := 8#32
  let v1292 : BitVec 32 := Scalar.muli arg18 c8_i32_710
  let v1293 : BitVec 32 := Scalar.addi c0_i32_711 v1292
  let c7_i32_712 : BitVec 32 := 7#32
  let v1294 : BitVec 32 := Scalar.addi v1293 c7_i32_712
  let c8_i32_717 : BitVec 32 := 8#32
  let v1302 : BitVec 32 := Scalar.muli v1294 c8_i32_717
  v1302
def k0_mult144 (k0_t10 : Fin k0_t10_loop.trips) : BitVec 32 :=
  let c0_i32_711 : BitVec 32 := 0#32
  let c0_i32_479 : BitVec 32 := 0#32
  let c1_i32_481 : BitVec 32 := 1#32
  let arg18 : BitVec 32 := Scf.iv c0_i32_479 c1_i32_481 k0_t10
  let c8_i32_710 : BitVec 32 := 8#32
  let v1292 : BitVec 32 := Scalar.muli arg18 c8_i32_710
  let v1293 : BitVec 32 := Scalar.addi c0_i32_711 v1292
  let c7_i32_712 : BitVec 32 := 7#32
  let v1294 : BitVec 32 := Scalar.addi v1293 c7_i32_712
  let c8_i32_719 : BitVec 32 := 8#32
  let v1306 : BitVec 32 := Scalar.muli v1294 c8_i32_719
  v1306
def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RedIn.lean ====
abbrev S2 : Shape := ⟨1, ![2]⟩
abbrev S2048x12288 : Shape := ⟨2, ![2048, 12288]⟩
abbrev S4x1024x3072 : Shape := ⟨3, ![4, 1024, 3072]⟩
abbrev S2x2048x3072 : Shape := ⟨3, ![2, 2048, 3072]⟩
abbrev S256x3072 : Shape := ⟨2, ![256, 3072]⟩
abbrev S1 : Shape := ⟨1, ![1]⟩
abbrev S1x256x3072 : Shape := ⟨3, ![1, 256, 3072]⟩

abbrev nBuf : Space → Nat
  | .hbm => 5
  | .vmem => 12
  | .smem => 1
  | _ => 0

abbrev bufTy : (tb : Table) → Fin (tcTables nBuf tb) → BufTy
  | .hbm, ⟨0, _⟩ => ⟨S2048x12288, .f32⟩
  | .hbm, ⟨1, _⟩ => ⟨S2048x12288, .bf16⟩
  | .hbm, ⟨2, _⟩ => ⟨S4x1024x3072, .bf16⟩
  | .hbm, ⟨3, _⟩ => ⟨S2x2048x3072, .f32⟩
  | .hbm, ⟨4, _⟩ => ⟨S2x2048x3072, .f32⟩
  | .local _ .vmem, ⟨0, _⟩ => ⟨S256x3072, .f32⟩
  | .local _ .vmem, ⟨1, _⟩ => ⟨S256x3072, .f32⟩
  | .local _ .vmem, ⟨2, _⟩ => ⟨S256x3072, .bf16⟩
  | .local _ .vmem, ⟨3, _⟩ => ⟨S256x3072, .bf16⟩
  | .local _ .vmem, ⟨4, _⟩ => ⟨S1x256x3072, .bf16⟩
  | .local _ .vmem, ⟨5, _⟩ => ⟨S1x256x3072, .bf16⟩
  | .local _ .vmem, ⟨6, _⟩ => ⟨S1x256x3072, .bf16⟩
  | .local _ .vmem, ⟨7, _⟩ => ⟨S1x256x3072, .bf16⟩
  | .local _ .vmem, ⟨8, _⟩ => ⟨S1x256x3072, .bf16⟩
  | .local _ .vmem, ⟨9, _⟩ => ⟨S1x256x3072, .bf16⟩
  | .local _ .vmem, ⟨10, _⟩ => ⟨S1x256x3072, .f32⟩
  | .local _ .vmem, ⟨11, _⟩ => ⟨S1x256x3072, .f32⟩
  | .local _ .smem, ⟨0, _⟩ => ⟨S2, .i32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let v2 : BitVec 32 := Scalar.muli v0 c0_i32
  let c4_i32 : BitVec 32 := 4#32
  let v3 : BitVec 32 := Scalar.muli v1 c4_i32
  let v4 : BitVec 32 := Scalar.addi v2 v3
  let v5 : BitVec 32 := Scalar.addi v4 arg0
  let c1_i32 : BitVec 32 := 1#32
  let v6 : BitVec 32 := Scalar.muli v0 c1_i32
  let c0_i32_0 : BitVec 32 := 0#32
  let v7 : BitVec 32 := Scalar.addi c0_i32_0 v6
  let c0_i32_1 : BitVec 32 := 0#32
  ![v5.toNat, v7.toNat]

def cc0_transform_1 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let v2 : BitVec 32 := Scalar.muli v0 c0_i32
  let c4_i32 : BitVec 32 := 4#32
  let v3 : BitVec 32 := Scalar.muli v1 c4_i32
  let v4 : BitVec 32 := Scalar.addi v2 v3
  let v5 : BitVec 32 := Scalar.addi v4 arg0
  let c1_i32 : BitVec 32 := 1#32
  let v6 : BitVec 32 := Scalar.muli v0 c1_i32
  let c0_i32_0 : BitVec 32 := 0#32
  let v7 : BitVec 32 := Scalar.addi c0_i32_0 v6
  let c0_i32_1 : BitVec 32 := 0#32
  ![v5.toNat, v7.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let c4_i32 : BitVec 32 := 4#32
  let c0_i32 : BitVec 32 := 0#32
  let v2 : BitVec 1 := Scalar.cmpi .eq c4_i32 c0_i32
  let c1_i32_0 : BitVec 32 := 1#32
  let v3 : BitVec 32 := Scalar.select v2 c1_i32_0 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, arg0.toNat, c0_i32_4.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.addi v0 c2_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_4 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c3_i32 : BitVec 32 := 3#32
  let v1 : BitVec 32 := Scalar.addi v0 c3_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_6 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RedInRefIdeal.lean ====
abbrev S2 : Shape := ⟨1, ![2]⟩
abbrev S2048x12288 : Shape := ⟨2, ![2048, 12288]⟩
abbrev S4x1024x3072 : Shape := ⟨3, ![4, 1024, 3072]⟩
abbrev S2x2048x3072 : Shape := ⟨3, ![2, 2048, 3072]⟩
abbrev S1 : Shape := ⟨1, ![1]⟩
abbrev S_ : Shape := ⟨0, ![]⟩
abbrev S1024x12288 : Shape := ⟨2, ![1024, 12288]⟩
abbrev S1024x3072 : Shape := ⟨2, ![1024, 3072]⟩
abbrev S1x1024x3072 : Shape := ⟨3, ![1, 1024, 3072]⟩
abbrev S2048x3072 : Shape := ⟨2, ![2048, 3072]⟩
abbrev S1x2048x3072 : Shape := ⟨3, ![1, 2048, 3072]⟩

abbrev nBuf : Space → Nat
  | .hbm => 73
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x12288, .f32⟩
  | .hbm, ⟨2, _⟩ => ⟨S2048x12288, .bf16⟩
  | .hbm, ⟨3, _⟩ => ⟨S4x1024x3072, .bf16⟩
  | .hbm, ⟨4, _⟩ => ⟨S2x2048x3072, .f32⟩
  | .hbm, ⟨5, _⟩ => ⟨S2048x12288, .f32⟩
  | .hbm, ⟨6, _⟩ => ⟨S2048x12288, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S1024x12288, .f32⟩
  | .hbm, ⟨12, _⟩ => ⟨S1024x12288, .f32⟩
  | .hbm, ⟨13, _⟩ => ⟨S1024x12288, .f32⟩
  | .hbm, ⟨14, _⟩ => ⟨S1024x3072, .f32⟩
  | .hbm, ⟨15, _⟩ => ⟨S1024x3072, .f32⟩
  | .hbm, ⟨16, _⟩ => ⟨S1024x3072, .f32⟩
  | .hbm, ⟨17, _⟩ => ⟨S1024x3072, .f32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1x1024x3072, .bf16⟩
  | .hbm, ⟨23, _⟩ => ⟨S1024x3072, .bf16⟩
  | .hbm, ⟨24, _⟩ => ⟨S1024x3072, .f32⟩
  | .hbm, ⟨25, _⟩ => ⟨S1024x3072, .f32⟩
  | .hbm, ⟨26, _⟩ => ⟨S1, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S1x1024x3072, .bf16⟩
  | .hbm, ⟨31, _⟩ => ⟨S1024x3072, .bf16⟩
  | .hbm, ⟨32, _⟩ => ⟨S1024x3072, .f32⟩
  | .hbm, ⟨33, _⟩ => ⟨S1024x3072, .f32⟩
  | .hbm, ⟨34, _⟩ => ⟨S1, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S1x1024x3072, .bf16⟩
  | .hbm, ⟨39, _⟩ => ⟨S1024x3072, .bf16⟩
  | .hbm, ⟨40, _⟩ => ⟨S1024x3072, .f32⟩
  | .hbm, ⟨41, _⟩ => ⟨S1024x3072, .f32⟩
  | .hbm, ⟨42, _⟩ => ⟨S1, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S1x1024x3072, .bf16⟩
  | .hbm, ⟨47, _⟩ => ⟨S1024x3072, .bf16⟩
  | .hbm, ⟨48, _⟩ => ⟨S1024x3072, .f32⟩
  | .hbm, ⟨49, _⟩ => ⟨S1024x3072, .f32⟩
  | .hbm, ⟨50, _⟩ => ⟨S1024x3072, .f32⟩
  | .hbm, ⟨51, _⟩ => ⟨S1024x3072, .f32⟩
  | .hbm, ⟨52, _⟩ => ⟨S1024x3072, .f32⟩
  | .hbm, ⟨53, _⟩ => ⟨S1, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S1x1024x3072, .f32⟩
  | .hbm, ⟨58, _⟩ => ⟨S1024x3072, .f32⟩
  | .hbm, ⟨59, _⟩ => ⟨S1024x3072, .f32⟩
  | .hbm, ⟨60, _⟩ => ⟨S1, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S1x1024x3072, .f32⟩
  | .hbm, ⟨65, _⟩ => ⟨S1024x3072, .f32⟩
  | .hbm, ⟨66, _⟩ => ⟨S1024x3072, .f32⟩
  | .hbm, ⟨67, _⟩ => ⟨S2048x3072, .f32⟩
  | .hbm, ⟨68, _⟩ => ⟨S1x2048x3072, .f32⟩
  | .hbm, ⟨69, _⟩ => ⟨S2048x3072, .f32⟩
  | .hbm, ⟨70, _⟩ => ⟨S1x2048x3072, .f32⟩
  | .hbm, ⟨71, _⟩ => ⟨S1x2048x3072, .f32⟩
  | .hbm, ⟨72, _⟩ => ⟨S2x2048x3072, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== RedGlu.lean ====
abbrev S2 : Shape := ⟨1, ![2]⟩
abbrev S2048x2048 : Shape := ⟨2, ![2048, 2048]⟩
abbrev S4x256x2048 : Shape := ⟨3, ![4, 256, 2048]⟩
abbrev S2x512x2048 : Shape := ⟨3, ![2, 512, 2048]⟩
abbrev S256x2048 : Shape := ⟨2, ![256, 2048]⟩
abbrev S1 : Shape := ⟨1, ![1]⟩
abbrev S1x256x2048 : Shape := ⟨3, ![1, 256, 2048]⟩

abbrev nBuf : Space → Nat
  | .hbm => 5
  | .vmem => 6
  | .smem => 1
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S4x256x2048, .bf16⟩
  | .hbm, ⟨3, _⟩ => ⟨S2x512x2048, .f32⟩
  | .hbm, ⟨4, _⟩ => ⟨S2x512x2048, .f32⟩
  | .local _ .vmem, ⟨0, _⟩ => ⟨S256x2048, .f32⟩
  | .local _ .vmem, ⟨1, _⟩ => ⟨S256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .f32⟩
  | .local _ .smem, ⟨0, _⟩ => ⟨S2, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c2_i32 : BitVec 32 := 2#32
  let v2 : BitVec 32 := Scalar.muli v0 c2_i32
  let c1_i32 : BitVec 32 := 1#32
  let v3 : BitVec 32 := Scalar.muli v1 c1_i32
  let v4 : BitVec 32 := Scalar.addi v2 v3
  let v5 : BitVec 32 := Scalar.addi v4 arg0
  let c0_i32 : BitVec 32 := 0#32
  let v6 : BitVec 32 := Scalar.muli v0 c0_i32
  let c0_i32_0 : BitVec 32 := 0#32
  let v7 : BitVec 32 := Scalar.addi c0_i32_0 v6
  let c0_i32_1 : BitVec 32 := 0#32
  ![v5.toNat, v7.toNat]

def cc0_transform_1 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c2_i32 : BitVec 32 := 2#32
  let v2 : BitVec 32 := Scalar.muli v0 c2_i32
  let c1_i32 : BitVec 32 := 1#32
  let v3 : BitVec 32 := Scalar.muli v1 c1_i32
  let v4 : BitVec 32 := Scalar.addi v2 v3
  let v5 : BitVec 32 := Scalar.addi v4 arg0
  let c0_i32 : BitVec 32 := 0#32
  let v6 : BitVec 32 := Scalar.muli v0 c0_i32
  let c0_i32_0 : BitVec 32 := 0#32
  let v7 : BitVec 32 := Scalar.addi c0_i32_0 v6
  let c0_i32_1 : BitVec 32 := 0#32
  ![v5.toNat, v7.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let c4_i32 : BitVec 32 := 4#32
  let c0_i32 : BitVec 32 := 0#32
  let v2 : BitVec 1 := Scalar.cmpi .eq c4_i32 c0_i32
  let c1_i32_0 : BitVec 32 := 1#32
  let v3 : BitVec 32 := Scalar.select v2 c1_i32_0 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, arg0.toNat, c0_i32_4.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.addi v0 c2_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_4 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c3_i32 : BitVec 32 := 3#32
  let v1 : BitVec 32 := Scalar.addi v0 c3_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_6 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== RedGluRefIdeal.lean ====
abbrev S2 : Shape := ⟨1, ![2]⟩
abbrev S2048x2048 : Shape := ⟨2, ![2048, 2048]⟩
abbrev S4x256x2048 : Shape := ⟨3, ![4, 256, 2048]⟩
abbrev S2x512x2048 : Shape := ⟨3, ![2, 512, 2048]⟩
abbrev S1 : Shape := ⟨1, ![1]⟩
abbrev S_ : Shape := ⟨0, ![]⟩
abbrev S256x2048 : Shape := ⟨2, ![256, 2048]⟩
abbrev S1x256x2048 : Shape := ⟨3, ![1, 256, 2048]⟩
abbrev S512x2048 : Shape := ⟨2, ![512, 2048]⟩
abbrev S1x512x2048 : Shape := ⟨3, ![1, 512, 2048]⟩

abbrev nBuf : Space → Nat
  | .hbm => 90
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x2048, .f32⟩
  | .hbm, ⟨2, _⟩ => ⟨S2048x2048, .bf16⟩
  | .hbm, ⟨3, _⟩ => ⟨S4x256x2048, .bf16⟩
  | .hbm, ⟨4, _⟩ => ⟨S2x512x2048, .f32⟩
  | .hbm, ⟨5, _⟩ => ⟨S2048x2048, .f32⟩
  | .hbm, ⟨6, _⟩ => ⟨S2048x2048, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S1x256x2048, .bf16⟩
  | .hbm, ⟨40, _⟩ => ⟨S256x2048, .bf16⟩
  | .hbm, ⟨41, _⟩ => ⟨S256x2048, .f32⟩
  | .hbm, ⟨42, _⟩ => ⟨S256x2048, .f32⟩
  | .hbm, ⟨43, _⟩ => ⟨S1, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S1x256x2048, .bf16⟩
  | .hbm, ⟨48, _⟩ => ⟨S256x2048, .bf16⟩
  | .hbm, ⟨49, _⟩ => ⟨S256x2048, .f32⟩
  | .hbm, ⟨50, _⟩ => ⟨S256x2048, .f32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S1x256x2048, .bf16⟩
  | .hbm, ⟨56, _⟩ => ⟨S256x2048, .bf16⟩
  | .hbm, ⟨57, _⟩ => ⟨S256x2048, .f32⟩
  | .hbm, ⟨58, _⟩ => ⟨S256x2048, .f32⟩
  | .hbm, ⟨59, _⟩ => ⟨S1, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S1x256x2048, .bf16⟩
  | .hbm, ⟨64, _⟩ => ⟨S256x2048, .bf16⟩
  | .hbm, ⟨65, _⟩ => ⟨S256x2048, .f32⟩
  | .hbm, ⟨66, _⟩ => ⟨S256x2048, .f32⟩
  | .hbm, ⟨67, _⟩ => ⟨S256x2048, .f32⟩
  | .hbm, ⟨68, _⟩ => ⟨S256x2048, .f32⟩
  | .hbm, ⟨69, _⟩ => ⟨S256x2048, .f32⟩
  | .hbm, ⟨70, _⟩ => ⟨S1, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S1x256x2048, .f32⟩
  | .hbm, ⟨75, _⟩ => ⟨S256x2048, .f32⟩
  | .hbm, ⟨76, _⟩ => ⟨S256x2048, .f32⟩
  | .hbm, ⟨77, _⟩ => ⟨S1, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S1x256x2048, .f32⟩
  | .hbm, ⟨82, _⟩ => ⟨S256x2048, .f32⟩
  | .hbm, ⟨83, _⟩ => ⟨S256x2048, .f32⟩
  | .hbm, ⟨84, _⟩ => ⟨S512x2048, .f32⟩
  | .hbm, ⟨85, _⟩ => ⟨S1x512x2048, .f32⟩
  | .hbm, ⟨86, _⟩ => ⟨S512x2048, .f32⟩
  | .hbm, ⟨87, _⟩ => ⟨S1x512x2048, .f32⟩
  | .hbm, ⟨88, _⟩ => ⟨S1x512x2048, .f32⟩
  | .hbm, ⟨89, _⟩ => ⟨S2x512x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_7 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_8 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== RedOut.lean ====
abbrev S2 : Shape := ⟨1, ![2]⟩
abbrev S2048x2048 : Shape := ⟨2, ![2048, 2048]⟩
abbrev S4x256x2048 : Shape := ⟨3, ![4, 256, 2048]⟩
abbrev S2x512x2048 : Shape := ⟨3, ![2, 512, 2048]⟩
abbrev S256x2048 : Shape := ⟨2, ![256, 2048]⟩
abbrev S1 : Shape := ⟨1, ![1]⟩
abbrev S1x256x2048 : Shape := ⟨3, ![1, 256, 2048]⟩

abbrev nBuf : Space → Nat
  | .hbm => 5
  | .vmem => 6
  | .smem => 1
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S4x256x2048, .bf16⟩
  | .hbm, ⟨3, _⟩ => ⟨S2x512x2048, .f32⟩
  | .hbm, ⟨4, _⟩ => ⟨S2x512x2048, .f32⟩
  | .local _ .vmem, ⟨0, _⟩ => ⟨S256x2048, .f32⟩
  | .local _ .vmem, ⟨1, _⟩ => ⟨S256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .f32⟩
  | .local _ .smem, ⟨0, _⟩ => ⟨S2, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c2_i32 : BitVec 32 := 2#32
  let v2 : BitVec 32 := Scalar.muli v0 c2_i32
  let c1_i32 : BitVec 32 := 1#32
  let v3 : BitVec 32 := Scalar.muli v1 c1_i32
  let v4 : BitVec 32 := Scalar.addi v2 v3
  let v5 : BitVec 32 := Scalar.addi v4 arg0
  let c0_i32 : BitVec 32 := 0#32
  let v6 : BitVec 32 := Scalar.muli v0 c0_i32
  let c0_i32_0 : BitVec 32 := 0#32
  let v7 : BitVec 32 := Scalar.addi c0_i32_0 v6
  let c0_i32_1 : BitVec 32 := 0#32
  ![v5.toNat, v7.toNat]

def cc0_transform_1 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c2_i32 : BitVec 32 := 2#32
  let v2 : BitVec 32 := Scalar.muli v0 c2_i32
  let c1_i32 : BitVec 32 := 1#32
  let v3 : BitVec 32 := Scalar.muli v1 c1_i32
  let v4 : BitVec 32 := Scalar.addi v2 v3
  let v5 : BitVec 32 := Scalar.addi v4 arg0
  let c0_i32 : BitVec 32 := 0#32
  let v6 : BitVec 32 := Scalar.muli v0 c0_i32
  let c0_i32_0 : BitVec 32 := 0#32
  let v7 : BitVec 32 := Scalar.addi c0_i32_0 v6
  let c0_i32_1 : BitVec 32 := 0#32
  ![v5.toNat, v7.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let c4_i32 : BitVec 32 := 4#32
  let c0_i32 : BitVec 32 := 0#32
  let v2 : BitVec 1 := Scalar.cmpi .eq c4_i32 c0_i32
  let c1_i32_0 : BitVec 32 := 1#32
  let v3 : BitVec 32 := Scalar.select v2 c1_i32_0 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, arg0.toNat, c0_i32_4.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.addi v0 c2_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_4 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c3_i32 : BitVec 32 := 3#32
  let v1 : BitVec 32 := Scalar.addi v0 c3_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_6 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== RedOutRefIdeal.lean ====
abbrev S2 : Shape := ⟨1, ![2]⟩
abbrev S2048x2048 : Shape := ⟨2, ![2048, 2048]⟩
abbrev S4x256x2048 : Shape := ⟨3, ![4, 256, 2048]⟩
abbrev S2x512x2048 : Shape := ⟨3, ![2, 512, 2048]⟩
abbrev S1 : Shape := ⟨1, ![1]⟩
abbrev S_ : Shape := ⟨0, ![]⟩
abbrev S256x2048 : Shape := ⟨2, ![256, 2048]⟩
abbrev S1x256x2048 : Shape := ⟨3, ![1, 256, 2048]⟩
abbrev S512x2048 : Shape := ⟨2, ![512, 2048]⟩
abbrev S1x512x2048 : Shape := ⟨3, ![1, 512, 2048]⟩

abbrev nBuf : Space → Nat
  | .hbm => 90
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x2048, .f32⟩
  | .hbm, ⟨2, _⟩ => ⟨S2048x2048, .bf16⟩
  | .hbm, ⟨3, _⟩ => ⟨S4x256x2048, .bf16⟩
  | .hbm, ⟨4, _⟩ => ⟨S2x512x2048, .f32⟩
  | .hbm, ⟨5, _⟩ => ⟨S2048x2048, .f32⟩
  | .hbm, ⟨6, _⟩ => ⟨S2048x2048, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S1x256x2048, .bf16⟩
  | .hbm, ⟨40, _⟩ => ⟨S256x2048, .bf16⟩
  | .hbm, ⟨41, _⟩ => ⟨S256x2048, .f32⟩
  | .hbm, ⟨42, _⟩ => ⟨S256x2048, .f32⟩
  | .hbm, ⟨43, _⟩ => ⟨S1, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S1x256x2048, .bf16⟩
  | .hbm, ⟨48, _⟩ => ⟨S256x2048, .bf16⟩
  | .hbm, ⟨49, _⟩ => ⟨S256x2048, .f32⟩
  | .hbm, ⟨50, _⟩ => ⟨S256x2048, .f32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S1x256x2048, .bf16⟩
  | .hbm, ⟨56, _⟩ => ⟨S256x2048, .bf16⟩
  | .hbm, ⟨57, _⟩ => ⟨S256x2048, .f32⟩
  | .hbm, ⟨58, _⟩ => ⟨S256x2048, .f32⟩
  | .hbm, ⟨59, _⟩ => ⟨S1, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S1x256x2048, .bf16⟩
  | .hbm, ⟨64, _⟩ => ⟨S256x2048, .bf16⟩
  | .hbm, ⟨65, _⟩ => ⟨S256x2048, .f32⟩
  | .hbm, ⟨66, _⟩ => ⟨S256x2048, .f32⟩
  | .hbm, ⟨67, _⟩ => ⟨S256x2048, .f32⟩
  | .hbm, ⟨68, _⟩ => ⟨S256x2048, .f32⟩
  | .hbm, ⟨69, _⟩ => ⟨S256x2048, .f32⟩
  | .hbm, ⟨70, _⟩ => ⟨S1, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S1x256x2048, .f32⟩
  | .hbm, ⟨75, _⟩ => ⟨S256x2048, .f32⟩
  | .hbm, ⟨76, _⟩ => ⟨S256x2048, .f32⟩
  | .hbm, ⟨77, _⟩ => ⟨S1, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S1x256x2048, .f32⟩
  | .hbm, ⟨82, _⟩ => ⟨S256x2048, .f32⟩
  | .hbm, ⟨83, _⟩ => ⟨S256x2048, .f32⟩
  | .hbm, ⟨84, _⟩ => ⟨S512x2048, .f32⟩
  | .hbm, ⟨85, _⟩ => ⟨S1x512x2048, .f32⟩
  | .hbm, ⟨86, _⟩ => ⟨S512x2048, .f32⟩
  | .hbm, ⟨87, _⟩ => ⟨S1x512x2048, .f32⟩
  | .hbm, ⟨88, _⟩ => ⟨S1x512x2048, .f32⟩
  | .hbm, ⟨89, _⟩ => ⟨S2x512x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_7 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_8 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== RedGate.lean ====
abbrev S2 : Shape := ⟨1, ![2]⟩
abbrev S2048x11264 : Shape := ⟨2, ![2048, 11264]⟩
abbrev S4x1024x1408 : Shape := ⟨3, ![4, 1024, 1408]⟩
abbrev S2x2048x1408 : Shape := ⟨3, ![2, 2048, 1408]⟩
abbrev S256x1408 : Shape := ⟨2, ![256, 1408]⟩
abbrev S1 : Shape := ⟨1, ![1]⟩
abbrev S1x256x1408 : Shape := ⟨3, ![1, 256, 1408]⟩

abbrev nBuf : Space → Nat
  | .hbm => 5
  | .vmem => 12
  | .smem => 1
  | _ => 0

abbrev bufTy : (tb : Table) → Fin (tcTables nBuf tb) → BufTy
  | .hbm, ⟨0, _⟩ => ⟨S2048x11264, .f32⟩
  | .hbm, ⟨1, _⟩ => ⟨S2048x11264, .bf16⟩
  | .hbm, ⟨2, _⟩ => ⟨S4x1024x1408, .bf16⟩
  | .hbm, ⟨3, _⟩ => ⟨S2x2048x1408, .f32⟩
  | .hbm, ⟨4, _⟩ => ⟨S2x2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .bf16⟩
  | .local _ .vmem, ⟨3, _⟩ => ⟨S256x1408, .bf16⟩
  | .local _ .vmem, ⟨4, _⟩ => ⟨S1x256x1408, .bf16⟩
  | .local _ .vmem, ⟨5, _⟩ => ⟨S1x256x1408, .bf16⟩
  | .local _ .vmem, ⟨6, _⟩ => ⟨S1x256x1408, .bf16⟩
  | .local _ .vmem, ⟨7, _⟩ => ⟨S1x256x1408, .bf16⟩
  | .local _ .vmem, ⟨8, _⟩ => ⟨S1x256x1408, .bf16⟩
  | .local _ .vmem, ⟨9, _⟩ => ⟨S1x256x1408, .bf16⟩
  | .local _ .vmem, ⟨10, _⟩ => ⟨S1x256x1408, .f32⟩
  | .local _ .vmem, ⟨11, _⟩ => ⟨S1x256x1408, .f32⟩
  | .local _ .smem, ⟨0, _⟩ => ⟨S2, .i32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let v2 : BitVec 32 := Scalar.muli v0 c0_i32
  let c4_i32 : BitVec 32 := 4#32
  let v3 : BitVec 32 := Scalar.muli v1 c4_i32
  let v4 : BitVec 32 := Scalar.addi v2 v3
  let v5 : BitVec 32 := Scalar.addi v4 arg0
  let c1_i32 : BitVec 32 := 1#32
  let v6 : BitVec 32 := Scalar.muli v0 c1_i32
  let c0_i32_0 : BitVec 32 := 0#32
  let v7 : BitVec 32 := Scalar.addi c0_i32_0 v6
  let c0_i32_1 : BitVec 32 := 0#32
  ![v5.toNat, v7.toNat]

def cc0_transform_1 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let v2 : BitVec 32 := Scalar.muli v0 c0_i32
  let c4_i32 : BitVec 32 := 4#32
  let v3 : BitVec 32 := Scalar.muli v1 c4_i32
  let v4 : BitVec 32 := Scalar.addi v2 v3
  let v5 : BitVec 32 := Scalar.addi v4 arg0
  let c1_i32 : BitVec 32 := 1#32
  let v6 : BitVec 32 := Scalar.muli v0 c1_i32
  let c0_i32_0 : BitVec 32 := 0#32
  let v7 : BitVec 32 := Scalar.addi c0_i32_0 v6
  let c0_i32_1 : BitVec 32 := 0#32
  ![v5.toNat, v7.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let c4_i32 : BitVec 32 := 4#32
  let c0_i32 : BitVec 32 := 0#32
  let v2 : BitVec 1 := Scalar.cmpi .eq c4_i32 c0_i32
  let c1_i32_0 : BitVec 32 := 1#32
  let v3 : BitVec 32 := Scalar.select v2 c1_i32_0 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, arg0.toNat, c0_i32_4.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.addi v0 c2_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_4 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c3_i32 : BitVec 32 := 3#32
  let v1 : BitVec 32 := Scalar.addi v0 c3_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_6 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RedGateRefIdeal.lean ====
abbrev S2 : Shape := ⟨1, ![2]⟩
abbrev S2048x11264 : Shape := ⟨2, ![2048, 11264]⟩
abbrev S4x1024x1408 : Shape := ⟨3, ![4, 1024, 1408]⟩
abbrev S2x2048x1408 : Shape := ⟨3, ![2, 2048, 1408]⟩
abbrev S1 : Shape := ⟨1, ![1]⟩
abbrev S_ : Shape := ⟨0, ![]⟩
abbrev S1024x11264 : Shape := ⟨2, ![1024, 11264]⟩
abbrev S1024x1408 : Shape := ⟨2, ![1024, 1408]⟩
abbrev S1x1024x1408 : Shape := ⟨3, ![1, 1024, 1408]⟩
abbrev S2048x1408 : Shape := ⟨2, ![2048, 1408]⟩
abbrev S1x2048x1408 : Shape := ⟨3, ![1, 2048, 1408]⟩

abbrev nBuf : Space → Nat
  | .hbm => 73
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x11264, .f32⟩
  | .hbm, ⟨2, _⟩ => ⟨S2048x11264, .bf16⟩
  | .hbm, ⟨3, _⟩ => ⟨S4x1024x1408, .bf16⟩
  | .hbm, ⟨4, _⟩ => ⟨S2x2048x1408, .f32⟩
  | .hbm, ⟨5, _⟩ => ⟨S2048x11264, .f32⟩
  | .hbm, ⟨6, _⟩ => ⟨S2048x11264, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S1024x11264, .f32⟩
  | .hbm, ⟨12, _⟩ => ⟨S1024x11264, .f32⟩
  | .hbm, ⟨13, _⟩ => ⟨S1024x11264, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1x1024x1408, .bf16⟩
  | .hbm, ⟨23, _⟩ => ⟨S1024x1408, .bf16⟩
  | .hbm, ⟨24, _⟩ => ⟨S1024x1408, .f32⟩
  | .hbm, ⟨25, _⟩ => ⟨S1024x1408, .f32⟩
  | .hbm, ⟨26, _⟩ => ⟨S1, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S1x1024x1408, .bf16⟩
  | .hbm, ⟨31, _⟩ => ⟨S1024x1408, .bf16⟩
  | .hbm, ⟨32, _⟩ => ⟨S1024x1408, .f32⟩
  | .hbm, ⟨33, _⟩ => ⟨S1024x1408, .f32⟩
  | .hbm, ⟨34, _⟩ => ⟨S1, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S1x1024x1408, .bf16⟩
  | .hbm, ⟨39, _⟩ => ⟨S1024x1408, .bf16⟩
  | .hbm, ⟨40, _⟩ => ⟨S1024x1408, .f32⟩
  | .hbm, ⟨41, _⟩ => ⟨S1024x1408, .f32⟩
  | .hbm, ⟨42, _⟩ => ⟨S1, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S1x1024x1408, .bf16⟩
  | .hbm, ⟨47, _⟩ => ⟨S1024x1408, .bf16⟩
  | .hbm, ⟨48, _⟩ => ⟨S1024x1408, .f32⟩
  | .hbm, ⟨49, _⟩ => ⟨S1024x1408, .f32⟩
  | .hbm, ⟨50, _⟩ => ⟨S1024x1408, .f32⟩
  | .hbm, ⟨51, _⟩ => ⟨S1024x1408, .f32⟩
  | .hbm, ⟨52, _⟩ => ⟨S1024x1408, .f32⟩
  | .hbm, ⟨53, _⟩ => ⟨S1, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S1x1024x1408, .f32⟩
  | .hbm, ⟨58, _⟩ => ⟨S1024x1408, .f32⟩
  | .hbm, ⟨59, _⟩ => ⟨S1024x1408, .f32⟩
  | .hbm, ⟨60, _⟩ => ⟨S1, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S1x1024x1408, .f32⟩
  | .hbm, ⟨65, _⟩ => ⟨S1024x1408, .f32⟩
  | .hbm, ⟨66, _⟩ => ⟨S1024x1408, .f32⟩
  | .hbm, ⟨67, _⟩ => ⟨S2048x1408, .f32⟩
  | .hbm, ⟨68, _⟩ => ⟨S1x2048x1408, .f32⟩
  | .hbm, ⟨69, _⟩ => ⟨S2048x1408, .f32⟩
  | .hbm, ⟨70, _⟩ => ⟨S1x2048x1408, .f32⟩
  | .hbm, ⟨71, _⟩ => ⟨S1x2048x1408, .f32⟩
  | .hbm, ⟨72, _⟩ => ⟨S2x2048x1408, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== RedUp.lean ====
abbrev S2 : Shape := ⟨1, ![2]⟩
abbrev S2048x11264 : Shape := ⟨2, ![2048, 11264]⟩
abbrev S4x1024x1408 : Shape := ⟨3, ![4, 1024, 1408]⟩
abbrev S2x2048x1408 : Shape := ⟨3, ![2, 2048, 1408]⟩
abbrev S256x1408 : Shape := ⟨2, ![256, 1408]⟩
abbrev S1 : Shape := ⟨1, ![1]⟩
abbrev S1x256x1408 : Shape := ⟨3, ![1, 256, 1408]⟩

abbrev nBuf : Space → Nat
  | .hbm => 5
  | .vmem => 12
  | .smem => 1
  | _ => 0

abbrev bufTy : (tb : Table) → Fin (tcTables nBuf tb) → BufTy
  | .hbm, ⟨0, _⟩ => ⟨S2048x11264, .f32⟩
  | .hbm, ⟨1, _⟩ => ⟨S2048x11264, .bf16⟩
  | .hbm, ⟨2, _⟩ => ⟨S4x1024x1408, .bf16⟩
  | .hbm, ⟨3, _⟩ => ⟨S2x2048x1408, .f32⟩
  | .hbm, ⟨4, _⟩ => ⟨S2x2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .bf16⟩
  | .local _ .vmem, ⟨3, _⟩ => ⟨S256x1408, .bf16⟩
  | .local _ .vmem, ⟨4, _⟩ => ⟨S1x256x1408, .bf16⟩
  | .local _ .vmem, ⟨5, _⟩ => ⟨S1x256x1408, .bf16⟩
  | .local _ .vmem, ⟨6, _⟩ => ⟨S1x256x1408, .bf16⟩
  | .local _ .vmem, ⟨7, _⟩ => ⟨S1x256x1408, .bf16⟩
  | .local _ .vmem, ⟨8, _⟩ => ⟨S1x256x1408, .bf16⟩
  | .local _ .vmem, ⟨9, _⟩ => ⟨S1x256x1408, .bf16⟩
  | .local _ .vmem, ⟨10, _⟩ => ⟨S1x256x1408, .f32⟩
  | .local _ .vmem, ⟨11, _⟩ => ⟨S1x256x1408, .f32⟩
  | .local _ .smem, ⟨0, _⟩ => ⟨S2, .i32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let v2 : BitVec 32 := Scalar.muli v0 c0_i32
  let c4_i32 : BitVec 32 := 4#32
  let v3 : BitVec 32 := Scalar.muli v1 c4_i32
  let v4 : BitVec 32 := Scalar.addi v2 v3
  let v5 : BitVec 32 := Scalar.addi v4 arg0
  let c1_i32 : BitVec 32 := 1#32
  let v6 : BitVec 32 := Scalar.muli v0 c1_i32
  let c4_i32_0 : BitVec 32 := 4#32
  let v7 : BitVec 32 := Scalar.addi c4_i32_0 v6
  let c0_i32_1 : BitVec 32 := 0#32
  ![v5.toNat, v7.toNat]

def cc0_transform_1 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let v2 : BitVec 32 := Scalar.muli v0 c0_i32
  let c4_i32 : BitVec 32 := 4#32
  let v3 : BitVec 32 := Scalar.muli v1 c4_i32
  let v4 : BitVec 32 := Scalar.addi v2 v3
  let v5 : BitVec 32 := Scalar.addi v4 arg0
  let c1_i32 : BitVec 32 := 1#32
  let v6 : BitVec 32 := Scalar.muli v0 c1_i32
  let c4_i32_0 : BitVec 32 := 4#32
  let v7 : BitVec 32 := Scalar.addi c4_i32_0 v6
  let c0_i32_1 : BitVec 32 := 0#32
  ![v5.toNat, v7.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let c4_i32 : BitVec 32 := 4#32
  let c0_i32 : BitVec 32 := 0#32
  let v2 : BitVec 1 := Scalar.cmpi .eq c4_i32 c0_i32
  let c1_i32_0 : BitVec 32 := 1#32
  let v3 : BitVec 32 := Scalar.select v2 c1_i32_0 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, arg0.toNat, c0_i32_4.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.addi v0 c2_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_4 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c3_i32 : BitVec 32 := 3#32
  let v1 : BitVec 32 := Scalar.addi v0 c3_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_6 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RedUpRefIdeal.lean ====
abbrev S2 : Shape := ⟨1, ![2]⟩
abbrev S2048x11264 : Shape := ⟨2, ![2048, 11264]⟩
abbrev S4x1024x1408 : Shape := ⟨3, ![4, 1024, 1408]⟩
abbrev S2x2048x1408 : Shape := ⟨3, ![2, 2048, 1408]⟩
abbrev S1 : Shape := ⟨1, ![1]⟩
abbrev S_ : Shape := ⟨0, ![]⟩
abbrev S1024x11264 : Shape := ⟨2, ![1024, 11264]⟩
abbrev S1024x1408 : Shape := ⟨2, ![1024, 1408]⟩
abbrev S1x1024x1408 : Shape := ⟨3, ![1, 1024, 1408]⟩
abbrev S2048x1408 : Shape := ⟨2, ![2048, 1408]⟩
abbrev S1x2048x1408 : Shape := ⟨3, ![1, 2048, 1408]⟩

abbrev nBuf : Space → Nat
  | .hbm => 73
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x11264, .f32⟩
  | .hbm, ⟨2, _⟩ => ⟨S2048x11264, .bf16⟩
  | .hbm, ⟨3, _⟩ => ⟨S4x1024x1408, .bf16⟩
  | .hbm, ⟨4, _⟩ => ⟨S2x2048x1408, .f32⟩
  | .hbm, ⟨5, _⟩ => ⟨S2048x11264, .f32⟩
  | .hbm, ⟨6, _⟩ => ⟨S2048x11264, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S1024x11264, .f32⟩
  | .hbm, ⟨12, _⟩ => ⟨S1024x11264, .f32⟩
  | .hbm, ⟨13, _⟩ => ⟨S1024x11264, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1x1024x1408, .bf16⟩
  | .hbm, ⟨23, _⟩ => ⟨S1024x1408, .bf16⟩
  | .hbm, ⟨24, _⟩ => ⟨S1024x1408, .f32⟩
  | .hbm, ⟨25, _⟩ => ⟨S1024x1408, .f32⟩
  | .hbm, ⟨26, _⟩ => ⟨S1, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S1x1024x1408, .bf16⟩
  | .hbm, ⟨31, _⟩ => ⟨S1024x1408, .bf16⟩
  | .hbm, ⟨32, _⟩ => ⟨S1024x1408, .f32⟩
  | .hbm, ⟨33, _⟩ => ⟨S1024x1408, .f32⟩
  | .hbm, ⟨34, _⟩ => ⟨S1, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S1x1024x1408, .bf16⟩
  | .hbm, ⟨39, _⟩ => ⟨S1024x1408, .bf16⟩
  | .hbm, ⟨40, _⟩ => ⟨S1024x1408, .f32⟩
  | .hbm, ⟨41, _⟩ => ⟨S1024x1408, .f32⟩
  | .hbm, ⟨42, _⟩ => ⟨S1, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S1x1024x1408, .bf16⟩
  | .hbm, ⟨47, _⟩ => ⟨S1024x1408, .bf16⟩
  | .hbm, ⟨48, _⟩ => ⟨S1024x1408, .f32⟩
  | .hbm, ⟨49, _⟩ => ⟨S1024x1408, .f32⟩
  | .hbm, ⟨50, _⟩ => ⟨S1024x1408, .f32⟩
  | .hbm, ⟨51, _⟩ => ⟨S1024x1408, .f32⟩
  | .hbm, ⟨52, _⟩ => ⟨S1024x1408, .f32⟩
  | .hbm, ⟨53, _⟩ => ⟨S1, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S1x1024x1408, .f32⟩
  | .hbm, ⟨58, _⟩ => ⟨S1024x1408, .f32⟩
  | .hbm, ⟨59, _⟩ => ⟨S1024x1408, .f32⟩
  | .hbm, ⟨60, _⟩ => ⟨S1, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S1x1024x1408, .f32⟩
  | .hbm, ⟨65, _⟩ => ⟨S1024x1408, .f32⟩
  | .hbm, ⟨66, _⟩ => ⟨S1024x1408, .f32⟩
  | .hbm, ⟨67, _⟩ => ⟨S2048x1408, .f32⟩
  | .hbm, ⟨68, _⟩ => ⟨S1x2048x1408, .f32⟩
  | .hbm, ⟨69, _⟩ => ⟨S2048x1408, .f32⟩
  | .hbm, ⟨70, _⟩ => ⟨S1x2048x1408, .f32⟩
  | .hbm, ⟨71, _⟩ => ⟨S1x2048x1408, .f32⟩
  | .hbm, ⟨72, _⟩ => ⟨S2x2048x1408, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== RedDown.lean ====
abbrev S2 : Shape := ⟨1, ![2]⟩
abbrev S5632x2048 : Shape := ⟨2, ![5632, 2048]⟩
abbrev S4x704x2048 : Shape := ⟨3, ![4, 704, 2048]⟩
abbrev S2x1408x2048 : Shape := ⟨3, ![2, 1408, 2048]⟩
abbrev S64x2048 : Shape := ⟨2, ![64, 2048]⟩
abbrev S1 : Shape := ⟨1, ![1]⟩
abbrev S1x64x2048 : Shape := ⟨3, ![1, 64, 2048]⟩

abbrev nBuf : Space → Nat
  | .hbm => 5
  | .vmem => 12
  | .smem => 1
  | _ => 0

abbrev bufTy : (tb : Table) → Fin (tcTables nBuf tb) → BufTy
  | .hbm, ⟨0, _⟩ => ⟨S5632x2048, .f32⟩
  | .hbm, ⟨1, _⟩ => ⟨S5632x2048, .bf16⟩
  | .hbm, ⟨2, _⟩ => ⟨S4x704x2048, .bf16⟩
  | .hbm, ⟨3, _⟩ => ⟨S2x1408x2048, .f32⟩
  | .hbm, ⟨4, _⟩ => ⟨S2x1408x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .bf16⟩
  | .local _ .vmem, ⟨3, _⟩ => ⟨S64x2048, .bf16⟩
  | .local _ .vmem, ⟨4, _⟩ => ⟨S1x64x2048, .bf16⟩
  | .local _ .vmem, ⟨5, _⟩ => ⟨S1x64x2048, .bf16⟩
  | .local _ .vmem, ⟨6, _⟩ => ⟨S1x64x2048, .bf16⟩
  | .local _ .vmem, ⟨7, _⟩ => ⟨S1x64x2048, .bf16⟩
  | .local _ .vmem, ⟨8, _⟩ => ⟨S1x64x2048, .bf16⟩
  | .local _ .vmem, ⟨9, _⟩ => ⟨S1x64x2048, .bf16⟩
  | .local _ .vmem, ⟨10, _⟩ => ⟨S1x64x2048, .f32⟩
  | .local _ .vmem, ⟨11, _⟩ => ⟨S1x64x2048, .f32⟩
  | .local _ .smem, ⟨0, _⟩ => ⟨S2, .i32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c22_i32 : BitVec 32 := 22#32
  let v2 : BitVec 32 := Scalar.muli v0 c22_i32
  let c11_i32 : BitVec 32 := 11#32
  let v3 : BitVec 32 := Scalar.muli v1 c11_i32
  let v4 : BitVec 32 := Scalar.addi v2 v3
  let v5 : BitVec 32 := Scalar.addi v4 arg0
  let c0_i32 : BitVec 32 := 0#32
  let v6 : BitVec 32 := Scalar.muli v0 c0_i32
  let c0_i32_0 : BitVec 32 := 0#32
  let v7 : BitVec 32 := Scalar.addi c0_i32_0 v6
  let c0_i32_1 : BitVec 32 := 0#32
  ![v5.toNat, v7.toNat]

def cc0_transform_1 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c22_i32 : BitVec 32 := 22#32
  let v2 : BitVec 32 := Scalar.muli v0 c22_i32
  let c11_i32 : BitVec 32 := 11#32
  let v3 : BitVec 32 := Scalar.muli v1 c11_i32
  let v4 : BitVec 32 := Scalar.addi v2 v3
  let v5 : BitVec 32 := Scalar.addi v4 arg0
  let c0_i32 : BitVec 32 := 0#32
  let v6 : BitVec 32 := Scalar.muli v0 c0_i32
  let c0_i32_0 : BitVec 32 := 0#32
  let v7 : BitVec 32 := Scalar.addi c0_i32_0 v6
  let c0_i32_1 : BitVec 32 := 0#32
  ![v5.toNat, v7.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let c4_i32 : BitVec 32 := 4#32
  let c0_i32 : BitVec 32 := 0#32
  let v2 : BitVec 1 := Scalar.cmpi .eq c4_i32 c0_i32
  let c1_i32_0 : BitVec 32 := 1#32
  let v3 : BitVec 32 := Scalar.select v2 c1_i32_0 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, arg0.toNat, c0_i32_4.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.addi v0 c2_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_4 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c3_i32 : BitVec 32 := 3#32
  let v1 : BitVec 32 := Scalar.addi v0 c3_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_6 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c11_i32 : BitVec 32 := 11#32
  let v1 : BitVec 32 := Scalar.muli v0 c11_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RedDownRefIdeal.lean ====
abbrev S2 : Shape := ⟨1, ![2]⟩
abbrev S5632x2048 : Shape := ⟨2, ![5632, 2048]⟩
abbrev S4x704x2048 : Shape := ⟨3, ![4, 704, 2048]⟩
abbrev S2x1408x2048 : Shape := ⟨3, ![2, 1408, 2048]⟩
abbrev S1 : Shape := ⟨1, ![1]⟩
abbrev S_ : Shape := ⟨0, ![]⟩
abbrev S704x2048 : Shape := ⟨2, ![704, 2048]⟩
abbrev S1x704x2048 : Shape := ⟨3, ![1, 704, 2048]⟩
abbrev S1408x2048 : Shape := ⟨2, ![1408, 2048]⟩
abbrev S1x1408x2048 : Shape := ⟨3, ![1, 1408, 2048]⟩

abbrev nBuf : Space → Nat
  | .hbm => 90
  | .vmem => 0
  | .smem => 0
  | _ => 0

abbrev bufTy : (tb : Table) → Fin (tcTables nBuf tb) → BufTy
  | .hbm, ⟨0, _⟩ => ⟨S2, .i32⟩
  | .hbm, ⟨1, _⟩ => ⟨S5632x2048, .f32⟩
  | .hbm, ⟨2, _⟩ => ⟨S5632x2048, .bf16⟩
  | .hbm, ⟨3, _⟩ => ⟨S4x704x2048, .bf16⟩
  | .hbm, ⟨4, _⟩ => ⟨S2x1408x2048, .f32⟩
  | .hbm, ⟨5, _⟩ => ⟨S5632x2048, .f32⟩
  | .hbm, ⟨6, _⟩ => ⟨S5632x2048, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S704x2048, .f32⟩
  | .hbm, ⟨19, _⟩ => ⟨S704x2048, .f32⟩
  | .hbm, ⟨20, _⟩ => ⟨S704x2048, .f32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S704x2048, .f32⟩
  | .hbm, ⟨33, _⟩ => ⟨S704x2048, .f32⟩
  | .hbm, ⟨34, _⟩ => ⟨S704x2048, .f32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S1x704x2048, .bf16⟩
  | .hbm, ⟨40, _⟩ => ⟨S704x2048, .bf16⟩
  | .hbm, ⟨41, _⟩ => ⟨S704x2048, .f32⟩
  | .hbm, ⟨42, _⟩ => ⟨S704x2048, .f32⟩
  | .hbm, ⟨43, _⟩ => ⟨S1, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S1x704x2048, .bf16⟩
  | .hbm, ⟨48, _⟩ => ⟨S704x2048, .bf16⟩
  | .hbm, ⟨49, _⟩ => ⟨S704x2048, .f32⟩
  | .hbm, ⟨50, _⟩ => ⟨S704x2048, .f32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S1x704x2048, .bf16⟩
  | .hbm, ⟨56, _⟩ => ⟨S704x2048, .bf16⟩
  | .hbm, ⟨57, _⟩ => ⟨S704x2048, .f32⟩
  | .hbm, ⟨58, _⟩ => ⟨S704x2048, .f32⟩
  | .hbm, ⟨59, _⟩ => ⟨S1, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S1x704x2048, .bf16⟩
  | .hbm, ⟨64, _⟩ => ⟨S704x2048, .bf16⟩
  | .hbm, ⟨65, _⟩ => ⟨S704x2048, .f32⟩
  | .hbm, ⟨66, _⟩ => ⟨S704x2048, .f32⟩
  | .hbm, ⟨67, _⟩ => ⟨S704x2048, .f32⟩
  | .hbm, ⟨68, _⟩ => ⟨S704x2048, .f32⟩
  | .hbm, ⟨69, _⟩ => ⟨S704x2048, .f32⟩
  | .hbm, ⟨70, _⟩ => ⟨S1, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S1x704x2048, .f32⟩
  | .hbm, ⟨75, _⟩ => ⟨S704x2048, .f32⟩
  | .hbm, ⟨76, _⟩ => ⟨S704x2048, .f32⟩
  | .hbm, ⟨77, _⟩ => ⟨S1, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S1x704x2048, .f32⟩
  | .hbm, ⟨82, _⟩ => ⟨S704x2048, .f32⟩
  | .hbm, ⟨83, _⟩ => ⟨S704x2048, .f32⟩
  | .hbm, ⟨84, _⟩ => ⟨S1408x2048, .f32⟩
  | .hbm, ⟨85, _⟩ => ⟨S1x1408x2048, .f32⟩
  | .hbm, ⟨86, _⟩ => ⟨S1408x2048, .f32⟩
  | .hbm, ⟨87, _⟩ => ⟨S1x1408x2048, .f32⟩
  | .hbm, ⟨88, _⟩ => ⟨S1x1408x2048, .f32⟩
  | .hbm, ⟨89, _⟩ => ⟨S2x1408x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_7 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_8 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== Proof.RetBlock.lean ====
module

public import proofs.«01_k».proof.Proof.Gen.KernelIdeal.Frame
public import Idealize.ShloMosaic.Lib.Pipeline.Value

@[expose] public section

set_option maxRecDepth 16384

noncomputable section

namespace Cert.KernelIdeal.Ret

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The forward decay's logarithm, read off the block of `lg`. -/
def lgF (x4 : Vec F S1x2x128 .f32) : Vec F S1x1x1 .f32 := View.ld x4 (Rect.unit ![0, 0, 0] S1x1x1.size inb_S1x2x128_S1x1x1_0_0_0)
/-- The backward decay's logarithm, read off the block of `lg`. -/
def lgB (x4 : Vec F S1x2x128 .f32) : Vec F S1x1x1 .f32 := View.ld x4 (Rect.unit ![0, 1, 0] S1x1x1.size inb_S1x2x128_S1x1x1_0_1_0)

theorem out_B_5 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S512x512 .bf16) (harg5 : arg5.IsWhole) (arg6 : Memref sig .tc .vmem S1x2x128 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x512 .f32) (harg9 : arg9.IsWhole) (arg10 : Memref sig .tc .vmem S1x2x128 .f32) (harg10 : arg10.IsWhole) (hc : ¬cond0_0 i)
    (x0 : Vec F S512x256 .bf16) (x1 : Vec F S2048x256 .bf16) (x2 : Vec F S2048x512 .f32) (x3 : Vec F S512x512 .bf16) (x4 : Vec F S1x2x128 .f32) (xo6 : Vec F S2048x256 .f32) (xo7 : Vec F S2048x512 .f32) (xo8 : Vec F S1x2x128 .f32) :
    out0_B_5 c i arg2 harg2 arg3 harg3 arg4 harg4 arg5 harg5 arg6 harg6 arg7 harg7 arg8 harg8 arg9 harg9 arg10 harg10 hc x0 x1 x2 x3 x4 xo6 xo7 xo8
      = k0_pay13 x1 (k0_pay7 i (lgF x4) (lgB x4)) (k0_pay9 x2 x3) := by
  unfold out0_B_5
  rw [View.read_writes_eq_canon _ _ _ (cover0_B_5 c i arg2 harg2 arg3 harg3 arg4 harg4 arg5 harg5 arg6 harg6 arg7 harg7 arg8 harg8 arg9 harg9 arg10 harg10 hc x0 x1 x2 x3 x4 xo6 xo7 xo8)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S512x256) hz2, View.ld_unit_zero (S := S2048x256) hz2, View.ld_unit_zero (S := S2048x512) hz2, View.ld_unit_zero (S := S512x512) hz2, View.ld_unit_zero (S := S1x2x128) hz3, lgF, lgB]

theorem out_B_6 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S512x512 .bf16) (harg5 : arg5.IsWhole) (arg6 : Memref sig .tc .vmem S1x2x128 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x512 .f32) (harg9 : arg9.IsWhole) (arg10 : Memref sig .tc .vmem S1x2x128 .f32) (harg10 : arg10.IsWhole) (hc : ¬cond0_0 i)
    (x0 : Vec F S512x256 .bf16) (x1 : Vec F S2048x256 .bf16) (x2 : Vec F S2048x512 .f32) (x3 : Vec F S512x512 .bf16) (x4 : Vec F S1x2x128 .f32) (xo6 : Vec F S2048x256 .f32) (xo7 : Vec F S2048x512 .f32) (xo8 : Vec F S1x2x128 .f32) :
    out0_B_6 c i arg2 harg2 arg3 harg3 arg4 harg4 arg5 harg5 arg6 harg6 arg7 harg7 arg8 harg8 arg9 harg9 arg10 harg10 hc x0 x1 x2 x3 x4 xo6 xo7 xo8
      = k0_pay14 x0 (k0_pay7 i (lgF x4) (lgB x4)) (k0_pay9 x2 x3) xo6 := by
  unfold out0_B_6
  rw [View.read_writes_eq_canon _ _ _ (cover0_B_6 c i arg2 harg2 arg3 harg3 arg4 harg4 arg5 harg5 arg6 harg6 arg7 harg7 arg8 harg8 arg9 harg9 arg10 harg10 hc x0 x1 x2 x3 x4 xo6 xo7 xo8)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S512x256) hz2, View.ld_unit_zero (S := S2048x256) hz2, View.ld_unit_zero (S := S2048x512) hz2, View.ld_unit_zero (S := S512x512) hz2, View.ld_unit_zero (S := S1x2x128) hz3, lgF, lgB]

theorem out_B_7 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S512x512 .bf16) (harg5 : arg5.IsWhole) (arg6 : Memref sig .tc .vmem S1x2x128 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x512 .f32) (harg9 : arg9.IsWhole) (arg10 : Memref sig .tc .vmem S1x2x128 .f32) (harg10 : arg10.IsWhole) (hc : ¬cond0_0 i)
    (x0 : Vec F S512x256 .bf16) (x1 : Vec F S2048x256 .bf16) (x2 : Vec F S2048x512 .f32) (x3 : Vec F S512x512 .bf16) (x4 : Vec F S1x2x128 .f32) (xo6 : Vec F S2048x256 .f32) (xo7 : Vec F S2048x512 .f32) (xo8 : Vec F S1x2x128 .f32) :
    out0_B_7 c i arg2 harg2 arg3 harg3 arg4 harg4 arg5 harg5 arg6 harg6 arg7 harg7 arg8 harg8 arg9 harg9 arg10 harg10 hc x0 x1 x2 x3 x4 xo6 xo7 xo8
      = k0_pay11 x3 (k0_pay8 i x0 x1 (lgF x4) (lgB x4)) (k0_pay10 xo7) := by
  unfold out0_B_7
  rw [View.read_writes_eq_canon _ _ _ (cover0_B_7 c i arg2 harg2 arg3 harg3 arg4 harg4 arg5 harg5 arg6 harg6 arg7 harg7 arg8 harg8 arg9 harg9 arg10 harg10 hc x0 x1 x2 x3 x4 xo6 xo7 xo8)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S512x256) hz2, View.ld_unit_zero (S := S2048x256) hz2, View.ld_unit_zero (S := S2048x512) hz2, View.ld_unit_zero (S := S512x512) hz2, View.ld_unit_zero (S := S1x2x128) hz3, lgF, lgB]

theorem out_B_8 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S512x512 .bf16) (harg5 : arg5.IsWhole) (arg6 : Memref sig .tc .vmem S1x2x128 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x512 .f32) (harg9 : arg9.IsWhole) (arg10 : Memref sig .tc .vmem S1x2x128 .f32) (harg10 : arg10.IsWhole) (hc : ¬cond0_0 i)
    (x0 : Vec F S512x256 .bf16) (x1 : Vec F S2048x256 .bf16) (x2 : Vec F S2048x512 .f32) (x3 : Vec F S512x512 .bf16) (x4 : Vec F S1x2x128 .f32) (xo6 : Vec F S2048x256 .f32) (xo7 : Vec F S2048x512 .f32) (xo8 : Vec F S1x2x128 .f32) :
    out0_B_8 c i arg2 harg2 arg3 harg3 arg4 harg4 arg5 harg5 arg6 harg6 arg7 harg7 arg8 harg8 arg9 harg9 arg10 harg10 hc x0 x1 x2 x3 x4 xo6 xo7 xo8
      = k0_pay1 (k0_pay16 (k0_pay5 i) (k0_pay6 (F := F) i) (k0_pay8 i x0 x1 (lgF x4) (lgB x4)) (k0_pay9 x2 x3)) (k0_pay17 xo8) k0_pay18 (k0_pay19 (k0_pay5 i) (k0_pay6 (F := F) i) (k0_pay8 i x0 x1 (lgF x4) (lgB x4)) (k0_pay9 x2 x3)) := by
  unfold out0_B_8
  rw [View.read_writes_eq_canon _ _ _ (cover0_B_8 c i arg2 harg2 arg3 harg3 arg4 harg4 arg5 harg5 arg6 harg6 arg7 harg7 arg8 harg8 arg9 harg9 arg10 harg10 hc x0 x1 x2 x3 x4 xo6 xo7 xo8)]
  unfold kernelRun0_B
  dsimp only
  sl_unfold_words
  rw [View.canon_unit_zero hz3]
  simp only [View.readAt_eq_ld, harg2.read_unread, harg3.read_unread, harg4.read_unread, harg5.read_unread, harg6.read_unread, harg8.read_unread, harg9.read_unread, harg10.read_unread, View.ld_unit_zero (S := S512x256) hz2, View.ld_unit_zero (S := S2048x256) hz2, View.ld_unit_zero (S := S2048x512) hz2, View.ld_unit_zero (S := S512x512) hz2, View.ld_unit_zero (S := S1x2x128) hz3, lgF, lgB]

theorem out_A_5 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S512x512 .bf16) (harg5 : arg5.IsWhole) (arg6 : Memref sig .tc .vmem S1x2x128 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x512 .f32) (harg9 : arg9.IsWhole) (arg10 : Memref sig .tc .vmem S1x2x128 .f32) (harg10 : arg10.IsWhole) (hc : cond0_0 i)
    (x0 : Vec F S512x256 .bf16) (x1 : Vec F S2048x256 .bf16) (x2 : Vec F S2048x512 .f32) (x3 : Vec F S512x512 .bf16) (x4 : Vec F S1x2x128 .f32)  :
    out0_A_5 c i arg2 harg2 arg3 harg3 arg4 harg4 arg5 harg5 arg6 harg6 arg7 harg7 arg8 harg8 arg9 harg9 arg10 harg10 hc x0 x1 x2 x3 x4
      = k0_pay13 x1 (k0_pay7 i (lgF x4) (lgB x4)) (k0_pay9 x2 x3) := by
  unfold out0_A_5
  rw [View.read_writes_eq_canon _ _ _ (cover0_A_5 c i arg2 harg2 arg3 harg3 arg4 harg4 arg5 harg5 arg6 harg6 arg7 harg7 arg8 harg8 arg9 harg9 arg10 harg10 hc x0 x1 x2 x3 x4 )]
  unfold kernelRun0_A
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S512x256) hz2, View.ld_unit_zero (S := S2048x256) hz2, View.ld_unit_zero (S := S2048x512) hz2, View.ld_unit_zero (S := S512x512) hz2, View.ld_unit_zero (S := S1x2x128) hz3, lgF, lgB]

theorem out_A_6 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S512x512 .bf16) (harg5 : arg5.IsWhole) (arg6 : Memref sig .tc .vmem S1x2x128 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x512 .f32) (harg9 : arg9.IsWhole) (arg10 : Memref sig .tc .vmem S1x2x128 .f32) (harg10 : arg10.IsWhole) (hc : cond0_0 i)
    (x0 : Vec F S512x256 .bf16) (x1 : Vec F S2048x256 .bf16) (x2 : Vec F S2048x512 .f32) (x3 : Vec F S512x512 .bf16) (x4 : Vec F S1x2x128 .f32)  :
    out0_A_6 c i arg2 harg2 arg3 harg3 arg4 harg4 arg5 harg5 arg6 harg6 arg7 harg7 arg8 harg8 arg9 harg9 arg10 harg10 hc x0 x1 x2 x3 x4
      = k0_pay14 x0 (k0_pay7 i (lgF x4) (lgB x4)) (k0_pay9 x2 x3) k0_pay2 := by
  unfold out0_A_6
  rw [View.read_writes_eq_canon _ _ _ (cover0_A_6 c i arg2 harg2 arg3 harg3 arg4 harg4 arg5 harg5 arg6 harg6 arg7 harg7 arg8 harg8 arg9 harg9 arg10 harg10 hc x0 x1 x2 x3 x4 )]
  unfold kernelRun0_A
  dsimp only
  sl_unfold_words
  rw [View.canon_cons_unit_zero (S := S2048x256) hz2, View.readCov_unit_zero (S := S2048x256) _ hz2]
  simp only [View.readAt_eq_ld, harg2.read_unread, harg3.read_unread, harg4.read_unread, harg5.read_unread, harg6.read_unread, harg8.read_unread, harg9.read_unread, harg10.read_unread, View.ld_unit_zero (S := S512x256) hz2, View.ld_unit_zero (S := S2048x256) hz2, View.ld_unit_zero (S := S2048x512) hz2, View.ld_unit_zero (S := S512x512) hz2, View.ld_unit_zero (S := S1x2x128) hz3, lgF, lgB]

theorem out_A_7 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S512x512 .bf16) (harg5 : arg5.IsWhole) (arg6 : Memref sig .tc .vmem S1x2x128 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x512 .f32) (harg9 : arg9.IsWhole) (arg10 : Memref sig .tc .vmem S1x2x128 .f32) (harg10 : arg10.IsWhole) (hc : cond0_0 i)
    (x0 : Vec F S512x256 .bf16) (x1 : Vec F S2048x256 .bf16) (x2 : Vec F S2048x512 .f32) (x3 : Vec F S512x512 .bf16) (x4 : Vec F S1x2x128 .f32)  :
    out0_A_7 c i arg2 harg2 arg3 harg3 arg4 harg4 arg5 harg5 arg6 harg6 arg7 harg7 arg8 harg8 arg9 harg9 arg10 harg10 hc x0 x1 x2 x3 x4
      = k0_pay11 x3 (k0_pay8 i x0 x1 (lgF x4) (lgB x4)) (k0_pay10 k0_pay3) := by
  unfold out0_A_7
  rw [View.read_writes_eq_canon _ _ _ (cover0_A_7 c i arg2 harg2 arg3 harg3 arg4 harg4 arg5 harg5 arg6 harg6 arg7 harg7 arg8 harg8 arg9 harg9 arg10 harg10 hc x0 x1 x2 x3 x4 )]
  unfold kernelRun0_A
  dsimp only
  sl_unfold_words
  rw [View.canon_cons_unit_zero (S := S2048x512) hz2, View.readCov_unit_zero (S := S2048x512) _ hz2]
  simp only [View.readAt_eq_ld, harg2.read_unread, harg3.read_unread, harg4.read_unread, harg5.read_unread, harg6.read_unread, harg8.read_unread, harg9.read_unread, harg10.read_unread, View.ld_unit_zero (S := S512x256) hz2, View.ld_unit_zero (S := S2048x256) hz2, View.ld_unit_zero (S := S2048x512) hz2, View.ld_unit_zero (S := S512x512) hz2, View.ld_unit_zero (S := S1x2x128) hz3, lgF, lgB]

theorem out_A_8 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S512x512 .bf16) (harg5 : arg5.IsWhole) (arg6 : Memref sig .tc .vmem S1x2x128 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x512 .f32) (harg9 : arg9.IsWhole) (arg10 : Memref sig .tc .vmem S1x2x128 .f32) (harg10 : arg10.IsWhole) (hc : cond0_0 i)
    (x0 : Vec F S512x256 .bf16) (x1 : Vec F S2048x256 .bf16) (x2 : Vec F S2048x512 .f32) (x3 : Vec F S512x512 .bf16) (x4 : Vec F S1x2x128 .f32)  :
    out0_A_8 c i arg2 harg2 arg3 harg3 arg4 harg4 arg5 harg5 arg6 harg6 arg7 harg7 arg8 harg8 arg9 harg9 arg10 harg10 hc x0 x1 x2 x3 x4
      = k0_pay1 (k0_pay16 (k0_pay5 i) (k0_pay6 (F := F) i) (k0_pay8 i x0 x1 (lgF x4) (lgB x4)) (k0_pay9 x2 x3)) (k0_pay17 k0_pay4) k0_pay18 (k0_pay19 (k0_pay5 i) (k0_pay6 (F := F) i) (k0_pay8 i x0 x1 (lgF x4) (lgB x4)) (k0_pay9 x2 x3)) := by
  unfold out0_A_8
  rw [View.read_writes_eq_canon _ _ _ (cover0_A_8 c i arg2 harg2 arg3 harg3 arg4 harg4 arg5 harg5 arg6 harg6 arg7 harg7 arg8 harg8 arg9 harg9 arg10 harg10 hc x0 x1 x2 x3 x4 )]
  unfold kernelRun0_A
  dsimp only
  sl_unfold_words
  rw [View.canon_cons_unit_zero (S := S1x2x128) hz3, View.readCov_unit_zero (S := S1x2x128) _ hz3]
  simp only [View.readAt_eq_ld, harg2.read_unread, harg3.read_unread, harg4.read_unread, harg5.read_unread, harg6.read_unread, harg8.read_unread, harg9.read_unread, harg10.read_unread, View.ld_unit_zero (S := S512x256) hz2, View.ld_unit_zero (S := S2048x256) hz2, View.ld_unit_zero (S := S2048x512) hz2, View.ld_unit_zero (S := S512x512) hz2, View.ld_unit_zero (S := S1x2x128) hz3, lgF, lgB]

end Cert.KernelIdeal.Ret

end
-- ==== Proof.RetMath.lean ====
module

public import Idealize.ShloMosaic.Lib.Pointwise

@[expose] public section

set_option maxRecDepth 16384

noncomputable section

/-! # Retention's decay over the extended reals -/

namespace Cert.Ret

open Idealize.ShloMosaic

/-- The distance `n - m` of two positions, as an extended real. -/
def lag (n m : ℕ) : EReal := (((n : ℝ) - (m : ℝ) : ℝ) : EReal)

/-- The decay between the positions `n` and `m` with logarithms `f` (for `m` up to `n`) and `b` (for `m` after `n`). -/
def dec (f b : EReal) (n m : ℕ) : EReal := Ideal.exp (if m ≤ n then f * lag n m else -(b * lag n m))

theorem lag_nonneg (n m : ℕ) : 0 ≤ lag n m ↔ m ≤ n := by
  unfold lag
  rw [EReal.coe_nonneg, sub_nonneg, Nat.cast_le]

/-- The comparison of a distance with zero, as a one-bit word. -/
theorem cmp_lag (n m : ℕ) : Ideal.cmp .oge (lag n m) 0 = if m ≤ n then 1#1 else 0#1 := by
  have h := lag_nonneg n m
  by_cases hm : m ≤ n
  · simp [Ideal.cmp, hm, h.mpr hm]
  · have h' : ¬ (0 ≤ lag n m) := fun q => hm (h.mp q)
    simp [Ideal.cmp, hm, h']

/-- A choice by that word is a choice by the order of the positions. -/
theorem select_lag {α : Type} (n m : ℕ) (a b : α) :
    Scalar.select (if m ≤ n then 1#1 else 0#1) a b = if m ≤ n then a else b := by
  by_cases hm : m ≤ n
  · simp [hm, Scalar.select]
  · simp [hm, Scalar.select]

/-- A sum over `a * b` positions, `b` at a time. -/
theorem sum_tiles {M : Type} [AddCommMonoid M] (a b : ℕ) {N : ℕ} (hN : N = a * b) (f : Fin N → M)
    (row : ℕ → Fin b → Fin N) (hrow : ∀ s, s < a → ∀ r, (row s r).val = b * s + r.val) :
    ∑ s ∈ Finset.range a, ∑ r : Fin b, f (row s r) = ∑ n, f n := by
  subst hN
  rw [Finset.sum_range, ← Fintype.sum_prod_type' (fun (s : Fin a) r => f (row s r))]
  refine Fintype.sum_equiv finProdFinEquiv _ _ fun p => congrArg f (Fin.ext ?_)
  rw [hrow _ p.1.isLt]
  simp [finProdFinEquiv]
  ring

end Cert.Ret

end
-- ==== Proof.RetPay.lean ====
module

public import proofs.«01_k».proof.Proof.RetBlock
public import proofs.«01_k».proof.Proof.RetMath

@[expose] public section

set_option maxRecDepth 16384

noncomputable section

namespace Cert.KernelIdeal.Ret

open Cert.KernelIdeal Cert.KernelIdeal.Gen Idealize.ShloMosaic Idealize.ShloMosaic.TcCoe Idealize.SL.Sem

theorem pay13_apply (k : Vec Ideal S2048x256 .bf16) (D G : FVec Ideal S512x2048 .f32) (r : Fin 512) (d : Fin 256) :
    k0_pay13 k D G (ix2 r d) = ∑ c : Fin 2048, (G (ix2 r c) * D (ix2 r c)) * k (ix2 c d) := by
  unfold k0_pay13 k0_pay12
  pointwise [dot_S512x2048_S2048x256_S512x256_1_0_0_1_n_n]
  done

theorem pay14_apply (q : Vec Ideal S512x256 .bf16) (D G : FVec Ideal S512x2048 .f32) (p : Vec Ideal S2048x256 .f32) (c : Fin 2048) (d : Fin 256) :
    k0_pay14 q D G p (ix2 c d) = p (ix2 c d) + ∑ r : Fin 512, (G (ix2 r c) * D (ix2 r c)) * q (ix2 r d) := by
  unfold k0_pay14 k0_pay12
  pointwise [dot_S512x2048_S512x256_S2048x256_0_0_1_1_n_n]
  done

theorem pay11_apply (y : Vec Ideal S512x512 .bf16) (P : FVec Ideal S512x2048 .f32) (p : Vec Ideal S2048x512 .f32) (c : Fin 2048) (d : Fin 512) :
    k0_pay11 y P (k0_pay10 p) (ix2 c d) = p (ix2 c d) + ∑ r : Fin 512, P (ix2 r c) * y (ix2 r d) := by
  unfold k0_pay11 k0_pay10
  pointwise [dot_S512x2048_S512x512_S2048x512_0_0_1_1_n_n]
  done

theorem pay9_apply (v : Vec Ideal S2048x512 .f32) (y : Vec Ideal S512x512 .bf16) (r : Fin 512) (c : Fin 2048) :
    k0_pay9 v y (ix2 r c) = ∑ e : Fin 512, y (ix2 r e) * v (ix2 c e) := by
  unfold k0_pay9
  pointwise [dot_S512x512_S2048x512_S512x2048_1_1_0_0_n_n]
  done

theorem pay8_apply (i : grid0.Coords) (q : Vec Ideal S512x256 .bf16) (k : Vec Ideal S2048x256 .bf16) (a b : Vec Ideal S1x1x1 .f32) (r : Fin 512) (c : Fin 2048) :
    k0_pay8 i q k a b (ix2 r c) = (∑ e : Fin 256, q (ix2 r e) * k (ix2 c e)) * k0_pay7 i a b (ix2 r c) := by
  unfold k0_pay8
  pointwise [dot_S512x256_S2048x256_S512x2048_1_1_0_0_n_n]
  done

theorem pay5_apply (i : grid0.Coords) (r : Fin 512) (c : Fin 2048) :
    k0_pay5 (F := Ideal) i (ix2 r c) = Cert.Ret.lag (512 * (i 1).val + r.val) c.val := by
  unfold k0_pay5
  pointwise
  have hi : (i 1).val < 4 := (i 1).isLt
  have hr := r.isLt
  have hc := c.isLt
  generalize (i 1).val = n at hi ⊢
  have e : (IntOp.subi (IntOp.addi (Scalar.muli (BitVec.ofNat 32 n) 512#32) (BitVec.ofNat 32 r.val)) (BitVec.ofNat 32 c.val)).toInt
      = (512 * n + r.val : ℤ) - c.val := by
    show ((BitVec.ofNat 32 n * 512#32 + BitVec.ofNat 32 r.val) - BitVec.ofNat 32 c.val).toInt = _
    have e1 : (BitVec.ofNat 32 n * 512#32 + BitVec.ofNat 32 r.val).toInt = (512 * n + r.val : ℤ) := by
      rw [BitVec.toInt_eq_toNat_of_lt]
      · simp only [BitVec.toNat_add, BitVec.toNat_mul, BitVec.toNat_ofNat]; omega
      · simp only [BitVec.toNat_add, BitVec.toNat_mul, BitVec.toNat_ofNat]; omega
    have e2 : (BitVec.ofNat 32 c.val).toInt = (c.val : ℤ) := by
      rw [BitVec.toInt_eq_toNat_of_lt]
      · simp only [BitVec.toNat_ofNat]; omega
      · simp only [BitVec.toNat_ofNat]; omega
    rw [BitVec.toInt_sub, e1, e2, Int.bmod_eq_of_le (by omega) (by omega)]
  show (((IntOp.subi (IntOp.addi (Scalar.muli (BitVec.ofNat 32 n) 512#32) (BitVec.ofNat 32 r.val)) (BitVec.ofNat 32 c.val)).toInt : ℝ) : EReal) = _
  rw [e]
  unfold Cert.Ret.lag
  push_cast
  rfl

theorem pay6_apply (i : grid0.Coords) (r : Fin 512) (c : Fin 2048) :
    k0_pay6 (F := Ideal) i (ix2 r c) = if c.val ≤ 512 * (i 1).val + r.val then 1#1 else 0#1 := by
  rw [← Cert.Ret.cmp_lag, ← pay5_apply i r c]
  unfold k0_pay6
  pointwise
  done

theorem pay7_apply (i : grid0.Coords) (a b : Vec Ideal S1x1x1 .f32) (r : Fin 512) (c : Fin 2048) :
    k0_pay7 i a b (ix2 r c) = Cert.Ret.dec (a (ix3 0 0 0)) (b (ix3 0 0 0)) (512 * (i 1).val + r.val) c.val := by
  have e : k0_pay7 i a b (ix2 r c) = Ideal.exp (Scalar.select (k0_pay6 (F := Ideal) i (ix2 r c)) (a (ix3 0 0 0) * k0_pay5 (F := Ideal) i (ix2 r c))
        ((0 - b (ix3 0 0 0)) * k0_pay5 (F := Ideal) i (ix2 r c))) := by
    unfold k0_pay7
    pointwise
    done
  rw [e, pay6_apply, pay5_apply, Cert.Ret.select_lag, zero_sub, EReal.neg_mul]
  rfl

theorem pay19_apply (X : FVec Ideal S512x2048 .f32) (M : IVec S512x2048 1) (P G : FVec Ideal S512x2048 .f32) :
    k0_pay19 X M P G (ix2 0 0) = ∑ r : Fin 512, ∑ c : Fin 2048, Scalar.select (M (ix2 r c)) (G (ix2 r c) * P (ix2 r c) * X (ix2 r c)) 0 := by
  unfold k0_pay19 k0_pay15
  pointwise
  done

theorem pay16_apply (X : FVec Ideal S512x2048 .f32) (M : IVec S512x2048 1) (P G : FVec Ideal S512x2048 .f32) :
    k0_pay16 X M P G (ix2 0 0) = ∑ r : Fin 512, ∑ c : Fin 2048, Scalar.select (M (ix2 r c)) 0 (0 - G (ix2 r c) * P (ix2 r c) * X (ix2 r c)) := by
  unfold k0_pay16 k0_pay15
  pointwise
  done

theorem pay1_apply (a b : FVec Ideal S1x1 .f32) (p : Vec Ideal S1x2x128 .f32) (w : Fin 2) (l : Fin 128) :
    k0_pay1 a (k0_pay17 p) k0_pay18 b (ix3 0 w l) = p (ix3 0 w l) + if w = 0 then b (ix2 0 0) else a (ix2 0 0) := by
  unfold k0_pay1 k0_pay17 k0_pay18
  pointwise
  fin_cases w
  · rfl
  · rfl

theorem pay2_apply (j : S2048x256.Idx) : k0_pay2 (F := Ideal) j = 0 := by
  unfold k0_pay2
  pointwise
  done
theorem pay3_apply (j : S2048x512.Idx) : k0_pay3 (F := Ideal) j = 0 := by
  unfold k0_pay3
  pointwise
  done
theorem pay4_apply (j : S1x2x128.Idx) : k0_pay4 (F := Ideal) j = 0 := by
  unfold k0_pay4
  pointwise
  done

theorem lgF_apply (x : Vec Ideal S1x2x128 .f32) : lgF x (ix3 0 0 0) = x (ix3 0 0 0) := by
  unfold lgF
  pointwise
  done
theorem lgB_apply (x : Vec Ideal S1x2x128 .f32) : lgB x (ix3 0 0 0) = x (ix3 0 1 0) := by
  unfold lgB
  pointwise
  done

end Cert.KernelIdeal.Ret

end
-- ==== Proof.RetArr.lean ====
module

public import proofs.«01_k».proof.Proof.RetPay
public import proofs.«01_k».proof.Proof.Gen.KernelIdeal.Value
public import Idealize.ShloMosaic.Lib.StableHlo.Run

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Ret

/-! ## The gradients as functions of the argument arrays -/

/-- Row `r` of the `s`-th tile of 512 rows. -/
def row (s : ℕ) (r : Fin 512) : Fin 2048 := ⟨(512 * s + r.val) % 2048, Nat.mod_lt _ (by decide)⟩
/-- Column `d` of head `h` among the columns of `q` and `k`. -/
def colQ (h : ℕ) (d : Fin 256) : Fin 1024 := ⟨(256 * h + d.val) % 1024, Nat.mod_lt _ (by decide)⟩
/-- Column `e` of head `h` among the columns of `dy`. -/
def colY (h : ℕ) (e : Fin 512) : Fin 2048 := ⟨(512 * h + e.val) % 2048, Nat.mod_lt _ (by decide)⟩
/-- Column `e` of head `h` of `v` among the columns of the projection. -/
def colV (h : ℕ) (e : Fin 512) : Fin 12288 := ⟨2048 + (512 * h + e.val) % 2048, by have := Nat.mod_lt (512 * h + e.val) (show 0 < 2048 by decide); omega⟩
/-- Head `h` among the heads. -/
def headOf (h : ℕ) : Fin 4 := ⟨h % 4, Nat.mod_lt _ (by decide)⟩

section Fns
variable (q k : S2048x1024.Idx → EReal) (p : S2048x12288.Idx → EReal) (y : S2048x2048.Idx → EReal) (g : S2x4.Idx → EReal)

/-- `q_n · k_m` in head `h`. -/
def sc (h : ℕ) (n m : Fin 2048) : EReal := ∑ d : Fin 256, q (ix2 n (colQ h d)) * k (ix2 m (colQ h d))
/-- `dy_n · v_m` in head `h`: the cotangent of the weight of position `m` at position `n`. -/
def gy (h : ℕ) (n m : Fin 2048) : EReal := ∑ e : Fin 512, y (ix2 n (colY h e)) * p (ix2 m (colV h e))
/-- The decay of head `h` from `m` to `n`. -/
def dk (h : ℕ) (n m : Fin 2048) : EReal := dec (g (ix2 0 (headOf h))) (g (ix2 1 (headOf h))) n.val m.val

/-- The gradient of `q`. -/
def gradQ : S2048x1024.Idx → EReal := fun j =>
  ∑ m : Fin 2048, (gy p y ((j 1).val / 256) (j 0) m * dk g ((j 1).val / 256) (j 0) m) * k (ix2 m (j 1))
/-- The gradient of `k`. -/
def gradK : S2048x1024.Idx → EReal := fun j =>
  ∑ n : Fin 2048, (gy p y ((j 1).val / 256) n (j 0) * dk g ((j 1).val / 256) n (j 0)) * q (ix2 n (j 1))
/-- The gradient of `v`. -/
def gradV : S2048x2048.Idx → EReal := fun j =>
  ∑ n : Fin 2048, (sc q k ((j 1).val / 512) n (j 0) * dk g ((j 1).val / 512) n (j 0)) * y (ix2 n (j 1))
/-- What positions `n` and `m` add to the gradient of the decays' logarithms of head `h`, at `m` up to `n` and after. -/
def addF (h : ℕ) (n m : Fin 2048) : EReal :=
  if m.val ≤ n.val then gy p y h n m * (sc q k h n m * dk g h n m) * lag n.val m.val else 0
def addB (h : ℕ) (n m : Fin 2048) : EReal :=
  if m.val ≤ n.val then 0 else 0 - gy p y h n m * (sc q k h n m * dk g h n m) * lag n.val m.val
/-- The gradient of the decays' logarithms: row 0 forward, row 1 backward, the same in each lane. -/
def gradG : S4x2x128.Idx → EReal := fun j =>
  ∑ n : Fin 2048, ∑ m : Fin 2048, if (j 1).val = 0 then addF q k p y g (j 0).val n m else addB q k p y g (j 0).val n m
end Fns

/-! ## The blocks a grid point reads -/

variable (m : (ℓ : Loc nD τ sig) → Buf (Elt Ideal) ℓ) (ρ : Dev nD → PrngReg) (c : Dev nD)

abbrev argQ : S2048x1024.Idx → EReal := m ((c : Thread nD τ).loc main_arg0)
abbrev argK : S2048x1024.Idx → EReal := m ((c : Thread nD τ).loc main_arg1)
abbrev argP : S2048x12288.Idx → EReal := m ((c : Thread nD τ).loc main_arg2)
abbrev argY : S2048x2048.Idx → EReal := m ((c : Thread nD τ).loc main_arg3)
abbrev argG : S2x4.Idx → EReal := m ((c : Thread nD τ).loc main_arg4)

theorem V_lg : V m c main_v2 = broadcastInDim S4x2x128 ![0, 1, 2] bcast_S4x2x1_S4x2x128_0_1_2 (broadcastInDim S4x2x1 ![0, 1] bcast_S4x2_S4x2x1_0_1
    (transpose S4x2 [1, 0] (m ((c : Thread nD τ).loc main_arg4)) transposes_S2x4_S4x2_1_0)) := by
  show StableHlo.after hostOps0 (fun b => m (c, b)) main_v2 = _
  unfold hostOps0
  after_results

theorem coords1 : ∀ t : Fin cfg0.N, ((grid0.coords t) 1).val = t.val % 4 :=
  (by decide +kernel : ∀ t : Fin grid0.N, ((grid0.coords t) 1).val = t.val % 4)
theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = 0 ∧ win0_1.index t 1 = t.val / 4 :=
  (by decide +kernel : ∀ t : Fin grid0.N, win0_1.index t 0 = 0 ∧ win0_1.index t 1 = t.val / 4)
theorem idx2 : ∀ t : Fin cfg0.N, win0_2.index t 0 = 0 ∧ win0_2.index t 1 = 4 + t.val / 4 :=
  (by decide +kernel : ∀ t : Fin grid0.N, win0_2.index t 0 = 0 ∧ win0_2.index t 1 = 4 + t.val / 4)
theorem idx3 : ∀ t : Fin cfg0.N, win0_3.index t 0 = t.val % 4 ∧ win0_3.index t 1 = t.val / 4 :=
  (by decide +kernel : ∀ t : Fin grid0.N, win0_3.index t 0 = t.val % 4 ∧ win0_3.index t 1 = t.val / 4)
theorem idx4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)
theorem lt16 (t : Fin cfg0.N) : t.val < 16 := N_0 ▸ t.isLt

theorem iblkQ (t : Fin cfg0.N) (r : Fin 512) (d : Fin 256) :
    (iblk m c 0 t : Vec Ideal S512x256 .bf16) (ix2 r d) = argQ m c (ix2 (row (t.val % 4) r) (colQ (t.val / 4) d)) := by
  have ht := lt16 t
  have hr := r.isLt
  have hd := d.isLt
  unfold iblk
  rw [View.read_apply]
  show V m c main_arg0 _ = _
  rw [V_main_arg0]
  refine congrArg (argQ m c) (funext fun a => Fin.ext ?_)
  match a with
  | ⟨0, _⟩ => show win0_0.index t 0 * 512 + 1 * r.val = (512 * (t.val % 4) + r.val) % 2048; rw [(idx0 t).1]; omega
  | ⟨1, _⟩ => show win0_0.index t 1 * 256 + 1 * d.val = (256 * (t.val / 4) + d.val) % 1024; rw [(idx0 t).2]; omega

theorem iblkK (t : Fin cfg0.N) (r : Fin 2048) (d : Fin 256) :
    (iblk m c 1 t : Vec Ideal S2048x256 .bf16) (ix2 r d) = argK m c (ix2 r (colQ (t.val / 4) d)) := by
  have ht := lt16 t
  have hr := r.isLt
  have hd := d.isLt
  unfold iblk
  rw [View.read_apply]
  show V m c main_arg1 _ = _
  rw [V_main_arg1]
  refine congrArg (argK m c) (funext fun a => Fin.ext ?_)
  match a with
  | ⟨0, _⟩ => show win0_1.index t 0 * 2048 + 1 * r.val = r.val; rw [(idx1 t).1]; omega
  | ⟨1, _⟩ => show win0_1.index t 1 * 256 + 1 * d.val = (256 * (t.val / 4) + d.val) % 1024; rw [(idx1 t).2]; omega

theorem iblkV (t : Fin cfg0.N) (r : Fin 2048) (d : Fin 512) :
    (iblk m c 2 t : Vec Ideal S2048x512 .f32) (ix2 r d) = argP m c (ix2 r (colV (t.val / 4) d)) := by
  have ht := lt16 t
  have hr := r.isLt
  have hd := d.isLt
  unfold iblk
  rw [View.read_apply]
  show V m c main_arg2 _ = _
  rw [V_main_arg2]
  refine congrArg (argP m c) (funext fun a => Fin.ext ?_)
  match a with
  | ⟨0, _⟩ => show win0_2.index t 0 * 2048 + 1 * r.val = r.val; rw [(idx2 t).1]; omega
  | ⟨1, _⟩ => show win0_2.index t 1 * 512 + 1 * d.val = 2048 + (512 * (t.val / 4) + d.val) % 2048; rw [(idx2 t).2]; omega

theorem iblkY (t : Fin cfg0.N) (r : Fin 512) (d : Fin 512) :
    (iblk m c 3 t : Vec Ideal S512x512 .bf16) (ix2 r d) = argY m c (ix2 (row (t.val % 4) r) (colY (t.val / 4) d)) := by
  have ht := lt16 t
  have hr := r.isLt
  have hd := d.isLt
  unfold iblk
  rw [View.read_apply]
  show V m c main_arg3 _ = _
  rw [V_main_arg3]
  refine congrArg (argY m c) (funext fun a => Fin.ext ?_)
  match a with
  | ⟨0, _⟩ => show win0_3.index t 0 * 512 + 1 * r.val = (512 * (t.val % 4) + r.val) % 2048; rw [(idx3 t).1]; omega
  | ⟨1, _⟩ => show win0_3.index t 1 * 512 + 1 * d.val = (512 * (t.val / 4) + d.val) % 2048; rw [(idx3 t).2]; omega

theorem iblkG (t : Fin cfg0.N) (w : Fin 2) (l : Fin 128) :
    (iblk m c 4 t : Vec Ideal S1x2x128 .f32) (ix3 0 w l) = argG m c (ix2 w (headOf (t.val / 4))) := by
  have ht := lt16 t
  unfold iblk
  rw [View.read_apply]
  show V m c main_v2 _ = _
  rw [V_lg]
  have e : ((cfg0.win 4).blk t).view.emb (ix3 (0 : Fin 1) w l : S1x2x128.Idx) = (ix3 (headOf (t.val / 4)) w l : S4x2x128.Idx) := by
    refine funext fun a => Fin.ext ?_
    match a with
    | ⟨0, _⟩ => show win0_4.index t 0 * 1 + 1 * 0 = t.val / 4 % 4; rw [(idx4 t).1]; omega
    | ⟨1, _⟩ => show win0_4.index t 1 * 2 + 1 * w.val = w.val; rw [(idx4 t).2.1]; omega
    | ⟨2, _⟩ => show win0_4.index t 2 * 128 + 1 * l.val = l.val; rw [(idx4 t).2.2]; omega
  refine (congrArg _ e).trans ?_
  pointwise
  done

end Cert.KernelIdeal.Ret

end
-- ==== Proof.RetAcc.lean ====
module

public import proofs.«01_k».proof.Proof.RetArr

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Ret

variable (m : (ℓ : Loc nD τ sig) → Buf (Elt Ideal) ℓ) (ρ : Dev nD → PrngReg) (c : Dev nD)

/-! ## What a grid point computes of its blocks -/

theorem row_val (t : Fin cfg0.N) (r : Fin 512) : 512 * ((grid0.coords t) 1).val + r.val = (row (t.val % 4) r).val := by
  have hr := r.isLt
  rw [coords1]
  show _ = (512 * (t.val % 4) + r.val) % 2048
  omega

theorem blkG (t : Fin cfg0.N) (r : Fin 512) (n : Fin 2048) :
    k0_pay9 (iblk m c 2 t) (iblk m c 3 t) (ix2 r n) = gy (argP m c) (argY m c) (t.val / 4) (row (t.val % 4) r) n := by
  rw [pay9_apply]
  exact Finset.sum_congr rfl fun e _ => by rw [iblkY, iblkV]

theorem blkD (t : Fin cfg0.N) (r : Fin 512) (n : Fin 2048) :
    k0_pay7 (grid0.coords t) (lgF (iblk m c 4 t)) (lgB (iblk m c 4 t)) (ix2 r n)
      = dk (argG m c) (t.val / 4) (row (t.val % 4) r) n := by
  rw [pay7_apply, lgF_apply, lgB_apply, iblkG, iblkG, row_val]
  rfl

theorem blkP (t : Fin cfg0.N) (r : Fin 512) (n : Fin 2048) :
    k0_pay8 (grid0.coords t) (iblk m c 0 t) (iblk m c 1 t) (lgF (iblk m c 4 t)) (lgB (iblk m c 4 t)) (ix2 r n)
      = sc (argQ m c) (argK m c) (t.val / 4) (row (t.val % 4) r) n * dk (argG m c) (t.val / 4) (row (t.val % 4) r) n := by
  rw [pay8_apply, blkD]
  congr 1
  exact Finset.sum_congr rfl fun e _ => by rw [iblkQ, iblkK]

/-- What the tile of rows `s` adds to the gradient of `k` in head `h`. -/
def tileK (h s : ℕ) (n : Fin 2048) (d : Fin 256) : EReal :=
  ∑ r : Fin 512, (gy (argP m c) (argY m c) h (row s r) n * dk (argG m c) h (row s r) n) * argQ m c (ix2 (row s r) (colQ h d))
/-- … to the gradient of `v`. -/
def tileV (h s : ℕ) (n : Fin 2048) (e : Fin 512) : EReal :=
  ∑ r : Fin 512, (sc (argQ m c) (argK m c) h (row s r) n * dk (argG m c) h (row s r) n) * argY m c (ix2 (row s r) (colY h e))
/-- … to the gradient of the decays' logarithms. -/
def tileG (h s : ℕ) (w : Fin 2) : EReal :=
  ∑ r : Fin 512, ∑ n : Fin 2048, if w.val = 0 then addF (argQ m c) (argK m c) (argP m c) (argY m c) (argG m c) h (row s r) n
    else addB (argQ m c) (argK m c) (argP m c) (argY m c) (argG m c) h (row s r) n

theorem blkK (t : Fin cfg0.N) (p : Vec Ideal S2048x256 .f32) (n : Fin 2048) (d : Fin 256) :
    k0_pay14 (iblk m c 0 t) (k0_pay7 (grid0.coords t) (lgF (iblk m c 4 t)) (lgB (iblk m c 4 t))) (k0_pay9 (iblk m c 2 t) (iblk m c 3 t)) p (ix2 n d)
      = p (ix2 n d) + tileK m c (t.val / 4) (t.val % 4) n d := by
  rw [pay14_apply]
  congr 1
  exact Finset.sum_congr rfl fun r _ => by rw [blkG, blkD, iblkQ]

theorem blkV (t : Fin cfg0.N) (p : Vec Ideal S2048x512 .f32) (n : Fin 2048) (e : Fin 512) :
    k0_pay11 (iblk m c 3 t) (k0_pay8 (grid0.coords t) (iblk m c 0 t) (iblk m c 1 t) (lgF (iblk m c 4 t)) (lgB (iblk m c 4 t))) (k0_pay10 p) (ix2 n e)
      = p (ix2 n e) + tileV m c (t.val / 4) (t.val % 4) n e := by
  rw [pay11_apply]
  congr 1
  exact Finset.sum_congr rfl fun r _ => by rw [blkP, iblkY]

theorem blkQ (t : Fin cfg0.N) (r : Fin 512) (d : Fin 256) :
    k0_pay13 (iblk m c 1 t) (k0_pay7 (grid0.coords t) (lgF (iblk m c 4 t)) (lgB (iblk m c 4 t))) (k0_pay9 (iblk m c 2 t) (iblk m c 3 t)) (ix2 r d)
      = ∑ n : Fin 2048, (gy (argP m c) (argY m c) (t.val / 4) (row (t.val % 4) r) n * dk (argG m c) (t.val / 4) (row (t.val % 4) r) n) * argK m c (ix2 n (colQ (t.val / 4) d)) := by
  rw [pay13_apply]
  exact Finset.sum_congr rfl fun n _ => by rw [blkG, blkD, iblkK]

theorem blkL (t : Fin cfg0.N) (p : Vec Ideal S1x2x128 .f32) (w : Fin 2) (l : Fin 128) :
    k0_pay1 (k0_pay16 (k0_pay5 (grid0.coords t)) (k0_pay6 (F := Ideal) (grid0.coords t)) (k0_pay8 (grid0.coords t) (iblk m c 0 t) (iblk m c 1 t) (lgF (iblk m c 4 t)) (lgB (iblk m c 4 t))) (k0_pay9 (iblk m c 2 t) (iblk m c 3 t)))
        (k0_pay17 p) k0_pay18
        (k0_pay19 (k0_pay5 (grid0.coords t)) (k0_pay6 (F := Ideal) (grid0.coords t)) (k0_pay8 (grid0.coords t) (iblk m c 0 t) (iblk m c 1 t) (lgF (iblk m c 4 t)) (lgB (iblk m c 4 t))) (k0_pay9 (iblk m c 2 t) (iblk m c 3 t))) (ix3 0 w l)
      = p (ix3 0 w l) + tileG m c (t.val / 4) (t.val % 4) w := by
  rw [pay1_apply]
  congr 1
  unfold tileG
  by_cases hw : w = 0
  · subst hw
    rw [if_pos rfl, pay19_apply]
    refine Finset.sum_congr rfl fun r _ => Finset.sum_congr rfl fun n _ => ?_
    rw [pay6_apply, pay5_apply, select_lag, blkG, blkP, row_val, if_pos (show (0 : Fin 2).val = 0 from rfl)]
    rfl
  · have hw' : ¬ w.val = 0 := fun e => hw (Fin.ext e)
    rw [if_neg hw, pay16_apply]
    refine Finset.sum_congr rfl fun r _ => Finset.sum_congr rfl fun n _ => ?_
    rw [pay6_apply, pay5_apply, select_lag, blkG, blkP, row_val, if_neg hw']
    rfl

/-! ## What the output buffers hold after a grid point -/

theorem outQ (t : Fin cfg0.N) (r : Fin 512) (d : Fin 256) :
    (outsAt0 m c t.val t.isLt).1 (ix2 r d)
      = ∑ n : Fin 2048, (gy (argP m c) (argY m c) (t.val / 4) (row (t.val % 4) r) n * dk (argG m c) (t.val / 4) (row (t.val % 4) r) n) * argK m c (ix2 n (colQ (t.val / 4) d)) := by
  by_cases h0 : t.val % 4 = 0
  · rw [outsAt0_A m c t h0]
    dsimp only
    rw [out_A_5, blkQ]
  · rw [outsAt0_B m c t h0]
    dsimp only
    rw [out_B_5, blkQ]

theorem outAcc : ∀ (n : ℕ) (hn : n < cfg0.N),
    (∀ (x : Fin 2048) (d : Fin 256), (outsAt0 m c n hn).2.1 (ix2 x d) = ∑ s ∈ Finset.range (n % 4 + 1), tileK m c (n / 4) s x d)
    ∧ (∀ (x : Fin 2048) (e : Fin 512), (outsAt0 m c n hn).2.2.1 (ix2 x e) = ∑ s ∈ Finset.range (n % 4 + 1), tileV m c (n / 4) s x e)
    ∧ (∀ (w : Fin 2) (l : Fin 128), (outsAt0 m c n hn).2.2.2 (ix3 0 w l) = ∑ s ∈ Finset.range (n % 4 + 1), tileG m c (n / 4) s w) := by
  intro n
  induction n with
  | zero =>
    intro hn
    have e := outsAt0_A m c ⟨0, hn⟩ rfl
    rw [show outsAt0 m c 0 hn = outsAt0 m c (⟨0, hn⟩ : Fin cfg0.N).val (⟨0, hn⟩ : Fin cfg0.N).isLt from rfl, e]
    dsimp only
    refine ⟨fun x d => ?_, fun x d => ?_, fun w l => ?_⟩
    · rw [out_A_6, blkK, pay2_apply, zero_add]; simp
    · rw [out_A_7, blkV, pay3_apply, zero_add]; simp
    · rw [out_A_8, blkL, pay4_apply, zero_add]; simp
  | succ n ih =>
    intro hn
    by_cases h0 : (n + 1) % 4 = 0
    · have e := outsAt0_A m c ⟨n + 1, hn⟩ h0
      rw [show outsAt0 m c (n + 1) hn = outsAt0 m c (⟨n + 1, hn⟩ : Fin cfg0.N).val (⟨n + 1, hn⟩ : Fin cfg0.N).isLt from rfl, e]
      dsimp only
      refine ⟨fun x d => ?_, fun x d => ?_, fun w l => ?_⟩
      · rw [out_A_6, blkK, pay2_apply, zero_add]; simp [h0]
      · rw [out_A_7, blkV, pay3_apply, zero_add]; simp [h0]
      · rw [out_A_8, blkL, pay4_apply, zero_add]; simp [h0]
    · have e := outsAt0_B m c ⟨n + 1, hn⟩ h0
      obtain ⟨i1, i2, i3⟩ := ih (Nat.lt_of_succ_lt hn)
      have h1 : (n + 1) % 4 = n % 4 + 1 := by omega
      have h2 : (n + 1) / 4 = n / 4 := by omega
      rw [show outsAt0 m c (n + 1) hn = outsAt0 m c (⟨n + 1, hn⟩ : Fin cfg0.N).val (⟨n + 1, hn⟩ : Fin cfg0.N).isLt from rfl, e]
      dsimp only
      refine ⟨fun x d => ?_, fun x d => ?_, fun w l => ?_⟩
      · rw [out_B_6, blkK]
        refine (congrArg (fun z => z + tileK m c ((n + 1) / 4) ((n + 1) % 4) x d) (i1 x d)).trans ?_
        rw [h1, h2, Finset.sum_range_succ _ (n % 4 + 1)]
      · rw [out_B_7, blkV]
        refine (congrArg (fun z => z + tileV m c ((n + 1) / 4) ((n + 1) % 4) x d) (i2 x d)).trans ?_
        rw [h1, h2, Finset.sum_range_succ _ (n % 4 + 1)]
      · rw [out_B_8, blkL]
        refine (congrArg (fun x => x + tileG m c ((n + 1) / 4) ((n + 1) % 4) w) (i3 w l)).trans ?_
        rw [h1, h2, Finset.sum_range_succ _ (n % 4 + 1)]

end Cert.KernelIdeal.Ret

end
-- ==== Proof.RetOut.lean ====
module

public import proofs.«01_k».proof.Proof.RetAcc

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Ret

variable (m : (ℓ : Loc nD τ sig) → Buf (Elt Ideal) ℓ) (ρ : Dev nD → PrngReg) (c : Dev nD)

/-! ## The four tiles of rows add up to all the rows -/

theorem row_lt : ∀ s < 4, ∀ r : Fin 512, (row s r).val = 512 * s + r.val := fun s hs r => by
  have := r.isLt
  show (512 * s + r.val) % 2048 = _
  omega

theorem sumK (h : ℕ) (n : Fin 2048) (d : Fin 256) : ∑ s ∈ Finset.range 4, tileK m c h s n d
    = ∑ r : Fin 2048, (gy (argP m c) (argY m c) h r n * dk (argG m c) h r n) * argQ m c (ix2 r (colQ h d)) :=
  sum_tiles 4 512 (by decide) (fun r => (gy (argP m c) (argY m c) h r n * dk (argG m c) h r n) * argQ m c (ix2 r (colQ h d))) row row_lt

theorem sumV (h : ℕ) (n : Fin 2048) (e : Fin 512) : ∑ s ∈ Finset.range 4, tileV m c h s n e
    = ∑ r : Fin 2048, (sc (argQ m c) (argK m c) h r n * dk (argG m c) h r n) * argY m c (ix2 r (colY h e)) :=
  sum_tiles 4 512 (by decide) (fun r => (sc (argQ m c) (argK m c) h r n * dk (argG m c) h r n) * argY m c (ix2 r (colY h e))) row row_lt

theorem sumG (h : ℕ) (w : Fin 2) : ∑ s ∈ Finset.range 4, tileG m c h s w
    = ∑ r : Fin 2048, ∑ n : Fin 2048, if w.val = 0 then addF (argQ m c) (argK m c) (argP m c) (argY m c) (argG m c) h r n
      else addB (argQ m c) (argK m c) (argP m c) (argY m c) (argG m c) h r n :=
  sum_tiles 4 512 (by decide) (fun r => ∑ n : Fin 2048, if w.val = 0 then addF (argQ m c) (argK m c) (argP m c) (argY m c) (argG m c) h r n
      else addB (argQ m c) (argK m c) (argP m c) (argY m c) (argG m c) h r n) row row_lt

/-! ## Where an output's block lies in its array -/

theorem idx5 : ∀ t : Fin cfg0.N, win0_5.index t 0 = t.val % 4 ∧ win0_5.index t 1 = t.val / 4 :=
  (by decide +kernel : ∀ t : Fin grid0.N, win0_5.index t 0 = t.val % 4 ∧ win0_5.index t 1 = t.val / 4)
theorem idx6 : ∀ t : Fin cfg0.N, win0_6.index t 0 = 0 ∧ win0_6.index t 1 = t.val / 4 :=
  (by decide +kernel : ∀ t : Fin grid0.N, win0_6.index t 0 = 0 ∧ win0_6.index t 1 = t.val / 4)
theorem idx7 : ∀ t : Fin cfg0.N, win0_7.index t 0 = 0 ∧ win0_7.index t 1 = t.val / 4 :=
  (by decide +kernel : ∀ t : Fin grid0.N, win0_7.index t 0 = 0 ∧ win0_7.index t 1 = t.val / 4)
theorem idx8 : ∀ t : Fin cfg0.N, win0_8.index t 0 = t.val / 4 ∧ win0_8.index t 1 = 0 ∧ win0_8.index t 2 = 0 :=
  (by decide +kernel : ∀ t : Fin grid0.N, win0_8.index t 0 = t.val / 4 ∧ win0_8.index t 1 = 0 ∧ win0_8.index t 2 = 0)

theorem emb5 (t : Fin cfg0.N) (j : S512x256.Idx) : ((cfg0.win 5).blk t).view.emb j = ix2 (row (t.val % 4) (j 0)) (colQ (t.val / 4) (j 1)) := by
  have h := lt16 t
  have h0 : (j 0 : Nat) < 512 := (j 0).isLt
  have h1 : (j 1 : Nat) < 256 := (j 1).isLt
  funext a; apply Fin.ext
  match a with
  | ⟨0, _⟩ => show win0_5.index t 0 * 512 + 1 * (j 0).val = (512 * (t.val % 4) + (j 0).val) % 2048; rw [(idx5 t).1]; omega
  | ⟨1, _⟩ => show win0_5.index t 1 * 256 + 1 * (j 1).val = (256 * (t.val / 4) + (j 1).val) % 1024; rw [(idx5 t).2]; omega
theorem emb6 (t : Fin cfg0.N) (j : S2048x256.Idx) : ((cfg0.win 6).blk t).view.emb j = ix2 (j 0) (colQ (t.val / 4) (j 1)) := by
  have h := lt16 t
  have h1 : (j 1 : Nat) < 256 := (j 1).isLt
  funext a; apply Fin.ext
  match a with
  | ⟨0, _⟩ => show win0_6.index t 0 * 2048 + 1 * (j 0).val = (j 0).val; rw [(idx6 t).1]; omega
  | ⟨1, _⟩ => show win0_6.index t 1 * 256 + 1 * (j 1).val = (256 * (t.val / 4) + (j 1).val) % 1024; rw [(idx6 t).2]; omega
theorem emb7 (t : Fin cfg0.N) (j : S2048x512.Idx) : ((cfg0.win 7).blk t).view.emb j = ix2 (j 0) (colY (t.val / 4) (j 1)) := by
  have h := lt16 t
  have h1 : (j 1 : Nat) < 512 := (j 1).isLt
  funext a; apply Fin.ext
  match a with
  | ⟨0, _⟩ => show win0_7.index t 0 * 2048 + 1 * (j 0).val = (j 0).val; rw [(idx7 t).1]; omega
  | ⟨1, _⟩ => show win0_7.index t 1 * 512 + 1 * (j 1).val = (512 * (t.val / 4) + (j 1).val) % 2048; rw [(idx7 t).2]; omega
theorem emb8 (t : Fin cfg0.N) (j : S1x2x128.Idx) : ((cfg0.win 8).blk t).view.emb j = ix3 (headOf (t.val / 4)) (j 1) (j 2) := by
  have h := lt16 t
  have h0 : (j 0 : Nat) < 1 := (j 0).isLt
  funext a; apply Fin.ext
  match a with
  | ⟨0, _⟩ => show win0_8.index t 0 * 1 + 1 * (j 0).val = t.val / 4 % 4; rw [(idx8 t).1]; omega
  | ⟨1, _⟩ => show win0_8.index t 1 * 2 + 1 * (j 1).val = (j 1).val; rw [(idx8 t).2.1]; omega
  | ⟨2, _⟩ => show win0_8.index t 2 * 128 + 1 * (j 2).val = (j 2).val; rw [(idx8 t).2.2]; omega

/-! ## What each write-back writes -/

theorem headQ (t : Fin cfg0.N) (d : Fin 256) : (colQ (t.val / 4) d).val / 256 = t.val / 4 := by
  have h := lt16 t
  have hd := d.isLt
  show (256 * (t.val / 4) + d.val) % 1024 / 256 = _
  omega
theorem headY (t : Fin cfg0.N) (e : Fin 512) : (colY (t.val / 4) e).val / 512 = t.val / 4 := by
  have h := lt16 t
  have hd := e.isLt
  show (512 * (t.val / 4) + e.val) % 2048 / 512 = _
  omega
theorem headG (t : Fin cfg0.N) : (headOf (t.val / 4)).val = t.val / 4 := by
  have h := lt16 t
  show t.val / 4 % 4 = _
  omega

theorem at5 (t : Fin cfg0.N) (r : Fin 512) (d : Fin 256) : (outsAt0 m c t.val t.isLt).1 (ix2 r d)
    = gradQ (argK m c) (argP m c) (argY m c) (argG m c) (ix2 (row (t.val % 4) r) (colQ (t.val / 4) d)) := by
  rw [outQ]
  unfold gradQ
  simp only [ix2_0, ix2_1, headQ]
theorem at6 (t : Fin cfg0.N) (h3 : t.val % 4 = 3) (n : Fin 2048) (d : Fin 256) : (outsAt0 m c t.val t.isLt).2.1 (ix2 n d)
    = gradK (argQ m c) (argP m c) (argY m c) (argG m c) (ix2 n (colQ (t.val / 4) d)) := by
  rw [(outAcc m c t.val t.isLt).1, h3, sumK]
  unfold gradK
  simp only [ix2_0, ix2_1, headQ]
theorem at7 (t : Fin cfg0.N) (h3 : t.val % 4 = 3) (n : Fin 2048) (e : Fin 512) : (outsAt0 m c t.val t.isLt).2.2.1 (ix2 n e)
    = gradV (argQ m c) (argK m c) (argY m c) (argG m c) (ix2 n (colY (t.val / 4) e)) := by
  rw [(outAcc m c t.val t.isLt).2.1, h3, sumV]
  unfold gradV
  simp only [ix2_0, ix2_1, headY]
theorem at8 (t : Fin cfg0.N) (h3 : t.val % 4 = 3) (w : Fin 2) (l : Fin 128) : (outsAt0 m c t.val t.isLt).2.2.2 (ix3 0 w l)
    = gradG (argQ m c) (argK m c) (argP m c) (argY m c) (argG m c) (ix3 (headOf (t.val / 4)) w l) := by
  rw [(outAcc m c t.val t.isLt).2.2, h3, sumG]
  unfold gradG
  simp only [ix3_0, ix3_1, headG]

theorem flushed5_eq (t : Fin cfg0.N) : (dats m 0 c).flushed 5 t
    = ((cfg0.win 5).blk t).view.read (Elt Ideal) (gradQ (argK m c) (argP m c) (argY m c) (argG m c)) := by
  rw [Cert.KernelIdeal.Value.flushed5]
  funext j
  show (outsAt0 m c t.val t.isLt).1 j = gradQ (argK m c) (argP m c) (argY m c) (argG m c) (((cfg0.win 5).blk t).view.emb j)
  rw [emb5]
  exact (congrArg (outsAt0 m c t.val t.isLt).1 (eq_ix2 (n0 := 512) (n1 := 256) j)).trans (at5 m c t (j 0) (j 1))
theorem flushed6_eq (t : Fin cfg0.N) (hf : (cfg0.win 6).flush t = true) : (dats m 0 c).flushed 6 t
    = ((cfg0.win 6).blk t).view.read (Elt Ideal) (gradK (argQ m c) (argP m c) (argY m c) (argG m c)) := by
  rw [Cert.KernelIdeal.Value.flushed6]
  funext j
  show (outsAt0 m c t.val t.isLt).2.1 j = gradK (argQ m c) (argP m c) (argY m c) (argG m c) (((cfg0.win 6).blk t).view.emb j)
  rw [emb6]
  exact (congrArg (outsAt0 m c t.val t.isLt).2.1 (eq_ix2 (n0 := 2048) (n1 := 256) j)).trans (at6 m c t ((flush0_6 t).mp hf) (j 0) (j 1))
theorem flushed7_eq (t : Fin cfg0.N) (hf : (cfg0.win 7).flush t = true) : (dats m 0 c).flushed 7 t
    = ((cfg0.win 7).blk t).view.read (Elt Ideal) (gradV (argQ m c) (argK m c) (argY m c) (argG m c)) := by
  rw [Cert.KernelIdeal.Value.flushed7]
  funext j
  show (outsAt0 m c t.val t.isLt).2.2.1 j = gradV (argQ m c) (argK m c) (argY m c) (argG m c) (((cfg0.win 7).blk t).view.emb j)
  rw [emb7]
  exact (congrArg (outsAt0 m c t.val t.isLt).2.2.1 (eq_ix2 (n0 := 2048) (n1 := 512) j)).trans (at7 m c t ((flush0_7 t).mp hf) (j 0) (j 1))
theorem flushed8_eq (t : Fin cfg0.N) (hf : (cfg0.win 8).flush t = true) : (dats m 0 c).flushed 8 t
    = ((cfg0.win 8).blk t).view.read (Elt Ideal) (gradG (argQ m c) (argK m c) (argP m c) (argY m c) (argG m c)) := by
  rw [Cert.KernelIdeal.Value.flushed8]
  funext j
  show (outsAt0 m c t.val t.isLt).2.2.2 j = gradG (argQ m c) (argK m c) (argP m c) (argY m c) (argG m c) (((cfg0.win 8).blk t).view.emb j)
  rw [emb8]
  have e : (show S1x2x128.Idx from j) = ix3 (0 : Fin 1) (j 1) (j 2) := by
    refine (eq_ix3 (n0 := 1) (n1 := 2) (n2 := 128) j).trans ?_
    exact congrArg (fun z : Fin 1 => ix3 (n0 := 1) (n1 := 2) (n2 := 128) z (j 1) (j 2)) (Subsingleton.elim (α := Fin 1) _ _)
  exact (congrArg (outsAt0 m c t.val t.isLt).2.2.2 e).trans (at8 m c t ((flush0_8 t).mp hf) (j 1) (j 2))

/-! ## Every index is written back -/

/-- The point that handles tile `s` of head `h`. -/
def pt (h s : ℕ) (hh : h < 4) (hs : s < 4) : Fin cfg0.N := ⟨4 * h + s, by rw [show cfg0.N = 16 from N_0]; omega⟩

theorem cover5 (i : S2048x1024.Idx) : ∃ t : Fin cfg0.N, (cfg0.win 5).flush t = true ∧ i ∈ ((cfg0.win 5).blk t).view.set := by
  have h0 : (i 0 : Nat) < 2048 := (i 0).isLt
  have h1 : (i 1 : Nat) < 1024 := (i 1).isLt
  refine ⟨pt ((i 1 : Nat) / 256) ((i 0 : Nat) / 512) (by omega) (by omega), flush0_5 _, ?_⟩
  set t := pt ((i 1 : Nat) / 256) ((i 0 : Nat) / 512) (by omega) (by omega) with ht
  have hv : t.val = 4 * ((i 1 : Nat) / 256) + (i 0 : Nat) / 512 := rfl
  have h := ((cfg0.win 5).blk t).view.emb_mem_set (ix2 ⟨(i 0 : Nat) % 512, Nat.mod_lt _ (by decide)⟩ ⟨(i 1 : Nat) % 256, Nat.mod_lt _ (by decide)⟩ : S512x256.Idx)
  rw [emb5] at h
  refine (show i = _ from ?_) ▸ h
  funext a; apply Fin.ext
  match a with
  | ⟨0, _⟩ => show (i 0 : Nat) = (512 * (t.val % 4) + (i 0 : Nat) % 512) % 2048; omega
  | ⟨1, _⟩ => show (i 1 : Nat) = (256 * (t.val / 4) + (i 1 : Nat) % 256) % 1024; omega
theorem cover6 (i : S2048x1024.Idx) : ∃ t : Fin cfg0.N, (cfg0.win 6).flush t = true ∧ i ∈ ((cfg0.win 6).blk t).view.set := by
  have h0 : (i 0 : Nat) < 2048 := (i 0).isLt
  have h1 : (i 1 : Nat) < 1024 := (i 1).isLt
  set t := pt ((i 1 : Nat) / 256) 3 (by omega) (by omega) with ht
  have hv : t.val = 4 * ((i 1 : Nat) / 256) + 3 := rfl
  refine ⟨t, (flush0_6 t).mpr (by omega), ?_⟩
  have h := ((cfg0.win 6).blk t).view.emb_mem_set (ix2 ⟨(i 0 : Nat), h0⟩ ⟨(i 1 : Nat) % 256, Nat.mod_lt _ (by decide)⟩ : S2048x256.Idx)
  rw [emb6] at h
  refine (show i = _ from ?_) ▸ h
  funext a; apply Fin.ext
  match a with
  | ⟨0, _⟩ => rfl
  | ⟨1, _⟩ => show (i 1 : Nat) = (256 * (t.val / 4) + (i 1 : Nat) % 256) % 1024; omega
theorem cover7 (i : S2048x2048.Idx) : ∃ t : Fin cfg0.N, (cfg0.win 7).flush t = true ∧ i ∈ ((cfg0.win 7).blk t).view.set := by
  have h0 : (i 0 : Nat) < 2048 := (i 0).isLt
  have h1 : (i 1 : Nat) < 2048 := (i 1).isLt
  set t := pt ((i 1 : Nat) / 512) 3 (by omega) (by omega) with ht
  have hv : t.val = 4 * ((i 1 : Nat) / 512) + 3 := rfl
  refine ⟨t, (flush0_7 t).mpr (by omega), ?_⟩
  have h := ((cfg0.win 7).blk t).view.emb_mem_set (ix2 ⟨(i 0 : Nat), h0⟩ ⟨(i 1 : Nat) % 512, Nat.mod_lt _ (by decide)⟩ : S2048x512.Idx)
  rw [emb7] at h
  refine (show i = _ from ?_) ▸ h
  funext a; apply Fin.ext
  match a with
  | ⟨0, _⟩ => rfl
  | ⟨1, _⟩ => show (i 1 : Nat) = (512 * (t.val / 4) + (i 1 : Nat) % 512) % 2048; omega
theorem cover8 (i : S4x2x128.Idx) : ∃ t : Fin cfg0.N, (cfg0.win 8).flush t = true ∧ i ∈ ((cfg0.win 8).blk t).view.set := by
  have h0 : (i 0 : Nat) < 4 := (i 0).isLt
  set t := pt (i 0 : Nat) 3 (by omega) (by omega) with ht
  have hv : t.val = 4 * (i 0 : Nat) + 3 := rfl
  refine ⟨t, (flush0_8 t).mpr (by omega), ?_⟩
  have h := ((cfg0.win 8).blk t).view.emb_mem_set (ix3 (0 : Fin 1) (i 1) (i 2) : S1x2x128.Idx)
  rw [emb8] at h
  refine (show i = _ from ?_) ▸ h
  funext a; apply Fin.ext
  match a with
  | ⟨0, _⟩ => show (i 0 : Nat) = t.val / 4 % 4; omega
  | ⟨1, _⟩ => rfl
  | ⟨2, _⟩ => rfl

/-- The run: the four result arrays end as the gradients of `q`, `k`, `v` and of the decays' logarithms, the arguments as launched. -/
theorem run : θ_run defs (onTc (τ := τ) (main (F := Ideal))) ⟨m, fun _ => 0, ρ⟩ fun r => ∀ c : Dev nD,
      r.2.mem ((c : Thread nD τ).loc main_v3_0) = gradQ (argK m c) (argP m c) (argY m c) (argG m c)
      ∧ r.2.mem ((c : Thread nD τ).loc main_v3_1) = gradK (argQ m c) (argP m c) (argY m c) (argG m c)
      ∧ r.2.mem ((c : Thread nD τ).loc main_v3_2) = gradV (argQ m c) (argK m c) (argY m c) (argG m c)
      ∧ r.2.mem ((c : Thread nD τ).loc main_v3_3) = gradG (argQ m c) (argK m c) (argP m c) (argY m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((dats m 0 c).arrAt_eq_of_cover 5 _ (fun t _ => flushed5_eq m c t) cover5),
     (h c).2.1.trans ((dats m 0 c).arrAt_eq_of_cover 6 _ (flushed6_eq m c) cover6),
     (h c).2.2.1.trans ((dats m 0 c).arrAt_eq_of_cover 7 _ (flushed7_eq m c) cover7),
     (h c).2.2.2.1.trans ((dats m 0 c).arrAt_eq_of_cover 8 _ (flushed8_eq m c) cover8),
     (h c).2.2.2.2⟩) (Cert.KernelIdeal.Value.run_blocks m ρ)

end Cert.KernelIdeal.Ret

end
-- ==== Proof.RetRef.lean ====
module

public import proofs.«01_k».proof.Proof.RetArr
public import Idealize.ShloMosaic.Lib.KernelVsHost
public import proofs.«01_k».proof.Proof.Gen.ReferenceIdeal.Read

@[expose] public section

set_option maxRecDepth 16384

noncomputable section

namespace Cert.ReferenceIdeal.Ret

open Cert.ReferenceIdeal Cert.ReferenceIdeal.Gen Cert.ReferenceIdeal.Read Idealize.ShloMosaic Idealize.ShloMosaic.TcCoe Idealize.SL.Sem
open Cert.Ret
open Cert.KernelIdeal.Ret (colQ colY colV headOf sc gy dk gradQ gradK gradV gradG addF addB)

variable (q k : S2048x1024.Idx → EReal) (p : S2048x12288.Idx → EReal) (y : S2048x2048.Idx → EReal) (g : S2x4.Idx → EReal)

/-! ## The arguments split by heads -/

theorem q_at (n : Fin 2048) (h : Fin 4) (d : Fin 256) : val_main_v1 (F := Ideal) q (ix3 n h d) = q (ix2 n (colQ h.val d)) := by
  have hh := h.isLt; have hd := d.isLt
  rw [val_main_v1_apply]
  refine congrArg q (funext fun a => Fin.ext ?_)
  match a with
  | ⟨0, _⟩ => show ((n.val * 4 + h.val) * 256 + d.val) / 1024 = n.val; omega
  | ⟨1, _⟩ => show ((n.val * 4 + h.val) * 256 + d.val) % 1024 = (256 * h.val + d.val) % 1024; omega
theorem k_at (n : Fin 2048) (h : Fin 4) (d : Fin 256) : val_main_v3 (F := Ideal) k (ix3 n h d) = k (ix2 n (colQ h.val d)) := by
  have hh := h.isLt; have hd := d.isLt
  rw [val_main_v3_apply]
  refine congrArg k (funext fun a => Fin.ext ?_)
  match a with
  | ⟨0, _⟩ => show ((n.val * 4 + h.val) * 256 + d.val) / 1024 = n.val; omega
  | ⟨1, _⟩ => show ((n.val * 4 + h.val) * 256 + d.val) % 1024 = (256 * h.val + d.val) % 1024; omega
theorem v_at (n : Fin 2048) (h : Fin 4) (e : Fin 512) : val_main_v5 (F := Ideal) p (ix3 n h e) = p (ix2 n (colV h.val e)) := by
  have hh := h.isLt; have hd := e.isLt
  rw [val_main_v5_apply, val_main_v4_apply]
  refine congrArg p (funext fun a => Fin.ext ?_)
  match a with
  | ⟨0, _⟩ => show ((n.val * 4 + h.val) * 512 + e.val) / 2048 = n.val; omega
  | ⟨1, _⟩ => show 2048 + ((n.val * 4 + h.val) * 512 + e.val) % 2048 = 2048 + (512 * h.val + e.val) % 2048; omega
theorem y_at (n : Fin 2048) (h : Fin 4) (e : Fin 512) : val_main_v7 (F := Ideal) y (ix3 n h e) = y (ix2 n (colY h.val e)) := by
  have hh := h.isLt; have hd := e.isLt
  rw [val_main_v7_apply]
  refine congrArg y (funext fun a => Fin.ext ?_)
  match a with
  | ⟨0, _⟩ => show ((n.val * 4 + h.val) * 512 + e.val) / 2048 = n.val; omega
  | ⟨1, _⟩ => show ((n.val * 4 + h.val) * 512 + e.val) % 2048 = (512 * h.val + e.val) % 2048; omega
theorem f_at (h : Fin 4) : val_main_v9 (F := Ideal) g (ix1 h) = g (ix2 0 (headOf h.val)) := by
  rw [val_main_v9_apply, val_main_v8_apply]
  refine congrArg g (funext fun a => Fin.ext ?_)
  match a with
  | ⟨0, _⟩ => rfl
  | ⟨1, _⟩ => rfl
theorem b_at (h : Fin 4) : val_main_v11 (F := Ideal) g (ix1 h) = g (ix2 1 (headOf h.val)) := by
  rw [val_main_v11_apply, val_main_v10_apply]
  refine congrArg g (funext fun a => Fin.ext ?_)
  match a with
  | ⟨0, _⟩ => rfl
  | ⟨1, _⟩ => rfl

/-! ## Distances and decays -/

theorem t_at (n : Fin 2048) : val_main_v12 (F := Ideal) (ix1 n) = (((n.val : ℝ)) : EReal) := by
  have hn := n.isLt
  show (((BitVec.ofNat 32 n.val).toInt : ℝ) : EReal) = _
  rw [show (BitVec.ofNat 32 n.val).toInt = (n.val : ℤ) by
    rw [BitVec.toInt_eq_toNat_of_lt]
    · simp only [BitVec.toNat_ofNat]; omega
    · simp only [BitVec.toNat_ofNat]; omega]
  simp

theorem diff_at (n m : Fin 2048) : val_main_v17 (F := Ideal) (ix2 n m) = lag n.val m.val := by
  rw [val_main_v17_apply, val_main_v15_apply, val_main_v16_apply, val_main_v13_apply, val_main_v14_apply]
  show val_main_v12 (F := Ideal) (ix1 n) - val_main_v12 (F := Ideal) (ix1 m) = _
  rw [t_at, t_at, ← EReal.coe_sub]
  rfl

theorem causal_at (h : Fin 4) (n m : Fin 2048) : val_main_v31_1 (F := Ideal) (ix3 h n m) = if m.val ≤ n.val then 1#1 else 0#1 := by
  rw [val_main_v31_1_apply, val_main_v19_apply, val_main_v18_apply]
  show Ideal.cmp .oge (val_main_v17 (F := Ideal) (ix2 n m)) (Ideal.ofBits .f32 0x00000000#32) = _
  rw [diff_at, Ideal.ofBits_zero, cmp_lag]

theorem decay_at (h : Fin 4) (n m : Fin 2048) : val_main_v32 (F := Ideal) g (ix3 h n m) = dk g h.val n m := by
  show Ideal.exp (val_main_v31_0 (F := Ideal) g (ix3 h n m)) = _
  rw [val_main_v31_0_apply, causal_at, select_lag, val_main_v24_apply, val_main_v30_apply, val_main_v22_apply, val_main_v23_apply,
    val_main_v28_apply, val_main_v29_apply, val_main_v20_apply, val_main_v21_apply, val_main_v25_apply, val_main_v27_apply, val_main_v26_apply]
  show Ideal.exp (if m.val ≤ n.val then val_main_v9 (F := Ideal) g (ix1 h) * val_main_v17 (F := Ideal) (ix2 n m)
    else val_main_v11 (F := Ideal) g (ix1 h) * -(val_main_v17 (F := Ideal) (ix2 n m))) = _
  rw [f_at, b_at, diff_at, mul_neg]
  rfl

theorem score_at (h : Fin 4) (n m : Fin 2048) : val_main_v33 (F := Ideal) q k (ix3 h n m) = sc q k h.val n m := by
  rw [val_main_v33_apply]
  exact Finset.sum_congr rfl fun d _ => congrArg₂ (· * ·) (q_at q n h d) (k_at k m h d)

theorem gy_at (h : Fin 4) (n m : Fin 2048) : val_main_v38 (F := Ideal) p y (ix3 h n m) = gy p y h.val n m := by
  rw [val_main_v38_apply]
  refine Finset.sum_congr rfl fun e _ => ?_
  rw [val_main_v37_apply]
  exact congrArg₂ (· * ·) (y_at y n h e) (v_at p m h e)

theorem w_at (h : Fin 4) (n m : Fin 2048) : val_main_v34 (F := Ideal) q k g (ix3 h n m) = sc q k h.val n m * dk g h.val n m := by
  rw [val_main_v34_apply, score_at, decay_at]; rfl

theorem ds_at (h : Fin 4) (n m : Fin 2048) : val_main_v42 (F := Ideal) p y g (ix3 h n m) = gy p y h.val n m * dk g h.val n m := by
  rw [val_main_v42_apply, gy_at, decay_at]; rfl

theorem gd_at (h : Fin 4) (n m : Fin 2048) : val_main_v47 (F := Ideal) q k p y g (ix3 h n m) = gy p y h.val n m * (sc q k h.val n m * dk g h.val n m) := by
  rw [val_main_v47_apply, val_main_v41_apply, score_at, gy_at, decay_at]
  show sc q k h.val n m * gy p y h.val n m * dk g h.val n m = _
  rw [mul_comm (sc q k h.val n m), mul_assoc]

/-! ## The three gradients that are products -/

theorem resQ : val_main_v64 (F := Ideal) k p y g = gradQ k p y g := by
  funext j
  have h0 : (j 0 : Nat) < 2048 := (j 0).isLt
  have h1 : (j 1 : Nat) < 1024 := (j 1).isLt
  rw [val_main_v64_apply, val_main_v46_apply, val_main_v45_apply]
  refine Finset.sum_congr rfl fun m _ => ?_
  refine congrArg₂ (· * ·) ?_ ?_
  · refine (congrArg (val_main_v42 (F := Ideal) p y g) (?_ : _ = ix3 (⟨(j 1).val / 256, by omega⟩ : Fin 4) (j 0) m)).trans (ds_at p y g _ _ _)
    funext a; apply Fin.ext
    match a with
    | ⟨0, _⟩ => show ((j 0).val * 1024 + (j 1).val) / 256 % 4 = (j 1).val / 256; omega
    | ⟨1, _⟩ => show ((j 0).val * 1024 + (j 1).val) / 1024 = (j 0).val; omega
    | ⟨2, _⟩ => rfl
  · refine (congrArg (val_main_v3 (F := Ideal) k) (?_ : _ = ix3 m (⟨(j 1).val / 256, by omega⟩ : Fin 4) (⟨(j 1).val % 256, by omega⟩ : Fin 256))).trans ((k_at k _ _ _).trans (congrArg (fun z => k (ix2 m z)) (Fin.ext ?_)))
    · funext a; apply Fin.ext
      match a with
      | ⟨0, _⟩ => rfl
      | ⟨1, _⟩ => show ((j 0).val * 1024 + (j 1).val) / 256 % 4 = (j 1).val / 256; omega
      | ⟨2, _⟩ => show ((j 0).val * 1024 + (j 1).val) % 256 = (j 1).val % 256; omega
    · show (256 * ((j 1).val / 256) + (j 1).val % 256) % 1024 = (j 1).val; omega

theorem resK : val_main_v65 (F := Ideal) q p y g = gradK q p y g := by
  funext j
  have h0 : (j 0 : Nat) < 2048 := (j 0).isLt
  have h1 : (j 1 : Nat) < 1024 := (j 1).isLt
  rw [val_main_v65_apply, val_main_v44_apply, val_main_v43_apply]
  refine Finset.sum_congr rfl fun n _ => ?_
  refine congrArg₂ (· * ·) ?_ ?_
  · refine (congrArg (val_main_v42 (F := Ideal) p y g) (?_ : _ = ix3 (⟨(j 1).val / 256, by omega⟩ : Fin 4) n (j 0))).trans (ds_at p y g _ _ _)
    funext a; apply Fin.ext
    match a with
    | ⟨0, _⟩ => show ((j 0).val * 1024 + (j 1).val) / 256 % 4 = (j 1).val / 256; omega
    | ⟨1, _⟩ => rfl
    | ⟨2, _⟩ => show ((j 0).val * 1024 + (j 1).val) / 1024 = (j 0).val; omega
  · refine (congrArg (val_main_v1 (F := Ideal) q) (?_ : _ = ix3 n (⟨(j 1).val / 256, by omega⟩ : Fin 4) (⟨(j 1).val % 256, by omega⟩ : Fin 256))).trans ((q_at q _ _ _).trans (congrArg (fun z => q (ix2 n z)) (Fin.ext ?_)))
    · funext a; apply Fin.ext
      match a with
      | ⟨0, _⟩ => rfl
      | ⟨1, _⟩ => show ((j 0).val * 1024 + (j 1).val) / 256 % 4 = (j 1).val / 256; omega
      | ⟨2, _⟩ => show ((j 0).val * 1024 + (j 1).val) % 256 = (j 1).val % 256; omega
    · show (256 * ((j 1).val / 256) + (j 1).val % 256) % 1024 = (j 1).val; omega

theorem resV : val_main_v66 (F := Ideal) q k y g = gradV q k y g := by
  funext j
  have h0 : (j 0 : Nat) < 2048 := (j 0).isLt
  have h1 : (j 1 : Nat) < 2048 := (j 1).isLt
  rw [val_main_v66_apply, val_main_v40_apply, val_main_v39_apply]
  refine Finset.sum_congr rfl fun n _ => ?_
  rw [mul_comm, val_main_v37_apply]
  refine congrArg₂ (· * ·) ?_ ?_
  · refine (congrArg (val_main_v34 (F := Ideal) q k g) (?_ : _ = ix3 (⟨(j 1).val / 512, by omega⟩ : Fin 4) n (j 0))).trans (w_at q k g _ _ _)
    funext a; apply Fin.ext
    match a with
    | ⟨0, _⟩ => show ((j 0).val * 2048 + (j 1).val) / 512 % 4 = (j 1).val / 512; omega
    | ⟨1, _⟩ => rfl
    | ⟨2, _⟩ => show ((j 0).val * 2048 + (j 1).val) / 2048 = (j 0).val; omega
  · refine (congrArg (val_main_v7 (F := Ideal) y) (?_ : _ = ix3 n (⟨(j 1).val / 512, by omega⟩ : Fin 4) (⟨(j 1).val % 512, by omega⟩ : Fin 512))).trans ((y_at y _ _ _).trans (congrArg (fun z => y (ix2 n z)) (Fin.ext ?_)))
    · funext a; apply Fin.ext
      match a with
      | ⟨0, _⟩ => rfl
      | ⟨1, _⟩ => show ((j 0).val * 2048 + (j 1).val) / 512 % 4 = (j 1).val / 512; omega
      | ⟨2, _⟩ => show ((j 0).val * 2048 + (j 1).val) % 512 = (j 1).val % 512; omega
    · show (512 * ((j 1).val / 512) + (j 1).val % 512) % 2048 = (j 1).val; omega

/-! ## The gradient of the decays' logarithms -/

theorem zero_at (i : S4x2048x2048.Idx) : val_main_call1_v0 (F := Ideal) i = 0 := by
  rw [val_main_call1_v0_apply]
  exact Ideal.ofBits_zero .f32

theorem back_at (h : Fin 4) (n m : Fin 2048) : val_main_v50 (F := Ideal) q k p y g (ix3 h n m) = addB q k p y g h.val n m := by
  rw [val_main_v50_apply, val_main_v48_1_apply, causal_at, select_lag, zero_at, gd_at, val_main_v49_apply, val_main_v27_apply, val_main_v26_apply]
  show (if m.val ≤ n.val then (0 : EReal) else _) * -(val_main_v17 (F := Ideal) (ix2 n m)) = _
  rw [diff_at]
  unfold addB
  split
  · rw [zero_mul]
  · rw [mul_neg, zero_sub]

theorem fwd_at (h : Fin 4) (n m : Fin 2048) : val_main_v55 (F := Ideal) q k p y g (ix3 h n m) = addF q k p y g h.val n m := by
  rw [val_main_v55_apply, val_main_v48_0_apply, causal_at, select_lag, zero_at, gd_at, val_main_v54_apply, val_main_v21_apply]
  show (if m.val ≤ n.val then _ else (0 : EReal)) * (val_main_v17 (F := Ideal) (ix2 n m)) = _
  rw [diff_at]
  unfold addF
  split
  · rfl
  · rw [zero_mul]

theorem v51_at (h : Fin 4) : val_main_v51 (F := Ideal) q k p y g (ix1 h) = ∑ n : Fin 2048, ∑ m : Fin 2048, addB q k p y g h.val n m := by
  have e : val_main_v51 (F := Ideal) q k p y g (ix1 h) = ∑ n : Fin 2048, ∑ m : Fin 2048, val_main_v50 (F := Ideal) q k p y g (ix3 h n m) := by
    unfold val_main_v51 val_main_cst_0
    generalize val_main_v50 (F := Ideal) q k p y g = z
    pointwise
    done
  rw [e]
  exact Finset.sum_congr rfl fun n _ => Finset.sum_congr rfl fun m _ => back_at q k p y g h n m

theorem v56_at (h : Fin 4) : val_main_v56 (F := Ideal) q k p y g (ix1 h) = ∑ n : Fin 2048, ∑ m : Fin 2048, addF q k p y g h.val n m := by
  have e : val_main_v56 (F := Ideal) q k p y g (ix1 h) = ∑ n : Fin 2048, ∑ m : Fin 2048, val_main_v55 (F := Ideal) q k p y g (ix3 h n m) := by
    unfold val_main_v56 val_main_cst_2
    generalize val_main_v55 (F := Ideal) q k p y g = z
    pointwise
    done
  rw [e]
  exact Finset.sum_congr rfl fun n _ => Finset.sum_congr rfl fun m _ => fwd_at q k p y g h n m

theorem v53_at (h : Fin 4) : val_main_v53 (F := Ideal) q k p y g (ix1 h) = ∑ n : Fin 2048, ∑ m : Fin 2048, addB q k p y g h.val n m := by
  rw [← v51_at]
  unfold val_main_v53 val_main_v52 val_main_cst_1
  generalize val_main_v51 (F := Ideal) q k p y g = z
  pointwise
  simp

theorem v58_at (h : Fin 4) : val_main_v58 (F := Ideal) q k p y g (ix1 h) = ∑ n : Fin 2048, ∑ m : Fin 2048, addF q k p y g h.val n m := by
  rw [← v56_at]
  unfold val_main_v58 val_main_v57 val_main_cst_3
  generalize val_main_v56 (F := Ideal) q k p y g = z
  pointwise
  simp

theorem v63_at (w : Fin 2) (h : Fin 4) : val_main_v63 (F := Ideal) q k p y g (ix2 w h)
    = if w.val = 0 then val_main_v58 (F := Ideal) q k p y g (ix1 h) else val_main_v53 (F := Ideal) q k p y g (ix1 h) := by
  unfold val_main_v63 val_main_v60 val_main_v62 val_main_v59 val_main_v61 val_main_cst_4 val_main_cst_5
  generalize val_main_v53 (F := Ideal) q k p y g = z
  generalize val_main_v58 (F := Ideal) q k p y g = z'
  pointwise
  fin_cases w
  · simp
  · simp

theorem resG : val_main_v69 (F := Ideal) q k p y g = gradG q k p y g := by
  funext j
  rw [val_main_v69_apply, val_main_v68_apply, val_main_v67_apply]
  have e : idx_main_v67 (idx_main_v68 (idx_main_v69 j)) = ix2 (j 1) (j 0) := funext fun a => Fin.ext (match a with
    | ⟨0, _⟩ => rfl
    | ⟨1, _⟩ => rfl)
  rw [e]
  refine (v63_at q k p y g (j 1) (j 0)).trans ?_
  refine (congrArg₂ (fun a b => if (j 1).val = 0 then a else b) (v58_at q k p y g (j 0)) (v53_at q k p y g (j 0))).trans ?_
  unfold gradG
  dsimp only
  split <;> rfl

end Cert.ReferenceIdeal.Ret

end
-- ==== Proof.RetClaim.lean ====
module

public import proofs.«01_k».proof.Defs
public import proofs.«01_k».proof.Proof.RetOut
public import proofs.«01_k».proof.Proof.RetRef

@[expose] public section

set_option maxRecDepth 16384

noncomputable section

/-! # The retention's gradient: the kernel's four results are the reference's -/

namespace Cert.Proof.Ret

open Idealize.ShloMosaic Idealize.ShloMosaic.TcCoe Idealize.SL.Sem
open Cert.KernelIdeal.Ret (gradQ gradK gradV gradG argQ argK argP argY argG)

/-- The reference's run, each result as its function of the arguments. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v64)
        = gradQ (m (c.tc.loc Cert.ReferenceIdeal.main_arg1)) (m (c.tc.loc Cert.ReferenceIdeal.main_arg2)) (m (c.tc.loc Cert.ReferenceIdeal.main_arg3)) (m (c.tc.loc Cert.ReferenceIdeal.main_arg4))
      ∧ r.2.mem ((c.tc : Thread Cert.ReferenceIdeal.nD Cert.ReferenceIdeal.τ).loc Cert.ReferenceIdeal.main_v65)
        = gradK (m (c.tc.loc Cert.ReferenceIdeal.main_arg0)) (m (c.tc.loc Cert.ReferenceIdeal.main_arg2)) (m (c.tc.loc Cert.ReferenceIdeal.main_arg3)) (m (c.tc.loc Cert.ReferenceIdeal.main_arg4))
      ∧ r.2.mem ((c.tc : Thread Cert.ReferenceIdeal.nD Cert.ReferenceIdeal.τ).loc Cert.ReferenceIdeal.main_v66)
        = gradV (m (c.tc.loc Cert.ReferenceIdeal.main_arg0)) (m (c.tc.loc Cert.ReferenceIdeal.main_arg1)) (m (c.tc.loc Cert.ReferenceIdeal.main_arg3)) (m (c.tc.loc Cert.ReferenceIdeal.main_arg4))
      ∧ r.2.mem ((c.tc : Thread Cert.ReferenceIdeal.nD Cert.ReferenceIdeal.τ).loc Cert.ReferenceIdeal.main_v69)
        = gradG (m (c.tc.loc Cert.ReferenceIdeal.main_arg0)) (m (c.tc.loc Cert.ReferenceIdeal.main_arg1)) (m (c.tc.loc Cert.ReferenceIdeal.main_arg2)) (m (c.tc.loc Cert.ReferenceIdeal.main_arg3)) (m (c.tc.loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  (θ_run _ _ _).mono (fun _ h c =>
    ⟨(h c).1.trans ((Cert.ReferenceIdeal.Read.val_main_v64_eq _ _ _ _).trans (Cert.ReferenceIdeal.Ret.resQ _ _ _ _)),
     (h c).2.1.trans ((Cert.ReferenceIdeal.Read.val_main_v65_eq _ _ _ _).trans (Cert.ReferenceIdeal.Ret.resK _ _ _ _)),
     (h c).2.2.1.trans ((Cert.ReferenceIdeal.Read.val_main_v66_eq _ _ _ _).trans (Cert.ReferenceIdeal.Ret.resV _ _ _ _)),
     (h c).2.2.2.1.trans ((Cert.ReferenceIdeal.Read.val_main_v69_eq m c).trans (Cert.ReferenceIdeal.Ret.resG _ _ _ _ _)),
     (h c).2.2.2.2⟩) (Cert.ReferenceIdeal.Value.run (F := Ideal) m ρ)

/-- The reference runs, keeps its arguments and leaves every counter at zero. -/
theorem frame_reference : Cert.quiescent_ReferenceIdeal := fun m ρ _ =>
  (θ_run _ _ _).mono (fun r h => ⟨fun c => (h c).2.2.2.2, Idealize.ShloMosaic.sem_eq_zero_of_no_sems (by decide) r.2⟩) (run_reference m ρ)

/-- From equal arguments the kernel and the reference end with equal gradients of `q`, `k`, `v` and of the decays' logarithms. -/
theorem algebraic : Cert.algebraic_KernelIdeal_ReferenceIdeal := fun m ρ m' ρ' _ hag =>
  ⟨fun c => gradQ (argK m c) (argP m c) (argY m c) (argG m c), fun c => gradK (argQ m c) (argP m c) (argY m c) (argG m c),
   fun c => gradV (argQ m c) (argK m c) (argY m c) (argG m c), fun c => gradG (argQ m c) (argK m c) (argP m c) (argY m c) (argG m c),
   Cert.KernelIdeal.Ret.run m ρ,
   (θ_run _ _ _).mono (fun _ h c => by
     obtain ⟨a0, a1, a2, a3, a4⟩ := hag c
     obtain ⟨r0, r1, r2, r3, k⟩ := h c
     exact ⟨r0.trans (by rw [a1, a2, a3, a4]), r1.trans (by rw [a0, a2, a3, a4]), r2.trans (by rw [a0, a1, a3, a4]), r3.trans (by rw [a0, a1, a2, a3, a4]), k⟩)
     (run_reference m' ρ')⟩

end Cert.Proof.Ret

end
-- ==== Proof.ProdMath.lean ====
module

public import Idealize.ShloMosaic.Lib.Pointwise
public import Idealize.ShloMosaic.Lib.Pipeline.ValueKit

@[expose] public section

noncomputable section

/-! # The three products of a layer: forward, and the two of its gradient -/

namespace Cert.Prod

open Idealize.ShloMosaic

/-- The indices of an array of `a` rows and `b` columns. -/
abbrev Ix (a b : ℕ) : Type := Shape.Idx ⟨2, ![a, b]⟩

/-- An array of `a` rows and `b` columns over the extended reals. -/
abbrev Mat (a b : ℕ) : Type := Ix a b → EReal

variable {M K N : ℕ}

/-- The product `A B`. -/
def nn (A : Mat M K) (B : Mat K N) : Mat M N := fun i => ∑ k : Fin K, A (ix2 (i 0) k) * B (ix2 k (i 1))

/-- The product `A Bᵀ`: the gradient of the left factor, for `A` the gradient of the product and `B` the right factor. -/
def nt (A : Mat M K) (B : Mat N K) : Mat M N := fun i => ∑ k : Fin K, A (ix2 (i 0) k) * B (ix2 (i 1) k)

/-- The product `Aᵀ B`: the gradient of the right factor, for `A` the left factor and `B` the gradient of the product. -/
def tn (A : Mat K M) (B : Mat K N) : Mat M N := fun i => ∑ k : Fin K, A (ix2 k (i 0)) * B (ix2 k (i 1))

/-- The product `A B` and an addend. -/
def addNn (A : Mat M K) (B : Mat K N) (C : Mat M N) : Mat M N := fun i => nn A B i + C i

/-- The product `A Bᵀ` and an addend. -/
def addNt (A : Mat M K) (B : Mat N K) (C : Mat M N) : Mat M N := fun i => nt A B i + C i

/-- A sum over `a * b` terms taken as `a` sums of `b` consecutive ones. -/
theorem sum_parts {R : Type} [AddCommMonoid R] {a b n : ℕ} (hn : n = a * b) (g : Fin a → Fin b → R) (f : Fin n → R)
    (h : ∀ (s : Fin a) (r : Fin b) (k : Fin n), k.val = b * s.val + r.val → g s r = f k) :
    ∑ s : Fin a, ∑ r : Fin b, g s r = ∑ k : Fin n, f k := by
  subst hn
  rw [← Fintype.sum_prod_type' g]
  exact Fintype.sum_equiv finProdFinEquiv _ _ fun p => h p.1 p.2 _ (Nat.add_comm _ _)

/-- A sum over `n` terms is that of the first `a` and that of the rest. -/
theorem sum_two {R : Type} [AddCommMonoid R] {a b n : ℕ} (hn : n = a + b) (f : Fin n → R) :
    ∑ k : Fin n, f k = ∑ k : Fin a, f ⟨k.val, by omega⟩ + ∑ k : Fin b, f ⟨a + k.val, by omega⟩ := by
  subst hn
  exact Fin.sum_univ_add f

end Cert.Prod

end
-- ==== Proof.ProdFwd.lean ====
module

public import proofs.«01_k».proof.Defs
public import proofs.«01_k».proof.Proof.Gen.FwdInIdeal.Value
public import proofs.«01_k».proof.Proof.Gen.FwdInRefIdeal.Run
public import proofs.«01_k».proof.Proof.Gen.FwdGuIdeal.Value
public import proofs.«01_k».proof.Proof.Gen.FwdGuRefIdeal.Run
public import proofs.«01_k».proof.Proof.Gen.FwdGluIdeal.Value
public import proofs.«01_k».proof.Proof.Gen.FwdGluRefIdeal.Run
public import proofs.«01_k».proof.Proof.Gen.FwdOutIdeal.Value
public import proofs.«01_k».proof.Proof.Gen.FwdOutRefIdeal.Run
public import proofs.«01_k».proof.Proof.Gen.FwdDownIdeal.Value
public import proofs.«01_k».proof.Proof.Gen.FwdDownRefIdeal.Run
public import proofs.«01_k».proof.Proof.ProdMath
public import Idealize.ShloMosaic.Lib.Pipeline.ReadBack

@[expose] public section

set_option maxRecDepth 16384

noncomputable section

/-! # The forward products -/

/-! ## The input projection `h @ w_in` -/

namespace Cert.FwdInIdeal.Prod

open Cert.FwdInIdeal Cert.FwdInIdeal.Gen Idealize.ShloMosaic Idealize.ShloMosaic.TcCoe Idealize.SL.Sem Cert.Prod

variable (m : (ℓ : Loc nD τ sig) → Buf (Elt Ideal) ℓ) (c : Dev nD)

/-- Point `t` reads all rows of the left array, and of the right one the columns it writes. -/
theorem idx : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, _)

/-- The kernel's result is the product. -/
theorem final : (dats m 0 c).arrAt 2 cfg0.N = nn (m (c.tc.loc main_arg0)) (m (c.tc.loc main_arg1)) := by
  refine (dats m 0 c).arrAt_eq_of_covers 2 _ (by decide +kernel) fun t hf y => ?_
  blk_simp
  rw [after0_2]
  frame_out
  unfold k0_pay1 nn
  pointwise [dot_S2048x2048_S2048x1024_S2048x1024_1_0_0_1_n_n]
  blk_point [iblk, V, idx t]

/-- The reference runs, keeps its arguments and leaves every counter at zero. -/
theorem frame_reference : Cert.quiescent_FwdInRefIdeal := fun m ρ _ =>
  (θ_run _ _ _).mono (fun r h => ⟨fun c => (h c).2, Idealize.ShloMosaic.sem_eq_zero_of_no_sems (by decide) r.2⟩)
    (Cert.FwdInRefIdeal.Value.run m ρ)

/-- From equal arguments the kernel and the reference end with equal results. -/
theorem algebraic : Cert.algebraic_FwdInIdeal_FwdInRefIdeal := fun m ρ m' ρ' _ hag =>
  ⟨fun c => nn (m (c.tc.loc main_arg0)) (m (c.tc.loc main_arg1)),
   (θ_run _ _ _).mono (fun _ h c => ⟨(h c).1.trans (final m c), (h c).2⟩) (Value.run_blocks m ρ),
   (θ_run _ _ _).mono (fun _ h c => ⟨(h c).1.trans (by
     rw [(hag c).1, (hag c).2]
     funext i
     unfold nn
     pointwise [Cert.FwdInRefIdeal.dot_S2048x2048_S2048x12288_S2048x12288_1_0_0_1_n_n]), (h c).2⟩) (Cert.FwdInRefIdeal.Value.run m' ρ')⟩

end Cert.FwdInIdeal.Prod

/-! ## The product with `w_glu` -/

namespace Cert.FwdGluIdeal.Prod

open Cert.FwdGluIdeal Cert.FwdGluIdeal.Gen Idealize.ShloMosaic Idealize.ShloMosaic.TcCoe Idealize.SL.Sem Cert.Prod

variable (m : (ℓ : Loc nD τ sig) → Buf (Elt Ideal) ℓ) (c : Dev nD)

/-- Point `t` reads all rows of the left array, and of the right one the columns it writes. -/
theorem idx : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, _)

/-- The kernel's result is the product. -/
theorem final : (dats m 0 c).arrAt 2 cfg0.N = nn (m (c.tc.loc main_arg0)) (m (c.tc.loc main_arg1)) := by
  refine (dats m 0 c).arrAt_eq_of_covers 2 _ (by decide +kernel) fun t hf y => ?_
  blk_simp
  rw [after0_2]
  frame_out
  unfold k0_pay1 nn
  pointwise [dot_S2048x2048_S2048x1024_S2048x1024_1_0_0_1_n_n]
  blk_point [iblk, V, idx t]

/-- The reference runs, keeps its arguments and leaves every counter at zero. -/
theorem frame_reference : Cert.quiescent_FwdGluRefIdeal := fun m ρ _ =>
  (θ_run _ _ _).mono (fun r h => ⟨fun c => (h c).2, Idealize.ShloMosaic.sem_eq_zero_of_no_sems (by decide) r.2⟩)
    (Cert.FwdGluRefIdeal.Value.run m ρ)

/-- From equal arguments the kernel and the reference end with equal results. -/
theorem algebraic : Cert.algebraic_FwdGluIdeal_FwdGluRefIdeal := fun m ρ m' ρ' _ hag =>
  ⟨fun c => nn (m (c.tc.loc main_arg0)) (m (c.tc.loc main_arg1)),
   (θ_run _ _ _).mono (fun _ h c => ⟨(h c).1.trans (final m c), (h c).2⟩) (Value.run_blocks m ρ),
   (θ_run _ _ _).mono (fun _ h c => ⟨(h c).1.trans (by
     rw [(hag c).1, (hag c).2]
     funext i
     unfold nn
     pointwise [Cert.FwdGluRefIdeal.dot_S2048x2048_S2048x2048_S2048x2048_1_0_0_1_n_n]), (h c).2⟩) (Cert.FwdGluRefIdeal.Value.run m' ρ')⟩

end Cert.FwdGluIdeal.Prod

/-! ## The products with `w_gate` and `w_up`, side by side in one array -/

namespace Cert.FwdGuIdeal.Prod

open Cert.FwdGuIdeal Cert.FwdGuIdeal.Gen Idealize.ShloMosaic Idealize.ShloMosaic.TcCoe Idealize.SL.Sem Cert.Prod

variable (m : (ℓ : Loc nD τ sig) → Buf (Elt Ideal) ℓ) (c : Dev nD)

/-- Point `t` reads all rows of the left array, and of the right one the columns it writes. -/
theorem idx : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, _)

/-- The kernel's result is the product. -/
theorem final : (dats m 0 c).arrAt 2 cfg0.N = nn (m (c.tc.loc main_arg0)) (m (c.tc.loc main_arg1)) := by
  refine (dats m 0 c).arrAt_eq_of_covers 2 _ (by decide +kernel) fun t hf y => ?_
  blk_simp
  rw [after0_2]
  frame_out
  unfold k0_pay1 nn
  pointwise [dot_S2048x2048_S2048x1024_S2048x1024_1_0_0_1_n_n]
  blk_point [iblk, V, idx t]

/-- The reference runs, keeps its arguments and leaves every counter at zero. -/
theorem frame_reference : Cert.quiescent_FwdGuRefIdeal := fun m ρ _ =>
  (θ_run _ _ _).mono (fun r h => ⟨fun c => (h c).2, Idealize.ShloMosaic.sem_eq_zero_of_no_sems (by decide) r.2⟩)
    (Cert.FwdGuRefIdeal.Value.run m ρ)

/-- From equal arguments the kernel and the reference end with equal results. -/
theorem algebraic : Cert.algebraic_FwdGuIdeal_FwdGuRefIdeal := fun m ρ m' ρ' _ hag =>
  ⟨fun c => nn (m (c.tc.loc main_arg0)) (m (c.tc.loc main_arg1)),
   (θ_run _ _ _).mono (fun _ h c => ⟨(h c).1.trans (final m c), (h c).2⟩) (Value.run_blocks m ρ),
   (θ_run _ _ _).mono (fun _ h c => ⟨(h c).1.trans (by
     rw [(hag c).1, (hag c).2]
     funext i
     unfold nn
     pointwise [Cert.FwdGuRefIdeal.dot_S2048x2048_S2048x5632_S2048x5632_1_0_0_1_n_n]
     split
     · rfl
     · have e : 5632 + ((i 1).val - 5632) = (i 1).val := by omega
       simp only [e]
       rfl), (h c).2⟩) (Cert.FwdGuRefIdeal.Value.run m' ρ')⟩

end Cert.FwdGuIdeal.Prod

/-! ## The product with `w_out`, added to the layer's input -/

namespace Cert.FwdOutIdeal.Prod

open Cert.FwdOutIdeal Cert.FwdOutIdeal.Gen Idealize.ShloMosaic Idealize.ShloMosaic.TcCoe Idealize.SL.Sem Cert.Prod

variable (m : (ℓ : Loc nD τ sig) → Buf (Elt Ideal) ℓ) (c : Dev nD)

/-- Point `t` reads all rows of the left array, and of the right one and of the addend the columns it writes. -/
theorem idx : ∀ t : Fin cfg0.N, win0_0.index t 0 = win0_3.index t 0 ∧ win0_0.index t 1 = 0
    ∧ win0_1.index t 0 = 0 ∧ win0_1.index t 1 = win0_3.index t 1
    ∧ win0_2.index t 0 = win0_3.index t 0 ∧ win0_2.index t 1 = win0_3.index t 1 :=
  (by decide +kernel : ∀ t : Fin grid0.N, _)

/-- The kernel's result is the product and the addend. -/
theorem final : (dats m 0 c).arrAt 3 cfg0.N
    = addNn (m (c.tc.loc main_arg0)) (m (c.tc.loc main_arg1)) (m (c.tc.loc main_arg2)) := by
  refine (dats m 0 c).arrAt_eq_of_covers 3 _ (by decide +kernel) fun t hf y => ?_
  blk_simp
  rw [after0_3]
  frame_out
  unfold k0_pay1 addNn nn
  pointwise [dot_S2048x2048_S2048x512_S2048x512_1_0_0_1_n_n]
  blk_point [iblk, V, idx t]

/-- The reference runs, keeps its arguments and leaves every counter at zero. -/
theorem frame_reference : Cert.quiescent_FwdOutRefIdeal := fun m ρ _ =>
  (θ_run _ _ _).mono (fun r h => ⟨fun c => (h c).2, Idealize.ShloMosaic.sem_eq_zero_of_no_sems (by decide) r.2⟩)
    (Cert.FwdOutRefIdeal.Value.run m ρ)

/-- From equal arguments the kernel and the reference end with equal results. -/
theorem algebraic : Cert.algebraic_FwdOutIdeal_FwdOutRefIdeal := fun m ρ m' ρ' _ hag =>
  ⟨fun c => addNn (m (c.tc.loc main_arg0)) (m (c.tc.loc main_arg1)) (m (c.tc.loc main_arg2)),
   (θ_run _ _ _).mono (fun _ h c => ⟨(h c).1.trans (final m c), (h c).2⟩) (Value.run_blocks m ρ),
   (θ_run _ _ _).mono (fun _ h c => ⟨(h c).1.trans (by
     rw [(hag c).1, (hag c).2.1, (hag c).2.2]
     funext i
     unfold addNn nn
     pointwise [Cert.FwdOutRefIdeal.dot_S2048x2048_S2048x2048_S2048x2048_1_0_0_1_n_n]
     exact add_comm _ _), (h c).2⟩) (Cert.FwdOutRefIdeal.Value.run m' ρ')⟩

end Cert.FwdOutIdeal.Prod

/-! ## The product with `w_down`, eleven blocks of 512 at a time, added to the sub-layer's input -/

namespace Cert.FwdDownIdeal.Prod

open Cert.FwdDownIdeal Cert.FwdDownIdeal.Gen Idealize.ShloMosaic Idealize.ShloMosaic.TcCoe Idealize.SL.Sem Cert.Prod

variable (m : (ℓ : Loc nD τ sig) → Buf (Elt Ideal) ℓ) (c : Dev nD)

/-- Which blocks point `t` reads and writes: eleven points in a row write one block. -/
theorem idx : ∀ t : Fin cfg0.N, win0_0.index t 0 = t.val / 22 ∧ win0_0.index t 1 = t.val % 11 ∧ win0_1.index t 0 = t.val % 11
    ∧ win0_1.index t 1 = t.val / 11 % 2 ∧ win0_2.index t 0 = t.val / 22 ∧ win0_2.index t 1 = t.val / 11 % 2
    ∧ win0_3.index t 0 = t.val / 22 ∧ win0_3.index t 1 = t.val / 11 % 2 :=
  (by decide +kernel : ∀ t : Fin grid0.N, _)

/-- At the last of eleven points the accumulator holds the sum of the eleven partial products. -/
theorem acc (t : Fin cfg0.N) (hm : t.val % 11 = 10) (i : S1024x1024.Idx) : (outsAt0 m c t.val t.isLt).2 i
    = 0 + ∑ s : Fin 11, nn (iblk m c 0 ⟨11 * (t.val / 11) + s.val, Pipeline.run_point_lt_of_flush t hm s⟩)
        (iblk m c 1 ⟨11 * (t.val / 11) + s.val, Pipeline.run_point_lt_of_flush t hm s⟩) i := by
  refine Pipeline.eq_sum_fin_of_reset_step_apply_of_flush (fun n h => (outsAt0 m c n h).2) 11 (fun _ => (0 : EReal))
    (fun t => nn (iblk m c 0 t) (iblk m c 1 t)) (fun t h i => ?_) (fun t h i => ?_) t hm i
  · rw [outsAt0_A m c t h (by omega)]
    frame_out
    unfold k0_pay2 nn k0_pay1
    pointwise [dot_S1024x512_S512x1024_S1024x1024_1_0_0_1_n_n]
  · by_cases h1 : t.val % 11 = 10
    · rw [outsAt0_C m c t h h1]
      frame_out
      simp only [read_unread_whole]
      unfold k0_pay2 nn
      pointwise [dot_S1024x512_S512x1024_S1024x1024_1_0_0_1_n_n]
    · rw [outsAt0_B m c t h h1]
      frame_out
      simp only [read_unread_whole]
      unfold k0_pay2 nn
      pointwise [dot_S1024x512_S512x1024_S1024x1024_1_0_0_1_n_n]

/-- What the last of eleven points writes out is the accumulator and its block of the addend. -/
theorem flush (t : Fin cfg0.N) (hm : t.val % 11 = 10) (i : S1024x1024.Idx) :
    (outsAt0 m c t.val t.isLt).1 i = (outsAt0 m c t.val t.isLt).2 i + iblk m c 2 t i := by
  rw [outsAt0_C m c t (by omega) hm]
  frame_out
  unfold k0_pay3
  pointwise

/-- The kernel's result is the product and the addend. -/
theorem final : (dats m 0 c).arrAt 3 cfg0.N
    = addNn (m (c.tc.loc main_arg0)) (m (c.tc.loc main_arg1)) (m (c.tc.loc main_arg2)) := by
  refine (dats m 0 c).arrAt_eq_of_covers 3 _ (by decide +kernel) fun t hf y => ?_
  have hm := (flush0_3 t).mp hf
  have i0 := idx t
  blk_simp
  rw [after0_3]
  refine (flush m c t hm _).trans (congrArg₂ (· + ·) ((acc m c t hm _).trans
    ((zero_add _).trans (sum_parts (by norm_num) _ _ fun s r k hk => ?_))) ?_)
  · have i1 := idx ⟨11 * (t.val / 11) + s.val, Pipeline.run_point_lt_of_flush t hm s⟩
    congr 1
    · blk_ext [iblk, V, i0, i1]
    · blk_ext [iblk, V, i0, i1]
  · blk_ext [iblk, V, i0]

/-- The reference runs, keeps its arguments and leaves every counter at zero. -/
theorem frame_reference : Cert.quiescent_FwdDownRefIdeal := fun m ρ _ =>
  (θ_run _ _ _).mono (fun r h => ⟨fun c => (h c).2, Idealize.ShloMosaic.sem_eq_zero_of_no_sems (by decide) r.2⟩)
    (Cert.FwdDownRefIdeal.Value.run m ρ)

/-- From equal arguments the kernel and the reference end with equal results. -/
theorem algebraic : Cert.algebraic_FwdDownIdeal_FwdDownRefIdeal := fun m ρ m' ρ' _ hag =>
  ⟨fun c => addNn (m (c.tc.loc main_arg0)) (m (c.tc.loc main_arg1)) (m (c.tc.loc main_arg2)),
   (θ_run _ _ _).mono (fun _ h c => ⟨(h c).1.trans (final m c), (h c).2⟩) (Value.run_blocks m ρ),
   (θ_run _ _ _).mono (fun _ h c => ⟨(h c).1.trans (by
     rw [(hag c).1, (hag c).2.1, (hag c).2.2]
     funext i
     unfold addNn nn
     pointwise [Cert.FwdDownRefIdeal.dot_S2048x5632_S5632x2048_S2048x2048_1_0_0_1_n_n]
     exact add_comm _ _), (h c).2⟩) (Cert.FwdDownRefIdeal.Value.run m' ρ')⟩

end Cert.FwdDownIdeal.Prod

end
-- ==== Proof.ProdBwdX.lean ====
module

public import proofs.«01_k».proof.Defs
public import proofs.«01_k».proof.Proof.Gen.BwdInXIdeal.Value
public import proofs.«01_k».proof.Proof.Gen.BwdInXRefIdeal.Run
public import proofs.«01_k».proof.Proof.Gen.BwdGuXIdeal.Value
public import proofs.«01_k».proof.Proof.Gen.BwdGuXRefIdeal.Run
public import proofs.«01_k».proof.Proof.Gen.BwdGluXIdeal.Value
public import proofs.«01_k».proof.Proof.Gen.BwdGluXRefIdeal.Run
public import proofs.«01_k».proof.Proof.Gen.BwdOutXIdeal.Value
public import proofs.«01_k».proof.Proof.Gen.BwdOutXRefIdeal.Run
public import proofs.«01_k».proof.Proof.Gen.BwdDownXIdeal.Value
public import proofs.«01_k».proof.Proof.Gen.BwdDownXRefIdeal.Run
public import proofs.«01_k».proof.Proof.ProdMath
public import Idealize.ShloMosaic.Lib.Pipeline.ReadBack

@[expose] public section

set_option maxRecDepth 16384

noncomputable section

/-! # The backward products with a weight: the gradient of a layer's input -/

/-! ## With `w_in`, twelve blocks of 1024 at a time -/

namespace Cert.BwdInXIdeal.Prod

open Cert.BwdInXIdeal Cert.BwdInXIdeal.Gen Idealize.ShloMosaic Idealize.ShloMosaic.TcCoe Idealize.SL.Sem Cert.Prod

variable (m : (ℓ : Loc nD τ sig) → Buf (Elt Ideal) ℓ) (c : Dev nD)

/-- Which blocks point `t` reads and writes: 12 points in a row write one block. -/
theorem idx : ∀ t : Fin cfg0.N, win0_0.index t 0 = t.val / 24 ∧ win0_0.index t 1 = t.val % 12 ∧ win0_1.index t 1 = t.val % 12
    ∧ win0_1.index t 0 = t.val / 12 % 2 ∧ win0_2.index t 0 = t.val / 24 ∧ win0_2.index t 1 = t.val / 12 % 2 :=
  (by decide +kernel : ∀ t : Fin grid0.N, _)

/-- At the last of 12 points the accumulator holds the sum of the 12 partial products. -/
theorem acc (t : Fin cfg0.N) (hm : t.val % 12 = 11) (i : S1024x1024.Idx) : (outsAt0 m c t.val t.isLt).2 i
    = 0 + ∑ s : Fin 12, nt (iblk m c 0 ⟨12 * (t.val / 12) + s.val, Pipeline.run_point_lt_of_flush t hm s⟩)
        (iblk m c 1 ⟨12 * (t.val / 12) + s.val, Pipeline.run_point_lt_of_flush t hm s⟩) i := by
  refine Pipeline.eq_sum_fin_of_reset_step_apply_of_flush (fun n h => (outsAt0 m c n h).2) 12 (fun _ => (0 : EReal))
    (fun t => nt (iblk m c 0 t) (iblk m c 1 t)) (fun t h i => ?_) (fun t h i => ?_) t hm i
  · rw [outsAt0_A m c t h (by omega)]
    frame_out
    unfold k0_pay2 nt k0_pay1
    pointwise [dot_S1024x1024_S1024x1024_S1024x1024_1_1_0_0_n_n]
  · by_cases h1 : t.val % 12 = 11
    · rw [outsAt0_C m c t h h1]
      frame_out
      simp only [read_unread_whole]
      unfold k0_pay2 nt
      pointwise [dot_S1024x1024_S1024x1024_S1024x1024_1_1_0_0_n_n]
    · rw [outsAt0_B m c t h h1]
      frame_out
      simp only [read_unread_whole]
      unfold k0_pay2 nt
      pointwise [dot_S1024x1024_S1024x1024_S1024x1024_1_1_0_0_n_n]

/-- What the last of 12 points writes out is the accumulator. -/
theorem flush (t : Fin cfg0.N) (hm : t.val % 12 = 11) : (outsAt0 m c t.val t.isLt).1 = (outsAt0 m c t.val t.isLt).2 := by
  rw [outsAt0_C m c t (by omega) hm]
  frame_out

/-- The kernel's result is the product. -/
theorem final : (dats m 0 c).arrAt 2 cfg0.N = nt (m (c.tc.loc main_arg0)) (m (c.tc.loc main_arg1)) := by
  refine (dats m 0 c).arrAt_eq_of_covers 2 _ (by decide +kernel) fun t hf y => ?_
  have hm := (flush0_2 t).mp hf
  have i0 := idx t
  blk_simp
  rw [after0_2, flush m c t hm]
  refine (acc m c t hm _).trans ((zero_add _).trans (sum_parts (by norm_num) _ _ fun s r k hk => ?_))
  have i1 := idx ⟨12 * (t.val / 12) + s.val, Pipeline.run_point_lt_of_flush t hm s⟩
  congr 1
  · blk_ext [iblk, V, i0, i1]
  · blk_ext [iblk, V, i0, i1]

/-- The reference runs, keeps its arguments and leaves every counter at zero. -/
theorem frame_reference : Cert.quiescent_BwdInXRefIdeal := fun m ρ _ =>
  (θ_run _ _ _).mono (fun r h => ⟨fun c => (h c).2, Idealize.ShloMosaic.sem_eq_zero_of_no_sems (by decide) r.2⟩)
    (Cert.BwdInXRefIdeal.Value.run m ρ)

/-- From equal arguments the kernel and the reference end with equal results. -/
theorem algebraic : Cert.algebraic_BwdInXIdeal_BwdInXRefIdeal := fun m ρ m' ρ' _ hag =>
  ⟨fun c => nt (m (c.tc.loc main_arg0)) (m (c.tc.loc main_arg1)),
   (θ_run _ _ _).mono (fun _ h c => ⟨(h c).1.trans (final m c), (h c).2⟩) (Value.run_blocks m ρ),
   (θ_run _ _ _).mono (fun _ h c => ⟨(h c).1.trans (by
     rw [(hag c).1, (hag c).2]
     funext i
     unfold nt
     pointwise [Cert.BwdInXRefIdeal.dot_S2048x12288_S2048x12288_S2048x2048_1_1_0_0_n_n]), (h c).2⟩) (Cert.BwdInXRefIdeal.Value.run m' ρ')⟩

end Cert.BwdInXIdeal.Prod

/-! ## With `w_gate` and `w_up` side by side, eleven blocks of 1024 at a time; the reference adds the two products -/

namespace Cert.BwdGuXIdeal.Prod

open Cert.BwdGuXIdeal Cert.BwdGuXIdeal.Gen Idealize.ShloMosaic Idealize.ShloMosaic.TcCoe Idealize.SL.Sem Cert.Prod

variable (m : (ℓ : Loc nD τ sig) → Buf (Elt Ideal) ℓ) (c : Dev nD)

/-- Which blocks point `t` reads and writes: 11 points in a row write one block. -/
theorem idx : ∀ t : Fin cfg0.N, win0_0.index t 0 = t.val / 22 ∧ win0_0.index t 1 = t.val % 11 ∧ win0_1.index t 1 = t.val % 11
    ∧ win0_1.index t 0 = t.val / 11 % 2 ∧ win0_2.index t 0 = t.val / 22 ∧ win0_2.index t 1 = t.val / 11 % 2 :=
  (by decide +kernel : ∀ t : Fin grid0.N, _)

/-- At the last of 11 points the accumulator holds the sum of the 11 partial products. -/
theorem acc (t : Fin cfg0.N) (hm : t.val % 11 = 10) (i : S1024x1024.Idx) : (outsAt0 m c t.val t.isLt).2 i
    = 0 + ∑ s : Fin 11, nt (iblk m c 0 ⟨11 * (t.val / 11) + s.val, Pipeline.run_point_lt_of_flush t hm s⟩)
        (iblk m c 1 ⟨11 * (t.val / 11) + s.val, Pipeline.run_point_lt_of_flush t hm s⟩) i := by
  refine Pipeline.eq_sum_fin_of_reset_step_apply_of_flush (fun n h => (outsAt0 m c n h).2) 11 (fun _ => (0 : EReal))
    (fun t => nt (iblk m c 0 t) (iblk m c 1 t)) (fun t h i => ?_) (fun t h i => ?_) t hm i
  · rw [outsAt0_A m c t h (by omega)]
    frame_out
    unfold k0_pay2 nt k0_pay1
    pointwise [dot_S1024x1024_S1024x1024_S1024x1024_1_1_0_0_n_n]
  · by_cases h1 : t.val % 11 = 10
    · rw [outsAt0_C m c t h h1]
      frame_out
      simp only [read_unread_whole]
      unfold k0_pay2 nt
      pointwise [dot_S1024x1024_S1024x1024_S1024x1024_1_1_0_0_n_n]
    · rw [outsAt0_B m c t h h1]
      frame_out
      simp only [read_unread_whole]
      unfold k0_pay2 nt
      pointwise [dot_S1024x1024_S1024x1024_S1024x1024_1_1_0_0_n_n]

/-- What the last of 11 points writes out is the accumulator. -/
theorem flush (t : Fin cfg0.N) (hm : t.val % 11 = 10) : (outsAt0 m c t.val t.isLt).1 = (outsAt0 m c t.val t.isLt).2 := by
  rw [outsAt0_C m c t (by omega) hm]
  frame_out

/-- The kernel's result is the product. -/
theorem final : (dats m 0 c).arrAt 2 cfg0.N = nt (m (c.tc.loc main_arg0)) (m (c.tc.loc main_arg1)) := by
  refine (dats m 0 c).arrAt_eq_of_covers 2 _ (by decide +kernel) fun t hf y => ?_
  have hm := (flush0_2 t).mp hf
  have i0 := idx t
  blk_simp
  rw [after0_2, flush m c t hm]
  refine (acc m c t hm _).trans ((zero_add _).trans (sum_parts (by norm_num) _ _ fun s r k hk => ?_))
  have i1 := idx ⟨11 * (t.val / 11) + s.val, Pipeline.run_point_lt_of_flush t hm s⟩
  congr 1
  · blk_ext [iblk, V, i0, i1]
  · blk_ext [iblk, V, i0, i1]

/-- The reference runs, keeps its arguments and leaves every counter at zero. -/
theorem frame_reference : Cert.quiescent_BwdGuXRefIdeal := fun m ρ _ =>
  (θ_run _ _ _).mono (fun r h => ⟨fun c => (h c).2, Idealize.ShloMosaic.sem_eq_zero_of_no_sems (by decide) r.2⟩)
    (Cert.BwdGuXRefIdeal.Value.run m ρ)

/-- From equal arguments the kernel and the reference end with equal results. -/
theorem algebraic : Cert.algebraic_BwdGuXIdeal_BwdGuXRefIdeal := fun m ρ m' ρ' _ hag =>
  ⟨fun c => nt (m (c.tc.loc main_arg0)) (m (c.tc.loc main_arg1)),
   (θ_run _ _ _).mono (fun _ h c => ⟨(h c).1.trans (final m c), (h c).2⟩) (Value.run_blocks m ρ),
   (θ_run _ _ _).mono (fun _ h c => ⟨(h c).1.trans (by
     rw [(hag c).1, (hag c).2]
     funext i
     unfold nt
     refine Eq.trans ?_ (sum_two (a := 5632) (b := 5632) (by norm_num) _).symm
     pointwise [Cert.BwdGuXRefIdeal.dot_S2048x5632_S2048x5632_S2048x2048_1_1_0_0_n_n]), (h c).2⟩) (Cert.BwdGuXRefIdeal.Value.run m' ρ')⟩

end Cert.BwdGuXIdeal.Prod

/-! ## With `w_out` -/

namespace Cert.BwdOutXIdeal.Prod

open Cert.BwdOutXIdeal Cert.BwdOutXIdeal.Gen Idealize.ShloMosaic Idealize.ShloMosaic.TcCoe Idealize.SL.Sem Cert.Prod

variable (m : (ℓ : Loc nD τ sig) → Buf (Elt Ideal) ℓ) (c : Dev nD)

/-- Point `t` reads all of the left array, and of the right one the rows that are the columns it writes. -/
theorem idx : ∀ t : Fin cfg0.N, win0_0.index t 0 = win0_2.index t 0 ∧ win0_0.index t 1 = 0
    ∧ win0_1.index t 1 = 0 ∧ win0_1.index t 0 = win0_2.index t 1 :=
  (by decide +kernel : ∀ t : Fin grid0.N, _)

/-- The kernel's result is the product. -/
theorem final : (dats m 0 c).arrAt 2 cfg0.N = nt (m (c.tc.loc main_arg0)) (m (c.tc.loc main_arg1)) := by
  refine (dats m 0 c).arrAt_eq_of_covers 2 _ (by decide +kernel) fun t hf y => ?_
  blk_simp
  rw [after0_2]
  frame_out
  unfold k0_pay1 nt
  pointwise [dot_S2048x2048_S1024x2048_S2048x1024_1_1_0_0_n_n]
  blk_point [iblk, V, idx t]

/-- The reference runs, keeps its arguments and leaves every counter at zero. -/
theorem frame_reference : Cert.quiescent_BwdOutXRefIdeal := fun m ρ _ =>
  (θ_run _ _ _).mono (fun r h => ⟨fun c => (h c).2, Idealize.ShloMosaic.sem_eq_zero_of_no_sems (by decide) r.2⟩)
    (Cert.BwdOutXRefIdeal.Value.run m ρ)

/-- From equal arguments the kernel and the reference end with equal results. -/
theorem algebraic : Cert.algebraic_BwdOutXIdeal_BwdOutXRefIdeal := fun m ρ m' ρ' _ hag =>
  ⟨fun c => nt (m (c.tc.loc main_arg0)) (m (c.tc.loc main_arg1)),
   (θ_run _ _ _).mono (fun _ h c => ⟨(h c).1.trans (final m c), (h c).2⟩) (Value.run_blocks m ρ),
   (θ_run _ _ _).mono (fun _ h c => ⟨(h c).1.trans (by
     rw [(hag c).1, (hag c).2]
     funext i
     unfold nt
     pointwise [Cert.BwdOutXRefIdeal.dot_S2048x2048_S2048x2048_S2048x2048_1_1_0_0_n_n]), (h c).2⟩) (Cert.BwdOutXRefIdeal.Value.run m' ρ')⟩

end Cert.BwdOutXIdeal.Prod

/-! ## With `w_down` -/

namespace Cert.BwdDownXIdeal.Prod

open Cert.BwdDownXIdeal Cert.BwdDownXIdeal.Gen Idealize.ShloMosaic Idealize.ShloMosaic.TcCoe Idealize.SL.Sem Cert.Prod

variable (m : (ℓ : Loc nD τ sig) → Buf (Elt Ideal) ℓ) (c : Dev nD)

/-- Point `t` reads all of the left array, and of the right one the rows that are the columns it writes. -/
theorem idx : ∀ t : Fin cfg0.N, win0_0.index t 0 = win0_2.index t 0 ∧ win0_0.index t 1 = 0
    ∧ win0_1.index t 1 = 0 ∧ win0_1.index t 0 = win0_2.index t 1 :=
  (by decide +kernel : ∀ t : Fin grid0.N, _)

/-- The kernel's result is the product. -/
theorem final : (dats m 0 c).arrAt 2 cfg0.N = nt (m (c.tc.loc main_arg0)) (m (c.tc.loc main_arg1)) := by
  refine (dats m 0 c).arrAt_eq_of_covers 2 _ (by decide +kernel) fun t hf y => ?_
  blk_simp
  rw [after0_2]
  frame_out
  unfold k0_pay1 nt
  pointwise [dot_S2048x2048_S512x2048_S2048x512_1_1_0_0_n_n]
  blk_point [iblk, V, idx t]

/-- The reference runs, keeps its arguments and leaves every counter at zero. -/
theorem frame_reference : Cert.quiescent_BwdDownXRefIdeal := fun m ρ _ =>
  (θ_run _ _ _).mono (fun r h => ⟨fun c => (h c).2, Idealize.ShloMosaic.sem_eq_zero_of_no_sems (by decide) r.2⟩)
    (Cert.BwdDownXRefIdeal.Value.run m ρ)

/-- From equal arguments the kernel and the reference end with equal results. -/
theorem algebraic : Cert.algebraic_BwdDownXIdeal_BwdDownXRefIdeal := fun m ρ m' ρ' _ hag =>
  ⟨fun c => nt (m (c.tc.loc main_arg0)) (m (c.tc.loc main_arg1)),
   (θ_run _ _ _).mono (fun _ h c => ⟨(h c).1.trans (final m c), (h c).2⟩) (Value.run_blocks m ρ),
   (θ_run _ _ _).mono (fun _ h c => ⟨(h c).1.trans (by
     rw [(hag c).1, (hag c).2]
     funext i
     unfold nt
     pointwise [Cert.BwdDownXRefIdeal.dot_S2048x2048_S5632x2048_S2048x5632_1_1_0_0_n_n]), (h c).2⟩) (Cert.BwdDownXRefIdeal.Value.run m' ρ')⟩

end Cert.BwdDownXIdeal.Prod

/-! ## With `w_glu`, added to the other part of the gradient -/

namespace Cert.BwdGluXIdeal.Prod

open Cert.BwdGluXIdeal Cert.BwdGluXIdeal.Gen Idealize.ShloMosaic Idealize.ShloMosaic.TcCoe Idealize.SL.Sem Cert.Prod

variable (m : (ℓ : Loc nD τ sig) → Buf (Elt Ideal) ℓ) (c : Dev nD)

/-- Point `t` reads all of the left array, of the right one the rows that are the columns it writes, and of the addend the
    block it writes. -/
theorem idx : ∀ t : Fin cfg0.N, win0_0.index t 0 = win0_3.index t 0 ∧ win0_0.index t 1 = 0
    ∧ win0_1.index t 1 = 0 ∧ win0_1.index t 0 = win0_3.index t 1
    ∧ win0_2.index t 0 = win0_3.index t 0 ∧ win0_2.index t 1 = win0_3.index t 1 :=
  (by decide +kernel : ∀ t : Fin grid0.N, _)

/-- The kernel's result is the product and the addend. -/
theorem final : (dats m 0 c).arrAt 3 cfg0.N
    = addNt (m (c.tc.loc main_arg0)) (m (c.tc.loc main_arg1)) (m (c.tc.loc main_arg2)) := by
  refine (dats m 0 c).arrAt_eq_of_covers 3 _ (by decide +kernel) fun t hf y => ?_
  blk_simp
  rw [after0_3]
  frame_out
  unfold k0_pay1 addNt nt
  pointwise [dot_S2048x2048_S512x2048_S2048x512_1_1_0_0_n_n]
  blk_point [iblk, V, idx t]

/-- The reference runs, keeps its arguments and leaves every counter at zero. -/
theorem frame_reference : Cert.quiescent_BwdGluXRefIdeal := fun m ρ _ =>
  (θ_run _ _ _).mono (fun r h => ⟨fun c => (h c).2, Idealize.ShloMosaic.sem_eq_zero_of_no_sems (by decide) r.2⟩)
    (Cert.BwdGluXRefIdeal.Value.run m ρ)

/-- From equal arguments the kernel and the reference end with equal results. -/
theorem algebraic : Cert.algebraic_BwdGluXIdeal_BwdGluXRefIdeal := fun m ρ m' ρ' _ hag =>
  ⟨fun c => addNt (m (c.tc.loc main_arg0)) (m (c.tc.loc main_arg1)) (m (c.tc.loc main_arg2)),
   (θ_run _ _ _).mono (fun _ h c => ⟨(h c).1.trans (final m c), (h c).2⟩) (Value.run_blocks m ρ),
   (θ_run _ _ _).mono (fun _ h c => ⟨(h c).1.trans (by
     rw [(hag c).1, (hag c).2.1, (hag c).2.2]
     funext i
     unfold addNt nt
     pointwise [Cert.BwdGluXRefIdeal.dot_S2048x2048_S2048x2048_S2048x2048_1_1_0_0_n_n]
     exact add_comm _ _), (h c).2⟩) (Cert.BwdGluXRefIdeal.Value.run m' ρ')⟩

end Cert.BwdGluXIdeal.Prod

end
-- ==== Proof.ProdBwdW.lean ====
module

public import proofs.«01_k».proof.Defs
public import proofs.«01_k».proof.Proof.Gen.BwdInWIdeal.Value
public import proofs.«01_k».proof.Proof.Gen.BwdInWRefIdeal.Run
public import proofs.«01_k».proof.Proof.Gen.BwdGuWIdeal.Value
public import proofs.«01_k».proof.Proof.Gen.BwdGuWRefIdeal.Run
public import proofs.«01_k».proof.Proof.Gen.BwdOutWIdeal.Value
public import proofs.«01_k».proof.Proof.Gen.BwdOutWRefIdeal.Run
public import proofs.«01_k».proof.Proof.Gen.BwdDownWIdeal.Value
public import proofs.«01_k».proof.Proof.Gen.BwdDownWRefIdeal.Run
public import proofs.«01_k».proof.Proof.ProdMath
public import Idealize.ShloMosaic.Lib.Pipeline.ReadBack

@[expose] public section

set_option maxRecDepth 16384

noncomputable section

/-! # The backward products of a layer's input with its output's gradient: the gradients of the weights -/

/-! ## Of `w_in` -/

namespace Cert.BwdInWIdeal.Prod

open Cert.BwdInWIdeal Cert.BwdInWIdeal.Gen Idealize.ShloMosaic Idealize.ShloMosaic.TcCoe Idealize.SL.Sem Cert.Prod

variable (m : (ℓ : Loc nD τ sig) → Buf (Elt Ideal) ℓ) (c : Dev nD)

/-- Point `t` reads all of the left array, and of the right one the columns it writes. -/
theorem idx : ∀ t : Fin cfg0.N, win0_0.index t 0 = 0 ∧ win0_0.index t 1 = win0_2.index t 0
    ∧ win0_1.index t 0 = 0 ∧ win0_1.index t 1 = win0_2.index t 1
    ∧ win0_3.index t 0 = win0_2.index t 0 ∧ win0_3.index t 1 = win0_2.index t 1 :=
  (by decide +kernel : ∀ t : Fin grid0.N, _)

/-- The kernel's first result is the product. -/
theorem final : (dats m 0 c).arrAt 2 cfg0.N = tn (m (c.tc.loc main_arg0)) (m (c.tc.loc main_arg1)) := by
  refine (dats m 0 c).arrAt_eq_of_covers 2 _ (by decide +kernel) fun t hf y => ?_
  blk_simp
  rw [after0_2]
  frame_out
  unfold k0_pay1 tn
  pointwise [dot_S2048x2048_S2048x512_S2048x512_0_0_1_1_n_n]
  blk_point [iblk, V, idx t]

/-- The kernel's second result, the same in half the width, is the product. -/
theorem final_bf16 : (dats m 0 c).arrAt 3 cfg0.N = tn (m (c.tc.loc main_arg0)) (m (c.tc.loc main_arg1)) := by
  refine (dats m 0 c).arrAt_eq_of_covers 3 _ (by decide +kernel) fun t hf y => ?_
  blk_simp
  rw [after0_3]
  frame_out
  unfold k0_pay2 k0_pay1 tn
  pointwise [dot_S2048x2048_S2048x512_S2048x512_0_0_1_1_n_n]
  blk_point [iblk, V, idx t]

/-- The reference runs, keeps its arguments and leaves every counter at zero. -/
theorem frame_reference : Cert.quiescent_BwdInWRefIdeal := fun m ρ _ =>
  (θ_run _ _ _).mono (fun r h => ⟨fun c => (h c).2.2, Idealize.ShloMosaic.sem_eq_zero_of_no_sems (by decide) r.2⟩)
    (Cert.BwdInWRefIdeal.Value.run m ρ)

/-- The reference's two results are the product. -/
theorem run_reference (m : (ℓ : Loc Cert.BwdInWRefIdeal.nD Cert.BwdInWRefIdeal.τ Cert.BwdInWRefIdeal.sig) → Buf (Elt Ideal) ℓ)
    (ρ : Dev Cert.BwdInWRefIdeal.nD → PrngReg) :
    θ_run (Cert.BwdInWRefIdeal.defs (F := Ideal)) (onTc (τ := Cert.BwdInWRefIdeal.τ) (Cert.BwdInWRefIdeal.main (F := Ideal))) ⟨m, fun _ => 0, ρ⟩
      fun r => ∀ c : Dev Cert.BwdInWRefIdeal.nD,
      r.2.mem ((c.tc : Thread Cert.BwdInWRefIdeal.nD Cert.BwdInWRefIdeal.τ).loc Cert.BwdInWRefIdeal.main_v5)
        = tn (m (c.tc.loc Cert.BwdInWRefIdeal.main_arg0)) (m (c.tc.loc Cert.BwdInWRefIdeal.main_arg1))
      ∧ r.2.mem ((c.tc : Thread Cert.BwdInWRefIdeal.nD Cert.BwdInWRefIdeal.τ).loc Cert.BwdInWRefIdeal.main_v6)
        = tn (m (c.tc.loc Cert.BwdInWRefIdeal.main_arg0)) (m (c.tc.loc Cert.BwdInWRefIdeal.main_arg1))
      ∧ r.2.mem ((c.tc : Thread Cert.BwdInWRefIdeal.nD Cert.BwdInWRefIdeal.τ).loc Cert.BwdInWRefIdeal.main_arg0) = m (c.tc.loc Cert.BwdInWRefIdeal.main_arg0)
      ∧ r.2.mem ((c.tc : Thread Cert.BwdInWRefIdeal.nD Cert.BwdInWRefIdeal.τ).loc Cert.BwdInWRefIdeal.main_arg1) = m (c.tc.loc Cert.BwdInWRefIdeal.main_arg1) := by
  refine (θ_run _ _ _).mono (fun _ h c => ?_) (Cert.BwdInWRefIdeal.Value.run m ρ)
  have e := (h c).1.trans (c := tn (m (c.tc.loc Cert.BwdInWRefIdeal.main_arg0)) (m (c.tc.loc Cert.BwdInWRefIdeal.main_arg1))) (by
    funext i
    unfold tn
    pointwise [Cert.BwdInWRefIdeal.dot_S2048x12288_S2048x2048_S12288x2048_0_0_1_1_n_n]
    exact Finset.sum_congr rfl fun k _ => mul_comm _ _)
  exact ⟨e, (h c).2.1.trans ((h c).1.symm.trans e), (h c).2.2⟩

/-- From equal arguments the kernel and the reference end with equal results. -/
theorem algebraic : Cert.algebraic_BwdInWIdeal_BwdInWRefIdeal := fun m ρ m' ρ' _ hag =>
  ⟨fun c => tn (m (c.tc.loc main_arg0)) (m (c.tc.loc main_arg1)), fun c => tn (m (c.tc.loc main_arg0)) (m (c.tc.loc main_arg1)),
   (θ_run _ _ _).mono (fun _ h c => ⟨(h c).1.trans (final m c), (h c).2.1.trans (final_bf16 m c), (h c).2.2⟩) (Value.run_blocks m ρ),
   (θ_run _ _ _).mono (fun _ h c => ⟨(h c).1.trans (by rw [(hag c).1, (hag c).2]), (h c).2.1.trans (by rw [(hag c).1, (hag c).2]), (h c).2.2⟩)
     (run_reference m' ρ')⟩

end Cert.BwdInWIdeal.Prod

/-! ## Of `w_gate` and `w_up`, side by side in one array -/

namespace Cert.BwdGuWIdeal.Prod

open Cert.BwdGuWIdeal Cert.BwdGuWIdeal.Gen Idealize.ShloMosaic Idealize.ShloMosaic.TcCoe Idealize.SL.Sem Cert.Prod

variable (m : (ℓ : Loc nD τ sig) → Buf (Elt Ideal) ℓ) (c : Dev nD)

/-- Point `t` reads all of the left array, and of the right one the columns it writes. -/
theorem idx : ∀ t : Fin cfg0.N, win0_0.index t 0 = 0 ∧ win0_0.index t 1 = win0_2.index t 0
    ∧ win0_1.index t 0 = 0 ∧ win0_1.index t 1 = win0_2.index t 1
    ∧ win0_3.index t 0 = win0_2.index t 0 ∧ win0_3.index t 1 = win0_2.index t 1 :=
  (by decide +kernel : ∀ t : Fin grid0.N, _)

/-- The kernel's first result is the product. -/
theorem final : (dats m 0 c).arrAt 2 cfg0.N = tn (m (c.tc.loc main_arg0)) (m (c.tc.loc main_arg1)) := by
  refine (dats m 0 c).arrAt_eq_of_covers 2 _ (by decide +kernel) fun t hf y => ?_
  blk_simp
  rw [after0_2]
  frame_out
  unfold k0_pay1 tn
  pointwise [dot_S2048x2048_S2048x512_S2048x512_0_0_1_1_n_n]
  blk_point [iblk, V, idx t]

/-- The kernel's second result, the same in half the width, is the product. -/
theorem final_bf16 : (dats m 0 c).arrAt 3 cfg0.N = tn (m (c.tc.loc main_arg0)) (m (c.tc.loc main_arg1)) := by
  refine (dats m 0 c).arrAt_eq_of_covers 3 _ (by decide +kernel) fun t hf y => ?_
  blk_simp
  rw [after0_3]
  frame_out
  unfold k0_pay2 k0_pay1 tn
  pointwise [dot_S2048x2048_S2048x512_S2048x512_0_0_1_1_n_n]
  blk_point [iblk, V, idx t]

/-- The reference runs, keeps its arguments and leaves every counter at zero. -/
theorem frame_reference : Cert.quiescent_BwdGuWRefIdeal := fun m ρ _ =>
  (θ_run _ _ _).mono (fun r h => ⟨fun c => (h c).2.2, Idealize.ShloMosaic.sem_eq_zero_of_no_sems (by decide) r.2⟩)
    (Cert.BwdGuWRefIdeal.Value.run m ρ)

/-- The reference's two results are the product. -/
theorem run_reference (m : (ℓ : Loc Cert.BwdGuWRefIdeal.nD Cert.BwdGuWRefIdeal.τ Cert.BwdGuWRefIdeal.sig) → Buf (Elt Ideal) ℓ)
    (ρ : Dev Cert.BwdGuWRefIdeal.nD → PrngReg) :
    θ_run (Cert.BwdGuWRefIdeal.defs (F := Ideal)) (onTc (τ := Cert.BwdGuWRefIdeal.τ) (Cert.BwdGuWRefIdeal.main (F := Ideal))) ⟨m, fun _ => 0, ρ⟩
      fun r => ∀ c : Dev Cert.BwdGuWRefIdeal.nD,
      r.2.mem ((c.tc : Thread Cert.BwdGuWRefIdeal.nD Cert.BwdGuWRefIdeal.τ).loc Cert.BwdGuWRefIdeal.main_v14)
        = tn (m (c.tc.loc Cert.BwdGuWRefIdeal.main_arg0)) (m (c.tc.loc Cert.BwdGuWRefIdeal.main_arg1))
      ∧ r.2.mem ((c.tc : Thread Cert.BwdGuWRefIdeal.nD Cert.BwdGuWRefIdeal.τ).loc Cert.BwdGuWRefIdeal.main_v15)
        = tn (m (c.tc.loc Cert.BwdGuWRefIdeal.main_arg0)) (m (c.tc.loc Cert.BwdGuWRefIdeal.main_arg1))
      ∧ r.2.mem ((c.tc : Thread Cert.BwdGuWRefIdeal.nD Cert.BwdGuWRefIdeal.τ).loc Cert.BwdGuWRefIdeal.main_arg0) = m (c.tc.loc Cert.BwdGuWRefIdeal.main_arg0)
      ∧ r.2.mem ((c.tc : Thread Cert.BwdGuWRefIdeal.nD Cert.BwdGuWRefIdeal.τ).loc Cert.BwdGuWRefIdeal.main_arg1) = m (c.tc.loc Cert.BwdGuWRefIdeal.main_arg1) := by
  refine (θ_run _ _ _).mono (fun _ h c => ?_) (Cert.BwdGuWRefIdeal.Value.run m ρ)
  have e := (h c).1.trans (c := tn (m (c.tc.loc Cert.BwdGuWRefIdeal.main_arg0)) (m (c.tc.loc Cert.BwdGuWRefIdeal.main_arg1))) (by
    funext i
    unfold tn
    pointwise [Cert.BwdGuWRefIdeal.dot_S2048x5632_S2048x2048_S5632x2048_0_0_1_1_n_n]
    split
    · exact Finset.sum_congr rfl fun k _ => mul_comm _ _
    · have e : 5632 + ((i 1).val - 5632) = (i 1).val := by omega
      simp only [e, Fin.eta]
      exact Finset.sum_congr rfl fun k _ => mul_comm _ _)
  exact ⟨e, (h c).2.1.trans ((h c).1.symm.trans e), (h c).2.2⟩

/-- From equal arguments the kernel and the reference end with equal results. -/
theorem algebraic : Cert.algebraic_BwdGuWIdeal_BwdGuWRefIdeal := fun m ρ m' ρ' _ hag =>
  ⟨fun c => tn (m (c.tc.loc main_arg0)) (m (c.tc.loc main_arg1)), fun c => tn (m (c.tc.loc main_arg0)) (m (c.tc.loc main_arg1)),
   (θ_run _ _ _).mono (fun _ h c => ⟨(h c).1.trans (final m c), (h c).2.1.trans (final_bf16 m c), (h c).2.2⟩) (Value.run_blocks m ρ),
   (θ_run _ _ _).mono (fun _ h c => ⟨(h c).1.trans (by rw [(hag c).1, (hag c).2]), (h c).2.1.trans (by rw [(hag c).1, (hag c).2]), (h c).2.2⟩)
     (run_reference m' ρ')⟩

end Cert.BwdGuWIdeal.Prod

/-! ## Of `w_out`, and of `w_glu`: the two calls have the same shapes -/

namespace Cert.BwdOutWIdeal.Prod

open Cert.BwdOutWIdeal Cert.BwdOutWIdeal.Gen Idealize.ShloMosaic Idealize.ShloMosaic.TcCoe Idealize.SL.Sem Cert.Prod

variable (m : (ℓ : Loc nD τ sig) → Buf (Elt Ideal) ℓ) (c : Dev nD)

/-- Point `t` reads all of the left array, and of the right one the columns it writes. -/
theorem idx : ∀ t : Fin cfg0.N, win0_0.index t 0 = 0 ∧ win0_0.index t 1 = win0_2.index t 0
    ∧ win0_1.index t 0 = 0 ∧ win0_1.index t 1 = win0_2.index t 1
    ∧ win0_3.index t 0 = win0_2.index t 0 ∧ win0_3.index t 1 = win0_2.index t 1 :=
  (by decide +kernel : ∀ t : Fin grid0.N, _)

/-- The kernel's first result is the product. -/
theorem final : (dats m 0 c).arrAt 2 cfg0.N = tn (m (c.tc.loc main_arg0)) (m (c.tc.loc main_arg1)) := by
  refine (dats m 0 c).arrAt_eq_of_covers 2 _ (by decide +kernel) fun t hf y => ?_
  blk_simp
  rw [after0_2]
  frame_out
  unfold k0_pay1 tn
  pointwise [dot_S2048x2048_S2048x512_S2048x512_0_0_1_1_n_n]
  blk_point [iblk, V, idx t]

/-- The kernel's second result, the same in half the width, is the product. -/
theorem final_bf16 : (dats m 0 c).arrAt 3 cfg0.N = tn (m (c.tc.loc main_arg0)) (m (c.tc.loc main_arg1)) := by
  refine (dats m 0 c).arrAt_eq_of_covers 3 _ (by decide +kernel) fun t hf y => ?_
  blk_simp
  rw [after0_3]
  frame_out
  unfold k0_pay2 k0_pay1 tn
  pointwise [dot_S2048x2048_S2048x512_S2048x512_0_0_1_1_n_n]
  blk_point [iblk, V, idx t]

/-- The reference runs, keeps its arguments and leaves every counter at zero. -/
theorem frame_reference : Cert.quiescent_BwdOutWRefIdeal := fun m ρ _ =>
  (θ_run _ _ _).mono (fun r h => ⟨fun c => (h c).2.2, Idealize.ShloMosaic.sem_eq_zero_of_no_sems (by decide) r.2⟩)
    (Cert.BwdOutWRefIdeal.Value.run m ρ)

/-- The reference's two results are the product. -/
theorem run_reference (m : (ℓ : Loc Cert.BwdOutWRefIdeal.nD Cert.BwdOutWRefIdeal.τ Cert.BwdOutWRefIdeal.sig) → Buf (Elt Ideal) ℓ)
    (ρ : Dev Cert.BwdOutWRefIdeal.nD → PrngReg) :
    θ_run (Cert.BwdOutWRefIdeal.defs (F := Ideal)) (onTc (τ := Cert.BwdOutWRefIdeal.τ) (Cert.BwdOutWRefIdeal.main (F := Ideal))) ⟨m, fun _ => 0, ρ⟩
      fun r => ∀ c : Dev Cert.BwdOutWRefIdeal.nD,
      r.2.mem ((c.tc : Thread Cert.BwdOutWRefIdeal.nD Cert.BwdOutWRefIdeal.τ).loc Cert.BwdOutWRefIdeal.main_v5)
        = tn (m (c.tc.loc Cert.BwdOutWRefIdeal.main_arg0)) (m (c.tc.loc Cert.BwdOutWRefIdeal.main_arg1))
      ∧ r.2.mem ((c.tc : Thread Cert.BwdOutWRefIdeal.nD Cert.BwdOutWRefIdeal.τ).loc Cert.BwdOutWRefIdeal.main_v6)
        = tn (m (c.tc.loc Cert.BwdOutWRefIdeal.main_arg0)) (m (c.tc.loc Cert.BwdOutWRefIdeal.main_arg1))
      ∧ r.2.mem ((c.tc : Thread Cert.BwdOutWRefIdeal.nD Cert.BwdOutWRefIdeal.τ).loc Cert.BwdOutWRefIdeal.main_arg0) = m (c.tc.loc Cert.BwdOutWRefIdeal.main_arg0)
      ∧ r.2.mem ((c.tc : Thread Cert.BwdOutWRefIdeal.nD Cert.BwdOutWRefIdeal.τ).loc Cert.BwdOutWRefIdeal.main_arg1) = m (c.tc.loc Cert.BwdOutWRefIdeal.main_arg1) := by
  refine (θ_run _ _ _).mono (fun _ h c => ?_) (Cert.BwdOutWRefIdeal.Value.run m ρ)
  have e := (h c).1.trans (c := tn (m (c.tc.loc Cert.BwdOutWRefIdeal.main_arg0)) (m (c.tc.loc Cert.BwdOutWRefIdeal.main_arg1))) (by
    funext i
    unfold tn
    pointwise [Cert.BwdOutWRefIdeal.dot_S2048x2048_S2048x2048_S2048x2048_0_0_1_1_n_n]
    exact Finset.sum_congr rfl fun k _ => mul_comm _ _)
  exact ⟨e, (h c).2.1.trans ((h c).1.symm.trans e), (h c).2.2⟩

/-- From equal arguments the kernel and the reference end with equal results. -/
theorem algebraic : Cert.algebraic_BwdOutWIdeal_BwdOutWRefIdeal := fun m ρ m' ρ' _ hag =>
  ⟨fun c => tn (m (c.tc.loc main_arg0)) (m (c.tc.loc main_arg1)), fun c => tn (m (c.tc.loc main_arg0)) (m (c.tc.loc main_arg1)),
   (θ_run _ _ _).mono (fun _ h c => ⟨(h c).1.trans (final m c), (h c).2.1.trans (final_bf16 m c), (h c).2.2⟩) (Value.run_blocks m ρ),
   (θ_run _ _ _).mono (fun _ h c => ⟨(h c).1.trans (by rw [(hag c).1, (hag c).2]), (h c).2.1.trans (by rw [(hag c).1, (hag c).2]), (h c).2.2⟩)
     (run_reference m' ρ')⟩

end Cert.BwdOutWIdeal.Prod

/-! ## Of `w_down` -/

namespace Cert.BwdDownWIdeal.Prod

open Cert.BwdDownWIdeal Cert.BwdDownWIdeal.Gen Idealize.ShloMosaic Idealize.ShloMosaic.TcCoe Idealize.SL.Sem Cert.Prod

variable (m : (ℓ : Loc nD τ sig) → Buf (Elt Ideal) ℓ) (c : Dev nD)

/-- Point `t` reads of the left array the columns that are the rows it writes, and of the right one the columns it writes. -/
theorem idx : ∀ t : Fin cfg0.N, win0_0.index t 0 = 0 ∧ win0_0.index t 1 = win0_2.index t 0
    ∧ win0_1.index t 0 = 0 ∧ win0_1.index t 1 = win0_2.index t 1
    ∧ win0_3.index t 0 = win0_2.index t 0 ∧ win0_3.index t 1 = win0_2.index t 1 :=
  (by decide +kernel : ∀ t : Fin grid0.N, _)

/-- The kernel's first result is the product. -/
theorem final : (dats m 0 c).arrAt 2 cfg0.N = tn (m (c.tc.loc main_arg0)) (m (c.tc.loc main_arg1)) := by
  refine (dats m 0 c).arrAt_eq_of_covers 2 _ (by decide +kernel) fun t hf y => ?_
  blk_simp
  rw [after0_2]
  frame_out
  unfold k0_pay1 tn
  pointwise [dot_S2048x512_S2048x1024_S512x1024_0_0_1_1_n_n]
  blk_point [iblk, V, idx t]

/-- The kernel's second result, the same in half the width, is the product. -/
theorem final_bf16 : (dats m 0 c).arrAt 3 cfg0.N = tn (m (c.tc.loc main_arg0)) (m (c.tc.loc main_arg1)) := by
  refine (dats m 0 c).arrAt_eq_of_covers 3 _ (by decide +kernel) fun t hf y => ?_
  blk_simp
  rw [after0_3]
  frame_out
  unfold k0_pay2 k0_pay1 tn
  pointwise [dot_S2048x512_S2048x1024_S512x1024_0_0_1_1_n_n]
  blk_point [iblk, V, idx t]

/-- The reference runs, keeps its arguments and leaves every counter at zero. -/
theorem frame_reference : Cert.quiescent_BwdDownWRefIdeal := fun m ρ _ =>
  (θ_run _ _ _).mono (fun r h => ⟨fun c => (h c).2.2, Idealize.ShloMosaic.sem_eq_zero_of_no_sems (by decide) r.2⟩)
    (Cert.BwdDownWRefIdeal.Value.run m ρ)

/-- The reference's two results are the product. -/
theorem run_reference (m : (ℓ : Loc Cert.BwdDownWRefIdeal.nD Cert.BwdDownWRefIdeal.τ Cert.BwdDownWRefIdeal.sig) → Buf (Elt Ideal) ℓ)
    (ρ : Dev Cert.BwdDownWRefIdeal.nD → PrngReg) :
    θ_run (Cert.BwdDownWRefIdeal.defs (F := Ideal)) (onTc (τ := Cert.BwdDownWRefIdeal.τ) (Cert.BwdDownWRefIdeal.main (F := Ideal))) ⟨m, fun _ => 0, ρ⟩
      fun r => ∀ c : Dev Cert.BwdDownWRefIdeal.nD,
      r.2.mem ((c.tc : Thread Cert.BwdDownWRefIdeal.nD Cert.BwdDownWRefIdeal.τ).loc Cert.BwdDownWRefIdeal.main_v5)
        = tn (m (c.tc.loc Cert.BwdDownWRefIdeal.main_arg0)) (m (c.tc.loc Cert.BwdDownWRefIdeal.main_arg1))
      ∧ r.2.mem ((c.tc : Thread Cert.BwdDownWRefIdeal.nD Cert.BwdDownWRefIdeal.τ).loc Cert.BwdDownWRefIdeal.main_v6)
        = tn (m (c.tc.loc Cert.BwdDownWRefIdeal.main_arg0)) (m (c.tc.loc Cert.BwdDownWRefIdeal.main_arg1))
      ∧ r.2.mem ((c.tc : Thread Cert.BwdDownWRefIdeal.nD Cert.BwdDownWRefIdeal.τ).loc Cert.BwdDownWRefIdeal.main_arg0) = m (c.tc.loc Cert.BwdDownWRefIdeal.main_arg0)
      ∧ r.2.mem ((c.tc : Thread Cert.BwdDownWRefIdeal.nD Cert.BwdDownWRefIdeal.τ).loc Cert.BwdDownWRefIdeal.main_arg1) = m (c.tc.loc Cert.BwdDownWRefIdeal.main_arg1) := by
  refine (θ_run _ _ _).mono (fun _ h c => ?_) (Cert.BwdDownWRefIdeal.Value.run m ρ)
  have e := (h c).1.trans (c := tn (m (c.tc.loc Cert.BwdDownWRefIdeal.main_arg0)) (m (c.tc.loc Cert.BwdDownWRefIdeal.main_arg1))) (by
    funext i
    unfold tn
    pointwise [Cert.BwdDownWRefIdeal.dot_S2048x2048_S2048x5632_S2048x5632_0_0_1_1_n_n]
    exact Finset.sum_congr rfl fun k _ => mul_comm _ _)
  exact ⟨e, (h c).2.1.trans ((h c).1.symm.trans e), (h c).2.2⟩

/-- From equal arguments the kernel and the reference end with equal results. -/
theorem algebraic : Cert.algebraic_BwdDownWIdeal_BwdDownWRefIdeal := fun m ρ m' ρ' _ hag =>
  ⟨fun c => tn (m (c.tc.loc main_arg0)) (m (c.tc.loc main_arg1)), fun c => tn (m (c.tc.loc main_arg0)) (m (c.tc.loc main_arg1)),
   (θ_run _ _ _).mono (fun _ h c => ⟨(h c).1.trans (final m c), (h c).2.1.trans (final_bf16 m c), (h c).2.2⟩) (Value.run_blocks m ρ),
   (θ_run _ _ _).mono (fun _ h c => ⟨(h c).1.trans (by rw [(hag c).1, (hag c).2]), (h c).2.1.trans (by rw [(hag c).1, (hag c).2]), (h c).2.2⟩)
     (run_reference m' ρ')⟩

end Cert.BwdDownWIdeal.Prod

end
-- ==== Proof.RowsMath.lean ====
module

public import proofs.«01_k».proof.Proof.ProdMath

@[expose] public section

noncomputable section

/-! # The functions of a layer that work entry by entry or row by row, and the optimiser's -/

namespace Cert.Rows

open Idealize.ShloMosaic Cert.Prod

variable {a b n w : ℕ}

/-- The float literal of the given word, as an extended real. -/
abbrev lit (x : BitVec 32) : EReal := Ideal.ofBits .f32 x

/-- The logistic function written out. -/
theorem logistic_eq (x : EReal) : Ideal.div 1 (1 + Ideal.exp (-x)) = Ideal.logistic x := rfl

/-- An entry of an array is named by its row and its column. -/
theorem ix2_self (i : Shape.Idx ⟨2, ![a, n]⟩) : ix2 (i 0) (i 1) = i := by
  funext k
  fin_cases k <;> rfl

/-- An entry of a one-row array is named by its column. -/
theorem ix2_row (i : Shape.Idx ⟨2, ![1, n]⟩) : ix2 (0 : Fin 1) (i 1) = i := by
  funext k
  apply Fin.ext
  fin_cases k
  · exact (Nat.lt_one_iff.mp (i 0).isLt).symm
  · rfl

/-- The `w` columns of an array from column `o` on. -/
def cols (o : ℕ) (h : o + w ≤ n) (P : Mat a n) : Mat a w :=
  fun i => P (ix2 (i 0) ⟨o + (i 1).val, Nat.lt_of_lt_of_le (Nat.add_lt_add_left (i 1).isLt o) h⟩)

/-- The rows of `x`, each divided by the root of its mean square (plus a small number), times the gain `g`. -/
def rms (x : Mat a 2048) (g : Mat 1 2048) : Mat a 2048 := fun i =>
  x i * Ideal.rsqrt (Ideal.div (∑ k, x (ix2 (i 0) k) * x (ix2 (i 0) k)) (lit 1157627904#32) + lit 897988541#32)
    * g (ix2 0 (i 1))

/-- A row's mean square (plus a small number). -/
def meanSq (x : Mat a 2048) (r : Fin a) : EReal :=
  Ideal.div (∑ k, x (ix2 r k) * x (ix2 r k)) (lit 1157627904#32) + lit 897988541#32

/-- Of the gradient of `rms x g`, the part through a row's mean square. -/
def rmsMean (x d : Mat a 2048) (g : Mat 1 2048) (r : Fin a) : EReal :=
  Ideal.div ((∑ k, x (ix2 r k) * (d (ix2 r k) * g (ix2 0 k)))
    * (lit 3204448256#32 * Ideal.div (Ideal.rsqrt (meanSq x r)) (meanSq x r))) (lit 1157627904#32)

/-- The gradient of `rms x g` in `x`, for the gradient `d` of the result. -/
def rmsX (x d : Mat a 2048) (g : Mat 1 2048) : Mat a 2048 := fun i =>
  d i * g (ix2 0 (i 1)) * Ideal.rsqrt (meanSq x (i 0)) + x i * rmsMean x d g (i 0) + rmsMean x d g (i 0) * x i

/-- The gradient of `x`, which the normalisation and a sum with it read: of the two parts, `e` is the other. -/
def rmsAdd (x d e : Mat a 2048) (g : Mat 1 2048) : Mat a 2048 := fun i => rmsX x d g i + e i

/-- The gradient of `rms x g` in `g`, for the gradient `d` of the result. -/
def rmsG (x d : Mat a 2048) : Mat 1 2048 := fun i =>
  ∑ r, x (ix2 r (i 1)) * Ideal.rsqrt (meanSq x r) * d (ix2 r (i 1))

/-- `x * logistic x * y`. -/
def swish (x y : EReal) : EReal := x * Ideal.logistic x * y

/-- The derivative of `d * swish x y` in `x`. -/
def swishX (x y d : EReal) : EReal :=
  d * y * Ideal.logistic x + x * (d * y) * (Ideal.logistic x * (1 - Ideal.logistic x))

/-- The gradient of `swish` in its two arguments, the halves of the rows of `P`, for the gradient `d` of the result. -/
def swishGrad (P : Mat a 11264) (d : Mat a 5632) : Mat a 11264 := fun i =>
  if h : (i 1).val < 5632 then
    swishX (P i) (P (ix2 (i 0) ⟨5632 + (i 1).val, by omega⟩)) (d (ix2 (i 0) ⟨(i 1).val, h⟩))
  else P (ix2 (i 0) ⟨(i 1).val - 5632, by have := (i 1).isLt; have : (i 1).val < 11264 := this; omega⟩)
    * Ideal.logistic (P (ix2 (i 0) ⟨(i 1).val - 5632, by have := (i 1).isLt; have : (i 1).val < 11264 := this; omega⟩))
    * d (ix2 (i 0) ⟨(i 1).val - 5632, by have := (i 1).isLt; have : (i 1).val < 11264 := this; omega⟩)

/-- The sum of the gated retention and the gated output of the state space part. -/
def merge (z ys gate ret : Mat a b) (bias : Mat 1 b) : Mat a b := fun i =>
  ret i + Ideal.logistic (gate i) * (ys i * Ideal.logistic (z i + bias (ix2 0 (i 1))))

/-- The gradient of `merge` in the state space part's output `ys`, for the gradient `d` of the result. -/
def mergeYs (z gate d : Mat a b) (bias : Mat 1 b) : Mat a b := fun i =>
  Ideal.logistic (gate i) * d i * Ideal.logistic (z i + bias (ix2 0 (i 1)))

/-- The gradient of `merge` in its gate. -/
def mergeGate (z ys gate d : Mat a b) (bias : Mat 1 b) : Mat a b := fun i =>
  d i * (ys i * Ideal.logistic (z i + bias (ix2 0 (i 1))))
    * (Ideal.logistic (gate i) * (1 - Ideal.logistic (gate i)))

/-- The gradient of `merge` in `z`. -/
def mergeZ (z ys gate d : Mat a b) (bias : Mat 1 b) : Mat a b := fun i =>
  ys i * (Ideal.logistic (gate i) * d i)
    * (Ideal.logistic (z i + bias (ix2 0 (i 1))) * (1 - Ideal.logistic (z i + bias (ix2 0 (i 1)))))

/-- The gradient of `merge` in the bias: the sum of the rows of that in `z`. -/
def mergeB (z ys gate d : Mat a b) (bias : Mat 1 b) : Mat 1 b := fun i => ∑ r, mergeZ z ys gate d bias (ix2 r (i 1))

/-- The four heads' columns of a row, each divided by the root of its mean square (plus a small number). -/
def headNorm (y : Mat a 2048) : Mat a 2048 := fun i =>
  y i * Ideal.rsqrt (Ideal.div
    (∑ k : Fin 512, y (ix2 (i 0) ⟨(i 1).val / 512 * 512 + k.val, by have := (i 1).isLt; have : (i 1).val < 2048 := this; omega⟩)
      * y (ix2 (i 0) ⟨(i 1).val / 512 * 512 + k.val, by have := (i 1).isLt; have : (i 1).val < 2048 := this; omega⟩))
    (lit 1140850688#32) + lit 897988541#32)

/-- The gated retention. -/
def gated (y g gate : Mat a 2048) : Mat a 2048 := fun i =>
  Ideal.logistic (gate i) * (g i * Ideal.logistic (g i) * headNorm y i)

/-- The mean square of the head's columns around entry `i` (plus a small number). -/
def headSq (y : Mat a 2048) (i : Shape.Idx ⟨2, ![a, 2048]⟩) : EReal := Ideal.div
    (∑ k : Fin 512, y (ix2 (i 0) ⟨(i 1).val / 512 * 512 + k.val, by have := (i 1).isLt; have : (i 1).val < 2048 := this; omega⟩)
      * y (ix2 (i 0) ⟨(i 1).val / 512 * 512 + k.val, by have := (i 1).isLt; have : (i 1).val < 2048 := this; omega⟩))
    (lit 1140850688#32) + lit 897988541#32

/-- Of the gradient of `headNorm y`, the part through that mean square. -/
def headMean (y e : Mat a 2048) (i : Shape.Idx ⟨2, ![a, 2048]⟩) : EReal := Ideal.div
    ((∑ k : Fin 512, y (ix2 (i 0) ⟨(i 1).val / 512 * 512 + k.val, by have := (i 1).isLt; have : (i 1).val < 2048 := this; omega⟩)
      * e (ix2 (i 0) ⟨(i 1).val / 512 * 512 + k.val, by have := (i 1).isLt; have : (i 1).val < 2048 := this; omega⟩))
      * (lit 3204448256#32 * Ideal.div (Ideal.rsqrt (headSq y i)) (headSq y i))) (lit 1140850688#32)

/-- The gradient of `gated` in the normalised retention, for the gradient `d` of the result. -/
def gatedH (g gate d : Mat a 2048) : Mat a 2048 := fun i =>
  g i * Ideal.logistic (g i) * (Ideal.logistic (gate i) * d i)

/-- The gradient of `gated` in the retention. -/
def gatedY (y g gate d : Mat a 2048) : Mat a 2048 := fun i =>
  gatedH g gate d i * Ideal.rsqrt (headSq y i) + y i * headMean y (gatedH g gate d) i
    + headMean y (gatedH g gate d) i * y i

/-- The gradient of `gated` in `g`. -/
def gatedG (y g gate d : Mat a 2048) : Mat a 2048 := fun i =>
  Ideal.logistic (gate i) * d i * headNorm y i * Ideal.logistic (g i)
    + g i * (Ideal.logistic (gate i) * d i * headNorm y i) * (Ideal.logistic (g i) * (1 - Ideal.logistic (g i)))

/-- The gradient of `gated` in the gate. -/
def gatedGate (y g gate d : Mat a 2048) : Mat a 2048 := fun i =>
  d i * (g i * Ideal.logistic (g i) * headNorm y i) * (Ideal.logistic (gate i) * (1 - Ideal.logistic (gate i)))

/-- The argument of `gelu`'s hyperbolic tangent. -/
def geluArg (x : EReal) : EReal := lit 1061962282#32 * (x + lit 1027024659#32 * (x * (x * x)))

/-- `gelu x` by the hyperbolic tangent. -/
def gelu (x : EReal) : EReal := x * (lit 1056964608#32 * (1 + Ideal.tanh (geluArg x)))

/-- The output of the state space part: the scan's and the skipped input's, through `gelu`. -/
def scanOut (s u : Mat a b) (d : Mat 1 b) : Mat a b := fun i => gelu (s i + d (ix2 0 (i 1)) * u i)

/-- The part of the gradient of `gelu x` that goes through the hyperbolic tangent, for the gradient `d` of the result. -/
def geluIn (x d : EReal) : EReal := lit 1061962282#32
  * (lit 1056964608#32 * (x * d) * ((1 + Ideal.tanh (geluArg x)) * (1 - Ideal.tanh (geluArg x))))

/-- The gradient of `gelu x`. -/
def geluGrad (x d : EReal) : EReal := d * (lit 1056964608#32 * (1 + Ideal.tanh (geluArg x))) + geluIn x d
  + lit 1027024659#32 * geluIn x d * (lit 1077936128#32 * (x * x))

/-- The gradient of `scanOut` in the scan's output, for the gradient `e` of the result. -/
def scanS (s u : Mat a b) (d : Mat 1 b) (e : Mat a b) : Mat a b := fun i =>
  geluGrad (s i + d (ix2 0 (i 1)) * u i) (e i)

/-- The gradient of `scanOut` in the skipped input. -/
def scanU (s u : Mat a b) (d : Mat 1 b) (e : Mat a b) : Mat a b := fun i => d (ix2 0 (i 1)) * scanS s u d e i

/-- The gradient of `scanOut` in the input's weights. -/
def scanD (s u : Mat a b) (d : Mat 1 b) (e : Mat a b) : Mat 1 b := fun i =>
  ∑ r, scanS s u d e (ix2 r (i 1)) * u (ix2 r (i 1))

/-- The new first moment. -/
def adamM {ι : Type} (g m : ι → EReal) : ι → EReal := fun i => lit 1063675494#32 * m i + lit 1036831949#32 * g i

/-- The new second moment. -/
def adamV {ι : Type} (g v : ι → EReal) : ι → EReal := fun i => lit 1065336439#32 * v i + lit 981668463#32 * (g i * g i)

/-- The optimiser's change of the weight. -/
def adamDelta {ι : Type} (w g m v : ι → EReal) : ι → EReal := fun i =>
  lit 3129152111#32 * (Ideal.div (Ideal.div (adamM g m i) (lit 1059503362#32))
    (Ideal.sqrt (Ideal.div (adamV g v i) (lit 1008933580#32)) + lit 841731191#32) + lit 1008981770#32 * w i)

/-- The sum over the eight slots. -/
def slots (G : Shape.Idx ⟨3, ![8, a, b]⟩ → EReal) : Mat a b := fun i => ∑ k : Fin 8, G (ix3 k (i 0) (i 1))

end Cert.Rows

end
-- ==== Proof.RowsBwd.lean ====
module

public import proofs.«01_k».proof.Defs
public import proofs.«01_k».proof.Proof.Gen.BwdGluIdeal.Value
public import proofs.«01_k».proof.Proof.Gen.BwdGluRefIdeal.Run
public import proofs.«01_k».proof.Proof.Gen.BwdRmsIdeal.Value
public import proofs.«01_k».proof.Proof.Gen.BwdRmsRefIdeal.Run
public import proofs.«01_k».proof.Proof.RowsMath
public import Idealize.ShloMosaic.Lib.Pipeline.ReadBack

@[expose] public section

set_option maxRecDepth 16384
set_option maxHeartbeats 4000000

noncomputable section

/-! # The backward of the gated linear unit and of the normalisation -/

/-! ## The gated linear unit -/

namespace Cert.BwdGluIdeal.Rows

open Cert.BwdGluIdeal Cert.BwdGluIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = t.val ∧ win0_1.index t 1 = 1
    ∧ win0_2.index t 0 = t.val ∧ win0_2.index t 1 = 0 :=
  (by decide +kernel : ∀ t : Fin grid0.N, _)

/-- The results that have rows are written in the same bands. -/
theorem idx_out : ∀ t : Fin cfg0.N, win0_3.index t 0 = t.val ∧ win0_3.index t 1 = 0 :=
  (by decide +kernel : ∀ t : Fin grid0.N, _)

/-- A result's column is its column in the band. -/
theorem emb_col (t : Fin cfg0.N) (y : ((cfg0.win 3).xblock (cfg0.grid.coords t)).Idx) :
    ((win0_3.blk t).view.emb y 1).val = (y 1).val := by
  have h := (idx_out t).2
  have e : ((win0_3.blk t).view.emb y 1).val = win0_3.index t 1 * 11264 + 1 * (y 1).val := rfl
  omega

/-- The kernel's result is the two gradients, side by side. -/
theorem final : (dats m 0 c).arrAt 3 cfg0.N = swishGrad (m (c.tc.loc main_arg0)) (m (c.tc.loc main_arg1)) := by
  refine (dats m 0 c).arrAt_eq_of_covers 3 _ (by decide +kernel) fun t hf y => ?_
  blk_simp
  rw [after0_3]
  frame_out
  unfold k0_pay1 swishGrad swishX
  pointwise []
  have e : (((View.whole main_v0).slice (win0_3.rect t)).emb y 1).val = (y 1).val := emb_col t y
  by_cases h : (y 1).val < 5632
  · simp only [e, h, dite_true]
    blk_point [iblk, V, idx t, idx_out t]
  · simp only [e, h, dite_false]
    blk_point [iblk, V, idx t, idx_out t]

/-- The reference runs, keeps its arguments and leaves every counter at zero. -/
theorem frame_reference : Cert.quiescent_BwdGluRefIdeal := fun m ρ _ =>
  (θ_run _ _ _).mono (fun r h => ⟨fun c => (h c).2, Idealize.ShloMosaic.sem_eq_zero_of_no_sems (by decide) r.2⟩)
    (Cert.BwdGluRefIdeal.Value.run m ρ)

/-- From equal arguments the kernel and the reference end with equal results. -/
theorem algebraic : Cert.algebraic_BwdGluIdeal_BwdGluRefIdeal := fun m ρ m' ρ' _ hag =>
  ⟨fun c => swishGrad (m (c.tc.loc main_arg0)) (m (c.tc.loc main_arg1)),
   (θ_run _ _ _).mono (fun _ h c => ⟨(h c).1.trans (final m c), (h c).2⟩) (Value.run_blocks m ρ),
   (θ_run _ _ _).mono (fun _ h c => ⟨(h c).1.trans (by
       clear h
       simp only [hag c]
       funext i
       unfold swishGrad swishX
       pointwise []
       simp only [logistic_eq, hag c]), (h c).2⟩) (Cert.BwdGluRefIdeal.Value.run m' ρ')⟩

end Cert.BwdGluIdeal.Rows

/-! ## The normalisation -/

namespace Cert.BwdRmsIdeal.Rows

open Cert.BwdRmsIdeal Cert.BwdRmsIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = t.val ∧ win0_1.index t 1 = 0
    ∧ win0_2.index t 0 = t.val ∧ win0_2.index t 1 = 0
    ∧ win0_3.index t 0 = 0 ∧ win0_3.index t 1 = 0 :=
  (by decide +kernel : ∀ t : Fin grid0.N, _)

/-- The results that have rows are written in the same bands. -/
theorem idx_out : ∀ t : Fin cfg0.N, win0_4.index t 0 = t.val ∧ win0_4.index t 1 = 0 ∧ win0_5.index t 0 = t.val ∧ win0_5.index t 1 = 0 :=
  (by decide +kernel : ∀ t : Fin grid0.N, _)

/-- In each band the first result is the gradient of the input, added to the one that came around. -/
theorem block_x (t : Fin cfg0.N) : (outsAt0 m c t.val t.isLt).1 = rmsAdd (iblk m c 0 t) (iblk m c 1 t) (iblk m c 2 t) (iblk m c 3 t) := by
  funext i
  by_cases h : t.val % 8 = 0
  · rw [outsAt0_A m c t h]
    frame_out
    simp only [k0_pay7, k0_pay6, k0_pay5, k0_pay4, k0_pay3, k0_pay2, k0_pay1]
    unfold rmsAdd rmsX rmsMean meanSq
    pointwise [Fin.sum_univ_one]
  · rw [outsAt0_B m c t h]
    frame_out
    simp only [k0_pay7, k0_pay6, k0_pay5, k0_pay4, k0_pay3, k0_pay2, k0_pay1]
    unfold rmsAdd rmsX rmsMean meanSq
    pointwise [Fin.sum_univ_one]

/-- The second result is the same in half the width. -/
theorem block_x_bf16 (t : Fin cfg0.N) : (outsAt0 m c t.val t.isLt).2.1 = rmsAdd (iblk m c 0 t) (iblk m c 1 t) (iblk m c 2 t) (iblk m c 3 t) := by
  funext i
  by_cases h : t.val % 8 = 0
  · rw [outsAt0_A m c t h]
    frame_out
    simp only [k0_pay7, k0_pay6, k0_pay5, k0_pay4, k0_pay3, k0_pay2, k0_pay1]
    unfold rmsAdd rmsX rmsMean meanSq
    pointwise [Fin.sum_univ_one]
  · rw [outsAt0_B m c t h]
    frame_out
    simp only [k0_pay7, k0_pay6, k0_pay5, k0_pay4, k0_pay3, k0_pay2, k0_pay1]
    unfold rmsAdd rmsX rmsMean meanSq
    pointwise [Fin.sum_univ_one]

/-- After the last band the third result is the sum of the bands' gradients of the gain. -/
theorem acc (t : Fin cfg0.N) (hm : t.val % 8 = 7) (i : S1x2048.Idx) : (outsAt0 m c t.val t.isLt).2.2 i
    = 0 + ∑ s : Fin 8, rmsG (iblk m c 0 ⟨8 * (t.val / 8) + s.val, Pipeline.run_point_lt_of_flush t hm s⟩) (iblk m c 1 ⟨8 * (t.val / 8) + s.val, Pipeline.run_point_lt_of_flush t hm s⟩) i := by
  refine Pipeline.eq_sum_fin_of_reset_step_apply_of_flush (fun n h => (outsAt0 m c n h).2.2) 8 (fun _ => (0 : EReal))
    (fun t => rmsG (iblk m c 0 t) (iblk m c 1 t)) (fun t h i => ?_) (fun t h i => ?_) t hm i
  · rw [outsAt0_A m c t h]
    frame_out
    simp only [k0_pay7, k0_pay6, k0_pay5, k0_pay4, k0_pay3, k0_pay2, k0_pay1]
    unfold rmsG meanSq
    pointwise [Fin.sum_univ_one]
  · rw [outsAt0_B m c t h]
    frame_out
    simp only [k0_pay7, k0_pay6, k0_pay5, k0_pay4, k0_pay3, k0_pay2, k0_pay1]
    unfold rmsG meanSq
    pointwise [Fin.sum_univ_one]

/-- The kernel's first result is the gradient of the input. -/
theorem final_x : (dats m 0 c).arrAt 4 cfg0.N = rmsAdd (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4, block_x m c t]
  unfold rmsAdd rmsX rmsMean meanSq
  blk_point [iblk, V, idx t, idx_out t]

/-- The kernel's second result is the gradient of the input. -/
theorem final_x_bf16 : (dats m 0 c).arrAt 5 cfg0.N = rmsAdd (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5, block_x_bf16 m c t]
  unfold rmsAdd rmsX rmsMean meanSq
  blk_point [iblk, V, idx t, idx_out t]

/-- The sum is one row. -/
theorem idx_final_g : ∀ t : Fin cfg0.N, win0_6.index t 0 = 0 ∧ win0_6.index t 1 = 0 :=
  (by decide +kernel : ∀ t : Fin grid0.N, _)

/-- The kernel's third result is the gradient of the gain. -/
theorem final_g : (dats m 0 c).arrAt 6 cfg0.N = rmsG (m (c.tc.loc main_arg0)) (m (c.tc.loc main_arg1)) := by
  refine (dats m 0 c).arrAt_eq_of_covers 6 _ (by decide +kernel) fun t hf y => ?_
  have io := idx_final_g t
  have hm := (flush0_6 t).mp hf
  blk_simp
  rw [after0_6]
  refine (acc m c t hm _).trans ((zero_add _).trans (sum_parts (by norm_num) _ _ fun s r k hk => ?_))
  have i1 := idx ⟨8 * (t.val / 8) + s.val, Pipeline.run_point_lt_of_flush t hm s⟩
  unfold meanSq
  blk_point [iblk, V, i1, io]

/-- The reference runs, keeps its arguments and leaves every counter at zero. -/
theorem frame_reference : Cert.quiescent_BwdRmsRefIdeal := fun m ρ _ =>
  (θ_run _ _ _).mono (fun r h => ⟨fun c => (h c).2.2.2, Idealize.ShloMosaic.sem_eq_zero_of_no_sems (by decide) r.2⟩)
    (Cert.BwdRmsRefIdeal.Value.run m ρ)

/-- The reference's first result. -/
theorem ref_x (m : (ℓ : Loc Cert.BwdRmsRefIdeal.nD Cert.BwdRmsRefIdeal.τ Cert.BwdRmsRefIdeal.sig) → Buf (Elt Ideal) ℓ)
    (c : Dev Cert.BwdRmsRefIdeal.nD) : Cert.BwdRmsRefIdeal.Value.res_out0 m c = rmsAdd (m (c.tc.loc Cert.BwdRmsRefIdeal.main_arg0)) (m (c.tc.loc Cert.BwdRmsRefIdeal.main_arg1)) (m (c.tc.loc Cert.BwdRmsRefIdeal.main_arg2)) (m (c.tc.loc Cert.BwdRmsRefIdeal.main_arg3)) := by
  unfold Cert.BwdRmsRefIdeal.Value.res_out0 Cert.BwdRmsRefIdeal.Value.res_main_v37
  funext i
  unfold rmsAdd rmsX rmsMean meanSq
  pointwise [Fin.sum_univ_one]

/-- The reference's second result. -/
theorem ref_x_bf16 (m : (ℓ : Loc Cert.BwdRmsRefIdeal.nD Cert.BwdRmsRefIdeal.τ Cert.BwdRmsRefIdeal.sig) → Buf (Elt Ideal) ℓ)
    (c : Dev Cert.BwdRmsRefIdeal.nD) : Cert.BwdRmsRefIdeal.Value.res_out1 m c = rmsAdd (m (c.tc.loc Cert.BwdRmsRefIdeal.main_arg0)) (m (c.tc.loc Cert.BwdRmsRefIdeal.main_arg1)) (m (c.tc.loc Cert.BwdRmsRefIdeal.main_arg2)) (m (c.tc.loc Cert.BwdRmsRefIdeal.main_arg3)) := by
  unfold Cert.BwdRmsRefIdeal.Value.res_out1 Cert.BwdRmsRefIdeal.Value.res_main_v38
  funext i
  unfold rmsAdd rmsX rmsMean meanSq
  pointwise [Fin.sum_univ_one]

/-- From equal arguments the kernel and the reference end with equal results. -/
theorem algebraic : Cert.algebraic_BwdRmsIdeal_BwdRmsRefIdeal := fun m ρ m' ρ' _ hag =>
  ⟨fun c => rmsAdd (m (c.tc.loc main_arg0)) (m (c.tc.loc main_arg1)) (m (c.tc.loc main_arg2)) (m (c.tc.loc main_arg3)),
   fun c => rmsAdd (m (c.tc.loc main_arg0)) (m (c.tc.loc main_arg1)) (m (c.tc.loc main_arg2)) (m (c.tc.loc main_arg3)),
   fun c => rmsG (m (c.tc.loc main_arg0)) (m (c.tc.loc main_arg1)),
   (θ_run _ _ _).mono (fun _ h c => ⟨(h c).1.trans (final_x m c), (h c).2.1.trans (final_x_bf16 m c), (h c).2.2.1.trans (final_g m c), (h c).2.2.2⟩) (Value.run_blocks m ρ),
   (θ_run _ _ _).mono (fun _ h c => ⟨(h c).1.trans ((ref_x m' c).trans (by simp only [hag c])),
     (h c).2.1.trans ((ref_x_bf16 m' c).trans (by simp only [hag c])),
     (h c).2.2.1.trans (by
       clear h
       simp only [hag c]
       funext i
       unfold rmsG meanSq
       pointwise [Fin.sum_univ_one]), (h c).2.2.2⟩) (Cert.BwdRmsRefIdeal.Value.run m' ρ')⟩

end Cert.BwdRmsIdeal.Rows

end
-- ==== Proof.MergeBwd.lean ====
module

public import proofs.«01_k».proof.Defs
public import proofs.«01_k».proof.Proof.Gen.BwdMergeIdeal.Value
public import proofs.«01_k».proof.Proof.Gen.BwdMergeRefIdeal.Run
public import proofs.«01_k».proof.Proof.RowsMath
public import Idealize.ShloMosaic.Lib.Pipeline.ReadBack

@[expose] public section

set_option maxRecDepth 16384
set_option maxHeartbeats 4000000

noncomputable section

/-! # The backward of the sum of the two gated parts -/

/-! ## The merge -/

namespace Cert.BwdMergeIdeal.Rows

open Cert.BwdMergeIdeal Cert.BwdMergeIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = t.val ∧ win0_1.index t 1 = 0
    ∧ win0_2.index t 0 = t.val ∧ win0_2.index t 1 = 5
    ∧ win0_3.index t 0 = t.val ∧ win0_3.index t 1 = 0
    ∧ win0_4.index t 0 = t.val ∧ win0_4.index t 1 = 0
    ∧ win0_5.index t 0 = 0 ∧ win0_5.index t 1 = 0 :=
  (by decide +kernel : ∀ t : Fin grid0.N, _)

/-- The results that have rows are written in the same bands. -/
theorem idx_out : ∀ t : Fin cfg0.N, win0_6.index t 0 = t.val ∧ win0_6.index t 1 = 0 ∧ win0_7.index t 0 = t.val ∧ win0_7.index t 1 = 0 ∧ win0_8.index t 0 = t.val ∧ win0_8.index t 1 = 0 :=
  (by decide +kernel : ∀ t : Fin grid0.N, _)

/-- In each band the first result is the gradient of the product with the gate's weight. -/
theorem block_z (t : Fin cfg0.N) : (outsAt0 m c t.val t.isLt).1 = mergeZ (iblk m c 0 t) (iblk m c 1 t) (iblk m c 2 t) (iblk m c 4 t) (iblk m c 5 t) := by
  funext i
  by_cases h : t.val % 16 = 0
  · rw [outsAt0_A m c t h]
    frame_out
    simp only [k0_pay11, k0_pay10, k0_pay9, k0_pay8, k0_pay7, k0_pay6, k0_pay5, k0_pay4, k0_pay3, k0_pay2, k0_pay1]
    unfold mergeZ
    pointwise []
  · rw [outsAt0_B m c t h]
    frame_out
    simp only [k0_pay11, k0_pay10, k0_pay9, k0_pay8, k0_pay7, k0_pay6, k0_pay5, k0_pay4, k0_pay3, k0_pay2, k0_pay1]
    unfold mergeZ
    pointwise []

/-- The second result is the gradient of the state space part's output. -/
theorem block_ys (t : Fin cfg0.N) : (outsAt0 m c t.val t.isLt).2.1 = mergeYs (iblk m c 0 t) (iblk m c 2 t) (iblk m c 4 t) (iblk m c 5 t) := by
  funext i
  by_cases h : t.val % 16 = 0
  · rw [outsAt0_A m c t h]
    frame_out
    simp only [k0_pay11, k0_pay10, k0_pay9, k0_pay8, k0_pay7, k0_pay6, k0_pay5, k0_pay4, k0_pay3, k0_pay2, k0_pay1]
    unfold mergeYs
    pointwise []
  · rw [outsAt0_B m c t h]
    frame_out
    simp only [k0_pay11, k0_pay10, k0_pay9, k0_pay8, k0_pay7, k0_pay6, k0_pay5, k0_pay4, k0_pay3, k0_pay2, k0_pay1]
    unfold mergeYs
    pointwise []

/-- The third result is the gradient of the gate. -/
theorem block_gate (t : Fin cfg0.N) : (outsAt0 m c t.val t.isLt).2.2.1 = mergeGate (iblk m c 0 t) (iblk m c 1 t) (iblk m c 2 t) (iblk m c 4 t) (iblk m c 5 t) := by
  funext i
  by_cases h : t.val % 16 = 0
  · rw [outsAt0_A m c t h]
    frame_out
    simp only [k0_pay11, k0_pay10, k0_pay9, k0_pay8, k0_pay7, k0_pay6, k0_pay5, k0_pay4, k0_pay3, k0_pay2, k0_pay1]
    unfold mergeGate
    pointwise []
  · rw [outsAt0_B m c t h]
    frame_out
    simp only [k0_pay11, k0_pay10, k0_pay9, k0_pay8, k0_pay7, k0_pay6, k0_pay5, k0_pay4, k0_pay3, k0_pay2, k0_pay1]
    unfold mergeGate
    pointwise []

/-- After the last band the fourth result is the sum of the bands' gradients of the bias. -/
theorem acc (t : Fin cfg0.N) (hm : t.val % 16 = 15) (i : S1x2048.Idx) : (outsAt0 m c t.val t.isLt).2.2.2 i
    = 0 + ∑ s : Fin 16, mergeB (iblk m c 0 ⟨16 * (t.val / 16) + s.val, Pipeline.run_point_lt_of_flush t hm s⟩) (iblk m c 1 ⟨16 * (t.val / 16) + s.val, Pipeline.run_point_lt_of_flush t hm s⟩) (iblk m c 2 ⟨16 * (t.val / 16) + s.val, Pipeline.run_point_lt_of_flush t hm s⟩) (iblk m c 4 ⟨16 * (t.val / 16) + s.val, Pipeline.run_point_lt_of_flush t hm s⟩) (iblk m c 5 ⟨16 * (t.val / 16) + s.val, Pipeline.run_point_lt_of_flush t hm s⟩) i := by
  refine Pipeline.eq_sum_fin_of_reset_step_apply_of_flush (fun n h => (outsAt0 m c n h).2.2.2) 16 (fun _ => (0 : EReal))
    (fun t => mergeB (iblk m c 0 t) (iblk m c 1 t) (iblk m c 2 t) (iblk m c 4 t) (iblk m c 5 t)) (fun t h i => ?_) (fun t h i => ?_) t hm i
  · rw [outsAt0_A m c t h]
    frame_out
    simp only [k0_pay11, k0_pay10, k0_pay9, k0_pay8, k0_pay7, k0_pay6, k0_pay5, k0_pay4, k0_pay3, k0_pay2, k0_pay1]
    unfold mergeB mergeZ
    pointwise []
  · rw [outsAt0_B m c t h]
    frame_out
    simp only [k0_pay11, k0_pay10, k0_pay9, k0_pay8, k0_pay7, k0_pay6, k0_pay5, k0_pay4, k0_pay3, k0_pay2, k0_pay1]
    unfold mergeB mergeZ
    pointwise []

/-- The kernel's first result is the gradient of the product with the gate's weight. -/
theorem final_z : (dats m 0 c).arrAt 6 cfg0.N = mergeZ (m (c.tc.loc main_arg0)) (m (c.tc.loc main_arg1)) (cols 10240 (by decide) (m (c.tc.loc main_arg2))) (m (c.tc.loc main_arg4)) (m (c.tc.loc main_arg5)) := by
  refine (dats m 0 c).arrAt_eq_of_covers 6 _ (by decide +kernel) fun t hf y => ?_
  blk_simp
  rw [after0_6, block_z m c t]
  unfold mergeZ cols
  blk_point [iblk, V, idx t, idx_out t]

/-- The kernel's second result is the gradient of the state space part's output. -/
theorem final_ys : (dats m 0 c).arrAt 7 cfg0.N = mergeYs (m (c.tc.loc main_arg0)) (cols 10240 (by decide) (m (c.tc.loc main_arg2))) (m (c.tc.loc main_arg4)) (m (c.tc.loc main_arg5)) := by
  refine (dats m 0 c).arrAt_eq_of_covers 7 _ (by decide +kernel) fun t hf y => ?_
  blk_simp
  rw [after0_7, block_ys m c t]
  unfold mergeYs cols
  blk_point [iblk, V, idx t, idx_out t]

/-- The kernel's third result is the gradient of the gate. -/
theorem final_gate : (dats m 0 c).arrAt 8 cfg0.N = mergeGate (m (c.tc.loc main_arg0)) (m (c.tc.loc main_arg1)) (cols 10240 (by decide) (m (c.tc.loc main_arg2))) (m (c.tc.loc main_arg4)) (m (c.tc.loc main_arg5)) := by
  refine (dats m 0 c).arrAt_eq_of_covers 8 _ (by decide +kernel) fun t hf y => ?_
  blk_simp
  rw [after0_8, block_gate m c t]
  unfold mergeGate cols
  blk_point [iblk, V, idx t, idx_out t]

/-- The sum is one row. -/
theorem idx_final_b : ∀ t : Fin cfg0.N, win0_9.index t 0 = 0 ∧ win0_9.index t 1 = 0 :=
  (by decide +kernel : ∀ t : Fin grid0.N, _)

/-- The kernel's fourth result is the gradient of the bias. -/
theorem final_b : (dats m 0 c).arrAt 9 cfg0.N = mergeB (m (c.tc.loc main_arg0)) (m (c.tc.loc main_arg1)) (cols 10240 (by decide) (m (c.tc.loc main_arg2))) (m (c.tc.loc main_arg4)) (m (c.tc.loc main_arg5)) := by
  refine (dats m 0 c).arrAt_eq_of_covers 9 _ (by decide +kernel) fun t hf y => ?_
  have io := idx_final_b t
  have hm := (flush0_9 t).mp hf
  blk_simp
  rw [after0_9]
  refine (acc m c t hm _).trans ((zero_add _).trans (sum_parts (by norm_num) _ _ fun s r k hk => ?_))
  have i1 := idx ⟨16 * (t.val / 16) + s.val, Pipeline.run_point_lt_of_flush t hm s⟩
  unfold mergeZ cols
  blk_point [iblk, V, i1, io]

/-- The reference runs, keeps its arguments and leaves every counter at zero. -/
theorem frame_reference : Cert.quiescent_BwdMergeRefIdeal := fun m ρ _ =>
  (θ_run _ _ _).mono (fun r h => ⟨fun c => (h c).2.2.2.2, Idealize.ShloMosaic.sem_eq_zero_of_no_sems (by decide) r.2⟩)
    (Cert.BwdMergeRefIdeal.Value.run m ρ)

/-- From equal arguments the kernel and the reference end with equal results. -/
theorem algebraic : Cert.algebraic_BwdMergeIdeal_BwdMergeRefIdeal := fun m ρ m' ρ' _ hag =>
  ⟨fun c => mergeZ (m (c.tc.loc main_arg0)) (m (c.tc.loc main_arg1)) (cols 10240 (by decide) (m (c.tc.loc main_arg2))) (m (c.tc.loc main_arg4)) (m (c.tc.loc main_arg5)),
   fun c => mergeYs (m (c.tc.loc main_arg0)) (cols 10240 (by decide) (m (c.tc.loc main_arg2))) (m (c.tc.loc main_arg4)) (m (c.tc.loc main_arg5)),
   fun c => mergeGate (m (c.tc.loc main_arg0)) (m (c.tc.loc main_arg1)) (cols 10240 (by decide) (m (c.tc.loc main_arg2))) (m (c.tc.loc main_arg4)) (m (c.tc.loc main_arg5)),
   fun c => mergeB (m (c.tc.loc main_arg0)) (m (c.tc.loc main_arg1)) (cols 10240 (by decide) (m (c.tc.loc main_arg2))) (m (c.tc.loc main_arg4)) (m (c.tc.loc main_arg5)),
   (θ_run _ _ _).mono (fun _ h c => ⟨(h c).1.trans (final_z m c), (h c).2.1.trans (final_ys m c), (h c).2.2.1.trans (final_gate m c), (h c).2.2.2.1.trans (final_b m c), (h c).2.2.2.2⟩) (Value.run_blocks m ρ),
   (θ_run _ _ _).mono (fun _ h c => ⟨(h c).1.trans (by
       clear h
       simp only [hag c]
       funext i
       unfold mergeZ cols
       pointwise []
       simp only [logistic_eq]),
     (h c).2.1.trans (by
       clear h
       simp only [hag c]
       funext i
       unfold mergeYs cols
       pointwise []
       simp only [logistic_eq]),
     (h c).2.2.1.trans (by
       clear h
       simp only [hag c]
       funext i
       unfold mergeGate cols
       pointwise []
       simp only [logistic_eq]),
     (h c).2.2.2.1.trans (by
       clear h
       simp only [hag c]
       funext i
       unfold mergeB mergeZ cols
       pointwise [Fin.sum_univ_one]
       simp only [logistic_eq]
       blk_point []), (h c).2.2.2.2⟩) (Cert.BwdMergeRefIdeal.Value.run m' ρ')⟩

end Cert.BwdMergeIdeal.Rows

end
-- ==== Proof.PostBwd.lean ====
module

public import proofs.«01_k».proof.Defs
public import proofs.«01_k».proof.Proof.Gen.BwdPostIdeal.Value
public import proofs.«01_k».proof.Proof.Gen.BwdPostRefIdeal.Run
public import proofs.«01_k».proof.Proof.RowsMath
public import Idealize.ShloMosaic.Lib.Pipeline.ReadBack

@[expose] public section

set_option maxRecDepth 16384
set_option maxHeartbeats 4000000

noncomputable section

/-! # The backward of the call between the retention and the merge -/

/-! ## The call -/

namespace Cert.BwdPostIdeal.Rows

open Cert.BwdPostIdeal Cert.BwdPostIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = t.val ∧ win0_1.index t 1 = 1
    ∧ win0_2.index t 0 = t.val ∧ win0_2.index t 1 = 2
    ∧ win0_3.index t 0 = t.val ∧ win0_3.index t 1 = 3
    ∧ win0_4.index t 0 = t.val ∧ win0_4.index t 1 = 2
    ∧ win0_5.index t 0 = t.val ∧ win0_5.index t 1 = 4
    ∧ win0_6.index t 0 = t.val ∧ win0_6.index t 1 = 0
    ∧ win0_7.index t 0 = t.val ∧ win0_7.index t 1 = 3
    ∧ win0_8.index t 0 = t.val ∧ win0_8.index t 1 = 0
    ∧ win0_9.index t 0 = t.val ∧ win0_9.index t 1 = 0
    ∧ win0_10.index t 0 = 0 ∧ win0_10.index t 1 = 0 :=
  (by decide +kernel : ∀ t : Fin grid0.N, _)

/-- The results that have rows are written in the same bands. -/
theorem idx_out : ∀ t : Fin cfg0.N, win0_11.index t 0 = t.val ∧ win0_11.index t 1 = 0 ∧ win0_12.index t 0 = t.val ∧ win0_12.index t 1 = 0 ∧ win0_13.index t 0 = t.val ∧ win0_13.index t 1 = 0 ∧ win0_14.index t 0 = t.val ∧ win0_14.index t 1 = 0 ∧ win0_15.index t 0 = t.val ∧ win0_15.index t 1 = 0 :=
  (by decide +kernel : ∀ t : Fin grid0.N, _)

/-- The kernel's first result is the gradient of the retention. -/
theorem final_y : (dats m 0 c).arrAt 11 cfg0.N = gatedY (m (c.tc.loc main_arg0)) (cols 4096 (by decide) (m (c.tc.loc main_arg1))) (cols 8192 (by decide) (m (c.tc.loc main_arg1))) (m (c.tc.loc main_arg3)) := by
  refine (dats m 0 c).arrAt_eq_of_covers 11 _ (by decide +kernel) fun t hf y => ?_
  have hy : (y 1).val < 2048 := (y 1).isLt
  blk_simp
  rw [after0_11]
  by_cases h : t.val % 16 = 0
  · rw [outsAt0_A m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold gatedY gatedH headMean headSq cols
    pointwise [Fin.sum_univ_one]
    split_ifs <;> first | contradiction | blk_point [iblk, V, idx t, idx_out t]
  · rw [outsAt0_B m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold gatedY gatedH headMean headSq cols
    pointwise [Fin.sum_univ_one]
    split_ifs <;> first | contradiction | blk_point [iblk, V, idx t, idx_out t]

/-- The kernel's second result is the gradient of the gating input. -/
theorem final_g : (dats m 0 c).arrAt 12 cfg0.N = gatedG (m (c.tc.loc main_arg0)) (cols 4096 (by decide) (m (c.tc.loc main_arg1))) (cols 8192 (by decide) (m (c.tc.loc main_arg1))) (m (c.tc.loc main_arg3)) := by
  refine (dats m 0 c).arrAt_eq_of_covers 12 _ (by decide +kernel) fun t hf y => ?_
  have hy : (y 1).val < 2048 := (y 1).isLt
  blk_simp
  rw [after0_12]
  by_cases h : t.val % 16 = 0
  · rw [outsAt0_A m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold gatedG headNorm cols
    pointwise [Fin.sum_univ_one]
    split_ifs <;> first | contradiction | blk_point [iblk, V, idx t, idx_out t]
  · rw [outsAt0_B m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold gatedG headNorm cols
    pointwise [Fin.sum_univ_one]
    split_ifs <;> first | contradiction | blk_point [iblk, V, idx t, idx_out t]

/-- The kernel's third result is the gradient of the gate. -/
theorem final_gate : (dats m 0 c).arrAt 13 cfg0.N = gatedGate (m (c.tc.loc main_arg0)) (cols 4096 (by decide) (m (c.tc.loc main_arg1))) (cols 8192 (by decide) (m (c.tc.loc main_arg1))) (m (c.tc.loc main_arg3)) := by
  refine (dats m 0 c).arrAt_eq_of_covers 13 _ (by decide +kernel) fun t hf y => ?_
  have hy : (y 1).val < 2048 := (y 1).isLt
  blk_simp
  rw [after0_13]
  by_cases h : t.val % 16 = 0
  · rw [outsAt0_A m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold gatedGate headNorm cols
    pointwise [Fin.sum_univ_one]
    split_ifs <;> first | contradiction | blk_point [iblk, V, idx t, idx_out t]
  · rw [outsAt0_B m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold gatedGate headNorm cols
    pointwise [Fin.sum_univ_one]
    split_ifs <;> first | contradiction | blk_point [iblk, V, idx t, idx_out t]

/-- The kernel's fourth result is the gradient of the scan's output. -/
theorem final_s : (dats m 0 c).arrAt 14 cfg0.N = scanS (m (c.tc.loc main_arg2)) (cols 6144 (by decide) (m (c.tc.loc main_arg1))) (m (c.tc.loc main_arg5)) (m (c.tc.loc main_arg4)) := by
  refine (dats m 0 c).arrAt_eq_of_covers 14 _ (by decide +kernel) fun t hf y => ?_
  have hy : (y 1).val < 2048 := (y 1).isLt
  blk_simp
  rw [after0_14]
  by_cases h : t.val % 16 = 0
  · rw [outsAt0_A m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold scanS geluGrad geluIn geluArg cols
    pointwise [Fin.sum_univ_one]
    blk_point [iblk, V, idx t, idx_out t]
  · rw [outsAt0_B m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold scanS geluGrad geluIn geluArg cols
    pointwise [Fin.sum_univ_one]
    blk_point [iblk, V, idx t, idx_out t]

/-- The kernel's fifth result is the gradient of the skipped input. -/
theorem final_u : (dats m 0 c).arrAt 15 cfg0.N = scanU (m (c.tc.loc main_arg2)) (cols 6144 (by decide) (m (c.tc.loc main_arg1))) (m (c.tc.loc main_arg5)) (m (c.tc.loc main_arg4)) := by
  refine (dats m 0 c).arrAt_eq_of_covers 15 _ (by decide +kernel) fun t hf y => ?_
  have hy : (y 1).val < 2048 := (y 1).isLt
  blk_simp
  rw [after0_15]
  by_cases h : t.val % 16 = 0
  · rw [outsAt0_A m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold scanU scanS geluGrad geluIn geluArg cols
    pointwise [Fin.sum_univ_one]
    blk_point [iblk, V, idx t, idx_out t]
  · rw [outsAt0_B m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold scanU scanS geluGrad geluIn geluArg cols
    pointwise [Fin.sum_univ_one]
    blk_point [iblk, V, idx t, idx_out t]

/-- After the last band the sixth result is the sum of the bands' gradients of the weights. -/
theorem acc (t : Fin cfg0.N) (hm : t.val % 16 = 15) (i : S1x2048.Idx) : (outsAt0 m c t.val t.isLt).2.2.2.2.2 i
    = 0 + ∑ s : Fin 16, scanD (iblk m c 6 ⟨16 * (t.val / 16) + s.val, Pipeline.run_point_lt_of_flush t hm s⟩) (iblk m c 7 ⟨16 * (t.val / 16) + s.val, Pipeline.run_point_lt_of_flush t hm s⟩) (iblk m c 10 ⟨16 * (t.val / 16) + s.val, Pipeline.run_point_lt_of_flush t hm s⟩) (iblk m c 9 ⟨16 * (t.val / 16) + s.val, Pipeline.run_point_lt_of_flush t hm s⟩) i := by
  refine Pipeline.eq_sum_fin_of_reset_step_apply_of_flush (fun n h => (outsAt0 m c n h).2.2.2.2.2) 16 (fun _ => (0 : EReal))
    (fun t => scanD (iblk m c 6 t) (iblk m c 7 t) (iblk m c 10 t) (iblk m c 9 t)) (fun t h i => ?_) (fun t h i => ?_) t hm i
  · rw [outsAt0_A m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold scanD scanS geluGrad geluIn geluArg
    pointwise []
  · rw [outsAt0_B m c t h]
    frame_out
    simp only [k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    unfold scanD scanS geluGrad geluIn geluArg
    pointwise []

/-- The sum is one row. -/
theorem idx_final_d : ∀ t : Fin cfg0.N, win0_16.index t 0 = 0 ∧ win0_16.index t 1 = 0 :=
  (by decide +kernel : ∀ t : Fin grid0.N, _)

/-- The kernel's sixth result is the gradient of the weights. -/
theorem final_d : (dats m 0 c).arrAt 16 cfg0.N = scanD (m (c.tc.loc main_arg2)) (cols 6144 (by decide) (m (c.tc.loc main_arg1))) (m (c.tc.loc main_arg5)) (m (c.tc.loc main_arg4)) := by
  refine (dats m 0 c).arrAt_eq_of_covers 16 _ (by decide +kernel) fun t hf y => ?_
  have io := idx_final_d t
  have hm := (flush0_16 t).mp hf
  blk_simp
  rw [after0_16]
  refine (acc m c t hm _).trans ((zero_add _).trans (sum_parts (by norm_num) _ _ fun s r k hk => ?_))
  have i1 := idx ⟨16 * (t.val / 16) + s.val, Pipeline.run_point_lt_of_flush t hm s⟩
  unfold scanS geluGrad geluIn geluArg cols
  blk_point [iblk, V, i1, io]

/-- The reference runs, keeps its arguments and leaves every counter at zero. -/
theorem frame_reference : Cert.quiescent_BwdPostRefIdeal := fun m ρ _ =>
  (θ_run _ _ _).mono (fun r h => ⟨fun c => (h c).2.2.2.2.2.2, Idealize.ShloMosaic.sem_eq_zero_of_no_sems (by decide) r.2⟩)
    (Cert.BwdPostRefIdeal.Value.run m ρ)

/-- The reference's first result. -/
theorem ref_y (m : (ℓ : Loc Cert.BwdPostRefIdeal.nD Cert.BwdPostRefIdeal.τ Cert.BwdPostRefIdeal.sig) → Buf (Elt Ideal) ℓ)
    (c : Dev Cert.BwdPostRefIdeal.nD) : Cert.BwdPostRefIdeal.Value.res_out0 m c = gatedY (m (c.tc.loc Cert.BwdPostRefIdeal.main_arg0)) (cols 4096 (by decide) (m (c.tc.loc Cert.BwdPostRefIdeal.main_arg1))) (cols 8192 (by decide) (m (c.tc.loc Cert.BwdPostRefIdeal.main_arg1))) (m (c.tc.loc Cert.BwdPostRefIdeal.main_arg3)) := by
  unfold Cert.BwdPostRefIdeal.Value.res_out0 Cert.BwdPostRefIdeal.Value.res_main_v96
  funext i
  unfold gatedY gatedH headMean headSq cols
  pointwise [Fin.sum_univ_one]
  simp only [logistic_eq]

/-- The reference's fourth result. -/
theorem ref_s (m : (ℓ : Loc Cert.BwdPostRefIdeal.nD Cert.BwdPostRefIdeal.τ Cert.BwdPostRefIdeal.sig) → Buf (Elt Ideal) ℓ)
    (c : Dev Cert.BwdPostRefIdeal.nD) : Cert.BwdPostRefIdeal.Value.res_out3 m c = scanS (m (c.tc.loc Cert.BwdPostRefIdeal.main_arg2)) (cols 6144 (by decide) (m (c.tc.loc Cert.BwdPostRefIdeal.main_arg1))) (m (c.tc.loc Cert.BwdPostRefIdeal.main_arg5)) (m (c.tc.loc Cert.BwdPostRefIdeal.main_arg4)) := by
  unfold Cert.BwdPostRefIdeal.Value.res_out3 Cert.BwdPostRefIdeal.Value.res_main_v89
  funext i
  unfold scanS geluGrad geluIn geluArg cols
  pointwise [Fin.sum_univ_one]
  simp only [mul_assoc]

/-- The reference's fifth result. -/
theorem ref_u (m : (ℓ : Loc Cert.BwdPostRefIdeal.nD Cert.BwdPostRefIdeal.τ Cert.BwdPostRefIdeal.sig) → Buf (Elt Ideal) ℓ)
    (c : Dev Cert.BwdPostRefIdeal.nD) : Cert.BwdPostRefIdeal.Value.res_out4 m c = scanU (m (c.tc.loc Cert.BwdPostRefIdeal.main_arg2)) (cols 6144 (by decide) (m (c.tc.loc Cert.BwdPostRefIdeal.main_arg1))) (m (c.tc.loc Cert.BwdPostRefIdeal.main_arg5)) (m (c.tc.loc Cert.BwdPostRefIdeal.main_arg4)) := by
  unfold Cert.BwdPostRefIdeal.Value.res_out4 Cert.BwdPostRefIdeal.Value.res_main_v91
  funext i
  unfold scanU scanS geluGrad geluIn geluArg cols
  pointwise [Fin.sum_univ_one]
  simp only [mul_assoc]

/-- The reference's sixth result. -/
theorem ref_d (m : (ℓ : Loc Cert.BwdPostRefIdeal.nD Cert.BwdPostRefIdeal.τ Cert.BwdPostRefIdeal.sig) → Buf (Elt Ideal) ℓ)
    (c : Dev Cert.BwdPostRefIdeal.nD) : Cert.BwdPostRefIdeal.Value.res_out5 m c = scanD (m (c.tc.loc Cert.BwdPostRefIdeal.main_arg2)) (cols 6144 (by decide) (m (c.tc.loc Cert.BwdPostRefIdeal.main_arg1))) (m (c.tc.loc Cert.BwdPostRefIdeal.main_arg5)) (m (c.tc.loc Cert.BwdPostRefIdeal.main_arg4)) := by
  unfold Cert.BwdPostRefIdeal.Value.res_out5 Cert.BwdPostRefIdeal.Value.res_main_v99
  funext i
  unfold scanD scanS geluGrad geluIn geluArg cols
  pointwise [Fin.sum_univ_one]
  simp only [mul_assoc]
  blk_point []

/-- From equal arguments the kernel and the reference end with equal results. -/
theorem algebraic : Cert.algebraic_BwdPostIdeal_BwdPostRefIdeal := fun m ρ m' ρ' _ hag =>
  ⟨fun c => gatedY (m (c.tc.loc main_arg0)) (cols 4096 (by decide) (m (c.tc.loc main_arg1))) (cols 8192 (by decide) (m (c.tc.loc main_arg1))) (m (c.tc.loc main_arg3)),
   fun c => gatedG (m (c.tc.loc main_arg0)) (cols 4096 (by decide) (m (c.tc.loc main_arg1))) (cols 8192 (by decide) (m (c.tc.loc main_arg1))) (m (c.tc.loc main_arg3)),
   fun c => gatedGate (m (c.tc.loc main_arg0)) (cols 4096 (by decide) (m (c.tc.loc main_arg1))) (cols 8192 (by decide) (m (c.tc.loc main_arg1))) (m (c.tc.loc main_arg3)),
   fun c => scanS (m (c.tc.loc main_arg2)) (cols 6144 (by decide) (m (c.tc.loc main_arg1))) (m (c.tc.loc main_arg5)) (m (c.tc.loc main_arg4)),
   fun c => scanU (m (c.tc.loc main_arg2)) (cols 6144 (by decide) (m (c.tc.loc main_arg1))) (m (c.tc.loc main_arg5)) (m (c.tc.loc main_arg4)),
   fun c => scanD (m (c.tc.loc main_arg2)) (cols 6144 (by decide) (m (c.tc.loc main_arg1))) (m (c.tc.loc main_arg5)) (m (c.tc.loc main_arg4)),
   (θ_run _ _ _).mono (fun _ h c => ⟨(h c).1.trans (final_y m c), (h c).2.1.trans (final_g m c), (h c).2.2.1.trans (final_gate m c), (h c).2.2.2.1.trans (final_s m c), (h c).2.2.2.2.1.trans (final_u m c), (h c).2.2.2.2.2.1.trans (final_d m c), (h c).2.2.2.2.2.2⟩) (Value.run_blocks m ρ),
   (θ_run _ _ _).mono (fun _ h c => ⟨(h c).1.trans ((ref_y m' c).trans (by simp only [hag c])),
     (h c).2.1.trans (by
       clear h
       simp only [hag c]
       funext i
       unfold gatedG headNorm cols
       pointwise [Fin.sum_univ_one]
       simp only [logistic_eq]),
     (h c).2.2.1.trans (by
       clear h
       simp only [hag c]
       funext i
       unfold gatedGate headNorm cols
       pointwise [Fin.sum_univ_one]
       simp only [logistic_eq]),
     (h c).2.2.2.1.trans ((ref_s m' c).trans (by simp only [hag c])),
     (h c).2.2.2.2.1.trans ((ref_u m' c).trans (by simp only [hag c])),
     (h c).2.2.2.2.2.1.trans ((ref_d m' c).trans (by simp only [hag c])), (h c).2.2.2.2.2.2⟩) (Cert.BwdPostRefIdeal.Value.run m' ρ')⟩

end Cert.BwdPostIdeal.Rows

end
-- ==== Proof.Rot.lean ====
module

public import proofs.«01_k».proof.Defs
public import proofs.«01_k».proof.Proof.Gen.FwdRotIdeal.Value
public import proofs.«01_k».proof.Proof.Gen.FwdRotRefIdeal.Run
public import proofs.«01_k».proof.Proof.Gen.BwdRotIdeal.Value
public import proofs.«01_k».proof.Proof.Gen.BwdRotRefIdeal.Run
public import proofs.«01_k».proof.Proof.RowsMath
public import Idealize.ShloMosaic.Lib.Pipeline.ReadBack

@[expose] public section

set_option maxRecDepth 16384
set_option maxHeartbeats 4000000

noncomputable section

/-! # The rotation of the queries and keys by their positions, and its backward -/

namespace Cert.Rows

open Idealize.ShloMosaic Cert.Prod

variable {a n : ℕ}

/-- Row `r` of an array by the number of the column, zero outside. -/
def row (P : Mat a n) (r : Fin a) (q : ℕ) : EReal := if h : q < n then P (ix2 r ⟨q, h⟩) else 0

/-- Inside, it is the entry. -/
theorem row_eq (P : Mat a n) (r : Fin a) (q : ℕ) (h : q < n) : P (ix2 r ⟨q, h⟩) = row P r q := by
  rw [row, dif_pos h]

/-- The angle by which position `l` turns pair `j` of a head's columns. -/
def angle (l j : ℕ) : EReal :=
  FloatOps.sitofp (F := Ideal) .f32 (BitVec.ofNat 32 l)
    * Ideal.div 1 (Ideal.pow (lit 1176256512#32) (Ideal.div (FloatOps.sitofp (F := Ideal) .f32 (BitVec.ofNat 32 j)) (lit 1124073472#32)))

/-- Column `q` of a row `p` of four heads, each head's 128 pairs of columns turned by the angle of position `l`. -/
def rot (p : ℕ → EReal) (l q : ℕ) : EReal :=
  if q % 256 < 128 then p q * Ideal.cos (angle l (q % 256)) - p (q + 128) * Ideal.sin (angle l (q % 256))
  else p (q - 128) * Ideal.sin (angle l (q % 256 - 128)) + p q * Ideal.cos (angle l (q % 256 - 128))

/-- The same with each pair turned the other way: the gradient of `rot`. -/
def rotBack (p : ℕ → EReal) (l q : ℕ) : EReal :=
  if q % 256 < 128 then p q * Ideal.cos (angle l (q % 256)) + p (q + 128) * Ideal.sin (angle l (q % 256))
  else p q * Ideal.cos (angle l (q % 256 - 128)) - p (q - 128) * Ideal.sin (angle l (q % 256 - 128))

/-- The rotated queries, of the first columns. -/
def rotQ (P : Mat 2048 12288) : Mat 2048 1024 := fun i => rot (row P (i 0)) (i 0).val (i 1).val

/-- The rotated and scaled keys, of the columns that follow. -/
def rotK (P : Mat 2048 12288) : Mat 2048 1024 := fun i =>
  rot (fun q => row P (i 0) (1024 + q)) (i 0).val (i 1).val * lit 1031798784#32

/-- The gradients of the queries, keys and values side by side, for those of the rotated ones and of the values. -/
def rotGrad (dq dk : Mat 2048 1024) (dv : Mat 2048 2048) : Mat 2048 4096 := fun i =>
  if (i 1).val < 1024 then rotBack (row dq (i 0)) (i 0).val (i 1).val
  else if (i 1).val - 1024 < 1024 then rotBack (row dk (i 0)) (i 0).val ((i 1).val - 1024) * lit 1031798784#32
  else row dv (i 0) ((i 1).val - 1024 - 1024)

/-- The eight half heads taken one after the other are the halves of a head by the column's remainder. -/
theorem halves (u v : ℕ → ℕ → ℕ → EReal) (q : ℕ) (hq : q < 1024) :
    (if q < 128 then u q (128 + q) q
      else if q - 128 < 128 then v (q - 128) (128 + (q - 128)) (q - 128)
      else if q - 128 - 128 < 128 then u (256 + (q - 128 - 128)) (384 + (q - 128 - 128)) (q - 128 - 128)
      else if q - 128 - 128 - 128 < 128 then
        v (256 + (q - 128 - 128 - 128)) (384 + (q - 128 - 128 - 128)) (q - 128 - 128 - 128)
      else if q - 128 - 128 - 128 - 128 < 128 then
        u (512 + (q - 128 - 128 - 128 - 128)) (640 + (q - 128 - 128 - 128 - 128)) (q - 128 - 128 - 128 - 128)
      else if q - 128 - 128 - 128 - 128 - 128 < 128 then
        v (512 + (q - 128 - 128 - 128 - 128 - 128)) (640 + (q - 128 - 128 - 128 - 128 - 128))
          (q - 128 - 128 - 128 - 128 - 128)
      else if q - 128 - 128 - 128 - 128 - 128 - 128 < 128 then
        u (768 + (q - 128 - 128 - 128 - 128 - 128 - 128)) (896 + (q - 128 - 128 - 128 - 128 - 128 - 128))
          (q - 128 - 128 - 128 - 128 - 128 - 128)
      else v (768 + (q - 128 - 128 - 128 - 128 - 128 - 128 - 128)) (896 + (q - 128 - 128 - 128 - 128 - 128 - 128 - 128))
          (q - 128 - 128 - 128 - 128 - 128 - 128 - 128))
      = if q % 256 < 128 then u q (q + 128) (q % 256) else v (q - 128) q (q % 256 - 128) := by
  split_ifs <;> first | omega | (congr 1 <;> omega)

/-- The scale of the keys is finite and not negative. -/
theorem scale_real : lit 1031798784#32 = ((1 / 16 : ℝ) : EReal) := by
  simp [lit, Ideal.ofBits, Ideal.ieee]
  rw [← EReal.coe_mul]
  norm_num

/-- It goes through a sum. -/
theorem add_scale (x y : EReal) : (x + y) * lit 1031798784#32 = x * lit 1031798784#32 + y * lit 1031798784#32 := by
  rw [scale_real, mul_comm, mul_comm x, mul_comm y]
  exact EReal.left_distrib_of_nonneg_of_ne_top (EReal.coe_nonneg.mpr (by norm_num)) (EReal.coe_ne_top _) x y

/-- The kernel's form of `rotBack`: both halves by the turn with the sine's sign changed. -/
theorem rotBack_eq (p : ℕ → EReal) (l q : ℕ) : rotBack p l q
    = if q % 256 < 128 then p q * Ideal.cos (angle l (q % 256)) - p (q + 128) * (0 - Ideal.sin (angle l (q % 256)))
      else p (q - 128) * (0 - Ideal.sin (angle l (q % 256 - 128))) + p q * Ideal.cos (angle l (q % 256 - 128)) := by
  unfold rotBack
  simp only [zero_sub]
  simp only [mul_neg, sub_eq_add_neg, neg_neg]
  split_ifs
  · rfl
  · exact add_comm _ _

end Cert.Rows

/-! ## The forward rotation -/

namespace Cert.FwdRotIdeal.Rows

open Cert.FwdRotIdeal Cert.FwdRotIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = t.val ∧ win0_1.index t 1 = 1
    ∧ win0_2.index t 0 = t.val ∧ win0_2.index t 1 = 0
    ∧ win0_3.index t 0 = t.val ∧ win0_3.index t 1 = 0 :=
  (by decide +kernel : ∀ t : Fin grid0.N, _)

/-- The results that have rows are written in the same bands. -/
theorem idx_out : ∀ t : Fin cfg0.N, win0_4.index t 0 = t.val ∧ win0_4.index t 1 = 0 ∧ win0_5.index t 0 = t.val ∧ win0_5.index t 1 = 0 :=
  (by decide +kernel : ∀ t : Fin grid0.N, _)

/-- The table of cosines that the host makes. -/
theorem cos_table (i : S2048x128.Idx) : V m c main_v13 i = Ideal.cos (angle (i 0).val (i 1).val) := by
  have e : V m c main_v13 = fun i => Ideal.cos (angle (i 0).val (i 1).val) := by
    unfold V hostOps0
    after_results_simp
    funext i
    unfold angle
    pointwise []
  rw [e]

/-- The table of sines. -/
theorem sin_table (i : S2048x128.Idx) : V m c main_v14 i = Ideal.sin (angle (i 0).val (i 1).val) := by
  have e : V m c main_v14 = fun i => Ideal.sin (angle (i 0).val (i 1).val) := by
    unfold V hostOps0
    after_results_simp
    funext i
    unfold angle
    pointwise []
  rw [e]

/-- A result's column is its column in the band. -/
theorem emb_col4 (t : Fin cfg0.N) (y : ((cfg0.win 4).xblock (cfg0.grid.coords t)).Idx) :
    ((win0_4.blk t).view.emb y 1).val = (y 1).val := by
  have h := (idx_out t)
  have e : ((win0_4.blk t).view.emb y 1).val = win0_4.index t 1 * 1024 + 1 * (y 1).val := rfl
  omega

/-- A result's column is its column in the band. -/
theorem emb_col5 (t : Fin cfg0.N) (y : ((cfg0.win 5).xblock (cfg0.grid.coords t)).Idx) :
    ((win0_5.blk t).view.emb y 1).val = (y 1).val := by
  have h := (idx_out t)
  have e : ((win0_5.blk t).view.emb y 1).val = win0_5.index t 1 * 1024 + 1 * (y 1).val := rfl
  omega

/-- The kernel's first result is the rotated queries. -/
theorem final_q : (dats m 0 c).arrAt 4 cfg0.N = rotQ (m (c.tc.loc main_arg0)) := by
  refine (dats m 0 c).arrAt_eq_of_covers 4 _ (by decide +kernel) fun t hf y => ?_
  blk_simp
  rw [after0_4]
  frame_out
  simp only [k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  pointwise []
  have e0 : ∀ (q : ℕ) (h : q < 1024), iblk m c 0 t (ix2 (y 0) ⟨q, h⟩) = row (m (c.tc.loc main_arg0)) ((win0_4.blk t).view.emb y 0) q := fun q h => by
    refine Eq.trans ?_ (row_eq (m (c.tc.loc main_arg0)) ((win0_4.blk t).view.emb y 0) (q) (by omega))
    blk_point [iblk, V, idx t, idx_out t]
  have ey : iblk m c 0 t y = row (m (c.tc.loc main_arg0)) ((win0_4.blk t).view.emb y 0) (y 1).val := by
    exact (congrArg _ (ix2_self y).symm).trans (e0 (y 1).val (y 1).isLt)
  have e2 : ∀ (q : ℕ) (h : q < 128), iblk m c 2 t (ix2 (y 0) ⟨q, h⟩) = Ideal.cos (angle ((win0_4.blk t).view.emb y 0).val q) := fun q h => by
    refine Eq.trans ?_ (cos_table m c (ix2 ((win0_4.blk t).view.emb y 0) ⟨q, h⟩))
    blk_point [iblk, idx t, idx_out t]
  have e3 : ∀ (q : ℕ) (h : q < 128), iblk m c 3 t (ix2 (y 0) ⟨q, h⟩) = Ideal.sin (angle ((win0_4.blk t).view.emb y 0).val q) := fun q h => by
    refine Eq.trans ?_ (sin_table m c (ix2 ((win0_4.blk t).view.emb y 0) ⟨q, h⟩))
    blk_point [iblk, idx t, idx_out t]
  simp only [e0, ey, e2, e3, dite_eq_ite]
  refine (halves (fun x z j => row (m (c.tc.loc main_arg0)) ((win0_4.blk t).view.emb y 0) (x) * Ideal.cos (angle ((win0_4.blk t).view.emb y 0).val j) - row (m (c.tc.loc main_arg0)) ((win0_4.blk t).view.emb y 0) (z) * Ideal.sin (angle ((win0_4.blk t).view.emb y 0).val j))
    (fun x z j => row (m (c.tc.loc main_arg0)) ((win0_4.blk t).view.emb y 0) (x) * Ideal.sin (angle ((win0_4.blk t).view.emb y 0).val j) + row (m (c.tc.loc main_arg0)) ((win0_4.blk t).view.emb y 0) (z) * Ideal.cos (angle ((win0_4.blk t).view.emb y 0).val j)) (y 1).val (y 1).isLt).trans ?_
  change _ = rot _ _ ((win0_4.blk t).view.emb y 1).val
  rw [emb_col4 t y]
  unfold rot
  split_ifs <;> rfl

/-- The kernel's second result is the rotated and scaled keys. -/
theorem final_k : (dats m 0 c).arrAt 5 cfg0.N = rotK (m (c.tc.loc main_arg0)) := by
  refine (dats m 0 c).arrAt_eq_of_covers 5 _ (by decide +kernel) fun t hf y => ?_
  blk_simp
  rw [after0_5]
  frame_out
  simp only [k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  pointwise []
  have e0 : ∀ (q : ℕ) (h : q < 1024), iblk m c 1 t (ix2 (y 0) ⟨q, h⟩) = row (m (c.tc.loc main_arg0)) ((win0_5.blk t).view.emb y 0) (1024 + q) := fun q h => by
    refine Eq.trans ?_ (row_eq (m (c.tc.loc main_arg0)) ((win0_5.blk t).view.emb y 0) ((1024 + q)) (by omega))
    blk_point [iblk, V, idx t, idx_out t]
  have ey : iblk m c 1 t y = row (m (c.tc.loc main_arg0)) ((win0_5.blk t).view.emb y 0) (1024 + (y 1).val) := by
    exact (congrArg _ (ix2_self y).symm).trans (e0 (y 1).val (y 1).isLt)
  have e2 : ∀ (q : ℕ) (h : q < 128), iblk m c 2 t (ix2 (y 0) ⟨q, h⟩) = Ideal.cos (angle ((win0_5.blk t).view.emb y 0).val q) := fun q h => by
    refine Eq.trans ?_ (cos_table m c (ix2 ((win0_5.blk t).view.emb y 0) ⟨q, h⟩))
    blk_point [iblk, idx t, idx_out t]
  have e3 : ∀ (q : ℕ) (h : q < 128), iblk m c 3 t (ix2 (y 0) ⟨q, h⟩) = Ideal.sin (angle ((win0_5.blk t).view.emb y 0).val q) := fun q h => by
    refine Eq.trans ?_ (sin_table m c (ix2 ((win0_5.blk t).view.emb y 0) ⟨q, h⟩))
    blk_point [iblk, idx t, idx_out t]
  simp only [e0, ey, e2, e3, dite_eq_ite]
  refine (halves (fun x z j => (row (m (c.tc.loc main_arg0)) ((win0_5.blk t).view.emb y 0) (1024 + x) * Ideal.cos (angle ((win0_5.blk t).view.emb y 0).val j) - row (m (c.tc.loc main_arg0)) ((win0_5.blk t).view.emb y 0) (1024 + z) * Ideal.sin (angle ((win0_5.blk t).view.emb y 0).val j)) * lit 1031798784#32)
    (fun x z j => (row (m (c.tc.loc main_arg0)) ((win0_5.blk t).view.emb y 0) (1024 + x) * Ideal.sin (angle ((win0_5.blk t).view.emb y 0).val j) + row (m (c.tc.loc main_arg0)) ((win0_5.blk t).view.emb y 0) (1024 + z) * Ideal.cos (angle ((win0_5.blk t).view.emb y 0).val j)) * lit 1031798784#32) (y 1).val (y 1).isLt).trans ?_
  change _ = rot _ _ ((win0_5.blk t).view.emb y 1).val * lit 1031798784#32
  rw [emb_col5 t y]
  unfold rot
  split_ifs <;> rfl

/-- The reference runs, keeps its arguments and leaves every counter at zero. -/
theorem frame_reference : Cert.quiescent_FwdRotRefIdeal := fun m ρ _ =>
  (θ_run _ _ _).mono (fun r h => ⟨fun c => (h c).2.2, Idealize.ShloMosaic.sem_eq_zero_of_no_sems (by decide) r.2⟩)
    (Cert.FwdRotRefIdeal.Value.run m ρ)

/-- The reference's first result. -/
theorem ref_q (m : (ℓ : Loc Cert.FwdRotRefIdeal.nD Cert.FwdRotRefIdeal.τ Cert.FwdRotRefIdeal.sig) → Buf (Elt Ideal) ℓ)
    (c : Dev Cert.FwdRotRefIdeal.nD) : Cert.FwdRotRefIdeal.Value.res_out0 m c = rotQ (m (c.tc.loc Cert.FwdRotRefIdeal.main_arg0)) := by
  unfold Cert.FwdRotRefIdeal.Value.res_out0 Cert.FwdRotRefIdeal.Value.res_main_v70
  funext i
  unfold rotQ rot angle
  pointwise []
  have f : ∀ (q : ℕ) (h : q < 12288), m (c.tc.loc Cert.FwdRotRefIdeal.main_arg0) (ix2 (i 0) ⟨q, h⟩) = row (m (c.tc.loc Cert.FwdRotRefIdeal.main_arg0)) (i 0) q :=
    fun q h => row_eq _ _ _ _
  simp only [f, dite_eq_ite]
  have h := Nat.div_add_mod (i 1).val 256
  split_ifs with h1
  · congr 3 <;> omega
  · congr 3 <;> omega

/-- The reference's second result. -/
theorem ref_k (m : (ℓ : Loc Cert.FwdRotRefIdeal.nD Cert.FwdRotRefIdeal.τ Cert.FwdRotRefIdeal.sig) → Buf (Elt Ideal) ℓ)
    (c : Dev Cert.FwdRotRefIdeal.nD) : Cert.FwdRotRefIdeal.Value.res_out1 m c = rotK (m (c.tc.loc Cert.FwdRotRefIdeal.main_arg0)) := by
  unfold Cert.FwdRotRefIdeal.Value.res_out1 Cert.FwdRotRefIdeal.Value.res_main_v71
  funext i
  unfold rotK rot angle
  pointwise []
  have f : ∀ (q : ℕ) (h : q < 12288), m (c.tc.loc Cert.FwdRotRefIdeal.main_arg0) (ix2 (i 0) ⟨q, h⟩) = row (m (c.tc.loc Cert.FwdRotRefIdeal.main_arg0)) (i 0) q :=
    fun q h => row_eq _ _ _ _
  simp only [f, dite_eq_ite]
  have h := Nat.div_add_mod (i 1).val 256
  refine congrArg (· * lit 1031798784#32) ?_
  split_ifs with h1
  · congr 3 <;> omega
  · congr 3 <;> omega

/-- From equal arguments the kernel and the reference end with equal results. -/
theorem algebraic : Cert.algebraic_FwdRotIdeal_FwdRotRefIdeal := fun m ρ m' ρ' _ hag =>
  ⟨fun c => rotQ (m (c.tc.loc main_arg0)),
   fun c => rotK (m (c.tc.loc main_arg0)),
   (θ_run _ _ _).mono (fun _ h c => ⟨(h c).1.trans (final_q m c), (h c).2.1.trans (final_k m c), (h c).2.2⟩) (Value.run_blocks m ρ),
   (θ_run _ _ _).mono (fun _ h c => ⟨(h c).1.trans ((ref_q m' c).trans (by simp only [hag c])),
     (h c).2.1.trans ((ref_k m' c).trans (by simp only [hag c])), (h c).2.2⟩) (Cert.FwdRotRefIdeal.Value.run m' ρ')⟩

end Cert.FwdRotIdeal.Rows

/-! ## The backward rotation -/

namespace Cert.BwdRotIdeal.Rows

open Cert.BwdRotIdeal Cert.BwdRotIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = t.val ∧ win0_1.index t 1 = 0
    ∧ win0_2.index t 0 = t.val ∧ win0_2.index t 1 = 0
    ∧ win0_3.index t 0 = t.val ∧ win0_3.index t 1 = 0
    ∧ win0_4.index t 0 = t.val ∧ win0_4.index t 1 = 0 :=
  (by decide +kernel : ∀ t : Fin grid0.N, _)

/-- The results that have rows are written in the same bands. -/
theorem idx_out : ∀ t : Fin cfg0.N, win0_5.index t 0 = t.val ∧ win0_5.index t 1 = 0 :=
  (by decide +kernel : ∀ t : Fin grid0.N, _)

/-- The table of cosines that the host makes. -/
theorem cos_table (i : S2048x128.Idx) : V m c main_v13 i = Ideal.cos (angle (i 0).val (i 1).val) := by
  have e : V m c main_v13 = fun i => Ideal.cos (angle (i 0).val (i 1).val) := by
    unfold V hostOps0
    after_results_simp
    funext i
    unfold angle
    pointwise []
  rw [e]

/-- The table of sines. -/
theorem sin_table (i : S2048x128.Idx) : V m c main_v14 i = Ideal.sin (angle (i 0).val (i 1).val) := by
  have e : V m c main_v14 = fun i => Ideal.sin (angle (i 0).val (i 1).val) := by
    unfold V hostOps0
    after_results_simp
    funext i
    unfold angle
    pointwise []
  rw [e]

/-- A result's column is its column in the band. -/
theorem emb_col5 (t : Fin cfg0.N) (y : ((cfg0.win 5).xblock (cfg0.grid.coords t)).Idx) :
    ((win0_5.blk t).view.emb y 1).val = (y 1).val := by
  have h := (idx_out t)
  have e : ((win0_5.blk t).view.emb y 1).val = win0_5.index t 1 * 4096 + 1 * (y 1).val := rfl
  omega

/-- The kernel's result is the gradients of the queries, keys and values. -/
theorem final : (dats m 0 c).arrAt 5 cfg0.N = rotGrad (m (c.tc.loc main_arg0)) (m (c.tc.loc main_arg1)) (m (c.tc.loc main_arg2)) := by
  refine (dats m 0 c).arrAt_eq_of_covers 5 _ (by decide +kernel) fun t hf y => ?_
  blk_simp
  rw [after0_5]
  frame_out
  simp only [k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  pointwise []
  have e0 : ∀ (q : ℕ) (h : q < 1024), iblk m c 0 t (ix2 (y 0) ⟨q, h⟩) = row (m (c.tc.loc main_arg0)) ((win0_5.blk t).view.emb y 0) q := fun q h => by
    refine Eq.trans ?_ (row_eq (m (c.tc.loc main_arg0)) ((win0_5.blk t).view.emb y 0) q h)
    blk_point [iblk, V, idx t, idx_out t]
  have e1 : ∀ (q : ℕ) (h : q < 1024), iblk m c 1 t (ix2 (y 0) ⟨q, h⟩) = row (m (c.tc.loc main_arg1)) ((win0_5.blk t).view.emb y 0) q := fun q h => by
    refine Eq.trans ?_ (row_eq (m (c.tc.loc main_arg1)) ((win0_5.blk t).view.emb y 0) q h)
    blk_point [iblk, V, idx t, idx_out t]
  have e2 : ∀ (q : ℕ) (h : q < 2048), iblk m c 2 t (ix2 (y 0) ⟨q, h⟩) = row (m (c.tc.loc main_arg2)) ((win0_5.blk t).view.emb y 0) q := fun q h => by
    refine Eq.trans ?_ (row_eq (m (c.tc.loc main_arg2)) ((win0_5.blk t).view.emb y 0) q h)
    blk_point [iblk, V, idx t, idx_out t]
  have e3 : ∀ (q : ℕ) (h : q < 128), iblk m c 3 t (ix2 (y 0) ⟨q, h⟩) = Ideal.cos (angle ((win0_5.blk t).view.emb y 0).val q) := fun q h => by
    refine Eq.trans ?_ (cos_table m c (ix2 ((win0_5.blk t).view.emb y 0) ⟨q, h⟩))
    blk_point [iblk, idx t, idx_out t]
  have e4 : ∀ (q : ℕ) (h : q < 128), iblk m c 4 t (ix2 (y 0) ⟨q, h⟩) = Ideal.sin (angle ((win0_5.blk t).view.emb y 0).val q) := fun q h => by
    refine Eq.trans ?_ (sin_table m c (ix2 ((win0_5.blk t).view.emb y 0) ⟨q, h⟩))
    blk_point [iblk, idx t, idx_out t]
  simp only [e0, e1, e2, e3, e4, dite_eq_ite]
  have ec := emb_col5 t y
  change _ = if ((win0_5.blk t).view.emb y 1).val < 1024 then rotBack _ _ ((win0_5.blk t).view.emb y 1).val
    else if ((win0_5.blk t).view.emb y 1).val - 1024 < 1024 then
      rotBack _ _ (((win0_5.blk t).view.emb y 1).val - 1024) * lit 1031798784#32
    else row _ _ (((win0_5.blk t).view.emb y 1).val - 1024 - 1024)
  rw [ec]
  by_cases h1 : (y 1).val < 1024
  · rw [if_pos h1, if_pos h1]
    refine (halves (fun x z j => row (m (c.tc.loc main_arg0)) ((win0_5.blk t).view.emb y 0) x * Ideal.cos (angle ((win0_5.blk t).view.emb y 0).val j) - row (m (c.tc.loc main_arg0)) ((win0_5.blk t).view.emb y 0) z * (0 - Ideal.sin (angle ((win0_5.blk t).view.emb y 0).val j)))
      (fun x z j => row (m (c.tc.loc main_arg0)) ((win0_5.blk t).view.emb y 0) x * (0 - Ideal.sin (angle ((win0_5.blk t).view.emb y 0).val j)) + row (m (c.tc.loc main_arg0)) ((win0_5.blk t).view.emb y 0) z * Ideal.cos (angle ((win0_5.blk t).view.emb y 0).val j)) (y 1).val (by omega)).trans ?_
    rw [rotBack_eq]
  rw [if_neg h1, if_neg h1]
  by_cases h2 : (y 1).val - 1024 < 1024
  · rw [if_pos h2, if_pos h2]
    refine (halves (fun x z j => (row (m (c.tc.loc main_arg1)) ((win0_5.blk t).view.emb y 0) x * Ideal.cos (angle ((win0_5.blk t).view.emb y 0).val j) - row (m (c.tc.loc main_arg1)) ((win0_5.blk t).view.emb y 0) z * (0 - Ideal.sin (angle ((win0_5.blk t).view.emb y 0).val j))) * lit 1031798784#32)
      (fun x z j => (row (m (c.tc.loc main_arg1)) ((win0_5.blk t).view.emb y 0) x * (0 - Ideal.sin (angle ((win0_5.blk t).view.emb y 0).val j)) + row (m (c.tc.loc main_arg1)) ((win0_5.blk t).view.emb y 0) z * Ideal.cos (angle ((win0_5.blk t).view.emb y 0).val j)) * lit 1031798784#32) ((y 1).val - 1024) (by omega)).trans ?_
    rw [rotBack_eq]
    split_ifs <;> rfl
  rw [if_neg h2, if_neg h2]

/-- The reference runs, keeps its arguments and leaves every counter at zero. -/
theorem frame_reference : Cert.quiescent_BwdRotRefIdeal := fun m ρ _ =>
  (θ_run _ _ _).mono (fun r h => ⟨fun c => (h c).2, Idealize.ShloMosaic.sem_eq_zero_of_no_sems (by decide) r.2⟩)
    (Cert.BwdRotRefIdeal.Value.run m ρ)

/-- The reference's first result. -/
theorem ref_final (m : (ℓ : Loc Cert.BwdRotRefIdeal.nD Cert.BwdRotRefIdeal.τ Cert.BwdRotRefIdeal.sig) → Buf (Elt Ideal) ℓ)
    (c : Dev Cert.BwdRotRefIdeal.nD) : Cert.BwdRotRefIdeal.Value.res_out0 m c = rotGrad (m (c.tc.loc Cert.BwdRotRefIdeal.main_arg0)) (m (c.tc.loc Cert.BwdRotRefIdeal.main_arg1)) (m (c.tc.loc Cert.BwdRotRefIdeal.main_arg2)) := by
  unfold Cert.BwdRotRefIdeal.Value.res_out0 Cert.BwdRotRefIdeal.Value.res_main_v109
  funext i
  unfold rotGrad rotBack angle
  pointwise []
  have f0 : ∀ (q : ℕ) (h : q < 1024), m (c.tc.loc Cert.BwdRotRefIdeal.main_arg0) (ix2 (i 0) ⟨q, h⟩) = row (m (c.tc.loc Cert.BwdRotRefIdeal.main_arg0)) (i 0) q := fun q h => row_eq _ _ _ _
  have f1 : ∀ (q : ℕ) (h : q < 1024), m (c.tc.loc Cert.BwdRotRefIdeal.main_arg1) (ix2 (i 0) ⟨q, h⟩) = row (m (c.tc.loc Cert.BwdRotRefIdeal.main_arg1)) (i 0) q := fun q h => row_eq _ _ _ _
  have f2 : ∀ (q : ℕ) (h : q < 2048), m (c.tc.loc Cert.BwdRotRefIdeal.main_arg2) (ix2 (i 0) ⟨q, h⟩) = row (m (c.tc.loc Cert.BwdRotRefIdeal.main_arg2)) (i 0) q := fun q h => row_eq _ _ _ _
  simp only [f0, f1, f2, dite_eq_ite]
  have h := Nat.div_add_mod (i 1).val 256
  have h' := Nat.div_add_mod ((i 1).val - 1024) 256
  split_ifs <;> first | omega | skip
  · rw [show (i 1).val / 256 * 256 + (128 + ((i 1).val % 256 - 128)) = (i 1).val by omega,
      show (i 1).val / 256 * 256 + ((i 1).val % 256 - 128) = (i 1).val - 128 by omega, add_zero, neg_mul]
    exact (sub_eq_add_neg _ _).symm
  · rw [show (i 1).val / 256 * 256 + (128 + (i 1).val % 256) = (i 1).val + 128 by omega,
      show (i 1).val / 256 * 256 + (i 1).val % 256 = (i 1).val by omega, zero_add]
    exact add_comm _ _
  · rw [show ((i 1).val - 1024) / 256 * 256 + (128 + (((i 1).val - 1024) % 256 - 128)) = ((i 1).val - 1024) by omega,
      show ((i 1).val - 1024) / 256 * 256 + (((i 1).val - 1024) % 256 - 128) = ((i 1).val - 1024) - 128 by omega, add_zero, sub_eq_add_neg, add_scale]
    simp only [neg_mul, mul_right_comm _ (lit 1031798784#32)]
  · rw [show ((i 1).val - 1024) / 256 * 256 + (128 + ((i 1).val - 1024) % 256) = ((i 1).val - 1024) + 128 by omega,
      show ((i 1).val - 1024) / 256 * 256 + ((i 1).val - 1024) % 256 = ((i 1).val - 1024) by omega, zero_add, add_scale, add_comm]
    simp only [mul_right_comm _ (lit 1031798784#32)]
  · rfl

/-- From equal arguments the kernel and the reference end with equal results. -/
theorem algebraic : Cert.algebraic_BwdRotIdeal_BwdRotRefIdeal := fun m ρ m' ρ' _ hag =>
  ⟨fun c => rotGrad (m (c.tc.loc main_arg0)) (m (c.tc.loc main_arg1)) (m (c.tc.loc main_arg2)),
   (θ_run _ _ _).mono (fun _ h c => ⟨(h c).1.trans (final m c), (h c).2⟩) (Value.run_blocks m ρ),
   (θ_run _ _ _).mono (fun _ h c => ⟨(h c).1.trans ((ref_final m' c).trans (by simp only [hag c])), (h c).2⟩) (Cert.BwdRotRefIdeal.Value.run m' ρ')⟩

end Cert.BwdRotIdeal.Rows

end
-- ==== Proof.Loss.lean ====
module

public import proofs.«01_k».proof.Defs
public import proofs.«01_k».proof.Proof.Gen.LossStageIdeal.Value
public import proofs.«01_k».proof.Proof.Gen.LossStageRefIdeal.Run
public import proofs.«01_k».proof.Proof.RowsMath
public import Idealize.ShloMosaic.Lib.Pipeline.ReadBack

@[expose] public section

set_option maxRecDepth 16384
set_option maxHeartbeats 4000000

noncomputable section

/-! # The loss and its gradient -/

namespace Cert.Rows

open Idealize.ShloMosaic Cert.Prod

variable {a : ℕ}

/-- The literal `0.5`. -/
theorem lit_half : lit 1056964608#32 = ((1 / 2 : ℝ) : EReal) := by
  simp [lit, Ideal.ofBits, Ideal.ieee]
  rw [← EReal.coe_mul]
  norm_num

/-- The literal `2`. -/
theorem lit_two : lit 1073741824#32 = 2 := by
  simp [lit, Ideal.ofBits, Ideal.ieee]
  rw [← EReal.coe_mul]
  norm_num
  rfl

/-- The literal `2048`. -/
theorem lit_2048 : lit 1157627904#32 = ((2048 : ℝ) : EReal) := by
  simp [lit, Ideal.ofBits, Ideal.ieee]
  rw [← EReal.coe_mul]
  norm_num

/-- A finite factor that is not negative goes through a sum. -/
theorem coe_mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert k s hk ih =>
    rw [Finset.sum_insert hk, Finset.sum_insert hk, ← ih,
      EReal.left_distrib_of_nonneg_of_ne_top (EReal.coe_nonneg.mpr hr) (EReal.coe_ne_top r)]

/-- The weight of a squared error in the loss. -/
abbrev lossScale : EReal := Ideal.div (lit 1056964608#32) (lit 1157627904#32)

/-- An error times the weight, twice, is the weight times twice the error. -/
theorem twice (e : EReal) : e * lossScale + lossScale * e = lossScale * (lit 1073741824#32 * e) := by
  have h : lossScale = ((1 / 4096 : ℝ) : EReal) := by
    rw [lossScale, lit_half, lit_2048, Ideal.div_coe (by norm_num), ← EReal.coe_mul]
    norm_num
  rw [h, lit_two, mul_comm e, ← one_add_one_eq_two, EReal.right_distrib_of_nonneg zero_le_one zero_le_one, one_mul,
    EReal.left_distrib_of_nonneg_of_ne_top (EReal.coe_nonneg.mpr (by norm_num)) (EReal.coe_ne_top _)]

/-- The error: the normalised row times the gain, without the target. -/
def err (x t : Mat a 2048) (g : Mat 1 2048) : Mat a 2048 := fun i =>
  x i * Ideal.rsqrt (meanSq x (i 0)) * g (ix2 0 (i 1)) - t i

/-- The gradient of the loss in the normalised row times the gain. -/
def errGrad (x t : Mat a 2048) (g : Mat 1 2048) : Mat a 2048 := fun i =>
  lossScale * (lit 1073741824#32 * err x t g i)

/-- Half the sum of the rows' mean squared errors. -/
def lossSum (x t : Mat a 2048) (g : Mat 1 2048) : EReal :=
  lit 1056964608#32 * ∑ r, Ideal.div (∑ k, err x t g (ix2 r k) * err x t g (ix2 r k)) (lit 1157627904#32)

end Cert.Rows

/-! ## The stage -/

namespace Cert.LossStageIdeal.Rows

open Cert.LossStageIdeal Cert.LossStageIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = t.val ∧ win0_1.index t 1 = 0
    ∧ win0_2.index t 0 = 0 ∧ win0_2.index t 1 = 0 :=
  (by decide +kernel : ∀ t : Fin grid0.N, _)

/-- The results that have rows are written in the same bands. -/
theorem idx_out : ∀ t : Fin cfg0.N, win0_3.index t 0 = t.val ∧ win0_3.index t 1 = 0 ∧ win0_4.index t 0 = t.val ∧ win0_4.index t 1 = 0 :=
  (by decide +kernel : ∀ t : Fin grid0.N, _)

/-- In each band the first result is the gradient of the loss in the input. -/
theorem block_x (t : Fin cfg0.N) : (outsAt0 m c t.val t.isLt).1 = rmsX (iblk m c 0 t) (errGrad (iblk m c 0 t) (iblk m c 1 t) (iblk m c 2 t)) (iblk m c 2 t) := by
  funext i
  by_cases h : t.val % 8 = 0
  · rw [outsAt0_A m c t h]
    frame_out
    simp only [k0_pay16, k0_pay15, k0_pay14, k0_pay13, k0_pay12, k0_pay11, k0_pay10, k0_pay9, k0_pay8, k0_pay7, k0_pay6, k0_pay5, k0_pay4, k0_pay3, k0_pay2, k0_pay1]
    unfold rmsX rmsMean errGrad err meanSq
    pointwise [Fin.sum_univ_one, twice]
  · rw [outsAt0_B m c t h]
    frame_out
    simp only [k0_pay16, k0_pay15, k0_pay14, k0_pay13, k0_pay12, k0_pay11, k0_pay10, k0_pay9, k0_pay8, k0_pay7, k0_pay6, k0_pay5, k0_pay4, k0_pay3, k0_pay2, k0_pay1]
    unfold rmsX rmsMean errGrad err meanSq
    pointwise [Fin.sum_univ_one, twice]

/-- The second result is the same in half the width. -/
theorem block_x_bf16 (t : Fin cfg0.N) : (outsAt0 m c t.val t.isLt).2.1 = rmsX (iblk m c 0 t) (errGrad (iblk m c 0 t) (iblk m c 1 t) (iblk m c 2 t)) (iblk m c 2 t) := by
  funext i
  by_cases h : t.val % 8 = 0
  · rw [outsAt0_A m c t h]
    frame_out
    simp only [k0_pay16, k0_pay15, k0_pay14, k0_pay13, k0_pay12, k0_pay11, k0_pay10, k0_pay9, k0_pay8, k0_pay7, k0_pay6, k0_pay5, k0_pay4, k0_pay3, k0_pay2, k0_pay1]
    unfold rmsX rmsMean errGrad err meanSq
    pointwise [Fin.sum_univ_one, twice]
  · rw [outsAt0_B m c t h]
    frame_out
    simp only [k0_pay16, k0_pay15, k0_pay14, k0_pay13, k0_pay12, k0_pay11, k0_pay10, k0_pay9, k0_pay8, k0_pay7, k0_pay6, k0_pay5, k0_pay4, k0_pay3, k0_pay2, k0_pay1]
    unfold rmsX rmsMean errGrad err meanSq
    pointwise [Fin.sum_univ_one, twice]

/-- After the last band the third result is the sum of the bands' losses. -/
theorem acc_loss (t : Fin cfg0.N) (hm : t.val % 8 = 7) (i : S1x128.Idx) : (outsAt0 m c t.val t.isLt).2.2.1 i
    = 0 + ∑ s : Fin 8, (fun _ => lossSum (iblk m c 0 ⟨8 * (t.val / 8) + s.val, Pipeline.run_point_lt_of_flush t hm s⟩) (iblk m c 1 ⟨8 * (t.val / 8) + s.val, Pipeline.run_point_lt_of_flush t hm s⟩) (iblk m c 2 ⟨8 * (t.val / 8) + s.val, Pipeline.run_point_lt_of_flush t hm s⟩)) i := by
  refine Pipeline.eq_sum_fin_of_reset_step_apply_of_flush (fun n h => (outsAt0 m c n h).2.2.1) 8 (fun _ => (0 : EReal))
    (fun t => (fun _ => lossSum (iblk m c 0 t) (iblk m c 1 t) (iblk m c 2 t))) (fun t h i => ?_) (fun t h i => ?_) t hm i
  · rw [outsAt0_A m c t h]
    frame_out
    simp only [k0_pay16, k0_pay15, k0_pay14, k0_pay13, k0_pay12, k0_pay11, k0_pay10, k0_pay9, k0_pay8, k0_pay7, k0_pay6, k0_pay5, k0_pay4, k0_pay3, k0_pay2, k0_pay1]
    unfold lossSum err meanSq
    pointwise [Fin.sum_univ_one, twice]
  · rw [outsAt0_B m c t h]
    frame_out
    simp only [k0_pay16, k0_pay15, k0_pay14, k0_pay13, k0_pay12, k0_pay11, k0_pay10, k0_pay9, k0_pay8, k0_pay7, k0_pay6, k0_pay5, k0_pay4, k0_pay3, k0_pay2, k0_pay1]
    unfold lossSum err meanSq
    pointwise [Fin.sum_univ_one, twice]

/-- The fourth result is the sum of the bands' gradients of the gain. -/
theorem acc_g (t : Fin cfg0.N) (hm : t.val % 8 = 7) (i : S1x2048.Idx) : (outsAt0 m c t.val t.isLt).2.2.2 i
    = 0 + ∑ s : Fin 8, rmsG (iblk m c 0 ⟨8 * (t.val / 8) + s.val, Pipeline.run_point_lt_of_flush t hm s⟩) (errGrad (iblk m c 0 ⟨8 * (t.val / 8) + s.val, Pipeline.run_point_lt_of_flush t hm s⟩) (iblk m c 1 ⟨8 * (t.val / 8) + s.val, Pipeline.run_point_lt_of_flush t hm s⟩) (iblk m c 2 ⟨8 * (t.val / 8) + s.val, Pipeline.run_point_lt_of_flush t hm s⟩)) i := by
  refine Pipeline.eq_sum_fin_of_reset_step_apply_of_flush (fun n h => (outsAt0 m c n h).2.2.2) 8 (fun _ => (0 : EReal))
    (fun t => rmsG (iblk m c 0 t) (errGrad (iblk m c 0 t) (iblk m c 1 t) (iblk m c 2 t))) (fun t h i => ?_) (fun t h i => ?_) t hm i
  · rw [outsAt0_A m c t h]
    frame_out
    simp only [k0_pay16, k0_pay15, k0_pay14, k0_pay13, k0_pay12, k0_pay11, k0_pay10, k0_pay9, k0_pay8, k0_pay7, k0_pay6, k0_pay5, k0_pay4, k0_pay3, k0_pay2, k0_pay1]
    unfold rmsG errGrad err meanSq
    pointwise [Fin.sum_univ_one, twice]
  · rw [outsAt0_B m c t h]
    frame_out
    simp only [k0_pay16, k0_pay15, k0_pay14, k0_pay13, k0_pay12, k0_pay11, k0_pay10, k0_pay9, k0_pay8, k0_pay7, k0_pay6, k0_pay5, k0_pay4, k0_pay3, k0_pay2, k0_pay1]
    unfold rmsG errGrad err meanSq
    pointwise [Fin.sum_univ_one, twice]

/-- The kernel's first result is the gradient of the loss in the input. -/
theorem final_x : (dats m 0 c).arrAt 3 cfg0.N = rmsX (m (c.tc.loc main_arg0)) (errGrad (m (c.tc.loc main_arg0)) (m (c.tc.loc main_arg1)) (m (c.tc.loc main_arg2))) (m (c.tc.loc main_arg2)) := by
  refine (dats m 0 c).arrAt_eq_of_covers 3 _ (by decide +kernel) fun t hf y => ?_
  blk_simp
  rw [after0_3, block_x m c t]
  unfold rmsX rmsMean errGrad err meanSq
  blk_point [iblk, V, idx t, idx_out t]

/-- The kernel's second result is the same in half the width. -/
theorem final_x_bf16 : (dats m 0 c).arrAt 4 cfg0.N = rmsX (m (c.tc.loc main_arg0)) (errGrad (m (c.tc.loc main_arg0)) (m (c.tc.loc main_arg1)) (m (c.tc.loc main_arg2))) (m (c.tc.loc main_arg2)) := by
  refine (dats m 0 c).arrAt_eq_of_covers 4 _ (by decide +kernel) fun t hf y => ?_
  blk_simp
  rw [after0_4, block_x_bf16 m c t]
  unfold rmsX rmsMean errGrad err meanSq
  blk_point [iblk, V, idx t, idx_out t]

/-- The sum is one row. -/
theorem idx_final_loss : ∀ t : Fin cfg0.N, win0_5.index t 0 = 0 ∧ win0_5.index t 1 = 0 :=
  (by decide +kernel : ∀ t : Fin grid0.N, _)

/-- The kernel's third result is the loss. -/
theorem final_loss : (dats m 0 c).arrAt 5 cfg0.N = (fun _ => lossSum (m (c.tc.loc main_arg0)) (m (c.tc.loc main_arg1)) (m (c.tc.loc main_arg2))) := by
  refine (dats m 0 c).arrAt_eq_of_covers 5 _ (by decide +kernel) fun t hf y => ?_
  have io := idx_final_loss t
  have hm := (flush0_5 t).mp hf
  blk_simp
  rw [after0_5]
  refine (acc_loss m c t hm _).trans ((zero_add _).trans ?_)
  beta_reduce
  unfold lossSum
  rw [lit_half, ← coe_mul_sum _ _ (by norm_num)]
  refine congrArg _ (sum_parts (by norm_num) _ _ fun s r k hk => ?_)
  have i1 := idx ⟨8 * (t.val / 8) + s.val, Pipeline.run_point_lt_of_flush t hm s⟩
  unfold err meanSq
  blk_point [iblk, V, i1]

/-- The sum is one row. -/
theorem idx_final_g : ∀ t : Fin cfg0.N, win0_6.index t 0 = 0 ∧ win0_6.index t 1 = 0 :=
  (by decide +kernel : ∀ t : Fin grid0.N, _)

/-- The kernel's fourth result is the gradient of the gain. -/
theorem final_g : (dats m 0 c).arrAt 6 cfg0.N = rmsG (m (c.tc.loc main_arg0)) (errGrad (m (c.tc.loc main_arg0)) (m (c.tc.loc main_arg1)) (m (c.tc.loc main_arg2))) := by
  refine (dats m 0 c).arrAt_eq_of_covers 6 _ (by decide +kernel) fun t hf y => ?_
  have io := idx_final_g t
  have hm := (flush0_6 t).mp hf
  blk_simp
  rw [after0_6]
  refine (acc_g m c t hm _).trans ((zero_add _).trans (sum_parts (by norm_num) _ _ fun s r k hk => ?_))
  have i1 := idx ⟨8 * (t.val / 8) + s.val, Pipeline.run_point_lt_of_flush t hm s⟩
  unfold errGrad err meanSq
  blk_point [iblk, V, i1, io]

/-- The reference runs, keeps its arguments and leaves every counter at zero. -/
theorem frame_reference : Cert.quiescent_LossStageRefIdeal := fun m ρ _ =>
  (θ_run _ _ _).mono (fun r h => ⟨fun c => (h c).2.2.2.2, Idealize.ShloMosaic.sem_eq_zero_of_no_sems (by decide) r.2⟩)
    (Cert.LossStageRefIdeal.Value.run m ρ)

/-- The reference's first result. -/
theorem ref_x (m : (ℓ : Loc Cert.LossStageRefIdeal.nD Cert.LossStageRefIdeal.τ Cert.LossStageRefIdeal.sig) → Buf (Elt Ideal) ℓ)
    (c : Dev Cert.LossStageRefIdeal.nD) : Cert.LossStageRefIdeal.Value.res_out0 m c = rmsX (m (c.tc.loc Cert.LossStageRefIdeal.main_arg0)) (errGrad (m (c.tc.loc Cert.LossStageRefIdeal.main_arg0)) (m (c.tc.loc Cert.LossStageRefIdeal.main_arg1)) (m (c.tc.loc Cert.LossStageRefIdeal.main_arg2))) (m (c.tc.loc Cert.LossStageRefIdeal.main_arg2)) := by
  unfold Cert.LossStageRefIdeal.Value.res_out0 Cert.LossStageRefIdeal.Value.res_main_v51
  funext i
  unfold rmsX rmsMean errGrad err meanSq
  pointwise [Fin.sum_univ_one, twice]

/-- The reference's second result. -/
theorem ref_x_bf16 (m : (ℓ : Loc Cert.LossStageRefIdeal.nD Cert.LossStageRefIdeal.τ Cert.LossStageRefIdeal.sig) → Buf (Elt Ideal) ℓ)
    (c : Dev Cert.LossStageRefIdeal.nD) : Cert.LossStageRefIdeal.Value.res_out1 m c = rmsX (m (c.tc.loc Cert.LossStageRefIdeal.main_arg0)) (errGrad (m (c.tc.loc Cert.LossStageRefIdeal.main_arg0)) (m (c.tc.loc Cert.LossStageRefIdeal.main_arg1)) (m (c.tc.loc Cert.LossStageRefIdeal.main_arg2))) (m (c.tc.loc Cert.LossStageRefIdeal.main_arg2)) := by
  unfold Cert.LossStageRefIdeal.Value.res_out1 Cert.LossStageRefIdeal.Value.res_main_v52
  funext i
  unfold rmsX rmsMean errGrad err meanSq
  pointwise [Fin.sum_univ_one, twice]

/-- From equal arguments the kernel and the reference end with equal results. -/
theorem algebraic : Cert.algebraic_LossStageIdeal_LossStageRefIdeal := fun m ρ m' ρ' _ hag =>
  ⟨fun c => rmsX (m (c.tc.loc main_arg0)) (errGrad (m (c.tc.loc main_arg0)) (m (c.tc.loc main_arg1)) (m (c.tc.loc main_arg2))) (m (c.tc.loc main_arg2)),
   fun c => rmsX (m (c.tc.loc main_arg0)) (errGrad (m (c.tc.loc main_arg0)) (m (c.tc.loc main_arg1)) (m (c.tc.loc main_arg2))) (m (c.tc.loc main_arg2)),
   fun c => (fun _ => lossSum (m (c.tc.loc main_arg0)) (m (c.tc.loc main_arg1)) (m (c.tc.loc main_arg2))),
   fun c => rmsG (m (c.tc.loc main_arg0)) (errGrad (m (c.tc.loc main_arg0)) (m (c.tc.loc main_arg1)) (m (c.tc.loc main_arg2))),
   (θ_run _ _ _).mono (fun _ h c => ⟨(h c).1.trans (final_x m c), (h c).2.1.trans (final_x_bf16 m c), (h c).2.2.1.trans (final_loss m c), (h c).2.2.2.1.trans (final_g m c), (h c).2.2.2.2⟩) (Value.run_blocks m ρ),
   (θ_run _ _ _).mono (fun _ h c => ⟨(h c).1.trans ((ref_x m' c).trans (by simp only [hag c])),
     (h c).2.1.trans ((ref_x_bf16 m' c).trans (by simp only [hag c])),
     (h c).2.2.1.trans (by
       clear h
       simp only [hag c]
       funext i
       unfold lossSum err meanSq
       pointwise [Fin.sum_univ_one, twice]),
     (h c).2.2.2.1.trans (by
       clear h
       simp only [hag c]
       funext i
       unfold rmsG errGrad err meanSq
       pointwise [Fin.sum_univ_one, twice]
       blk_point []), (h c).2.2.2.2⟩) (Cert.LossStageRefIdeal.Value.run m' ρ')⟩

end Cert.LossStageIdeal.Rows

end
-- ==== Proof.RowsFwd.lean ====
module

public import proofs.«01_k».proof.Defs
public import proofs.«01_k».proof.Proof.Gen.FwdRmsIdeal.Value
public import proofs.«01_k».proof.Proof.Gen.FwdRmsRefIdeal.Run
public import proofs.«01_k».proof.Proof.Gen.FwdSwishIdeal.Value
public import proofs.«01_k».proof.Proof.Gen.FwdSwishRefIdeal.Run
public import proofs.«01_k».proof.Proof.Gen.FwdMergeIdeal.Value
public import proofs.«01_k».proof.Proof.Gen.FwdMergeRefIdeal.Run
public import proofs.«01_k».proof.Proof.RowsMath
public import Idealize.ShloMosaic.Lib.Pipeline.ReadBack

@[expose] public section

set_option maxRecDepth 16384

noncomputable section

/-! # The forward calls that work row by row -/

/-! ## The normalised rows -/

namespace Cert.FwdRmsIdeal.Rows

open Cert.FwdRmsIdeal Cert.FwdRmsIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = 0 ∧ win0_1.index t 1 = 0 :=
  (by decide +kernel : ∀ t : Fin grid0.N, _)

/-- The results are written in the same bands. -/
theorem idx_out : ∀ t : Fin cfg0.N, win0_2.index t 0 = t.val ∧ win0_2.index t 1 = 0 :=
  (by decide +kernel : ∀ t : Fin grid0.N, _)

/-- The kernel's result is the normalised rows. -/
theorem final : (dats m 0 c).arrAt 2 cfg0.N = rms (m (c.tc.loc main_arg0)) (m (c.tc.loc main_arg1)) := by
  refine (dats m 0 c).arrAt_eq_of_covers 2 _ (by decide +kernel) fun t hf y => ?_
  blk_simp
  rw [after0_2]
  frame_out
  unfold k0_pay1 rms
  pointwise []
  blk_point [iblk, V, idx t, idx_out t]

/-- The reference runs, keeps its arguments and leaves every counter at zero. -/
theorem frame_reference : Cert.quiescent_FwdRmsRefIdeal := fun m ρ _ =>
  (θ_run _ _ _).mono (fun r h => ⟨fun c => (h c).2, Idealize.ShloMosaic.sem_eq_zero_of_no_sems (by decide) r.2⟩)
    (Cert.FwdRmsRefIdeal.Value.run m ρ)

/-- From equal arguments the kernel and the reference end with equal results. -/
theorem algebraic : Cert.algebraic_FwdRmsIdeal_FwdRmsRefIdeal := fun m ρ m' ρ' _ hag =>
  ⟨fun c => rms (m (c.tc.loc main_arg0)) (m (c.tc.loc main_arg1)),
   (θ_run _ _ _).mono (fun _ h c => ⟨(h c).1.trans (final m c), (h c).2⟩) (Value.run_blocks m ρ),
   (θ_run _ _ _).mono (fun _ h c => ⟨(h c).1.trans (by
       clear h
       simp only [hag c]
       funext i
       unfold rms
       pointwise []), (h c).2⟩) (Cert.FwdRmsRefIdeal.Value.run m' ρ')⟩

end Cert.FwdRmsIdeal.Rows

/-! ## The gated linear unit -/

namespace Cert.FwdSwishIdeal.Rows

open Cert.FwdSwishIdeal Cert.FwdSwishIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = t.val ∧ win0_1.index t 1 = 1 :=
  (by decide +kernel : ∀ t : Fin grid0.N, _)

/-- The results are written in the same bands. -/
theorem idx_out : ∀ t : Fin cfg0.N, win0_2.index t 0 = t.val ∧ win0_2.index t 1 = 0 :=
  (by decide +kernel : ∀ t : Fin grid0.N, _)

/-- The kernel's result is the gated linear unit of the two halves. -/
theorem final : (dats m 0 c).arrAt 2 cfg0.N = (fun i => swish (cols 0 (by decide) (m (c.tc.loc main_arg0)) i) (cols 5632 (by decide) (m (c.tc.loc main_arg0)) i) : Mat 2048 5632) := by
  refine (dats m 0 c).arrAt_eq_of_covers 2 _ (by decide +kernel) fun t hf y => ?_
  blk_simp
  rw [after0_2]
  frame_out
  unfold k0_pay1 cols swish
  pointwise []
  blk_point [iblk, V, idx t, idx_out t]

/-- The reference runs, keeps its arguments and leaves every counter at zero. -/
theorem frame_reference : Cert.quiescent_FwdSwishRefIdeal := fun m ρ _ =>
  (θ_run _ _ _).mono (fun r h => ⟨fun c => (h c).2, Idealize.ShloMosaic.sem_eq_zero_of_no_sems (by decide) r.2⟩)
    (Cert.FwdSwishRefIdeal.Value.run m ρ)

/-- From equal arguments the kernel and the reference end with equal results. -/
theorem algebraic : Cert.algebraic_FwdSwishIdeal_FwdSwishRefIdeal := fun m ρ m' ρ' _ hag =>
  ⟨fun c => (fun i => swish (cols 0 (by decide) (m (c.tc.loc main_arg0)) i) (cols 5632 (by decide) (m (c.tc.loc main_arg0)) i) : Mat 2048 5632),
   (θ_run _ _ _).mono (fun _ h c => ⟨(h c).1.trans (final m c), (h c).2⟩) (Value.run_blocks m ρ),
   (θ_run _ _ _).mono (fun _ h c => ⟨(h c).1.trans (by
       clear h
       simp only [hag c]
       funext i
       unfold cols swish
       pointwise []
       simp only [logistic_eq]), (h c).2⟩) (Cert.FwdSwishRefIdeal.Value.run m' ρ')⟩

end Cert.FwdSwishIdeal.Rows

/-! ## The sum of the two gated parts -/

namespace Cert.FwdMergeIdeal.Rows

open Cert.FwdMergeIdeal Cert.FwdMergeIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = t.val ∧ win0_1.index t 1 = 0
    ∧ win0_2.index t 0 = t.val ∧ win0_2.index t 1 = 5
    ∧ win0_3.index t 0 = t.val ∧ win0_3.index t 1 = 0
    ∧ win0_4.index t 0 = 0 ∧ win0_4.index t 1 = 0 :=
  (by decide +kernel : ∀ t : Fin grid0.N, _)

/-- The results are written in the same bands. -/
theorem idx_out : ∀ t : Fin cfg0.N, win0_5.index t 0 = t.val ∧ win0_5.index t 1 = 0 :=
  (by decide +kernel : ∀ t : Fin grid0.N, _)

/-- The kernel's result is the sum of the two gated parts. -/
theorem final : (dats m 0 c).arrAt 5 cfg0.N = merge (m (c.tc.loc main_arg0)) (m (c.tc.loc main_arg1)) (cols 10240 (by decide) (m (c.tc.loc main_arg2))) (m (c.tc.loc main_arg3)) (m (c.tc.loc main_arg4)) := by
  refine (dats m 0 c).arrAt_eq_of_covers 5 _ (by decide +kernel) fun t hf y => ?_
  blk_simp
  rw [after0_5]
  frame_out
  unfold k0_pay1 merge cols
  pointwise []
  blk_point [iblk, V, idx t, idx_out t]

/-- The reference runs, keeps its arguments and leaves every counter at zero. -/
theorem frame_reference : Cert.quiescent_FwdMergeRefIdeal := fun m ρ _ =>
  (θ_run _ _ _).mono (fun r h => ⟨fun c => (h c).2, Idealize.ShloMosaic.sem_eq_zero_of_no_sems (by decide) r.2⟩)
    (Cert.FwdMergeRefIdeal.Value.run m ρ)

/-- From equal arguments the kernel and the reference end with equal results. -/
theorem algebraic : Cert.algebraic_FwdMergeIdeal_FwdMergeRefIdeal := fun m ρ m' ρ' _ hag =>
  ⟨fun c => merge (m (c.tc.loc main_arg0)) (m (c.tc.loc main_arg1)) (cols 10240 (by decide) (m (c.tc.loc main_arg2))) (m (c.tc.loc main_arg3)) (m (c.tc.loc main_arg4)),
   (θ_run _ _ _).mono (fun _ h c => ⟨(h c).1.trans (final m c), (h c).2⟩) (Value.run_blocks m ρ),
   (θ_run _ _ _).mono (fun _ h c => ⟨(h c).1.trans (by
       clear h
       simp only [hag c]
       funext i
       unfold merge cols
       pointwise []
       simp only [logistic_eq]), (h c).2⟩) (Cert.FwdMergeRefIdeal.Value.run m' ρ')⟩

end Cert.FwdMergeIdeal.Rows

end
-- ==== Proof.PostFwd.lean ====
module

public import proofs.«01_k».proof.Defs
public import proofs.«01_k».proof.Proof.Gen.FwdPostIdeal.Value
public import proofs.«01_k».proof.Proof.Gen.FwdPostRefIdeal.Run
public import proofs.«01_k».proof.Proof.RowsMath
public import Idealize.ShloMosaic.Lib.Pipeline.ReadBack

@[expose] public section

set_option maxRecDepth 16384
set_option maxHeartbeats 4000000

noncomputable section

/-! # The forward call between the retention and the merge -/

/-! ## The gated retention and the output of the state space part -/

namespace Cert.FwdPostIdeal.Rows

open Cert.FwdPostIdeal Cert.FwdPostIdeal.Gen Idealize.ShloMosaic Idealize.ShloMosaic.TcCoe Idealize.SL.Sem Cert.Prod Cert.Rows

variable (m : (ℓ : Loc nD τ sig) → Buf (Elt Ideal) ℓ) (c : Dev nD)

/-- Point `t` works on its own band of rows of each array. -/
theorem idx : ∀ t : Fin cfg0.N, win0_0.index t 0 = t.val ∧ win0_0.index t 1 = 0
    ∧ win0_1.index t 0 = t.val ∧ win0_1.index t 1 = 1
    ∧ win0_2.index t 0 = t.val ∧ win0_2.index t 1 = 2
    ∧ win0_3.index t 0 = t.val ∧ win0_3.index t 1 = 3
    ∧ win0_4.index t 0 = t.val ∧ win0_4.index t 1 = 2
    ∧ win0_5.index t 0 = t.val ∧ win0_5.index t 1 = 4
    ∧ win0_6.index t 0 = t.val ∧ win0_6.index t 1 = 0
    ∧ win0_7.index t 0 = t.val ∧ win0_7.index t 1 = 3
    ∧ win0_8.index t 0 = 0 ∧ win0_8.index t 1 = 0 :=
  (by decide +kernel : ∀ t : Fin grid0.N, _)

/-- The results are written in the same bands. -/
theorem idx_out : ∀ t : Fin cfg0.N, win0_9.index t 0 = t.val ∧ win0_9.index t 1 = 0 ∧ win0_10.index t 0 = t.val ∧ win0_10.index t 1 = 0 ∧ win0_11.index t 0 = t.val ∧ win0_11.index t 1 = 0 :=
  (by decide +kernel : ∀ t : Fin grid0.N, _)

/-- The kernel's first result is the gated retention. -/
theorem final_ret : (dats m 0 c).arrAt 9 cfg0.N = gated (m (c.tc.loc main_arg0)) (cols 4096 (by decide) (m (c.tc.loc main_arg1))) (cols 8192 (by decide) (m (c.tc.loc main_arg1))) := by
  refine (dats m 0 c).arrAt_eq_of_covers 9 _ (by decide +kernel) fun t hf y => ?_
  blk_simp
  rw [after0_9]
  frame_out
  unfold k0_pay5 k0_pay1 k0_pay2 k0_pay3 k0_pay4 gated headNorm cols
  pointwise []
  have hy : (y 1).val < 2048 := (y 1).isLt
  split_ifs <;> first | contradiction | blk_point [iblk, V, idx t, idx_out t]

/-- The kernel's second result is the output of the state space part. -/
theorem final_scan : (dats m 0 c).arrAt 10 cfg0.N = scanOut (m (c.tc.loc main_arg2)) (cols 6144 (by decide) (m (c.tc.loc main_arg1))) (m (c.tc.loc main_arg3)) := by
  refine (dats m 0 c).arrAt_eq_of_covers 10 _ (by decide +kernel) fun t hf y => ?_
  blk_simp
  rw [after0_10]
  frame_out
  unfold k0_pay6 scanOut gelu geluArg cols
  pointwise []
  blk_point [iblk, V, idx t, idx_out t]

/-- The kernel's third result, the same in half the width, is that output. -/
theorem final_scan_bf16 : (dats m 0 c).arrAt 11 cfg0.N = scanOut (m (c.tc.loc main_arg2)) (cols 6144 (by decide) (m (c.tc.loc main_arg1))) (m (c.tc.loc main_arg3)) := by
  refine (dats m 0 c).arrAt_eq_of_covers 11 _ (by decide +kernel) fun t hf y => ?_
  blk_simp
  rw [after0_11]
  frame_out
  unfold k0_pay7 k0_pay6 scanOut gelu geluArg cols
  pointwise []
  blk_point [iblk, V, idx t, idx_out t]

/-- The reference runs, keeps its arguments and leaves every counter at zero. -/
theorem frame_reference : Cert.quiescent_FwdPostRefIdeal := fun m ρ _ =>
  (θ_run _ _ _).mono (fun r h => ⟨fun c => (h c).2.2.2, Idealize.ShloMosaic.sem_eq_zero_of_no_sems (by decide) r.2⟩)
    (Cert.FwdPostRefIdeal.Value.run m ρ)

/-- From equal arguments the kernel and the reference end with equal results. -/
theorem algebraic : Cert.algebraic_FwdPostIdeal_FwdPostRefIdeal := fun m ρ m' ρ' _ hag =>
  ⟨fun c => gated (m (c.tc.loc main_arg0)) (cols 4096 (by decide) (m (c.tc.loc main_arg1))) (cols 8192 (by decide) (m (c.tc.loc main_arg1))),
   fun c => scanOut (m (c.tc.loc main_arg2)) (cols 6144 (by decide) (m (c.tc.loc main_arg1))) (m (c.tc.loc main_arg3)),
   fun c => scanOut (m (c.tc.loc main_arg2)) (cols 6144 (by decide) (m (c.tc.loc main_arg1))) (m (c.tc.loc main_arg3)),
   (θ_run _ _ _).mono (fun _ h c => ⟨(h c).1.trans (final_ret m c), (h c).2.1.trans (final_scan m c), (h c).2.2.1.trans (final_scan_bf16 m c), (h c).2.2.2⟩) (Value.run_blocks m ρ),
   (θ_run _ _ _).mono (fun _ h c => ⟨(h c).1.trans (by
       clear h
       simp only [hag c]
       funext i
       unfold gated headNorm cols
       pointwise []
       simp only [logistic_eq]),
     (h c).2.1.trans (by
       clear h
       simp only [hag c]
       funext i
       unfold scanOut gelu geluArg cols
       pointwise []
       simp only [mul_assoc]),
     (h c).2.2.1.trans (by
       clear h
       simp only [hag c]
       funext i
       unfold scanOut gelu geluArg cols
       pointwise []
       simp only [mul_assoc]), (h c).2.2.2⟩) (Cert.FwdPostRefIdeal.Value.run m' ρ')⟩

end Cert.FwdPostIdeal.Rows

end
-- ==== Proof.RetFwd.lean ====
module

public import proofs.«01_k».proof.Defs
public import proofs.«01_k».proof.Proof.RetArr
public import proofs.«01_k».proof.Proof.Gen.FwdRetIdeal.Value
public import proofs.«01_k».proof.Proof.Gen.FwdRetRefIdeal.Run
public import proofs.«01_k».proof.Proof.RowsMath

@[expose] public section

set_option maxRecDepth 16384

noncomputable section

/-! # The retention's forward call: the kernel's result is the reference's -/

namespace Cert.FwdRetIdeal.Rows

open Cert.FwdRetIdeal Cert.FwdRetIdeal.Gen Idealize.ShloMosaic Idealize.ShloMosaic.TcCoe Idealize.SL.Sem Cert.Prod Cert.Rows
open Cert.Ret (lag dec)
open Cert.KernelIdeal.Ret (row colQ colV headOf sc dk)

/-- The retention: each position gathers the values of all positions, weighted by score and decay. -/
def ret (q k : S2048x1024.Idx → EReal) (p : S2048x12288.Idx → EReal) (g : S2x4.Idx → EReal) : S2048x2048.Idx → EReal := fun j =>
  ∑ m : Fin 2048, (sc q k ((j 1).val / 512) (j 0) m * dk g ((j 1).val / 512) (j 0) m) * p (ix2 m (colV ((j 1).val / 512) ⟨(j 1).val % 512, Nat.mod_lt _ (by decide)⟩))

/-- The distance of a row of the `n`-th tile and a position, as the kernel's integers compute it. -/
theorem lag_int (n r c : ℕ) (hn : n < 4) (hr : r < 512) (hc : c < 2048) :
    (((IntOp.subi (IntOp.addi (Scalar.muli (BitVec.ofNat 32 n) 512#32) (BitVec.ofNat 32 r)) (BitVec.ofNat 32 c)).toInt : ℝ) : EReal)
      = lag (512 * n + r) c := by
  have e : (IntOp.subi (IntOp.addi (Scalar.muli (BitVec.ofNat 32 n) 512#32) (BitVec.ofNat 32 r)) (BitVec.ofNat 32 c)).toInt
      = (512 * n + r : ℤ) - c := by
    show ((BitVec.ofNat 32 n * 512#32 + BitVec.ofNat 32 r) - BitVec.ofNat 32 c).toInt = _
    have e1 : (BitVec.ofNat 32 n * 512#32 + BitVec.ofNat 32 r).toInt = (512 * n + r : ℤ) := by
      rw [BitVec.toInt_eq_toNat_of_lt]
      · simp only [BitVec.toNat_add, BitVec.toNat_mul, BitVec.toNat_ofNat]; omega
      · simp only [BitVec.toNat_add, BitVec.toNat_mul, BitVec.toNat_ofNat]; omega
    have e2 : (BitVec.ofNat 32 c).toInt = (c : ℤ) := by
      rw [BitVec.toInt_eq_toNat_of_lt]
      · simp only [BitVec.toNat_ofNat]; omega
      · simp only [BitVec.toNat_ofNat]; omega
    rw [BitVec.toInt_sub, e1, e2, Int.bmod_eq_of_le (by omega) (by omega)]
  rw [e]
  unfold lag
  push_cast
  rfl

/-- The choice between the two decays by the sign of the distance. -/
theorem choose (n m : ℕ) (a b : EReal) :
    Ideal.exp (if 0 ≤ lag n m then a * lag n m else (0 - b) * lag n m) = dec a b n m := by
  simp only [Cert.Ret.lag_nonneg, zero_sub, EReal.neg_mul]
  rfl

/-- The distance of two positions, as the reference computes it. -/
theorem lag_sub (n m : ℕ) (hn : n < 2048) (hm : m < 2048) :
    (((BitVec.ofNat 32 n).toInt : ℝ) : EReal) - (((BitVec.ofNat 32 m).toInt : ℝ) : EReal) = lag n m := by
  have e : ∀ c : ℕ, c < 2048 → (BitVec.ofNat 32 c).toInt = (c : ℤ) := fun c hc => by
    rw [BitVec.toInt_eq_toNat_of_lt]
    · simp only [BitVec.toNat_ofNat]; omega
    · simp only [BitVec.toNat_ofNat]; omega
  rw [e n hn, e m hm, ← EReal.coe_sub]
  rfl

/-- What a grid point writes. -/
theorem pay (i : grid0.Coords) (q : Vec Ideal S512x256 .bf16) (k : Vec Ideal S2048x256 .bf16) (a b : Vec Ideal S1x1x1 .f32)
    (v : Vec Ideal S2048x512 .f32) (r d : Fin 512) :
    k0_pay1 i q k a b v (ix2 r d) = ∑ c : Fin 2048, ((∑ e : Fin 256, q (ix2 r e) * k (ix2 c e))
      * dec (a (ix3 0 0 0)) (b (ix3 0 0 0)) (512 * (i 1).val + r.val) c.val) * v (ix2 c d) := by
  unfold k0_pay1
  pointwise [dot_S512x2048_S2048x512_S512x512_1_0_0_1_n_n, dot_S512x256_S2048x256_S512x2048_1_1_0_0_n_n]
  refine Finset.sum_congr rfl fun c _ => ?_
  refine congrArg (· * v (ix2 c d)) (congrArg (_ * ·) ?_)
  rw [← choose, ← lag_int (i 1).val r.val c.val (i 1).isLt r.isLt c.isLt]
  rfl

variable (m : (ℓ : Loc nD τ sig) → Buf (Elt Ideal) ℓ) (c : Dev nD)

/-- The decays' logarithms, laid out over the lanes. -/
theorem V_lg : V m c main_v2 = fun i : S4x2x128.Idx => m (c.tc.loc main_arg3) (ix2 (i 1) (i 0)) := by
  unfold V hostOps0
  after_results_simp
  funext i
  pointwise []

/-- Where point `t` finds its blocks: tile `t % 4` of the rows and head `t / 4`. -/
theorem idx : ∀ t : Fin cfg0.N, (win0_0.index t 0 = t.val % 4 ∧ win0_0.index t 1 = t.val / 4)
    ∧ (win0_1.index t 0 = 0 ∧ win0_1.index t 1 = t.val / 4) ∧ (win0_2.index t 0 = 0 ∧ win0_2.index t 1 = 4 + t.val / 4)
    ∧ (win0_3.index t 0 = t.val / 4 ∧ win0_3.index t 1 = 0 ∧ win0_3.index t 2 = 0)
    ∧ (win0_4.index t 0 = t.val % 4 ∧ win0_4.index t 1 = t.val / 4) ∧ ((grid0.coords t) 1).val = t.val % 4 :=
  (by decide +kernel : ∀ t : Fin grid0.N, _)

/-- The kernel's run leaves the retention. -/
theorem final : (dats m 0 c).arrAt 4 cfg0.N = ret (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  have ht : t.val < 16 := N_0 ▸ t.isLt
  have hy0 : (y 0 : ℕ) < 512 := (y 0).isLt
  have hy1 : (y 1 : ℕ) < 512 := (y 1).isLt
  obtain ⟨i0, i1, i2, i3, i4, i5⟩ := idx t
  have e : ((View.whole main_v3).slice (win0_4.rect t)).emb y = (ix2 (row (t.val % 4) (y 0)) (⟨512 * (t.val / 4) + (y 1).val, by omega⟩ : Fin 2048) : S2048x2048.Idx) := by
    refine funext fun a => Fin.ext ?_
    match a with
    | ⟨0, _⟩ => show win0_4.index t 0 * 512 + 1 * (y 0).val = (512 * (t.val % 4) + (y 0).val) % 2048; rw [i4.1]; omega
    | ⟨1, _⟩ => show win0_4.index t 1 * 512 + 1 * (y 1).val = 512 * (t.val / 4) + (y 1).val; rw [i4.2]; omega
  refine Eq.trans ?_ (congrArg (ret (m (c.tc.loc main_arg0)) (m (c.tc.loc main_arg1)) (m (c.tc.loc main_arg2)) (m (c.tc.loc main_arg3))) e.symm)
  refine ((congrArg (k0_pay1 (grid0.coords t) (iblk m c 0 t) (iblk m c 1 t) (View.ld (iblk m c 3 t) r0_2) (View.ld (iblk m c 3 t) r0_3) (iblk m c 2 t))
    (ix2_self y).symm).trans (pay _ _ _ _ _ _ (y 0) (y 1))).trans ?_
  unfold ret
  have hh : (512 * (t.val / 4) + (y 1).val) / 512 = t.val / 4 := by omega
  have hm : (512 * (t.val / 4) + (y 1).val) % 512 = (y 1).val := by omega
  refine Finset.sum_congr rfl fun n _ => ?_
  have hn := n.isLt
  show _ = sc _ _ ((512 * (t.val / 4) + (y 1).val) / 512) (row (t.val % 4) (y 0)) n * dk _ ((512 * (t.val / 4) + (y 1).val) / 512) (row (t.val % 4) (y 0)) n
    * m (c.tc.loc main_arg2) (ix2 n (colV ((512 * (t.val / 4) + (y 1).val) / 512) ⟨(512 * (t.val / 4) + (y 1).val) % 512, _⟩))
  simp only [hh, hm]
  refine congrArg₂ (· * ·) (congrArg₂ (· * ·) (Finset.sum_congr rfl fun d _ => congrArg₂ (· * ·) ?_ ?_) ?_) ?_
  · have hd := d.isLt
    refine congrArg (m (c.tc.loc main_arg0)) (funext fun a => Fin.ext ?_)
    match a with
    | ⟨0, _⟩ => show win0_0.index t 0 * 512 + 1 * (y 0).val = (512 * (t.val % 4) + (y 0).val) % 2048; rw [i0.1]; omega
    | ⟨1, _⟩ => show win0_0.index t 1 * 256 + 1 * d.val = (256 * (t.val / 4) + d.val) % 1024; rw [i0.2]; omega
  · have hd := d.isLt
    refine congrArg (m (c.tc.loc main_arg1)) (funext fun a => Fin.ext ?_)
    match a with
    | ⟨0, _⟩ => show win0_1.index t 0 * 2048 + 1 * n.val = n.val; rw [i1.1]; omega
    | ⟨1, _⟩ => show win0_1.index t 1 * 256 + 1 * d.val = (256 * (t.val / 4) + d.val) % 1024; rw [i1.2]; omega
  · have er : 512 * (t.val % 4) + (y 0).val = (row (t.val % 4) (y 0)).val := by
      show _ = (512 * (t.val % 4) + (y 0).val) % 2048; omega
    have eg : ∀ (w : Fin 2) (x : Vec Ideal S1x1x1 .f32), (x (ix3 0 0 0) = iblk m c 3 t (ix3 (0 : Fin 1) w (0 : Fin 128)) → x (ix3 0 0 0) = m (c.tc.loc main_arg3) (ix2 w (headOf (t.val / 4)))) := fun w x hx => by
      refine hx.trans ?_
      unfold iblk
      rw [View.read_apply]
      show V m c main_v2 _ = _
      rw [V_lg]
      refine congrArg (m (c.tc.loc main_arg3)) (funext fun a => Fin.ext ?_)
      match a with
      | ⟨0, _⟩ => show win0_3.index t 1 * 2 + 1 * w.val = w.val; rw [i3.2.1]; omega
      | ⟨1, _⟩ => show win0_3.index t 0 * 1 + 1 * 0 = t.val / 4 % 4; rw [i3.1]; omega
    rw [eg 0 (View.ld (iblk m c 3 t) r0_2) (by pointwise []), eg 1 (View.ld (iblk m c 3 t) r0_3) (by pointwise []), i5, er]
    rfl
  · refine congrArg (m (c.tc.loc main_arg2)) (funext fun a => Fin.ext ?_)
    match a with
    | ⟨0, _⟩ => show win0_2.index t 0 * 2048 + 1 * n.val = n.val; rw [i2.1]; omega
    | ⟨1, _⟩ => show win0_2.index t 1 * 512 + 1 * (y 1).val = 2048 + (512 * (t.val / 4) + (y 1).val) % 2048; rw [i2.2]; omega

/-- The reference runs, keeps its arguments and leaves every counter at zero. -/
theorem frame_reference : Cert.quiescent_FwdRetRefIdeal := fun m ρ _ =>
  (θ_run _ _ _).mono (fun r h => ⟨fun c => (h c).2, Idealize.ShloMosaic.sem_eq_zero_of_no_sems (by decide) r.2⟩)
    (Cert.FwdRetRefIdeal.Value.run m ρ)

/-- The reference computes the retention. -/
theorem run_reference (m : (ℓ : Loc Cert.FwdRetRefIdeal.nD Cert.FwdRetRefIdeal.τ Cert.FwdRetRefIdeal.sig) → Buf (Elt Ideal) ℓ) (ρ : Dev Cert.FwdRetRefIdeal.nD → PrngReg) :
    θ_run (Cert.FwdRetRefIdeal.defs (F := Ideal)) (onTc (τ := Cert.FwdRetRefIdeal.τ) (Cert.FwdRetRefIdeal.main (F := Ideal))) ⟨m, fun _ => 0, ρ⟩ fun r => ∀ c : Dev Cert.FwdRetRefIdeal.nD,
      r.2.mem ((c.tc : Thread Cert.FwdRetRefIdeal.nD Cert.FwdRetRefIdeal.τ).loc Cert.FwdRetRefIdeal.main_v35)
        = ret (m (c.tc.loc Cert.FwdRetRefIdeal.main_arg0)) (m (c.tc.loc Cert.FwdRetRefIdeal.main_arg1)) (m (c.tc.loc Cert.FwdRetRefIdeal.main_arg2)) (m (c.tc.loc Cert.FwdRetRefIdeal.main_arg3))
      ∧ r.2.mem ((c.tc : Thread Cert.FwdRetRefIdeal.nD Cert.FwdRetRefIdeal.τ).loc Cert.FwdRetRefIdeal.main_arg0) = m ((c.tc : Thread Cert.FwdRetRefIdeal.nD Cert.FwdRetRefIdeal.τ).loc Cert.FwdRetRefIdeal.main_arg0)
      ∧ r.2.mem ((c.tc : Thread Cert.FwdRetRefIdeal.nD Cert.FwdRetRefIdeal.τ).loc Cert.FwdRetRefIdeal.main_arg1) = m ((c.tc : Thread Cert.FwdRetRefIdeal.nD Cert.FwdRetRefIdeal.τ).loc Cert.FwdRetRefIdeal.main_arg1)
      ∧ r.2.mem ((c.tc : Thread Cert.FwdRetRefIdeal.nD Cert.FwdRetRefIdeal.τ).loc Cert.FwdRetRefIdeal.main_arg2) = m ((c.tc : Thread Cert.FwdRetRefIdeal.nD Cert.FwdRetRefIdeal.τ).loc Cert.FwdRetRefIdeal.main_arg2)
      ∧ r.2.mem ((c.tc : Thread Cert.FwdRetRefIdeal.nD Cert.FwdRetRefIdeal.τ).loc Cert.FwdRetRefIdeal.main_arg3) = m ((c.tc : Thread Cert.FwdRetRefIdeal.nD Cert.FwdRetRefIdeal.τ).loc Cert.FwdRetRefIdeal.main_arg3) :=
  (θ_run _ _ _).mono (fun _ h c => ⟨(h c).1.trans (by
    funext i
    have h0 : (i 0 : ℕ) < 2048 := (i 0).isLt
    have h1 : (i 1 : ℕ) < 2048 := (i 1).isLt
    unfold ret
    pointwise [Cert.FwdRetRefIdeal.dot_S2048x4x512_S4x2048x2048_S4x512x2048_0_2_2_1_1_0, Cert.FwdRetRefIdeal.dot_S2048x4x256_S2048x4x256_S4x2048x2048_2_2_0_0_1_1]
    refine Finset.sum_congr rfl fun x _ => ?_
    refine (mul_comm _ _).trans (congrArg₂ (· * ·) (congrArg₂ (· * ·) (Finset.sum_congr rfl fun d _ => congrArg₂ (· * ·) ?_ ?_) ?_) ?_)
    · have hd := d.isLt
      refine congrArg (fun z => m (c.tc.loc Cert.FwdRetRefIdeal.main_arg0) (ix2 (i 0) z)) (Fin.ext ?_)
      show (i 1).val / 512 * 256 + d.val = (256 * ((i 1).val / 512) + d.val) % 1024
      omega
    · have hd := d.isLt
      refine congrArg (fun z => m (c.tc.loc Cert.FwdRetRefIdeal.main_arg1) (ix2 x z)) (Fin.ext ?_)
      show (i 1).val / 512 * 256 + d.val = (256 * ((i 1).val / 512) + d.val) % 1024
      omega
    · have eh : ∀ h : (i 1).val / 512 < 4, (⟨(i 1).val / 512, h⟩ : Fin 4) = headOf ((i 1).val / 512) := fun h => Fin.ext (by
        show (i 1).val / 512 = (i 1).val / 512 % 4; omega)
      have el := lag_sub (i 0).val x.val h0 x.isLt
      rw [eh]
      refine Eq.trans ?_ (choose (i 0).val x.val (m (c.tc.loc Cert.FwdRetRefIdeal.main_arg3) (ix2 0 (headOf ((i 1).val / 512)))) (m (c.tc.loc Cert.FwdRetRefIdeal.main_arg3) (ix2 1 (headOf ((i 1).val / 512)))))
      rw [← el]
      simp only [zero_sub, EReal.neg_mul, mul_neg]
      rfl
    · refine congrArg (fun z => m (c.tc.loc Cert.FwdRetRefIdeal.main_arg2) (ix2 x z)) (Fin.ext ?_)
      show 2048 + (i 1).val = 2048 + (512 * ((i 1).val / 512) + (i 1).val % 512) % 2048
      omega), (h c).2⟩) (Cert.FwdRetRefIdeal.Value.run m ρ)

/-- From equal arguments the kernel and the reference end with equal results. -/
theorem algebraic : Cert.algebraic_FwdRetIdeal_FwdRetRefIdeal := fun m ρ m' ρ' _ hag =>
  ⟨fun c => ret (m (c.tc.loc main_arg0)) (m (c.tc.loc main_arg1)) (m (c.tc.loc main_arg2)) (m (c.tc.loc main_arg3)),
   (θ_run _ _ _).mono (fun _ h c => ⟨(h c).1.trans (final m c), (h c).2⟩) (Value.run_blocks m ρ),
   (θ_run _ _ _).mono (fun _ h c => ⟨(h c).1.trans (by simp only [hag c]), (h c).2⟩) (run_reference m' ρ')⟩

end Cert.FwdRetIdeal.Rows

end
-- ==== Proof.Opt.lean ====
module

public import proofs.«01_k».proof.Defs
public import proofs.«01_k».proof.Proof.Gen.AdamInIdeal.Value
public import proofs.«01_k».proof.Proof.Gen.AdamInRefIdeal.Run
public import proofs.«01_k».proof.Proof.Gen.AdamOutIdeal.Value
public import proofs.«01_k».proof.Proof.Gen.AdamOutRefIdeal.Run
public import proofs.«01_k».proof.Proof.Gen.AdamGuIdeal.Value
public import proofs.«01_k».proof.Proof.Gen.AdamGuRefIdeal.Run
public import proofs.«01_k».proof.Proof.Gen.AdamDownIdeal.Value
public import proofs.«01_k».proof.Proof.Gen.AdamDownRefIdeal.Run
public import proofs.«01_k».proof.Proof.Gen.AdamBIdeal.Value
public import proofs.«01_k».proof.Proof.Gen.AdamBRefIdeal.Run
public import proofs.«01_k».proof.Proof.Gen.AdamCIdeal.Value
public import proofs.«01_k».proof.Proof.Gen.AdamCRefIdeal.Run
public import proofs.«01_k».proof.Proof.Gen.SumSlotsIdeal.Value
public import proofs.«01_k».proof.Proof.Gen.SumSlotsRefIdeal.Run
public import proofs.«01_k».proof.Proof.RowsMath
public import Idealize.ShloMosaic.Lib.Pipeline.ReadBack

@[expose] public section

set_option maxRecDepth 16384

noncomputable section

/-! # The optimiser's calls and the sum over the slots -/

/-! ## The step of `w_in` -/

namespace Cert.AdamInIdeal.Rows

open Cert.AdamInIdeal Cert.AdamInIdeal.Gen Idealize.ShloMosaic Idealize.ShloMosaic.TcCoe Idealize.SL.Sem Cert.Prod Cert.Rows

variable (m : (ℓ : Loc nD τ sig) → Buf (Elt Ideal) ℓ) (c : Dev nD)

/-- Point `t` reads the blocks of the arrays that it writes. -/
theorem idx : ∀ t : Fin cfg0.N, win0_0.index t 0 = win0_5.index t 0 ∧ win0_0.index t 1 = win0_5.index t 1
    ∧ win0_1.index t 0 = win0_5.index t 0 ∧ win0_1.index t 1 = win0_5.index t 1
    ∧ win0_2.index t 0 = win0_5.index t 0 ∧ win0_2.index t 1 = win0_5.index t 1
    ∧ win0_3.index t 0 = win0_5.index t 0 ∧ win0_3.index t 1 = win0_5.index t 1
    ∧ win0_6.index t 0 = win0_5.index t 0 ∧ win0_6.index t 1 = win0_5.index t 1
    ∧ win0_7.index t 0 = win0_5.index t 0 ∧ win0_7.index t 1 = win0_5.index t 1 :=
  (by decide +kernel : ∀ t : Fin grid0.N, _)

/-- The kernel's change of the weight. -/
theorem final_delta : (dats m 0 c).arrAt 5 cfg0.N = adamDelta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  frame_out
  unfold k0_pay3 k0_pay1 k0_pay2 adamDelta adamM adamV
  pointwise []
  blk_point [iblk, V, idx t]

/-- The kernel's new first moment. -/
theorem final_m : (dats m 0 c).arrAt 6 cfg0.N = adamM (m (c.tc.loc main_arg1)) (m (c.tc.loc main_arg2)) := by
  refine (dats m 0 c).arrAt_eq_of_covers 6 _ (by decide +kernel) fun t hf y => ?_
  blk_simp
  rw [after0_6]
  frame_out
  unfold k0_pay1 adamM
  pointwise []
  blk_point [iblk, V, idx t]

/-- The kernel's new second moment. -/
theorem final_v : (dats m 0 c).arrAt 7 cfg0.N = adamV (m (c.tc.loc main_arg1)) (m (c.tc.loc main_arg3)) := by
  refine (dats m 0 c).arrAt_eq_of_covers 7 _ (by decide +kernel) fun t hf y => ?_
  blk_simp
  rw [after0_7]
  frame_out
  unfold k0_pay2 adamV
  pointwise []
  blk_point [iblk, V, idx t]

/-- The reference runs, keeps its arguments and leaves every counter at zero. -/
theorem frame_reference : Cert.quiescent_AdamInRefIdeal := fun m ρ _ =>
  (θ_run _ _ _).mono (fun r h => ⟨fun c => (h c).2.2.2, Idealize.ShloMosaic.sem_eq_zero_of_no_sems (by decide) r.2⟩)
    (Cert.AdamInRefIdeal.Value.run m ρ)

/-- From equal arguments the kernel and the reference end with equal results. -/
theorem algebraic : Cert.algebraic_AdamInIdeal_AdamInRefIdeal := fun m ρ m' ρ' _ hag =>
  ⟨fun c => adamDelta (m (c.tc.loc main_arg0)) (m (c.tc.loc main_arg1)) (m (c.tc.loc main_arg2)) (m (c.tc.loc main_arg3)),
   fun c => adamM (m (c.tc.loc main_arg1)) (m (c.tc.loc main_arg2)),
   fun c => adamV (m (c.tc.loc main_arg1)) (m (c.tc.loc main_arg3)),
   (θ_run _ _ _).mono (fun _ h c => ⟨(h c).1.trans (final_delta m c), (h c).2.1.trans (final_m m c), (h c).2.2.1.trans (final_v m c), (h c).2.2.2⟩) (Value.run_blocks m ρ),
   (θ_run _ _ _).mono (fun _ h c => ⟨(h c).1.trans (by
       clear h
       simp only [hag c]
       funext i
       unfold adamDelta adamM adamV
       pointwise []),
     (h c).2.1.trans (by
       clear h
       simp only [hag c]
       funext i
       unfold adamM
       pointwise []),
     (h c).2.2.1.trans (by
       clear h
       simp only [hag c]
       funext i
       unfold adamV
       pointwise []), (h c).2.2.2⟩) (Cert.AdamInRefIdeal.Value.run m' ρ')⟩

end Cert.AdamInIdeal.Rows

/-! ## The step of `w_out` and of `w_glu` -/

namespace Cert.AdamOutIdeal.Rows

open Cert.AdamOutIdeal Cert.AdamOutIdeal.Gen Idealize.ShloMosaic Idealize.ShloMosaic.TcCoe Idealize.SL.Sem Cert.Prod Cert.Rows

variable (m : (ℓ : Loc nD τ sig) → Buf (Elt Ideal) ℓ) (c : Dev nD)

/-- Point `t` reads the blocks of the arrays that it writes. -/
theorem idx : ∀ t : Fin cfg0.N, win0_0.index t 0 = win0_5.index t 0 ∧ win0_0.index t 1 = win0_5.index t 1
    ∧ win0_1.index t 0 = win0_5.index t 0 ∧ win0_1.index t 1 = win0_5.index t 1
    ∧ win0_2.index t 0 = win0_5.index t 0 ∧ win0_2.index t 1 = win0_5.index t 1
    ∧ win0_3.index t 0 = win0_5.index t 0 ∧ win0_3.index t 1 = win0_5.index t 1
    ∧ win0_6.index t 0 = win0_5.index t 0 ∧ win0_6.index t 1 = win0_5.index t 1
    ∧ win0_7.index t 0 = win0_5.index t 0 ∧ win0_7.index t 1 = win0_5.index t 1 :=
  (by decide +kernel : ∀ t : Fin grid0.N, _)

/-- The kernel's change of the weight. -/
theorem final_delta : (dats m 0 c).arrAt 5 cfg0.N = adamDelta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  frame_out
  unfold k0_pay3 k0_pay1 k0_pay2 adamDelta adamM adamV
  pointwise []
  blk_point [iblk, V, idx t]

/-- The kernel's new first moment. -/
theorem final_m : (dats m 0 c).arrAt 6 cfg0.N = adamM (m (c.tc.loc main_arg1)) (m (c.tc.loc main_arg2)) := by
  refine (dats m 0 c).arrAt_eq_of_covers 6 _ (by decide +kernel) fun t hf y => ?_
  blk_simp
  rw [after0_6]
  frame_out
  unfold k0_pay1 adamM
  pointwise []
  blk_point [iblk, V, idx t]

/-- The kernel's new second moment. -/
theorem final_v : (dats m 0 c).arrAt 7 cfg0.N = adamV (m (c.tc.loc main_arg1)) (m (c.tc.loc main_arg3)) := by
  refine (dats m 0 c).arrAt_eq_of_covers 7 _ (by decide +kernel) fun t hf y => ?_
  blk_simp
  rw [after0_7]
  frame_out
  unfold k0_pay2 adamV
  pointwise []
  blk_point [iblk, V, idx t]

/-- The reference runs, keeps its arguments and leaves every counter at zero. -/
theorem frame_reference : Cert.quiescent_AdamOutRefIdeal := fun m ρ _ =>
  (θ_run _ _ _).mono (fun r h => ⟨fun c => (h c).2.2.2, Idealize.ShloMosaic.sem_eq_zero_of_no_sems (by decide) r.2⟩)
    (Cert.AdamOutRefIdeal.Value.run m ρ)

/-- From equal arguments the kernel and the reference end with equal results. -/
theorem algebraic : Cert.algebraic_AdamOutIdeal_AdamOutRefIdeal := fun m ρ m' ρ' _ hag =>
  ⟨fun c => adamDelta (m (c.tc.loc main_arg0)) (m (c.tc.loc main_arg1)) (m (c.tc.loc main_arg2)) (m (c.tc.loc main_arg3)),
   fun c => adamM (m (c.tc.loc main_arg1)) (m (c.tc.loc main_arg2)),
   fun c => adamV (m (c.tc.loc main_arg1)) (m (c.tc.loc main_arg3)),
   (θ_run _ _ _).mono (fun _ h c => ⟨(h c).1.trans (final_delta m c), (h c).2.1.trans (final_m m c), (h c).2.2.1.trans (final_v m c), (h c).2.2.2⟩) (Value.run_blocks m ρ),
   (θ_run _ _ _).mono (fun _ h c => ⟨(h c).1.trans (by
       clear h
       simp only [hag c]
       funext i
       unfold adamDelta adamM adamV
       pointwise []),
     (h c).2.1.trans (by
       clear h
       simp only [hag c]
       funext i
       unfold adamM
       pointwise []),
     (h c).2.2.1.trans (by
       clear h
       simp only [hag c]
       funext i
       unfold adamV
       pointwise []), (h c).2.2.2⟩) (Cert.AdamOutRefIdeal.Value.run m' ρ')⟩

end Cert.AdamOutIdeal.Rows

/-! ## The step of `w_gate` and of `w_up` -/

namespace Cert.AdamGuIdeal.Rows

open Cert.AdamGuIdeal Cert.AdamGuIdeal.Gen Idealize.ShloMosaic Idealize.ShloMosaic.TcCoe Idealize.SL.Sem Cert.Prod Cert.Rows

variable (m : (ℓ : Loc nD τ sig) → Buf (Elt Ideal) ℓ) (c : Dev nD)

/-- Point `t` reads the blocks of the arrays that it writes. -/
theorem idx : ∀ t : Fin cfg0.N, win0_0.index t 0 = win0_5.index t 0 ∧ win0_0.index t 1 = win0_5.index t 1
    ∧ win0_1.index t 0 = win0_5.index t 0 ∧ win0_1.index t 1 = win0_5.index t 1
    ∧ win0_2.index t 0 = win0_5.index t 0 ∧ win0_2.index t 1 = win0_5.index t 1
    ∧ win0_3.index t 0 = win0_5.index t 0 ∧ win0_3.index t 1 = win0_5.index t 1
    ∧ win0_6.index t 0 = win0_5.index t 0 ∧ win0_6.index t 1 = win0_5.index t 1
    ∧ win0_7.index t 0 = win0_5.index t 0 ∧ win0_7.index t 1 = win0_5.index t 1 :=
  (by decide +kernel : ∀ t : Fin grid0.N, _)

/-- The kernel's change of the weight. -/
theorem final_delta : (dats m 0 c).arrAt 5 cfg0.N = adamDelta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  frame_out
  unfold k0_pay3 k0_pay1 k0_pay2 adamDelta adamM adamV
  pointwise []
  blk_point [iblk, V, idx t]

/-- The kernel's new first moment. -/
theorem final_m : (dats m 0 c).arrAt 6 cfg0.N = adamM (m (c.tc.loc main_arg1)) (m (c.tc.loc main_arg2)) := by
  refine (dats m 0 c).arrAt_eq_of_covers 6 _ (by decide +kernel) fun t hf y => ?_
  blk_simp
  rw [after0_6]
  frame_out
  unfold k0_pay1 adamM
  pointwise []
  blk_point [iblk, V, idx t]

/-- The kernel's new second moment. -/
theorem final_v : (dats m 0 c).arrAt 7 cfg0.N = adamV (m (c.tc.loc main_arg1)) (m (c.tc.loc main_arg3)) := by
  refine (dats m 0 c).arrAt_eq_of_covers 7 _ (by decide +kernel) fun t hf y => ?_
  blk_simp
  rw [after0_7]
  frame_out
  unfold k0_pay2 adamV
  pointwise []
  blk_point [iblk, V, idx t]

/-- The reference runs, keeps its arguments and leaves every counter at zero. -/
theorem frame_reference : Cert.quiescent_AdamGuRefIdeal := fun m ρ _ =>
  (θ_run _ _ _).mono (fun r h => ⟨fun c => (h c).2.2.2, Idealize.ShloMosaic.sem_eq_zero_of_no_sems (by decide) r.2⟩)
    (Cert.AdamGuRefIdeal.Value.run m ρ)

/-- From equal arguments the kernel and the reference end with equal results. -/
theorem algebraic : Cert.algebraic_AdamGuIdeal_AdamGuRefIdeal := fun m ρ m' ρ' _ hag =>
  ⟨fun c => adamDelta (m (c.tc.loc main_arg0)) (m (c.tc.loc main_arg1)) (m (c.tc.loc main_arg2)) (m (c.tc.loc main_arg3)),
   fun c => adamM (m (c.tc.loc main_arg1)) (m (c.tc.loc main_arg2)),
   fun c => adamV (m (c.tc.loc main_arg1)) (m (c.tc.loc main_arg3)),
   (θ_run _ _ _).mono (fun _ h c => ⟨(h c).1.trans (final_delta m c), (h c).2.1.trans (final_m m c), (h c).2.2.1.trans (final_v m c), (h c).2.2.2⟩) (Value.run_blocks m ρ),
   (θ_run _ _ _).mono (fun _ h c => ⟨(h c).1.trans (by
       clear h
       simp only [hag c]
       funext i
       unfold adamDelta adamM adamV
       pointwise []),
     (h c).2.1.trans (by
       clear h
       simp only [hag c]
       funext i
       unfold adamM
       pointwise []),
     (h c).2.2.1.trans (by
       clear h
       simp only [hag c]
       funext i
       unfold adamV
       pointwise []), (h c).2.2.2⟩) (Cert.AdamGuRefIdeal.Value.run m' ρ')⟩

end Cert.AdamGuIdeal.Rows

/-! ## The step of `w_down` -/

namespace Cert.AdamDownIdeal.Rows

open Cert.AdamDownIdeal Cert.AdamDownIdeal.Gen Idealize.ShloMosaic Idealize.ShloMosaic.TcCoe Idealize.SL.Sem Cert.Prod Cert.Rows

variable (m : (ℓ : Loc nD τ sig) → Buf (Elt Ideal) ℓ) (c : Dev nD)

/-- Point `t` reads the blocks of the arrays that it writes. -/
theorem idx : ∀ t : Fin cfg0.N, win0_0.index t 0 = win0_5.index t 0 ∧ win0_0.index t 1 = win0_5.index t 1
    ∧ win0_1.index t 0 = win0_5.index t 0 ∧ win0_1.index t 1 = win0_5.index t 1
    ∧ win0_2.index t 0 = win0_5.index t 0 ∧ win0_2.index t 1 = win0_5.index t 1
    ∧ win0_3.index t 0 = win0_5.index t 0 ∧ win0_3.index t 1 = win0_5.index t 1
    ∧ win0_6.index t 0 = win0_5.index t 0 ∧ win0_6.index t 1 = win0_5.index t 1
    ∧ win0_7.index t 0 = win0_5.index t 0 ∧ win0_7.index t 1 = win0_5.index t 1 :=
  (by decide +kernel : ∀ t : Fin grid0.N, _)

/-- The kernel's change of the weight. -/
theorem final_delta : (dats m 0 c).arrAt 5 cfg0.N = adamDelta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  frame_out
  unfold k0_pay3 k0_pay1 k0_pay2 adamDelta adamM adamV
  pointwise []
  blk_point [iblk, V, idx t]

/-- The kernel's new first moment. -/
theorem final_m : (dats m 0 c).arrAt 6 cfg0.N = adamM (m (c.tc.loc main_arg1)) (m (c.tc.loc main_arg2)) := by
  refine (dats m 0 c).arrAt_eq_of_covers 6 _ (by decide +kernel) fun t hf y => ?_
  blk_simp
  rw [after0_6]
  frame_out
  unfold k0_pay1 adamM
  pointwise []
  blk_point [iblk, V, idx t]

/-- The kernel's new second moment. -/
theorem final_v : (dats m 0 c).arrAt 7 cfg0.N = adamV (m (c.tc.loc main_arg1)) (m (c.tc.loc main_arg3)) := by
  refine (dats m 0 c).arrAt_eq_of_covers 7 _ (by decide +kernel) fun t hf y => ?_
  blk_simp
  rw [after0_7]
  frame_out
  unfold k0_pay2 adamV
  pointwise []
  blk_point [iblk, V, idx t]

/-- The reference runs, keeps its arguments and leaves every counter at zero. -/
theorem frame_reference : Cert.quiescent_AdamDownRefIdeal := fun m ρ _ =>
  (θ_run _ _ _).mono (fun r h => ⟨fun c => (h c).2.2.2, Idealize.ShloMosaic.sem_eq_zero_of_no_sems (by decide) r.2⟩)
    (Cert.AdamDownRefIdeal.Value.run m ρ)

/-- From equal arguments the kernel and the reference end with equal results. -/
theorem algebraic : Cert.algebraic_AdamDownIdeal_AdamDownRefIdeal := fun m ρ m' ρ' _ hag =>
  ⟨fun c => adamDelta (m (c.tc.loc main_arg0)) (m (c.tc.loc main_arg1)) (m (c.tc.loc main_arg2)) (m (c.tc.loc main_arg3)),
   fun c => adamM (m (c.tc.loc main_arg1)) (m (c.tc.loc main_arg2)),
   fun c => adamV (m (c.tc.loc main_arg1)) (m (c.tc.loc main_arg3)),
   (θ_run _ _ _).mono (fun _ h c => ⟨(h c).1.trans (final_delta m c), (h c).2.1.trans (final_m m c), (h c).2.2.1.trans (final_v m c), (h c).2.2.2⟩) (Value.run_blocks m ρ),
   (θ_run _ _ _).mono (fun _ h c => ⟨(h c).1.trans (by
       clear h
       simp only [hag c]
       funext i
       unfold adamDelta adamM adamV
       pointwise []),
     (h c).2.1.trans (by
       clear h
       simp only [hag c]
       funext i
       unfold adamM
       pointwise []),
     (h c).2.2.1.trans (by
       clear h
       simp only [hag c]
       funext i
       unfold adamV
       pointwise []), (h c).2.2.2⟩) (Cert.AdamDownRefIdeal.Value.run m' ρ')⟩

end Cert.AdamDownIdeal.Rows

/-! ## The step of the arrays `B` -/

namespace Cert.AdamBIdeal.Rows

open Cert.AdamBIdeal Cert.AdamBIdeal.Gen Idealize.ShloMosaic Idealize.ShloMosaic.TcCoe Idealize.SL.Sem Cert.Prod Cert.Rows

variable (m : (ℓ : Loc nD τ sig) → Buf (Elt Ideal) ℓ) (c : Dev nD)

/-- Point `t` reads the blocks of the arrays that it writes. -/
theorem idx : ∀ t : Fin cfg0.N, win0_0.index t 0 = win0_4.index t 0 ∧ win0_0.index t 1 = win0_4.index t 1 ∧ win0_0.index t 2 = win0_4.index t 2
    ∧ win0_1.index t 0 = win0_4.index t 0 ∧ win0_1.index t 1 = win0_4.index t 1 ∧ win0_1.index t 2 = win0_4.index t 2
    ∧ win0_2.index t 0 = win0_4.index t 0 ∧ win0_2.index t 1 = win0_4.index t 1 ∧ win0_2.index t 2 = win0_4.index t 2
    ∧ win0_3.index t 0 = win0_4.index t 0 ∧ win0_3.index t 1 = win0_4.index t 1 ∧ win0_3.index t 2 = win0_4.index t 2
    ∧ win0_5.index t 0 = win0_4.index t 0 ∧ win0_5.index t 1 = win0_4.index t 1 ∧ win0_5.index t 2 = win0_4.index t 2
    ∧ win0_6.index t 0 = win0_4.index t 0 ∧ win0_6.index t 1 = win0_4.index t 1 ∧ win0_6.index t 2 = win0_4.index t 2 :=
  (by decide +kernel : ∀ t : Fin grid0.N, _)

/-- The kernel's change of the weight. -/
theorem final_delta : (dats m 0 c).arrAt 4 cfg0.N = adamDelta (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  unfold k0_pay3 k0_pay1 k0_pay2 adamDelta adamM adamV
  pointwise []
  blk_point [iblk, V, idx t]

/-- The kernel's new first moment. -/
theorem final_m : (dats m 0 c).arrAt 5 cfg0.N = adamM (m (c.tc.loc main_arg1)) (m (c.tc.loc main_arg2)) := by
  refine (dats m 0 c).arrAt_eq_of_covers 5 _ (by decide +kernel) fun t hf y => ?_
  blk_simp
  rw [after0_5]
  frame_out
  unfold k0_pay1 adamM
  pointwise []
  blk_point [iblk, V, idx t]

/-- The kernel's new second moment. -/
theorem final_v : (dats m 0 c).arrAt 6 cfg0.N = adamV (m (c.tc.loc main_arg1)) (m (c.tc.loc main_arg3)) := by
  refine (dats m 0 c).arrAt_eq_of_covers 6 _ (by decide +kernel) fun t hf y => ?_
  blk_simp
  rw [after0_6]
  frame_out
  unfold k0_pay2 adamV
  pointwise []
  blk_point [iblk, V, idx t]

/-- The reference runs, keeps its arguments and leaves every counter at zero. -/
theorem frame_reference : Cert.quiescent_AdamBRefIdeal := fun m ρ _ =>
  (θ_run _ _ _).mono (fun r h => ⟨fun c => (h c).2.2.2, Idealize.ShloMosaic.sem_eq_zero_of_no_sems (by decide) r.2⟩)
    (Cert.AdamBRefIdeal.Value.run m ρ)

/-- From equal arguments the kernel and the reference end with equal results. -/
theorem algebraic : Cert.algebraic_AdamBIdeal_AdamBRefIdeal := fun m ρ m' ρ' _ hag =>
  ⟨fun c => adamDelta (m (c.tc.loc main_arg0)) (m (c.tc.loc main_arg1)) (m (c.tc.loc main_arg2)) (m (c.tc.loc main_arg3)),
   fun c => adamM (m (c.tc.loc main_arg1)) (m (c.tc.loc main_arg2)),
   fun c => adamV (m (c.tc.loc main_arg1)) (m (c.tc.loc main_arg3)),
   (θ_run _ _ _).mono (fun _ h c => ⟨(h c).1.trans (final_delta m c), (h c).2.1.trans (final_m m c), (h c).2.2.1.trans (final_v m c), (h c).2.2.2⟩) (Value.run_blocks m ρ),
   (θ_run _ _ _).mono (fun _ h c => ⟨(h c).1.trans (by
       clear h
       simp only [hag c]
       funext i
       unfold adamDelta adamM adamV
       pointwise []),
     (h c).2.1.trans (by
       clear h
       simp only [hag c]
       funext i
       unfold adamM
       pointwise []),
     (h c).2.2.1.trans (by
       clear h
       simp only [hag c]
       funext i
       unfold adamV
       pointwise []), (h c).2.2.2⟩) (Cert.AdamBRefIdeal.Value.run m' ρ')⟩

end Cert.AdamBIdeal.Rows

/-! ## The step of the arrays `C` -/

namespace Cert.AdamCIdeal.Rows

open Cert.AdamCIdeal Cert.AdamCIdeal.Gen Idealize.ShloMosaic Idealize.ShloMosaic.TcCoe Idealize.SL.Sem Cert.Prod Cert.Rows

variable (m : (ℓ : Loc nD τ sig) → Buf (Elt Ideal) ℓ) (c : Dev nD)

/-- Point `t` reads the blocks of the arrays that it writes. -/
theorem idx : ∀ t : Fin cfg0.N, win0_0.index t 0 = win0_4.index t 0 ∧ win0_0.index t 1 = win0_4.index t 1 ∧ win0_0.index t 2 = win0_4.index t 2
    ∧ win0_1.index t 0 = win0_4.index t 0 ∧ win0_1.index t 1 = win0_4.index t 1 ∧ win0_1.index t 2 = win0_4.index t 2
    ∧ win0_2.index t 0 = win0_4.index t 0 ∧ win0_2.index t 1 = win0_4.index t 1 ∧ win0_2.index t 2 = win0_4.index t 2
    ∧ win0_3.index t 0 = win0_4.index t 0 ∧ win0_3.index t 1 = win0_4.index t 1 ∧ win0_3.index t 2 = win0_4.index t 2
    ∧ win0_5.index t 0 = win0_4.index t 0 ∧ win0_5.index t 1 = win0_4.index t 1 ∧ win0_5.index t 2 = win0_4.index t 2
    ∧ win0_6.index t 0 = win0_4.index t 0 ∧ win0_6.index t 1 = win0_4.index t 1 ∧ win0_6.index t 2 = win0_4.index t 2 :=
  (by decide +kernel : ∀ t : Fin grid0.N, _)

/-- The kernel's change of the weight. -/
theorem final_delta : (dats m 0 c).arrAt 4 cfg0.N = adamDelta (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  unfold k0_pay3 k0_pay1 k0_pay2 adamDelta adamM adamV
  pointwise []
  blk_point [iblk, V, idx t]

/-- The kernel's new first moment. -/
theorem final_m : (dats m 0 c).arrAt 5 cfg0.N = adamM (m (c.tc.loc main_arg1)) (m (c.tc.loc main_arg2)) := by
  refine (dats m 0 c).arrAt_eq_of_covers 5 _ (by decide +kernel) fun t hf y => ?_
  blk_simp
  rw [after0_5]
  frame_out
  unfold k0_pay1 adamM
  pointwise []
  blk_point [iblk, V, idx t]

/-- The kernel's new second moment. -/
theorem final_v : (dats m 0 c).arrAt 6 cfg0.N = adamV (m (c.tc.loc main_arg1)) (m (c.tc.loc main_arg3)) := by
  refine (dats m 0 c).arrAt_eq_of_covers 6 _ (by decide +kernel) fun t hf y => ?_
  blk_simp
  rw [after0_6]
  frame_out
  unfold k0_pay2 adamV
  pointwise []
  blk_point [iblk, V, idx t]

/-- The reference runs, keeps its arguments and leaves every counter at zero. -/
theorem frame_reference : Cert.quiescent_AdamCRefIdeal := fun m ρ _ =>
  (θ_run _ _ _).mono (fun r h => ⟨fun c => (h c).2.2.2, Idealize.ShloMosaic.sem_eq_zero_of_no_sems (by decide) r.2⟩)
    (Cert.AdamCRefIdeal.Value.run m ρ)

/-- From equal arguments the kernel and the reference end with equal results. -/
theorem algebraic : Cert.algebraic_AdamCIdeal_AdamCRefIdeal := fun m ρ m' ρ' _ hag =>
  ⟨fun c => adamDelta (m (c.tc.loc main_arg0)) (m (c.tc.loc main_arg1)) (m (c.tc.loc main_arg2)) (m (c.tc.loc main_arg3)),
   fun c => adamM (m (c.tc.loc main_arg1)) (m (c.tc.loc main_arg2)),
   fun c => adamV (m (c.tc.loc main_arg1)) (m (c.tc.loc main_arg3)),
   (θ_run _ _ _).mono (fun _ h c => ⟨(h c).1.trans (final_delta m c), (h c).2.1.trans (final_m m c), (h c).2.2.1.trans (final_v m c), (h c).2.2.2⟩) (Value.run_blocks m ρ),
   (θ_run _ _ _).mono (fun _ h c => ⟨(h c).1.trans (by
       clear h
       simp only [hag c]
       funext i
       unfold adamDelta adamM adamV
       pointwise []),
     (h c).2.1.trans (by
       clear h
       simp only [hag c]
       funext i
       unfold adamM
       pointwise []),
     (h c).2.2.1.trans (by
       clear h
       simp only [hag c]
       funext i
       unfold adamV
       pointwise []), (h c).2.2.2⟩) (Cert.AdamCRefIdeal.Value.run m' ρ')⟩

end Cert.AdamCIdeal.Rows

/-! ## The sum over the slots -/

namespace Cert.SumSlotsIdeal.Rows

open Cert.SumSlotsIdeal Cert.SumSlotsIdeal.Gen Idealize.ShloMosaic Idealize.ShloMosaic.TcCoe Idealize.SL.Sem Cert.Prod Cert.Rows

variable (m : (ℓ : Loc nD τ sig) → Buf (Elt Ideal) ℓ) (c : Dev nD)

/-- Point `t` reads, of every slot, the rows it writes. -/
theorem idx : ∀ t : Fin cfg0.N, win0_0.index t 0 = 0 ∧ win0_0.index t 1 = win0_1.index t 0 ∧ win0_0.index t 2 = 0
    ∧ win0_1.index t 1 = 0 :=
  (by decide +kernel : ∀ t : Fin grid0.N, _)

/-- The kernel's result is the sum over the slots. -/
theorem final : (dats m 0 c).arrAt 1 cfg0.N = slots (m (c.tc.loc main_arg0)) := by
  refine (dats m 0 c).arrAt_eq_of_covers 1 _ (by decide +kernel) fun t hf y => ?_
  blk_simp
  rw [after0_1]
  frame_out
  unfold k0_pay1 slots
  pointwise []
  rw [Fin.sum_univ_eight]
  blk_point [iblk, V, idx t]

/-- The reference runs, keeps its arguments and leaves every counter at zero. -/
theorem frame_reference : Cert.quiescent_SumSlotsRefIdeal := fun m ρ _ =>
  (θ_run _ _ _).mono (fun r h => ⟨fun c => (h c).2, Idealize.ShloMosaic.sem_eq_zero_of_no_sems (by decide) r.2⟩)
    (Cert.SumSlotsRefIdeal.Value.run m ρ)

/-- From equal arguments the kernel and the reference end with equal results. -/
theorem algebraic : Cert.algebraic_SumSlotsIdeal_SumSlotsRefIdeal := fun m ρ m' ρ' _ hag =>
  ⟨fun c => slots (m (c.tc.loc main_arg0)),
   (θ_run _ _ _).mono (fun _ h c => ⟨(h c).1.trans (final m c), (h c).2⟩) (Value.run_blocks m ρ),
   (θ_run _ _ _).mono (fun _ h c => ⟨(h c).1.trans (by
       clear h
       simp only [hag c]
       funext i
       unfold slots
       pointwise []), (h c).2⟩) (Cert.SumSlotsRefIdeal.Value.run m' ρ')⟩

end Cert.SumSlotsIdeal.Rows

end
-- ==== Proof.TinyMath.lean ====
module

public import proofs.«01_k».proof.Proof.RowsMath
public import Idealize.ShloMosaic.Lib.Pipeline.Value
public import Idealize.ShloMosaic.Lib.KernelVsHost

@[expose] public section

noncomputable section

/-! # Arrays laid end to end in one packed array, and cut out of it again -/

namespace Cert.Tiny

open Idealize.ShloMosaic Cert.Prod Cert.Rows

variable {α : Type}

/-- The shape of a vector of `n` entries. -/
abbrev vec (n : ℕ) : Shape := ⟨1, ![n]⟩

/-- The shape of `R` rows of 128 entries. -/
abbrev lanes (R : ℕ) : Shape := ⟨2, ![R, 128]⟩

/-- The place in the packed array at flat position `k`. -/
def place (k : ℕ) (h : k < 262144) : (lanes 2048).Idx :=
  ix2 ⟨k / 128, show k / 128 < 2048 by omega⟩ ⟨k % 128, show k % 128 < 128 by omega⟩

/-- The place in a vector at position `k`. -/
def spot {n : ℕ} (k : ℕ) (h : k < n) : (vec n).Idx := fun a => ⟨k, by obtain rfl : a = 0 := Subsingleton.elim _ _; exact h⟩

/-- Rows cut out of the packed array and flattened: position `k` is the packed array `k` places after the first row. -/
theorem cut_flat {R F r : ℕ} (hF : R * 128 = F) (hr : r + R ≤ 2048) (x : (lanes 2048).Idx → α)
    (hs : (lanes 2048).Slices ![r, 0] (lanes R)) (hc : (lanes R).ShapeCasts (vec F)) (k : (vec F).Idx) (K : ℕ) (hK : (k 0).val = K)
    (h : r * 128 + K < 262144) :
    shapeCast (vec F) (extractStridedSlice (lanes R) ![r, 0] x hs) hc k = x (place (r * 128 + K) h) := by
  have hk : (k 0).val < F := (k 0).isLt
  have e := shapeCast_apply (extractStridedSlice (lanes R) ![r, 0] x hs) hc k
    (ix2 ⟨K / 128, show K / 128 < R by omega⟩ ⟨K % 128, show K % 128 < 128 by omega⟩) (by
      rw [Shape.rowMajor_val_two, Shape.rowMajor_val_one]
      show K / 128 * 128 + K % 128 = (k 0).val
      omega)
  rw [e]
  unfold extractStridedSlice place
  refine congrArg x (funext fun a => Fin.ext ?_)
  match a with
  | 0 => show r + K / 128 = (r * 128 + K) / 128; omega
  | 1 => show 0 + K % 128 = (r * 128 + K) % 128; omega

/-- The first entries of a vector are the vector's. -/
theorem head_apply {n F : ℕ} (x : (vec F).Idx → α) (hs : (vec F).Slices ![0] (vec n)) (k : (vec n).Idx) (h : (k 0).val < F) :
    extractStridedSlice (vec n) ![0] x hs k = x (spot (k 0).val h) := by
  unfold extractStridedSlice spot
  refine congrArg x (funext fun a => Fin.ext ?_)
  obtain rfl : a = 0 := Subsingleton.elim _ _
  show 0 + (k 0).val = (k 0).val
  omega

/-- A vector reshaped, at an index, is the vector at the index's flat position. -/
theorem shaped_apply {s : Shape} {n : ℕ} (x : (vec n).Idx → α) (hc : (vec n).ShapeCasts s) (i : s.Idx) (h : (s.rowMajor i).val < n) :
    shapeCast s x hc i = x (spot (s.rowMajor i).val h) :=
  shapeCast_apply x hc i _ (by rw [Shape.rowMajor_val_one]; rfl)

/-- An array cut out of the packed array: rows flattened, the rest of the last row dropped, and reshaped. -/
theorem cut_head {s : Shape} {n R F r : ℕ} (hF : R * 128 = F) (hr : r + R ≤ 2048) (x : (lanes 2048).Idx → α)
    (hs : (lanes 2048).Slices ![r, 0] (lanes R)) (hc : (lanes R).ShapeCasts (vec F)) (hs' : (vec F).Slices ![0] (vec n))
    (hc' : (vec n).ShapeCasts s) (i : s.Idx) (hn : (s.rowMajor i).val < n) (hnF : n ≤ F) (h : r * 128 + (s.rowMajor i).val < 262144) :
    shapeCast s (extractStridedSlice (vec n) ![0] (shapeCast (vec F) (extractStridedSlice (lanes R) ![r, 0] x hs) hc) hs') hc' i
      = x (place (r * 128 + (s.rowMajor i).val) h) := by
  refine (shaped_apply _ hc' i hn).trans ((head_apply _ hs' _ (lt_of_lt_of_le hn hnF)).trans ?_)
  exact cut_flat hF hr x hs hc _ _ rfl h

/-- The same of an array that fills its rows. -/
theorem cut_full {s : Shape} {R F r : ℕ} (hF : R * 128 = F) (hr : r + R ≤ 2048) (x : (lanes 2048).Idx → α)
    (hs : (lanes 2048).Slices ![r, 0] (lanes R)) (hc : (lanes R).ShapeCasts (vec F))
    (hc' : (vec F).ShapeCasts s) (i : s.Idx) (hn : (s.rowMajor i).val < F) (h : r * 128 + (s.rowMajor i).val < 262144) :
    shapeCast s (shapeCast (vec F) (extractStridedSlice (lanes R) ![r, 0] x hs) hc) hc' i
      = x (place (r * 128 + (s.rowMajor i).val) h) :=
  (shaped_apply _ hc' i hn).trans (cut_flat hF hr x hs hc _ _ rfl h)

/-- The same of a vector. -/
theorem cut_vec {n R F r : ℕ} (hF : R * 128 = F) (hr : r + R ≤ 2048) (x : (lanes 2048).Idx → α)
    (hs : (lanes 2048).Slices ![r, 0] (lanes R)) (hc : (lanes R).ShapeCasts (vec F)) (hs' : (vec F).Slices ![0] (vec n))
    (i : (vec n).Idx) (hnF : n ≤ F) (h : r * 128 + ((vec n).rowMajor i).val < 262144) :
    extractStridedSlice (vec n) ![0] (shapeCast (vec F) (extractStridedSlice (lanes R) ![r, 0] x hs) hc) hs' i
      = x (place (r * 128 + ((vec n).rowMajor i).val) h) := by
  refine (head_apply _ hs' _ (lt_of_lt_of_le (i 0).isLt hnF)).trans ?_
  exact cut_flat hF hr x hs hc _ _ (by rw [Shape.rowMajor_val_one]; rfl) h

/-- The packed array at a place is the long vector at its position. -/
theorem packed_apply (x : (vec 262144).Idx → α) (hc : (vec 262144).ShapeCasts (lanes 2048)) (k : ℕ) (h : k < 262144) :
    shapeCast (lanes 2048) x hc (place k h) = x (spot k h) :=
  shapeCast_apply x hc _ _ (by
    rw [Shape.rowMajor_val_two, Shape.rowMajor_val_one]
    show k = k / 128 * 128 + k % 128
    omega)

/-- A long vector made of vectors laid end to end, read inside the vector number `k`: `ss` are the shapes of the vectors,
and those before number `k` have `pre` entries together. -/
theorem piece_apply (ss : List Shape) (xs : List ((s : Shape) × (s.Idx → α))) (hss : xs.map (·.1) = ss)
    (h : Shape.Concatenates (xs.map (·.1)) (vec 262144) 0) (k : ℕ) {F : ℕ} (x : (vec F).Idx → α)
    (hx : xs[k]? = some ⟨vec F, x⟩) (pre : ℕ)
    (hpre : ((ss.take k).map fun s => if h : s.rank = (vec 262144).rank then s.size ((0 : Fin (vec 262144).rank).cast h.symm) else 0).sum = pre)
    (q : ℕ) (hq : q < F) (hq' : pre + q < 262144) :
    concatenate (vec 262144) 0 xs h (spot (pre + q) hq') = x (spot q hq) := by
  subst hss
  obtain ⟨hk, hx⟩ := List.getElem?_eq_some_iff.mp hx
  refine concatenate_apply_piece 0 xs h _ k hk _ x hx rfl pre ?_ _ (fun b hb => absurd (Subsingleton.elim (α := Fin 1) _ _) hb) rfl
  rw [← hpre, List.map_take]

/-- An array flattened and padded with anything, read at an index's flat position. -/
theorem padded_apply {s u : Shape} {n F p : ℕ} (w : s.Idx → α) (v : u.Idx → α) (hc : s.ShapeCasts (vec n))
    (hp : (vec n).Pads ![0] ![p] ![0] (vec F)) (hu : 0 < u.numel) (i : s.Idx) (hn : (s.rowMajor i).val < n) (hF : (s.rowMajor i).val < F) :
    pad (vec F) ![0] ![p] ![0] (shapeCast (vec n) w hc) v hp hu (spot (s.rowMajor i).val hF) = w i := by
  refine (pad_apply_of_inside _ _ _ _ v hp hu _ (spot (s.rowMajor i).val hn) fun a => ?_).trans
    (shapeCast_apply w hc _ i (by rw [Shape.rowMajor_val_one]; rfl))
  obtain rfl : a = 0 := Subsingleton.elim _ _
  show (s.rowMajor i).val = 0 + (s.rowMajor i).val * (0 + 1)
  omega

/-- The same of a vector. -/
theorem padded_vec {u : Shape} {n F p : ℕ} (w : (vec n).Idx → α) (v : u.Idx → α)
    (hp : (vec n).Pads ![0] ![p] ![0] (vec F)) (hu : 0 < u.numel) (i : (vec n).Idx) (hF : ((vec n).rowMajor i).val < F) :
    pad (vec F) ![0] ![p] ![0] w v hp hu (spot ((vec n).rowMajor i).val hF) = w i := by
  refine pad_apply_of_inside _ _ _ w v hp hu _ i fun a => ?_
  obtain rfl : a = 0 := Subsingleton.elim _ _
  show ((vec n).rowMajor i).val = 0 + (i 0).val * (0 + 1)
  rw [Shape.rowMajor_val_one]
  omega

end Cert.Tiny
-- ==== Proof.Tiny.lean ====
module

public import proofs.«01_k».proof.Defs
public import proofs.«01_k».proof.Proof.Gen.AdamTinyIdeal.Run
public import proofs.«01_k».proof.Proof.Gen.AdamTinyRefIdeal.Run
public import proofs.«01_k».proof.Proof.TinyMath
public import Idealize.ShloMosaic.Lib.Pipeline.ReadBack
public import Idealize.ShloMosaic.Lib.Pipeline.ValueKit

@[expose] public section

set_option maxRecDepth 16384

noncomputable section

/-! # The optimiser's step of the nine small weights, packed into one array and unpacked -/

namespace Cert.AdamTinyIdeal.Rows

open Cert.AdamTinyIdeal Cert.AdamTinyIdeal.Gen Idealize.ShloMosaic Idealize.ShloMosaic.TcCoe Idealize.SL.Sem Cert.Prod Cert.Rows Cert.Tiny

/-- Nine arrays of the shapes of the small weights. -/
structure Leaves where
  (w0 : S2x2048.Idx → EReal) (w1 : S2x2x4.Idx → EReal) (w2 w3 : S2x2x128x64.Idx → EReal) (w4 : S2x2x128.Idx → EReal)
  (w5 w6 w7 : S2x2048.Idx → EReal) (w8 : S2048.Idx → EReal)

/-- The padding: nought, made from an integer. -/
abbrev nil : S_.Idx → EReal := sitofp (F := Ideal) .f32 (constantI S_ 32 0#32)

/-- The nine arrays flattened, padded to whole blocks of rows, laid end to end and filled up with noughts. -/
def long (L : Leaves) : S262144.Idx → EReal :=
  concatenate S262144 0
    [⟨S16384, pad S16384 ![0] ![12288] ![0] (shapeCast S4096 L.w0 shapeCasts_S2x2048_S4096) nil pads_S4096_S16384_0122880 h_S_⟩,
     ⟨S16384, pad S16384 ![0] ![16368] ![0] (shapeCast S16 L.w1 shapeCasts_S2x2x4_S16) nil pads_S16_S16384_0163680 h_S_⟩,
     ⟨S32768, pad S32768 ![0] ![0] ![0] (shapeCast S32768 L.w2 shapeCasts_S2x2x128x64_S32768) nil pads_S32768_S32768_000 h_S_⟩,
     ⟨S32768, pad S32768 ![0] ![0] ![0] (shapeCast S32768 L.w3 shapeCasts_S2x2x128x64_S32768) nil pads_S32768_S32768_000 h_S_⟩,
     ⟨S16384, pad S16384 ![0] ![15872] ![0] (shapeCast S512 L.w4 shapeCasts_S2x2x128_S512) nil pads_S512_S16384_0158720 h_S_⟩,
     ⟨S16384, pad S16384 ![0] ![12288] ![0] (shapeCast S4096 L.w5 shapeCasts_S2x2048_S4096) nil pads_S4096_S16384_0122880 h_S_⟩,
     ⟨S16384, pad S16384 ![0] ![12288] ![0] (shapeCast S4096 L.w6 shapeCasts_S2x2048_S4096) nil pads_S4096_S16384_0122880 h_S_⟩,
     ⟨S16384, pad S16384 ![0] ![12288] ![0] (shapeCast S4096 L.w7 shapeCasts_S2x2048_S4096) nil pads_S4096_S16384_0122880 h_S_⟩,
     ⟨S16384, pad S16384 ![0] ![14336] ![0] L.w8 nil pads_S2048_S16384_0143360 h_S_⟩,
     ⟨S81920, broadcastInDim S81920 ![] bcast_S_S81920 (constant (F := Ideal) S_ .f32 0x00000000#32)⟩]
    concatenates_S16384_S16384_S32768_S32768_S16384_S16384_S16384_S16384_S16384_S81920_S262144_d0

/-- The shapes of the vectors of which the long vector is made. -/
def sizes : List Shape := [S16384, S16384, S32768, S32768, S16384, S16384, S16384, S16384, S16384, S81920]

/-- The packed array of nine arrays. -/
def pack (L : Leaves) : S2048x128.Idx → EReal := shapeCast S2048x128 (long L) shapeCasts_S262144_S2048x128

/-- `cut` takes an array out of the packed array: each entry from one place, at which packing has put the entry of `leaf`. -/
def Fits {s : Shape} (cut : (S2048x128.Idx → EReal) → s.Idx → EReal) (leaf : Leaves → s.Idx → EReal) : Prop :=
  ∀ i, ∃ p, (∀ x, cut x i = x p) ∧ ∀ L, pack L p = leaf L i

section

variable {s : Shape} {cut : (S2048x128.Idx → EReal) → s.Idx → EReal} {leaf : Leaves → s.Idx → EReal}

/-- The packed change, cut, is the change of the cut weight. -/
theorem Fits.delta (h : Fits cut leaf) (W G M V : Leaves) :
    cut (adamDelta (pack W) (pack G) (pack M) (pack V)) = adamDelta (leaf W) (leaf G) (leaf M) (leaf V) := by
  funext i
  obtain ⟨p, hc, hp⟩ := h i
  simp only [hc, adamDelta, adamM, adamV, hp]

/-- The packed first moment, cut, is the first moment of the cut weight. -/
theorem Fits.fst (h : Fits cut leaf) (G M : Leaves) : cut (adamM (pack G) (pack M)) = adamM (leaf G) (leaf M) := by
  funext i
  obtain ⟨p, hc, hp⟩ := h i
  simp only [hc, adamM, hp]

/-- The packed second moment, cut, is the second moment of the cut weight. -/
theorem Fits.snd (h : Fits cut leaf) (G V : Leaves) : cut (adamV (pack G) (pack V)) = adamV (leaf G) (leaf V) := by
  funext i
  obtain ⟨p, hc, hp⟩ := h i
  simp only [hc, adamV, hp]

/-- A leaf read back: where the long vector at the leaf's rows is a vector that holds the leaf at its flat positions. -/
theorem fits_of (r : ℕ) (hr : ∀ i : s.Idx, r * 128 + (s.rowMajor i).val < 262144)
    (hc : ∀ x i, cut x i = x (place (r * 128 + (s.rowMajor i).val) (hr i)))
    (hl : ∀ L i, long L (spot (r * 128 + (s.rowMajor i).val) (hr i)) = leaf L i) : Fits cut leaf := fun i =>
  ⟨_, fun x => hc x i, fun L => (packed_apply (long L) shapeCasts_S262144_S2048x128 _ _).trans (hl L i)⟩

end

/-- Every flat position of an array lies below its number of entries. -/
theorem below {s : Shape} {n : ℕ} (h : s.numel = n) (i : s.Idx) : (s.rowMajor i).val < n := h ▸ (s.rowMajor i).isLt

theorem n2x2048 : S2x2048.numel = 4096 := by decide
theorem n2x2x4 : S2x2x4.numel = 16 := by decide
theorem n2x2x128x64 : S2x2x128x64.numel = 32768 := by decide
theorem n2x2x128 : S2x2x128.numel = 512 := by decide
theorem n2048 : S2048.numel = 2048 := by decide

/-- The norm's gain before the mixing. -/
theorem fits0 : Fits (fun x => shapeCast S2x2048 (extractStridedSlice S4096 ![0] (shapeCast S16384 (extractStridedSlice S128x128 ![0, 0] x
    slices_S2048x128_S128x128_0_0) shapeCasts_S128x128_S16384) slices_S16384_S4096_0) shapeCasts_S4096_S2x2048) Leaves.w0 :=
  fits_of 0 (fun i => by have := below n2x2048 i; omega)
    (fun x i => cut_head rfl (by decide) x _ _ _ _ i (below n2x2048 i) (by decide) _)
    fun L i => (piece_apply sizes _ rfl _ 0 _ rfl (0 * 128) (by decide +kernel) _ (by have := below n2x2048 i; omega) _).trans
      (padded_apply L.w0 nil _ _ _ i (below n2x2048 i) _)

/-- The retention's rates. -/
theorem fits1 : Fits (fun x => shapeCast S2x2x4 (extractStridedSlice S16 ![0] (shapeCast S16384 (extractStridedSlice S128x128 ![128, 0] x
    slices_S2048x128_S128x128_128_0) shapeCasts_S128x128_S16384) slices_S16384_S16_0) shapeCasts_S16_S2x2x4) Leaves.w1 :=
  fits_of 128 (fun i => by have := below n2x2x4 i; omega)
    (fun x i => cut_head rfl (by decide) x _ _ _ _ i (below n2x2x4 i) (by decide) _)
    fun L i => (piece_apply sizes _ rfl _ 1 _ rfl (128 * 128) (by decide +kernel) _ (by have := below n2x2x4 i; omega) _).trans
      (padded_apply L.w1 nil _ _ _ i (below n2x2x4 i) _)

/-- The real parts of the poles. -/
theorem fits2 : Fits (fun x => shapeCast S2x2x128x64 (shapeCast S32768 (extractStridedSlice S256x128 ![256, 0] x
    slices_S2048x128_S256x128_256_0) shapeCasts_S256x128_S32768) shapeCasts_S32768_S2x2x128x64) Leaves.w2 :=
  fits_of 256 (fun i => by have := below n2x2x128x64 i; omega)
    (fun x i => cut_full rfl (by decide) x _ _ _ i (below n2x2x128x64 i) _)
    fun L i => (piece_apply sizes _ rfl _ 2 _ rfl (256 * 128) (by decide +kernel) _ (below n2x2x128x64 i) _).trans
      (padded_apply L.w2 nil _ _ _ i (below n2x2x128x64 i) _)

/-- The imaginary parts of the poles. -/
theorem fits3 : Fits (fun x => shapeCast S2x2x128x64 (shapeCast S32768 (extractStridedSlice S256x128 ![512, 0] x
    slices_S2048x128_S256x128_512_0) shapeCasts_S256x128_S32768) shapeCasts_S32768_S2x2x128x64) Leaves.w3 :=
  fits_of 512 (fun i => by have := below n2x2x128x64 i; omega)
    (fun x i => cut_full rfl (by decide) x _ _ _ i (below n2x2x128x64 i) _)
    fun L i => (piece_apply sizes _ rfl _ 3 _ rfl (512 * 128) (by decide +kernel) _ (below n2x2x128x64 i) _).trans
      (padded_apply L.w3 nil _ _ _ i (below n2x2x128x64 i) _)

/-- The logarithms of the scan's steps. -/
theorem fits4 : Fits (fun x => shapeCast S2x2x128 (extractStridedSlice S512 ![0] (shapeCast S16384 (extractStridedSlice S128x128 ![768, 0] x
    slices_S2048x128_S128x128_768_0) shapeCasts_S128x128_S16384) slices_S16384_S512_0) shapeCasts_S512_S2x2x128) Leaves.w4 :=
  fits_of 768 (fun i => by have := below n2x2x128 i; omega)
    (fun x i => cut_head rfl (by decide) x _ _ _ _ i (below n2x2x128 i) (by decide) _)
    fun L i => (piece_apply sizes _ rfl _ 4 _ rfl (768 * 128) (by decide +kernel) _ (by have := below n2x2x128 i; omega) _).trans
      (padded_apply L.w4 nil _ _ _ i (below n2x2x128 i) _)

/-- The scan's skips. -/
theorem fits5 : Fits (fun x => shapeCast S2x2048 (extractStridedSlice S4096 ![0] (shapeCast S16384 (extractStridedSlice S128x128 ![896, 0] x
    slices_S2048x128_S128x128_896_0) shapeCasts_S128x128_S16384) slices_S16384_S4096_0) shapeCasts_S4096_S2x2048) Leaves.w5 :=
  fits_of 896 (fun i => by have := below n2x2048 i; omega)
    (fun x i => cut_head rfl (by decide) x _ _ _ _ i (below n2x2048 i) (by decide) _)
    fun L i => (piece_apply sizes _ rfl _ 5 _ rfl (896 * 128) (by decide +kernel) _ (by have := below n2x2048 i; omega) _).trans
      (padded_apply L.w5 nil _ _ _ i (below n2x2048 i) _)

/-- The gates' biases. -/
theorem fits6 : Fits (fun x => shapeCast S2x2048 (extractStridedSlice S4096 ![0] (shapeCast S16384 (extractStridedSlice S128x128 ![1024, 0] x
    slices_S2048x128_S128x128_1024_0) shapeCasts_S128x128_S16384) slices_S16384_S4096_0) shapeCasts_S4096_S2x2048) Leaves.w6 :=
  fits_of 1024 (fun i => by have := below n2x2048 i; omega)
    (fun x i => cut_head rfl (by decide) x _ _ _ _ i (below n2x2048 i) (by decide) _)
    fun L i => (piece_apply sizes _ rfl _ 6 _ rfl (1024 * 128) (by decide +kernel) _ (by have := below n2x2048 i; omega) _).trans
      (padded_apply L.w6 nil _ _ _ i (below n2x2048 i) _)

/-- The norm's gain before the feed-forward part. -/
theorem fits7 : Fits (fun x => shapeCast S2x2048 (extractStridedSlice S4096 ![0] (shapeCast S16384 (extractStridedSlice S128x128 ![1152, 0] x
    slices_S2048x128_S128x128_1152_0) shapeCasts_S128x128_S16384) slices_S16384_S4096_0) shapeCasts_S4096_S2x2048) Leaves.w7 :=
  fits_of 1152 (fun i => by have := below n2x2048 i; omega)
    (fun x i => cut_head rfl (by decide) x _ _ _ _ i (below n2x2048 i) (by decide) _)
    fun L i => (piece_apply sizes _ rfl _ 7 _ rfl (1152 * 128) (by decide +kernel) _ (by have := below n2x2048 i; omega) _).trans
      (padded_apply L.w7 nil _ _ _ i (below n2x2048 i) _)

/-- The last norm's gain. -/
theorem fits8 : Fits (fun x => extractStridedSlice S2048 ![0] (shapeCast S16384 (extractStridedSlice S128x128 ![1280, 0] x
    slices_S2048x128_S128x128_1280_0) shapeCasts_S128x128_S16384) slices_S16384_S2048_0) Leaves.w8 :=
  fits_of 1280 (fun i => by have := below n2048 i; omega)
    (fun x i => cut_vec rfl (by decide) x _ _ _ i (by decide) _)
    fun L i => (piece_apply sizes _ rfl _ 8 _ rfl (1280 * 128) (by decide +kernel) _ (by have := below n2048 i; omega) _).trans
      (padded_vec L.w8 nil _ _ i _)

variable (m : (ℓ : Loc nD τ sig) → Buf (Elt Ideal) ℓ) (c : Dev nD)

/-- The weights among the arguments. -/
def argW : Leaves := ⟨m (c.tc.loc main_arg0), m (c.tc.loc main_arg1), m (c.tc.loc main_arg2), m (c.tc.loc main_arg3), m (c.tc.loc main_arg4),
  m (c.tc.loc main_arg5), m (c.tc.loc main_arg6), m (c.tc.loc main_arg7), m (c.tc.loc main_arg8)⟩

/-- The gradients among the arguments. -/
def argG : Leaves := ⟨m (c.tc.loc main_arg9), m (c.tc.loc main_arg10), m (c.tc.loc main_arg11), m (c.tc.loc main_arg12), m (c.tc.loc main_arg13),
  m (c.tc.loc main_arg14), m (c.tc.loc main_arg15), m (c.tc.loc main_arg16), m (c.tc.loc main_arg17)⟩

/-- The first moments among the arguments. -/
def argM : Leaves := ⟨m (c.tc.loc main_arg18), m (c.tc.loc main_arg19), m (c.tc.loc main_arg20), m (c.tc.loc main_arg21), m (c.tc.loc main_arg22),
  m (c.tc.loc main_arg23), m (c.tc.loc main_arg24), m (c.tc.loc main_arg25), m (c.tc.loc main_arg26)⟩

/-- The second moments among the arguments. -/
def argV : Leaves := ⟨m (c.tc.loc main_arg27), m (c.tc.loc main_arg28), m (c.tc.loc main_arg29), m (c.tc.loc main_arg30), m (c.tc.loc main_arg31),
  m (c.tc.loc main_arg32), m (c.tc.loc main_arg33), m (c.tc.loc main_arg34), m (c.tc.loc main_arg35)⟩

/-- The kernel's first operand is the packed array of the weights. -/
theorem V_W : V m c main_v19 = pack (argW m c) := by
  unfold V V0
  after_results_simp
  rfl

/-- The second is that of the gradients. -/
theorem V_G : V m c main_v39 = pack (argG m c) := by
  unfold V V0
  after_results_simp
  rfl

/-- The third is that of the first moments. -/
theorem V_M : V m c main_v59 = pack (argM m c) := by
  unfold V V0
  after_results_simp
  rfl

/-- The fourth is that of the second moments. -/
theorem V_V : V m c main_v79 = pack (argV m c) := by
  unfold V V0
  after_results_simp
  rfl

/-- Point `t` reads the blocks of the arrays that it writes. -/
theorem idx : ∀ t : Fin cfg0.N, win0_0.index t 0 = win0_4.index t 0 ∧ win0_0.index t 1 = win0_4.index t 1
    ∧ win0_1.index t 0 = win0_4.index t 0 ∧ win0_1.index t 1 = win0_4.index t 1
    ∧ win0_2.index t 0 = win0_4.index t 0 ∧ win0_2.index t 1 = win0_4.index t 1
    ∧ win0_3.index t 0 = win0_4.index t 0 ∧ win0_3.index t 1 = win0_4.index t 1
    ∧ win0_5.index t 0 = win0_4.index t 0 ∧ win0_5.index t 1 = win0_4.index t 1
    ∧ win0_6.index t 0 = win0_4.index t 0 ∧ win0_6.index t 1 = win0_4.index t 1 :=
  (by decide +kernel : ∀ t : Fin grid0.N, _)

/-- The kernel's packed change of the weights. -/
theorem final_delta : (dats m 0 c).arrAt 4 cfg0.N = adamDelta (V m c main_v19) (V m c main_v39) (V m c main_v59) (V m c main_v79) := by
  refine (dats m 0 c).arrAt_eq_of_covers 4 _ (by decide +kernel) fun t hf y => ?_
  blk_simp
  rw [after0_4]
  frame_out
  unfold k0_pay4 k0_pay2 k0_pay3 adamDelta adamM adamV
  pointwise []
  blk_point [iblk, idx t]

/-- The kernel's packed new first moments. -/
theorem final_m : (dats m 0 c).arrAt 5 cfg0.N = adamM (V m c main_v39) (V m c main_v59) := by
  refine (dats m 0 c).arrAt_eq_of_covers 5 _ (by decide +kernel) fun t hf y => ?_
  blk_simp
  rw [after0_5]
  frame_out
  unfold k0_pay2 adamM
  pointwise []
  blk_point [iblk, idx t]

/-- The kernel's packed new second moments. -/
theorem final_v : (dats m 0 c).arrAt 6 cfg0.N = adamV (V m c main_v39) (V m c main_v79) := by
  refine (dats m 0 c).arrAt_eq_of_covers 6 _ (by decide +kernel) fun t hf y => ?_
  blk_simp
  rw [after0_6]
  frame_out
  unfold k0_pay3 adamV
  pointwise []
  blk_point [iblk, idx t]

/-- The kernel's packed change, in terms of the arguments. -/
theorem exit_delta : Value.exitV m c (Proc.devRef .tc main_v80_0)
    = adamDelta (pack (argW m c)) (pack (argG m c)) (pack (argM m c)) (pack (argV m c)) :=
  (Value.exit_main_v80_0 m c).trans ((final_delta m c).trans (by rw [V_W, V_G, V_M, V_V]))

/-- The kernel's packed first moments, in terms of the arguments. -/
theorem exit_m : Value.exitV m c (Proc.devRef .tc main_v80_1) = adamM (pack (argG m c)) (pack (argM m c)) :=
  (Value.exit_main_v80_1 m c).trans ((final_m m c).trans (by rw [V_G, V_M]))

/-- The kernel's packed second moments, in terms of the arguments. -/
theorem exit_v : Value.exitV m c (Proc.devRef .tc main_v80_2) = adamV (pack (argG m c)) (pack (argV m c)) :=
  (Value.exit_main_v80_2 m c).trans ((final_v m c).trans (by rw [V_G, V_V]))

section

variable {s : Shape} {cut : (S2048x128.Idx → EReal) → s.Idx → EReal} {leaf : Leaves → s.Idx → EReal} (h : Fits cut leaf)
include h

/-- A weight's change, cut out of the kernel's result. -/
theorem out_delta : cut (Value.exitV m c (Proc.devRef .tc main_v80_0))
    = adamDelta (leaf (argW m c)) (leaf (argG m c)) (leaf (argM m c)) (leaf (argV m c)) :=
  (congrArg cut (exit_delta m c)).trans (h.delta _ _ _ _)

/-- A weight's first moment, cut out of the kernel's result. -/
theorem out_m : cut (Value.exitV m c (Proc.devRef .tc main_v80_1)) = adamM (leaf (argG m c)) (leaf (argM m c)) :=
  (congrArg cut (exit_m m c)).trans (h.fst _ _)

/-- A weight's second moment, cut out of the kernel's result. -/
theorem out_v : cut (Value.exitV m c (Proc.devRef .tc main_v80_2)) = adamV (leaf (argG m c)) (leaf (argV m c)) :=
  (congrArg cut (exit_v m c)).trans (h.snd _ _)

end

section

variable {s : Shape} (hb : S_.BroadcastsInDim s ![]) {w g n v w' g' n' v' : s.Idx → EReal}

/-- The reference's first moment. -/
theorem ref_m (hg : g' = g) (hn : n' = n) :
    addf (F := Ideal) (φ := .f32) (mulf (broadcastInDim s ![] hb (constant S_ .f32 0x3F666666#32)) n') (mulf (broadcastInDim s ![] hb (constant S_ .f32 0x3DCCCCCD#32)) g')
      = adamM g n := by
  subst hg hn
  funext i
  unfold adamM
  pointwise []

/-- The reference's second moment. -/
theorem ref_v (hg : g' = g) (hv : v' = v) :
    addf (F := Ideal) (φ := .f32) (mulf (broadcastInDim s ![] hb (constant S_ .f32 0x3F7FBE77#32)) v')
        (mulf (broadcastInDim s ![] hb (constant S_ .f32 0x3A83126F#32)) (mulf g' g'))
      = adamV g v := by
  subst hg hv
  funext i
  unfold adamV
  pointwise []

/-- The reference's change. -/
theorem ref_delta (hw : w' = w) (hg : g' = g) (hn : n' = n) (hv : v' = v) :
    mulf (F := Ideal) (φ := .f32) (broadcastInDim s ![] hb (constant S_ .f32 0xBA83126F#32))
      (addf (Host.divf (Host.divf (addf (mulf (broadcastInDim s ![] hb (constant S_ .f32 0x3F666666#32)) n')
            (mulf (broadcastInDim s ![] hb (constant S_ .f32 0x3DCCCCCD#32)) g')) (broadcastInDim s ![] hb (constant S_ .f32 0x3F26BD02#32)))
          (addf (Host.sqrt (Host.divf (addf (mulf (broadcastInDim s ![] hb (constant S_ .f32 0x3F7FBE77#32)) v')
              (mulf (broadcastInDim s ![] hb (constant S_ .f32 0x3A83126F#32)) (mulf g' g'))) (broadcastInDim s ![] hb (constant S_ .f32 0x3C231ACC#32))))
            (broadcastInDim s ![] hb (constant S_ .f32 0x322BCC77#32))))
        (mulf (broadcastInDim s ![] hb (constant S_ .f32 0x3C23D70A#32)) w'))
      = adamDelta w g n v := by
  subst hw hg hn hv
  funext i
  unfold adamDelta adamM adamV
  pointwise []

end

/-- The reference runs, keeps its arguments and leaves every counter at zero. -/
theorem frame_reference : Cert.quiescent_AdamTinyRefIdeal := fun m ρ _ =>
  (θ_run _ _ _).mono (fun r h => ⟨fun c => (h c).2.2.2.2.2.2.2.2.2.2.2.2.2.2.2.2.2.2.2.2.2.2.2.2.2.2.2, Idealize.ShloMosaic.sem_eq_zero_of_no_sems (by decide) r.2⟩)
    (Cert.AdamTinyRefIdeal.Value.run m ρ)

/-- From equal arguments the kernel and the reference end with equal results. -/
theorem algebraic : Cert.algebraic_AdamTinyIdeal_AdamTinyRefIdeal := fun m ρ m' ρ' _ hag =>
  ⟨fun c => adamDelta (argW m c).w0 (argG m c).w0 (argM m c).w0 (argV m c).w0, fun c => adamDelta (argW m c).w1 (argG m c).w1 (argM m c).w1 (argV m c).w1, fun c => adamDelta (argW m c).w2 (argG m c).w2 (argM m c).w2 (argV m c).w2,
   fun c => adamDelta (argW m c).w3 (argG m c).w3 (argM m c).w3 (argV m c).w3, fun c => adamDelta (argW m c).w4 (argG m c).w4 (argM m c).w4 (argV m c).w4, fun c => adamDelta (argW m c).w5 (argG m c).w5 (argM m c).w5 (argV m c).w5,
   fun c => adamDelta (argW m c).w6 (argG m c).w6 (argM m c).w6 (argV m c).w6, fun c => adamDelta (argW m c).w7 (argG m c).w7 (argM m c).w7 (argV m c).w7, fun c => adamDelta (argW m c).w8 (argG m c).w8 (argM m c).w8 (argV m c).w8,
   fun c => adamM (argG m c).w0 (argM m c).w0, fun c => adamM (argG m c).w1 (argM m c).w1, fun c => adamM (argG m c).w2 (argM m c).w2,
   fun c => adamM (argG m c).w3 (argM m c).w3, fun c => adamM (argG m c).w4 (argM m c).w4, fun c => adamM (argG m c).w5 (argM m c).w5,
   fun c => adamM (argG m c).w6 (argM m c).w6, fun c => adamM (argG m c).w7 (argM m c).w7, fun c => adamM (argG m c).w8 (argM m c).w8,
   fun c => adamV (argG m c).w0 (argV m c).w0, fun c => adamV (argG m c).w1 (argV m c).w1, fun c => adamV (argG m c).w2 (argV m c).w2,
   fun c => adamV (argG m c).w3 (argV m c).w3, fun c => adamV (argG m c).w4 (argV m c).w4, fun c => adamV (argG m c).w5 (argV m c).w5,
   fun c => adamV (argG m c).w6 (argV m c).w6, fun c => adamV (argG m c).w7 (argV m c).w7, fun c => adamV (argG m c).w8 (argV m c).w8,
   (θ_run _ _ _).mono (fun _ h c => by
     obtain ⟨h0, h1, h2, h3, h4, h5, h6, h7, h8, h9, h10, h11, h12, h13, h14, h15, h16, h17, h18, h19, h20, h21, h22, h23, h24, h25, h26, hr⟩ := h c
     exact ⟨h0.trans (out_delta m c fits0), h1.trans (out_delta m c fits1), h2.trans (out_delta m c fits2),
       h3.trans (out_delta m c fits3), h4.trans (out_delta m c fits4), h5.trans (out_delta m c fits5),
       h6.trans (out_delta m c fits6), h7.trans (out_delta m c fits7), h8.trans (out_delta m c fits8),
       h9.trans (out_m m c fits0), h10.trans (out_m m c fits1), h11.trans (out_m m c fits2),
       h12.trans (out_m m c fits3), h13.trans (out_m m c fits4), h14.trans (out_m m c fits5),
       h15.trans (out_m m c fits6), h16.trans (out_m m c fits7), h17.trans (out_m m c fits8),
       h18.trans (out_v m c fits0), h19.trans (out_v m c fits1), h20.trans (out_v m c fits2),
       h21.trans (out_v m c fits3), h22.trans (out_v m c fits4), h23.trans (out_v m c fits5),
       h24.trans (out_v m c fits6), h25.trans (out_v m c fits7), h26.trans (out_v m c fits8), hr⟩) (Value.run m ρ),
   (θ_run _ _ _).mono (fun _ h c => by
     obtain ⟨h0, h1, h2, h3, h4, h5, h6, h7, h8, h9, h10, h11, h12, h13, h14, h15, h16, h17, h18, h19, h20, h21, h22, h23, h24, h25, h26, hr⟩ := h c
     obtain ⟨e0, e1, e2, e3, e4, e5, e6, e7, e8, e9, e10, e11, e12, e13, e14, e15, e16, e17, e18, e19, e20, e21, e22, e23, e24, e25, e26, e27, e28, e29, e30, e31, e32, e33, e34, e35⟩ := hag c
     exact ⟨h0.trans (ref_delta _ e0 e9 e18 e27), h1.trans (ref_delta _ e1 e10 e19 e28), h2.trans (ref_delta _ e2 e11 e20 e29),
       h3.trans (ref_delta _ e3 e12 e21 e30), h4.trans (ref_delta _ e4 e13 e22 e31), h5.trans (ref_delta _ e5 e14 e23 e32),
       h6.trans (ref_delta _ e6 e15 e24 e33), h7.trans (ref_delta _ e7 e16 e25 e34), h8.trans (ref_delta _ e8 e17 e26 e35),
       h9.trans (ref_m _ e9 e18), h10.trans (ref_m _ e10 e19), h11.trans (ref_m _ e11 e20),
       h12.trans (ref_m _ e12 e21), h13.trans (ref_m _ e13 e22), h14.trans (ref_m _ e14 e23),
       h15.trans (ref_m _ e15 e24), h16.trans (ref_m _ e16 e25), h17.trans (ref_m _ e17 e26),
       h18.trans (ref_v _ e9 e27), h19.trans (ref_v _ e10 e28), h20.trans (ref_v _ e11 e29),
       h21.trans (ref_v _ e12 e30), h22.trans (ref_v _ e13 e31), h23.trans (ref_v _ e14 e32),
       h24.trans (ref_v _ e15 e33), h25.trans (ref_v _ e16 e34), h26.trans (ref_v _ e17 e35), hr⟩) (Cert.AdamTinyRefIdeal.Value.run m' ρ')⟩

end Cert.AdamTinyIdeal.Rows
-- ==== Proof.LossTotal.lean ====
/-
  The sum of the devices' losses (`LossTotal`): each device takes the first entry of its own row, and one all-reduce over the
  eight devices adds the eight numbers.
  `run` is the whole run: two host operations (the slice and the reshape), then the all-reduce, from any memory with every
  semaphore counter at zero. Each device's unscoped buffers end at `last`, what the all-reduce makes of what the two operations
  made, and every counter is at zero again. `frame` reads the argument and the counters off it, `algebraic` the result: the
  all-reduce folds the eight members' numbers from the left in the order of the devices, which in exact arithmetic is their sum,
  and the reference sums the first column of the eight rows.
-/
module

public import proofs.«01_k».proof.Defs
public import proofs.«01_k».proof.Proof.Gen.LossTotal
public import proofs.«01_k».proof.Proof.Gen.LossTotal.Launch
public import proofs.«01_k».proof.Proof.Gen.LossTotalIdeal
public import proofs.«01_k».proof.Proof.Gen.LossTotalIdeal.Launch
public import proofs.«01_k».proof.Proof.Gen.LossTotalRefIdeal.Run
public import Idealize.ShloMosaic.Lib.Pipeline.Frame
public import Idealize.ShloMosaic.Lib.StableHlo.CollectiveRules
public import Idealize.ShloMosaic.Lib.Pipeline.Value
public import Idealize.ShloMosaic.Lib.Layout
public import Idealize.ShloMosaic.PureOps.Ideal.Laws
public import Idealize.ShloMosaic.Lib.Tactic

@[expose] public section

noncomputable section

namespace Cert.LossTotalProof

open Cert.LossTotalIdeal Cert.LossTotalIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The run -/

/-- The pipeline library's component (no kernel is launched, so nothing lives in it) beside the all-reduce's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

abbrev adm : (p : Fin 0) → (pcfgs (F := F) p).Adm := fun p => p.elim0
def pdats : (p : Fin 0) → (c : Dev nD) → Pipeline.Dat τ (Elt F) ℕ ℕ UU ℕ (Pipeline.pin (pcfgs (F := F)) adm p) c := fun p => p.elim0

variable (m : (ℓ : Loc nD τ sig) → Buf (Elt F) ℓ)

/-- Device `c`'s buffers at launch, when it reaches the all-reduce, and after it. -/
abbrev first (c : Dev nD) : Valuation τ sig (Elt F) := fun b => m ((c : Dev nD), b)
abbrev mid (c : Dev nD) : Valuation τ sig (Elt F) := StableHlo.after (hostOps0 (F := F)) (first m c)
abbrev last (c : Dev nD) : Valuation τ sig (Elt F) := (ar0 (F := F)).after₀ (mid m) c

/-- The invariants of the all-reduce's cells. -/
abbrev invs : sProp 𝕄 := iprop(∃ κ, (AllReduce.Dat.once (ar0 (F := F)) (mid m)).cellInvs (Sites.E0 EC) κ)

/-- The two host operations, over the unscoped buffers. -/
def seg₀ : Pipeline.HostSeg (Ix := ℕ) (Name := ℕ) (U := UU) (Lvl := ℕ) (pcfgs (F := F)) defs₀ Variants.none Sites.L Sites.lv :=
  Pipeline.HostSeg.ofOps (pcfgs (F := F)) defs₀ Variants.none Sites.L Sites.lv (Pipeline.ucRefs τ sig) hostOps0
    (fun op hop => Pipeline.sub_ucRefs op (List.forall_iff_forall_mem.mp hostOps0_sub op hop)) (List.forall_iff_forall_mem.mp (StableHlo.forall_fresh_of_map rfl)) (first m)
    (fun c => Sites.Es EC (mid m) 0 c)

/-- The all-reduce. -/
def seg₁ : Pipeline.HostSeg (Ix := ℕ) (Name := ℕ) (U := UU) (Lvl := ℕ) (pcfgs (F := F)) defs₀ Variants.none Sites.L Sites.lv :=
  Sites.seg0 EC Variants.none (mid m) (Sites.Rest0 (mid m) fun _ => invs m)

/-- @main as the list of the two. -/
def segs : List (Pipeline.Seg (pcfgs (F := F)) adm (pdats (F := F)) 0 defs₀ Variants.none Sites.L Sites.lv) := [.host (seg₀ m), .host (seg₁ m)]

theorem main_eq (c : Dev nD) : main (F := F) c = Pipeline.Seg.run (segs m) :=
  main_segs adm pdats 0 Variants.none Sites.L Sites.lv (seg₀ m) (seg₁ m) rfl rfl c

/-- What a device holds at the end besides what it owes: its unscoped buffers, and the all-reduce's cells past their last round. -/
abbrev Tₙ (c : Dev nD) : sProp 𝕄 :=
  iprop(StableHlo.held (c : Thread nD τ) (Pipeline.ucRefs τ sig) (last m c) ∗ (invs m ∗ Sites.Ghost0 (F := F) EC c))

/-- The cells' invariants are among what rides to the all-reduce, and stay. -/
theorem seg₀_seg₁ (c : Dev nD) : (seg₀ m).post c ⊢ (seg₁ (F := F) m).pre c := by
  refine .trans ?_ (Sites.pre0 EC Variants.none (mid m) (fun _ => invs m) c)
  show iprop(StableHlo.held (c : Thread nD τ) (Pipeline.ucRefs τ sig) (mid m c) ∗ Sites.Es EC (mid m) 0 c) ⊢ _
  rw [Sites.Es_0]
  iintro ⟨Hh, HO, Hp, Hr⟩
  ihave #Hi := (show Sites.rides0 EC (mid m) c ⊢ invs m from by unfold Sites.rides0 AllReduce.Dat.rides; iintro ⟨Hi, -⟩; iexact Hi) $$ Hr
  isplitl [Hh]; · iexact Hh
  isplitl [HO Hp Hr]
  · isplitl [HO]; · iexact HO
    isplitl [Hp] <;> iassumption
  iexact Hi

theorem seg₁_Tₙ (c : Dev nD) : (seg₁ m).post c ⊢ iprop(Tₙ m c ∗ ∃ W, owes (c : Thread nD τ) (0 : CellTallies nD τ sig ℕ) W) := by
  refine .trans (Sites.post0 EC Variants.none (mid m) (fun _ => invs m) c) ?_
  iintro ⟨Hh, HE, Hg, Hi⟩
  isplitr [HE]
  · isplitl [Hh]; · iexact Hh
    isplitl [Hi] <;> iassumption
  iapply (Sites.hE_last EC (mid m) c); iexact HE

variable (ρ : Dev nD → PrngReg)

/-- What the launch deals makes every device's first state: its unscoped buffers as launched beside what rides to the all-reduce. -/
theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (mid m) c)) ∗ levAts Sites.L Sites.lv)
      ⊢ (|={Set.univ}=> bigSep Finset.univ (seg₀ m).pre : sProp 𝕄) := by
  iintro ⟨H, HL⟩
  ihave H' := (show _ ⊢ iprop((bigSep Finset.univ fun c : Dev nD => unscopedBufs c (fun b => m ((c : Thread nD τ).loc b)))
        ∗ bigSep Finset.univ fun c : Dev nD => iprop(unscopedSems0 c ∗ owes (c : Thread nD τ) (Sites.O0 (F := F) c) ∅
          ∗ Pipeline.launchCred (Sites.O0 (F := F)) c ∗ prngReg c (ρ c) ∗ Sites.G EC (mid m) c))
      from by rw [← bigSep_sep']) $$ H
  icases H' with ⟨Hb, Hr⟩
  imod (Sites.hE0 EC (mid m) ρ) $$ [Hr HL] with HE
  · isplitl [Hr] <;> iassumption
  imodintro
  iapply (show iprop((bigSep Finset.univ fun c : Dev nD => unscopedBufs c (fun b => m ((c : Thread nD τ).loc b))) ∗ bigSep Finset.univ (Sites.Es EC (mid m) 0))
      ⊢ bigSep Finset.univ (seg₀ m).pre from by
    rw [← bigSep_sep']
    exact bigSep_mono fun c _ => sep_mono_left (Entails.of_eq (Pipeline.unscopedBufs_held (Ix := ℕ) (Name := ℕ) (U := UU) (Lvl := ℕ) c (first m c))))
  isplitl [Hb] <;> iassumption

set_option backward.isDefEq.respectTransparency.types false in
/-- From any memory with every counter at zero, every weakly fair execution on the eight devices terminates, each device's
    unscoped buffers at `last` and every counter at zero. -/
theorem run : θ_run defs (onTc (τ := τ) (main (F := F))) ⟨m, fun _ => 0, ρ⟩
    (fun r => (∀ (c : Dev nD) (b : Ref sig .tc), b.isScoped = false → r.2.mem ((c : Thread nD τ).loc b) = last m c (Proc.devRef .tc b)) ∧ r.2.sem = fun _ => 0) :=
  Pipeline.θ_run_regions_kit_sems (pcfgs (F := F)) adm pdats 0 cellOf_inj EP defs₀ Variants.none Sites.L Sites.lv m ρ main (segs m)
    (fun c Q => by rw [main_eq m c])
    (by simp only [segs, Pipeline.Seg.pipes_host, Pipeline.Seg.pipes_nil]; exact List.nodup_nil)
    (O₀ := Sites.O0 (F := F)) (hL := Sites.hL) (G := Sites.G EC (mid m))
    (u₀ := (initOf (Pipeline.cells (Pipeline.pin (pcfgs (F := F)) adm) cellOf_inj) (Pipeline.launchToks (Pipeline.pin (pcfgs (F := F)) adm) cellOf_inj),
      Sites.uC (U := UU) (mid m)))
    (hu₀ := by
      iintro Hu
      ihave H := (ownU_pair _ _) $$ Hu
      icases H with ⟨HP, HX⟩
      imodintro
      isplitl [HP]; · iexact HP
      rw [Sites.bigSep_G]; iexact HX)
    (T₀ := (seg₀ m).pre) (Tₙ := Tₙ m)
    (hch := ⟨fun _ => .rfl, seg₀_seg₁ m, seg₁_Tₙ m⟩)
    (hinit := init m ρ)
    (QY := fun c s => (∀ b : Ref sig .tc, b.isScoped = false → s.mem ((c : Thread nD τ).loc b) = last m c (Proc.devRef .tc b))
      ∧ (s.sem ((ar0 (F := F)).barrierCell c) = 0 ∧ s.sem ((ar0 (F := F)).recvCell c) = 0 ∧ s.sem ((ar0 (F := F)).sendCell c) = 0))
    (hfin := fun c s' => by
      refine Laws.pure_elim _ ((sep_mono_left sep_elim_left).trans (sep_comm.1.trans (SI_pointsTo_bufs_agree (qs := fun _ => fullShare) (Pipeline.ucRefs τ sig)))) fun h => ?_
      iintro ⟨⟨-, He⟩, HSI⟩
      imod ((AllReduce.Dat.once (ar0 (F := F)) (mid m)).ghostAfter_read (Sites.E0 EC) c (k := 0) le_rfl s') $$ [He HSI] with ⟨%hz, HSI⟩
      · isplitl [He] <;> iassumption
      imodintro
      isplitr
      · ipureintro
        exact ⟨fun b hb => h _ (Finset.mem_filter.mpr ⟨StableHlo.devRef_mem_tcRefs b, fun h' => Bool.false_ne_true (hb.symm.trans h')⟩), hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- The argument is neither the all-reduce's result nor one of its slots. -/
theorem arg_off : (Proc.devRef .tc main_arg0 : DevRef τ sig) ∉ (ar0 (F := F)).foldBufs := fun h => by
  rcases Finset.mem_insert.mp h with h | h
  · exact absurd (Proc.devRef_injective _ h) (by decide : main_arg0 ≠ main_v3)
  · obtain ⟨j, hj⟩ := (ar0 (F := F)).mem_stageRefs.mp h
    exact absurd (Proc.devRef_injective _ hj) ((by decide : ∀ j : Fin 8, main_arg0 ≠ ar0_stage j) j)

/-- No operation and no slot of the all-reduce is the argument: it ends as launched. -/
theorem last_arg (c : Dev nD) : last m c (Proc.devRef .tc main_arg0) = m ((c : Thread nD τ).loc main_arg0) := by
  refine ((ar0 (F := F)).after₀_of_notMem (mid m) c (b := Proc.devRef .tc main_arg0) arg_off).trans ?_
  after_results

/-- The result is the left fold of the eight members' first entries. -/
theorem last_result (c : Dev nD) : last m c (Proc.devRef .tc main_v3)
    = (ar0 (F := F)).foldGroup fun j => mid m ((ar0 (F := F)).peer c j) (Proc.devRef .tc main_v2) :=
  (ar0 (F := F)).after₀_result (mid m) c

/-! ## The claims -/

/-- The run, read at the argument and the counters. -/
theorem frame (m : (ℓ : Loc nD τ sig) → Buf (Elt F) ℓ) (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)) ∧ r.2.sem = fun _ => 0) :=
  (θ_run defs _ _).mono (fun _ h => ⟨fun c => (h.1 c main_arg0 rfl).trans (last_arg m c), h.2⟩) (run m ρ)

/-- The frame claim of the program. -/
theorem quiescent_ideal : Cert.quiescent_LossTotalIdeal := fun m ρ _ => frame m ρ

/-- The program before idealizing is the same text, so its run is this one. -/
theorem quiescent_bits : Cert.quiescent_LossTotal := fun m ρ _ => frame (F := Bits) m ρ

/-- The reference terminates with its argument kept; it has no semaphore. -/
theorem quiescent_reference : Cert.quiescent_LossTotalRefIdeal := fun m ρ _ =>
  (θ_run _ _ _).mono (fun r h => ⟨fun c => (h c).2, Idealize.ShloMosaic.sem_eq_zero_of_no_sems (by decide) r.2⟩) (Cert.LossTotalRefIdeal.Value.run m ρ)

/-- The first place of a row. -/
def lane0 : S1x128.Idx := fun _ => ⟨0, by rename_i a; revert a; decide⟩

/-- The number that device `d` gives: the first entry of its row. -/
theorem mid_operand (m : (ℓ : Loc nD τ sig) → Buf (Elt F) ℓ) (d : Dev nD) (i : S_.Idx) :
    mid m d (Proc.devRef .tc main_v2) i = m ((d : Thread nD τ).loc main_arg0) lane0 := by
  unfold mid
  after_results
  show shapeCast S_ (extractStridedSlice S1x1 ![0, 0] (m ((d : Thread nD τ).loc main_arg0)) slices_S1x128_S1x1_0_0) shapeCasts_S1x1_S_ i = _
  unfold shapeCast extractStridedSlice
  congr 1
  funext a
  apply Fin.ext
  fin_cases a
  · exact (Nat.zero_add _).trans (Nat.lt_one_iff.mp (Fin.isLt _))
  · exact (Nat.zero_add _).trans (Nat.lt_one_iff.mp (Fin.isLt _))

/-- Every device's group is all the eight, in their order. -/
theorem peer_eq : ∀ (c : Dev nD) (j : Fin 8), (ar0 (F := F)).peer c j = j := fun c j => by fin_cases c <;> fin_cases j <;> rfl

/-- In exact arithmetic the result is the sum of the eight numbers. -/
theorem result_eq (m : (ℓ : Loc nD τ sig) → Buf (Elt Ideal) ℓ) (c : Dev nD) (i : S_.Idx) :
    last m c (Proc.devRef .tc main_v3) i = (∑ j : Fin 8, mid m j (Proc.devRef .tc main_v2) i : EReal) := by
  rw [last_result]
  unfold AllReduce.Cfg.foldGroup
  simp only [peer_eq]
  rw [Fin.sum_univ_eight]
  rfl

section

open Cert.LossTotalRefIdeal (S8 S8x1 S8x128)

/-- The first place of row `j`. -/
def col0 (j : Fin 8) : S8x128.Idx := Shape.pair (j : Fin 8) (0 : Fin 128)

/-- The reference: the sum of the first column of the eight rows. -/
theorem ref_eq (x : S8x128.Idx → EReal) (i : Cert.LossTotalRefIdeal.S_.Idx) :
    Host.reduceAdd (F := Ideal) (φ := .f32) (shapeCast S8 (extractStridedSlice S8x1 ![0, 0] x Cert.LossTotalRefIdeal.Gen.slices_S8x128_S8x1_0_0)
        Cert.LossTotalRefIdeal.Gen.shapeCasts_S8x1_S8) (constant (F := Ideal) Cert.LossTotalRefIdeal.S_ .f32 0x00000000#32)
        Cert.LossTotalRefIdeal.Gen.reducesTo_S8_S_d0 Cert.LossTotalRefIdeal.Gen.h_S_ i
      = ∑ j : Fin 8, x (col0 j) := by
  refine (Ideal.hostReduceAdd_total Cert.LossTotalRefIdeal.Gen.reducesTo_S8_S_d0 (fun b => b.elim0) _ _ i).trans ?_
  rw [show constant (F := Ideal) Cert.LossTotalRefIdeal.S_ .f32 0x00000000#32 (Shape.Idx.first Cert.LossTotalRefIdeal.Gen.h_S_) = (0 : EReal) by
    simp [constant, FloatOps.ofBits, Ideal.ofBits, Ideal.ieee], zero_add]
  refine Fintype.sum_equiv S8.rowMajor _ (fun j : Fin 8 => x (col0 j)) fun k => ?_
  refine (shapeCast_apply _ _ k (Shape.pair (S8.rowMajor k : Fin 8) (0 : Fin 1)) ?_).trans ?_
  · rw [Shape.rowMajor_val_two]
    exact (Nat.add_zero _).trans (Nat.mul_one _)
  · unfold extractStridedSlice
    congr 1
    funext a
    apply Fin.ext
    fin_cases a
    · exact Nat.zero_add _
    · rfl

end

/-- Row `j`'s first place on device `j` is the first column's place `j` of the whole array. -/
theorem block_eq (x : Cert.LossTotalRefIdeal.S8x128.Idx → EReal) (j : Fin 8) :
    (Layout.block ⟨2, ![1, 128]⟩ ⟨2, ![8, 128]⟩ 0 8 j x) lane0 = x (col0 j) := by
  rw [Layout.block_apply]
  congr 1
  funext a
  apply Fin.ext
  fin_cases a
  · exact (Nat.add_zero _).trans (Nat.mul_one _)
  · rfl

/-- The eight numbers add up to the sum of the first column. -/
theorem sum_eq (m : (ℓ : Loc nD τ sig) → Buf (Elt Ideal) ℓ) (x : Cert.LossTotalRefIdeal.S8x128.Idx → EReal)
    (hx : ∀ c : Dev nD, m ((c : Thread nD τ).loc main_arg0) = Layout.block ⟨2, ![1, 128]⟩ ⟨2, ![8, 128]⟩ 0 8 c x) (i : S_.Idx) :
    (∑ j : Fin 8, mid m j (Proc.devRef .tc main_v2) i : EReal) = ∑ j : Fin 8, x (col0 j) :=
  Fintype.sum_congr _ _ fun j => (mid_operand m j i).trans ((congrFun (hx j) lane0).trans (block_eq x j))

/-- Each device's result is the reference's sum. -/
theorem algebraic : Cert.algebraic_LossTotalIdeal_LossTotalRefIdeal := fun m ρ m' ρ' _ hx =>
  ⟨_, (θ_run _ _ _).mono (fun _ h c => ⟨(h.1 c main_v3 rfl).trans (funext fun i => by
      exact (result_eq m c i).trans ((sum_eq m _ hx i).trans (ref_eq _ i).symm)),
    (h.1 c main_arg0 rfl).trans (last_arg m c)⟩) (run m ρ),
   (θ_run _ _ _).mono (fun _ h => h 0) (Cert.LossTotalRefIdeal.Value.run m' ρ')⟩

end Cert.LossTotalProof

end
-- ==== Proof.RedMath.lean ====
module

public import Idealize.ShloMosaic.Lib.StableHlo
public import Idealize.ShloMosaic.Lib.IdealHost
public import Idealize.ShloMosaic.Lib.Pointwise
public import Idealize.ShloMosaic.PureOps

@[expose] public section

noncomputable section

/-! # The sum of a device's share of a weight gradient: the table of its place, and four addends in any order -/

namespace Cert.Red

open Idealize.ShloMosaic

/-- The two words of a device's place: which half of a chip's share it sums, and which chip it is on. -/
def words (h : Fin 2) (k : Fin 4) : (⟨1, ![2]⟩ : Shape).Idx → BitVec 32 := fun x =>
  if (x 0).val = 0 then BitVec.ofNat 32 h.val else BitVec.ofNat 32 k.val

/-- A word from 0 up to `n` is the word of a number below `n`. -/
theorem word_of (a : BitVec 32) (n : ℕ) (hn : n < 2 ^ 31) (h0 : IntOp.cmpi .sge a 0#32 = 1#1) (h1 : IntOp.cmpi .slt a (BitVec.ofNat 32 n) = 1#1) :
    ∃ k : Fin n, a = BitVec.ofNat 32 k.val := by
  have ob (p : Bool) : (BitVec.ofBool p = 1#1) ↔ p = true := by cases p <;> decide
  simp only [IntOp.cmpi, ob, BitVec.sle, BitVec.slt, decide_eq_true_eq, BitVec.toInt, BitVec.toNat_ofNat] at h0 h1
  have hb := a.isLt
  have hm : n % 2 ^ 32 = n := Nat.mod_eq_of_lt (by omega)
  rw [hm] at h1
  have : a.toNat < n := by
    simp at h0
    split_ifs at h0 h1 <;> omega
  exact ⟨⟨a.toNat, this⟩, by simp⟩

/-- A table of two words, the first below 2 and the second below 4, is a device's place. -/
theorem words_of (t : (⟨1, ![2]⟩ : Shape).Idx → BitVec 32)
    (h0 : IntOp.cmpi .sge (t (ix1 0)) 0#32 = 1#1) (h1 : IntOp.cmpi .slt (t (ix1 0)) 2#32 = 1#1)
    (k0 : IntOp.cmpi .sge (t (ix1 1)) 0#32 = 1#1) (k1 : IntOp.cmpi .slt (t (ix1 1)) 4#32 = 1#1) :
    ∃ h k, t = words h k := by
  obtain ⟨h, hh⟩ := word_of _ 2 (by decide) h0 h1
  obtain ⟨k, hk⟩ := word_of _ 4 (by decide) k0 k1
  refine ⟨h, k, funext fun x => ?_⟩
  have hx : x = ix1 (x 0) := by funext a; obtain rfl : a = 0 := Subsingleton.elim _ _; rfl
  rcases x with x
  unfold words
  have hlt : (x 0).val < 2 := (x 0).isLt
  split_ifs with hz
  · rw [← hh, hx]; congr 1; congr 1; exact Fin.ext hz
  · rw [← hk, hx]; congr 1; congr 1; exact Fin.ext (by show (x 0).val = 1; omega)

theorem sel_half0 {α : Type} (h : Fin 2) (k : Fin 4) (x y : α) :
    Scalar.select (IntOp.cmpi .eq (words h k (ix1 0)) 0#32) x y = if h.val = 0 then x else y := by
  fin_cases h <;> rfl

theorem sel_half1 {α : Type} (h : Fin 2) (k : Fin 4) (x y : α) :
    Scalar.select (IntOp.cmpi .eq (words h k (ix1 0)) 1#32) x y = if h.val = 1 then x else y := by
  fin_cases h <;> rfl

theorem sel_chip0 {α : Type} (h : Fin 2) (k : Fin 4) (x y : α) :
    Scalar.select (IntOp.cmpi .eq (words h k (ix1 1)) 0#32) x y = if k.val = 0 then x else y := by
  fin_cases k <;> rfl

theorem sel_chip1 {α : Type} (h : Fin 2) (k : Fin 4) (x y : α) :
    Scalar.select (IntOp.cmpi .eq (words h k (ix1 1)) 1#32) x y = if k.val = 1 then x else y := by
  fin_cases k <;> rfl

theorem sel_chip2 {α : Type} (h : Fin 2) (k : Fin 4) (x y : α) :
    Scalar.select (IntOp.cmpi .eq (words h k (ix1 1)) 2#32) x y = if k.val = 2 then x else y := by
  fin_cases k <;> rfl

theorem sel_chip3 {α : Type} (h : Fin 2) (k : Fin 4) (x y : α) :
    Scalar.select (IntOp.cmpi .eq (words h k (ix1 1)) 3#32) x y = if k.val = 3 then x else y := by
  fin_cases k <;> rfl

/-- Four addends, the one of chip `k` its own, are its own and the other three's in the order in which they follow it. -/
theorem pick (k : Fin 4) (s l : Fin 4 → EReal) :
    (if k.val = 0 then s 0 else l 0) + (if k.val = 1 then s 1 else l 1) + (if k.val = 2 then s 2 else l 2) + (if k.val = 3 then s 3 else l 3)
      = s k + l (k + 1) + l (k + 2) + l (k + 3) := by
  fin_cases k
  · rfl
  · change l 0 + s 1 + l 2 + l 3 = s 1 + l 2 + l 3 + l 0
    ac_rfl
  · change l 0 + l 1 + s 2 + l 3 = s 2 + l 3 + l 0 + l 1
    ac_rfl
  · change l 0 + l 1 + l 2 + s 3 = s 3 + l 0 + l 1 + l 2
    ac_rfl

theorem andi_one (a b : BitVec 1) : IntOp.andi a b = 1#1 ↔ a = 1#1 ∧ b = 1#1 := by revert a b; decide

end Cert.Red

end
-- ==== Proof.RedPre.lean ====
module

public import proofs.«01_k».proof.Defs
public import proofs.«01_k».proof.Proof.Gen.Pre_device_in
public import proofs.«01_k».proof.Proof.Gen.Pre_device_glu
public import proofs.«01_k».proof.Proof.Gen.Pre_device_ffn
public import proofs.«01_k».proof.Proof.Gen.Pre_device_down
public import proofs.«01_k».proof.Proof.Gen.RedIn.Frame
public import proofs.«01_k».proof.Proof.Gen.RedInIdeal.Frame
public import proofs.«01_k».proof.Proof.Gen.RedGlu.Frame
public import proofs.«01_k».proof.Proof.Gen.RedGluIdeal.Frame
public import proofs.«01_k».proof.Proof.Gen.RedOut.Frame
public import proofs.«01_k».proof.Proof.Gen.RedOutIdeal.Frame
public import proofs.«01_k».proof.Proof.Gen.RedGate.Frame
public import proofs.«01_k».proof.Proof.Gen.RedGateIdeal.Frame
public import proofs.«01_k».proof.Proof.Gen.RedUp.Frame
public import proofs.«01_k».proof.Proof.Gen.RedUpIdeal.Frame
public import proofs.«01_k».proof.Proof.Gen.RedDown.Frame
public import proofs.«01_k».proof.Proof.Gen.RedDownIdeal.Frame
public import proofs.«01_k».proof.Proof.RedMath

@[expose] public section

set_option maxRecDepth 16384
set_option maxHeartbeats 4000000

noncomputable section

/-! # The calls that add up a share are stated for a device's place: what the precondition says of their table -/

namespace Cert.Red

open Idealize.ShloMosaic

variable {F : FTy → Type} [FloatOps F]

theorem table_in (a0 : IVec Cert.Pre_device_in.S2 32) (a1 : FVec F Cert.Pre_device_in.S2048x12288 .f32) (a2 : FVec F Cert.Pre_device_in.S2048x12288 .bf16)
    (a3 : FVec F Cert.Pre_device_in.S4x1024x3072 .bf16) (a4 : FVec F Cert.Pre_device_in.S2x2048x3072 .f32)
    (h : Cert.Pre_device_in.fn a0 a1 a2 a3 a4 = fun _ => 1#1) : ∃ h k, a0 = words h k := by
  have h := congrFun h Idealize.ShloMosaic.ix0
  have e0 : ∀ j, shapeCast Cert.Pre_device_in.S_ (extractStridedSlice Cert.Pre_device_in.S1 ![0] a0 Cert.Pre_device_in.Facts.slices_S2_S1_0) Cert.Pre_device_in.Facts.shapeCasts_S1_S_ j = a0 (ix1 0) := fun j => by pointwise
  have e1 : ∀ j, shapeCast Cert.Pre_device_in.S_ (extractStridedSlice Cert.Pre_device_in.S1 ![1] a0 Cert.Pre_device_in.Facts.slices_S2_S1_1) Cert.Pre_device_in.Facts.shapeCasts_S1_S_ j = a0 (ix1 1) := fun j => by pointwise
  simp only [Cert.Pre_device_in.fn, constantI, cmpi, andi, andi_one, e0, e1] at h
  exact words_of a0 h.1.1.1 h.1.1.2 h.1.2 h.2

theorem table_glu (a0 : IVec Cert.Pre_device_glu.S2 32) (a1 : FVec F Cert.Pre_device_glu.S2048x2048 .f32) (a2 : FVec F Cert.Pre_device_glu.S2048x2048 .bf16)
    (a3 : FVec F Cert.Pre_device_glu.S4x256x2048 .bf16) (a4 : FVec F Cert.Pre_device_glu.S2x512x2048 .f32)
    (h : Cert.Pre_device_glu.fn a0 a1 a2 a3 a4 = fun _ => 1#1) : ∃ h k, a0 = words h k := by
  have h := congrFun h Idealize.ShloMosaic.ix0
  have e0 : ∀ j, shapeCast Cert.Pre_device_glu.S_ (extractStridedSlice Cert.Pre_device_glu.S1 ![0] a0 Cert.Pre_device_glu.Facts.slices_S2_S1_0) Cert.Pre_device_glu.Facts.shapeCasts_S1_S_ j = a0 (ix1 0) := fun j => by pointwise
  have e1 : ∀ j, shapeCast Cert.Pre_device_glu.S_ (extractStridedSlice Cert.Pre_device_glu.S1 ![1] a0 Cert.Pre_device_glu.Facts.slices_S2_S1_1) Cert.Pre_device_glu.Facts.shapeCasts_S1_S_ j = a0 (ix1 1) := fun j => by pointwise
  simp only [Cert.Pre_device_glu.fn, constantI, cmpi, andi, andi_one, e0, e1] at h
  exact words_of a0 h.1.1.1 h.1.1.2 h.1.2 h.2

theorem table_ffn (a0 : IVec Cert.Pre_device_ffn.S2 32) (a1 : FVec F Cert.Pre_device_ffn.S2048x11264 .f32) (a2 : FVec F Cert.Pre_device_ffn.S2048x11264 .bf16)
    (a3 : FVec F Cert.Pre_device_ffn.S4x1024x1408 .bf16) (a4 : FVec F Cert.Pre_device_ffn.S2x2048x1408 .f32)
    (h : Cert.Pre_device_ffn.fn a0 a1 a2 a3 a4 = fun _ => 1#1) : ∃ h k, a0 = words h k := by
  have h := congrFun h Idealize.ShloMosaic.ix0
  have e0 : ∀ j, shapeCast Cert.Pre_device_ffn.S_ (extractStridedSlice Cert.Pre_device_ffn.S1 ![0] a0 Cert.Pre_device_ffn.Facts.slices_S2_S1_0) Cert.Pre_device_ffn.Facts.shapeCasts_S1_S_ j = a0 (ix1 0) := fun j => by pointwise
  have e1 : ∀ j, shapeCast Cert.Pre_device_ffn.S_ (extractStridedSlice Cert.Pre_device_ffn.S1 ![1] a0 Cert.Pre_device_ffn.Facts.slices_S2_S1_1) Cert.Pre_device_ffn.Facts.shapeCasts_S1_S_ j = a0 (ix1 1) := fun j => by pointwise
  simp only [Cert.Pre_device_ffn.fn, constantI, cmpi, andi, andi_one, e0, e1] at h
  exact words_of a0 h.1.1.1 h.1.1.2 h.1.2 h.2

theorem table_down (a0 : IVec Cert.Pre_device_down.S2 32) (a1 : FVec F Cert.Pre_device_down.S5632x2048 .f32) (a2 : FVec F Cert.Pre_device_down.S5632x2048 .bf16)
    (a3 : FVec F Cert.Pre_device_down.S4x704x2048 .bf16) (a4 : FVec F Cert.Pre_device_down.S2x1408x2048 .f32)
    (h : Cert.Pre_device_down.fn a0 a1 a2 a3 a4 = fun _ => 1#1) : ∃ h k, a0 = words h k := by
  have h := congrFun h Idealize.ShloMosaic.ix0
  have e0 : ∀ j, shapeCast Cert.Pre_device_down.S_ (extractStridedSlice Cert.Pre_device_down.S1 ![0] a0 Cert.Pre_device_down.Facts.slices_S2_S1_0) Cert.Pre_device_down.Facts.shapeCasts_S1_S_ j = a0 (ix1 0) := fun j => by pointwise
  have e1 : ∀ j, shapeCast Cert.Pre_device_down.S_ (extractStridedSlice Cert.Pre_device_down.S1 ![1] a0 Cert.Pre_device_down.Facts.slices_S2_S1_1) Cert.Pre_device_down.Facts.shapeCasts_S1_S_ j = a0 (ix1 1) := fun j => by pointwise
  simp only [Cert.Pre_device_down.fn, constantI, cmpi, andi, andi_one, e0, e1] at h
  exact words_of a0 h.1.1.1 h.1.1.2 h.1.2 h.2

end Cert.Red

namespace Cert.RedIn.Red

open Cert.RedIn Cert.RedIn.Gen Idealize.ShloMosaic Idealize.ShloMosaic.TcCoe Idealize.SL.Sem Cert.Red

/-- A device's place as the table the call reads. -/
def place (h : Fin 2) (k : Fin 4) : pre0.Contents (Elt Bits) := fun | 0 => words h k | ⟨_ + 1, h⟩ => absurd h (by simp)

theorem place_ok : ∀ h k, ok0 (F := Bits) (place h k) := by decide +kernel

/-- Under the precondition the table holds a device's place. -/
theorem placed (m : (ℓ : Loc nD τ sig) → Buf (Elt Bits) ℓ) (hp : Cert.Pre_RedIn m) : ∃ h k, tbl m = place h k ∧ m ((0 : Dev nD).tc.loc main_arg0) = words h k := by
  obtain ⟨h, k, e⟩ := table_in _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Bits) ℓ) (hp : Cert.Pre_RedIn m) : Ok m := by
  obtain ⟨h, k, e, -⟩ := placed m hp
  unfold Ok
  rw [e]
  exact place_ok h k

end Cert.RedIn.Red

namespace Cert.RedInIdeal.Red

open Cert.RedInIdeal Cert.RedInIdeal.Gen Idealize.ShloMosaic Idealize.ShloMosaic.TcCoe Idealize.SL.Sem Cert.Red

/-- A device's place as the table the call reads. -/
def place (h : Fin 2) (k : Fin 4) : pre0.Contents (Elt Ideal) := fun | 0 => words h k | ⟨_ + 1, h⟩ => absurd h (by simp)

theorem place_ok : ∀ h k, ok0 (F := Ideal) (place h k) := by decide +kernel

/-- Under the precondition the table holds a device's place. -/
theorem placed (m : (ℓ : Loc nD τ sig) → Buf (Elt Ideal) ℓ) (hp : Cert.Pre_RedInIdeal m) : ∃ h k, tbl m = place h k ∧ m ((0 : Dev nD).tc.loc main_arg0) = words h k := by
  obtain ⟨h, k, e⟩ := table_in _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Ideal) ℓ) (hp : Cert.Pre_RedInIdeal m) : Ok m := by
  obtain ⟨h, k, e, -⟩ := placed m hp
  unfold Ok
  rw [e]
  exact place_ok h k

end Cert.RedInIdeal.Red

namespace Cert.RedGlu.Red

open Cert.RedGlu Cert.RedGlu.Gen Idealize.ShloMosaic Idealize.ShloMosaic.TcCoe Idealize.SL.Sem Cert.Red

/-- A device's place as the table the call reads. -/
def place (h : Fin 2) (k : Fin 4) : pre0.Contents (Elt Bits) := fun | 0 => words h k | ⟨_ + 1, h⟩ => absurd h (by simp)

theorem place_ok : ∀ h k, ok0 (F := Bits) (place h k) := by decide +kernel

/-- Under the precondition the table holds a device's place. -/
theorem placed (m : (ℓ : Loc nD τ sig) → Buf (Elt Bits) ℓ) (hp : Cert.Pre_RedGlu m) : ∃ h k, tbl m = place h k ∧ m ((0 : Dev nD).tc.loc main_arg0) = words h k := by
  obtain ⟨h, k, e⟩ := table_glu _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Bits) ℓ) (hp : Cert.Pre_RedGlu m) : Ok m := by
  obtain ⟨h, k, e, -⟩ := placed m hp
  unfold Ok
  rw [e]
  exact place_ok h k

end Cert.RedGlu.Red

namespace Cert.RedGluIdeal.Red

open Cert.RedGluIdeal Cert.RedGluIdeal.Gen Idealize.ShloMosaic Idealize.ShloMosaic.TcCoe Idealize.SL.Sem Cert.Red

/-- A device's place as the table the call reads. -/
def place (h : Fin 2) (k : Fin 4) : pre0.Contents (Elt Ideal) := fun | 0 => words h k | ⟨_ + 1, h⟩ => absurd h (by simp)

theorem place_ok : ∀ h k, ok0 (F := Ideal) (place h k) := by decide +kernel

/-- Under the precondition the table holds a device's place. -/
theorem placed (m : (ℓ : Loc nD τ sig) → Buf (Elt Ideal) ℓ) (hp : Cert.Pre_RedGluIdeal m) : ∃ h k, tbl m = place h k ∧ m ((0 : Dev nD).tc.loc main_arg0) = words h k := by
  obtain ⟨h, k, e⟩ := table_glu _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Ideal) ℓ) (hp : Cert.Pre_RedGluIdeal m) : Ok m := by
  obtain ⟨h, k, e, -⟩ := placed m hp
  unfold Ok
  rw [e]
  exact place_ok h k

end Cert.RedGluIdeal.Red

namespace Cert.RedOut.Red

open Cert.RedOut Cert.RedOut.Gen Idealize.ShloMosaic Idealize.ShloMosaic.TcCoe Idealize.SL.Sem Cert.Red

/-- A device's place as the table the call reads. -/
def place (h : Fin 2) (k : Fin 4) : pre0.Contents (Elt Bits) := fun | 0 => words h k | ⟨_ + 1, h⟩ => absurd h (by simp)

theorem place_ok : ∀ h k, ok0 (F := Bits) (place h k) := by decide +kernel

/-- Under the precondition the table holds a device's place. -/
theorem placed (m : (ℓ : Loc nD τ sig) → Buf (Elt Bits) ℓ) (hp : Cert.Pre_RedOut m) : ∃ h k, tbl m = place h k ∧ m ((0 : Dev nD).tc.loc main_arg0) = words h k := by
  obtain ⟨h, k, e⟩ := table_glu _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Bits) ℓ) (hp : Cert.Pre_RedOut m) : Ok m := by
  obtain ⟨h, k, e, -⟩ := placed m hp
  unfold Ok
  rw [e]
  exact place_ok h k

end Cert.RedOut.Red

namespace Cert.RedOutIdeal.Red

open Cert.RedOutIdeal Cert.RedOutIdeal.Gen Idealize.ShloMosaic Idealize.ShloMosaic.TcCoe Idealize.SL.Sem Cert.Red

/-- A device's place as the table the call reads. -/
def place (h : Fin 2) (k : Fin 4) : pre0.Contents (Elt Ideal) := fun | 0 => words h k | ⟨_ + 1, h⟩ => absurd h (by simp)

theorem place_ok : ∀ h k, ok0 (F := Ideal) (place h k) := by decide +kernel

/-- Under the precondition the table holds a device's place. -/
theorem placed (m : (ℓ : Loc nD τ sig) → Buf (Elt Ideal) ℓ) (hp : Cert.Pre_RedOutIdeal m) : ∃ h k, tbl m = place h k ∧ m ((0 : Dev nD).tc.loc main_arg0) = words h k := by
  obtain ⟨h, k, e⟩ := table_glu _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Ideal) ℓ) (hp : Cert.Pre_RedOutIdeal m) : Ok m := by
  obtain ⟨h, k, e, -⟩ := placed m hp
  unfold Ok
  rw [e]
  exact place_ok h k

end Cert.RedOutIdeal.Red

namespace Cert.RedGate.Red

open Cert.RedGate Cert.RedGate.Gen Idealize.ShloMosaic Idealize.ShloMosaic.TcCoe Idealize.SL.Sem Cert.Red

/-- A device's place as the table the call reads. -/
def place (h : Fin 2) (k : Fin 4) : pre0.Contents (Elt Bits) := fun | 0 => words h k | ⟨_ + 1, h⟩ => absurd h (by simp)

theorem place_ok : ∀ h k, ok0 (F := Bits) (place h k) := by decide +kernel

/-- Under the precondition the table holds a device's place. -/
theorem placed (m : (ℓ : Loc nD τ sig) → Buf (Elt Bits) ℓ) (hp : Cert.Pre_RedGate m) : ∃ h k, tbl m = place h k ∧ m ((0 : Dev nD).tc.loc main_arg0) = words h k := by
  obtain ⟨h, k, e⟩ := table_ffn _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Bits) ℓ) (hp : Cert.Pre_RedGate m) : Ok m := by
  obtain ⟨h, k, e, -⟩ := placed m hp
  unfold Ok
  rw [e]
  exact place_ok h k

end Cert.RedGate.Red

namespace Cert.RedGateIdeal.Red

open Cert.RedGateIdeal Cert.RedGateIdeal.Gen Idealize.ShloMosaic Idealize.ShloMosaic.TcCoe Idealize.SL.Sem Cert.Red

/-- A device's place as the table the call reads. -/
def place (h : Fin 2) (k : Fin 4) : pre0.Contents (Elt Ideal) := fun | 0 => words h k | ⟨_ + 1, h⟩ => absurd h (by simp)

theorem place_ok : ∀ h k, ok0 (F := Ideal) (place h k) := by decide +kernel

/-- Under the precondition the table holds a device's place. -/
theorem placed (m : (ℓ : Loc nD τ sig) → Buf (Elt Ideal) ℓ) (hp : Cert.Pre_RedGateIdeal m) : ∃ h k, tbl m = place h k ∧ m ((0 : Dev nD).tc.loc main_arg0) = words h k := by
  obtain ⟨h, k, e⟩ := table_ffn _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Ideal) ℓ) (hp : Cert.Pre_RedGateIdeal m) : Ok m := by
  obtain ⟨h, k, e, -⟩ := placed m hp
  unfold Ok
  rw [e]
  exact place_ok h k

end Cert.RedGateIdeal.Red

namespace Cert.RedUp.Red

open Cert.RedUp Cert.RedUp.Gen Idealize.ShloMosaic Idealize.ShloMosaic.TcCoe Idealize.SL.Sem Cert.Red

/-- A device's place as the table the call reads. -/
def place (h : Fin 2) (k : Fin 4) : pre0.Contents (Elt Bits) := fun | 0 => words h k | ⟨_ + 1, h⟩ => absurd h (by simp)

theorem place_ok : ∀ h k, ok0 (F := Bits) (place h k) := by decide +kernel

/-- Under the precondition the table holds a device's place. -/
theorem placed (m : (ℓ : Loc nD τ sig) → Buf (Elt Bits) ℓ) (hp : Cert.Pre_RedUp m) : ∃ h k, tbl m = place h k ∧ m ((0 : Dev nD).tc.loc main_arg0) = words h k := by
  obtain ⟨h, k, e⟩ := table_ffn _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Bits) ℓ) (hp : Cert.Pre_RedUp m) : Ok m := by
  obtain ⟨h, k, e, -⟩ := placed m hp
  unfold Ok
  rw [e]
  exact place_ok h k

end Cert.RedUp.Red

namespace Cert.RedUpIdeal.Red

open Cert.RedUpIdeal Cert.RedUpIdeal.Gen Idealize.ShloMosaic Idealize.ShloMosaic.TcCoe Idealize.SL.Sem Cert.Red

/-- A device's place as the table the call reads. -/
def place (h : Fin 2) (k : Fin 4) : pre0.Contents (Elt Ideal) := fun | 0 => words h k | ⟨_ + 1, h⟩ => absurd h (by simp)

theorem place_ok : ∀ h k, ok0 (F := Ideal) (place h k) := by decide +kernel

/-- Under the precondition the table holds a device's place. -/
theorem placed (m : (ℓ : Loc nD τ sig) → Buf (Elt Ideal) ℓ) (hp : Cert.Pre_RedUpIdeal m) : ∃ h k, tbl m = place h k ∧ m ((0 : Dev nD).tc.loc main_arg0) = words h k := by
  obtain ⟨h, k, e⟩ := table_ffn _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Ideal) ℓ) (hp : Cert.Pre_RedUpIdeal m) : Ok m := by
  obtain ⟨h, k, e, -⟩ := placed m hp
  unfold Ok
  rw [e]
  exact place_ok h k

end Cert.RedUpIdeal.Red

namespace Cert.RedDown.Red

open Cert.RedDown Cert.RedDown.Gen Idealize.ShloMosaic Idealize.ShloMosaic.TcCoe Idealize.SL.Sem Cert.Red

/-- A device's place as the table the call reads. -/
def place (h : Fin 2) (k : Fin 4) : pre0.Contents (Elt Bits) := fun | 0 => words h k | ⟨_ + 1, h⟩ => absurd h (by simp)

theorem place_ok : ∀ h k, ok0 (F := Bits) (place h k) := by decide +kernel

/-- Under the precondition the table holds a device's place. -/
theorem placed (m : (ℓ : Loc nD τ sig) → Buf (Elt Bits) ℓ) (hp : Cert.Pre_RedDown m) : ∃ h k, tbl m = place h k ∧ m ((0 : Dev nD).tc.loc main_arg0) = words h k := by
  obtain ⟨h, k, e⟩ := table_down _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Bits) ℓ) (hp : Cert.Pre_RedDown m) : Ok m := by
  obtain ⟨h, k, e, -⟩ := placed m hp
  unfold Ok
  rw [e]
  exact place_ok h k

end Cert.RedDown.Red

namespace Cert.RedDownIdeal.Red

open Cert.RedDownIdeal Cert.RedDownIdeal.Gen Idealize.ShloMosaic Idealize.ShloMosaic.TcCoe Idealize.SL.Sem Cert.Red

/-- A device's place as the table the call reads. -/
def place (h : Fin 2) (k : Fin 4) : pre0.Contents (Elt Ideal) := fun | 0 => words h k | ⟨_ + 1, h⟩ => absurd h (by simp)

theorem place_ok : ∀ h k, ok0 (F := Ideal) (place h k) := by decide +kernel

/-- Under the precondition the table holds a device's place. -/
theorem placed (m : (ℓ : Loc nD τ sig) → Buf (Elt Ideal) ℓ) (hp : Cert.Pre_RedDownIdeal m) : ∃ h k, tbl m = place h k ∧ m ((0 : Dev nD).tc.loc main_arg0) = words h k := by
  obtain ⟨h, k, e⟩ := table_down _ _ _ _ _ (hp 0)
  refine ⟨h, k, funext fun j => ?_, e⟩
  match j with
  | 0 => exact (V_main_arg0 m 0).trans e

/-- Under the precondition every block lies in its array. -/
theorem ok (m : (ℓ : Loc nD τ sig) → Buf (Elt Ideal) ℓ) (hp : Cert.Pre_RedDownIdeal m) : Ok m := by
  obtain ⟨h, k, e, -⟩ := placed m hp
  unfold Ok
  rw [e]
  exact place_ok h k

end Cert.RedDownIdeal.Red

end
-- ==== Proof.RedIn.lean ====
module

public import proofs.«01_k».proof.Proof.RedPre
public import proofs.«01_k».proof.Proof.Gen.RedInRefIdeal.Run
public import Idealize.ShloMosaic.Lib.Pipeline.Value
public import Idealize.ShloMosaic.Lib.Pipeline.ValueKit.Partial

@[expose] public section

set_option maxRecDepth 16384
set_option maxHeartbeats 4000000

noncomputable section

namespace Cert.RedInIdeal.Red

open Cert.RedInIdeal Cert.RedInIdeal.Gen Idealize.ShloMosaic Idealize.ShloMosaic.TcCoe Idealize.SL.Sem Cert.Red

/-- Where an element of this device's half and chip lies in the whole gradient. -/
def own (k : Fin 4) (j : S2x2048x3072.Idx) : S2048x12288.Idx :=
  ix2 ⟨(j 1).val, (j 1).isLt⟩ ⟨0 + k.val * 3072 + (j 2).val, by have := (j 2).isLt; change (j 2).val < 3072 at this; omega⟩

/-- Where an element of a half lies in chip `k`'s share. -/
def shared (k : Fin 4) (j : S2x2048x3072.Idx) : S4x1024x3072.Idx :=
  ix3 k ⟨(j 1).val % 1024, Nat.mod_lt _ (by decide)⟩ ⟨(j 2).val, (j 2).isLt⟩

/-- The four chips' shares added up. -/
def total (k : Fin 4) (dw : FVec Ideal S2048x12288 .f32) (got : FVec Ideal S2048x12288 .bf16) (land : FVec Ideal S4x1024x3072 .bf16) : FVec Ideal S2x2048x3072 .f32 :=
  fun j => dw (own k j) + got (own k j) + land (shared (k + 1) j) + land (shared (k + 2) j) + land (shared (k + 3) j)

/-- The array with the sum in half `h` of its first layer. -/
def put (h : Fin 2) (k : Fin 4) (dw : FVec Ideal S2048x12288 .f32) (got : FVec Ideal S2048x12288 .bf16) (land : FVec Ideal S4x1024x3072 .bf16) (prev : FVec Ideal S2x2048x3072 .f32) : FVec Ideal S2x2048x3072 .f32 :=
  fun j => if (j 0).val = 0 ∧ (j 1).val / 1024 = h.val then total k dw got land j else prev j

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in its output block. -/
theorem out_eq (c : Dev nD) (i : grid0.Coords) (arg2 : Memref sig .tc .vmem S256x3072 .f32) (harg2 : arg2.IsWhole) (arg3 : Memref sig .tc .vmem S256x3072 .bf16) (harg3 : arg3.IsWhole) (arg4 : Memref sig .tc .vmem S1x256x3072 .bf16) (harg4 : arg4.IsWhole) (arg5 : Memref sig .tc .vmem S1x256x3072 .bf16) (harg5 : arg5.IsWhole) (arg6 : Memref sig .tc .vmem S1x256x3072 .bf16) (harg6 : arg6.IsWhole) (arg8 : Memref sig .tc .vmem S1x256x3072 .f32) (harg8 : arg8.IsWhole)
    (x0 : Vec Ideal S256x3072 .f32) (x1 : Vec Ideal S256x3072 .bf16) (x2 x3 x4 : Vec Ideal S1x256x3072 .bf16) (xt0 : TbBuf0 (F := Ideal) c tbM0_0) :
    out0_A_5 c i arg2 harg2 arg3 harg3 arg4 harg4 arg5 harg5 arg6 harg6 arg8 harg8 x0 x1 x2 x3 x4 xt0 = k0_pay1 x0 x1 x2 x3 x4 := by
  unfold out0_A_5
  rw [View.read_writes_eq_canon _ _ _ (cover0_A_5 c i arg2 harg2 arg3 harg3 arg4 harg4 arg5 harg5 arg6 harg6 arg8 harg8 x0 x1 x2 x3 x4 xt0)]
  unfold kernelRun0_A
  dsimp only
  sl_unfold_words
  rw [View.canon_unit_zero hz3]
  simp only [View.readAt_eq_ld, harg2.read_unread, harg3.read_unread, harg4.read_unread, harg5.read_unread, harg6.read_unread, View.ld_unit_zero (S := S256x3072) hz2, View.ld_unit_zero (S := S1x256x3072) hz3]

theorem idx_place : ∀ h k, ∀ t : Fin grid0.N,
    (win0 ⟨place h k, place_ok h k⟩ 0).index t = ![h.val * 4 + t.val, 0 + k.val] ∧ (win0 ⟨place h k, place_ok h k⟩ 1).index t = ![h.val * 4 + t.val, 0 + k.val]
      ∧ (win0 ⟨place h k, place_ok h k⟩ 2).index t = ![(k + 1).val, t.val, 0]
      ∧ (win0 ⟨place h k, place_ok h k⟩ 3).index t = ![(k + 2).val, t.val, 0]
      ∧ (win0 ⟨place h k, place_ok h k⟩ 4).index t = ![(k + 3).val, t.val, 0]
      ∧ (win0 ⟨place h k, place_ok h k⟩ 5).index t = ![0, h.val * 4 + t.val, 0] := by decide +kernel

theorem covers_place : ∀ h k, (win0 ⟨place h k, place_ok h k⟩ 5).CoversWhere
    (fun β => β (0 : Fin 3) = 0 ∧ β (1 : Fin 3) / 4 = h.val) := by decide +kernel

variable (m : (ℓ : Loc nD τ sig) → Buf (Elt Ideal) ℓ) (hO : Ok m) {h : Fin 2} {k : Fin 4}

theorem at_place (e : tbl m = place h k) : adm m hO = ⟨place h k, place_ok h k⟩ := Subtype.ext e

/-- The windows' blocks at a device's place. -/
theorem idx (e : tbl m = place h k) (t : Fin (cfgM m hO).N) :
    ((cfgM m hO).win 0).index t = ![h.val * 4 + t.val, 0 + k.val] ∧ ((cfgM m hO).win 1).index t = ![h.val * 4 + t.val, 0 + k.val]
      ∧ ((cfgM m hO).win 2).index t = ![(k + 1).val, t.val, 0]
      ∧ ((cfgM m hO).win 3).index t = ![(k + 2).val, t.val, 0]
      ∧ ((cfgM m hO).win 4).index t = ![(k + 3).val, t.val, 0]
      ∧ ((cfgM m hO).win 5).index t = ![0, h.val * 4 + t.val, 0] :=
  have key : ∀ a : (pcfg0 (F := Ideal)).Adm, a = ⟨place h k, place_ok h k⟩ → ∀ t : Fin grid0.N,
      (win0 a 0).index t = ![h.val * 4 + t.val, 0 + k.val] ∧ (win0 a 1).index t = ![h.val * 4 + t.val, 0 + k.val]
        ∧ (win0 a 2).index t = ![(k + 1).val, t.val, 0] ∧ (win0 a 3).index t = ![(k + 2).val, t.val, 0]
        ∧ (win0 a 4).index t = ![(k + 3).val, t.val, 0] ∧ (win0 a 5).index t = ![0, h.val * 4 + t.val, 0] := by
    rintro _ rfl t; exact idx_place h k t
  key _ (at_place m hO e) t

theorem covers (e : tbl m = place h k) : ((cfgM m hO).win 5).CoversWhere
    (fun β => β (0 : Fin 3) = 0 ∧ β (1 : Fin 3) / 4 = h.val) :=
  have key : ∀ a : (pcfg0 (F := Ideal)).Adm, a = ⟨place h k, place_ok h k⟩ →
      (win0 a 5).CoversWhere (fun β => β (0 : Fin 3) = 0 ∧ β (1 : Fin 3) / 4 = h.val) := by
    rintro _ rfl; exact covers_place h k
  key _ (at_place m hO e)

theorem V_prev (c : Dev nD) : V m c main_v0 = m (c.tc.loc main_arg4) := by
  unfold V hostOps0
  after_results
  rfl

theorem read0 (c : Dev nD) (t : Fin (cfgM m hO).N) (y : S256x3072.Idx) (z : S2048x12288.Idx)
    (h0 : (z 0).val = ((cfgM m hO).win 0).index t (0 : Fin 2) * 256 + (y 0).val) (h1 : (z 1).val = ((cfgM m hO).win 0).index t (1 : Fin 2) * 3072 + (y 1).val) :
    iblk m hO c 0 t y = m (c.tc.loc main_arg1) z := by
  rw [← V_main_arg1 m c]
  refine congrArg (V m c main_arg1) (?_ : (((cfgM m hO).win 0).blk t).view.emb y = z)
  funext a
  apply Fin.ext
  fin_cases a
  · change ((cfgM m hO).win 0).index t (0 : Fin 2) * 256 + 1 * (y 0).val = (z 0).val; omega
  · change ((cfgM m hO).win 0).index t (1 : Fin 2) * 3072 + 1 * (y 1).val = (z 1).val; omega

theorem read1 (c : Dev nD) (t : Fin (cfgM m hO).N) (y : S256x3072.Idx) (z : S2048x12288.Idx)
    (h0 : (z 0).val = ((cfgM m hO).win 1).index t (0 : Fin 2) * 256 + (y 0).val) (h1 : (z 1).val = ((cfgM m hO).win 1).index t (1 : Fin 2) * 3072 + (y 1).val) :
    iblk m hO c 1 t y = m (c.tc.loc main_arg2) z := by
  rw [← V_main_arg2 m c]
  refine congrArg (V m c main_arg2) (?_ : (((cfgM m hO).win 1).blk t).view.emb y = z)
  funext a
  apply Fin.ext
  fin_cases a
  · change ((cfgM m hO).win 1).index t (0 : Fin 2) * 256 + 1 * (y 0).val = (z 0).val; omega
  · change ((cfgM m hO).win 1).index t (1 : Fin 2) * 3072 + 1 * (y 1).val = (z 1).val; omega

theorem read2 (c : Dev nD) (t : Fin (cfgM m hO).N) (y : S1x256x3072.Idx) (z : S4x1024x3072.Idx)
    (h0 : (z 0).val = ((cfgM m hO).win 2).index t (0 : Fin 3) * 1 + (y 0).val) (h1 : (z 1).val = ((cfgM m hO).win 2).index t (1 : Fin 3) * 256 + (y 1).val) (h2 : (z 2).val = ((cfgM m hO).win 2).index t (2 : Fin 3) * 3072 + (y 2).val) :
    iblk m hO c 2 t y = m (c.tc.loc main_arg3) z := by
  rw [← V_main_arg3 m c]
  refine congrArg (V m c main_arg3) (?_ : (((cfgM m hO).win 2).blk t).view.emb y = z)
  funext a
  apply Fin.ext
  fin_cases a
  · change ((cfgM m hO).win 2).index t (0 : Fin 3) * 1 + 1 * (y 0).val = (z 0).val; omega
  · change ((cfgM m hO).win 2).index t (1 : Fin 3) * 256 + 1 * (y 1).val = (z 1).val; omega
  · change ((cfgM m hO).win 2).index t (2 : Fin 3) * 3072 + 1 * (y 2).val = (z 2).val; omega

theorem read3 (c : Dev nD) (t : Fin (cfgM m hO).N) (y : S1x256x3072.Idx) (z : S4x1024x3072.Idx)
    (h0 : (z 0).val = ((cfgM m hO).win 3).index t (0 : Fin 3) * 1 + (y 0).val) (h1 : (z 1).val = ((cfgM m hO).win 3).index t (1 : Fin 3) * 256 + (y 1).val) (h2 : (z 2).val = ((cfgM m hO).win 3).index t (2 : Fin 3) * 3072 + (y 2).val) :
    iblk m hO c 3 t y = m (c.tc.loc main_arg3) z := by
  rw [← V_main_arg3 m c]
  refine congrArg (V m c main_arg3) (?_ : (((cfgM m hO).win 3).blk t).view.emb y = z)
  funext a
  apply Fin.ext
  fin_cases a
  · change ((cfgM m hO).win 3).index t (0 : Fin 3) * 1 + 1 * (y 0).val = (z 0).val; omega
  · change ((cfgM m hO).win 3).index t (1 : Fin 3) * 256 + 1 * (y 1).val = (z 1).val; omega
  · change ((cfgM m hO).win 3).index t (2 : Fin 3) * 3072 + 1 * (y 2).val = (z 2).val; omega

theorem read4 (c : Dev nD) (t : Fin (cfgM m hO).N) (y : S1x256x3072.Idx) (z : S4x1024x3072.Idx)
    (h0 : (z 0).val = ((cfgM m hO).win 4).index t (0 : Fin 3) * 1 + (y 0).val) (h1 : (z 1).val = ((cfgM m hO).win 4).index t (1 : Fin 3) * 256 + (y 1).val) (h2 : (z 2).val = ((cfgM m hO).win 4).index t (2 : Fin 3) * 3072 + (y 2).val) :
    iblk m hO c 4 t y = m (c.tc.loc main_arg3) z := by
  rw [← V_main_arg3 m c]
  refine congrArg (V m c main_arg3) (?_ : (((cfgM m hO).win 4).blk t).view.emb y = z)
  funext a
  apply Fin.ext
  fin_cases a
  · change ((cfgM m hO).win 4).index t (0 : Fin 3) * 1 + 1 * (y 0).val = (z 0).val; omega
  · change ((cfgM m hO).win 4).index t (1 : Fin 3) * 256 + 1 * (y 1).val = (z 1).val; omega
  · change ((cfgM m hO).win 4).index t (2 : Fin 3) * 3072 + 1 * (y 2).val = (z 2).val; omega

theorem emb_out (t : Fin (cfgM m hO).N) (y : S1x256x3072.Idx) :
    ((((cfgM m hO).win 5).blk t).view.emb y (0 : Fin 3)).val = ((cfgM m hO).win 5).index t (0 : Fin 3) * 1 + 1 * (y 0).val
      ∧ ((((cfgM m hO).win 5).blk t).view.emb y (1 : Fin 3)).val = ((cfgM m hO).win 5).index t (1 : Fin 3) * 256 + 1 * (y 1).val
      ∧ ((((cfgM m hO).win 5).blk t).view.emb y (2 : Fin 3)).val = ((cfgM m hO).win 5).index t (2 : Fin 3) * 3072 + 1 * (y 2).val := ⟨rfl, rfl, rfl⟩

/-- One block of the sum. -/
theorem point (e : tbl m = place h k) (c : Dev nD) (t : Fin (cfgM m hO).N) (y : S1x256x3072.Idx) (J : S2x2048x3072.Idx)
    (j0 : (J 0).val = 0) (j1 : (J 1).val = (h.val * 4 + t.val) * 256 + (y 1).val) (j2 : (J 2).val = (y 2).val)
    (a0 a1 a2 a3 a4 : EReal) (e0 : a0 = iblk m hO c 0 t (ix2 (y 1) (y 2))) (e1 : a1 = iblk m hO c 1 t (ix2 (y 1) (y 2)))
    (e2 : a2 = iblk m hO c 2 t y) (e3 : a3 = iblk m hO c 3 t y) (e4 : a4 = iblk m hO c 4 t y) :
    a0 + a1 + a2 + a3 + a4 = put h k (m (c.tc.loc main_arg1)) (m (c.tc.loc main_arg2)) (m (c.tc.loc main_arg3)) (m (c.tc.loc main_arg4)) J := by
  obtain ⟨i0, i1, i2, i3, i4, -⟩ := idx m hO e t
  have ht : t.val < 4 := t.isLt
  have hy0 : (y 0).val < 1 := (y 0).isLt
  have hy1 : (y 1).val < 256 := (y 1).isLt
  have hj : (J 1).val / 1024 = h.val := by omega
  have hr : (J 1).val % 1024 = t.val * 256 + (y 1).val := by omega
  refine Eq.trans ?_ (if_pos ⟨j0, hj⟩).symm
  refine congrArg₂ _ (congrArg₂ _ (congrArg₂ _ (congrArg₂ _ (e0.trans (read0 m hO c t _ _ ?_ ?_)) (e1.trans (read1 m hO c t _ _ ?_ ?_))) (e2.trans (read2 m hO c t _ _ ?_ ?_ ?_))) (e3.trans (read3 m hO c t _ _ ?_ ?_ ?_))) (e4.trans (read4 m hO c t _ _ ?_ ?_ ?_))
  · rw [show ((cfgM m hO).win 0).index t (0 : Fin 2) = _ from congrFun i0 (0 : Fin 2)]; change (J 1).val = (h.val * 4 + t.val) * 256 + (y 1).val; omega
  · rw [show ((cfgM m hO).win 0).index t (1 : Fin 2) = _ from congrFun i0 (1 : Fin 2)]; change 0 + k.val * 3072 + (J 2).val = (0 + k.val) * 3072 + (y 2).val; omega
  · rw [show ((cfgM m hO).win 1).index t (0 : Fin 2) = _ from congrFun i1 (0 : Fin 2)]; change (J 1).val = (h.val * 4 + t.val) * 256 + (y 1).val; omega
  · rw [show ((cfgM m hO).win 1).index t (1 : Fin 2) = _ from congrFun i1 (1 : Fin 2)]; change 0 + k.val * 3072 + (J 2).val = (0 + k.val) * 3072 + (y 2).val; omega
  · rw [show ((cfgM m hO).win 2).index t (0 : Fin 3) = _ from congrFun i2 (0 : Fin 3)]; change (k + 1).val = (k + 1).val * 1 + (y 0).val; omega
  · rw [show ((cfgM m hO).win 2).index t (1 : Fin 3) = _ from congrFun i2 (1 : Fin 3)]; exact hr
  · rw [show ((cfgM m hO).win 2).index t (2 : Fin 3) = _ from congrFun i2 (2 : Fin 3)]; change (J 2).val = 0 * 3072 + (y 2).val; omega
  · rw [show ((cfgM m hO).win 3).index t (0 : Fin 3) = _ from congrFun i3 (0 : Fin 3)]; change (k + 2).val = (k + 2).val * 1 + (y 0).val; omega
  · rw [show ((cfgM m hO).win 3).index t (1 : Fin 3) = _ from congrFun i3 (1 : Fin 3)]; exact hr
  · rw [show ((cfgM m hO).win 3).index t (2 : Fin 3) = _ from congrFun i3 (2 : Fin 3)]; change (J 2).val = 0 * 3072 + (y 2).val; omega
  · rw [show ((cfgM m hO).win 4).index t (0 : Fin 3) = _ from congrFun i4 (0 : Fin 3)]; change (k + 3).val = (k + 3).val * 1 + (y 0).val; omega
  · rw [show ((cfgM m hO).win 4).index t (1 : Fin 3) = _ from congrFun i4 (1 : Fin 3)]; exact hr
  · rw [show ((cfgM m hO).win 4).index t (2 : Fin 3) = _ from congrFun i4 (2 : Fin 3)]; change (J 2).val = 0 * 3072 + (y 2).val; omega

/-- The array the call leaves. -/
theorem final (e : tbl m = place h k) (c : Dev nD) : (dats m hO 0 c).arrAt 5 (cfgM m hO).N
    = put h k (m (c.tc.loc main_arg1)) (m (c.tc.loc main_arg2)) (m (c.tc.loc main_arg3)) (m (c.tc.loc main_arg4)) := by
  refine (dats m hO 0 c).arrAt_eq_of_coversWhere_of_agree 5 _ _ (covers m hO e) (fun t hf y => ?_) (fun j hj => ?_)
  · obtain ⟨-, -, -, -, -, i5⟩ := idx m hO e t
    obtain ⟨e0, e1, e2⟩ := emb_out m hO t y
    rw [show ((cfgM m hO).win 5).index t (0 : Fin 3) = _ from congrFun i5 (0 : Fin 3)] at e0
    rw [show ((cfgM m hO).win 5).index t (1 : Fin 3) = _ from congrFun i5 (1 : Fin 3)] at e1
    rw [show ((cfgM m hO).win 5).index t (2 : Fin 3) = _ from congrFun i5 (2 : Fin 3)] at e2
    have hy0 : (y (0 : Fin 3)).val < 1 := (y (0 : Fin 3)).isLt
    refine Eq.trans ?_ (point m hO e c t y _ (e0.trans ?_) (e1.trans ?_) (e2.trans ?_) _ _ _ _ _ rfl rfl rfl rfl rfl)
    · blk_simp
      rw [after0_5]
      unfold outsAt0
      refine (congrFun (out_eq c _ _ _ _ _ _ _ _ _ _ _ _ _ (iblk m hO c 0 t) (iblk m hO c 1 t) (iblk m hO c 2 t) (iblk m hO c 3 t) (iblk m hO c 4 t) _) y).trans ?_
      unfold k0_pay1
      pointwise
    · change 0 * 1 + 1 * (y (0 : Fin 3)).val = 0; omega
    · change (h.val * 4 + t.val) * 256 + 1 * (y (1 : Fin 3)).val = _; omega
    · change 0 * 3072 + 1 * (y (2 : Fin 3)).val = _; omega
  · change ¬((j (0 : Fin 3)).val / 1 = 0 ∧ (j (1 : Fin 3)).val / 256 / 4 = h.val) at hj
    rw [A_eq]
    change V m c main_v0 j = put h k _ _ _ _ j
    rw [V_prev]
    refine (if_neg ?_).symm
    rintro ⟨h0, h1⟩
    exact hj ⟨by rw [Nat.div_one]; exact h0, by rw [Nat.div_div_eq_div_mul]; exact h1⟩

theorem own_eq (i : S2x2048x3072.Idx) (q : Fin 4) (z : S2048x12288.Idx) (h0 : (z 0).val = (i 1).val) (h1 : (z 1).val = 0 + q.val * 3072 + (i 2).val) : z = own q i := by
  funext a; apply Fin.ext; fin_cases a
  · exact h0
  · exact h1

theorem shared_eq (i : S2x2048x3072.Idx) (q : Fin 4) (z : S4x1024x3072.Idx) (h0 : (z 0).val = q.val) (h1 : (z 1).val = (i 1).val % 1024) (h2 : (z 2).val = (i 2).val) : z = shared q i := by
  funext a; apply Fin.ext; fin_cases a
  · exact h0
  · exact h1
  · exact h2

theorem prev_eq (i : S2x2048x3072.Idx) (a : Fin 2) (b : Fin 2048) (d : Fin 3072) (h0 : a.val = (i 0).val) (h1 : b.val = (i 1).val) (h2 : d.val = (i 2).val) :
    (ix3 a b d : S2x2048x3072.Idx) = i := by
  funext x; apply Fin.ext; fin_cases x
  · exact h0
  · exact h1
  · exact h2

/-- The reference's result. -/
theorem ref_final (m : (ℓ : Loc Cert.RedInRefIdeal.nD Cert.RedInRefIdeal.τ Cert.RedInRefIdeal.sig) → Buf (Elt Ideal) ℓ) (c : Dev Cert.RedInRefIdeal.nD) (h : Fin 2) (k : Fin 4)
    (e : m (c.tc.loc Cert.RedInRefIdeal.main_arg0) = words h k) : Cert.RedInRefIdeal.Value.res_out0 m c
      = put h k (m (c.tc.loc Cert.RedInRefIdeal.main_arg1)) (m (c.tc.loc Cert.RedInRefIdeal.main_arg2)) (m (c.tc.loc Cert.RedInRefIdeal.main_arg3)) (m (c.tc.loc Cert.RedInRefIdeal.main_arg4)) := by
  unfold Cert.RedInRefIdeal.Value.res_out0 Cert.RedInRefIdeal.Value.res_main_v60
  rw [e]
  funext i
  pointwise []
  simp only [sel_half0, sel_half1, sel_chip0, sel_chip1, sel_chip2, sel_chip3]
  change _ = if (i 0).val = 0 ∧ (i 1).val / 1024 = h.val then total k _ _ _ i else _
  have b0 : (i 0).val < 2 := (i 0).isLt
  have b1 : (i 1).val < 2048 := (i 1).isLt
  have b2 : (i 2).val < 3072 := (i 2).isLt
  by_cases c0 : (i 0).val < 1
  · simp only [dif_pos c0]
    by_cases c1 : (i 1).val < 1024
    · simp only [dif_pos c1]
      by_cases hh : h.val = 0
      · simp only [if_pos hh]
        refine Eq.trans ?_ (if_pos ⟨by omega, by omega⟩).symm
        refine Eq.trans ?_ (pick k (fun q => (@HAdd.hAdd EReal EReal EReal _ (m (c.tc.loc Cert.RedInRefIdeal.main_arg1) (own q i)) (m (c.tc.loc Cert.RedInRefIdeal.main_arg2) (own q i)))) (fun q => m (c.tc.loc Cert.RedInRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = (i 1).val; omega)) (by first | rfl | (show (i 2).val = 0 + 0 * 3072 + (i 2).val; omega)))) (congrArg _ (own_eq i 0 _ (by first | rfl | (dsimp only [ix2, Matrix.cons_val_zero]; show _ = (i 1).val; omega)) (by first | rfl | (show (i 2).val = 0 + 0 * 3072 + (i 2).val; omega))))) (fun _ => congrArg _ (shared_eq i 0 _ rfl (by first | exact (Nat.mod_eq_of_lt c1).symm | (show (i 1).val - 1024 = _; omega)) rfl)))
          (ite_congr rfl (fun _ => congrArg₂ _ (congrArg _ (own_eq i 1 _ (by first | rfl | (dsimp only [ix2, Matrix.cons_val_zero]; show _ = (i 1).val; omega)) (by first | rfl | (show _ = 0 + 1 * 3072 + (i 2).val; omega)))) (congrArg _ (own_eq i 1 _ (by first | rfl | (dsimp only [ix2, Matrix.cons_val_zero]; show _ = (i 1).val; omega)) (by first | rfl | (show _ = 0 + 1 * 3072 + (i 2).val; omega))))) (fun _ => congrArg _ (shared_eq i 1 _ rfl (by first | exact (Nat.mod_eq_of_lt c1).symm | (show (i 1).val - 1024 = _; omega)) rfl))))
          (ite_congr rfl (fun _ => congrArg₂ _ (congrArg _ (own_eq i 2 _ (by first | rfl | (dsimp only [ix2, Matrix.cons_val_zero]; show _ = (i 1).val; omega)) (by first | rfl | (show _ = 0 + 2 * 3072 + (i 2).val; omega)))) (congrArg _ (own_eq i 2 _ (by first | rfl | (dsimp only [ix2, Matrix.cons_val_zero]; show _ = (i 1).val; omega)) (by first | rfl | (show _ = 0 + 2 * 3072 + (i 2).val; omega))))) (fun _ => congrArg _ (shared_eq i 2 _ rfl (by first | exact (Nat.mod_eq_of_lt c1).symm | (show (i 1).val - 1024 = _; omega)) rfl))))
          (ite_congr rfl (fun _ => congrArg₂ _ (congrArg _ (own_eq i 3 _ (by first | rfl | (dsimp only [ix2, Matrix.cons_val_zero]; show _ = (i 1).val; omega)) (by first | rfl | (show _ = 0 + 3 * 3072 + (i 2).val; omega)))) (congrArg _ (own_eq i 3 _ (by first | rfl | (dsimp only [ix2, Matrix.cons_val_zero]; show _ = (i 1).val; omega)) (by first | rfl | (show _ = 0 + 3 * 3072 + (i 2).val; omega))))) (fun _ => congrArg _ (shared_eq i 3 _ rfl (by first | exact (Nat.mod_eq_of_lt c1).symm | (show (i 1).val - 1024 = _; omega)) rfl)))
      · simp only [if_neg hh]
        refine Eq.trans ?_ (if_neg (by omega)).symm
        exact congrArg _ (prev_eq i _ _ _ (by show 0 = _; omega) (by rfl) (by rfl))
    · simp only [dif_neg c1]
      by_cases hh : h.val = 1
      · have hn : ¬h.val = 0 := by omega
        simp only [if_pos hh, if_neg hn]
        refine Eq.trans ?_ (if_pos ⟨by omega, by omega⟩).symm
        refine Eq.trans ?_ (pick k (fun q => (@HAdd.hAdd EReal EReal EReal _ (m (c.tc.loc Cert.RedInRefIdeal.main_arg1) (own q i)) (m (c.tc.loc Cert.RedInRefIdeal.main_arg2) (own q i)))) (fun q => m (c.tc.loc Cert.RedInRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = (i 1).val; omega)) (by first | rfl | (show (i 2).val = 0 + 0 * 3072 + (i 2).val; omega)))) (congrArg _ (own_eq i 0 _ (by first | rfl | (dsimp only [ix2, Matrix.cons_val_zero]; show _ = (i 1).val; omega)) (by first | rfl | (show (i 2).val = 0 + 0 * 3072 + (i 2).val; omega))))) (fun _ => congrArg _ (shared_eq i 0 _ rfl (by first | exact (Nat.mod_eq_of_lt c1).symm | (show (i 1).val - 1024 = _; omega)) rfl)))
          (ite_congr rfl (fun _ => congrArg₂ _ (congrArg _ (own_eq i 1 _ (by first | rfl | (dsimp only [ix2, Matrix.cons_val_zero]; show _ = (i 1).val; omega)) (by first | rfl | (show _ = 0 + 1 * 3072 + (i 2).val; omega)))) (congrArg _ (own_eq i 1 _ (by first | rfl | (dsimp only [ix2, Matrix.cons_val_zero]; show _ = (i 1).val; omega)) (by first | rfl | (show _ = 0 + 1 * 3072 + (i 2).val; omega))))) (fun _ => congrArg _ (shared_eq i 1 _ rfl (by first | exact (Nat.mod_eq_of_lt c1).symm | (show (i 1).val - 1024 = _; omega)) rfl))))
          (ite_congr rfl (fun _ => congrArg₂ _ (congrArg _ (own_eq i 2 _ (by first | rfl | (dsimp only [ix2, Matrix.cons_val_zero]; show _ = (i 1).val; omega)) (by first | rfl | (show _ = 0 + 2 * 3072 + (i 2).val; omega)))) (congrArg _ (own_eq i 2 _ (by first | rfl | (dsimp only [ix2, Matrix.cons_val_zero]; show _ = (i 1).val; omega)) (by first | rfl | (show _ = 0 + 2 * 3072 + (i 2).val; omega))))) (fun _ => congrArg _ (shared_eq i 2 _ rfl (by first | exact (Nat.mod_eq_of_lt c1).symm | (show (i 1).val - 1024 = _; omega)) rfl))))
          (ite_congr rfl (fun _ => congrArg₂ _ (congrArg _ (own_eq i 3 _ (by first | rfl | (dsimp only [ix2, Matrix.cons_val_zero]; show _ = (i 1).val; omega)) (by first | rfl | (show _ = 0 + 3 * 3072 + (i 2).val; omega)))) (congrArg _ (own_eq i 3 _ (by first | rfl | (dsimp only [ix2, Matrix.cons_val_zero]; show _ = (i 1).val; omega)) (by first | rfl | (show _ = 0 + 3 * 3072 + (i 2).val; omega))))) (fun _ => congrArg _ (shared_eq i 3 _ rfl (by first | exact (Nat.mod_eq_of_lt c1).symm | (show (i 1).val - 1024 = _; omega)) rfl)))
      · simp only [if_neg hh]
        refine Eq.trans ?_ (if_neg (by omega)).symm
        exact congrArg _ (prev_eq i _ _ _ (by show 0 = _; omega) (by show 1024 + ((i 1).val - 1024) = _; omega) (by rfl))
  · simp only [dif_neg c0]
    refine Eq.trans ?_ (if_neg (by omega)).symm
    exact congrArg _ (prev_eq i _ _ _ (by show 1 = _; omega) (by rfl) (by rfl))

/-- From equal arguments the kernel and the reference end with equal results. -/
theorem algebraic : Cert.algebraic_RedInIdeal_RedInRefIdeal := fun m ρ m' ρ' hp hag => by
  obtain ⟨h, k, e, ew⟩ := placed m hp
  refine ⟨fun c => put h k (m (c.tc.loc main_arg1)) (m (c.tc.loc main_arg2)) (m (c.tc.loc main_arg3)) (m (c.tc.loc main_arg4)), ?_, ?_⟩
  · refine (θ_run _ _ _).mono (fun r hr c => ⟨((hr.1 c).1 5).trans (final m (ok m hp) e c), hr.2 c⟩)
      (θ_run_and (run_main m ρ (ok m hp)) (unchanged m ρ (ok m hp)))
  · refine (θ_run _ _ _).mono (fun r hr c => ⟨(hr c).1.trans ((ref_final m' c h k ?_).trans ?_), (hr c).2⟩) (Cert.RedInRefIdeal.Value.run m' ρ')
    · obtain rfl : c = 0 := Subsingleton.elim _ _
      exact (hag 0).1.trans ew
    · simp only [hag c]

/-- The reference runs, keeps its arguments and leaves every counter at zero. -/
theorem frame_reference : Cert.quiescent_RedInRefIdeal := fun m ρ _ =>
  (θ_run _ _ _).mono (fun r h => ⟨fun c => (h c).2, Idealize.ShloMosaic.sem_eq_zero_of_no_sems (by decide) r.2⟩)
    (Cert.RedInRefIdeal.Value.run m ρ)

end Cert.RedInIdeal.Red

end
-- ==== Proof.RedGlu.lean ====
module

public import proofs.«01_k».proof.Proof.RedPre
public import proofs.«01_k».proof.Proof.Gen.RedGluRefIdeal.Run
public import Idealize.ShloMosaic.Lib.Pipeline.Value
public import Idealize.ShloMosaic.Lib.Pipeline.ValueKit.Partial

@[expose] public section

set_option maxRecDepth 16384
set_option maxHeartbeats 4000000

noncomputable section

namespace Cert.RedGluIdeal.Red

open Cert.RedGluIdeal Cert.RedGluIdeal.Gen Idealize.ShloMosaic Idealize.ShloMosaic.TcCoe Idealize.SL.Sem Cert.Red

/-- Where an element of this device's half and chip lies in the whole gradient. -/
def own (k : Fin 4) (j : S2x512x2048.Idx) : S2048x2048.Idx :=
  ix2 ⟨k.val * 512 + (j 1).val, by have := (j 1).isLt; change (j 1).val < 512 at this; omega⟩ ⟨(j 2).val, (j 2).isLt⟩

/-- Where an element of a half lies in chip `k`'s share. -/
def shared (k : Fin 4) (j : S2x512x2048.Idx) : S4x256x2048.Idx :=
  ix3 k ⟨(j 1).val % 256, Nat.mod_lt _ (by decide)⟩ ⟨(j 2).val, (j 2).isLt⟩

/-- The four chips' shares added up. -/
def total (k : Fin 4) (dw : FVec Ideal S2048x2048 .f32) (got : FVec Ideal S2048x2048 .bf16) (land : FVec Ideal S4x256x2048 .bf16) : FVec Ideal S2x512x2048 .f32 :=
  fun j => dw (own k j) + got (own k j) + land (shared (k + 1) j) + land (shared (k + 2) j) + land (shared (k + 3) j)

/-- The array with the sum in half `h` of its first layer. -/
def put (h : Fin 2) (k : Fin 4) (dw : FVec Ideal S2048x2048 .f32) (got : FVec Ideal S2048x2048 .bf16) (land : FVec Ideal S4x256x2048 .bf16) (prev : FVec Ideal S2x512x2048 .f32) : FVec Ideal S2x512x2048 .f32 :=
  fun j => if (j 0).val = 0 ∧ (j 1).val / 256 = h.val then total k dw got land j else prev j

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in its output block. -/
theorem out_eq (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg8 : Memref sig .tc .vmem S1x256x2048 .f32) (harg8 : arg8.IsWhole)
    (x0 : Vec Ideal S256x2048 .f32) (x1 : Vec Ideal S256x2048 .bf16) (x2 x3 x4 : Vec Ideal S1x256x2048 .bf16) (xt0 : TbBuf0 (F := Ideal) c tbM0_0) :
    out0_A_5 c i arg2 harg2 arg3 harg3 arg4 harg4 arg5 harg5 arg6 harg6 arg8 harg8 x0 x1 x2 x3 x4 xt0 = k0_pay1 x0 x1 x2 x3 x4 := by
  unfold out0_A_5
  rw [View.read_writes_eq_canon _ _ _ (cover0_A_5 c i arg2 harg2 arg3 harg3 arg4 harg4 arg5 harg5 arg6 harg6 arg8 harg8 x0 x1 x2 x3 x4 xt0)]
  unfold kernelRun0_A
  dsimp only
  sl_unfold_words
  rw [View.canon_unit_zero hz3]
  simp only [View.readAt_eq_ld, harg2.read_unread, harg3.read_unread, harg4.read_unread, harg5.read_unread, harg6.read_unread, View.ld_unit_zero (S := S256x2048) hz2, View.ld_unit_zero (S := S1x256x2048) hz3]

theorem idx_place : ∀ h k, ∀ t : Fin grid0.N,
    (win0 ⟨place h k, place_ok h k⟩ 0).index t = ![k.val * 2 + h.val * 1 + t.val, 0] ∧ (win0 ⟨place h k, place_ok h k⟩ 1).index t = ![k.val * 2 + h.val * 1 + t.val, 0]
      ∧ (win0 ⟨place h k, place_ok h k⟩ 2).index t = ![(k + 1).val, t.val, 0]
      ∧ (win0 ⟨place h k, place_ok h k⟩ 3).index t = ![(k + 2).val, t.val, 0]
      ∧ (win0 ⟨place h k, place_ok h k⟩ 4).index t = ![(k + 3).val, t.val, 0]
      ∧ (win0 ⟨place h k, place_ok h k⟩ 5).index t = ![0, h.val * 1 + t.val, 0] := by decide +kernel

theorem covers_place : ∀ h k, (win0 ⟨place h k, place_ok h k⟩ 5).CoversWhere
    (fun β => β (0 : Fin 3) = 0 ∧ β (1 : Fin 3) / 1 = h.val) := by decide +kernel

variable (m : (ℓ : Loc nD τ sig) → Buf (Elt Ideal) ℓ) (hO : Ok m) {h : Fin 2} {k : Fin 4}

theorem at_place (e : tbl m = place h k) : adm m hO = ⟨place h k, place_ok h k⟩ := Subtype.ext e

/-- The windows' blocks at a device's place. -/
theorem idx (e : tbl m = place h k) (t : Fin (cfgM m hO).N) :
    ((cfgM m hO).win 0).index t = ![k.val * 2 + h.val * 1 + t.val, 0] ∧ ((cfgM m hO).win 1).index t = ![k.val * 2 + h.val * 1 + t.val, 0]
      ∧ ((cfgM m hO).win 2).index t = ![(k + 1).val, t.val, 0]
      ∧ ((cfgM m hO).win 3).index t = ![(k + 2).val, t.val, 0]
      ∧ ((cfgM m hO).win 4).index t = ![(k + 3).val, t.val, 0]
      ∧ ((cfgM m hO).win 5).index t = ![0, h.val * 1 + t.val, 0] :=
  have key : ∀ a : (pcfg0 (F := Ideal)).Adm, a = ⟨place h k, place_ok h k⟩ → ∀ t : Fin grid0.N,
      (win0 a 0).index t = ![k.val * 2 + h.val * 1 + t.val, 0] ∧ (win0 a 1).index t = ![k.val * 2 + h.val * 1 + t.val, 0]
        ∧ (win0 a 2).index t = ![(k + 1).val, t.val, 0] ∧ (win0 a 3).index t = ![(k + 2).val, t.val, 0]
        ∧ (win0 a 4).index t = ![(k + 3).val, t.val, 0] ∧ (win0 a 5).index t = ![0, h.val * 1 + t.val, 0] := by
    rintro _ rfl t; exact idx_place h k t
  key _ (at_place m hO e) t

theorem covers (e : tbl m = place h k) : ((cfgM m hO).win 5).CoversWhere
    (fun β => β (0 : Fin 3) = 0 ∧ β (1 : Fin 3) / 1 = h.val) :=
  have key : ∀ a : (pcfg0 (F := Ideal)).Adm, a = ⟨place h k, place_ok h k⟩ →
      (win0 a 5).CoversWhere (fun β => β (0 : Fin 3) = 0 ∧ β (1 : Fin 3) / 1 = h.val) := by
    rintro _ rfl; exact covers_place h k
  key _ (at_place m hO e)

theorem V_prev (c : Dev nD) : V m c main_v0 = m (c.tc.loc main_arg4) := by
  unfold V hostOps0
  after_results
  rfl

theorem read0 (c : Dev nD) (t : Fin (cfgM m hO).N) (y : S256x2048.Idx) (z : S2048x2048.Idx)
    (h0 : (z 0).val = ((cfgM m hO).win 0).index t (0 : Fin 2) * 256 + (y 0).val) (h1 : (z 1).val = ((cfgM m hO).win 0).index t (1 : Fin 2) * 2048 + (y 1).val) :
    iblk m hO c 0 t y = m (c.tc.loc main_arg1) z := by
  rw [← V_main_arg1 m c]
  refine congrArg (V m c main_arg1) (?_ : (((cfgM m hO).win 0).blk t).view.emb y = z)
  funext a
  apply Fin.ext
  fin_cases a
  · change ((cfgM m hO).win 0).index t (0 : Fin 2) * 256 + 1 * (y 0).val = (z 0).val; omega
  · change ((cfgM m hO).win 0).index t (1 : Fin 2) * 2048 + 1 * (y 1).val = (z 1).val; omega

theorem read1 (c : Dev nD) (t : Fin (cfgM m hO).N) (y : S256x2048.Idx) (z : S2048x2048.Idx)
    (h0 : (z 0).val = ((cfgM m hO).win 1).index t (0 : Fin 2) * 256 + (y 0).val) (h1 : (z 1).val = ((cfgM m hO).win 1).index t (1 : Fin 2) * 2048 + (y 1).val) :
    iblk m hO c 1 t y = m (c.tc.loc main_arg2) z := by
  rw [← V_main_arg2 m c]
  refine congrArg (V m c main_arg2) (?_ : (((cfgM m hO).win 1).blk t).view.emb y = z)
  funext a
  apply Fin.ext
  fin_cases a
  · change ((cfgM m hO).win 1).index t (0 : Fin 2) * 256 + 1 * (y 0).val = (z 0).val; omega
  · change ((cfgM m hO).win 1).index t (1 : Fin 2) * 2048 + 1 * (y 1).val = (z 1).val; omega

theorem read2 (c : Dev nD) (t : Fin (cfgM m hO).N) (y : S1x256x2048.Idx) (z : S4x256x2048.Idx)
    (h0 : (z 0).val = ((cfgM m hO).win 2).index t (0 : Fin 3) * 1 + (y 0).val) (h1 : (z 1).val = ((cfgM m hO).win 2).index t (1 : Fin 3) * 256 + (y 1).val) (h2 : (z 2).val = ((cfgM m hO).win 2).index t (2 : Fin 3) * 2048 + (y 2).val) :
    iblk m hO c 2 t y = m (c.tc.loc main_arg3) z := by
  rw [← V_main_arg3 m c]
  refine congrArg (V m c main_arg3) (?_ : (((cfgM m hO).win 2).blk t).view.emb y = z)
  funext a
  apply Fin.ext
  fin_cases a
  · change ((cfgM m hO).win 2).index t (0 : Fin 3) * 1 + 1 * (y 0).val = (z 0).val; omega
  · change ((cfgM m hO).win 2).index t (1 : Fin 3) * 256 + 1 * (y 1).val = (z 1).val; omega
  · change ((cfgM m hO).win 2).index t (2 : Fin 3) * 2048 + 1 * (y 2).val = (z 2).val; omega

theorem read3 (c : Dev nD) (t : Fin (cfgM m hO).N) (y : S1x256x2048.Idx) (z : S4x256x2048.Idx)
    (h0 : (z 0).val = ((cfgM m hO).win 3).index t (0 : Fin 3) * 1 + (y 0).val) (h1 : (z 1).val = ((cfgM m hO).win 3).index t (1 : Fin 3) * 256 + (y 1).val) (h2 : (z 2).val = ((cfgM m hO).win 3).index t (2 : Fin 3) * 2048 + (y 2).val) :
    iblk m hO c 3 t y = m (c.tc.loc main_arg3) z := by
  rw [← V_main_arg3 m c]
  refine congrArg (V m c main_arg3) (?_ : (((cfgM m hO).win 3).blk t).view.emb y = z)
  funext a
  apply Fin.ext
  fin_cases a
  · change ((cfgM m hO).win 3).index t (0 : Fin 3) * 1 + 1 * (y 0).val = (z 0).val; omega
  · change ((cfgM m hO).win 3).index t (1 : Fin 3) * 256 + 1 * (y 1).val = (z 1).val; omega
  · change ((cfgM m hO).win 3).index t (2 : Fin 3) * 2048 + 1 * (y 2).val = (z 2).val; omega

theorem read4 (c : Dev nD) (t : Fin (cfgM m hO).N) (y : S1x256x2048.Idx) (z : S4x256x2048.Idx)
    (h0 : (z 0).val = ((cfgM m hO).win 4).index t (0 : Fin 3) * 1 + (y 0).val) (h1 : (z 1).val = ((cfgM m hO).win 4).index t (1 : Fin 3) * 256 + (y 1).val) (h2 : (z 2).val = ((cfgM m hO).win 4).index t (2 : Fin 3) * 2048 + (y 2).val) :
    iblk m hO c 4 t y = m (c.tc.loc main_arg3) z := by
  rw [← V_main_arg3 m c]
  refine congrArg (V m c main_arg3) (?_ : (((cfgM m hO).win 4).blk t).view.emb y = z)
  funext a
  apply Fin.ext
  fin_cases a
  · change ((cfgM m hO).win 4).index t (0 : Fin 3) * 1 + 1 * (y 0).val = (z 0).val; omega
  · change ((cfgM m hO).win 4).index t (1 : Fin 3) * 256 + 1 * (y 1).val = (z 1).val; omega
  · change ((cfgM m hO).win 4).index t (2 : Fin 3) * 2048 + 1 * (y 2).val = (z 2).val; omega

theorem emb_out (t : Fin (cfgM m hO).N) (y : S1x256x2048.Idx) :
    ((((cfgM m hO).win 5).blk t).view.emb y (0 : Fin 3)).val = ((cfgM m hO).win 5).index t (0 : Fin 3) * 1 + 1 * (y 0).val
      ∧ ((((cfgM m hO).win 5).blk t).view.emb y (1 : Fin 3)).val = ((cfgM m hO).win 5).index t (1 : Fin 3) * 256 + 1 * (y 1).val
      ∧ ((((cfgM m hO).win 5).blk t).view.emb y (2 : Fin 3)).val = ((cfgM m hO).win 5).index t (2 : Fin 3) * 2048 + 1 * (y 2).val := ⟨rfl, rfl, rfl⟩

/-- One block of the sum. -/
theorem point (e : tbl m = place h k) (c : Dev nD) (t : Fin (cfgM m hO).N) (y : S1x256x2048.Idx) (J : S2x512x2048.Idx)
    (j0 : (J 0).val = 0) (j1 : (J 1).val = (h.val * 1 + t.val) * 256 + (y 1).val) (j2 : (J 2).val = (y 2).val)
    (a0 a1 a2 a3 a4 : EReal) (e0 : a0 = iblk m hO c 0 t (ix2 (y 1) (y 2))) (e1 : a1 = iblk m hO c 1 t (ix2 (y 1) (y 2)))
    (e2 : a2 = iblk m hO c 2 t y) (e3 : a3 = iblk m hO c 3 t y) (e4 : a4 = iblk m hO c 4 t y) :
    a0 + a1 + a2 + a3 + a4 = put h k (m (c.tc.loc main_arg1)) (m (c.tc.loc main_arg2)) (m (c.tc.loc main_arg3)) (m (c.tc.loc main_arg4)) J := by
  obtain ⟨i0, i1, i2, i3, i4, -⟩ := idx m hO e t
  have ht : t.val < 1 := t.isLt
  have hy0 : (y 0).val < 1 := (y 0).isLt
  have hy1 : (y 1).val < 256 := (y 1).isLt
  have hj : (J 1).val / 256 = h.val := by omega
  have hr : (J 1).val % 256 = t.val * 256 + (y 1).val := by omega
  refine Eq.trans ?_ (if_pos ⟨j0, hj⟩).symm
  refine congrArg₂ _ (congrArg₂ _ (congrArg₂ _ (congrArg₂ _ (e0.trans (read0 m hO c t _ _ ?_ ?_)) (e1.trans (read1 m hO c t _ _ ?_ ?_))) (e2.trans (read2 m hO c t _ _ ?_ ?_ ?_))) (e3.trans (read3 m hO c t _ _ ?_ ?_ ?_))) (e4.trans (read4 m hO c t _ _ ?_ ?_ ?_))
  · rw [show ((cfgM m hO).win 0).index t (0 : Fin 2) = _ from congrFun i0 (0 : Fin 2)]; change k.val * 512 + (J 1).val = (k.val * 2 + h.val * 1 + t.val) * 256 + (y 1).val; omega
  · rw [show ((cfgM m hO).win 0).index t (1 : Fin 2) = _ from congrFun i0 (1 : Fin 2)]; change (J 2).val = (0) * 2048 + (y 2).val; omega
  · rw [show ((cfgM m hO).win 1).index t (0 : Fin 2) = _ from congrFun i1 (0 : Fin 2)]; change k.val * 512 + (J 1).val = (k.val * 2 + h.val * 1 + t.val) * 256 + (y 1).val; omega
  · rw [show ((cfgM m hO).win 1).index t (1 : Fin 2) = _ from congrFun i1 (1 : Fin 2)]; change (J 2).val = (0) * 2048 + (y 2).val; omega
  · rw [show ((cfgM m hO).win 2).index t (0 : Fin 3) = _ from congrFun i2 (0 : Fin 3)]; change (k + 1).val = (k + 1).val * 1 + (y 0).val; omega
  · rw [show ((cfgM m hO).win 2).index t (1 : Fin 3) = _ from congrFun i2 (1 : Fin 3)]; exact hr
  · rw [show ((cfgM m hO).win 2).index t (2 : Fin 3) = _ from congrFun i2 (2 : Fin 3)]; change (J 2).val = 0 * 2048 + (y 2).val; omega
  · rw [show ((cfgM m hO).win 3).index t (0 : Fin 3) = _ from congrFun i3 (0 : Fin 3)]; change (k + 2).val = (k + 2).val * 1 + (y 0).val; omega
  · rw [show ((cfgM m hO).win 3).index t (1 : Fin 3) = _ from congrFun i3 (1 : Fin 3)]; exact hr
  · rw [show ((cfgM m hO).win 3).index t (2 : Fin 3) = _ from congrFun i3 (2 : Fin 3)]; change (J 2).val = 0 * 2048 + (y 2).val; omega
  · rw [show ((cfgM m hO).win 4).index t (0 : Fin 3) = _ from congrFun i4 (0 : Fin 3)]; change (k + 3).val = (k + 3).val * 1 + (y 0).val; omega
  · rw [show ((cfgM m hO).win 4).index t (1 : Fin 3) = _ from congrFun i4 (1 : Fin 3)]; exact hr
  · rw [show ((cfgM m hO).win 4).index t (2 : Fin 3) = _ from congrFun i4 (2 : Fin 3)]; change (J 2).val = 0 * 2048 + (y 2).val; omega

/-- The array the call leaves. -/
theorem final (e : tbl m = place h k) (c : Dev nD) : (dats m hO 0 c).arrAt 5 (cfgM m hO).N
    = put h k (m (c.tc.loc main_arg1)) (m (c.tc.loc main_arg2)) (m (c.tc.loc main_arg3)) (m (c.tc.loc main_arg4)) := by
  refine (dats m hO 0 c).arrAt_eq_of_coversWhere_of_agree 5 _ _ (covers m hO e) (fun t hf y => ?_) (fun j hj => ?_)
  · obtain ⟨-, -, -, -, -, i5⟩ := idx m hO e t
    obtain ⟨e0, e1, e2⟩ := emb_out m hO t y
    rw [show ((cfgM m hO).win 5).index t (0 : Fin 3) = _ from congrFun i5 (0 : Fin 3)] at e0
    rw [show ((cfgM m hO).win 5).index t (1 : Fin 3) = _ from congrFun i5 (1 : Fin 3)] at e1
    rw [show ((cfgM m hO).win 5).index t (2 : Fin 3) = _ from congrFun i5 (2 : Fin 3)] at e2
    have hy0 : (y (0 : Fin 3)).val < 1 := (y (0 : Fin 3)).isLt
    refine Eq.trans ?_ (point m hO e c t y _ (e0.trans ?_) (e1.trans ?_) (e2.trans ?_) _ _ _ _ _ rfl rfl rfl rfl rfl)
    · blk_simp
      rw [after0_5]
      unfold outsAt0
      refine (congrFun (out_eq c _ _ _ _ _ _ _ _ _ _ _ _ _ (iblk m hO c 0 t) (iblk m hO c 1 t) (iblk m hO c 2 t) (iblk m hO c 3 t) (iblk m hO c 4 t) _) y).trans ?_
      unfold k0_pay1
      pointwise
    · change 0 * 1 + 1 * (y (0 : Fin 3)).val = 0; omega
    · change (h.val * 1 + t.val) * 256 + 1 * (y (1 : Fin 3)).val = _; omega
    · change 0 * 2048 + 1 * (y (2 : Fin 3)).val = _; omega
  · change ¬((j (0 : Fin 3)).val / 1 = 0 ∧ (j (1 : Fin 3)).val / 256 / 1 = h.val) at hj
    rw [A_eq]
    change V m c main_v0 j = put h k _ _ _ _ j
    rw [V_prev]
    refine (if_neg ?_).symm
    rintro ⟨h0, h1⟩
    exact hj ⟨by rw [Nat.div_one]; exact h0, by rw [Nat.div_div_eq_div_mul]; exact h1⟩

theorem own_eq (i : S2x512x2048.Idx) (q : Fin 4) (z : S2048x2048.Idx) (h0 : (z 0).val = q.val * 512 + (i 1).val) (h1 : (z 1).val = (i 2).val) : z = own q i := by
  funext a; apply Fin.ext; fin_cases a
  · exact h0
  · exact h1

theorem shared_eq (i : S2x512x2048.Idx) (q : Fin 4) (z : S4x256x2048.Idx) (h0 : (z 0).val = q.val) (h1 : (z 1).val = (i 1).val % 256) (h2 : (z 2).val = (i 2).val) : z = shared q i := by
  funext a; apply Fin.ext; fin_cases a
  · exact h0
  · exact h1
  · exact h2

theorem prev_eq (i : S2x512x2048.Idx) (a : Fin 2) (b : Fin 512) (d : Fin 2048) (h0 : a.val = (i 0).val) (h1 : b.val = (i 1).val) (h2 : d.val = (i 2).val) :
    (ix3 a b d : S2x512x2048.Idx) = i := by
  funext x; apply Fin.ext; fin_cases x
  · exact h0
  · exact h1
  · exact h2

/-- The reference's result. -/
theorem ref_final (m : (ℓ : Loc Cert.RedGluRefIdeal.nD Cert.RedGluRefIdeal.τ Cert.RedGluRefIdeal.sig) → Buf (Elt Ideal) ℓ) (c : Dev Cert.RedGluRefIdeal.nD) (h : Fin 2) (k : Fin 4)
    (e : m (c.tc.loc Cert.RedGluRefIdeal.main_arg0) = words h k) : Cert.RedGluRefIdeal.Value.res_out0 m c
      = put h k (m (c.tc.loc Cert.RedGluRefIdeal.main_arg1)) (m (c.tc.loc Cert.RedGluRefIdeal.main_arg2)) (m (c.tc.loc Cert.RedGluRefIdeal.main_arg3)) (m (c.tc.loc Cert.RedGluRefIdeal.main_arg4)) := by
  unfold Cert.RedGluRefIdeal.Value.res_out0 Cert.RedGluRefIdeal.Value.res_main_v74
  rw [e]
  funext i
  pointwise []
  simp only [sel_half0, sel_half1, sel_chip0, sel_chip1, sel_chip2, sel_chip3]
  change _ = if (i 0).val = 0 ∧ (i 1).val / 256 = h.val then total k _ _ _ i else _
  have b0 : (i 0).val < 2 := (i 0).isLt
  have b1 : (i 1).val < 512 := (i 1).isLt
  have b2 : (i 2).val < 2048 := (i 2).isLt
  by_cases c0 : (i 0).val < 1
  · simp only [dif_pos c0]
    by_cases c1 : (i 1).val < 256
    · simp only [dif_pos c1]
      by_cases hh : h.val = 0
      · simp only [if_pos hh]
        refine Eq.trans ?_ (if_pos ⟨by omega, by omega⟩).symm
        refine Eq.trans ?_ (pick k (fun q => (@HAdd.hAdd EReal EReal EReal _ (m (c.tc.loc Cert.RedGluRefIdeal.main_arg1) (own q i)) (m (c.tc.loc Cert.RedGluRefIdeal.main_arg2) (own q i)))) (fun q => m (c.tc.loc Cert.RedGluRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = 0 * 512 + _; omega)) (by first | rfl | (rfl)))) (congrArg _ (own_eq i 0 _ (by first | rfl | (dsimp only [ix2, Matrix.cons_val_zero]; show _ = 0 * 512 + _; omega)) (by first | rfl | (rfl))))) (fun _ => congrArg _ (shared_eq i 0 _ rfl (by first | exact (Nat.mod_eq_of_lt c1).symm | (show (i 1).val - 256 = _; omega)) rfl)))
          (ite_congr rfl (fun _ => congrArg₂ _ (congrArg _ (own_eq i 1 _ (by first | rfl | (dsimp only [ix2, Matrix.cons_val_zero]; show _ = 1 * 512 + _; omega)) (by first | rfl | (rfl)))) (congrArg _ (own_eq i 1 _ (by first | rfl | (dsimp only [ix2, Matrix.cons_val_zero]; show _ = 1 * 512 + _; omega)) (by first | rfl | (rfl))))) (fun _ => congrArg _ (shared_eq i 1 _ rfl (by first | exact (Nat.mod_eq_of_lt c1).symm | (show (i 1).val - 256 = _; omega)) rfl))))
          (ite_congr rfl (fun _ => congrArg₂ _ (congrArg _ (own_eq i 2 _ (by first | rfl | (dsimp only [ix2, Matrix.cons_val_zero]; show _ = 2 * 512 + _; omega)) (by first | rfl | (rfl)))) (congrArg _ (own_eq i 2 _ (by first | rfl | (dsimp only [ix2, Matrix.cons_val_zero]; show _ = 2 * 512 + _; omega)) (by first | rfl | (rfl))))) (fun _ => congrArg _ (shared_eq i 2 _ rfl (by first | exact (Nat.mod_eq_of_lt c1).symm | (show (i 1).val - 256 = _; omega)) rfl))))
          (ite_congr rfl (fun _ => congrArg₂ _ (congrArg _ (own_eq i 3 _ (by first | rfl | (dsimp only [ix2, Matrix.cons_val_zero]; show _ = 3 * 512 + _; omega)) (by first | rfl | (rfl)))) (congrArg _ (own_eq i 3 _ (by first | rfl | (dsimp only [ix2, Matrix.cons_val_zero]; show _ = 3 * 512 + _; omega)) (by first | rfl | (rfl))))) (fun _ => congrArg _ (shared_eq i 3 _ rfl (by first | exact (Nat.mod_eq_of_lt c1).symm | (show (i 1).val - 256 = _; omega)) rfl)))
      · simp only [if_neg hh]
        refine Eq.trans ?_ (if_neg (by omega)).symm
        exact congrArg _ (prev_eq i _ _ _ (by show 0 = _; omega) (by rfl) (by rfl))
    · simp only [dif_neg c1]
      by_cases hh : h.val = 1
      · have hn : ¬h.val = 0 := by omega
        simp only [if_pos hh, if_neg hn]
        refine Eq.trans ?_ (if_pos ⟨by omega, by omega⟩).symm
        refine Eq.trans ?_ (pick k (fun q => (@HAdd.hAdd EReal EReal EReal _ (m (c.tc.loc Cert.RedGluRefIdeal.main_arg1) (own q i)) (m (c.tc.loc Cert.RedGluRefIdeal.main_arg2) (own q i)))) (fun q => m (c.tc.loc Cert.RedGluRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = 0 * 512 + _; omega)) (by first | rfl | (rfl)))) (congrArg _ (own_eq i 0 _ (by first | rfl | (dsimp only [ix2, Matrix.cons_val_zero]; show _ = 0 * 512 + _; omega)) (by first | rfl | (rfl))))) (fun _ => congrArg _ (shared_eq i 0 _ rfl (by first | exact (Nat.mod_eq_of_lt c1).symm | (show (i 1).val - 256 = _; omega)) rfl)))
          (ite_congr rfl (fun _ => congrArg₂ _ (congrArg _ (own_eq i 1 _ (by first | rfl | (dsimp only [ix2, Matrix.cons_val_zero]; show _ = 1 * 512 + _; omega)) (by first | rfl | (rfl)))) (congrArg _ (own_eq i 1 _ (by first | rfl | (dsimp only [ix2, Matrix.cons_val_zero]; show _ = 1 * 512 + _; omega)) (by first | rfl | (rfl))))) (fun _ => congrArg _ (shared_eq i 1 _ rfl (by first | exact (Nat.mod_eq_of_lt c1).symm | (show (i 1).val - 256 = _; omega)) rfl))))
          (ite_congr rfl (fun _ => congrArg₂ _ (congrArg _ (own_eq i 2 _ (by first | rfl | (dsimp only [ix2, Matrix.cons_val_zero]; show _ = 2 * 512 + _; omega)) (by first | rfl | (rfl)))) (congrArg _ (own_eq i 2 _ (by first | rfl | (dsimp only [ix2, Matrix.cons_val_zero]; show _ = 2 * 512 + _; omega)) (by first | rfl | (rfl))))) (fun _ => congrArg _ (shared_eq i 2 _ rfl (by first | exact (Nat.mod_eq_of_lt c1).symm | (show (i 1).val - 256 = _; omega)) rfl))))
          (ite_congr rfl (fun _ => congrArg₂ _ (congrArg _ (own_eq i 3 _ (by first | rfl | (dsimp only [ix2, Matrix.cons_val_zero]; show _ = 3 * 512 + _; omega)) (by first | rfl | (rfl)))) (congrArg _ (own_eq i 3 _ (by first | rfl | (dsimp only [ix2, Matrix.cons_val_zero]; show _ = 3 * 512 + _; omega)) (by first | rfl | (rfl))))) (fun _ => congrArg _ (shared_eq i 3 _ rfl (by first | exact (Nat.mod_eq_of_lt c1).symm | (show (i 1).val - 256 = _; omega)) rfl)))
      · simp only [if_neg hh]
        refine Eq.trans ?_ (if_neg (by omega)).symm
        exact congrArg _ (prev_eq i _ _ _ (by show 0 = _; omega) (by show 256 + ((i 1).val - 256) = _; omega) (by rfl))
  · simp only [dif_neg c0]
    refine Eq.trans ?_ (if_neg (by omega)).symm
    exact congrArg _ (prev_eq i _ _ _ (by show 1 = _; omega) (by rfl) (by rfl))

/-- From equal arguments the kernel and the reference end with equal results. -/
theorem algebraic : Cert.algebraic_RedGluIdeal_RedGluRefIdeal := fun m ρ m' ρ' hp hag => by
  obtain ⟨h, k, e, ew⟩ := placed m hp
  refine ⟨fun c => put h k (m (c.tc.loc main_arg1)) (m (c.tc.loc main_arg2)) (m (c.tc.loc main_arg3)) (m (c.tc.loc main_arg4)), ?_, ?_⟩
  · refine (θ_run _ _ _).mono (fun r hr c => ⟨((hr.1 c).1 5).trans (final m (ok m hp) e c), hr.2 c⟩)
      (θ_run_and (run_main m ρ (ok m hp)) (unchanged m ρ (ok m hp)))
  · refine (θ_run _ _ _).mono (fun r hr c => ⟨(hr c).1.trans ((ref_final m' c h k ?_).trans ?_), (hr c).2⟩) (Cert.RedGluRefIdeal.Value.run m' ρ')
    · obtain rfl : c = 0 := Subsingleton.elim _ _
      exact (hag 0).1.trans ew
    · simp only [hag c]

/-- The reference runs, keeps its arguments and leaves every counter at zero. -/
theorem frame_reference : Cert.quiescent_RedGluRefIdeal := fun m ρ _ =>
  (θ_run _ _ _).mono (fun r h => ⟨fun c => (h c).2, Idealize.ShloMosaic.sem_eq_zero_of_no_sems (by decide) r.2⟩)
    (Cert.RedGluRefIdeal.Value.run m ρ)

end Cert.RedGluIdeal.Red

end
-- ==== Proof.RedOut.lean ====
module

public import proofs.«01_k».proof.Proof.RedPre
public import proofs.«01_k».proof.Proof.Gen.RedOutRefIdeal.Run
public import Idealize.ShloMosaic.Lib.Pipeline.Value
public import Idealize.ShloMosaic.Lib.Pipeline.ValueKit.Partial

@[expose] public section

set_option maxRecDepth 16384
set_option maxHeartbeats 4000000

noncomputable section

namespace Cert.RedOutIdeal.Red

open Cert.RedOutIdeal Cert.RedOutIdeal.Gen Idealize.ShloMosaic Idealize.ShloMosaic.TcCoe Idealize.SL.Sem Cert.Red

/-- Where an element of this device's half and chip lies in the whole gradient. -/
def own (k : Fin 4) (j : S2x512x2048.Idx) : S2048x2048.Idx :=
  ix2 ⟨k.val * 512 + (j 1).val, by have := (j 1).isLt; change (j 1).val < 512 at this; omega⟩ ⟨(j 2).val, (j 2).isLt⟩

/-- Where an element of a half lies in chip `k`'s share. -/
def shared (k : Fin 4) (j : S2x512x2048.Idx) : S4x256x2048.Idx :=
  ix3 k ⟨(j 1).val % 256, Nat.mod_lt _ (by decide)⟩ ⟨(j 2).val, (j 2).isLt⟩

/-- The four chips' shares added up. -/
def total (k : Fin 4) (dw : FVec Ideal S2048x2048 .f32) (got : FVec Ideal S2048x2048 .bf16) (land : FVec Ideal S4x256x2048 .bf16) : FVec Ideal S2x512x2048 .f32 :=
  fun j => dw (own k j) + got (own k j) + land (shared (k + 1) j) + land (shared (k + 2) j) + land (shared (k + 3) j)

/-- The array with the sum in half `h` of its first layer. -/
def put (h : Fin 2) (k : Fin 4) (dw : FVec Ideal S2048x2048 .f32) (got : FVec Ideal S2048x2048 .bf16) (land : FVec Ideal S4x256x2048 .bf16) (prev : FVec Ideal S2x512x2048 .f32) : FVec Ideal S2x512x2048 .f32 :=
  fun j => if (j 0).val = 0 ∧ (j 1).val / 256 = h.val then total k dw got land j else prev j

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in its output block. -/
theorem out_eq (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg8 : Memref sig .tc .vmem S1x256x2048 .f32) (harg8 : arg8.IsWhole)
    (x0 : Vec Ideal S256x2048 .f32) (x1 : Vec Ideal S256x2048 .bf16) (x2 x3 x4 : Vec Ideal S1x256x2048 .bf16) (xt0 : TbBuf0 (F := Ideal) c tbM0_0) :
    out0_A_5 c i arg2 harg2 arg3 harg3 arg4 harg4 arg5 harg5 arg6 harg6 arg8 harg8 x0 x1 x2 x3 x4 xt0 = k0_pay1 x0 x1 x2 x3 x4 := by
  unfold out0_A_5
  rw [View.read_writes_eq_canon _ _ _ (cover0_A_5 c i arg2 harg2 arg3 harg3 arg4 harg4 arg5 harg5 arg6 harg6 arg8 harg8 x0 x1 x2 x3 x4 xt0)]
  unfold kernelRun0_A
  dsimp only
  sl_unfold_words
  rw [View.canon_unit_zero hz3]
  simp only [View.readAt_eq_ld, harg2.read_unread, harg3.read_unread, harg4.read_unread, harg5.read_unread, harg6.read_unread, View.ld_unit_zero (S := S256x2048) hz2, View.ld_unit_zero (S := S1x256x2048) hz3]

theorem idx_place : ∀ h k, ∀ t : Fin grid0.N,
    (win0 ⟨place h k, place_ok h k⟩ 0).index t = ![k.val * 2 + h.val * 1 + t.val, 0] ∧ (win0 ⟨place h k, place_ok h k⟩ 1).index t = ![k.val * 2 + h.val * 1 + t.val, 0]
      ∧ (win0 ⟨place h k, place_ok h k⟩ 2).index t = ![(k + 1).val, t.val, 0]
      ∧ (win0 ⟨place h k, place_ok h k⟩ 3).index t = ![(k + 2).val, t.val, 0]
      ∧ (win0 ⟨place h k, place_ok h k⟩ 4).index t = ![(k + 3).val, t.val, 0]
      ∧ (win0 ⟨place h k, place_ok h k⟩ 5).index t = ![0, h.val * 1 + t.val, 0] := by decide +kernel

theorem covers_place : ∀ h k, (win0 ⟨place h k, place_ok h k⟩ 5).CoversWhere
    (fun β => β (0 : Fin 3) = 0 ∧ β (1 : Fin 3) / 1 = h.val) := by decide +kernel

variable (m : (ℓ : Loc nD τ sig) → Buf (Elt Ideal) ℓ) (hO : Ok m) {h : Fin 2} {k : Fin 4}

theorem at_place (e : tbl m = place h k) : adm m hO = ⟨place h k, place_ok h k⟩ := Subtype.ext e

/-- The windows' blocks at a device's place. -/
theorem idx (e : tbl m = place h k) (t : Fin (cfgM m hO).N) :
    ((cfgM m hO).win 0).index t = ![k.val * 2 + h.val * 1 + t.val, 0] ∧ ((cfgM m hO).win 1).index t = ![k.val * 2 + h.val * 1 + t.val, 0]
      ∧ ((cfgM m hO).win 2).index t = ![(k + 1).val, t.val, 0]
      ∧ ((cfgM m hO).win 3).index t = ![(k + 2).val, t.val, 0]
      ∧ ((cfgM m hO).win 4).index t = ![(k + 3).val, t.val, 0]
      ∧ ((cfgM m hO).win 5).index t = ![0, h.val * 1 + t.val, 0] :=
  have key : ∀ a : (pcfg0 (F := Ideal)).Adm, a = ⟨place h k, place_ok h k⟩ → ∀ t : Fin grid0.N,
      (win0 a 0).index t = ![k.val * 2 + h.val * 1 + t.val, 0] ∧ (win0 a 1).index t = ![k.val * 2 + h.val * 1 + t.val, 0]
        ∧ (win0 a 2).index t = ![(k + 1).val, t.val, 0] ∧ (win0 a 3).index t = ![(k + 2).val, t.val, 0]
        ∧ (win0 a 4).index t = ![(k + 3).val, t.val, 0] ∧ (win0 a 5).index t = ![0, h.val * 1 + t.val, 0] := by
    rintro _ rfl t; exact idx_place h k t
  key _ (at_place m hO e) t

theorem covers (e : tbl m = place h k) : ((cfgM m hO).win 5).CoversWhere
    (fun β => β (0 : Fin 3) = 0 ∧ β (1 : Fin 3) / 1 = h.val) :=
  have key : ∀ a : (pcfg0 (F := Ideal)).Adm, a = ⟨place h k, place_ok h k⟩ →
      (win0 a 5).CoversWhere (fun β => β (0 : Fin 3) = 0 ∧ β (1 : Fin 3) / 1 = h.val) := by
    rintro _ rfl; exact covers_place h k
  key _ (at_place m hO e)

theorem V_prev (c : Dev nD) : V m c main_v0 = m (c.tc.loc main_arg4) := by
  unfold V hostOps0
  after_results
  rfl

theorem read0 (c : Dev nD) (t : Fin (cfgM m hO).N) (y : S256x2048.Idx) (z : S2048x2048.Idx)
    (h0 : (z 0).val = ((cfgM m hO).win 0).index t (0 : Fin 2) * 256 + (y 0).val) (h1 : (z 1).val = ((cfgM m hO).win 0).index t (1 : Fin 2) * 2048 + (y 1).val) :
    iblk m hO c 0 t y = m (c.tc.loc main_arg1) z := by
  rw [← V_main_arg1 m c]
  refine congrArg (V m c main_arg1) (?_ : (((cfgM m hO).win 0).blk t).view.emb y = z)
  funext a
  apply Fin.ext
  fin_cases a
  · change ((cfgM m hO).win 0).index t (0 : Fin 2) * 256 + 1 * (y 0).val = (z 0).val; omega
  · change ((cfgM m hO).win 0).index t (1 : Fin 2) * 2048 + 1 * (y 1).val = (z 1).val; omega

theorem read1 (c : Dev nD) (t : Fin (cfgM m hO).N) (y : S256x2048.Idx) (z : S2048x2048.Idx)
    (h0 : (z 0).val = ((cfgM m hO).win 1).index t (0 : Fin 2) * 256 + (y 0).val) (h1 : (z 1).val = ((cfgM m hO).win 1).index t (1 : Fin 2) * 2048 + (y 1).val) :
    iblk m hO c 1 t y = m (c.tc.loc main_arg2) z := by
  rw [← V_main_arg2 m c]
  refine congrArg (V m c main_arg2) (?_ : (((cfgM m hO).win 1).blk t).view.emb y = z)
  funext a
  apply Fin.ext
  fin_cases a
  · change ((cfgM m hO).win 1).index t (0 : Fin 2) * 256 + 1 * (y 0).val = (z 0).val; omega
  · change ((cfgM m hO).win 1).index t (1 : Fin 2) * 2048 + 1 * (y 1).val = (z 1).val; omega

theorem read2 (c : Dev nD) (t : Fin (cfgM m hO).N) (y : S1x256x2048.Idx) (z : S4x256x2048.Idx)
    (h0 : (z 0).val = ((cfgM m hO).win 2).index t (0 : Fin 3) * 1 + (y 0).val) (h1 : (z 1).val = ((cfgM m hO).win 2).index t (1 : Fin 3) * 256 + (y 1).val) (h2 : (z 2).val = ((cfgM m hO).win 2).index t (2 : Fin 3) * 2048 + (y 2).val) :
    iblk m hO c 2 t y = m (c.tc.loc main_arg3) z := by
  rw [← V_main_arg3 m c]
  refine congrArg (V m c main_arg3) (?_ : (((cfgM m hO).win 2).blk t).view.emb y = z)
  funext a
  apply Fin.ext
  fin_cases a
  · change ((cfgM m hO).win 2).index t (0 : Fin 3) * 1 + 1 * (y 0).val = (z 0).val; omega
  · change ((cfgM m hO).win 2).index t (1 : Fin 3) * 256 + 1 * (y 1).val = (z 1).val; omega
  · change ((cfgM m hO).win 2).index t (2 : Fin 3) * 2048 + 1 * (y 2).val = (z 2).val; omega

theorem read3 (c : Dev nD) (t : Fin (cfgM m hO).N) (y : S1x256x2048.Idx) (z : S4x256x2048.Idx)
    (h0 : (z 0).val = ((cfgM m hO).win 3).index t (0 : Fin 3) * 1 + (y 0).val) (h1 : (z 1).val = ((cfgM m hO).win 3).index t (1 : Fin 3) * 256 + (y 1).val) (h2 : (z 2).val = ((cfgM m hO).win 3).index t (2 : Fin 3) * 2048 + (y 2).val) :
    iblk m hO c 3 t y = m (c.tc.loc main_arg3) z := by
  rw [← V_main_arg3 m c]
  refine congrArg (V m c main_arg3) (?_ : (((cfgM m hO).win 3).blk t).view.emb y = z)
  funext a
  apply Fin.ext
  fin_cases a
  · change ((cfgM m hO).win 3).index t (0 : Fin 3) * 1 + 1 * (y 0).val = (z 0).val; omega
  · change ((cfgM m hO).win 3).index t (1 : Fin 3) * 256 + 1 * (y 1).val = (z 1).val; omega
  · change ((cfgM m hO).win 3).index t (2 : Fin 3) * 2048 + 1 * (y 2).val = (z 2).val; omega

theorem read4 (c : Dev nD) (t : Fin (cfgM m hO).N) (y : S1x256x2048.Idx) (z : S4x256x2048.Idx)
    (h0 : (z 0).val = ((cfgM m hO).win 4).index t (0 : Fin 3) * 1 + (y 0).val) (h1 : (z 1).val = ((cfgM m hO).win 4).index t (1 : Fin 3) * 256 + (y 1).val) (h2 : (z 2).val = ((cfgM m hO).win 4).index t (2 : Fin 3) * 2048 + (y 2).val) :
    iblk m hO c 4 t y = m (c.tc.loc main_arg3) z := by
  rw [← V_main_arg3 m c]
  refine congrArg (V m c main_arg3) (?_ : (((cfgM m hO).win 4).blk t).view.emb y = z)
  funext a
  apply Fin.ext
  fin_cases a
  · change ((cfgM m hO).win 4).index t (0 : Fin 3) * 1 + 1 * (y 0).val = (z 0).val; omega
  · change ((cfgM m hO).win 4).index t (1 : Fin 3) * 256 + 1 * (y 1).val = (z 1).val; omega
  · change ((cfgM m hO).win 4).index t (2 : Fin 3) * 2048 + 1 * (y 2).val = (z 2).val; omega

theorem emb_out (t : Fin (cfgM m hO).N) (y : S1x256x2048.Idx) :
    ((((cfgM m hO).win 5).blk t).view.emb y (0 : Fin 3)).val = ((cfgM m hO).win 5).index t (0 : Fin 3) * 1 + 1 * (y 0).val
      ∧ ((((cfgM m hO).win 5).blk t).view.emb y (1 : Fin 3)).val = ((cfgM m hO).win 5).index t (1 : Fin 3) * 256 + 1 * (y 1).val
      ∧ ((((cfgM m hO).win 5).blk t).view.emb y (2 : Fin 3)).val = ((cfgM m hO).win 5).index t (2 : Fin 3) * 2048 + 1 * (y 2).val := ⟨rfl, rfl, rfl⟩

/-- One block of the sum. -/
theorem point (e : tbl m = place h k) (c : Dev nD) (t : Fin (cfgM m hO).N) (y : S1x256x2048.Idx) (J : S2x512x2048.Idx)
    (j0 : (J 0).val = 0) (j1 : (J 1).val = (h.val * 1 + t.val) * 256 + (y 1).val) (j2 : (J 2).val = (y 2).val)
    (a0 a1 a2 a3 a4 : EReal) (e0 : a0 = iblk m hO c 0 t (ix2 (y 1) (y 2))) (e1 : a1 = iblk m hO c 1 t (ix2 (y 1) (y 2)))
    (e2 : a2 = iblk m hO c 2 t y) (e3 : a3 = iblk m hO c 3 t y) (e4 : a4 = iblk m hO c 4 t y) :
    a0 + a1 + a2 + a3 + a4 = put h k (m (c.tc.loc main_arg1)) (m (c.tc.loc main_arg2)) (m (c.tc.loc main_arg3)) (m (c.tc.loc main_arg4)) J := by
  obtain ⟨i0, i1, i2, i3, i4, -⟩ := idx m hO e t
  have ht : t.val < 1 := t.isLt
  have hy0 : (y 0).val < 1 := (y 0).isLt
  have hy1 : (y 1).val < 256 := (y 1).isLt
  have hj : (J 1).val / 256 = h.val := by omega
  have hr : (J 1).val % 256 = t.val * 256 + (y 1).val := by omega
  refine Eq.trans ?_ (if_pos ⟨j0, hj⟩).symm
  refine congrArg₂ _ (congrArg₂ _ (congrArg₂ _ (congrArg₂ _ (e0.trans (read0 m hO c t _ _ ?_ ?_)) (e1.trans (read1 m hO c t _ _ ?_ ?_))) (e2.trans (read2 m hO c t _ _ ?_ ?_ ?_))) (e3.trans (read3 m hO c t _ _ ?_ ?_ ?_))) (e4.trans (read4 m hO c t _ _ ?_ ?_ ?_))
  · rw [show ((cfgM m hO).win 0).index t (0 : Fin 2) = _ from congrFun i0 (0 : Fin 2)]; change k.val * 512 + (J 1).val = (k.val * 2 + h.val * 1 + t.val) * 256 + (y 1).val; omega
  · rw [show ((cfgM m hO).win 0).index t (1 : Fin 2) = _ from congrFun i0 (1 : Fin 2)]; change (J 2).val = (0) * 2048 + (y 2).val; omega
  · rw [show ((cfgM m hO).win 1).index t (0 : Fin 2) = _ from congrFun i1 (0 : Fin 2)]; change k.val * 512 + (J 1).val = (k.val * 2 + h.val * 1 + t.val) * 256 + (y 1).val; omega
  · rw [show ((cfgM m hO).win 1).index t (1 : Fin 2) = _ from congrFun i1 (1 : Fin 2)]; change (J 2).val = (0) * 2048 + (y 2).val; omega
  · rw [show ((cfgM m hO).win 2).index t (0 : Fin 3) = _ from congrFun i2 (0 : Fin 3)]; change (k + 1).val = (k + 1).val * 1 + (y 0).val; omega
  · rw [show ((cfgM m hO).win 2).index t (1 : Fin 3) = _ from congrFun i2 (1 : Fin 3)]; exact hr
  · rw [show ((cfgM m hO).win 2).index t (2 : Fin 3) = _ from congrFun i2 (2 : Fin 3)]; change (J 2).val = 0 * 2048 + (y 2).val; omega
  · rw [show ((cfgM m hO).win 3).index t (0 : Fin 3) = _ from congrFun i3 (0 : Fin 3)]; change (k + 2).val = (k + 2).val * 1 + (y 0).val; omega
  · rw [show ((cfgM m hO).win 3).index t (1 : Fin 3) = _ from congrFun i3 (1 : Fin 3)]; exact hr
  · rw [show ((cfgM m hO).win 3).index t (2 : Fin 3) = _ from congrFun i3 (2 : Fin 3)]; change (J 2).val = 0 * 2048 + (y 2).val; omega
  · rw [show ((cfgM m hO).win 4).index t (0 : Fin 3) = _ from congrFun i4 (0 : Fin 3)]; change (k + 3).val = (k + 3).val * 1 + (y 0).val; omega
  · rw [show ((cfgM m hO).win 4).index t (1 : Fin 3) = _ from congrFun i4 (1 : Fin 3)]; exact hr
  · rw [show ((cfgM m hO).win 4).index t (2 : Fin 3) = _ from congrFun i4 (2 : Fin 3)]; change (J 2).val = 0 * 2048 + (y 2).val; omega

/-- The array the call leaves. -/
theorem final (e : tbl m = place h k) (c : Dev nD) : (dats m hO 0 c).arrAt 5 (cfgM m hO).N
    = put h k (m (c.tc.loc main_arg1)) (m (c.tc.loc main_arg2)) (m (c.tc.loc main_arg3)) (m (c.tc.loc main_arg4)) := by
  refine (dats m hO 0 c).arrAt_eq_of_coversWhere_of_agree 5 _ _ (covers m hO e) (fun t hf y => ?_) (fun j hj => ?_)
  · obtain ⟨-, -, -, -, -, i5⟩ := idx m hO e t
    obtain ⟨e0, e1, e2⟩ := emb_out m hO t y
    rw [show ((cfgM m hO).win 5).index t (0 : Fin 3) = _ from congrFun i5 (0 : Fin 3)] at e0
    rw [show ((cfgM m hO).win 5).index t (1 : Fin 3) = _ from congrFun i5 (1 : Fin 3)] at e1
    rw [show ((cfgM m hO).win 5).index t (2 : Fin 3) = _ from congrFun i5 (2 : Fin 3)] at e2
    have hy0 : (y (0 : Fin 3)).val < 1 := (y (0 : Fin 3)).isLt
    refine Eq.trans ?_ (point m hO e c t y _ (e0.trans ?_) (e1.trans ?_) (e2.trans ?_) _ _ _ _ _ rfl rfl rfl rfl rfl)
    · blk_simp
      rw [after0_5]
      unfold outsAt0
      refine (congrFun (out_eq c _ _ _ _ _ _ _ _ _ _ _ _ _ (iblk m hO c 0 t) (iblk m hO c 1 t) (iblk m hO c 2 t) (iblk m hO c 3 t) (iblk m hO c 4 t) _) y).trans ?_
      unfold k0_pay1
      pointwise
    · change 0 * 1 + 1 * (y (0 : Fin 3)).val = 0; omega
    · change (h.val * 1 + t.val) * 256 + 1 * (y (1 : Fin 3)).val = _; omega
    · change 0 * 2048 + 1 * (y (2 : Fin 3)).val = _; omega
  · change ¬((j (0 : Fin 3)).val / 1 = 0 ∧ (j (1 : Fin 3)).val / 256 / 1 = h.val) at hj
    rw [A_eq]
    change V m c main_v0 j = put h k _ _ _ _ j
    rw [V_prev]
    refine (if_neg ?_).symm
    rintro ⟨h0, h1⟩
    exact hj ⟨by rw [Nat.div_one]; exact h0, by rw [Nat.div_div_eq_div_mul]; exact h1⟩

theorem own_eq (i : S2x512x2048.Idx) (q : Fin 4) (z : S2048x2048.Idx) (h0 : (z 0).val = q.val * 512 + (i 1).val) (h1 : (z 1).val = (i 2).val) : z = own q i := by
  funext a; apply Fin.ext; fin_cases a
  · exact h0
  · exact h1

theorem shared_eq (i : S2x512x2048.Idx) (q : Fin 4) (z : S4x256x2048.Idx) (h0 : (z 0).val = q.val) (h1 : (z 1).val = (i 1).val % 256) (h2 : (z 2).val = (i 2).val) : z = shared q i := by
  funext a; apply Fin.ext; fin_cases a
  · exact h0
  · exact h1
  · exact h2

theorem prev_eq (i : S2x512x2048.Idx) (a : Fin 2) (b : Fin 512) (d : Fin 2048) (h0 : a.val = (i 0).val) (h1 : b.val = (i 1).val) (h2 : d.val = (i 2).val) :
    (ix3 a b d : S2x512x2048.Idx) = i := by
  funext x; apply Fin.ext; fin_cases x
  · exact h0
  · exact h1
  · exact h2

/-- The reference's result. -/
theorem ref_final (m : (ℓ : Loc Cert.RedOutRefIdeal.nD Cert.RedOutRefIdeal.τ Cert.RedOutRefIdeal.sig) → Buf (Elt Ideal) ℓ) (c : Dev Cert.RedOutRefIdeal.nD) (h : Fin 2) (k : Fin 4)
    (e : m (c.tc.loc Cert.RedOutRefIdeal.main_arg0) = words h k) : Cert.RedOutRefIdeal.Value.res_out0 m c
      = put h k (m (c.tc.loc Cert.RedOutRefIdeal.main_arg1)) (m (c.tc.loc Cert.RedOutRefIdeal.main_arg2)) (m (c.tc.loc Cert.RedOutRefIdeal.main_arg3)) (m (c.tc.loc Cert.RedOutRefIdeal.main_arg4)) := by
  unfold Cert.RedOutRefIdeal.Value.res_out0 Cert.RedOutRefIdeal.Value.res_main_v74
  rw [e]
  funext i
  pointwise []
  simp only [sel_half0, sel_half1, sel_chip0, sel_chip1, sel_chip2, sel_chip3]
  change _ = if (i 0).val = 0 ∧ (i 1).val / 256 = h.val then total k _ _ _ i else _
  have b0 : (i 0).val < 2 := (i 0).isLt
  have b1 : (i 1).val < 512 := (i 1).isLt
  have b2 : (i 2).val < 2048 := (i 2).isLt
  by_cases c0 : (i 0).val < 1
  · simp only [dif_pos c0]
    by_cases c1 : (i 1).val < 256
    · simp only [dif_pos c1]
      by_cases hh : h.val = 0
      · simp only [if_pos hh]
        refine Eq.trans ?_ (if_pos ⟨by omega, by omega⟩).symm
        refine Eq.trans ?_ (pick k (fun q => (@HAdd.hAdd EReal EReal EReal _ (m (c.tc.loc Cert.RedOutRefIdeal.main_arg1) (own q i)) (m (c.tc.loc Cert.RedOutRefIdeal.main_arg2) (own q i)))) (fun q => m (c.tc.loc Cert.RedOutRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = 0 * 512 + _; omega)) (by first | rfl | (rfl)))) (congrArg _ (own_eq i 0 _ (by first | rfl | (dsimp only [ix2, Matrix.cons_val_zero]; show _ = 0 * 512 + _; omega)) (by first | rfl | (rfl))))) (fun _ => congrArg _ (shared_eq i 0 _ rfl (by first | exact (Nat.mod_eq_of_lt c1).symm | (show (i 1).val - 256 = _; omega)) rfl)))
          (ite_congr rfl (fun _ => congrArg₂ _ (congrArg _ (own_eq i 1 _ (by first | rfl | (dsimp only [ix2, Matrix.cons_val_zero]; show _ = 1 * 512 + _; omega)) (by first | rfl | (rfl)))) (congrArg _ (own_eq i 1 _ (by first | rfl | (dsimp only [ix2, Matrix.cons_val_zero]; show _ = 1 * 512 + _; omega)) (by first | rfl | (rfl))))) (fun _ => congrArg _ (shared_eq i 1 _ rfl (by first | exact (Nat.mod_eq_of_lt c1).symm | (show (i 1).val - 256 = _; omega)) rfl))))
          (ite_congr rfl (fun _ => congrArg₂ _ (congrArg _ (own_eq i 2 _ (by first | rfl | (dsimp only [ix2, Matrix.cons_val_zero]; show _ = 2 * 512 + _; omega)) (by first | rfl | (rfl)))) (congrArg _ (own_eq i 2 _ (by first | rfl | (dsimp only [ix2, Matrix.cons_val_zero]; show _ = 2 * 512 + _; omega)) (by first | rfl | (rfl))))) (fun _ => congrArg _ (shared_eq i 2 _ rfl (by first | exact (Nat.mod_eq_of_lt c1).symm | (show (i 1).val - 256 = _; omega)) rfl))))
          (ite_congr rfl (fun _ => congrArg₂ _ (congrArg _ (own_eq i 3 _ (by first | rfl | (dsimp only [ix2, Matrix.cons_val_zero]; show _ = 3 * 512 + _; omega)) (by first | rfl | (rfl)))) (congrArg _ (own_eq i 3 _ (by first | rfl | (dsimp only [ix2, Matrix.cons_val_zero]; show _ = 3 * 512 + _; omega)) (by first | rfl | (rfl))))) (fun _ => congrArg _ (shared_eq i 3 _ rfl (by first | exact (Nat.mod_eq_of_lt c1).symm | (show (i 1).val - 256 = _; omega)) rfl)))
      · simp only [if_neg hh]
        refine Eq.trans ?_ (if_neg (by omega)).symm
        exact congrArg _ (prev_eq i _ _ _ (by show 0 = _; omega) (by rfl) (by rfl))
    · simp only [dif_neg c1]
      by_cases hh : h.val = 1
      · have hn : ¬h.val = 0 := by omega
        simp only [if_pos hh, if_neg hn]
        refine Eq.trans ?_ (if_pos ⟨by omega, by omega⟩).symm
        refine Eq.trans ?_ (pick k (fun q => (@HAdd.hAdd EReal EReal EReal _ (m (c.tc.loc Cert.RedOutRefIdeal.main_arg1) (own q i)) (m (c.tc.loc Cert.RedOutRefIdeal.main_arg2) (own q i)))) (fun q => m (c.tc.loc Cert.RedOutRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = 0 * 512 + _; omega)) (by first | rfl | (rfl)))) (congrArg _ (own_eq i 0 _ (by first | rfl | (dsimp only [ix2, Matrix.cons_val_zero]; show _ = 0 * 512 + _; omega)) (by first | rfl | (rfl))))) (fun _ => congrArg _ (shared_eq i 0 _ rfl (by first | exact (Nat.mod_eq_of_lt c1).symm | (show (i 1).val - 256 = _; omega)) rfl)))
          (ite_congr rfl (fun _ => congrArg₂ _ (congrArg _ (own_eq i 1 _ (by first | rfl | (dsimp only [ix2, Matrix.cons_val_zero]; show _ = 1 * 512 + _; omega)) (by first | rfl | (rfl)))) (congrArg _ (own_eq i 1 _ (by first | rfl | (dsimp only [ix2, Matrix.cons_val_zero]; show _ = 1 * 512 + _; omega)) (by first | rfl | (rfl))))) (fun _ => congrArg _ (shared_eq i 1 _ rfl (by first | exact (Nat.mod_eq_of_lt c1).symm | (show (i 1).val - 256 = _; omega)) rfl))))
          (ite_congr rfl (fun _ => congrArg₂ _ (congrArg _ (own_eq i 2 _ (by first | rfl | (dsimp only [ix2, Matrix.cons_val_zero]; show _ = 2 * 512 + _; omega)) (by first | rfl | (rfl)))) (congrArg _ (own_eq i 2 _ (by first | rfl | (dsimp only [ix2, Matrix.cons_val_zero]; show _ = 2 * 512 + _; omega)) (by first | rfl | (rfl))))) (fun _ => congrArg _ (shared_eq i 2 _ rfl (by first | exact (Nat.mod_eq_of_lt c1).symm | (show (i 1).val - 256 = _; omega)) rfl))))
          (ite_congr rfl (fun _ => congrArg₂ _ (congrArg _ (own_eq i 3 _ (by first | rfl | (dsimp only [ix2, Matrix.cons_val_zero]; show _ = 3 * 512 + _; omega)) (by first | rfl | (rfl)))) (congrArg _ (own_eq i 3 _ (by first | rfl | (dsimp only [ix2, Matrix.cons_val_zero]; show _ = 3 * 512 + _; omega)) (by first | rfl | (rfl))))) (fun _ => congrArg _ (shared_eq i 3 _ rfl (by first | exact (Nat.mod_eq_of_lt c1).symm | (show (i 1).val - 256 = _; omega)) rfl)))
      · simp only [if_neg hh]
        refine Eq.trans ?_ (if_neg (by omega)).symm
        exact congrArg _ (prev_eq i _ _ _ (by show 0 = _; omega) (by show 256 + ((i 1).val - 256) = _; omega) (by rfl))
  · simp only [dif_neg c0]
    refine Eq.trans ?_ (if_neg (by omega)).symm
    exact congrArg _ (prev_eq i _ _ _ (by show 1 = _; omega) (by rfl) (by rfl))

/-- From equal arguments the kernel and the reference end with equal results. -/
theorem algebraic : Cert.algebraic_RedOutIdeal_RedOutRefIdeal := fun m ρ m' ρ' hp hag => by
  obtain ⟨h, k, e, ew⟩ := placed m hp
  refine ⟨fun c => put h k (m (c.tc.loc main_arg1)) (m (c.tc.loc main_arg2)) (m (c.tc.loc main_arg3)) (m (c.tc.loc main_arg4)), ?_, ?_⟩
  · refine (θ_run _ _ _).mono (fun r hr c => ⟨((hr.1 c).1 5).trans (final m (ok m hp) e c), hr.2 c⟩)
      (θ_run_and (run_main m ρ (ok m hp)) (unchanged m ρ (ok m hp)))
  · refine (θ_run _ _ _).mono (fun r hr c => ⟨(hr c).1.trans ((ref_final m' c h k ?_).trans ?_), (hr c).2⟩) (Cert.RedOutRefIdeal.Value.run m' ρ')
    · obtain rfl : c = 0 := Subsingleton.elim _ _
      exact (hag 0).1.trans ew
    · simp only [hag c]

/-- The reference runs, keeps its arguments and leaves every counter at zero. -/
theorem frame_reference : Cert.quiescent_RedOutRefIdeal := fun m ρ _ =>
  (θ_run _ _ _).mono (fun r h => ⟨fun c => (h c).2, Idealize.ShloMosaic.sem_eq_zero_of_no_sems (by decide) r.2⟩)
    (Cert.RedOutRefIdeal.Value.run m ρ)

end Cert.RedOutIdeal.Red

end
-- ==== Proof.RedGate.lean ====
module

public import proofs.«01_k».proof.Proof.RedPre
public import proofs.«01_k».proof.Proof.Gen.RedGateRefIdeal.Run
public import Idealize.ShloMosaic.Lib.Pipeline.Value
public import Idealize.ShloMosaic.Lib.Pipeline.ValueKit.Partial

@[expose] public section

set_option maxRecDepth 16384
set_option maxHeartbeats 4000000

noncomputable section

namespace Cert.RedGateIdeal.Red

open Cert.RedGateIdeal Cert.RedGateIdeal.Gen Idealize.ShloMosaic Idealize.ShloMosaic.TcCoe Idealize.SL.Sem Cert.Red

/-- Where an element of this device's half and chip lies in the whole gradient. -/
def own (k : Fin 4) (j : S2x2048x1408.Idx) : S2048x11264.Idx :=
  ix2 ⟨(j 1).val, (j 1).isLt⟩ ⟨0 + k.val * 1408 + (j 2).val, by have := (j 2).isLt; change (j 2).val < 1408 at this; omega⟩

/-- Where an element of a half lies in chip `k`'s share. -/
def shared (k : Fin 4) (j : S2x2048x1408.Idx) : S4x1024x1408.Idx :=
  ix3 k ⟨(j 1).val % 1024, Nat.mod_lt _ (by decide)⟩ ⟨(j 2).val, (j 2).isLt⟩

/-- The four chips' shares added up. -/
def total (k : Fin 4) (dw : FVec Ideal S2048x11264 .f32) (got : FVec Ideal S2048x11264 .bf16) (land : FVec Ideal S4x1024x1408 .bf16) : FVec Ideal S2x2048x1408 .f32 :=
  fun j => dw (own k j) + got (own k j) + land (shared (k + 1) j) + land (shared (k + 2) j) + land (shared (k + 3) j)

/-- The array with the sum in half `h` of its first layer. -/
def put (h : Fin 2) (k : Fin 4) (dw : FVec Ideal S2048x11264 .f32) (got : FVec Ideal S2048x11264 .bf16) (land : FVec Ideal S4x1024x1408 .bf16) (prev : FVec Ideal S2x2048x1408 .f32) : FVec Ideal S2x2048x1408 .f32 :=
  fun j => if (j 0).val = 0 ∧ (j 1).val / 1024 = h.val then total k dw got land j else prev j

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in its output block. -/
theorem out_eq (c : Dev nD) (i : grid0.Coords) (arg2 : Memref sig .tc .vmem S256x1408 .f32) (harg2 : arg2.IsWhole) (arg3 : Memref sig .tc .vmem S256x1408 .bf16) (harg3 : arg3.IsWhole) (arg4 : Memref sig .tc .vmem S1x256x1408 .bf16) (harg4 : arg4.IsWhole) (arg5 : Memref sig .tc .vmem S1x256x1408 .bf16) (harg5 : arg5.IsWhole) (arg6 : Memref sig .tc .vmem S1x256x1408 .bf16) (harg6 : arg6.IsWhole) (arg8 : Memref sig .tc .vmem S1x256x1408 .f32) (harg8 : arg8.IsWhole)
    (x0 : Vec Ideal S256x1408 .f32) (x1 : Vec Ideal S256x1408 .bf16) (x2 x3 x4 : Vec Ideal S1x256x1408 .bf16) (xt0 : TbBuf0 (F := Ideal) c tbM0_0) :
    out0_A_5 c i arg2 harg2 arg3 harg3 arg4 harg4 arg5 harg5 arg6 harg6 arg8 harg8 x0 x1 x2 x3 x4 xt0 = k0_pay1 x0 x1 x2 x3 x4 := by
  unfold out0_A_5
  rw [View.read_writes_eq_canon _ _ _ (cover0_A_5 c i arg2 harg2 arg3 harg3 arg4 harg4 arg5 harg5 arg6 harg6 arg8 harg8 x0 x1 x2 x3 x4 xt0)]
  unfold kernelRun0_A
  dsimp only
  sl_unfold_words
  rw [View.canon_unit_zero hz3]
  simp only [View.readAt_eq_ld, harg2.read_unread, harg3.read_unread, harg4.read_unread, harg5.read_unread, harg6.read_unread, View.ld_unit_zero (S := S256x1408) hz2, View.ld_unit_zero (S := S1x256x1408) hz3]

theorem idx_place : ∀ h k, ∀ t : Fin grid0.N,
    (win0 ⟨place h k, place_ok h k⟩ 0).index t = ![h.val * 4 + t.val, 0 + k.val] ∧ (win0 ⟨place h k, place_ok h k⟩ 1).index t = ![h.val * 4 + t.val, 0 + k.val]
      ∧ (win0 ⟨place h k, place_ok h k⟩ 2).index t = ![(k + 1).val, t.val, 0]
      ∧ (win0 ⟨place h k, place_ok h k⟩ 3).index t = ![(k + 2).val, t.val, 0]
      ∧ (win0 ⟨place h k, place_ok h k⟩ 4).index t = ![(k + 3).val, t.val, 0]
      ∧ (win0 ⟨place h k, place_ok h k⟩ 5).index t = ![0, h.val * 4 + t.val, 0] := by decide +kernel

theorem covers_place : ∀ h k, (win0 ⟨place h k, place_ok h k⟩ 5).CoversWhere
    (fun β => β (0 : Fin 3) = 0 ∧ β (1 : Fin 3) / 4 = h.val) := by decide +kernel

variable (m : (ℓ : Loc nD τ sig) → Buf (Elt Ideal) ℓ) (hO : Ok m) {h : Fin 2} {k : Fin 4}

theorem at_place (e : tbl m = place h k) : adm m hO = ⟨place h k, place_ok h k⟩ := Subtype.ext e

/-- The windows' blocks at a device's place. -/
theorem idx (e : tbl m = place h k) (t : Fin (cfgM m hO).N) :
    ((cfgM m hO).win 0).index t = ![h.val * 4 + t.val, 0 + k.val] ∧ ((cfgM m hO).win 1).index t = ![h.val * 4 + t.val, 0 + k.val]
      ∧ ((cfgM m hO).win 2).index t = ![(k + 1).val, t.val, 0]
      ∧ ((cfgM m hO).win 3).index t = ![(k + 2).val, t.val, 0]
      ∧ ((cfgM m hO).win 4).index t = ![(k + 3).val, t.val, 0]
      ∧ ((cfgM m hO).win 5).index t = ![0, h.val * 4 + t.val, 0] :=
  have key : ∀ a : (pcfg0 (F := Ideal)).Adm, a = ⟨place h k, place_ok h k⟩ → ∀ t : Fin grid0.N,
      (win0 a 0).index t = ![h.val * 4 + t.val, 0 + k.val] ∧ (win0 a 1).index t = ![h.val * 4 + t.val, 0 + k.val]
        ∧ (win0 a 2).index t = ![(k + 1).val, t.val, 0] ∧ (win0 a 3).index t = ![(k + 2).val, t.val, 0]
        ∧ (win0 a 4).index t = ![(k + 3).val, t.val, 0] ∧ (win0 a 5).index t = ![0, h.val * 4 + t.val, 0] := by
    rintro _ rfl t; exact idx_place h k t
  key _ (at_place m hO e) t

theorem covers (e : tbl m = place h k) : ((cfgM m hO).win 5).CoversWhere
    (fun β => β (0 : Fin 3) = 0 ∧ β (1 : Fin 3) / 4 = h.val) :=
  have key : ∀ a : (pcfg0 (F := Ideal)).Adm, a = ⟨place h k, place_ok h k⟩ →
      (win0 a 5).CoversWhere (fun β => β (0 : Fin 3) = 0 ∧ β (1 : Fin 3) / 4 = h.val) := by
    rintro _ rfl; exact covers_place h k
  key _ (at_place m hO e)

theorem V_prev (c : Dev nD) : V m c main_v0 = m (c.tc.loc main_arg4) := by
  unfold V hostOps0
  after_results
  rfl

theorem read0 (c : Dev nD) (t : Fin (cfgM m hO).N) (y : S256x1408.Idx) (z : S2048x11264.Idx)
    (h0 : (z 0).val = ((cfgM m hO).win 0).index t (0 : Fin 2) * 256 + (y 0).val) (h1 : (z 1).val = ((cfgM m hO).win 0).index t (1 : Fin 2) * 1408 + (y 1).val) :
    iblk m hO c 0 t y = m (c.tc.loc main_arg1) z := by
  rw [← V_main_arg1 m c]
  refine congrArg (V m c main_arg1) (?_ : (((cfgM m hO).win 0).blk t).view.emb y = z)
  funext a
  apply Fin.ext
  fin_cases a
  · change ((cfgM m hO).win 0).index t (0 : Fin 2) * 256 + 1 * (y 0).val = (z 0).val; omega
  · change ((cfgM m hO).win 0).index t (1 : Fin 2) * 1408 + 1 * (y 1).val = (z 1).val; omega

theorem read1 (c : Dev nD) (t : Fin (cfgM m hO).N) (y : S256x1408.Idx) (z : S2048x11264.Idx)
    (h0 : (z 0).val = ((cfgM m hO).win 1).index t (0 : Fin 2) * 256 + (y 0).val) (h1 : (z 1).val = ((cfgM m hO).win 1).index t (1 : Fin 2) * 1408 + (y 1).val) :
    iblk m hO c 1 t y = m (c.tc.loc main_arg2) z := by
  rw [← V_main_arg2 m c]
  refine congrArg (V m c main_arg2) (?_ : (((cfgM m hO).win 1).blk t).view.emb y = z)
  funext a
  apply Fin.ext
  fin_cases a
  · change ((cfgM m hO).win 1).index t (0 : Fin 2) * 256 + 1 * (y 0).val = (z 0).val; omega
  · change ((cfgM m hO).win 1).index t (1 : Fin 2) * 1408 + 1 * (y 1).val = (z 1).val; omega

theorem read2 (c : Dev nD) (t : Fin (cfgM m hO).N) (y : S1x256x1408.Idx) (z : S4x1024x1408.Idx)
    (h0 : (z 0).val = ((cfgM m hO).win 2).index t (0 : Fin 3) * 1 + (y 0).val) (h1 : (z 1).val = ((cfgM m hO).win 2).index t (1 : Fin 3) * 256 + (y 1).val) (h2 : (z 2).val = ((cfgM m hO).win 2).index t (2 : Fin 3) * 1408 + (y 2).val) :
    iblk m hO c 2 t y = m (c.tc.loc main_arg3) z := by
  rw [← V_main_arg3 m c]
  refine congrArg (V m c main_arg3) (?_ : (((cfgM m hO).win 2).blk t).view.emb y = z)
  funext a
  apply Fin.ext
  fin_cases a
  · change ((cfgM m hO).win 2).index t (0 : Fin 3) * 1 + 1 * (y 0).val = (z 0).val; omega
  · change ((cfgM m hO).win 2).index t (1 : Fin 3) * 256 + 1 * (y 1).val = (z 1).val; omega
  · change ((cfgM m hO).win 2).index t (2 : Fin 3) * 1408 + 1 * (y 2).val = (z 2).val; omega

theorem read3 (c : Dev nD) (t : Fin (cfgM m hO).N) (y : S1x256x1408.Idx) (z : S4x1024x1408.Idx)
    (h0 : (z 0).val = ((cfgM m hO).win 3).index t (0 : Fin 3) * 1 + (y 0).val) (h1 : (z 1).val = ((cfgM m hO).win 3).index t (1 : Fin 3) * 256 + (y 1).val) (h2 : (z 2).val = ((cfgM m hO).win 3).index t (2 : Fin 3) * 1408 + (y 2).val) :
    iblk m hO c 3 t y = m (c.tc.loc main_arg3) z := by
  rw [← V_main_arg3 m c]
  refine congrArg (V m c main_arg3) (?_ : (((cfgM m hO).win 3).blk t).view.emb y = z)
  funext a
  apply Fin.ext
  fin_cases a
  · change ((cfgM m hO).win 3).index t (0 : Fin 3) * 1 + 1 * (y 0).val = (z 0).val; omega
  · change ((cfgM m hO).win 3).index t (1 : Fin 3) * 256 + 1 * (y 1).val = (z 1).val; omega
  · change ((cfgM m hO).win 3).index t (2 : Fin 3) * 1408 + 1 * (y 2).val = (z 2).val; omega

theorem read4 (c : Dev nD) (t : Fin (cfgM m hO).N) (y : S1x256x1408.Idx) (z : S4x1024x1408.Idx)
    (h0 : (z 0).val = ((cfgM m hO).win 4).index t (0 : Fin 3) * 1 + (y 0).val) (h1 : (z 1).val = ((cfgM m hO).win 4).index t (1 : Fin 3) * 256 + (y 1).val) (h2 : (z 2).val = ((cfgM m hO).win 4).index t (2 : Fin 3) * 1408 + (y 2).val) :
    iblk m hO c 4 t y = m (c.tc.loc main_arg3) z := by
  rw [← V_main_arg3 m c]
  refine congrArg (V m c main_arg3) (?_ : (((cfgM m hO).win 4).blk t).view.emb y = z)
  funext a
  apply Fin.ext
  fin_cases a
  · change ((cfgM m hO).win 4).index t (0 : Fin 3) * 1 + 1 * (y 0).val = (z 0).val; omega
  · change ((cfgM m hO).win 4).index t (1 : Fin 3) * 256 + 1 * (y 1).val = (z 1).val; omega
  · change ((cfgM m hO).win 4).index t (2 : Fin 3) * 1408 + 1 * (y 2).val = (z 2).val; omega

theorem emb_out (t : Fin (cfgM m hO).N) (y : S1x256x1408.Idx) :
    ((((cfgM m hO).win 5).blk t).view.emb y (0 : Fin 3)).val = ((cfgM m hO).win 5).index t (0 : Fin 3) * 1 + 1 * (y 0).val
      ∧ ((((cfgM m hO).win 5).blk t).view.emb y (1 : Fin 3)).val = ((cfgM m hO).win 5).index t (1 : Fin 3) * 256 + 1 * (y 1).val
      ∧ ((((cfgM m hO).win 5).blk t).view.emb y (2 : Fin 3)).val = ((cfgM m hO).win 5).index t (2 : Fin 3) * 1408 + 1 * (y 2).val := ⟨rfl, rfl, rfl⟩

/-- One block of the sum. -/
theorem point (e : tbl m = place h k) (c : Dev nD) (t : Fin (cfgM m hO).N) (y : S1x256x1408.Idx) (J : S2x2048x1408.Idx)
    (j0 : (J 0).val = 0) (j1 : (J 1).val = (h.val * 4 + t.val) * 256 + (y 1).val) (j2 : (J 2).val = (y 2).val)
    (a0 a1 a2 a3 a4 : EReal) (e0 : a0 = iblk m hO c 0 t (ix2 (y 1) (y 2))) (e1 : a1 = iblk m hO c 1 t (ix2 (y 1) (y 2)))
    (e2 : a2 = iblk m hO c 2 t y) (e3 : a3 = iblk m hO c 3 t y) (e4 : a4 = iblk m hO c 4 t y) :
    a0 + a1 + a2 + a3 + a4 = put h k (m (c.tc.loc main_arg1)) (m (c.tc.loc main_arg2)) (m (c.tc.loc main_arg3)) (m (c.tc.loc main_arg4)) J := by
  obtain ⟨i0, i1, i2, i3, i4, -⟩ := idx m hO e t
  have ht : t.val < 4 := t.isLt
  have hy0 : (y 0).val < 1 := (y 0).isLt
  have hy1 : (y 1).val < 256 := (y 1).isLt
  have hj : (J 1).val / 1024 = h.val := by omega
  have hr : (J 1).val % 1024 = t.val * 256 + (y 1).val := by omega
  refine Eq.trans ?_ (if_pos ⟨j0, hj⟩).symm
  refine congrArg₂ _ (congrArg₂ _ (congrArg₂ _ (congrArg₂ _ (e0.trans (read0 m hO c t _ _ ?_ ?_)) (e1.trans (read1 m hO c t _ _ ?_ ?_))) (e2.trans (read2 m hO c t _ _ ?_ ?_ ?_))) (e3.trans (read3 m hO c t _ _ ?_ ?_ ?_))) (e4.trans (read4 m hO c t _ _ ?_ ?_ ?_))
  · rw [show ((cfgM m hO).win 0).index t (0 : Fin 2) = _ from congrFun i0 (0 : Fin 2)]; change (J 1).val = (h.val * 4 + t.val) * 256 + (y 1).val; omega
  · rw [show ((cfgM m hO).win 0).index t (1 : Fin 2) = _ from congrFun i0 (1 : Fin 2)]; change 0 + k.val * 1408 + (J 2).val = (0 + k.val) * 1408 + (y 2).val; omega
  · rw [show ((cfgM m hO).win 1).index t (0 : Fin 2) = _ from congrFun i1 (0 : Fin 2)]; change (J 1).val = (h.val * 4 + t.val) * 256 + (y 1).val; omega
  · rw [show ((cfgM m hO).win 1).index t (1 : Fin 2) = _ from congrFun i1 (1 : Fin 2)]; change 0 + k.val * 1408 + (J 2).val = (0 + k.val) * 1408 + (y 2).val; omega
  · rw [show ((cfgM m hO).win 2).index t (0 : Fin 3) = _ from congrFun i2 (0 : Fin 3)]; change (k + 1).val = (k + 1).val * 1 + (y 0).val; omega
  · rw [show ((cfgM m hO).win 2).index t (1 : Fin 3) = _ from congrFun i2 (1 : Fin 3)]; exact hr
  · rw [show ((cfgM m hO).win 2).index t (2 : Fin 3) = _ from congrFun i2 (2 : Fin 3)]; change (J 2).val = 0 * 1408 + (y 2).val; omega
  · rw [show ((cfgM m hO).win 3).index t (0 : Fin 3) = _ from congrFun i3 (0 : Fin 3)]; change (k + 2).val = (k + 2).val * 1 + (y 0).val; omega
  · rw [show ((cfgM m hO).win 3).index t (1 : Fin 3) = _ from congrFun i3 (1 : Fin 3)]; exact hr
  · rw [show ((cfgM m hO).win 3).index t (2 : Fin 3) = _ from congrFun i3 (2 : Fin 3)]; change (J 2).val = 0 * 1408 + (y 2).val; omega
  · rw [show ((cfgM m hO).win 4).index t (0 : Fin 3) = _ from congrFun i4 (0 : Fin 3)]; change (k + 3).val = (k + 3).val * 1 + (y 0).val; omega
  · rw [show ((cfgM m hO).win 4).index t (1 : Fin 3) = _ from congrFun i4 (1 : Fin 3)]; exact hr
  · rw [show ((cfgM m hO).win 4).index t (2 : Fin 3) = _ from congrFun i4 (2 : Fin 3)]; change (J 2).val = 0 * 1408 + (y 2).val; omega

/-- The array the call leaves. -/
theorem final (e : tbl m = place h k) (c : Dev nD) : (dats m hO 0 c).arrAt 5 (cfgM m hO).N
    = put h k (m (c.tc.loc main_arg1)) (m (c.tc.loc main_arg2)) (m (c.tc.loc main_arg3)) (m (c.tc.loc main_arg4)) := by
  refine (dats m hO 0 c).arrAt_eq_of_coversWhere_of_agree 5 _ _ (covers m hO e) (fun t hf y => ?_) (fun j hj => ?_)
  · obtain ⟨-, -, -, -, -, i5⟩ := idx m hO e t
    obtain ⟨e0, e1, e2⟩ := emb_out m hO t y
    rw [show ((cfgM m hO).win 5).index t (0 : Fin 3) = _ from congrFun i5 (0 : Fin 3)] at e0
    rw [show ((cfgM m hO).win 5).index t (1 : Fin 3) = _ from congrFun i5 (1 : Fin 3)] at e1
    rw [show ((cfgM m hO).win 5).index t (2 : Fin 3) = _ from congrFun i5 (2 : Fin 3)] at e2
    have hy0 : (y (0 : Fin 3)).val < 1 := (y (0 : Fin 3)).isLt
    refine Eq.trans ?_ (point m hO e c t y _ (e0.trans ?_) (e1.trans ?_) (e2.trans ?_) _ _ _ _ _ rfl rfl rfl rfl rfl)
    · blk_simp
      rw [after0_5]
      unfold outsAt0
      refine (congrFun (out_eq c _ _ _ _ _ _ _ _ _ _ _ _ _ (iblk m hO c 0 t) (iblk m hO c 1 t) (iblk m hO c 2 t) (iblk m hO c 3 t) (iblk m hO c 4 t) _) y).trans ?_
      unfold k0_pay1
      pointwise
    · change 0 * 1 + 1 * (y (0 : Fin 3)).val = 0; omega
    · change (h.val * 4 + t.val) * 256 + 1 * (y (1 : Fin 3)).val = _; omega
    · change 0 * 1408 + 1 * (y (2 : Fin 3)).val = _; omega
  · change ¬((j (0 : Fin 3)).val / 1 = 0 ∧ (j (1 : Fin 3)).val / 256 / 4 = h.val) at hj
    rw [A_eq]
    change V m c main_v0 j = put h k _ _ _ _ j
    rw [V_prev]
    refine (if_neg ?_).symm
    rintro ⟨h0, h1⟩
    exact hj ⟨by rw [Nat.div_one]; exact h0, by rw [Nat.div_div_eq_div_mul]; exact h1⟩

theorem own_eq (i : S2x2048x1408.Idx) (q : Fin 4) (z : S2048x11264.Idx) (h0 : (z 0).val = (i 1).val) (h1 : (z 1).val = 0 + q.val * 1408 + (i 2).val) : z = own q i := by
  funext a; apply Fin.ext; fin_cases a
  · exact h0
  · exact h1

theorem shared_eq (i : S2x2048x1408.Idx) (q : Fin 4) (z : S4x1024x1408.Idx) (h0 : (z 0).val = q.val) (h1 : (z 1).val = (i 1).val % 1024) (h2 : (z 2).val = (i 2).val) : z = shared q i := by
  funext a; apply Fin.ext; fin_cases a
  · exact h0
  · exact h1
  · exact h2

theorem prev_eq (i : S2x2048x1408.Idx) (a : Fin 2) (b : Fin 2048) (d : Fin 1408) (h0 : a.val = (i 0).val) (h1 : b.val = (i 1).val) (h2 : d.val = (i 2).val) :
    (ix3 a b d : S2x2048x1408.Idx) = i := by
  funext x; apply Fin.ext; fin_cases x
  · exact h0
  · exact h1
  · exact h2

/-- The reference's result. -/
theorem ref_final (m : (ℓ : Loc Cert.RedGateRefIdeal.nD Cert.RedGateRefIdeal.τ Cert.RedGateRefIdeal.sig) → Buf (Elt Ideal) ℓ) (c : Dev Cert.RedGateRefIdeal.nD) (h : Fin 2) (k : Fin 4)
    (e : m (c.tc.loc Cert.RedGateRefIdeal.main_arg0) = words h k) : Cert.RedGateRefIdeal.Value.res_out0 m c
      = put h k (m (c.tc.loc Cert.RedGateRefIdeal.main_arg1)) (m (c.tc.loc Cert.RedGateRefIdeal.main_arg2)) (m (c.tc.loc Cert.RedGateRefIdeal.main_arg3)) (m (c.tc.loc Cert.RedGateRefIdeal.main_arg4)) := by
  unfold Cert.RedGateRefIdeal.Value.res_out0 Cert.RedGateRefIdeal.Value.res_main_v60
  rw [e]
  funext i
  pointwise []
  simp only [sel_half0, sel_half1, sel_chip0, sel_chip1, sel_chip2, sel_chip3]
  change _ = if (i 0).val = 0 ∧ (i 1).val / 1024 = h.val then total k _ _ _ i else _
  have b0 : (i 0).val < 2 := (i 0).isLt
  have b1 : (i 1).val < 2048 := (i 1).isLt
  have b2 : (i 2).val < 1408 := (i 2).isLt
  by_cases c0 : (i 0).val < 1
  · simp only [dif_pos c0]
    by_cases c1 : (i 1).val < 1024
    · simp only [dif_pos c1]
      by_cases hh : h.val = 0
      · simp only [if_pos hh]
        refine Eq.trans ?_ (if_pos ⟨by omega, by omega⟩).symm
        refine Eq.trans ?_ (pick k (fun q => (@HAdd.hAdd EReal EReal EReal _ (m (c.tc.loc Cert.RedGateRefIdeal.main_arg1) (own q i)) (m (c.tc.loc Cert.RedGateRefIdeal.main_arg2) (own q i)))) (fun q => m (c.tc.loc Cert.RedGateRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = (i 1).val; omega)) (by first | rfl | (show (i 2).val = 0 + 0 * 1408 + (i 2).val; omega)))) (congrArg _ (own_eq i 0 _ (by first | rfl | (dsimp only [ix2, Matrix.cons_val_zero]; show _ = (i 1).val; omega)) (by first | rfl | (show (i 2).val = 0 + 0 * 1408 + (i 2).val; omega))))) (fun _ => congrArg _ (shared_eq i 0 _ rfl (by first | exact (Nat.mod_eq_of_lt c1).symm | (show (i 1).val - 1024 = _; omega)) rfl)))
          (ite_congr rfl (fun _ => congrArg₂ _ (congrArg _ (own_eq i 1 _ (by first | rfl | (dsimp only [ix2, Matrix.cons_val_zero]; show _ = (i 1).val; omega)) (by first | rfl | (show _ = 0 + 1 * 1408 + (i 2).val; omega)))) (congrArg _ (own_eq i 1 _ (by first | rfl | (dsimp only [ix2, Matrix.cons_val_zero]; show _ = (i 1).val; omega)) (by first | rfl | (show _ = 0 + 1 * 1408 + (i 2).val; omega))))) (fun _ => congrArg _ (shared_eq i 1 _ rfl (by first | exact (Nat.mod_eq_of_lt c1).symm | (show (i 1).val - 1024 = _; omega)) rfl))))
          (ite_congr rfl (fun _ => congrArg₂ _ (congrArg _ (own_eq i 2 _ (by first | rfl | (dsimp only [ix2, Matrix.cons_val_zero]; show _ = (i 1).val; omega)) (by first | rfl | (show _ = 0 + 2 * 1408 + (i 2).val; omega)))) (congrArg _ (own_eq i 2 _ (by first | rfl | (dsimp only [ix2, Matrix.cons_val_zero]; show _ = (i 1).val; omega)) (by first | rfl | (show _ = 0 + 2 * 1408 + (i 2).val; omega))))) (fun _ => congrArg _ (shared_eq i 2 _ rfl (by first | exact (Nat.mod_eq_of_lt c1).symm | (show (i 1).val - 1024 = _; omega)) rfl))))
          (ite_congr rfl (fun _ => congrArg₂ _ (congrArg _ (own_eq i 3 _ (by first | rfl | (dsimp only [ix2, Matrix.cons_val_zero]; show _ = (i 1).val; omega)) (by first | rfl | (show _ = 0 + 3 * 1408 + (i 2).val; omega)))) (congrArg _ (own_eq i 3 _ (by first | rfl | (dsimp only [ix2, Matrix.cons_val_zero]; show _ = (i 1).val; omega)) (by first | rfl | (show _ = 0 + 3 * 1408 + (i 2).val; omega))))) (fun _ => congrArg _ (shared_eq i 3 _ rfl (by first | exact (Nat.mod_eq_of_lt c1).symm | (show (i 1).val - 1024 = _; omega)) rfl)))
      · simp only [if_neg hh]
        refine Eq.trans ?_ (if_neg (by omega)).symm
        exact congrArg _ (prev_eq i _ _ _ (by show 0 = _; omega) (by rfl) (by rfl))
    · simp only [dif_neg c1]
      by_cases hh : h.val = 1
      · have hn : ¬h.val = 0 := by omega
        simp only [if_pos hh, if_neg hn]
        refine Eq.trans ?_ (if_pos ⟨by omega, by omega⟩).symm
        refine Eq.trans ?_ (pick k (fun q => (@HAdd.hAdd EReal EReal EReal _ (m (c.tc.loc Cert.RedGateRefIdeal.main_arg1) (own q i)) (m (c.tc.loc Cert.RedGateRefIdeal.main_arg2) (own q i)))) (fun q => m (c.tc.loc Cert.RedGateRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = (i 1).val; omega)) (by first | rfl | (show (i 2).val = 0 + 0 * 1408 + (i 2).val; omega)))) (congrArg _ (own_eq i 0 _ (by first | rfl | (dsimp only [ix2, Matrix.cons_val_zero]; show _ = (i 1).val; omega)) (by first | rfl | (show (i 2).val = 0 + 0 * 1408 + (i 2).val; omega))))) (fun _ => congrArg _ (shared_eq i 0 _ rfl (by first | exact (Nat.mod_eq_of_lt c1).symm | (show (i 1).val - 1024 = _; omega)) rfl)))
          (ite_congr rfl (fun _ => congrArg₂ _ (congrArg _ (own_eq i 1 _ (by first | rfl | (dsimp only [ix2, Matrix.cons_val_zero]; show _ = (i 1).val; omega)) (by first | rfl | (show _ = 0 + 1 * 1408 + (i 2).val; omega)))) (congrArg _ (own_eq i 1 _ (by first | rfl | (dsimp only [ix2, Matrix.cons_val_zero]; show _ = (i 1).val; omega)) (by first | rfl | (show _ = 0 + 1 * 1408 + (i 2).val; omega))))) (fun _ => congrArg _ (shared_eq i 1 _ rfl (by first | exact (Nat.mod_eq_of_lt c1).symm | (show (i 1).val - 1024 = _; omega)) rfl))))
          (ite_congr rfl (fun _ => congrArg₂ _ (congrArg _ (own_eq i 2 _ (by first | rfl | (dsimp only [ix2, Matrix.cons_val_zero]; show _ = (i 1).val; omega)) (by first | rfl | (show _ = 0 + 2 * 1408 + (i 2).val; omega)))) (congrArg _ (own_eq i 2 _ (by first | rfl | (dsimp only [ix2, Matrix.cons_val_zero]; show _ = (i 1).val; omega)) (by first | rfl | (show _ = 0 + 2 * 1408 + (i 2).val; omega))))) (fun _ => congrArg _ (shared_eq i 2 _ rfl (by first | exact (Nat.mod_eq_of_lt c1).symm | (show (i 1).val - 1024 = _; omega)) rfl))))
          (ite_congr rfl (fun _ => congrArg₂ _ (congrArg _ (own_eq i 3 _ (by first | rfl | (dsimp only [ix2, Matrix.cons_val_zero]; show _ = (i 1).val; omega)) (by first | rfl | (show _ = 0 + 3 * 1408 + (i 2).val; omega)))) (congrArg _ (own_eq i 3 _ (by first | rfl | (dsimp only [ix2, Matrix.cons_val_zero]; show _ = (i 1).val; omega)) (by first | rfl | (show _ = 0 + 3 * 1408 + (i 2).val; omega))))) (fun _ => congrArg _ (shared_eq i 3 _ rfl (by first | exact (Nat.mod_eq_of_lt c1).symm | (show (i 1).val - 1024 = _; omega)) rfl)))
      · simp only [if_neg hh]
        refine Eq.trans ?_ (if_neg (by omega)).symm
        exact congrArg _ (prev_eq i _ _ _ (by show 0 = _; omega) (by show 1024 + ((i 1).val - 1024) = _; omega) (by rfl))
  · simp only [dif_neg c0]
    refine Eq.trans ?_ (if_neg (by omega)).symm
    exact congrArg _ (prev_eq i _ _ _ (by show 1 = _; omega) (by rfl) (by rfl))

/-- From equal arguments the kernel and the reference end with equal results. -/
theorem algebraic : Cert.algebraic_RedGateIdeal_RedGateRefIdeal := fun m ρ m' ρ' hp hag => by
  obtain ⟨h, k, e, ew⟩ := placed m hp
  refine ⟨fun c => put h k (m (c.tc.loc main_arg1)) (m (c.tc.loc main_arg2)) (m (c.tc.loc main_arg3)) (m (c.tc.loc main_arg4)), ?_, ?_⟩
  · refine (θ_run _ _ _).mono (fun r hr c => ⟨((hr.1 c).1 5).trans (final m (ok m hp) e c), hr.2 c⟩)
      (θ_run_and (run_main m ρ (ok m hp)) (unchanged m ρ (ok m hp)))
  · refine (θ_run _ _ _).mono (fun r hr c => ⟨(hr c).1.trans ((ref_final m' c h k ?_).trans ?_), (hr c).2⟩) (Cert.RedGateRefIdeal.Value.run m' ρ')
    · obtain rfl : c = 0 := Subsingleton.elim _ _
      exact (hag 0).1.trans ew
    · simp only [hag c]

/-- The reference runs, keeps its arguments and leaves every counter at zero. -/
theorem frame_reference : Cert.quiescent_RedGateRefIdeal := fun m ρ _ =>
  (θ_run _ _ _).mono (fun r h => ⟨fun c => (h c).2, Idealize.ShloMosaic.sem_eq_zero_of_no_sems (by decide) r.2⟩)
    (Cert.RedGateRefIdeal.Value.run m ρ)

end Cert.RedGateIdeal.Red

end
-- ==== Proof.RedUp.lean ====
module

public import proofs.«01_k».proof.Proof.RedPre
public import proofs.«01_k».proof.Proof.Gen.RedUpRefIdeal.Run
public import Idealize.ShloMosaic.Lib.Pipeline.Value
public import Idealize.ShloMosaic.Lib.Pipeline.ValueKit.Partial

@[expose] public section

set_option maxRecDepth 16384
set_option maxHeartbeats 4000000

noncomputable section

namespace Cert.RedUpIdeal.Red

open Cert.RedUpIdeal Cert.RedUpIdeal.Gen Idealize.ShloMosaic Idealize.ShloMosaic.TcCoe Idealize.SL.Sem Cert.Red

/-- Where an element of this device's half and chip lies in the whole gradient. -/
def own (k : Fin 4) (j : S2x2048x1408.Idx) : S2048x11264.Idx :=
  ix2 ⟨(j 1).val, (j 1).isLt⟩ ⟨5632 + k.val * 1408 + (j 2).val, by have := (j 2).isLt; change (j 2).val < 1408 at this; omega⟩

/-- Where an element of a half lies in chip `k`'s share. -/
def shared (k : Fin 4) (j : S2x2048x1408.Idx) : S4x1024x1408.Idx :=
  ix3 k ⟨(j 1).val % 1024, Nat.mod_lt _ (by decide)⟩ ⟨(j 2).val, (j 2).isLt⟩

/-- The four chips' shares added up. -/
def total (k : Fin 4) (dw : FVec Ideal S2048x11264 .f32) (got : FVec Ideal S2048x11264 .bf16) (land : FVec Ideal S4x1024x1408 .bf16) : FVec Ideal S2x2048x1408 .f32 :=
  fun j => dw (own k j) + got (own k j) + land (shared (k + 1) j) + land (shared (k + 2) j) + land (shared (k + 3) j)

/-- The array with the sum in half `h` of its first layer. -/
def put (h : Fin 2) (k : Fin 4) (dw : FVec Ideal S2048x11264 .f32) (got : FVec Ideal S2048x11264 .bf16) (land : FVec Ideal S4x1024x1408 .bf16) (prev : FVec Ideal S2x2048x1408 .f32) : FVec Ideal S2x2048x1408 .f32 :=
  fun j => if (j 0).val = 0 ∧ (j 1).val / 1024 = h.val then total k dw got land j else prev j

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in its output block. -/
theorem out_eq (c : Dev nD) (i : grid0.Coords) (arg2 : Memref sig .tc .vmem S256x1408 .f32) (harg2 : arg2.IsWhole) (arg3 : Memref sig .tc .vmem S256x1408 .bf16) (harg3 : arg3.IsWhole) (arg4 : Memref sig .tc .vmem S1x256x1408 .bf16) (harg4 : arg4.IsWhole) (arg5 : Memref sig .tc .vmem S1x256x1408 .bf16) (harg5 : arg5.IsWhole) (arg6 : Memref sig .tc .vmem S1x256x1408 .bf16) (harg6 : arg6.IsWhole) (arg8 : Memref sig .tc .vmem S1x256x1408 .f32) (harg8 : arg8.IsWhole)
    (x0 : Vec Ideal S256x1408 .f32) (x1 : Vec Ideal S256x1408 .bf16) (x2 x3 x4 : Vec Ideal S1x256x1408 .bf16) (xt0 : TbBuf0 (F := Ideal) c tbM0_0) :
    out0_A_5 c i arg2 harg2 arg3 harg3 arg4 harg4 arg5 harg5 arg6 harg6 arg8 harg8 x0 x1 x2 x3 x4 xt0 = k0_pay1 x0 x1 x2 x3 x4 := by
  unfold out0_A_5
  rw [View.read_writes_eq_canon _ _ _ (cover0_A_5 c i arg2 harg2 arg3 harg3 arg4 harg4 arg5 harg5 arg6 harg6 arg8 harg8 x0 x1 x2 x3 x4 xt0)]
  unfold kernelRun0_A
  dsimp only
  sl_unfold_words
  rw [View.canon_unit_zero hz3]
  simp only [View.readAt_eq_ld, harg2.read_unread, harg3.read_unread, harg4.read_unread, harg5.read_unread, harg6.read_unread, View.ld_unit_zero (S := S256x1408) hz2, View.ld_unit_zero (S := S1x256x1408) hz3]

theorem idx_place : ∀ h k, ∀ t : Fin grid0.N,
    (win0 ⟨place h k, place_ok h k⟩ 0).index t = ![h.val * 4 + t.val, 4 + k.val] ∧ (win0 ⟨place h k, place_ok h k⟩ 1).index t = ![h.val * 4 + t.val, 4 + k.val]
      ∧ (win0 ⟨place h k, place_ok h k⟩ 2).index t = ![(k + 1).val, t.val, 0]
      ∧ (win0 ⟨place h k, place_ok h k⟩ 3).index t = ![(k + 2).val, t.val, 0]
      ∧ (win0 ⟨place h k, place_ok h k⟩ 4).index t = ![(k + 3).val, t.val, 0]
      ∧ (win0 ⟨place h k, place_ok h k⟩ 5).index t = ![0, h.val * 4 + t.val, 0] := by decide +kernel

theorem covers_place : ∀ h k, (win0 ⟨place h k, place_ok h k⟩ 5).CoversWhere
    (fun β => β (0 : Fin 3) = 0 ∧ β (1 : Fin 3) / 4 = h.val) := by decide +kernel

variable (m : (ℓ : Loc nD τ sig) → Buf (Elt Ideal) ℓ) (hO : Ok m) {h : Fin 2} {k : Fin 4}

theorem at_place (e : tbl m = place h k) : adm m hO = ⟨place h k, place_ok h k⟩ := Subtype.ext e

/-- The windows' blocks at a device's place. -/
theorem idx (e : tbl m = place h k) (t : Fin (cfgM m hO).N) :
    ((cfgM m hO).win 0).index t = ![h.val * 4 + t.val, 4 + k.val] ∧ ((cfgM m hO).win 1).index t = ![h.val * 4 + t.val, 4 + k.val]
      ∧ ((cfgM m hO).win 2).index t = ![(k + 1).val, t.val, 0]
      ∧ ((cfgM m hO).win 3).index t = ![(k + 2).val, t.val, 0]
      ∧ ((cfgM m hO).win 4).index t = ![(k + 3).val, t.val, 0]
      ∧ ((cfgM m hO).win 5).index t = ![0, h.val * 4 + t.val, 0] :=
  have key : ∀ a : (pcfg0 (F := Ideal)).Adm, a = ⟨place h k, place_ok h k⟩ → ∀ t : Fin grid0.N,
      (win0 a 0).index t = ![h.val * 4 + t.val, 4 + k.val] ∧ (win0 a 1).index t = ![h.val * 4 + t.val, 4 + k.val]
        ∧ (win0 a 2).index t = ![(k + 1).val, t.val, 0] ∧ (win0 a 3).index t = ![(k + 2).val, t.val, 0]
        ∧ (win0 a 4).index t = ![(k + 3).val, t.val, 0] ∧ (win0 a 5).index t = ![0, h.val * 4 + t.val, 0] := by
    rintro _ rfl t; exact idx_place h k t
  key _ (at_place m hO e) t

theorem covers (e : tbl m = place h k) : ((cfgM m hO).win 5).CoversWhere
    (fun β => β (0 : Fin 3) = 0 ∧ β (1 : Fin 3) / 4 = h.val) :=
  have key : ∀ a : (pcfg0 (F := Ideal)).Adm, a = ⟨place h k, place_ok h k⟩ →
      (win0 a 5).CoversWhere (fun β => β (0 : Fin 3) = 0 ∧ β (1 : Fin 3) / 4 = h.val) := by
    rintro _ rfl; exact covers_place h k
  key _ (at_place m hO e)

theorem V_prev (c : Dev nD) : V m c main_v0 = m (c.tc.loc main_arg4) := by
  unfold V hostOps0
  after_results
  rfl

theorem read0 (c : Dev nD) (t : Fin (cfgM m hO).N) (y : S256x1408.Idx) (z : S2048x11264.Idx)
    (h0 : (z 0).val = ((cfgM m hO).win 0).index t (0 : Fin 2) * 256 + (y 0).val) (h1 : (z 1).val = ((cfgM m hO).win 0).index t (1 : Fin 2) * 1408 + (y 1).val) :
    iblk m hO c 0 t y = m (c.tc.loc main_arg1) z := by
  rw [← V_main_arg1 m c]
  refine congrArg (V m c main_arg1) (?_ : (((cfgM m hO).win 0).blk t).view.emb y = z)
  funext a
  apply Fin.ext
  fin_cases a
  · change ((cfgM m hO).win 0).index t (0 : Fin 2) * 256 + 1 * (y 0).val = (z 0).val; omega
  · change ((cfgM m hO).win 0).index t (1 : Fin 2) * 1408 + 1 * (y 1).val = (z 1).val; omega

theorem read1 (c : Dev nD) (t : Fin (cfgM m hO).N) (y : S256x1408.Idx) (z : S2048x11264.Idx)
    (h0 : (z 0).val = ((cfgM m hO).win 1).index t (0 : Fin 2) * 256 + (y 0).val) (h1 : (z 1).val = ((cfgM m hO).win 1).index t (1 : Fin 2) * 1408 + (y 1).val) :
    iblk m hO c 1 t y = m (c.tc.loc main_arg2) z := by
  rw [← V_main_arg2 m c]
  refine congrArg (V m c main_arg2) (?_ : (((cfgM m hO).win 1).blk t).view.emb y = z)
  funext a
  apply Fin.ext
  fin_cases a
  · change ((cfgM m hO).win 1).index t (0 : Fin 2) * 256 + 1 * (y 0).val = (z 0).val; omega
  · change ((cfgM m hO).win 1).index t (1 : Fin 2) * 1408 + 1 * (y 1).val = (z 1).val; omega

theorem read2 (c : Dev nD) (t : Fin (cfgM m hO).N) (y : S1x256x1408.Idx) (z : S4x1024x1408.Idx)
    (h0 : (z 0).val = ((cfgM m hO).win 2).index t (0 : Fin 3) * 1 + (y 0).val) (h1 : (z 1).val = ((cfgM m hO).win 2).index t (1 : Fin 3) * 256 + (y 1).val) (h2 : (z 2).val = ((cfgM m hO).win 2).index t (2 : Fin 3) * 1408 + (y 2).val) :
    iblk m hO c 2 t y = m (c.tc.loc main_arg3) z := by
  rw [← V_main_arg3 m c]
  refine congrArg (V m c main_arg3) (?_ : (((cfgM m hO).win 2).blk t).view.emb y = z)
  funext a
  apply Fin.ext
  fin_cases a
  · change ((cfgM m hO).win 2).index t (0 : Fin 3) * 1 + 1 * (y 0).val = (z 0).val; omega
  · change ((cfgM m hO).win 2).index t (1 : Fin 3) * 256 + 1 * (y 1).val = (z 1).val; omega
  · change ((cfgM m hO).win 2).index t (2 : Fin 3) * 1408 + 1 * (y 2).val = (z 2).val; omega

theorem read3 (c : Dev nD) (t : Fin (cfgM m hO).N) (y : S1x256x1408.Idx) (z : S4x1024x1408.Idx)
    (h0 : (z 0).val = ((cfgM m hO).win 3).index t (0 : Fin 3) * 1 + (y 0).val) (h1 : (z 1).val = ((cfgM m hO).win 3).index t (1 : Fin 3) * 256 + (y 1).val) (h2 : (z 2).val = ((cfgM m hO).win 3).index t (2 : Fin 3) * 1408 + (y 2).val) :
    iblk m hO c 3 t y = m (c.tc.loc main_arg3) z := by
  rw [← V_main_arg3 m c]
  refine congrArg (V m c main_arg3) (?_ : (((cfgM m hO).win 3).blk t).view.emb y = z)
  funext a
  apply Fin.ext
  fin_cases a
  · change ((cfgM m hO).win 3).index t (0 : Fin 3) * 1 + 1 * (y 0).val = (z 0).val; omega
  · change ((cfgM m hO).win 3).index t (1 : Fin 3) * 256 + 1 * (y 1).val = (z 1).val; omega
  · change ((cfgM m hO).win 3).index t (2 : Fin 3) * 1408 + 1 * (y 2).val = (z 2).val; omega

theorem read4 (c : Dev nD) (t : Fin (cfgM m hO).N) (y : S1x256x1408.Idx) (z : S4x1024x1408.Idx)
    (h0 : (z 0).val = ((cfgM m hO).win 4).index t (0 : Fin 3) * 1 + (y 0).val) (h1 : (z 1).val = ((cfgM m hO).win 4).index t (1 : Fin 3) * 256 + (y 1).val) (h2 : (z 2).val = ((cfgM m hO).win 4).index t (2 : Fin 3) * 1408 + (y 2).val) :
    iblk m hO c 4 t y = m (c.tc.loc main_arg3) z := by
  rw [← V_main_arg3 m c]
  refine congrArg (V m c main_arg3) (?_ : (((cfgM m hO).win 4).blk t).view.emb y = z)
  funext a
  apply Fin.ext
  fin_cases a
  · change ((cfgM m hO).win 4).index t (0 : Fin 3) * 1 + 1 * (y 0).val = (z 0).val; omega
  · change ((cfgM m hO).win 4).index t (1 : Fin 3) * 256 + 1 * (y 1).val = (z 1).val; omega
  · change ((cfgM m hO).win 4).index t (2 : Fin 3) * 1408 + 1 * (y 2).val = (z 2).val; omega

theorem emb_out (t : Fin (cfgM m hO).N) (y : S1x256x1408.Idx) :
    ((((cfgM m hO).win 5).blk t).view.emb y (0 : Fin 3)).val = ((cfgM m hO).win 5).index t (0 : Fin 3) * 1 + 1 * (y 0).val
      ∧ ((((cfgM m hO).win 5).blk t).view.emb y (1 : Fin 3)).val = ((cfgM m hO).win 5).index t (1 : Fin 3) * 256 + 1 * (y 1).val
      ∧ ((((cfgM m hO).win 5).blk t).view.emb y (2 : Fin 3)).val = ((cfgM m hO).win 5).index t (2 : Fin 3) * 1408 + 1 * (y 2).val := ⟨rfl, rfl, rfl⟩

/-- One block of the sum. -/
theorem point (e : tbl m = place h k) (c : Dev nD) (t : Fin (cfgM m hO).N) (y : S1x256x1408.Idx) (J : S2x2048x1408.Idx)
    (j0 : (J 0).val = 0) (j1 : (J 1).val = (h.val * 4 + t.val) * 256 + (y 1).val) (j2 : (J 2).val = (y 2).val)
    (a0 a1 a2 a3 a4 : EReal) (e0 : a0 = iblk m hO c 0 t (ix2 (y 1) (y 2))) (e1 : a1 = iblk m hO c 1 t (ix2 (y 1) (y 2)))
    (e2 : a2 = iblk m hO c 2 t y) (e3 : a3 = iblk m hO c 3 t y) (e4 : a4 = iblk m hO c 4 t y) :
    a0 + a1 + a2 + a3 + a4 = put h k (m (c.tc.loc main_arg1)) (m (c.tc.loc main_arg2)) (m (c.tc.loc main_arg3)) (m (c.tc.loc main_arg4)) J := by
  obtain ⟨i0, i1, i2, i3, i4, -⟩ := idx m hO e t
  have ht : t.val < 4 := t.isLt
  have hy0 : (y 0).val < 1 := (y 0).isLt
  have hy1 : (y 1).val < 256 := (y 1).isLt
  have hj : (J 1).val / 1024 = h.val := by omega
  have hr : (J 1).val % 1024 = t.val * 256 + (y 1).val := by omega
  refine Eq.trans ?_ (if_pos ⟨j0, hj⟩).symm
  refine congrArg₂ _ (congrArg₂ _ (congrArg₂ _ (congrArg₂ _ (e0.trans (read0 m hO c t _ _ ?_ ?_)) (e1.trans (read1 m hO c t _ _ ?_ ?_))) (e2.trans (read2 m hO c t _ _ ?_ ?_ ?_))) (e3.trans (read3 m hO c t _ _ ?_ ?_ ?_))) (e4.trans (read4 m hO c t _ _ ?_ ?_ ?_))
  · rw [show ((cfgM m hO).win 0).index t (0 : Fin 2) = _ from congrFun i0 (0 : Fin 2)]; change (J 1).val = (h.val * 4 + t.val) * 256 + (y 1).val; omega
  · rw [show ((cfgM m hO).win 0).index t (1 : Fin 2) = _ from congrFun i0 (1 : Fin 2)]; change 5632 + k.val * 1408 + (J 2).val = (4 + k.val) * 1408 + (y 2).val; omega
  · rw [show ((cfgM m hO).win 1).index t (0 : Fin 2) = _ from congrFun i1 (0 : Fin 2)]; change (J 1).val = (h.val * 4 + t.val) * 256 + (y 1).val; omega
  · rw [show ((cfgM m hO).win 1).index t (1 : Fin 2) = _ from congrFun i1 (1 : Fin 2)]; change 5632 + k.val * 1408 + (J 2).val = (4 + k.val) * 1408 + (y 2).val; omega
  · rw [show ((cfgM m hO).win 2).index t (0 : Fin 3) = _ from congrFun i2 (0 : Fin 3)]; change (k + 1).val = (k + 1).val * 1 + (y 0).val; omega
  · rw [show ((cfgM m hO).win 2).index t (1 : Fin 3) = _ from congrFun i2 (1 : Fin 3)]; exact hr
  · rw [show ((cfgM m hO).win 2).index t (2 : Fin 3) = _ from congrFun i2 (2 : Fin 3)]; change (J 2).val = 0 * 1408 + (y 2).val; omega
  · rw [show ((cfgM m hO).win 3).index t (0 : Fin 3) = _ from congrFun i3 (0 : Fin 3)]; change (k + 2).val = (k + 2).val * 1 + (y 0).val; omega
  · rw [show ((cfgM m hO).win 3).index t (1 : Fin 3) = _ from congrFun i3 (1 : Fin 3)]; exact hr
  · rw [show ((cfgM m hO).win 3).index t (2 : Fin 3) = _ from congrFun i3 (2 : Fin 3)]; change (J 2).val = 0 * 1408 + (y 2).val; omega
  · rw [show ((cfgM m hO).win 4).index t (0 : Fin 3) = _ from congrFun i4 (0 : Fin 3)]; change (k + 3).val = (k + 3).val * 1 + (y 0).val; omega
  · rw [show ((cfgM m hO).win 4).index t (1 : Fin 3) = _ from congrFun i4 (1 : Fin 3)]; exact hr
  · rw [show ((cfgM m hO).win 4).index t (2 : Fin 3) = _ from congrFun i4 (2 : Fin 3)]; change (J 2).val = 0 * 1408 + (y 2).val; omega

/-- The array the call leaves. -/
theorem final (e : tbl m = place h k) (c : Dev nD) : (dats m hO 0 c).arrAt 5 (cfgM m hO).N
    = put h k (m (c.tc.loc main_arg1)) (m (c.tc.loc main_arg2)) (m (c.tc.loc main_arg3)) (m (c.tc.loc main_arg4)) := by
  refine (dats m hO 0 c).arrAt_eq_of_coversWhere_of_agree 5 _ _ (covers m hO e) (fun t hf y => ?_) (fun j hj => ?_)
  · obtain ⟨-, -, -, -, -, i5⟩ := idx m hO e t
    obtain ⟨e0, e1, e2⟩ := emb_out m hO t y
    rw [show ((cfgM m hO).win 5).index t (0 : Fin 3) = _ from congrFun i5 (0 : Fin 3)] at e0
    rw [show ((cfgM m hO).win 5).index t (1 : Fin 3) = _ from congrFun i5 (1 : Fin 3)] at e1
    rw [show ((cfgM m hO).win 5).index t (2 : Fin 3) = _ from congrFun i5 (2 : Fin 3)] at e2
    have hy0 : (y (0 : Fin 3)).val < 1 := (y (0 : Fin 3)).isLt
    refine Eq.trans ?_ (point m hO e c t y _ (e0.trans ?_) (e1.trans ?_) (e2.trans ?_) _ _ _ _ _ rfl rfl rfl rfl rfl)
    · blk_simp
      rw [after0_5]
      unfold outsAt0
      refine (congrFun (out_eq c _ _ _ _ _ _ _ _ _ _ _ _ _ (iblk m hO c 0 t) (iblk m hO c 1 t) (iblk m hO c 2 t) (iblk m hO c 3 t) (iblk m hO c 4 t) _) y).trans ?_
      unfold k0_pay1
      pointwise
    · change 0 * 1 + 1 * (y (0 : Fin 3)).val = 0; omega
    · change (h.val * 4 + t.val) * 256 + 1 * (y (1 : Fin 3)).val = _; omega
    · change 0 * 1408 + 1 * (y (2 : Fin 3)).val = _; omega
  · change ¬((j (0 : Fin 3)).val / 1 = 0 ∧ (j (1 : Fin 3)).val / 256 / 4 = h.val) at hj
    rw [A_eq]
    change V m c main_v0 j = put h k _ _ _ _ j
    rw [V_prev]
    refine (if_neg ?_).symm
    rintro ⟨h0, h1⟩
    exact hj ⟨by rw [Nat.div_one]; exact h0, by rw [Nat.div_div_eq_div_mul]; exact h1⟩

theorem own_eq (i : S2x2048x1408.Idx) (q : Fin 4) (z : S2048x11264.Idx) (h0 : (z 0).val = (i 1).val) (h1 : (z 1).val = 5632 + q.val * 1408 + (i 2).val) : z = own q i := by
  funext a; apply Fin.ext; fin_cases a
  · exact h0
  · exact h1

theorem shared_eq (i : S2x2048x1408.Idx) (q : Fin 4) (z : S4x1024x1408.Idx) (h0 : (z 0).val = q.val) (h1 : (z 1).val = (i 1).val % 1024) (h2 : (z 2).val = (i 2).val) : z = shared q i := by
  funext a; apply Fin.ext; fin_cases a
  · exact h0
  · exact h1
  · exact h2

theorem prev_eq (i : S2x2048x1408.Idx) (a : Fin 2) (b : Fin 2048) (d : Fin 1408) (h0 : a.val = (i 0).val) (h1 : b.val = (i 1).val) (h2 : d.val = (i 2).val) :
    (ix3 a b d : S2x2048x1408.Idx) = i := by
  funext x; apply Fin.ext; fin_cases x
  · exact h0
  · exact h1
  · exact h2

/-- The reference's result. -/
theorem ref_final (m : (ℓ : Loc Cert.RedUpRefIdeal.nD Cert.RedUpRefIdeal.τ Cert.RedUpRefIdeal.sig) → Buf (Elt Ideal) ℓ) (c : Dev Cert.RedUpRefIdeal.nD) (h : Fin 2) (k : Fin 4)
    (e : m (c.tc.loc Cert.RedUpRefIdeal.main_arg0) = words h k) : Cert.RedUpRefIdeal.Value.res_out0 m c
      = put h k (m (c.tc.loc Cert.RedUpRefIdeal.main_arg1)) (m (c.tc.loc Cert.RedUpRefIdeal.main_arg2)) (m (c.tc.loc Cert.RedUpRefIdeal.main_arg3)) (m (c.tc.loc Cert.RedUpRefIdeal.main_arg4)) := by
  unfold Cert.RedUpRefIdeal.Value.res_out0 Cert.RedUpRefIdeal.Value.res_main_v60
  rw [e]
  funext i
  pointwise []
  simp only [sel_half0, sel_half1, sel_chip0, sel_chip1, sel_chip2, sel_chip3]
  change _ = if (i 0).val = 0 ∧ (i 1).val / 1024 = h.val then total k _ _ _ i else _
  have b0 : (i 0).val < 2 := (i 0).isLt
  have b1 : (i 1).val < 2048 := (i 1).isLt
  have b2 : (i 2).val < 1408 := (i 2).isLt
  by_cases c0 : (i 0).val < 1
  · simp only [dif_pos c0]
    by_cases c1 : (i 1).val < 1024
    · simp only [dif_pos c1]
      by_cases hh : h.val = 0
      · simp only [if_pos hh]
        refine Eq.trans ?_ (if_pos ⟨by omega, by omega⟩).symm
        refine Eq.trans ?_ (pick k (fun q => (@HAdd.hAdd EReal EReal EReal _ (m (c.tc.loc Cert.RedUpRefIdeal.main_arg1) (own q i)) (m (c.tc.loc Cert.RedUpRefIdeal.main_arg2) (own q i)))) (fun q => m (c.tc.loc Cert.RedUpRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = (i 1).val; omega)) (by first | rfl | (show _ = 5632 + 0 * 1408 + (i 2).val; omega)))) (congrArg _ (own_eq i 0 _ (by first | rfl | (dsimp only [ix2, Matrix.cons_val_zero]; show _ = (i 1).val; omega)) (by first | rfl | (show _ = 5632 + 0 * 1408 + (i 2).val; omega))))) (fun _ => congrArg _ (shared_eq i 0 _ rfl (by first | exact (Nat.mod_eq_of_lt c1).symm | (show (i 1).val - 1024 = _; omega)) rfl)))
          (ite_congr rfl (fun _ => congrArg₂ _ (congrArg _ (own_eq i 1 _ (by first | rfl | (dsimp only [ix2, Matrix.cons_val_zero]; show _ = (i 1).val; omega)) (by first | rfl | (show _ = 5632 + 1 * 1408 + (i 2).val; omega)))) (congrArg _ (own_eq i 1 _ (by first | rfl | (dsimp only [ix2, Matrix.cons_val_zero]; show _ = (i 1).val; omega)) (by first | rfl | (show _ = 5632 + 1 * 1408 + (i 2).val; omega))))) (fun _ => congrArg _ (shared_eq i 1 _ rfl (by first | exact (Nat.mod_eq_of_lt c1).symm | (show (i 1).val - 1024 = _; omega)) rfl))))
          (ite_congr rfl (fun _ => congrArg₂ _ (congrArg _ (own_eq i 2 _ (by first | rfl | (dsimp only [ix2, Matrix.cons_val_zero]; show _ = (i 1).val; omega)) (by first | rfl | (show _ = 5632 + 2 * 1408 + (i 2).val; omega)))) (congrArg _ (own_eq i 2 _ (by first | rfl | (dsimp only [ix2, Matrix.cons_val_zero]; show _ = (i 1).val; omega)) (by first | rfl | (show _ = 5632 + 2 * 1408 + (i 2).val; omega))))) (fun _ => congrArg _ (shared_eq i 2 _ rfl (by first | exact (Nat.mod_eq_of_lt c1).symm | (show (i 1).val - 1024 = _; omega)) rfl))))
          (ite_congr rfl (fun _ => congrArg₂ _ (congrArg _ (own_eq i 3 _ (by first | rfl | (dsimp only [ix2, Matrix.cons_val_zero]; show _ = (i 1).val; omega)) (by first | rfl | (show _ = 5632 + 3 * 1408 + (i 2).val; omega)))) (congrArg _ (own_eq i 3 _ (by first | rfl | (dsimp only [ix2, Matrix.cons_val_zero]; show _ = (i 1).val; omega)) (by first | rfl | (show _ = 5632 + 3 * 1408 + (i 2).val; omega))))) (fun _ => congrArg _ (shared_eq i 3 _ rfl (by first | exact (Nat.mod_eq_of_lt c1).symm | (show (i 1).val - 1024 = _; omega)) rfl)))
      · simp only [if_neg hh]
        refine Eq.trans ?_ (if_neg (by omega)).symm
        exact congrArg _ (prev_eq i _ _ _ (by show 0 = _; omega) (by rfl) (by rfl))
    · simp only [dif_neg c1]
      by_cases hh : h.val = 1
      · have hn : ¬h.val = 0 := by omega
        simp only [if_pos hh, if_neg hn]
        refine Eq.trans ?_ (if_pos ⟨by omega, by omega⟩).symm
        refine Eq.trans ?_ (pick k (fun q => (@HAdd.hAdd EReal EReal EReal _ (m (c.tc.loc Cert.RedUpRefIdeal.main_arg1) (own q i)) (m (c.tc.loc Cert.RedUpRefIdeal.main_arg2) (own q i)))) (fun q => m (c.tc.loc Cert.RedUpRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = (i 1).val; omega)) (by first | rfl | (show _ = 5632 + 0 * 1408 + (i 2).val; omega)))) (congrArg _ (own_eq i 0 _ (by first | rfl | (dsimp only [ix2, Matrix.cons_val_zero]; show _ = (i 1).val; omega)) (by first | rfl | (show _ = 5632 + 0 * 1408 + (i 2).val; omega))))) (fun _ => congrArg _ (shared_eq i 0 _ rfl (by first | exact (Nat.mod_eq_of_lt c1).symm | (show (i 1).val - 1024 = _; omega)) rfl)))
          (ite_congr rfl (fun _ => congrArg₂ _ (congrArg _ (own_eq i 1 _ (by first | rfl | (dsimp only [ix2, Matrix.cons_val_zero]; show _ = (i 1).val; omega)) (by first | rfl | (show _ = 5632 + 1 * 1408 + (i 2).val; omega)))) (congrArg _ (own_eq i 1 _ (by first | rfl | (dsimp only [ix2, Matrix.cons_val_zero]; show _ = (i 1).val; omega)) (by first | rfl | (show _ = 5632 + 1 * 1408 + (i 2).val; omega))))) (fun _ => congrArg _ (shared_eq i 1 _ rfl (by first | exact (Nat.mod_eq_of_lt c1).symm | (show (i 1).val - 1024 = _; omega)) rfl))))
          (ite_congr rfl (fun _ => congrArg₂ _ (congrArg _ (own_eq i 2 _ (by first | rfl | (dsimp only [ix2, Matrix.cons_val_zero]; show _ = (i 1).val; omega)) (by first | rfl | (show _ = 5632 + 2 * 1408 + (i 2).val; omega)))) (congrArg _ (own_eq i 2 _ (by first | rfl | (dsimp only [ix2, Matrix.cons_val_zero]; show _ = (i 1).val; omega)) (by first | rfl | (show _ = 5632 + 2 * 1408 + (i 2).val; omega))))) (fun _ => congrArg _ (shared_eq i 2 _ rfl (by first | exact (Nat.mod_eq_of_lt c1).symm | (show (i 1).val - 1024 = _; omega)) rfl))))
          (ite_congr rfl (fun _ => congrArg₂ _ (congrArg _ (own_eq i 3 _ (by first | rfl | (dsimp only [ix2, Matrix.cons_val_zero]; show _ = (i 1).val; omega)) (by first | rfl | (show _ = 5632 + 3 * 1408 + (i 2).val; omega)))) (congrArg _ (own_eq i 3 _ (by first | rfl | (dsimp only [ix2, Matrix.cons_val_zero]; show _ = (i 1).val; omega)) (by first | rfl | (show _ = 5632 + 3 * 1408 + (i 2).val; omega))))) (fun _ => congrArg _ (shared_eq i 3 _ rfl (by first | exact (Nat.mod_eq_of_lt c1).symm | (show (i 1).val - 1024 = _; omega)) rfl)))
      · simp only [if_neg hh]
        refine Eq.trans ?_ (if_neg (by omega)).symm
        exact congrArg _ (prev_eq i _ _ _ (by show 0 = _; omega) (by show 1024 + ((i 1).val - 1024) = _; omega) (by rfl))
  · simp only [dif_neg c0]
    refine Eq.trans ?_ (if_neg (by omega)).symm
    exact congrArg _ (prev_eq i _ _ _ (by show 1 = _; omega) (by rfl) (by rfl))

/-- From equal arguments the kernel and the reference end with equal results. -/
theorem algebraic : Cert.algebraic_RedUpIdeal_RedUpRefIdeal := fun m ρ m' ρ' hp hag => by
  obtain ⟨h, k, e, ew⟩ := placed m hp
  refine ⟨fun c => put h k (m (c.tc.loc main_arg1)) (m (c.tc.loc main_arg2)) (m (c.tc.loc main_arg3)) (m (c.tc.loc main_arg4)), ?_, ?_⟩
  · refine (θ_run _ _ _).mono (fun r hr c => ⟨((hr.1 c).1 5).trans (final m (ok m hp) e c), hr.2 c⟩)
      (θ_run_and (run_main m ρ (ok m hp)) (unchanged m ρ (ok m hp)))
  · refine (θ_run _ _ _).mono (fun r hr c => ⟨(hr c).1.trans ((ref_final m' c h k ?_).trans ?_), (hr c).2⟩) (Cert.RedUpRefIdeal.Value.run m' ρ')
    · obtain rfl : c = 0 := Subsingleton.elim _ _
      exact (hag 0).1.trans ew
    · simp only [hag c]

/-- The reference runs, keeps its arguments and leaves every counter at zero. -/
theorem frame_reference : Cert.quiescent_RedUpRefIdeal := fun m ρ _ =>
  (θ_run _ _ _).mono (fun r h => ⟨fun c => (h c).2, Idealize.ShloMosaic.sem_eq_zero_of_no_sems (by decide) r.2⟩)
    (Cert.RedUpRefIdeal.Value.run m ρ)

end Cert.RedUpIdeal.Red

end
-- ==== Proof.RedDown.lean ====
module

public import proofs.«01_k».proof.Proof.RedPre
public import proofs.«01_k».proof.Proof.Gen.RedDownRefIdeal.Run
public import Idealize.ShloMosaic.Lib.Pipeline.Value
public import Idealize.ShloMosaic.Lib.Pipeline.ValueKit.Partial

@[expose] public section

set_option maxRecDepth 16384
set_option maxHeartbeats 4000000

noncomputable section

namespace Cert.RedDownIdeal.Red

open Cert.RedDownIdeal Cert.RedDownIdeal.Gen Idealize.ShloMosaic Idealize.ShloMosaic.TcCoe Idealize.SL.Sem Cert.Red

/-- Where an element of this device's half and chip lies in the whole gradient. -/
def own (k : Fin 4) (j : S2x1408x2048.Idx) : S5632x2048.Idx :=
  ix2 ⟨k.val * 1408 + (j 1).val, by have := (j 1).isLt; change (j 1).val < 1408 at this; omega⟩ ⟨(j 2).val, (j 2).isLt⟩

/-- Where an element of a half lies in chip `k`'s share. -/
def shared (k : Fin 4) (j : S2x1408x2048.Idx) : S4x704x2048.Idx :=
  ix3 k ⟨(j 1).val % 704, Nat.mod_lt _ (by decide)⟩ ⟨(j 2).val, (j 2).isLt⟩

/-- The four chips' shares added up. -/
def total (k : Fin 4) (dw : FVec Ideal S5632x2048 .f32) (got : FVec Ideal S5632x2048 .bf16) (land : FVec Ideal S4x704x2048 .bf16) : FVec Ideal S2x1408x2048 .f32 :=
  fun j => dw (own k j) + got (own k j) + land (shared (k + 1) j) + land (shared (k + 2) j) + land (shared (k + 3) j)

/-- The array with the sum in half `h` of its first layer. -/
def put (h : Fin 2) (k : Fin 4) (dw : FVec Ideal S5632x2048 .f32) (got : FVec Ideal S5632x2048 .bf16) (land : FVec Ideal S4x704x2048 .bf16) (prev : FVec Ideal S2x1408x2048 .f32) : FVec Ideal S2x1408x2048 .f32 :=
  fun j => if (j 0).val = 0 ∧ (j 1).val / 704 = h.val then total k dw got land j else prev j

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in its output block. -/
theorem out_eq (c : Dev nD) (i : grid0.Coords) (arg2 : Memref sig .tc .vmem S64x2048 .f32) (harg2 : arg2.IsWhole) (arg3 : Memref sig .tc .vmem S64x2048 .bf16) (harg3 : arg3.IsWhole) (arg4 : Memref sig .tc .vmem S1x64x2048 .bf16) (harg4 : arg4.IsWhole) (arg5 : Memref sig .tc .vmem S1x64x2048 .bf16) (harg5 : arg5.IsWhole) (arg6 : Memref sig .tc .vmem S1x64x2048 .bf16) (harg6 : arg6.IsWhole) (arg8 : Memref sig .tc .vmem S1x64x2048 .f32) (harg8 : arg8.IsWhole)
    (x0 : Vec Ideal S64x2048 .f32) (x1 : Vec Ideal S64x2048 .bf16) (x2 x3 x4 : Vec Ideal S1x64x2048 .bf16) (xt0 : TbBuf0 (F := Ideal) c tbM0_0) :
    out0_A_5 c i arg2 harg2 arg3 harg3 arg4 harg4 arg5 harg5 arg6 harg6 arg8 harg8 x0 x1 x2 x3 x4 xt0 = k0_pay1 x0 x1 x2 x3 x4 := by
  unfold out0_A_5
  rw [View.read_writes_eq_canon _ _ _ (cover0_A_5 c i arg2 harg2 arg3 harg3 arg4 harg4 arg5 harg5 arg6 harg6 arg8 harg8 x0 x1 x2 x3 x4 xt0)]
  unfold kernelRun0_A
  dsimp only
  sl_unfold_words
  rw [View.canon_unit_zero hz3]
  simp only [View.readAt_eq_ld, harg2.read_unread, harg3.read_unread, harg4.read_unread, harg5.read_unread, harg6.read_unread, View.ld_unit_zero (S := S64x2048) hz2, View.ld_unit_zero (S := S1x64x2048) hz3]

theorem idx_place : ∀ h k, ∀ t : Fin grid0.N,
    (win0 ⟨place h k, place_ok h k⟩ 0).index t = ![k.val * 22 + h.val * 11 + t.val, 0] ∧ (win0 ⟨place h k, place_ok h k⟩ 1).index t = ![k.val * 22 + h.val * 11 + t.val, 0]
      ∧ (win0 ⟨place h k, place_ok h k⟩ 2).index t = ![(k + 1).val, t.val, 0]
      ∧ (win0 ⟨place h k, place_ok h k⟩ 3).index t = ![(k + 2).val, t.val, 0]
      ∧ (win0 ⟨place h k, place_ok h k⟩ 4).index t = ![(k + 3).val, t.val, 0]
      ∧ (win0 ⟨place h k, place_ok h k⟩ 5).index t = ![0, h.val * 11 + t.val, 0] := by decide +kernel

theorem covers_place : ∀ h k, (win0 ⟨place h k, place_ok h k⟩ 5).CoversWhere
    (fun β => β (0 : Fin 3) = 0 ∧ β (1 : Fin 3) / 11 = h.val) := by decide +kernel

variable (m : (ℓ : Loc nD τ sig) → Buf (Elt Ideal) ℓ) (hO : Ok m) {h : Fin 2} {k : Fin 4}

theorem at_place (e : tbl m = place h k) : adm m hO = ⟨place h k, place_ok h k⟩ := Subtype.ext e

/-- The windows' blocks at a device's place. -/
theorem idx (e : tbl m = place h k) (t : Fin (cfgM m hO).N) :
    ((cfgM m hO).win 0).index t = ![k.val * 22 + h.val * 11 + t.val, 0] ∧ ((cfgM m hO).win 1).index t = ![k.val * 22 + h.val * 11 + t.val, 0]
      ∧ ((cfgM m hO).win 2).index t = ![(k + 1).val, t.val, 0]
      ∧ ((cfgM m hO).win 3).index t = ![(k + 2).val, t.val, 0]
      ∧ ((cfgM m hO).win 4).index t = ![(k + 3).val, t.val, 0]
      ∧ ((cfgM m hO).win 5).index t = ![0, h.val * 11 + t.val, 0] :=
  have key : ∀ a : (pcfg0 (F := Ideal)).Adm, a = ⟨place h k, place_ok h k⟩ → ∀ t : Fin grid0.N,
      (win0 a 0).index t = ![k.val * 22 + h.val * 11 + t.val, 0] ∧ (win0 a 1).index t = ![k.val * 22 + h.val * 11 + t.val, 0]
        ∧ (win0 a 2).index t = ![(k + 1).val, t.val, 0] ∧ (win0 a 3).index t = ![(k + 2).val, t.val, 0]
        ∧ (win0 a 4).index t = ![(k + 3).val, t.val, 0] ∧ (win0 a 5).index t = ![0, h.val * 11 + t.val, 0] := by
    rintro _ rfl t; exact idx_place h k t
  key _ (at_place m hO e) t

theorem covers (e : tbl m = place h k) : ((cfgM m hO).win 5).CoversWhere
    (fun β => β (0 : Fin 3) = 0 ∧ β (1 : Fin 3) / 11 = h.val) :=
  have key : ∀ a : (pcfg0 (F := Ideal)).Adm, a = ⟨place h k, place_ok h k⟩ →
      (win0 a 5).CoversWhere (fun β => β (0 : Fin 3) = 0 ∧ β (1 : Fin 3) / 11 = h.val) := by
    rintro _ rfl; exact covers_place h k
  key _ (at_place m hO e)

theorem V_prev (c : Dev nD) : V m c main_v0 = m (c.tc.loc main_arg4) := by
  unfold V hostOps0
  after_results
  rfl

theorem read0 (c : Dev nD) (t : Fin (cfgM m hO).N) (y : S64x2048.Idx) (z : S5632x2048.Idx)
    (h0 : (z 0).val = ((cfgM m hO).win 0).index t (0 : Fin 2) * 64 + (y 0).val) (h1 : (z 1).val = ((cfgM m hO).win 0).index t (1 : Fin 2) * 2048 + (y 1).val) :
    iblk m hO c 0 t y = m (c.tc.loc main_arg1) z := by
  rw [← V_main_arg1 m c]
  refine congrArg (V m c main_arg1) (?_ : (((cfgM m hO).win 0).blk t).view.emb y = z)
  funext a
  apply Fin.ext
  fin_cases a
  · change ((cfgM m hO).win 0).index t (0 : Fin 2) * 64 + 1 * (y 0).val = (z 0).val; omega
  · change ((cfgM m hO).win 0).index t (1 : Fin 2) * 2048 + 1 * (y 1).val = (z 1).val; omega

theorem read1 (c : Dev nD) (t : Fin (cfgM m hO).N) (y : S64x2048.Idx) (z : S5632x2048.Idx)
    (h0 : (z 0).val = ((cfgM m hO).win 1).index t (0 : Fin 2) * 64 + (y 0).val) (h1 : (z 1).val = ((cfgM m hO).win 1).index t (1 : Fin 2) * 2048 + (y 1).val) :
    iblk m hO c 1 t y = m (c.tc.loc main_arg2) z := by
  rw [← V_main_arg2 m c]
  refine congrArg (V m c main_arg2) (?_ : (((cfgM m hO).win 1).blk t).view.emb y = z)
  funext a
  apply Fin.ext
  fin_cases a
  · change ((cfgM m hO).win 1).index t (0 : Fin 2) * 64 + 1 * (y 0).val = (z 0).val; omega
  · change ((cfgM m hO).win 1).index t (1 : Fin 2) * 2048 + 1 * (y 1).val = (z 1).val; omega

theorem read2 (c : Dev nD) (t : Fin (cfgM m hO).N) (y : S1x64x2048.Idx) (z : S4x704x2048.Idx)
    (h0 : (z 0).val = ((cfgM m hO).win 2).index t (0 : Fin 3) * 1 + (y 0).val) (h1 : (z 1).val = ((cfgM m hO).win 2).index t (1 : Fin 3) * 64 + (y 1).val) (h2 : (z 2).val = ((cfgM m hO).win 2).index t (2 : Fin 3) * 2048 + (y 2).val) :
    iblk m hO c 2 t y = m (c.tc.loc main_arg3) z := by
  rw [← V_main_arg3 m c]
  refine congrArg (V m c main_arg3) (?_ : (((cfgM m hO).win 2).blk t).view.emb y = z)
  funext a
  apply Fin.ext
  fin_cases a
  · change ((cfgM m hO).win 2).index t (0 : Fin 3) * 1 + 1 * (y 0).val = (z 0).val; omega
  · change ((cfgM m hO).win 2).index t (1 : Fin 3) * 64 + 1 * (y 1).val = (z 1).val; omega
  · change ((cfgM m hO).win 2).index t (2 : Fin 3) * 2048 + 1 * (y 2).val = (z 2).val; omega

theorem read3 (c : Dev nD) (t : Fin (cfgM m hO).N) (y : S1x64x2048.Idx) (z : S4x704x2048.Idx)
    (h0 : (z 0).val = ((cfgM m hO).win 3).index t (0 : Fin 3) * 1 + (y 0).val) (h1 : (z 1).val = ((cfgM m hO).win 3).index t (1 : Fin 3) * 64 + (y 1).val) (h2 : (z 2).val = ((cfgM m hO).win 3).index t (2 : Fin 3) * 2048 + (y 2).val) :
    iblk m hO c 3 t y = m (c.tc.loc main_arg3) z := by
  rw [← V_main_arg3 m c]
  refine congrArg (V m c main_arg3) (?_ : (((cfgM m hO).win 3).blk t).view.emb y = z)
  funext a
  apply Fin.ext
  fin_cases a
  · change ((cfgM m hO).win 3).index t (0 : Fin 3) * 1 + 1 * (y 0).val = (z 0).val; omega
  · change ((cfgM m hO).win 3).index t (1 : Fin 3) * 64 + 1 * (y 1).val = (z 1).val; omega
  · change ((cfgM m hO).win 3).index t (2 : Fin 3) * 2048 + 1 * (y 2).val = (z 2).val; omega

theorem read4 (c : Dev nD) (t : Fin (cfgM m hO).N) (y : S1x64x2048.Idx) (z : S4x704x2048.Idx)
    (h0 : (z 0).val = ((cfgM m hO).win 4).index t (0 : Fin 3) * 1 + (y 0).val) (h1 : (z 1).val = ((cfgM m hO).win 4).index t (1 : Fin 3) * 64 + (y 1).val) (h2 : (z 2).val = ((cfgM m hO).win 4).index t (2 : Fin 3) * 2048 + (y 2).val) :
    iblk m hO c 4 t y = m (c.tc.loc main_arg3) z := by
  rw [← V_main_arg3 m c]
  refine congrArg (V m c main_arg3) (?_ : (((cfgM m hO).win 4).blk t).view.emb y = z)
  funext a
  apply Fin.ext
  fin_cases a
  · change ((cfgM m hO).win 4).index t (0 : Fin 3) * 1 + 1 * (y 0).val = (z 0).val; omega
  · change ((cfgM m hO).win 4).index t (1 : Fin 3) * 64 + 1 * (y 1).val = (z 1).val; omega
  · change ((cfgM m hO).win 4).index t (2 : Fin 3) * 2048 + 1 * (y 2).val = (z 2).val; omega

theorem emb_out (t : Fin (cfgM m hO).N) (y : S1x64x2048.Idx) :
    ((((cfgM m hO).win 5).blk t).view.emb y (0 : Fin 3)).val = ((cfgM m hO).win 5).index t (0 : Fin 3) * 1 + 1 * (y 0).val
      ∧ ((((cfgM m hO).win 5).blk t).view.emb y (1 : Fin 3)).val = ((cfgM m hO).win 5).index t (1 : Fin 3) * 64 + 1 * (y 1).val
      ∧ ((((cfgM m hO).win 5).blk t).view.emb y (2 : Fin 3)).val = ((cfgM m hO).win 5).index t (2 : Fin 3) * 2048 + 1 * (y 2).val := ⟨rfl, rfl, rfl⟩

/-- One block of the sum. -/
theorem point (e : tbl m = place h k) (c : Dev nD) (t : Fin (cfgM m hO).N) (y : S1x64x2048.Idx) (J : S2x1408x2048.Idx)
    (j0 : (J 0).val = 0) (j1 : (J 1).val = (h.val * 11 + t.val) * 64 + (y 1).val) (j2 : (J 2).val = (y 2).val)
    (a0 a1 a2 a3 a4 : EReal) (e0 : a0 = iblk m hO c 0 t (ix2 (y 1) (y 2))) (e1 : a1 = iblk m hO c 1 t (ix2 (y 1) (y 2)))
    (e2 : a2 = iblk m hO c 2 t y) (e3 : a3 = iblk m hO c 3 t y) (e4 : a4 = iblk m hO c 4 t y) :
    a0 + a1 + a2 + a3 + a4 = put h k (m (c.tc.loc main_arg1)) (m (c.tc.loc main_arg2)) (m (c.tc.loc main_arg3)) (m (c.tc.loc main_arg4)) J := by
  obtain ⟨i0, i1, i2, i3, i4, -⟩ := idx m hO e t
  have ht : t.val < 11 := t.isLt
  have hy0 : (y 0).val < 1 := (y 0).isLt
  have hy1 : (y 1).val < 64 := (y 1).isLt
  have hj : (J 1).val / 704 = h.val := by omega
  have hr : (J 1).val % 704 = t.val * 64 + (y 1).val := by omega
  refine Eq.trans ?_ (if_pos ⟨j0, hj⟩).symm
  refine congrArg₂ _ (congrArg₂ _ (congrArg₂ _ (congrArg₂ _ (e0.trans (read0 m hO c t _ _ ?_ ?_)) (e1.trans (read1 m hO c t _ _ ?_ ?_))) (e2.trans (read2 m hO c t _ _ ?_ ?_ ?_))) (e3.trans (read3 m hO c t _ _ ?_ ?_ ?_))) (e4.trans (read4 m hO c t _ _ ?_ ?_ ?_))
  · rw [show ((cfgM m hO).win 0).index t (0 : Fin 2) = _ from congrFun i0 (0 : Fin 2)]; change k.val * 1408 + (J 1).val = (k.val * 22 + h.val * 11 + t.val) * 64 + (y 1).val; omega
  · rw [show ((cfgM m hO).win 0).index t (1 : Fin 2) = _ from congrFun i0 (1 : Fin 2)]; change (J 2).val = (0) * 2048 + (y 2).val; omega
  · rw [show ((cfgM m hO).win 1).index t (0 : Fin 2) = _ from congrFun i1 (0 : Fin 2)]; change k.val * 1408 + (J 1).val = (k.val * 22 + h.val * 11 + t.val) * 64 + (y 1).val; omega
  · rw [show ((cfgM m hO).win 1).index t (1 : Fin 2) = _ from congrFun i1 (1 : Fin 2)]; change (J 2).val = (0) * 2048 + (y 2).val; omega
  · rw [show ((cfgM m hO).win 2).index t (0 : Fin 3) = _ from congrFun i2 (0 : Fin 3)]; change (k + 1).val = (k + 1).val * 1 + (y 0).val; omega
  · rw [show ((cfgM m hO).win 2).index t (1 : Fin 3) = _ from congrFun i2 (1 : Fin 3)]; exact hr
  · rw [show ((cfgM m hO).win 2).index t (2 : Fin 3) = _ from congrFun i2 (2 : Fin 3)]; change (J 2).val = 0 * 2048 + (y 2).val; omega
  · rw [show ((cfgM m hO).win 3).index t (0 : Fin 3) = _ from congrFun i3 (0 : Fin 3)]; change (k + 2).val = (k + 2).val * 1 + (y 0).val; omega
  · rw [show ((cfgM m hO).win 3).index t (1 : Fin 3) = _ from congrFun i3 (1 : Fin 3)]; exact hr
  · rw [show ((cfgM m hO).win 3).index t (2 : Fin 3) = _ from congrFun i3 (2 : Fin 3)]; change (J 2).val = 0 * 2048 + (y 2).val; omega
  · rw [show ((cfgM m hO).win 4).index t (0 : Fin 3) = _ from congrFun i4 (0 : Fin 3)]; change (k + 3).val = (k + 3).val * 1 + (y 0).val; omega
  · rw [show ((cfgM m hO).win 4).index t (1 : Fin 3) = _ from congrFun i4 (1 : Fin 3)]; exact hr
  · rw [show ((cfgM m hO).win 4).index t (2 : Fin 3) = _ from congrFun i4 (2 : Fin 3)]; change (J 2).val = 0 * 2048 + (y 2).val; omega

/-- The array the call leaves. -/
theorem final (e : tbl m = place h k) (c : Dev nD) : (dats m hO 0 c).arrAt 5 (cfgM m hO).N
    = put h k (m (c.tc.loc main_arg1)) (m (c.tc.loc main_arg2)) (m (c.tc.loc main_arg3)) (m (c.tc.loc main_arg4)) := by
  refine (dats m hO 0 c).arrAt_eq_of_coversWhere_of_agree 5 _ _ (covers m hO e) (fun t hf y => ?_) (fun j hj => ?_)
  · obtain ⟨-, -, -, -, -, i5⟩ := idx m hO e t
    obtain ⟨e0, e1, e2⟩ := emb_out m hO t y
    rw [show ((cfgM m hO).win 5).index t (0 : Fin 3) = _ from congrFun i5 (0 : Fin 3)] at e0
    rw [show ((cfgM m hO).win 5).index t (1 : Fin 3) = _ from congrFun i5 (1 : Fin 3)] at e1
    rw [show ((cfgM m hO).win 5).index t (2 : Fin 3) = _ from congrFun i5 (2 : Fin 3)] at e2
    have hy0 : (y (0 : Fin 3)).val < 1 := (y (0 : Fin 3)).isLt
    refine Eq.trans ?_ (point m hO e c t y _ (e0.trans ?_) (e1.trans ?_) (e2.trans ?_) _ _ _ _ _ rfl rfl rfl rfl rfl)
    · blk_simp
      rw [after0_5]
      unfold outsAt0
      refine (congrFun (out_eq c _ _ _ _ _ _ _ _ _ _ _ _ _ (iblk m hO c 0 t) (iblk m hO c 1 t) (iblk m hO c 2 t) (iblk m hO c 3 t) (iblk m hO c 4 t) _) y).trans ?_
      unfold k0_pay1
      pointwise
    · change 0 * 1 + 1 * (y (0 : Fin 3)).val = 0; omega
    · change (h.val * 11 + t.val) * 64 + 1 * (y (1 : Fin 3)).val = _; omega
    · change 0 * 2048 + 1 * (y (2 : Fin 3)).val = _; omega
  · change ¬((j (0 : Fin 3)).val / 1 = 0 ∧ (j (1 : Fin 3)).val / 64 / 11 = h.val) at hj
    rw [A_eq]
    change V m c main_v0 j = put h k _ _ _ _ j
    rw [V_prev]
    refine (if_neg ?_).symm
    rintro ⟨h0, h1⟩
    exact hj ⟨by rw [Nat.div_one]; exact h0, by rw [Nat.div_div_eq_div_mul]; exact h1⟩

theorem own_eq (i : S2x1408x2048.Idx) (q : Fin 4) (z : S5632x2048.Idx) (h0 : (z 0).val = q.val * 1408 + (i 1).val) (h1 : (z 1).val = (i 2).val) : z = own q i := by
  funext a; apply Fin.ext; fin_cases a
  · exact h0
  · exact h1

theorem shared_eq (i : S2x1408x2048.Idx) (q : Fin 4) (z : S4x704x2048.Idx) (h0 : (z 0).val = q.val) (h1 : (z 1).val = (i 1).val % 704) (h2 : (z 2).val = (i 2).val) : z = shared q i := by
  funext a; apply Fin.ext; fin_cases a
  · exact h0
  · exact h1
  · exact h2

theorem prev_eq (i : S2x1408x2048.Idx) (a : Fin 2) (b : Fin 1408) (d : Fin 2048) (h0 : a.val = (i 0).val) (h1 : b.val = (i 1).val) (h2 : d.val = (i 2).val) :
    (ix3 a b d : S2x1408x2048.Idx) = i := by
  funext x; apply Fin.ext; fin_cases x
  · exact h0
  · exact h1
  · exact h2

/-- The reference's result. -/
theorem ref_final (m : (ℓ : Loc Cert.RedDownRefIdeal.nD Cert.RedDownRefIdeal.τ Cert.RedDownRefIdeal.sig) → Buf (Elt Ideal) ℓ) (c : Dev Cert.RedDownRefIdeal.nD) (h : Fin 2) (k : Fin 4)
    (e : m (c.tc.loc Cert.RedDownRefIdeal.main_arg0) = words h k) : Cert.RedDownRefIdeal.Value.res_out0 m c
      = put h k (m (c.tc.loc Cert.RedDownRefIdeal.main_arg1)) (m (c.tc.loc Cert.RedDownRefIdeal.main_arg2)) (m (c.tc.loc Cert.RedDownRefIdeal.main_arg3)) (m (c.tc.loc Cert.RedDownRefIdeal.main_arg4)) := by
  unfold Cert.RedDownRefIdeal.Value.res_out0 Cert.RedDownRefIdeal.Value.res_main_v74
  rw [e]
  funext i
  pointwise []
  simp only [sel_half0, sel_half1, sel_chip0, sel_chip1, sel_chip2, sel_chip3]
  change _ = if (i 0).val = 0 ∧ (i 1).val / 704 = h.val then total k _ _ _ i else _
  have b0 : (i 0).val < 2 := (i 0).isLt
  have b1 : (i 1).val < 1408 := (i 1).isLt
  have b2 : (i 2).val < 2048 := (i 2).isLt
  by_cases c0 : (i 0).val < 1
  · simp only [dif_pos c0]
    by_cases c1 : (i 1).val < 704
    · simp only [dif_pos c1]
      by_cases hh : h.val = 0
      · simp only [if_pos hh]
        refine Eq.trans ?_ (if_pos ⟨by omega, by omega⟩).symm
        refine Eq.trans ?_ (pick k (fun q => (@HAdd.hAdd EReal EReal EReal _ (m (c.tc.loc Cert.RedDownRefIdeal.main_arg1) (own q i)) (m (c.tc.loc Cert.RedDownRefIdeal.main_arg2) (own q i)))) (fun q => m (c.tc.loc Cert.RedDownRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = 0 * 1408 + _; omega)) (by first | rfl | (rfl)))) (congrArg _ (own_eq i 0 _ (by first | rfl | (dsimp only [ix2, Matrix.cons_val_zero]; show _ = 0 * 1408 + _; omega)) (by first | rfl | (rfl))))) (fun _ => congrArg _ (shared_eq i 0 _ rfl (by first | exact (Nat.mod_eq_of_lt c1).symm | (show (i 1).val - 704 = _; omega)) rfl)))
          (ite_congr rfl (fun _ => congrArg₂ _ (congrArg _ (own_eq i 1 _ (by first | rfl | (dsimp only [ix2, Matrix.cons_val_zero]; show _ = 1 * 1408 + _; omega)) (by first | rfl | (rfl)))) (congrArg _ (own_eq i 1 _ (by first | rfl | (dsimp only [ix2, Matrix.cons_val_zero]; show _ = 1 * 1408 + _; omega)) (by first | rfl | (rfl))))) (fun _ => congrArg _ (shared_eq i 1 _ rfl (by first | exact (Nat.mod_eq_of_lt c1).symm | (show (i 1).val - 704 = _; omega)) rfl))))
          (ite_congr rfl (fun _ => congrArg₂ _ (congrArg _ (own_eq i 2 _ (by first | rfl | (dsimp only [ix2, Matrix.cons_val_zero]; show _ = 2 * 1408 + _; omega)) (by first | rfl | (rfl)))) (congrArg _ (own_eq i 2 _ (by first | rfl | (dsimp only [ix2, Matrix.cons_val_zero]; show _ = 2 * 1408 + _; omega)) (by first | rfl | (rfl))))) (fun _ => congrArg _ (shared_eq i 2 _ rfl (by first | exact (Nat.mod_eq_of_lt c1).symm | (show (i 1).val - 704 = _; omega)) rfl))))
          (ite_congr rfl (fun _ => congrArg₂ _ (congrArg _ (own_eq i 3 _ (by first | rfl | (dsimp only [ix2, Matrix.cons_val_zero]; show _ = 3 * 1408 + _; omega)) (by first | rfl | (rfl)))) (congrArg _ (own_eq i 3 _ (by first | rfl | (dsimp only [ix2, Matrix.cons_val_zero]; show _ = 3 * 1408 + _; omega)) (by first | rfl | (rfl))))) (fun _ => congrArg _ (shared_eq i 3 _ rfl (by first | exact (Nat.mod_eq_of_lt c1).symm | (show (i 1).val - 704 = _; omega)) rfl)))
      · simp only [if_neg hh]
        refine Eq.trans ?_ (if_neg (by omega)).symm
        exact congrArg _ (prev_eq i _ _ _ (by show 0 = _; omega) (by rfl) (by rfl))
    · simp only [dif_neg c1]
      by_cases hh : h.val = 1
      · have hn : ¬h.val = 0 := by omega
        simp only [if_pos hh, if_neg hn]
        refine Eq.trans ?_ (if_pos ⟨by omega, by omega⟩).symm
        refine Eq.trans ?_ (pick k (fun q => (@HAdd.hAdd EReal EReal EReal _ (m (c.tc.loc Cert.RedDownRefIdeal.main_arg1) (own q i)) (m (c.tc.loc Cert.RedDownRefIdeal.main_arg2) (own q i)))) (fun q => m (c.tc.loc Cert.RedDownRefIdeal.main_arg3) (shared q i)))
        exact congrArg₂ _ (congrArg₂ _ (congrArg₂ _ (ite_congr rfl (fun _ => congrArg₂ _ (congrArg _ (own_eq i 0 _ (by first | rfl | (dsimp only [ix2, Matrix.cons_val_zero]; show _ = 0 * 1408 + _; omega)) (by first | rfl | (rfl)))) (congrArg _ (own_eq i 0 _ (by first | rfl | (dsimp only [ix2, Matrix.cons_val_zero]; show _ = 0 * 1408 + _; omega)) (by first | rfl | (rfl))))) (fun _ => congrArg _ (shared_eq i 0 _ rfl (by first | exact (Nat.mod_eq_of_lt c1).symm | (show (i 1).val - 704 = _; omega)) rfl)))
          (ite_congr rfl (fun _ => congrArg₂ _ (congrArg _ (own_eq i 1 _ (by first | rfl | (dsimp only [ix2, Matrix.cons_val_zero]; show _ = 1 * 1408 + _; omega)) (by first | rfl | (rfl)))) (congrArg _ (own_eq i 1 _ (by first | rfl | (dsimp only [ix2, Matrix.cons_val_zero]; show _ = 1 * 1408 + _; omega)) (by first | rfl | (rfl))))) (fun _ => congrArg _ (shared_eq i 1 _ rfl (by first | exact (Nat.mod_eq_of_lt c1).symm | (show (i 1).val - 704 = _; omega)) rfl))))
          (ite_congr rfl (fun _ => congrArg₂ _ (congrArg _ (own_eq i 2 _ (by first | rfl | (dsimp only [ix2, Matrix.cons_val_zero]; show _ = 2 * 1408 + _; omega)) (by first | rfl | (rfl)))) (congrArg _ (own_eq i 2 _ (by first | rfl | (dsimp only [ix2, Matrix.cons_val_zero]; show _ = 2 * 1408 + _; omega)) (by first | rfl | (rfl))))) (fun _ => congrArg _ (shared_eq i 2 _ rfl (by first | exact (Nat.mod_eq_of_lt c1).symm | (show (i 1).val - 704 = _; omega)) rfl))))
          (ite_congr rfl (fun _ => congrArg₂ _ (congrArg _ (own_eq i 3 _ (by first | rfl | (dsimp only [ix2, Matrix.cons_val_zero]; show _ = 3 * 1408 + _; omega)) (by first | rfl | (rfl)))) (congrArg _ (own_eq i 3 _ (by first | rfl | (dsimp only [ix2, Matrix.cons_val_zero]; show _ = 3 * 1408 + _; omega)) (by first | rfl | (rfl))))) (fun _ => congrArg _ (shared_eq i 3 _ rfl (by first | exact (Nat.mod_eq_of_lt c1).symm | (show (i 1).val - 704 = _; omega)) rfl)))
      · simp only [if_neg hh]
        refine Eq.trans ?_ (if_neg (by omega)).symm
        exact congrArg _ (prev_eq i _ _ _ (by show 0 = _; omega) (by show 704 + ((i 1).val - 704) = _; omega) (by rfl))
  · simp only [dif_neg c0]
    refine Eq.trans ?_ (if_neg (by omega)).symm
    exact congrArg _ (prev_eq i _ _ _ (by show 1 = _; omega) (by rfl) (by rfl))

/-- From equal arguments the kernel and the reference end with equal results. -/
theorem algebraic : Cert.algebraic_RedDownIdeal_RedDownRefIdeal := fun m ρ m' ρ' hp hag => by
  obtain ⟨h, k, e, ew⟩ := placed m hp
  refine ⟨fun c => put h k (m (c.tc.loc main_arg1)) (m (c.tc.loc main_arg2)) (m (c.tc.loc main_arg3)) (m (c.tc.loc main_arg4)), ?_, ?_⟩
  · refine (θ_run _ _ _).mono (fun r hr c => ⟨((hr.1 c).1 5).trans (final m (ok m hp) e c), hr.2 c⟩)
      (θ_run_and (run_main m ρ (ok m hp)) (unchanged m ρ (ok m hp)))
  · refine (θ_run _ _ _).mono (fun r hr c => ⟨(hr c).1.trans ((ref_final m' c h k ?_).trans ?_), (hr c).2⟩) (Cert.RedDownRefIdeal.Value.run m' ρ')
    · obtain rfl : c = 0 := Subsingleton.elim _ _
      exact (hag 0).1.trans ew
    · simp only [hag c]

/-- The reference runs, keeps its arguments and leaves every counter at zero. -/
theorem frame_reference : Cert.quiescent_RedDownRefIdeal := fun m ρ _ =>
  (θ_run _ _ _).mono (fun r h => ⟨fun c => (h c).2, Idealize.ShloMosaic.sem_eq_zero_of_no_sems (by decide) r.2⟩)
    (Cert.RedDownRefIdeal.Value.run m ρ)

end Cert.RedDownIdeal.Red

end
-- ==== Proof.lean ====
module

public import proofs.«01_k».proof.Defs
public import proofs.«01_k».proof.Proof.Gen.Kernel.Frame
public import proofs.«01_k».proof.Proof.Gen.KernelIdeal.Frame
public import proofs.«01_k».proof.Proof.Gen.FwdIn.Frame
public import proofs.«01_k».proof.Proof.Gen.FwdInIdeal.Frame
public import proofs.«01_k».proof.Proof.Gen.FwdInIdeal.Value
public import proofs.«01_k».proof.Proof.Gen.FwdInRefIdeal.Run
public import proofs.«01_k».proof.Proof.Gen.FwdGu.Frame
public import proofs.«01_k».proof.Proof.Gen.FwdGuIdeal.Frame
public import proofs.«01_k».proof.Proof.Gen.FwdGuIdeal.Value
public import proofs.«01_k».proof.Proof.Gen.FwdGuRefIdeal.Run
public import proofs.«01_k».proof.Proof.Gen.FwdGlu.Frame
public import proofs.«01_k».proof.Proof.Gen.FwdGluIdeal.Frame
public import proofs.«01_k».proof.Proof.Gen.FwdGluIdeal.Value
public import proofs.«01_k».proof.Proof.Gen.FwdGluRefIdeal.Run
public import proofs.«01_k».proof.Proof.Gen.FwdOut.Frame
public import proofs.«01_k».proof.Proof.Gen.FwdOutIdeal.Frame
public import proofs.«01_k».proof.Proof.Gen.FwdOutIdeal.Value
public import proofs.«01_k».proof.Proof.Gen.FwdOutRefIdeal.Run
public import proofs.«01_k».proof.Proof.Gen.FwdDown.Frame
public import proofs.«01_k».proof.Proof.Gen.FwdDownIdeal.Frame
public import proofs.«01_k».proof.Proof.Gen.FwdDownIdeal.Value
public import proofs.«01_k».proof.Proof.Gen.FwdDownRefIdeal.Run
public import proofs.«01_k».proof.Proof.Gen.BwdInX.Frame
public import proofs.«01_k».proof.Proof.Gen.BwdInXIdeal.Frame
public import proofs.«01_k».proof.Proof.Gen.BwdInXIdeal.Value
public import proofs.«01_k».proof.Proof.Gen.BwdInXRefIdeal.Run
public import proofs.«01_k».proof.Proof.Gen.BwdGuX.Frame
public import proofs.«01_k».proof.Proof.Gen.BwdGuXIdeal.Frame
public import proofs.«01_k».proof.Proof.Gen.BwdGuXIdeal.Value
public import proofs.«01_k».proof.Proof.Gen.BwdGuXRefIdeal.Run
public import proofs.«01_k».proof.Proof.Gen.BwdGluX.Frame
public import proofs.«01_k».proof.Proof.Gen.BwdGluXIdeal.Frame
public import proofs.«01_k».proof.Proof.Gen.BwdGluXIdeal.Value
public import proofs.«01_k».proof.Proof.Gen.BwdGluXRefIdeal.Run
public import proofs.«01_k».proof.Proof.Gen.BwdOutX.Frame
public import proofs.«01_k».proof.Proof.Gen.BwdOutXIdeal.Frame
public import proofs.«01_k».proof.Proof.Gen.BwdOutXIdeal.Value
public import proofs.«01_k».proof.Proof.Gen.BwdOutXRefIdeal.Run
public import proofs.«01_k».proof.Proof.Gen.BwdDownX.Frame
public import proofs.«01_k».proof.Proof.Gen.BwdDownXIdeal.Frame
public import proofs.«01_k».proof.Proof.Gen.BwdDownXIdeal.Value
public import proofs.«01_k».proof.Proof.Gen.BwdDownXRefIdeal.Run
public import proofs.«01_k».proof.Proof.Gen.BwdInW.Frame
public import proofs.«01_k».proof.Proof.Gen.BwdInWIdeal.Frame
public import proofs.«01_k».proof.Proof.Gen.BwdInWIdeal.Value
public import proofs.«01_k».proof.Proof.Gen.BwdInWRefIdeal.Run
public import proofs.«01_k».proof.Proof.Gen.BwdGuW.Frame
public import proofs.«01_k».proof.Proof.Gen.BwdGuWIdeal.Frame
public import proofs.«01_k».proof.Proof.Gen.BwdGuWIdeal.Value
public import proofs.«01_k».proof.Proof.Gen.BwdGuWRefIdeal.Run
public import proofs.«01_k».proof.Proof.Gen.BwdOutW.Frame
public import proofs.«01_k».proof.Proof.Gen.BwdOutWIdeal.Frame
public import proofs.«01_k».proof.Proof.Gen.BwdOutWIdeal.Value
public import proofs.«01_k».proof.Proof.Gen.BwdOutWRefIdeal.Run
public import proofs.«01_k».proof.Proof.Gen.BwdDownW.Frame
public import proofs.«01_k».proof.Proof.Gen.BwdDownWIdeal.Frame
public import proofs.«01_k».proof.Proof.Gen.BwdDownWIdeal.Value
public import proofs.«01_k».proof.Proof.Gen.BwdDownWRefIdeal.Run
public import proofs.«01_k».proof.Proof.Gen.BwdRms.Frame
public import proofs.«01_k».proof.Proof.Gen.BwdRmsIdeal.Frame
public import proofs.«01_k».proof.Proof.Gen.BwdRmsIdeal.Value
public import proofs.«01_k».proof.Proof.Gen.BwdRmsRefIdeal.Run
public import proofs.«01_k».proof.Proof.Gen.BwdGlu.Frame
public import proofs.«01_k».proof.Proof.Gen.BwdGluIdeal.Frame
public import proofs.«01_k».proof.Proof.Gen.BwdGluIdeal.Value
public import proofs.«01_k».proof.Proof.Gen.BwdGluRefIdeal.Run
public import proofs.«01_k».proof.Proof.Gen.BwdMerge.Frame
public import proofs.«01_k».proof.Proof.Gen.BwdMergeIdeal.Frame
public import proofs.«01_k».proof.Proof.Gen.BwdMergeIdeal.Value
public import proofs.«01_k».proof.Proof.Gen.BwdMergeRefIdeal.Run
public import proofs.«01_k».proof.Proof.Gen.BwdPost.Frame
public import proofs.«01_k».proof.Proof.Gen.BwdPostIdeal.Frame
public import proofs.«01_k».proof.Proof.Gen.BwdPostIdeal.Value
public import proofs.«01_k».proof.Proof.Gen.BwdPostRefIdeal.Run
public import proofs.«01_k».proof.Proof.Gen.BwdRot.Frame
public import proofs.«01_k».proof.Proof.Gen.BwdRotIdeal.Frame
public import proofs.«01_k».proof.Proof.Gen.BwdRotIdeal.Value
public import proofs.«01_k».proof.Proof.Gen.BwdRotRefIdeal.Run
public import proofs.«01_k».proof.Proof.Gen.LossStage.Frame
public import proofs.«01_k».proof.Proof.Gen.LossStageIdeal.Frame
public import proofs.«01_k».proof.Proof.Gen.LossStageIdeal.Value
public import proofs.«01_k».proof.Proof.Gen.LossStageRefIdeal.Run
public import proofs.«01_k».proof.Proof.Gen.FwdRms.Frame
public import proofs.«01_k».proof.Proof.Gen.FwdRmsIdeal.Frame
public import proofs.«01_k».proof.Proof.Gen.FwdRmsIdeal.Value
public import proofs.«01_k».proof.Proof.Gen.FwdRmsRefIdeal.Run
public import proofs.«01_k».proof.Proof.Gen.FwdSwish.Frame
public import proofs.«01_k».proof.Proof.Gen.FwdSwishIdeal.Frame
public import proofs.«01_k».proof.Proof.Gen.FwdSwishIdeal.Value
public import proofs.«01_k».proof.Proof.Gen.FwdSwishRefIdeal.Run
public import proofs.«01_k».proof.Proof.Gen.FwdMerge.Frame
public import proofs.«01_k».proof.Proof.Gen.FwdMergeIdeal.Frame
public import proofs.«01_k».proof.Proof.Gen.FwdMergeIdeal.Value
public import proofs.«01_k».proof.Proof.Gen.FwdMergeRefIdeal.Run
public import proofs.«01_k».proof.Proof.Gen.FwdPost.Frame
public import proofs.«01_k».proof.Proof.Gen.FwdPostIdeal.Frame
public import proofs.«01_k».proof.Proof.Gen.FwdPostIdeal.Value
public import proofs.«01_k».proof.Proof.Gen.FwdPostRefIdeal.Run
public import proofs.«01_k».proof.Proof.Gen.FwdRot.Frame
public import proofs.«01_k».proof.Proof.Gen.FwdRotIdeal.Frame
public import proofs.«01_k».proof.Proof.Gen.FwdRotIdeal.Value
public import proofs.«01_k».proof.Proof.Gen.FwdRotRefIdeal.Run
public import proofs.«01_k».proof.Proof.Gen.FwdRet.Frame
public import proofs.«01_k».proof.Proof.Gen.FwdRetIdeal.Frame
public import proofs.«01_k».proof.Proof.Gen.FwdRetIdeal.Value
public import proofs.«01_k».proof.Proof.Gen.FwdRetRefIdeal.Run
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamGu.Frame
public import proofs.«01_k».proof.Proof.Gen.AdamGuIdeal.Frame
public import proofs.«01_k».proof.Proof.Gen.AdamGuIdeal.Value
public import proofs.«01_k».proof.Proof.Gen.AdamGuRefIdeal.Run
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamTiny.Frame
public import proofs.«01_k».proof.Proof.Gen.AdamTinyIdeal.Frame
public import proofs.«01_k».proof.Proof.Gen.AdamTinyIdeal.Run
public import proofs.«01_k».proof.Proof.Gen.AdamTinyRefIdeal.Run
public import proofs.«01_k».proof.Proof.Gen.AdamB.Frame
public import proofs.«01_k».proof.Proof.Gen.AdamBIdeal.Frame
public import proofs.«01_k».proof.Proof.Gen.AdamBIdeal.Value
public import proofs.«01_k».proof.Proof.Gen.AdamBRefIdeal.Run
public import proofs.«01_k».proof.Proof.Gen.AdamC.Frame
public import proofs.«01_k».proof.Proof.Gen.AdamCIdeal.Frame
public import proofs.«01_k».proof.Proof.Gen.AdamCIdeal.Value
public import proofs.«01_k».proof.Proof.Gen.AdamCRefIdeal.Run
public import proofs.«01_k».proof.Proof.Gen.SumSlots.Frame
public import proofs.«01_k».proof.Proof.Gen.SumSlotsIdeal.Frame
public import proofs.«01_k».proof.Proof.Gen.SumSlotsIdeal.Value
public import proofs.«01_k».proof.Proof.Gen.SumSlotsRefIdeal.Run
public import proofs.«01_k».proof.Proof.RetClaim
public import proofs.«01_k».proof.Proof.ProdFwd
public import proofs.«01_k».proof.Proof.ProdBwdX
public import proofs.«01_k».proof.Proof.ProdBwdW
public import proofs.«01_k».proof.Proof.RowsBwd
public import proofs.«01_k».proof.Proof.MergeBwd
public import proofs.«01_k».proof.Proof.PostBwd
public import proofs.«01_k».proof.Proof.Rot
public import proofs.«01_k».proof.Proof.Loss
public import proofs.«01_k».proof.Proof.RowsFwd
public import proofs.«01_k».proof.Proof.PostFwd
public import proofs.«01_k».proof.Proof.RetFwd
public import proofs.«01_k».proof.Proof.Opt
public import proofs.«01_k».proof.Proof.Tiny
public import proofs.«01_k».proof.Proof.LossTotal
public import proofs.«01_k».proof.Proof.Gen.FwdScan.Frame
public import proofs.«01_k».proof.Proof.Gen.FwdScanIdeal.Frame
public import proofs.«01_k».proof.Proof.Gen.BwdScan.Frame
public import proofs.«01_k».proof.Proof.Gen.BwdScanIdeal.Frame
public import proofs.«01_k».proof.Proof.Gen.RedIn.Frame
public import proofs.«01_k».proof.Proof.Gen.RedInIdeal.Frame
public import proofs.«01_k».proof.Proof.Gen.RedGlu.Frame
public import proofs.«01_k».proof.Proof.Gen.RedGluIdeal.Frame
public import proofs.«01_k».proof.Proof.Gen.RedOut.Frame
public import proofs.«01_k».proof.Proof.Gen.RedOutIdeal.Frame
public import proofs.«01_k».proof.Proof.Gen.RedGate.Frame
public import proofs.«01_k».proof.Proof.Gen.RedGateIdeal.Frame
public import proofs.«01_k».proof.Proof.Gen.RedUp.Frame
public import proofs.«01_k».proof.Proof.Gen.RedUpIdeal.Frame
public import proofs.«01_k».proof.Proof.Gen.RedDown.Frame
public import proofs.«01_k».proof.Proof.Gen.RedDownIdeal.Frame
public import proofs.«01_k».proof.Proof.RedIn
public import proofs.«01_k».proof.Proof.RedGlu
public import proofs.«01_k».proof.Proof.RedOut
public import proofs.«01_k».proof.Proof.RedGate
public import proofs.«01_k».proof.Proof.RedUp
public import proofs.«01_k».proof.Proof.RedDown

@[expose] public section

theorem Cert.Proof.claim : Cert.Claim :=
  ⟨Cert.Kernel.Gen.facts, Cert.KernelIdeal.Gen.facts, Cert.ReferenceIdeal.Gen.facts,
    Cert.FwdIn.Gen.facts, Cert.FwdInIdeal.Gen.facts, Cert.FwdInRefIdeal.Gen.facts,
    Cert.FwdGu.Gen.facts, Cert.FwdGuIdeal.Gen.facts, Cert.FwdGuRefIdeal.Gen.facts,
    Cert.FwdGlu.Gen.facts, Cert.FwdGluIdeal.Gen.facts, Cert.FwdGluRefIdeal.Gen.facts,
    Cert.FwdOut.Gen.facts, Cert.FwdOutIdeal.Gen.facts, Cert.FwdOutRefIdeal.Gen.facts,
    Cert.FwdDown.Gen.facts, Cert.FwdDownIdeal.Gen.facts, Cert.FwdDownRefIdeal.Gen.facts,
    Cert.BwdInX.Gen.facts, Cert.BwdInXIdeal.Gen.facts, Cert.BwdInXRefIdeal.Gen.facts,
    Cert.BwdGuX.Gen.facts, Cert.BwdGuXIdeal.Gen.facts, Cert.BwdGuXRefIdeal.Gen.facts,
    Cert.BwdGluX.Gen.facts, Cert.BwdGluXIdeal.Gen.facts, Cert.BwdGluXRefIdeal.Gen.facts,
    Cert.BwdOutX.Gen.facts, Cert.BwdOutXIdeal.Gen.facts, Cert.BwdOutXRefIdeal.Gen.facts,
    Cert.BwdDownX.Gen.facts, Cert.BwdDownXIdeal.Gen.facts, Cert.BwdDownXRefIdeal.Gen.facts,
    Cert.BwdInW.Gen.facts, Cert.BwdInWIdeal.Gen.facts, Cert.BwdInWRefIdeal.Gen.facts,
    Cert.BwdGuW.Gen.facts, Cert.BwdGuWIdeal.Gen.facts, Cert.BwdGuWRefIdeal.Gen.facts,
    Cert.BwdOutW.Gen.facts, Cert.BwdOutWIdeal.Gen.facts, Cert.BwdOutWRefIdeal.Gen.facts,
    Cert.BwdDownW.Gen.facts, Cert.BwdDownWIdeal.Gen.facts, Cert.BwdDownWRefIdeal.Gen.facts,
    Cert.BwdRms.Gen.facts, Cert.BwdRmsIdeal.Gen.facts, Cert.BwdRmsRefIdeal.Gen.facts,
    Cert.BwdGlu.Gen.facts, Cert.BwdGluIdeal.Gen.facts, Cert.BwdGluRefIdeal.Gen.facts,
    Cert.BwdMerge.Gen.facts, Cert.BwdMergeIdeal.Gen.facts, Cert.BwdMergeRefIdeal.Gen.facts,
    Cert.BwdPost.Gen.facts, Cert.BwdPostIdeal.Gen.facts, Cert.BwdPostRefIdeal.Gen.facts,
    Cert.BwdRot.Gen.facts, Cert.BwdRotIdeal.Gen.facts, Cert.BwdRotRefIdeal.Gen.facts,
    Cert.LossStage.Gen.facts, Cert.LossStageIdeal.Gen.facts, Cert.LossStageRefIdeal.Gen.facts,
    Cert.FwdRms.Gen.facts, Cert.FwdRmsIdeal.Gen.facts, Cert.FwdRmsRefIdeal.Gen.facts,
    Cert.FwdSwish.Gen.facts, Cert.FwdSwishIdeal.Gen.facts, Cert.FwdSwishRefIdeal.Gen.facts,
    Cert.FwdMerge.Gen.facts, Cert.FwdMergeIdeal.Gen.facts, Cert.FwdMergeRefIdeal.Gen.facts,
    Cert.FwdPost.Gen.facts, Cert.FwdPostIdeal.Gen.facts, Cert.FwdPostRefIdeal.Gen.facts,
    Cert.FwdRot.Gen.facts, Cert.FwdRotIdeal.Gen.facts, Cert.FwdRotRefIdeal.Gen.facts,
    Cert.FwdRet.Gen.facts, Cert.FwdRetIdeal.Gen.facts, Cert.FwdRetRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamGu.Gen.facts, Cert.AdamGuIdeal.Gen.facts, Cert.AdamGuRefIdeal.Gen.facts,
    Cert.AdamDown.Gen.facts, Cert.AdamDownIdeal.Gen.facts, Cert.AdamDownRefIdeal.Gen.facts,
    Cert.AdamTiny.Gen.facts, Cert.AdamTinyIdeal.Gen.facts, Cert.AdamTinyRefIdeal.Gen.facts,
    Cert.AdamB.Gen.facts, Cert.AdamBIdeal.Gen.facts, Cert.AdamBRefIdeal.Gen.facts,
    Cert.AdamC.Gen.facts, Cert.AdamCIdeal.Gen.facts, Cert.AdamCRefIdeal.Gen.facts,
    Cert.SumSlots.Gen.facts, Cert.SumSlotsIdeal.Gen.facts, Cert.SumSlotsRefIdeal.Gen.facts,
    Cert.LossTotal.Gen.facts, Cert.LossTotalIdeal.Gen.facts, Cert.LossTotalRefIdeal.Gen.facts,
    Cert.FwdScan.Gen.facts, Cert.FwdScanIdeal.Gen.facts, Cert.BwdScan.Gen.facts, Cert.BwdScanIdeal.Gen.facts,
    Cert.RedIn.Gen.facts, Cert.RedInIdeal.Gen.facts, Cert.RedInRefIdeal.Gen.facts,
    Cert.RedGlu.Gen.facts, Cert.RedGluIdeal.Gen.facts, Cert.RedGluRefIdeal.Gen.facts,
    Cert.RedOut.Gen.facts, Cert.RedOutIdeal.Gen.facts, Cert.RedOutRefIdeal.Gen.facts,
    Cert.RedGate.Gen.facts, Cert.RedGateIdeal.Gen.facts, Cert.RedGateRefIdeal.Gen.facts,
    Cert.RedUp.Gen.facts, Cert.RedUpIdeal.Gen.facts, Cert.RedUpRefIdeal.Gen.facts,
    Cert.RedDown.Gen.facts, Cert.RedDownIdeal.Gen.facts, Cert.RedDownRefIdeal.Gen.facts,
    Cert.Pre_device_in.Gen.facts, Cert.Pre_device_glu.Gen.facts, Cert.Pre_device_ffn.Gen.facts, Cert.Pre_device_down.Gen.facts,
    fun m ρ _ => Cert.Kernel.Gen.frame m ρ, fun m ρ _ => Cert.KernelIdeal.Gen.frame m ρ, Cert.Proof.Ret.frame_reference,
    fun m ρ _ => Cert.FwdIn.Gen.frame m ρ, fun m ρ _ => Cert.FwdInIdeal.Gen.frame m ρ, Cert.FwdInIdeal.Prod.frame_reference,
    fun m ρ _ => Cert.FwdGu.Gen.frame m ρ, fun m ρ _ => Cert.FwdGuIdeal.Gen.frame m ρ, Cert.FwdGuIdeal.Prod.frame_reference,
    fun m ρ _ => Cert.FwdGlu.Gen.frame m ρ, fun m ρ _ => Cert.FwdGluIdeal.Gen.frame m ρ, Cert.FwdGluIdeal.Prod.frame_reference,
    fun m ρ _ => Cert.FwdOut.Gen.frame m ρ, fun m ρ _ => Cert.FwdOutIdeal.Gen.frame m ρ, Cert.FwdOutIdeal.Prod.frame_reference,
    fun m ρ _ => Cert.FwdDown.Gen.frame m ρ, fun m ρ _ => Cert.FwdDownIdeal.Gen.frame m ρ, Cert.FwdDownIdeal.Prod.frame_reference,
    fun m ρ _ => Cert.BwdInX.Gen.frame m ρ, fun m ρ _ => Cert.BwdInXIdeal.Gen.frame m ρ, Cert.BwdInXIdeal.Prod.frame_reference,
    fun m ρ _ => Cert.BwdGuX.Gen.frame m ρ, fun m ρ _ => Cert.BwdGuXIdeal.Gen.frame m ρ, Cert.BwdGuXIdeal.Prod.frame_reference,
    fun m ρ _ => Cert.BwdGluX.Gen.frame m ρ, fun m ρ _ => Cert.BwdGluXIdeal.Gen.frame m ρ, Cert.BwdGluXIdeal.Prod.frame_reference,
    fun m ρ _ => Cert.BwdOutX.Gen.frame m ρ, fun m ρ _ => Cert.BwdOutXIdeal.Gen.frame m ρ, Cert.BwdOutXIdeal.Prod.frame_reference,
    fun m ρ _ => Cert.BwdDownX.Gen.frame m ρ, fun m ρ _ => Cert.BwdDownXIdeal.Gen.frame m ρ, Cert.BwdDownXIdeal.Prod.frame_reference,
    fun m ρ _ => Cert.BwdInW.Gen.frame m ρ, fun m ρ _ => Cert.BwdInWIdeal.Gen.frame m ρ, Cert.BwdInWIdeal.Prod.frame_reference,
    fun m ρ _ => Cert.BwdGuW.Gen.frame m ρ, fun m ρ _ => Cert.BwdGuWIdeal.Gen.frame m ρ, Cert.BwdGuWIdeal.Prod.frame_reference,
    fun m ρ _ => Cert.BwdOutW.Gen.frame m ρ, fun m ρ _ => Cert.BwdOutWIdeal.Gen.frame m ρ, Cert.BwdOutWIdeal.Prod.frame_reference,
    fun m ρ _ => Cert.BwdDownW.Gen.frame m ρ, fun m ρ _ => Cert.BwdDownWIdeal.Gen.frame m ρ, Cert.BwdDownWIdeal.Prod.frame_reference,
    fun m ρ _ => Cert.BwdRms.Gen.frame m ρ, fun m ρ _ => Cert.BwdRmsIdeal.Gen.frame m ρ, Cert.BwdRmsIdeal.Rows.frame_reference,
    fun m ρ _ => Cert.BwdGlu.Gen.frame m ρ, fun m ρ _ => Cert.BwdGluIdeal.Gen.frame m ρ, Cert.BwdGluIdeal.Rows.frame_reference,
    fun m ρ _ => Cert.BwdMerge.Gen.frame m ρ, fun m ρ _ => Cert.BwdMergeIdeal.Gen.frame m ρ, Cert.BwdMergeIdeal.Rows.frame_reference,
    fun m ρ _ => Cert.BwdPost.Gen.frame m ρ, fun m ρ _ => Cert.BwdPostIdeal.Gen.frame m ρ, Cert.BwdPostIdeal.Rows.frame_reference,
    fun m ρ _ => Cert.BwdRot.Gen.frame m ρ, fun m ρ _ => Cert.BwdRotIdeal.Gen.frame m ρ, Cert.BwdRotIdeal.Rows.frame_reference,
    fun m ρ _ => Cert.LossStage.Gen.frame m ρ, fun m ρ _ => Cert.LossStageIdeal.Gen.frame m ρ, Cert.LossStageIdeal.Rows.frame_reference,
    fun m ρ _ => Cert.FwdRms.Gen.frame m ρ, fun m ρ _ => Cert.FwdRmsIdeal.Gen.frame m ρ, Cert.FwdRmsIdeal.Rows.frame_reference,
    fun m ρ _ => Cert.FwdSwish.Gen.frame m ρ, fun m ρ _ => Cert.FwdSwishIdeal.Gen.frame m ρ, Cert.FwdSwishIdeal.Rows.frame_reference,
    fun m ρ _ => Cert.FwdMerge.Gen.frame m ρ, fun m ρ _ => Cert.FwdMergeIdeal.Gen.frame m ρ, Cert.FwdMergeIdeal.Rows.frame_reference,
    fun m ρ _ => Cert.FwdPost.Gen.frame m ρ, fun m ρ _ => Cert.FwdPostIdeal.Gen.frame m ρ, Cert.FwdPostIdeal.Rows.frame_reference,
    fun m ρ _ => Cert.FwdRot.Gen.frame m ρ, fun m ρ _ => Cert.FwdRotIdeal.Gen.frame m ρ, Cert.FwdRotIdeal.Rows.frame_reference,
    fun m ρ _ => Cert.FwdRet.Gen.frame m ρ, fun m ρ _ => Cert.FwdRetIdeal.Gen.frame m ρ, Cert.FwdRetIdeal.Rows.frame_reference,
    fun m ρ _ => Cert.AdamIn.Gen.frame m ρ, fun m ρ _ => Cert.AdamInIdeal.Gen.frame m ρ, Cert.AdamInIdeal.Rows.frame_reference,
    fun m ρ _ => Cert.AdamOut.Gen.frame m ρ, fun m ρ _ => Cert.AdamOutIdeal.Gen.frame m ρ, Cert.AdamOutIdeal.Rows.frame_reference,
    fun m ρ _ => Cert.AdamGu.Gen.frame m ρ, fun m ρ _ => Cert.AdamGuIdeal.Gen.frame m ρ, Cert.AdamGuIdeal.Rows.frame_reference,
    fun m ρ _ => Cert.AdamDown.Gen.frame m ρ, fun m ρ _ => Cert.AdamDownIdeal.Gen.frame m ρ, Cert.AdamDownIdeal.Rows.frame_reference,
    fun m ρ _ => Cert.AdamTiny.Gen.frame m ρ, fun m ρ _ => Cert.AdamTinyIdeal.Gen.frame m ρ, Cert.AdamTinyIdeal.Rows.frame_reference,
    fun m ρ _ => Cert.AdamB.Gen.frame m ρ, fun m ρ _ => Cert.AdamBIdeal.Gen.frame m ρ, Cert.AdamBIdeal.Rows.frame_reference,
    fun m ρ _ => Cert.AdamC.Gen.frame m ρ, fun m ρ _ => Cert.AdamCIdeal.Gen.frame m ρ, Cert.AdamCIdeal.Rows.frame_reference,
    fun m ρ _ => Cert.SumSlots.Gen.frame m ρ, fun m ρ _ => Cert.SumSlotsIdeal.Gen.frame m ρ, Cert.SumSlotsIdeal.Rows.frame_reference,
    Cert.LossTotalProof.quiescent_bits, Cert.LossTotalProof.quiescent_ideal, Cert.LossTotalProof.quiescent_reference,
    fun m ρ _ => Cert.FwdScan.Gen.frame m ρ, fun m ρ _ => Cert.FwdScanIdeal.Gen.frame m ρ,
    fun m ρ _ => Cert.BwdScan.Gen.frame m ρ, fun m ρ _ => Cert.BwdScanIdeal.Gen.frame m ρ,
    fun m ρ h => Cert.RedIn.Gen.frame m ρ (Cert.RedIn.Red.ok m h), fun m ρ h => Cert.RedInIdeal.Gen.frame m ρ (Cert.RedInIdeal.Red.ok m h),
    Cert.RedInIdeal.Red.frame_reference, fun m ρ _ => Cert.RedInIdeal.Red.frame_reference m ρ trivial,
    fun m ρ h => Cert.RedGlu.Gen.frame m ρ (Cert.RedGlu.Red.ok m h), fun m ρ h => Cert.RedGluIdeal.Gen.frame m ρ (Cert.RedGluIdeal.Red.ok m h),
    Cert.RedGluIdeal.Red.frame_reference, fun m ρ _ => Cert.RedGluIdeal.Red.frame_reference m ρ trivial,
    fun m ρ h => Cert.RedOut.Gen.frame m ρ (Cert.RedOut.Red.ok m h), fun m ρ h => Cert.RedOutIdeal.Gen.frame m ρ (Cert.RedOutIdeal.Red.ok m h),
    Cert.RedOutIdeal.Red.frame_reference, fun m ρ _ => Cert.RedOutIdeal.Red.frame_reference m ρ trivial,
    fun m ρ h => Cert.RedGate.Gen.frame m ρ (Cert.RedGate.Red.ok m h), fun m ρ h => Cert.RedGateIdeal.Gen.frame m ρ (Cert.RedGateIdeal.Red.ok m h),
    Cert.RedGateIdeal.Red.frame_reference, fun m ρ _ => Cert.RedGateIdeal.Red.frame_reference m ρ trivial,
    fun m ρ h => Cert.RedUp.Gen.frame m ρ (Cert.RedUp.Red.ok m h), fun m ρ h => Cert.RedUpIdeal.Gen.frame m ρ (Cert.RedUpIdeal.Red.ok m h),
    Cert.RedUpIdeal.Red.frame_reference, fun m ρ _ => Cert.RedUpIdeal.Red.frame_reference m ρ trivial,
    fun m ρ h => Cert.RedDown.Gen.frame m ρ (Cert.RedDown.Red.ok m h), fun m ρ h => Cert.RedDownIdeal.Gen.frame m ρ (Cert.RedDownIdeal.Red.ok m h),
    Cert.RedDownIdeal.Red.frame_reference, fun m ρ _ => Cert.RedDownIdeal.Red.frame_reference m ρ trivial,
    trivial, Cert.Proof.Ret.algebraic,
    trivial, Cert.FwdInIdeal.Prod.algebraic,
    trivial, Cert.FwdGuIdeal.Prod.algebraic,
    trivial, Cert.FwdGluIdeal.Prod.algebraic,
    trivial, Cert.FwdOutIdeal.Prod.algebraic,
    trivial, Cert.FwdDownIdeal.Prod.algebraic,
    trivial, Cert.BwdInXIdeal.Prod.algebraic,
    trivial, Cert.BwdGuXIdeal.Prod.algebraic,
    trivial, Cert.BwdGluXIdeal.Prod.algebraic,
    trivial, Cert.BwdOutXIdeal.Prod.algebraic,
    trivial, Cert.BwdDownXIdeal.Prod.algebraic,
    trivial, Cert.BwdInWIdeal.Prod.algebraic,
    trivial, Cert.BwdGuWIdeal.Prod.algebraic,
    trivial, Cert.BwdOutWIdeal.Prod.algebraic,
    trivial, Cert.BwdDownWIdeal.Prod.algebraic,
    trivial, Cert.BwdRmsIdeal.Rows.algebraic,
    trivial, Cert.BwdGluIdeal.Rows.algebraic,
    trivial, Cert.BwdMergeIdeal.Rows.algebraic,
    trivial, Cert.BwdPostIdeal.Rows.algebraic,
    trivial, Cert.BwdRotIdeal.Rows.algebraic,
    trivial, Cert.LossStageIdeal.Rows.algebraic,
    trivial, Cert.FwdRmsIdeal.Rows.algebraic,
    trivial, Cert.FwdSwishIdeal.Rows.algebraic,
    trivial, Cert.FwdMergeIdeal.Rows.algebraic,
    trivial, Cert.FwdPostIdeal.Rows.algebraic,
    trivial, Cert.FwdRotIdeal.Rows.algebraic,
    trivial, Cert.FwdRetIdeal.Rows.algebraic,
    trivial, Cert.AdamInIdeal.Rows.algebraic,
    trivial, Cert.AdamOutIdeal.Rows.algebraic,
    trivial, Cert.AdamGuIdeal.Rows.algebraic,
    trivial, Cert.AdamDownIdeal.Rows.algebraic,
    trivial, Cert.AdamTinyIdeal.Rows.algebraic,
    trivial, Cert.AdamBIdeal.Rows.algebraic,
    trivial, Cert.AdamCIdeal.Rows.algebraic,
    trivial, Cert.SumSlotsIdeal.Rows.algebraic,
    trivial, Cert.LossTotalProof.algebraic,
    trivial, trivial,
    trivial, Cert.RedInIdeal.Red.algebraic,
    trivial, Cert.RedGluIdeal.Red.algebraic,
    trivial, Cert.RedOutIdeal.Red.algebraic,
    trivial, Cert.RedGateIdeal.Red.algebraic,
    trivial, Cert.RedUpIdeal.Red.algebraic,
    trivial, Cert.RedDownIdeal.Red.algebraic⟩
